-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.2.2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.2.2.2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11))).2.2.2.2.2.2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.2.2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.2.2.2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11))).2.2.2.2.2.2.2.2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite2 [hPre_finite2 : Cert.Pre_finite2.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite2.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite2.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite2.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite2 [hPre_finite2 : Cert.Pre_finite2.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite2.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite2.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite2.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite2 [hKernel15Ideal : Cert.Kernel15Ideal.Facts] [hPre_finite2 : Cert.Pre_finite2.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite2 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite2 [hReference15Ideal : Cert.Reference15Ideal.Facts] [hPre_finite2 : Cert.Pre_finite2.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite2 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v35) = v2 c
          ∧ r.2.mem ((c.tc : Thread Cert.Reference8Ideal.nD Cert.Reference8Ideal.τ).loc Cert.Reference8Ideal.main_v44) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)) (v3 : (c : Dev Cert.Kernel9Ideal.nD) → Buf (Elt Ideal) ((c.tc : Thread Cert.Kernel9Ideal.nD Cert.Kernel9Ideal.τ).loc Cert.Kernel9Ideal.main_v7_3)) (v4 : (c : Dev Cert.Kernel9Ideal.nD) → Buf (Elt Ideal) ((c.tc : Thread Cert.Kernel9Ideal.nD Cert.Kernel9Ideal.τ).loc Cert.Kernel9Ideal.main_v7_4)) (v5 : (c : Dev Cert.Kernel9Ideal.nD) → Buf (Elt Ideal) ((c.tc : Thread Cert.Kernel9Ideal.nD Cert.Kernel9Ideal.τ).loc Cert.Kernel9Ideal.main_v7_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_v7_3) = v3 c
          ∧ r.2.mem ((c.tc : Thread Cert.Kernel9Ideal.nD Cert.Kernel9Ideal.τ).loc Cert.Kernel9Ideal.main_v7_4) = v4 c
          ∧ r.2.mem ((c.tc : Thread Cert.Kernel9Ideal.nD Cert.Kernel9Ideal.τ).loc Cert.Kernel9Ideal.main_v7_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v75) = v0 c
          ∧ r.2.mem ((c.tc : Thread Cert.Reference9Ideal.nD Cert.Reference9Ideal.τ).loc Cert.Reference9Ideal.main_v76) = v1 c
          ∧ r.2.mem ((c.tc : Thread Cert.Reference9Ideal.nD Cert.Reference9Ideal.τ).loc Cert.Reference9Ideal.main_v39) = v2 c
          ∧ r.2.mem ((c.tc : Thread Cert.Reference9Ideal.nD Cert.Reference9Ideal.τ).loc Cert.Reference9Ideal.main_v42) = v3 c
          ∧ r.2.mem ((c.tc : Thread Cert.Reference9Ideal.nD Cert.Reference9Ideal.τ).loc Cert.Reference9Ideal.main_v73) = v4 c
          ∧ r.2.mem ((c.tc : Thread Cert.Reference9Ideal.nD Cert.Reference9Ideal.τ).loc Cert.Reference9Ideal.main_v51) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v31) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v31) = v0 c
          ∧ r.2.mem ((c.tc : Thread Cert.Reference11Ideal.nD Cert.Reference11Ideal.τ).loc Cert.Reference11Ideal.main_v32) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_v42) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)) (v2 : (c : Dev Cert.Kernel12Ideal.nD) → Buf (Elt Ideal) ((c.tc : Thread Cert.Kernel12Ideal.nD Cert.Kernel12Ideal.τ).loc Cert.Kernel12Ideal.main_v7_2)) (v3 : (c : Dev Cert.Kernel12Ideal.nD) → Buf (Elt Ideal) ((c.tc : Thread Cert.Kernel12Ideal.nD Cert.Kernel12Ideal.τ).loc Cert.Kernel12Ideal.main_v7_3)) (v4 : (c : Dev Cert.Kernel12Ideal.nD) → Buf (Elt Ideal) ((c.tc : Thread Cert.Kernel12Ideal.nD Cert.Kernel12Ideal.τ).loc Cert.Kernel12Ideal.main_v7_4)) (v5 : (c : Dev Cert.Kernel12Ideal.nD) → Buf (Elt Ideal) ((c.tc : Thread Cert.Kernel12Ideal.nD Cert.Kernel12Ideal.τ).loc Cert.Kernel12Ideal.main_v7_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_v7_2) = v2 c
          ∧ r.2.mem ((c.tc : Thread Cert.Kernel12Ideal.nD Cert.Kernel12Ideal.τ).loc Cert.Kernel12Ideal.main_v7_3) = v3 c
          ∧ r.2.mem ((c.tc : Thread Cert.Kernel12Ideal.nD Cert.Kernel12Ideal.τ).loc Cert.Kernel12Ideal.main_v7_4) = v4 c
          ∧ r.2.mem ((c.tc : Thread Cert.Kernel12Ideal.nD Cert.Kernel12Ideal.τ).loc Cert.Kernel12Ideal.main_v7_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v87) = v0 c
          ∧ r.2.mem ((c.tc : Thread Cert.Reference12Ideal.nD Cert.Reference12Ideal.τ).loc Cert.Reference12Ideal.main_v88) = v1 c
          ∧ r.2.mem ((c.tc : Thread Cert.Reference12Ideal.nD Cert.Reference12Ideal.τ).loc Cert.Reference12Ideal.main_v51) = v2 c
          ∧ r.2.mem ((c.tc : Thread Cert.Reference12Ideal.nD Cert.Reference12Ideal.τ).loc Cert.Reference12Ideal.main_v54) = v3 c
          ∧ r.2.mem ((c.tc : Thread Cert.Reference12Ideal.nD Cert.Reference12Ideal.τ).loc Cert.Reference12Ideal.main_v85) = v4 c
          ∧ r.2.mem ((c.tc : Thread Cert.Reference12Ideal.nD Cert.Reference12Ideal.τ).loc Cert.Reference12Ideal.main_v63) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite2 [hKernel15Ideal : Cert.Kernel15Ideal.Facts] [hReference15Ideal : Cert.Reference15Ideal.Facts] [hPre_finite2 : Cert.Pre_finite2.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite2 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v15) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_v7) = v1 c
          ∧ r.2.mem ((c.tc : Thread Cert.Reference21Ideal.nD Cert.Reference21Ideal.τ).loc Cert.Reference21Ideal.main_v14) = v2 c
          ∧ r.2.mem ((c.tc : Thread Cert.Reference21Ideal.nD Cert.Reference21Ideal.τ).loc Cert.Reference21Ideal.main_v27) = v3 c
          ∧ r.2.mem ((c.tc : Thread Cert.Reference21Ideal.nD Cert.Reference21Ideal.τ).loc Cert.Reference21Ideal.main_v40) = v4 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)) (v4 : (c : Dev Cert.Kernel22Ideal.nD) → Buf (Elt Ideal) ((c.tc : Thread Cert.Kernel22Ideal.nD Cert.Kernel22Ideal.τ).loc Cert.Kernel22Ideal.main_v0_4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_v0_4) = v4 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v37) = v0 c
          ∧ r.2.mem ((c.tc : Thread Cert.Reference22Ideal.nD Cert.Reference22Ideal.τ).loc Cert.Reference22Ideal.main_v38) = v1 c
          ∧ r.2.mem ((c.tc : Thread Cert.Reference22Ideal.nD Cert.Reference22Ideal.τ).loc Cert.Reference22Ideal.main_v39) = v2 c
          ∧ r.2.mem ((c.tc : Thread Cert.Reference22Ideal.nD Cert.Reference22Ideal.τ).loc Cert.Reference22Ideal.main_v32) = v3 c
          ∧ r.2.mem ((c.tc : Thread Cert.Reference22Ideal.nD Cert.Reference22Ideal.τ).loc Cert.Reference22Ideal.main_v40) = v4 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)) (v5 : (c : Dev Cert.Kernel23Ideal.nD) → Buf (Elt Ideal) ((c.tc : Thread Cert.Kernel23Ideal.nD Cert.Kernel23Ideal.τ).loc Cert.Kernel23Ideal.main_v0_5)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_v0_5) = v5 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_v48) = v1 c
          ∧ r.2.mem ((c.tc : Thread Cert.Reference23Ideal.nD Cert.Reference23Ideal.τ).loc Cert.Reference23Ideal.main_v50) = v2 c
          ∧ r.2.mem ((c.tc : Thread Cert.Reference23Ideal.nD Cert.Reference23Ideal.τ).loc Cert.Reference23Ideal.main_v51) = v3 c
          ∧ r.2.mem ((c.tc : Thread Cert.Reference23Ideal.nD Cert.Reference23Ideal.τ).loc Cert.Reference23Ideal.main_v52) = v4 c
          ∧ r.2.mem ((c.tc : Thread Cert.Reference23Ideal.nD Cert.Reference23Ideal.τ).loc Cert.Reference23Ideal.main_v53) = v5 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite2 : Cert.Pre_finite2.Facts) (hPre_finite8 : Cert.Pre_finite8.Facts) (hPre_finite9 : Cert.Pre_finite9.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite2 (hKernel15Ideal := hKernel15Ideal) (hPre_finite2 := hPre_finite2)
    ∧ quiescent_Reference15Ideal (hReference15Ideal := hReference15Ideal)
    ∧ quiescent_Reference15Ideal_pre_finite2 (hReference15Ideal := hReference15Ideal) (hPre_finite2 := hPre_finite2)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite2 (hKernel15Ideal := hKernel15Ideal) (hReference15Ideal := hReference15Ideal) (hPre_finite2 := hPre_finite2)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .bf16) : IVec S4096x1024 1 × IVec S4096x1024 1 × IVec S4096x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  (main_v3, main_v7, main_v11, main_v15)
-- ==== Pre_finite12.lean ====
abbrev S4096x768 : Shape := ⟨2, ![4096, 768]⟩
abbrev S768x1024 : Shape := ⟨2, ![768, 1024]⟩
abbrev S4096x512 : Shape := ⟨2, ![4096, 512]⟩
abbrev S512x1024 : Shape := ⟨2, ![512, 1024]⟩
abbrev S4096x2048 : Shape := ⟨2, ![4096, 2048]⟩
abbrev S2048x1024 : Shape := ⟨2, ![2048, 1024]⟩
abbrev S4096x1024 : Shape := ⟨2, ![4096, 1024]⟩
abbrev S2x1x1024 : Shape := ⟨3, ![2, 1, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  bcast_S_S768x1024 : S_.BroadcastsInDim S768x1024 (![] : Fin 0 → Fin S768x1024.rank)
  bcast_S_S4096x512 : S_.BroadcastsInDim S4096x512 (![] : Fin 0 → Fin S4096x512.rank)
  bcast_S_S512x1024 : S_.BroadcastsInDim S512x1024 (![] : Fin 0 → Fin S512x1024.rank)
  bcast_S_S4096x2048 : S_.BroadcastsInDim S4096x2048 (![] : Fin 0 → Fin S4096x2048.rank)
  bcast_S_S2048x1024 : S_.BroadcastsInDim S2048x1024 (![] : Fin 0 → Fin S2048x1024.rank)
  bcast_S_S4096x1024 : S_.BroadcastsInDim S4096x1024 (![] : Fin 0 → Fin S4096x1024.rank)
  bcast_S_S2x1x1024 : S_.BroadcastsInDim S2x1x1024 (![] : Fin 0 → Fin S2x1x1024.rank)
  bcast_S_S1x1024 : S_.BroadcastsInDim S1x1024 (![] : Fin 0 → Fin S1x1024.rank)

variable [Facts]

def fn_part2 {F : FTy → Type} [FloatOps F] (main_v3 : IVec S4096x768 1) (main_v7 : IVec S768x1024 1) (main_v11 : IVec S4096x512 1) (main_v15 : IVec S512x1024 1) (main_v19 : IVec S4096x2048 1) (main_v23 : IVec S2048x1024 1) (main_v26 : IVec S4096x1024 1) (main_v30 : IVec S4096x1024 1) (main_v33 : IVec S2x1x1024 1) (main_v36 : IVec S2x1x1024 1) (main_v37 : FVec F S1x1024 .f32) : IVec S4096x768 1 × IVec S768x1024 1 × IVec S4096x512 1 × IVec S512x1024 1 × IVec S4096x2048 1 × IVec S2048x1024 1 × IVec S4096x1024 1 × IVec S4096x1024 1 × IVec S2x1x1024 1 × IVec S2x1x1024 1 × IVec S1x1024 1 :=
  let main_cst_9 : FVec F S_ .f32 := constant S_ .f32 0x7F800000#32
  let main_v38 : FVec F S1x1024 .f32 := broadcastInDim S1x1024 ![] bcast_S_S1x1024 main_cst_9
  let main_v39 : IVec S1x1024 1 := cmpf .olt main_v37 main_v38
  (main_v3, main_v7, main_v11, main_v15, main_v19, main_v23, main_v26, main_v30, main_v33, main_v36, main_v39)

def fn_part1 {F : FTy → Type} [FloatOps F] (main_arg5 : FVec F S2048x1024 .bf16) (main_arg6 : FVec F S4096x1024 .f32) (main_arg8 : FVec F S4096x1024 .bf16) (main_arg9 : FVec F S2x1x1024 .f32) (main_arg10 : FVec F S2x1x1024 .f32) (main_arg11 : FVec F S1x1024 .f32) (main_v3 : IVec S4096x768 1) (main_v7 : IVec S768x1024 1) (main_v11 : IVec S4096x512 1) (main_v15 : IVec S512x1024 1) (main_v17 : FVec F S4096x2048 .f32) (main_v18 : FVec F S4096x2048 .f32) : IVec S4096x768 1 × IVec S768x1024 1 × IVec S4096x512 1 × IVec S512x1024 1 × IVec S4096x2048 1 × IVec S2048x1024 1 × IVec S4096x1024 1 × IVec S4096x1024 1 × IVec S2x1x1024 1 × IVec S2x1x1024 1 × IVec S1x1024 1 :=
  let main_v19 : IVec S4096x2048 1 := cmpf .olt main_v17 main_v18
  let main_v20 : FVec F S2048x1024 .f32 := (extf .f32 · bitsLt_bf16_f32) main_arg5
  let main_v21 : FVec F S2048x1024 .f32 := Host.absf main_v20
  let main_cst_4 : FVec F S_ .f32 := constant S_ .f32 0x7F800000#32
  let main_v22 : FVec F S2048x1024 .f32 := broadcastInDim S2048x1024 ![] bcast_S_S2048x1024 main_cst_4
  let main_v23 : IVec S2048x1024 1 := cmpf .olt main_v21 main_v22
  let main_v24 : FVec F S4096x1024 .f32 := Host.absf main_arg6
  let main_cst_5 : FVec F S_ .f32 := constant S_ .f32 0x7F800000#32
  let main_v25 : FVec F S4096x1024 .f32 := broadcastInDim S4096x1024 ![] bcast_S_S4096x1024 main_cst_5
  let main_v26 : IVec S4096x1024 1 := cmpf .olt main_v24 main_v25
  let main_v27 : FVec F S4096x1024 .f32 := (extf .f32 · bitsLt_bf16_f32) main_arg8
  let main_v28 : FVec F S4096x1024 .f32 := Host.absf main_v27
  let main_cst_6 : FVec F S_ .f32 := constant S_ .f32 0x7F800000#32
  let main_v29 : FVec F S4096x1024 .f32 := broadcastInDim S4096x1024 ![] bcast_S_S4096x1024 main_cst_6
  let main_v30 : IVec S4096x1024 1 := cmpf .olt main_v28 main_v29
  let main_v31 : FVec F S2x1x1024 .f32 := Host.absf main_arg9
  let main_cst_7 : FVec F S_ .f32 := constant S_ .f32 0x7F800000#32
  let main_v32 : FVec F S2x1x1024 .f32 := broadcastInDim S2x1x1024 ![] bcast_S_S2x1x1024 main_cst_7
  let main_v33 : IVec S2x1x1024 1 := cmpf .olt main_v31 main_v32
  let main_v34 : FVec F S2x1x1024 .f32 := Host.absf main_arg10
  let main_cst_8 : FVec F S_ .f32 := constant S_ .f32 0x7F800000#32
  let main_v35 : FVec F S2x1x1024 .f32 := broadcastInDim S2x1x1024 ![] bcast_S_S2x1x1024 main_cst_8
  let main_v36 : IVec S2x1x1024 1 := cmpf .olt main_v34 main_v35
  let main_v37 : FVec F S1x1024 .f32 := Host.absf main_arg11
  fn_part2 (F := F) main_v3 main_v7 main_v11 main_v15 main_v19 main_v23 main_v26 main_v30 main_v33 main_v36 main_v37

def fn {F : FTy → Type} [FloatOps F] (main_arg0 : FVec F S4096x768 .bf16) (main_arg1 : FVec F S768x1024 .bf16) (main_arg2 : FVec F S4096x512 .bf16) (main_arg3 : FVec F S512x1024 .bf16) (main_arg4 : FVec F S4096x2048 .bf16) (main_arg5 : FVec F S2048x1024 .bf16) (main_arg6 : FVec F S4096x1024 .f32) (main_arg7 : FVec F S4096x1024 .f32) (main_arg8 : FVec F S4096x1024 .bf16) (main_arg9 : FVec F S2x1x1024 .f32) (main_arg10 : FVec F S2x1x1024 .f32) (main_arg11 : FVec F S1x1024 .f32) : IVec S4096x768 1 × IVec S768x1024 1 × IVec S4096x512 1 × IVec S512x1024 1 × IVec S4096x2048 1 × IVec S2048x1024 1 × IVec S4096x1024 1 × IVec S4096x1024 1 × IVec S2x1x1024 1 × IVec S2x1x1024 1 × IVec S1x1024 1 :=
  let main_v0 : FVec F S4096x768 .f32 := (extf .f32 · bitsLt_bf16_f32) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_v4 : FVec F S768x1024 .f32 := (extf .f32 · bitsLt_bf16_f32) main_arg1
  let main_v5 : FVec F S768x1024 .f32 := Host.absf main_v4
  let main_cst_0 : FVec F S_ .f32 := constant S_ .f32 0x7F800000#32
  let main_v6 : FVec F S768x1024 .f32 := broadcastInDim S768x1024 ![] bcast_S_S768x1024 main_cst_0
  let main_v7 : IVec S768x1024 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S512x1024 .f32 := (extf .f32 · bitsLt_bf16_f32) main_arg3
  let main_v13 : FVec F S512x1024 .f32 := Host.absf main_v12
  let main_cst_2 : FVec F S_ .f32 := constant S_ .f32 0x7F800000#32
  let main_v14 : FVec F S512x1024 .f32 := broadcastInDim S512x1024 ![] bcast_S_S512x1024 main_cst_2
  let main_v15 : IVec S512x1024 1 := cmpf .olt main_v13 main_v14
  let main_v16 : FVec F S4096x2048 .f32 := (extf .f32 · bitsLt_bf16_f32) main_arg4
  let main_v17 : FVec F S4096x2048 .f32 := Host.absf main_v16
  let main_cst_3 : FVec F S_ .f32 := constant S_ .f32 0x7F800000#32
  let main_v18 : FVec F S4096x2048 .f32 := broadcastInDim S4096x2048 ![] bcast_S_S4096x2048 main_cst_3
  fn_part1 (F := F) main_arg5 main_arg6 main_arg8 main_arg9 main_arg10 main_arg11 main_v3 main_v7 main_v11 main_v15 main_v17 main_v18
-- ==== Pre_finite2.lean ====
abbrev S4096x2816 : Shape := ⟨2, ![4096, 2816]⟩
abbrev S4096x1024 : Shape := ⟨2, ![4096, 1024]⟩
abbrev S2816x1024 : Shape := ⟨2, ![2816, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S4096x1024 : S_.BroadcastsInDim S4096x1024 (![] : Fin 0 → Fin S4096x1024.rank)
  bcast_S_S2816x1024 : S_.BroadcastsInDim S2816x1024 (![] : Fin 0 → Fin S2816x1024.rank)

variable [Facts]

def fn {F : FTy → Type} [FloatOps F] (main_arg0 : FVec F S4096x2816 .bf16) (main_arg1 : FVec F S4096x2816 .bf16) (main_arg2 : FVec F S4096x1024 .bf16) (main_arg3 : FVec F S2816x1024 .bf16) : IVec S4096x2816 1 × IVec S4096x1024 1 × IVec S2816x1024 1 :=
  let main_v0 : FVec F S4096x2816 .f32 := (extf .f32 · bitsLt_bf16_f32) main_arg1
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x1024 .f32 := (extf .f32 · bitsLt_bf16_f32) main_arg2
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S2816x1024 .f32 := (extf .f32 · bitsLt_bf16_f32) main_arg3
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  (main_v3, main_v7, main_v11)
-- ==== Pre_finite8.lean ====
abbrev S4096x5632 : Shape := ⟨2, ![4096, 5632]⟩
abbrev S5632x1024 : Shape := ⟨2, ![5632, 1024]⟩
abbrev S4096x1024 : Shape := ⟨2, ![4096, 1024]⟩
abbrev S2x1x1024 : Shape := ⟨3, ![2, 1, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S5632x1024 : S_.BroadcastsInDim S5632x1024 (![] : Fin 0 → Fin S5632x1024.rank)
  bcast_S_S4096x1024 : S_.BroadcastsInDim S4096x1024 (![] : Fin 0 → Fin S4096x1024.rank)
  bcast_S_S2x1x1024 : S_.BroadcastsInDim S2x1x1024 (![] : Fin 0 → Fin S2x1x1024.rank)
  bcast_S_S1x1024 : S_.BroadcastsInDim S1x1024 (![] : Fin 0 → Fin S1x1024.rank)

variable [Facts]

def fn {F : FTy → Type} [FloatOps F] (main_arg0 : FVec F S4096x5632 .bf16) (main_arg1 : FVec F S5632x1024 .bf16) (main_arg2 : FVec F S4096x1024 .f32) (main_arg3 : FVec F S4096x1024 .f32) (main_arg4 : FVec F S2x1x1024 .f32) (main_arg5 : FVec F S1x1024 .f32) : IVec S4096x5632 1 × IVec S5632x1024 1 × IVec S4096x1024 1 × IVec S2x1x1024 1 × IVec S1x1024 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S5632x1024 .f32 := (extf .f32 · bitsLt_bf16_f32) main_arg1
  let main_v5 : FVec F S5632x1024 .f32 := Host.absf main_v4
  let main_cst_0 : FVec F S_ .f32 := constant S_ .f32 0x7F800000#32
  let main_v6 : FVec F S5632x1024 .f32 := broadcastInDim S5632x1024 ![] bcast_S_S5632x1024 main_cst_0
  let main_v7 : IVec S5632x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S2x1x1024 .f32 := Host.absf main_arg4
  let main_cst_2 : FVec F S_ .f32 := constant S_ .f32 0x7F800000#32
  let main_v12 : FVec F S2x1x1024 .f32 := broadcastInDim S2x1x1024 ![] bcast_S_S2x1x1024 main_cst_2
  let main_v13 : IVec S2x1x1024 1 := cmpf .olt main_v11 main_v12
  let main_v14 : FVec F S1x1024 .f32 := Host.absf main_arg5
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite9.lean ====
abbrev S4096x5632 : Shape := ⟨2, ![4096, 5632]⟩
abbrev S5632x1024 : Shape := ⟨2, ![5632, 1024]⟩
abbrev S4096x1024 : Shape := ⟨2, ![4096, 1024]⟩
abbrev S2x1x1024 : Shape := ⟨3, ![2, 1, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S5632x1024 : S_.BroadcastsInDim S5632x1024 (![] : Fin 0 → Fin S5632x1024.rank)
  bcast_S_S4096x1024 : S_.BroadcastsInDim S4096x1024 (![] : Fin 0 → Fin S4096x1024.rank)
  bcast_S_S2x1x1024 : S_.BroadcastsInDim S2x1x1024 (![] : Fin 0 → Fin S2x1x1024.rank)
  bcast_S_S1x1024 : S_.BroadcastsInDim S1x1024 (![] : Fin 0 → Fin S1x1024.rank)

variable [Facts]

def fn_part1 {F : FTy → Type} [FloatOps F] (main_arg7 : FVec F S1x1024 .f32) (main_v3 : IVec S4096x5632 1) (main_v7 : IVec S5632x1024 1) (main_v10 : IVec S4096x1024 1) (main_v14 : IVec S4096x1024 1) (main_v17 : IVec S2x1x1024 1) (main_v18 : FVec F S2x1x1024 .f32) : IVec S4096x5632 1 × IVec S5632x1024 1 × IVec S4096x1024 1 × IVec S4096x1024 1 × IVec S2x1x1024 1 × IVec S2x1x1024 1 × IVec S1x1024 1 :=
  let main_cst_4 : FVec F S_ .f32 := constant S_ .f32 0x7F800000#32
  let main_v19 : FVec F S2x1x1024 .f32 := broadcastInDim S2x1x1024 ![] bcast_S_S2x1x1024 main_cst_4
  let main_v20 : IVec S2x1x1024 1 := cmpf .olt main_v18 main_v19
  let main_v21 : FVec F S1x1024 .f32 := Host.absf main_arg7
  let main_cst_5 : FVec F S_ .f32 := constant S_ .f32 0x7F800000#32
  let main_v22 : FVec F S1x1024 .f32 := broadcastInDim S1x1024 ![] bcast_S_S1x1024 main_cst_5
  let main_v23 : IVec S1x1024 1 := cmpf .olt main_v21 main_v22
  (main_v3, main_v7, main_v10, main_v14, main_v17, main_v20, main_v23)

def fn {F : FTy → Type} [FloatOps F] (main_arg0 : FVec F S4096x5632 .bf16) (main_arg1 : FVec F S5632x1024 .bf16) (main_arg2 : FVec F S4096x1024 .f32) (main_arg3 : FVec F S4096x1024 .f32) (main_arg4 : FVec F S4096x1024 .bf16) (main_arg5 : FVec F S2x1x1024 .f32) (main_arg6 : FVec F S2x1x1024 .f32) (main_arg7 : FVec F S1x1024 .f32) : IVec S4096x5632 1 × IVec S5632x1024 1 × IVec S4096x1024 1 × IVec S4096x1024 1 × IVec S2x1x1024 1 × IVec S2x1x1024 1 × IVec S1x1024 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S5632x1024 .f32 := (extf .f32 · bitsLt_bf16_f32) main_arg1
  let main_v5 : FVec F S5632x1024 .f32 := Host.absf main_v4
  let main_cst_0 : FVec F S_ .f32 := constant S_ .f32 0x7F800000#32
  let main_v6 : FVec F S5632x1024 .f32 := broadcastInDim S5632x1024 ![] bcast_S_S5632x1024 main_cst_0
  let main_v7 : IVec S5632x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := (extf .f32 · bitsLt_bf16_f32) main_arg4
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_v15 : FVec F S2x1x1024 .f32 := Host.absf main_arg5
  let main_cst_3 : FVec F S_ .f32 := constant S_ .f32 0x7F800000#32
  let main_v16 : FVec F S2x1x1024 .f32 := broadcastInDim S2x1x1024 ![] bcast_S_S2x1x1024 main_cst_3
  let main_v17 : IVec S2x1x1024 1 := cmpf .olt main_v15 main_v16
  let main_v18 : FVec F S2x1x1024 .f32 := Host.absf main_arg6
  fn_part1 (F := F) main_arg7 main_v3 main_v7 main_v10 main_v14 main_v17 main_v18
-- ==== Kernel.lean ====
abbrev S4096x1024 : Shape := ⟨2, ![4096, 1024]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8x1 : Shape := ⟨4, ![2, 2048, 8, 1]⟩
abbrev S2048x128 : Shape := ⟨2, ![2048, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 49
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S2x2048x8x128, .f32⟩
  | .hbm, ⟨6, _⟩ => ⟨S4096x1024, .f32⟩
  | .hbm, ⟨7, _⟩ => ⟨S2x2048x8x128, .f32⟩
  | .hbm, ⟨8, _⟩ => ⟨S4096x1024, .f32⟩
  | .hbm, ⟨9, _⟩ => ⟨S2x2048x8x128, .f32⟩
  | .hbm, ⟨10, _⟩ => ⟨S2x8x2048x2048, .f32⟩
  | .hbm, ⟨11, _⟩ => ⟨S_, .f32⟩
  | .hbm, ⟨12, _⟩ => ⟨S2x8x2048x2048, .f32⟩
  | .hbm, ⟨13, _⟩ => ⟨S2x8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S2x8x2048x2048, .i1⟩
  | .hbm, ⟨24, _⟩ => ⟨S2x8x2048x2048, .f32⟩
  | .hbm, ⟨25, _⟩ => ⟨S2x8x2048x2048, .f32⟩
  | .hbm, ⟨26, _⟩ => ⟨S_, .f32⟩
  | .hbm, ⟨27, _⟩ => ⟨S2x8x2048, .f32⟩
  | .hbm, ⟨28, _⟩ => ⟨S2x8x2048x1, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .f32⟩
  | .hbm, ⟨37, _⟩ => ⟨S2x8x128x2048, .f32⟩
  | .hbm, ⟨38, _⟩ => ⟨S2x2048x8x128, .f32⟩
  | .hbm, ⟨39, _⟩ => ⟨S2x8x2048x1, .f32⟩
  | .hbm, ⟨40, _⟩ => ⟨S2x8x2048x1, .f32⟩
  | .hbm, ⟨41, _⟩ => ⟨S2x2048x8x1, .f32⟩
  | .hbm, ⟨42, _⟩ => ⟨S2x2048x8x128, .f32⟩
  | .hbm, ⟨43, _⟩ => ⟨S4096x1024, .f32⟩
  | .hbm, ⟨44, _⟩ => ⟨S4096x1024, .bf16⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x128 : Shape := ⟨4, ![2, 8, 2048, 128]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S2x2048x8x128, .f32⟩
  | .hbm, ⟨8, _⟩ => ⟨S2x2048x8x128, .f32⟩
  | .hbm, ⟨9, _⟩ => ⟨S2x2048x8x128, .f32⟩
  | .hbm, ⟨10, _⟩ => ⟨S2x8x2048x2048, .f32⟩
  | .hbm, ⟨11, _⟩ => ⟨S2x8x2048x2048, .bf16⟩
  | .hbm, ⟨12, _⟩ => ⟨S2x8x2048x2048, .f32⟩
  | .hbm, ⟨13, _⟩ => ⟨S_, .f32⟩
  | .hbm, ⟨14, _⟩ => ⟨S2x8x2048x2048, .f32⟩
  | .hbm, ⟨15, _⟩ => ⟨S2x8x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2x8x2048x2048, .i1⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2048, .f32⟩
  | .hbm, ⟨34, _⟩ => ⟨S2x8x2048x2048, .i1⟩
  | .hbm, ⟨35, _⟩ => ⟨S2x8x2048x2048, .f32⟩
  | .hbm, ⟨36, _⟩ => ⟨S_, .f32⟩
  | .hbm, ⟨37, _⟩ => ⟨S2x8x2048, .f32⟩
  | .hbm, ⟨38, _⟩ => ⟨S_, .f32⟩
  | .hbm, ⟨39, _⟩ => ⟨S2x8x2048, .f32⟩
  | .hbm, ⟨40, _⟩ => ⟨S2x8x2048, .f32⟩
  | .hbm, ⟨41, _⟩ => ⟨S_, .f32⟩
  | .hbm, ⟨42, _⟩ => ⟨S2x8x2048, .f32⟩
  | .hbm, ⟨43, _⟩ => ⟨S2x8x2048, .i1⟩
  | .hbm, ⟨44, _⟩ => ⟨S_, .f32⟩
  | .hbm, ⟨45, _⟩ => ⟨S2x8x2048, .f32⟩
  | .hbm, ⟨46, _⟩ => ⟨S2x8x2048, .i1⟩
  | .hbm, ⟨47, _⟩ => ⟨S_, .f32⟩
  | .hbm, ⟨48, _⟩ => ⟨S2x8x2048, .f32⟩
  | .hbm, ⟨49, _⟩ => ⟨S_, .f32⟩
  | .hbm, ⟨50, _⟩ => ⟨S2x8x2048, .f32⟩
  | .hbm, ⟨51, _⟩ => ⟨S_, .f32⟩
  | .hbm, ⟨52, _⟩ => ⟨S2x8x2048, .f32⟩
  | .hbm, ⟨53, _⟩ => ⟨S2x8x2048, .f32⟩
  | .hbm, ⟨54, _⟩ => ⟨S2x8x2048, .f32⟩
  | .hbm, ⟨55, _⟩ => ⟨S2x8x2048x1, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S_, .f32⟩
  | .hbm, ⟨60, _⟩ => ⟨S2x8x2048, .f32⟩
  | .hbm, ⟨61, _⟩ => ⟨S2x8x2048x1, .f32⟩
  | .hbm, ⟨62, _⟩ => ⟨S2x8x2048x2048, .f32⟩
  | .hbm, ⟨63, _⟩ => ⟨S2x8x2048x2048, .f32⟩
  | .hbm, ⟨64, _⟩ => ⟨S2x8x2048x1, .f32⟩
  | .hbm, ⟨65, _⟩ => ⟨S_, .f32⟩
  | .hbm, ⟨66, _⟩ => ⟨S2x8x2048x1, .f32⟩
  | .hbm, ⟨67, _⟩ => ⟨S2x8x2048x1, .f32⟩
  | .hbm, ⟨68, _⟩ => ⟨S2x8x2048x2048, .bf16⟩
  | .hbm, ⟨69, _⟩ => ⟨S2x8x2048x2048, .f32⟩
  | .hbm, ⟨70, _⟩ => ⟨S2x8x128x2048, .f32⟩
  | .hbm, ⟨71, _⟩ => ⟨S2x2048x8x128, .f32⟩
  | .hbm, ⟨72, _⟩ => ⟨S2x2048x8x128, .bf16⟩
  | .hbm, ⟨73, _⟩ => ⟨S2x2048x8x128, .f32⟩
  | .hbm, ⟨74, _⟩ => ⟨S4096x1024, .f32⟩
  | .hbm, ⟨75, _⟩ => ⟨S4096x1024, .f32⟩
  | .hbm, ⟨76, _⟩ => ⟨S2x2048x8x128, .f32⟩
  | .hbm, ⟨77, _⟩ => ⟨S2x2048x8x128, .bf16⟩
  | .hbm, ⟨78, _⟩ => ⟨S2x2048x8x128, .f32⟩
  | .hbm, ⟨79, _⟩ => ⟨S2x8x128x2048, .f32⟩
  | .hbm, ⟨80, _⟩ => ⟨S2x8x2048x2048, .f32⟩
  | .hbm, ⟨81, _⟩ => ⟨S2x8x128x2048, .f32⟩
  | .hbm, ⟨82, _⟩ => ⟨S2x2048x8x128, .f32⟩
  | .hbm, ⟨83, _⟩ => ⟨S2x8x2048x2048, .bf16⟩
  | .hbm, ⟨84, _⟩ => ⟨S2x8x2048x2048, .f32⟩
  | .hbm, ⟨85, _⟩ => ⟨S2x8x2048x2048, .f32⟩
  | .hbm, ⟨86, _⟩ => ⟨S2x8x2048x2048, .f32⟩
  | .hbm, ⟨87, _⟩ => ⟨S2x8x2048x2048, .f32⟩
  | .hbm, ⟨88, _⟩ => ⟨S_, .f32⟩
  | .hbm, ⟨89, _⟩ => ⟨S2x8x2048, .f32⟩
  | .hbm, ⟨90, _⟩ => ⟨S2x8x2048x1, .f32⟩
  | .hbm, ⟨91, _⟩ => ⟨S2x8x2048x1, .f32⟩
  | .hbm, ⟨92, _⟩ => ⟨S2x8x2048x2048, .f32⟩
  | .hbm, ⟨93, _⟩ => ⟨S2x8x2048x2048, .f32⟩
  | .hbm, ⟨94, _⟩ => ⟨S_, .f32⟩
  | .hbm, ⟨95, _⟩ => ⟨S2x8x2048, .f32⟩
  | .hbm, ⟨96, _⟩ => ⟨S2x8x2048x2048, .f32⟩
  | .hbm, ⟨97, _⟩ => ⟨S2x8x2048x2048, .f32⟩
  | .hbm, ⟨98, _⟩ => ⟨S2x8x2048x2048, .f32⟩
  | .hbm, ⟨99, _⟩ => ⟨S_, .f32⟩
  | .hbm, ⟨100, _⟩ => ⟨S2x8x2048x2048, .f32⟩
  | .hbm, ⟨101, _⟩ => ⟨S2x8x2048x2048, .f32⟩
  | .hbm, ⟨102, _⟩ => ⟨S_, .f32⟩
  | .hbm, ⟨103, _⟩ => ⟨S2x8x2048x2048, .f32⟩
  | .hbm, ⟨104, _⟩ => ⟨S2x8x2048x2048, .f32⟩
  | .hbm, ⟨105, _⟩ => ⟨S2x8x2048x2048, .bf16⟩
  | .hbm, ⟨106, _⟩ => ⟨S2x8x2048x2048, .f32⟩
  | .hbm, ⟨107, _⟩ => ⟨S2x8x2048x128, .f32⟩
  | .hbm, ⟨108, _⟩ => ⟨S2x2048x8x128, .f32⟩
  | .hbm, ⟨109, _⟩ => ⟨S2x8x2048x128, .f32⟩
  | .hbm, ⟨110, _⟩ => ⟨S2x2048x8x128, .f32⟩
  | .hbm, ⟨111, _⟩ => ⟨S4096x1024, .f32⟩
  | .hbm, ⟨112, _⟩ => ⟨S4096x1024, .f32⟩
  | .hbm, ⟨113, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call1_cst : Ref sig .tc := ⟨.hbm, 99, rfl⟩
abbrev main_call1_v0 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S4096x5632 : Shape := ⟨2, ![4096, 5632]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 5
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S2816x1024, .bf16⟩
  | .hbm, ⟨4, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S512x5632, .bf16⟩
  | .local _ .vmem, ⟨8, _⟩ => ⟨S512x5632, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4096x2816 : Shape := ⟨2, ![4096, 2816]⟩
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S2816x1024, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x5632, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 17
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2816 : Shape := ⟨2, ![4096, 2816]⟩
abbrev S4096x1024 : Shape := ⟨2, ![4096, 1024]⟩
abbrev S4096x5632 : Shape := ⟨2, ![4096, 5632]⟩
abbrev S_ : Shape := ⟨0, ![]⟩
abbrev S2816x1024 : Shape := ⟨2, ![2816, 1024]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x2816, .f32⟩
  | .hbm, ⟨4, _⟩ => ⟨S4096x2816, .f32⟩
  | .hbm, ⟨5, _⟩ => ⟨S4096x5632, .f32⟩
  | .hbm, ⟨6, _⟩ => ⟨S_, .f32⟩
  | .hbm, ⟨7, _⟩ => ⟨S2816x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel4.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x5632 : Shape := ⟨2, ![4096, 5632]⟩
abbrev S4096x1024 : Shape := ⟨2, ![4096, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S5632x1024, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x5632 : Shape := ⟨2, ![4096, 5632]⟩
abbrev S4096x1024 : Shape := ⟨2, ![4096, 1024]⟩
abbrev S5632x512 : Shape := ⟨2, ![5632, 512]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x5632 : Shape := ⟨2, ![4096, 5632]⟩
abbrev S4096x1024 : Shape := ⟨2, ![4096, 1024]⟩
abbrev S_ : Shape := ⟨0, ![]⟩
abbrev S5632x1024 : Shape := ⟨2, ![5632, 1024]⟩
abbrev S1024x5632 : Shape := ⟨2, ![1024, 5632]⟩
abbrev S5632x512 : Shape := ⟨2, ![5632, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S5632x1024, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | .hbm, ⟨12, _⟩ => ⟨S5632x512, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4096x5632 : Shape := ⟨2, ![4096, 5632]⟩
abbrev S4096x1024 : Shape := ⟨2, ![4096, 1024]⟩
abbrev S8x168x128 : Shape := ⟨3, ![8, 168, 128]⟩
abbrev S5632x512 : Shape := ⟨2, ![5632, 512]⟩
abbrev S4096x512 : Shape := ⟨2, ![4096, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S8x168x128, .f32⟩
  | .hbm, ⟨3, _⟩ => ⟨S5632x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x5632 : Shape := ⟨2, ![4096, 5632]⟩
abbrev S4096x1024 : Shape := ⟨2, ![4096, 1024]⟩
abbrev S8x168x128 : Shape := ⟨3, ![8, 168, 128]⟩
abbrev S_ : Shape := ⟨0, ![]⟩
abbrev S5632x1024 : Shape := ⟨2, ![5632, 1024]⟩
abbrev S1024x5632 : Shape := ⟨2, ![1024, 5632]⟩
abbrev S5632x512 : Shape := ⟨2, ![5632, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S8x168x128, .f32⟩
  | .hbm, ⟨3, _⟩ => ⟨S_, .f32⟩
  | .hbm, ⟨4, _⟩ => ⟨S5632x1024, .f32⟩
  | .hbm, ⟨5, _⟩ => ⟨S4096x1024, .f32⟩
  | .hbm, ⟨6, _⟩ => ⟨S1024x5632, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | .hbm, ⟨13, _⟩ => ⟨S5632x512, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel7.lean ====
abbrev S4096x1024 : Shape := ⟨2, ![4096, 1024]⟩
abbrev S5632x1024 : Shape := ⟨2, ![5632, 1024]⟩
abbrev S4096x2816 : Shape := ⟨2, ![4096, 2816]⟩
abbrev S256x1024 : Shape := ⟨2, ![256, 1024]⟩
abbrev S4096x256 : Shape := ⟨2, ![4096, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S4096x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .bf16⟩
  | .hbm, ⟨9, _⟩ => ⟨S4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel8.lean ====
abbrev S4096x5632 : Shape := ⟨2, ![4096, 5632]⟩
abbrev S5632x1024 : Shape := ⟨2, ![5632, 1024]⟩
abbrev S4096x1024 : Shape := ⟨2, ![4096, 1024]⟩
abbrev S2x1x1024 : Shape := ⟨3, ![2, 1, 1024]⟩
abbrev S1x1024 : Shape := ⟨2, ![1, 1024]⟩
abbrev S512x5632 : Shape := ⟨2, ![512, 5632]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S2x1x1024, .f32⟩
  | .hbm, ⟨5, _⟩ => ⟨S1x1024, .f32⟩
  | .hbm, ⟨6, _⟩ => ⟨S4096x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S5632x1024, .bf16⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v48 : BitVec 1 := Scalar.cmpi .eq arg1 c0_i32
  let v49 : BitVec 32 := Scalar.extui v48
  let c0_i32_23 : BitVec 32 := 0#32
  let v50 : BitVec 1 := Scalar.cmpi .ne v49 c0_i32_23
  v50

def k0_cond2 (i : grid0.Coords) : BitVec 1 :=
  let arg1 : BitVec 32 := BitVec.ofNat 32 (i 1).val
  let c0_i32 : BitVec 32 := 0#32
  let v48 : BitVec 1 := Scalar.cmpi .eq arg1 c0_i32
  let v_true : BitVec 1 := 1#1
  let v51 : BitVec 1 := Scalar.xori v48 v_true
  let v52 : BitVec 32 := Scalar.extui v51
  let c0_i32_24 : BitVec 32 := 0#32
  let v53 : BitVec 1 := Scalar.cmpi .ne v52 c0_i32_24
  v53

def k0_cond3 (i : grid0.Coords) : BitVec 1 :=
  let arg1 : BitVec 32 := BitVec.ofNat 32 (i 1).val
  let c0_i32_25 : BitVec 32 := 0#32
  let v54 : BitVec 1 := Scalar.cmpi .eq arg1 c0_i32_25
  let v55 : BitVec 32 := Scalar.extui v54
  let c0_i32_26 : BitVec 32 := 0#32
  let v56 : BitVec 1 := Scalar.cmpi .ne v55 c0_i32_26
  v56

def k0_cond4 (i : grid0.Coords) : BitVec 1 :=
  let arg1 : BitVec 32 := BitVec.ofNat 32 (i 1).val
  let c0_i32_25 : BitVec 32 := 0#32
  let v54 : BitVec 1 := Scalar.cmpi .eq arg1 c0_i32_25
  let true_27 : BitVec 1 := 1#1
  let v57 : BitVec 1 := Scalar.xori v54 true_27
  let v58 : BitVec 32 := Scalar.extui v57
  let c0_i32_28 : BitVec 32 := 0#32
  let v59 : BitVec 1 := Scalar.cmpi .ne v58 c0_i32_28
  v59

def k0_cond5 (i : grid0.Coords) : BitVec 1 :=
  let arg1 : BitVec 32 := BitVec.ofNat 32 (i 1).val
  let c0_i32_29 : BitVec 32 := 0#32
  let v60 : BitVec 1 := Scalar.cmpi .eq arg1 c0_i32_29
  let arg0 : BitVec 32 := BitVec.ofNat 32 (i 0).val
  let c0_i32_30 : BitVec 32 := 0#32
  let v61 : BitVec 1 := Scalar.cmpi .eq arg0 c0_i32_30
  let v62 : BitVec 1 := Scalar.andi v60 v61
  let v63 : BitVec 32 := Scalar.extui v62
  let c0_i32_31 : BitVec 32 := 0#32
  let v64 : BitVec 1 := Scalar.cmpi .ne v63 c0_i32_31
  v64

def k0_cond6 (i : grid0.Coords) : BitVec 1 :=
  let arg1 : BitVec 32 := BitVec.ofNat 32 (i 1).val
  let c0_i32_29 : BitVec 32 := 0#32
  let v60 : BitVec 1 := Scalar.cmpi .eq arg1 c0_i32_29
  let arg0 : BitVec 32 := BitVec.ofNat 32 (i 0).val
  let c0_i32_30 : BitVec 32 := 0#32
  let v61 : BitVec 1 := Scalar.cmpi .eq arg0 c0_i32_30
  let v62 : BitVec 1 := Scalar.andi v60 v61
  let true_32 : BitVec 1 := 1#1
  let v65 : BitVec 1 := Scalar.xori v62 true_32
  let v66 : BitVec 32 := Scalar.extui v65
  let c0_i32_33 : BitVec 32 := 0#32
  let v67 : BitVec 1 := Scalar.cmpi .ne v66 c0_i32_33
  v67

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference8Ideal.lean ====
abbrev S4096x5632 : Shape := ⟨2, ![4096, 5632]⟩
abbrev S5632x1024 : Shape := ⟨2, ![5632, 1024]⟩
abbrev S4096x1024 : Shape := ⟨2, ![4096, 1024]⟩
abbrev S2x1x1024 : Shape := ⟨3, ![2, 1, 1024]⟩
abbrev S1x1024 : Shape := ⟨2, ![1, 1024]⟩
abbrev S_ : Shape := ⟨0, ![]⟩
abbrev S2x2048x1024 : Shape := ⟨3, ![2, 2048, 1024]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x1024 : Shape := ⟨2, ![2, 1024]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S2x1x1024, .f32⟩
  | .hbm, ⟨5, _⟩ => ⟨S1x1024, .f32⟩
  | .hbm, ⟨6, _⟩ => ⟨S5632x1024, .f32⟩
  | .hbm, ⟨7, _⟩ => ⟨S_, .f32⟩
  | .hbm, ⟨8, _⟩ => ⟨S2x1x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S4096x1024, .f32⟩
  | .hbm, ⟨38, _⟩ => ⟨S1024x5632, .f32⟩
  | .hbm, ⟨39, _⟩ => ⟨S4096x5632, .f32⟩
  | .hbm, ⟨40, _⟩ => ⟨S4096x5632, .f32⟩
  | .hbm, ⟨41, _⟩ => ⟨S4096x1024, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S2x2048x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S_, .f32⟩
  | .hbm, ⟨72, _⟩ => ⟨S2x2048, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S4096x1024, .f32⟩
  | .hbm, ⟨79, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel9.lean ====
abbrev S4096x5632 : Shape := ⟨2, ![4096, 5632]⟩
abbrev S5632x1024 : Shape := ⟨2, ![5632, 1024]⟩
abbrev S4096x1024 : Shape := ⟨2, ![4096, 1024]⟩
abbrev S2x1x1024 : Shape := ⟨3, ![2, 1, 1024]⟩
abbrev S1x1024 : Shape := ⟨2, ![1, 1024]⟩
abbrev S2x2048x1024 : Shape := ⟨3, ![2, 2048, 1024]⟩
abbrev S512x5632 : Shape := ⟨2, ![512, 5632]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 21
  | .vmem => 25
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S2x2048x1024, .f32⟩
  | .hbm, ⟨9, _⟩ => ⟨S4096x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S5632x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v60 : BitVec 1 := Scalar.cmpi .eq arg1 c0_i32
  let v61 : BitVec 32 := Scalar.extui v60
  let c0_i32_31 : BitVec 32 := 0#32
  let v62 : BitVec 1 := Scalar.cmpi .ne v61 c0_i32_31
  v62

def k0_cond2 (i : grid0.Coords) : BitVec 1 :=
  let arg1 : BitVec 32 := BitVec.ofNat 32 (i 1).val
  let c0_i32 : BitVec 32 := 0#32
  let v60 : BitVec 1 := Scalar.cmpi .eq arg1 c0_i32
  let v_true : BitVec 1 := 1#1
  let v63 : BitVec 1 := Scalar.xori v60 v_true
  let v64 : BitVec 32 := Scalar.extui v63
  let c0_i32_32 : BitVec 32 := 0#32
  let v65 : BitVec 1 := Scalar.cmpi .ne v64 c0_i32_32
  v65

def k0_cond3 (i : grid0.Coords) : BitVec 1 :=
  let arg1 : BitVec 32 := BitVec.ofNat 32 (i 1).val
  let c0_i32_33 : BitVec 32 := 0#32
  let v66 : BitVec 1 := Scalar.cmpi .eq arg1 c0_i32_33
  let v67 : BitVec 32 := Scalar.extui v66
  let c0_i32_34 : BitVec 32 := 0#32
  let v68 : BitVec 1 := Scalar.cmpi .ne v67 c0_i32_34
  v68

def k0_cond4 (i : grid0.Coords) : BitVec 1 :=
  let arg1 : BitVec 32 := BitVec.ofNat 32 (i 1).val
  let c0_i32_33 : BitVec 32 := 0#32
  let v66 : BitVec 1 := Scalar.cmpi .eq arg1 c0_i32_33
  let true_35 : BitVec 1 := 1#1
  let v69 : BitVec 1 := Scalar.xori v66 true_35
  let v70 : BitVec 32 := Scalar.extui v69
  let c0_i32_36 : BitVec 32 := 0#32
  let v71 : BitVec 1 := Scalar.cmpi .ne v70 c0_i32_36
  v71

def k0_cond5 (i : grid0.Coords) : BitVec 1 :=
  let arg1 : BitVec 32 := BitVec.ofNat 32 (i 1).val
  let c0_i32_37 : BitVec 32 := 0#32
  let v72 : BitVec 1 := Scalar.cmpi .eq arg1 c0_i32_37
  let v73 : BitVec 32 := Scalar.extui v72
  let c0_i32_38 : BitVec 32 := 0#32
  let v74 : BitVec 1 := Scalar.cmpi .ne v73 c0_i32_38
  v74

def k0_cond6 (i : grid0.Coords) : BitVec 1 :=
  let arg1 : BitVec 32 := BitVec.ofNat 32 (i 1).val
  let c0_i32_37 : BitVec 32 := 0#32
  let v72 : BitVec 1 := Scalar.cmpi .eq arg1 c0_i32_37
  let true_39 : BitVec 1 := 1#1
  let v75 : BitVec 1 := Scalar.xori v72 true_39
  let v76 : BitVec 32 := Scalar.extui v75
  let c0_i32_40 : BitVec 32 := 0#32
  let v77 : BitVec 1 := Scalar.cmpi .ne v76 c0_i32_40
  v77

def k0_cond7 (i : grid0.Coords) : BitVec 1 :=
  let arg1 : BitVec 32 := BitVec.ofNat 32 (i 1).val
  let c0_i32_41 : BitVec 32 := 0#32
  let v78 : BitVec 1 := Scalar.cmpi .eq arg1 c0_i32_41
  let arg0 : BitVec 32 := BitVec.ofNat 32 (i 0).val
  let c0_i32_42 : BitVec 32 := 0#32
  let v79 : BitVec 1 := Scalar.cmpi .eq arg0 c0_i32_42
  let v80 : BitVec 1 := Scalar.andi v78 v79
  let v81 : BitVec 32 := Scalar.extui v80
  let c0_i32_43 : BitVec 32 := 0#32
  let v82 : BitVec 1 := Scalar.cmpi .ne v81 c0_i32_43
  v82

def k0_cond8 (i : grid0.Coords) : BitVec 1 :=
  let arg1 : BitVec 32 := BitVec.ofNat 32 (i 1).val
  let c0_i32_41 : BitVec 32 := 0#32
  let v78 : BitVec 1 := Scalar.cmpi .eq arg1 c0_i32_41
  let arg0 : BitVec 32 := BitVec.ofNat 32 (i 0).val
  let c0_i32_42 : BitVec 32 := 0#32
  let v79 : BitVec 1 := Scalar.cmpi .eq arg0 c0_i32_42
  let v80 : BitVec 1 := Scalar.andi v78 v79
  let true_44 : BitVec 1 := 1#1
  let v83 : BitVec 1 := Scalar.xori v80 true_44
  let v84 : BitVec 32 := Scalar.extui v83
  let c0_i32_45 : BitVec 32 := 0#32
  let v85 : BitVec 1 := Scalar.cmpi .ne v84 c0_i32_45
  v85

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference9Ideal.lean ====
abbrev S4096x5632 : Shape := ⟨2, ![4096, 5632]⟩
abbrev S5632x1024 : Shape := ⟨2, ![5632, 1024]⟩
abbrev S4096x1024 : Shape := ⟨2, ![4096, 1024]⟩
abbrev S2x1x1024 : Shape := ⟨3, ![2, 1, 1024]⟩
abbrev S1x1024 : Shape := ⟨2, ![1, 1024]⟩
abbrev S_ : Shape := ⟨0, ![]⟩
abbrev S2x2048x1024 : Shape := ⟨3, ![2, 2048, 1024]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x1024 : Shape := ⟨2, ![2, 1024]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S5632x1024, .f32⟩
  | .hbm, ⟨9, _⟩ => ⟨S4096x1024, .f32⟩
  | .hbm, ⟨10, _⟩ => ⟨S_, .f32⟩
  | .hbm, ⟨11, _⟩ => ⟨S2x1x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S4096x1024, .f32⟩
  | .hbm, ⟨18, _⟩ => ⟨S2x2048x1024, .f32⟩
  | .hbm, ⟨19, _⟩ => ⟨S2x2048x1024, .f32⟩
  | .hbm, ⟨20, _⟩ => ⟨S_, .f32⟩
  | .hbm, ⟨21, _⟩ => ⟨S2x2048, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S4096x1024, .f32⟩
  | .hbm, ⟨47, _⟩ => ⟨S1024x5632, .f32⟩
  | .hbm, ⟨48, _⟩ => ⟨S4096x5632, .f32⟩
  | .hbm, ⟨49, _⟩ => ⟨S4096x5632, .f32⟩
  | .hbm, ⟨50, _⟩ => ⟨S4096x1024, .f32⟩
  | .hbm, ⟨51, _⟩ => ⟨S2x2048x1024, .f32⟩
  | .hbm, ⟨52, _⟩ => ⟨S_, .f32⟩
  | .hbm, ⟨53, _⟩ => ⟨S2x1024, .f32⟩
  | .hbm, ⟨54, _⟩ => ⟨S2x1x1024, .f32⟩
  | .hbm, ⟨55, _⟩ => ⟨S2x2048x1024, .f32⟩
  | .hbm, ⟨56, _⟩ => ⟨S_, .f32⟩
  | .hbm, ⟨57, _⟩ => ⟨S2x1024, .f32⟩
  | .hbm, ⟨58, _⟩ => ⟨S2x1x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S2x2048x1024, .f32⟩
  | .hbm, ⟨66, _⟩ => ⟨S2x2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2x2048x1024, .f32⟩
  | .hbm, ⟨71, _⟩ => ⟨S_, .f32⟩
  | .hbm, ⟨72, _⟩ => ⟨S2x2048, .f32⟩
  | .hbm, ⟨73, _⟩ => ⟨S2x2048x1, .f32⟩
  | .hbm, ⟨74, _⟩ => ⟨S2x2048x1024, .f32⟩
  | .hbm, ⟨75, _⟩ => ⟨S2x2048x1024, .f32⟩
  | .hbm, ⟨76, _⟩ => ⟨S2x2048x1, .f32⟩
  | .hbm, ⟨77, _⟩ => ⟨S_, .f32⟩
  | .hbm, ⟨78, _⟩ => ⟨S2x2048x1, .f32⟩
  | .hbm, ⟨79, _⟩ => ⟨S2x2048x1, .f32⟩
  | .hbm, ⟨80, _⟩ => ⟨S_, .f32⟩
  | .hbm, ⟨81, _⟩ => ⟨S2x2048, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S4096x1024, .f32⟩
  | .hbm, ⟨88, _⟩ => ⟨S4096x1024, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S_, .f32⟩
  | .hbm, ⟨94, _⟩ => ⟨S2x1024, .f32⟩
  | .hbm, ⟨95, _⟩ => ⟨S2x1x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S2x1x1024 : Shape := ⟨3, ![2, 1, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 10
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S2x1x1024 : Shape := ⟨3, ![2, 1, 1024]⟩
abbrev S1x1024 : Shape := ⟨2, ![1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S1x1024, .f32⟩
  | .hbm, ⟨7, _⟩ => ⟨S4096x2816, .f32⟩
  | .hbm, ⟨8, _⟩ => ⟨S2816x1024, .f32⟩
  | .hbm, ⟨9, _⟩ => ⟨S4096x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S4096x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S4096x1024, .bf16⟩
  | .hbm, ⟨41, _⟩ => ⟨S4096x1024, .f32⟩
  | .hbm, ⟨42, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S2x1x1024 : Shape := ⟨3, ![2, 1, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S2x1x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_17 : BitVec 32 := 0#32
  let v26 : BitVec 1 := Scalar.cmpi .ne v25 c0_i32_17
  v26

def k0_cond2 (i : grid0.Coords) : BitVec 1 :=
  let arg1 : BitVec 32 := BitVec.ofNat 32 (i 1).val
  let c0_i32 : BitVec 32 := 0#32
  let v24 : BitVec 1 := Scalar.cmpi .eq arg1 c0_i32
  let v_true : BitVec 1 := 1#1
  let v27 : BitVec 1 := Scalar.xori v24 v_true
  let v28 : BitVec 32 := Scalar.extui v27
  let c0_i32_18 : BitVec 32 := 0#32
  let v29 : BitVec 1 := Scalar.cmpi .ne v28 c0_i32_18
  v29

def k0_cond3 (i : grid0.Coords) : BitVec 1 :=
  let arg1 : BitVec 32 := BitVec.ofNat 32 (i 1).val
  let c0_i32_19 : BitVec 32 := 0#32
  let v30 : BitVec 1 := Scalar.cmpi .eq arg1 c0_i32_19
  let arg0 : BitVec 32 := BitVec.ofNat 32 (i 0).val
  let c0_i32_20 : BitVec 32 := 0#32
  let v31 : BitVec 1 := Scalar.cmpi .eq arg0 c0_i32_20
  let v32 : BitVec 1 := Scalar.andi v30 v31
  let v33 : BitVec 32 := Scalar.extui v32
  let c0_i32_21 : BitVec 32 := 0#32
  let v34 : BitVec 1 := Scalar.cmpi .ne v33 c0_i32_21
  v34

def k0_cond4 (i : grid0.Coords) : BitVec 1 :=
  let arg1 : BitVec 32 := BitVec.ofNat 32 (i 1).val
  let c0_i32_19 : BitVec 32 := 0#32
  let v30 : BitVec 1 := Scalar.cmpi .eq arg1 c0_i32_19
  let arg0 : BitVec 32 := BitVec.ofNat 32 (i 0).val
  let c0_i32_20 : BitVec 32 := 0#32
  let v31 : BitVec 1 := Scalar.cmpi .eq arg0 c0_i32_20
  let v32 : BitVec 1 := Scalar.andi v30 v31
  let true_22 : BitVec 1 := 1#1
  let v35 : BitVec 1 := Scalar.xori v32 true_22
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S2x1x1024 : Shape := ⟨3, ![2, 1, 1024]⟩
abbrev S2x2048x1024 : Shape := ⟨3, ![2, 2048, 1024]⟩
abbrev S_ : Shape := ⟨0, ![]⟩
abbrev S4096 : Shape := ⟨1, ![4096]⟩
abbrev S2x1024 : Shape := ⟨2, ![2, 1024]⟩
abbrev S1024 : Shape := ⟨1, ![1024]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1024, .f32⟩
  | .hbm, ⟨36, _⟩ => ⟨S4096x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel12.lean ====
abbrev S4096x768 : Shape := ⟨2, ![4096, 768]⟩
abbrev S768x1024 : Shape := ⟨2, ![768, 1024]⟩
abbrev S4096x512 : Shape := ⟨2, ![4096, 512]⟩
abbrev S512x1024 : Shape := ⟨2, ![512, 1024]⟩
abbrev S4096x2048 : Shape := ⟨2, ![4096, 2048]⟩
abbrev S2048x1024 : Shape := ⟨2, ![2048, 1024]⟩
abbrev S4096x1024 : Shape := ⟨2, ![4096, 1024]⟩
abbrev S2x1x1024 : Shape := ⟨3, ![2, 1, 1024]⟩
abbrev S1x1024 : Shape := ⟨2, ![1, 1024]⟩
abbrev S2x2048x1024 : Shape := ⟨3, ![2, 2048, 1024]⟩
abbrev S512x768 : Shape := ⟨2, ![512, 768]⟩
abbrev S512x512 : Shape := ⟨2, ![512, 512]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 25
  | .vmem => 31
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x512, .bf16⟩
  | .hbm, ⟨3, _⟩ => ⟨S512x1024, .bf16⟩
  | .hbm, ⟨4, _⟩ => ⟨S4096x2048, .bf16⟩
  | .hbm, ⟨5, _⟩ => ⟨S2048x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S2x1x1024, .f32⟩
  | .hbm, ⟨10, _⟩ => ⟨S2x1x1024, .f32⟩
  | .hbm, ⟨11, _⟩ => ⟨S1x1024, .f32⟩
  | .hbm, ⟨12, _⟩ => ⟨S2x2048x1024, .f32⟩
  | .hbm, ⟨13, _⟩ => ⟨S4096x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S768x1024, .bf16⟩
  | .local _ .vmem, ⟨18, _⟩ => ⟨S512x1024, .bf16⟩
  | .local _ .vmem, ⟨19, _⟩ => ⟨S2048x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v68 : BitVec 1 := Scalar.cmpi .eq arg1 c0_i32
  let v69 : BitVec 32 := Scalar.extui v68
  let c0_i32_41 : BitVec 32 := 0#32
  let v70 : BitVec 1 := Scalar.cmpi .ne v69 c0_i32_41
  v70

def k0_cond2 (i : grid0.Coords) : BitVec 1 :=
  let arg1 : BitVec 32 := BitVec.ofNat 32 (i 1).val
  let c0_i32 : BitVec 32 := 0#32
  let v68 : BitVec 1 := Scalar.cmpi .eq arg1 c0_i32
  let v_true : BitVec 1 := 1#1
  let v71 : BitVec 1 := Scalar.xori v68 v_true
  let v72 : BitVec 32 := Scalar.extui v71
  let c0_i32_42 : BitVec 32 := 0#32
  let v73 : BitVec 1 := Scalar.cmpi .ne v72 c0_i32_42
  v73

def k0_cond3 (i : grid0.Coords) : BitVec 1 :=
  let arg1 : BitVec 32 := BitVec.ofNat 32 (i 1).val
  let c0_i32_43 : BitVec 32 := 0#32
  let v74 : BitVec 1 := Scalar.cmpi .eq arg1 c0_i32_43
  let v75 : BitVec 32 := Scalar.extui v74
  let c0_i32_44 : BitVec 32 := 0#32
  let v76 : BitVec 1 := Scalar.cmpi .ne v75 c0_i32_44
  v76

def k0_cond4 (i : grid0.Coords) : BitVec 1 :=
  let arg1 : BitVec 32 := BitVec.ofNat 32 (i 1).val
  let c0_i32_43 : BitVec 32 := 0#32
  let v74 : BitVec 1 := Scalar.cmpi .eq arg1 c0_i32_43
  let true_45 : BitVec 1 := 1#1
  let v77 : BitVec 1 := Scalar.xori v74 true_45
  let v78 : BitVec 32 := Scalar.extui v77
  let c0_i32_46 : BitVec 32 := 0#32
  let v79 : BitVec 1 := Scalar.cmpi .ne v78 c0_i32_46
  v79

def k0_cond5 (i : grid0.Coords) : BitVec 1 :=
  let arg1 : BitVec 32 := BitVec.ofNat 32 (i 1).val
  let c0_i32_47 : BitVec 32 := 0#32
  let v80 : BitVec 1 := Scalar.cmpi .eq arg1 c0_i32_47
  let v81 : BitVec 32 := Scalar.extui v80
  let c0_i32_48 : BitVec 32 := 0#32
  let v82 : BitVec 1 := Scalar.cmpi .ne v81 c0_i32_48
  v82

def k0_cond6 (i : grid0.Coords) : BitVec 1 :=
  let arg1 : BitVec 32 := BitVec.ofNat 32 (i 1).val
  let c0_i32_47 : BitVec 32 := 0#32
  let v80 : BitVec 1 := Scalar.cmpi .eq arg1 c0_i32_47
  let true_49 : BitVec 1 := 1#1
  let v83 : BitVec 1 := Scalar.xori v80 true_49
  let v84 : BitVec 32 := Scalar.extui v83
  let c0_i32_50 : BitVec 32 := 0#32
  let v85 : BitVec 1 := Scalar.cmpi .ne v84 c0_i32_50
  v85

def k0_cond7 (i : grid0.Coords) : BitVec 1 :=
  let arg1 : BitVec 32 := BitVec.ofNat 32 (i 1).val
  let c0_i32_51 : BitVec 32 := 0#32
  let v86 : BitVec 1 := Scalar.cmpi .eq arg1 c0_i32_51
  let arg0 : BitVec 32 := BitVec.ofNat 32 (i 0).val
  let c0_i32_52 : BitVec 32 := 0#32
  let v87 : BitVec 1 := Scalar.cmpi .eq arg0 c0_i32_52
  let v88 : BitVec 1 := Scalar.andi v86 v87
  let v89 : BitVec 32 := Scalar.extui v88
  let c0_i32_53 : BitVec 32 := 0#32
  let v90 : BitVec 1 := Scalar.cmpi .ne v89 c0_i32_53
  v90

def k0_cond8 (i : grid0.Coords) : BitVec 1 :=
  let arg1 : BitVec 32 := BitVec.ofNat 32 (i 1).val
  let c0_i32_51 : BitVec 32 := 0#32
  let v86 : BitVec 1 := Scalar.cmpi .eq arg1 c0_i32_51
  let arg0 : BitVec 32 := BitVec.ofNat 32 (i 0).val
  let c0_i32_52 : BitVec 32 := 0#32
  let v87 : BitVec 1 := Scalar.cmpi .eq arg0 c0_i32_52
  let v88 : BitVec 1 := Scalar.andi v86 v87
  let true_54 : BitVec 1 := 1#1
  let v91 : BitVec 1 := Scalar.xori v88 true_54
  let v92 : BitVec 32 := Scalar.extui v91
  let c0_i32_55 : BitVec 32 := 0#32
  let v93 : BitVec 1 := Scalar.cmpi .ne v92 c0_i32_55
  v93

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S768x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== Reference12Ideal.lean ====
abbrev S4096x768 : Shape := ⟨2, ![4096, 768]⟩
abbrev S768x1024 : Shape := ⟨2, ![768, 1024]⟩
abbrev S4096x512 : Shape := ⟨2, ![4096, 512]⟩
abbrev S512x1024 : Shape := ⟨2, ![512, 1024]⟩
abbrev S4096x2048 : Shape := ⟨2, ![4096, 2048]⟩
abbrev S2048x1024 : Shape := ⟨2, ![2048, 1024]⟩
abbrev S4096x1024 : Shape := ⟨2, ![4096, 1024]⟩
abbrev S2x1x1024 : Shape := ⟨3, ![2, 1, 1024]⟩
abbrev S1x1024 : Shape := ⟨2, ![1, 1024]⟩
abbrev S_ : Shape := ⟨0, ![]⟩
abbrev S2x2048x1024 : Shape := ⟨3, ![2, 2048, 1024]⟩
abbrev S2x2048 : Shape := ⟨2, ![2, 2048]⟩
abbrev S2x2048x1 : Shape := ⟨3, ![2, 2048, 1]⟩
abbrev S1x1x1024 : Shape := ⟨3, ![1, 1, 1024]⟩
abbrev S1024x768 : Shape := ⟨2, ![1024, 768]⟩
abbrev S1024x512 : Shape := ⟨2, ![1024, 512]⟩
abbrev S1024x2048 : Shape := ⟨2, ![1024, 2048]⟩
abbrev S2x1024 : Shape := ⟨2, ![2, 1024]⟩
abbrev S1024 : Shape := ⟨1, ![1024]⟩

abbrev nBuf : Space → Nat
  | .hbm => 115
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x512, .bf16⟩
  | .hbm, ⟨3, _⟩ => ⟨S512x1024, .bf16⟩
  | .hbm, ⟨4, _⟩ => ⟨S4096x2048, .bf16⟩
  | .hbm, ⟨5, _⟩ => ⟨S2048x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S2x1x1024, .f32⟩
  | .hbm, ⟨10, _⟩ => ⟨S2x1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S4096x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S4096x1024, .f32⟩
  | .hbm, ⟨50, _⟩ => ⟨S768x1024, .f32⟩
  | .hbm, ⟨51, _⟩ => ⟨S1024x768, .f32⟩
  | .hbm, ⟨52, _⟩ => ⟨S4096x768, .f32⟩
  | .hbm, ⟨53, _⟩ => ⟨S512x1024, .f32⟩
  | .hbm, ⟨54, _⟩ => ⟨S1024x512, .f32⟩
  | .hbm, ⟨55, _⟩ => ⟨S4096x512, .f32⟩
  | .hbm, ⟨56, _⟩ => ⟨S2048x1024, .f32⟩
  | .hbm, ⟨57, _⟩ => ⟨S1024x2048, .f32⟩
  | .hbm, ⟨58, _⟩ => ⟨S4096x2048, .f32⟩
  | .hbm, ⟨59, _⟩ => ⟨S4096x768, .f32⟩
  | .hbm, ⟨60, _⟩ => ⟨S4096x512, .f32⟩
  | .hbm, ⟨61, _⟩ => ⟨S4096x2048, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S2x2048x1024, .f32⟩
  | .hbm, ⟨68, _⟩ => ⟨S_, .f32⟩
  | .hbm, ⟨69, _⟩ => ⟨S2x1024, .f32⟩
  | .hbm, ⟨70, _⟩ => ⟨S2x1x1024, .f32⟩
  | .hbm, ⟨71, _⟩ => ⟨S2x2048x1024, .f32⟩
  | .hbm, ⟨72, _⟩ => ⟨S_, .f32⟩
  | .hbm, ⟨73, _⟩ => ⟨S2x1024, .f32⟩
  | .hbm, ⟨74, _⟩ => ⟨S2x1x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S_, .f32⟩
  | .hbm, ⟨79, _⟩ => ⟨S1024, .f32⟩
  | .hbm, ⟨80, _⟩ => ⟨S1x1x1024, .f32⟩
  | .hbm, ⟨81, _⟩ => ⟨S2x2048x1024, .f32⟩
  | .hbm, ⟨82, _⟩ => ⟨S2x2048x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S2x2048x1024, .f32⟩
  | .hbm, ⟨87, _⟩ => ⟨S_, .f32⟩
  | .hbm, ⟨88, _⟩ => ⟨S2x2048, .f32⟩
  | .hbm, ⟨89, _⟩ => ⟨S2x2048x1, .f32⟩
  | .hbm, ⟨90, _⟩ => ⟨S2x2048x1024, .f32⟩
  | .hbm, ⟨91, _⟩ => ⟨S2x2048x1024, .f32⟩
  | .hbm, ⟨92, _⟩ => ⟨S2x2048x1, .f32⟩
  | .hbm, ⟨93, _⟩ => ⟨S_, .f32⟩
  | .hbm, ⟨94, _⟩ => ⟨S2x2048x1, .f32⟩
  | .hbm, ⟨95, _⟩ => ⟨S2x2048x1, .f32⟩
  | .hbm, ⟨96, _⟩ => ⟨S_, .f32⟩
  | .hbm, ⟨97, _⟩ => ⟨S2x2048, .f32⟩
  | .hbm, ⟨98, _⟩ => ⟨S2x2048x1024, .f32⟩
  | .hbm, ⟨99, _⟩ => ⟨S2x2048x1024, .f32⟩
  | .hbm, ⟨100, _⟩ => ⟨S2x2048x1024, .f32⟩
  | .hbm, ⟨101, _⟩ => ⟨S2x2048x1024, .f32⟩
  | .hbm, ⟨102, _⟩ => ⟨S2x2048x1024, .f32⟩
  | .hbm, ⟨103, _⟩ => ⟨S4096x1024, .f32⟩
  | .hbm, ⟨104, _⟩ => ⟨S4096x1024, .f32⟩
  | .hbm, ⟨105, _⟩ => ⟨S2x2048x1024, .f32⟩
  | .hbm, ⟨106, _⟩ => ⟨S2x2048x1024, .f32⟩
  | .hbm, ⟨107, _⟩ => ⟨S2x2048x1024, .f32⟩
  | .hbm, ⟨108, _⟩ => ⟨S2x2048x1024, .f32⟩
  | .hbm, ⟨109, _⟩ => ⟨S_, .f32⟩
  | .hbm, ⟨110, _⟩ => ⟨S2x1024, .f32⟩
  | .hbm, ⟨111, _⟩ => ⟨S2x1x1024, .f32⟩
  | .hbm, ⟨112, _⟩ => ⟨S4096x1024, .f32⟩
  | .hbm, ⟨113, _⟩ => ⟨S4096x1024, .f32⟩
  | .hbm, ⟨114, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Kernel13.lean ====
abbrev S4096x1024 : Shape := ⟨2, ![4096, 1024]⟩
abbrev S5632x1024 : Shape := ⟨2, ![5632, 1024]⟩
abbrev S4096x2816 : Shape := ⟨2, ![4096, 2816]⟩
abbrev S256x1024 : Shape := ⟨2, ![256, 1024]⟩
abbrev S4096x256 : Shape := ⟨2, ![4096, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S4096x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .bf16⟩
  | .hbm, ⟨9, _⟩ => ⟨S4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel14.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 17
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x2816 : Shape := ⟨2, ![4096, 2816]⟩
abbrev S4096x1024 : Shape := ⟨2, ![4096, 1024]⟩
abbrev S4096x5632 : Shape := ⟨2, ![4096, 5632]⟩
abbrev S_ : Shape := ⟨0, ![]⟩
abbrev S2816x1024 : Shape := ⟨2, ![2816, 1024]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x2816, .f32⟩
  | .hbm, ⟨4, _⟩ => ⟨S4096x2816, .f32⟩
  | .hbm, ⟨5, _⟩ => ⟨S4096x5632, .f32⟩
  | .hbm, ⟨6, _⟩ => ⟨S_, .f32⟩
  | .hbm, ⟨7, _⟩ => ⟨S2816x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel15.lean ====
abbrev S4096x2816 : Shape := ⟨2, ![4096, 2816]⟩
abbrev S4096x1024 : Shape := ⟨2, ![4096, 1024]⟩
abbrev S2816x1024 : Shape := ⟨2, ![2816, 1024]⟩
abbrev S4096x5632 : Shape := ⟨2, ![4096, 5632]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 5
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S2816x1024, .bf16⟩
  | .hbm, ⟨4, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S512x5632, .bf16⟩
  | .local _ .vmem, ⟨8, _⟩ => ⟨S512x5632, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4096x2816 : Shape := ⟨2, ![4096, 2816]⟩
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S2816x1024, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x5632, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel18.lean ====
abbrev S4096x1024 : Shape := ⟨2, ![4096, 1024]⟩
abbrev S4096x512 : Shape := ⟨2, ![4096, 512]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel19.lean ====
abbrev S4096x1024 : Shape := ⟨2, ![4096, 1024]⟩
abbrev S4096x384 : Shape := ⟨2, ![4096, 384]⟩
abbrev S1024x384 : Shape := ⟨2, ![1024, 384]⟩
abbrev S4096x512 : Shape := ⟨2, ![4096, 512]⟩
abbrev S512x384 : Shape := ⟨2, ![512, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S1024x384, .bf16⟩
  | .local _ .vmem, ⟨0, _⟩ => ⟨S4096x512, .bf16⟩
  | .local _ .vmem, ⟨1, _⟩ => ⟨S4096x512, .bf16⟩
  | .local _ .vmem, ⟨2, _⟩ => ⟨S4096x384, .bf16⟩
  | .local _ .vmem, ⟨3, _⟩ => ⟨S512x384, .bf16⟩
  | .local _ .vmem, ⟨4, _⟩ => ⟨S512x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x1024 : Shape := ⟨2, ![4096, 1024]⟩
abbrev S4096x384 : Shape := ⟨2, ![4096, 384]⟩
abbrev S_ : Shape := ⟨0, ![]⟩
abbrev S1024x384 : Shape := ⟨2, ![1024, 384]⟩
abbrev S384x1024 : Shape := ⟨2, ![384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S_, .f32⟩
  | .hbm, ⟨3, _⟩ => ⟨S1024x384, .f32⟩
  | .hbm, ⟨4, _⟩ => ⟨S4096x384, .f32⟩
  | .hbm, ⟨5, _⟩ => ⟨S384x1024, .f32⟩
  | .hbm, ⟨6, _⟩ => ⟨S4096x1024, .f32⟩
  | .hbm, ⟨7, _⟩ => ⟨S4096x1024, .f32⟩
  | .hbm, ⟨8, _⟩ => ⟨S1024x384, .f32⟩
  | .hbm, ⟨9, _⟩ => ⟨S384x1024, .f32⟩
  | .hbm, ⟨10, _⟩ => ⟨S1024x384, .f32⟩
  | .hbm, ⟨11, _⟩ => ⟨S1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel20.lean ====
abbrev S4096x1024 : Shape := ⟨2, ![4096, 1024]⟩
abbrev S4096x256 : Shape := ⟨2, ![4096, 256]⟩
abbrev S1024x256 : Shape := ⟨2, ![1024, 256]⟩
abbrev S4096x512 : Shape := ⟨2, ![4096, 512]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S512x256, .bf16⟩
  | .local _ .vmem, ⟨4, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S1024x256, .f32⟩
  | .hbm, ⟨4, _⟩ => ⟨S4096x256, .f32⟩
  | .hbm, ⟨5, _⟩ => ⟨S256x1024, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S1024x256, .f32⟩
  | .hbm, ⟨11, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel21.lean ====
abbrev S4096x1024 : Shape := ⟨2, ![4096, 1024]⟩
abbrev S768x1024 : Shape := ⟨2, ![768, 1024]⟩
abbrev S512x1024 : Shape := ⟨2, ![512, 1024]⟩
abbrev S2048x1024 : Shape := ⟨2, ![2048, 1024]⟩
abbrev S1x384 : Shape := ⟨2, ![1, 384]⟩
abbrev S1x256 : Shape := ⟨2, ![1, 256]⟩
abbrev S4096x768 : Shape := ⟨2, ![4096, 768]⟩
abbrev S4096x512 : Shape := ⟨2, ![4096, 512]⟩
abbrev S4096x2048 : Shape := ⟨2, ![4096, 2048]⟩
abbrev S4096x384 : Shape := ⟨2, ![4096, 384]⟩
abbrev S4096x256 : Shape := ⟨2, ![4096, 256]⟩
abbrev S512x768 : Shape := ⟨2, ![512, 768]⟩
abbrev S512x512 : Shape := ⟨2, ![512, 512]⟩
abbrev S512x2048 : Shape := ⟨2, ![512, 2048]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S512x1024, .bf16⟩
  | .hbm, ⟨3, _⟩ => ⟨S2048x1024, .bf16⟩
  | .hbm, ⟨4, _⟩ => ⟨S1x384, .f32⟩
  | .hbm, ⟨5, _⟩ => ⟨S1x256, .f32⟩
  | .hbm, ⟨6, _⟩ => ⟨S4096x768, .f32⟩
  | .hbm, ⟨7, _⟩ => ⟨S4096x512, .f32⟩
  | .hbm, ⟨8, _⟩ => ⟨S4096x2048, .bf16⟩
  | .hbm, ⟨9, _⟩ => ⟨S4096x384, .bf16⟩
  | .hbm, ⟨10, _⟩ => ⟨S4096x256, .bf16⟩
  | .local _ .vmem, ⟨0, _⟩ => ⟨S512x1024, .bf16⟩
  | .local _ .vmem, ⟨1, _⟩ => ⟨S512x1024, .bf16⟩
  | .local _ .vmem, ⟨2, _⟩ => ⟨S1x384, .f32⟩
  | .local _ .vmem, ⟨3, _⟩ => ⟨S1x256, .f32⟩
  | .local _ .vmem, ⟨4, _⟩ => ⟨S768x1024, .bf16⟩
  | .local _ .vmem, ⟨5, _⟩ => ⟨S512x1024, .bf16⟩
  | .local _ .vmem, ⟨6, _⟩ => ⟨S2048x1024, .bf16⟩
  | .local _ .vmem, ⟨7, _⟩ => ⟨S512x768, .f32⟩
  | .local _ .vmem, ⟨8, _⟩ => ⟨S512x768, .f32⟩
  | .local _ .vmem, ⟨9, _⟩ => ⟨S512x512, .f32⟩
  | .local _ .vmem, ⟨10, _⟩ => ⟨S512x512, .f32⟩
  | .local _ .vmem, ⟨11, _⟩ => ⟨S512x2048, .bf16⟩
  | .local _ .vmem, ⟨12, _⟩ => ⟨S512x2048, .bf16⟩
  | .local _ .vmem, ⟨13, _⟩ => ⟨S512x384, .bf16⟩
  | .local _ .vmem, ⟨14, _⟩ => ⟨S512x384, .bf16⟩
  | .local _ .vmem, ⟨15, _⟩ => ⟨S512x256, .bf16⟩
  | .local _ .vmem, ⟨16, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference21Ideal.lean ====
abbrev S4096x1024 : Shape := ⟨2, ![4096, 1024]⟩
abbrev S768x1024 : Shape := ⟨2, ![768, 1024]⟩
abbrev S512x1024 : Shape := ⟨2, ![512, 1024]⟩
abbrev S2048x1024 : Shape := ⟨2, ![2048, 1024]⟩
abbrev S1x384 : Shape := ⟨2, ![1, 384]⟩
abbrev S1x256 : Shape := ⟨2, ![1, 256]⟩
abbrev S1024x768 : Shape := ⟨2, ![1024, 768]⟩
abbrev S4096x768 : Shape := ⟨2, ![4096, 768]⟩
abbrev S1024x512 : Shape := ⟨2, ![1024, 512]⟩
abbrev S4096x512 : Shape := ⟨2, ![4096, 512]⟩
abbrev S1024x2048 : Shape := ⟨2, ![1024, 2048]⟩
abbrev S4096x2048 : Shape := ⟨2, ![4096, 2048]⟩
abbrev S4096x384 : Shape := ⟨2, ![4096, 384]⟩
abbrev S4096x256 : Shape := ⟨2, ![4096, 256]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S512x1024, .bf16⟩
  | .hbm, ⟨3, _⟩ => ⟨S2048x1024, .bf16⟩
  | .hbm, ⟨4, _⟩ => ⟨S1x384, .f32⟩
  | .hbm, ⟨5, _⟩ => ⟨S1x256, .f32⟩
  | .hbm, ⟨6, _⟩ => ⟨S4096x1024, .f32⟩
  | .hbm, ⟨7, _⟩ => ⟨S768x1024, .f32⟩
  | .hbm, ⟨8, _⟩ => ⟨S1024x768, .f32⟩
  | .hbm, ⟨9, _⟩ => ⟨S4096x768, .f32⟩
  | .hbm, ⟨10, _⟩ => ⟨S4096x1024, .f32⟩
  | .hbm, ⟨11, _⟩ => ⟨S512x1024, .f32⟩
  | .hbm, ⟨12, _⟩ => ⟨S1024x512, .f32⟩
  | .hbm, ⟨13, _⟩ => ⟨S4096x512, .f32⟩
  | .hbm, ⟨14, _⟩ => ⟨S4096x1024, .f32⟩
  | .hbm, ⟨15, _⟩ => ⟨S2048x1024, .f32⟩
  | .hbm, ⟨16, _⟩ => ⟨S1024x2048, .f32⟩
  | .hbm, ⟨17, _⟩ => ⟨S4096x2048, .f32⟩
  | .hbm, ⟨18, _⟩ => ⟨S4096x384, .f32⟩
  | .hbm, ⟨19, _⟩ => ⟨S4096x256, .f32⟩
  | .hbm, ⟨20, _⟩ => ⟨S4096x2048, .bf16⟩
  | .hbm, ⟨21, _⟩ => ⟨S4096x384, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x384, .f32⟩
  | .hbm, ⟨33, _⟩ => ⟨S4096x384, .f32⟩
  | .hbm, ⟨34, _⟩ => ⟨S4096x384, .f32⟩
  | .hbm, ⟨35, _⟩ => ⟨S4096x384, .f32⟩
  | .hbm, ⟨36, _⟩ => ⟨S4096x384, .bf16⟩
  | .hbm, ⟨37, _⟩ => ⟨S4096x256, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel22.lean ====
abbrev S4096x1024 : Shape := ⟨2, ![4096, 1024]⟩
abbrev S4096x2048 : Shape := ⟨2, ![4096, 2048]⟩
abbrev S1024x512 : Shape := ⟨2, ![1024, 512]⟩
abbrev S1024x1024 : Shape := ⟨2, ![1024, 1024]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩

abbrev nBuf : Space → Nat
  | .hbm => 12
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S1024x512, .bf16⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x2048, .bf16⟩
  | .hbm, ⟨10, _⟩ => ⟨S4096x512, .f32⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference22Ideal.lean ====
abbrev S4096x1024 : Shape := ⟨2, ![4096, 1024]⟩
abbrev S4096x2048 : Shape := ⟨2, ![4096, 2048]⟩
abbrev S1024x512 : Shape := ⟨2, ![1024, 512]⟩
abbrev S1024x1024 : Shape := ⟨2, ![1024, 1024]⟩
abbrev S_ : Shape := ⟨0, ![]⟩
abbrev S4096x512 : Shape := ⟨2, ![4096, 512]⟩
abbrev S512x1024 : Shape := ⟨2, ![512, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S1024x512, .bf16⟩
  | .hbm, ⟨5, _⟩ => ⟨S1024x1024, .bf16⟩
  | .hbm, ⟨6, _⟩ => ⟨S1024x1024, .bf16⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S1024x512, .f32⟩
  | .hbm, ⟨12, _⟩ => ⟨S1024x1024, .f32⟩
  | .hbm, ⟨13, _⟩ => ⟨S1024x1024, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x512, .f32⟩
  | .hbm, ⟨41, _⟩ => ⟨S512x1024, .f32⟩
  | .hbm, ⟨42, _⟩ => ⟨S4096x1024, .f32⟩
  | .hbm, ⟨43, _⟩ => ⟨S4096x512, .f32⟩
  | .hbm, ⟨44, _⟩ => ⟨S_, .f32⟩
  | .hbm, ⟨45, _⟩ => ⟨S4096x1024, .f32⟩
  | .hbm, ⟨46, _⟩ => ⟨S1024x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x2048, .bf16⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel23.lean ====
abbrev S4096x2048 : Shape := ⟨2, ![4096, 2048]⟩
abbrev S4096x512 : Shape := ⟨2, ![4096, 512]⟩
abbrev S4096x1024 : Shape := ⟨2, ![4096, 1024]⟩
abbrev S1024x512 : Shape := ⟨2, ![1024, 512]⟩
abbrev S1024x1024 : Shape := ⟨2, ![1024, 1024]⟩
abbrev S2x1x1024 : Shape := ⟨3, ![2, 1, 1024]⟩
abbrev S1x1024 : Shape := ⟨2, ![1, 1024]⟩
abbrev S512x2048 : Shape := ⟨2, ![512, 2048]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 30
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x1024, .bf16⟩
  | .hbm, ⟨3, _⟩ => ⟨S4096x1024, .f32⟩
  | .hbm, ⟨4, _⟩ => ⟨S1024x512, .bf16⟩
  | .hbm, ⟨5, _⟩ => ⟨S1024x1024, .bf16⟩
  | .hbm, ⟨6, _⟩ => ⟨S1024x1024, .bf16⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1024x512, .bf16⟩
  | .local _ .vmem, ⟨16, _⟩ => ⟨S1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference23Ideal.lean ====
abbrev S4096x2048 : Shape := ⟨2, ![4096, 2048]⟩
abbrev S4096x512 : Shape := ⟨2, ![4096, 512]⟩
abbrev S4096x1024 : Shape := ⟨2, ![4096, 1024]⟩
abbrev S1024x512 : Shape := ⟨2, ![1024, 512]⟩
abbrev S1024x1024 : Shape := ⟨2, ![1024, 1024]⟩
abbrev S2x1x1024 : Shape := ⟨3, ![2, 1, 1024]⟩
abbrev S1x1024 : Shape := ⟨2, ![1, 1024]⟩
abbrev S512x1024 : Shape := ⟨2, ![512, 1024]⟩
abbrev S_ : Shape := ⟨0, ![]⟩
abbrev S2x2048x1024 : Shape := ⟨3, ![2, 2048, 1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x1024, .bf16⟩
  | .hbm, ⟨3, _⟩ => ⟨S4096x1024, .f32⟩
  | .hbm, ⟨4, _⟩ => ⟨S1024x512, .bf16⟩
  | .hbm, ⟨5, _⟩ => ⟨S1024x1024, .bf16⟩
  | .hbm, ⟨6, _⟩ => ⟨S1024x1024, .bf16⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S1x1024, .f32⟩
  | .hbm, ⟨11, _⟩ => ⟨S4096x2048, .f32⟩
  | .hbm, ⟨12, _⟩ => ⟨S4096x512, .f32⟩
  | .hbm, ⟨13, _⟩ => ⟨S4096x1024, .f32⟩
  | .hbm, ⟨14, _⟩ => ⟨S1024x512, .f32⟩
  | .hbm, ⟨15, _⟩ => ⟨S1024x1024, .f32⟩
  | .hbm, ⟨16, _⟩ => ⟨S1024x1024, .f32⟩
  | .hbm, ⟨17, _⟩ => ⟨S512x1024, .f32⟩
  | .hbm, ⟨18, _⟩ => ⟨S4096x1024, .f32⟩
  | .hbm, ⟨19, _⟩ => ⟨S1024x1024, .f32⟩
  | .hbm, ⟨20, _⟩ => ⟨S4096x1024, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S4096x1024, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S2x2048, .f32⟩
  | .hbm, ⟨45, _⟩ => ⟨S2x2048x1, .f32⟩
  | .hbm, ⟨46, _⟩ => ⟨S_, .f32⟩
  | .hbm, ⟨47, _⟩ => ⟨S2x2048x1, .f32⟩
  | .hbm, ⟨48, _⟩ => ⟨S2x2048x1, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S2x2048x1, .f32⟩
  | .hbm, ⟨53, _⟩ => ⟨S2x2048x1024, .f32⟩
  | .hbm, ⟨54, _⟩ => ⟨S2x2048x1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x1x1024, .f32⟩
  | .hbm, ⟨60, _⟩ => ⟨S2x1x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S4096x1024, .bf16⟩
  | .hbm, ⟨66, _⟩ => ⟨S4096x1024, .f32⟩
  | .hbm, ⟨67, _⟩ => ⟨S4096x1024, .bf16⟩
  | .hbm, ⟨68, _⟩ => ⟨S4096x1024, .bf16⟩
  | .hbm, ⟨69, _⟩ => ⟨S4096x1024, .bf16⟩
  | .hbm, ⟨70, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Proof.Math.lean ====
/- The gradients of causal attention of one head over one sequence, as sums of real numbers: what the kernel's
   block and the reference's rows are both shown to be. A row is a query position, a column a key position. -/
module

public import Idealize.ShloMosaic.Lib.Pointwise

@[expose] public section

noncomputable section

namespace Cert.Proof.Attn

open Idealize.ShloMosaic

/-- One head's rows: 2048 positions of 128 channels. -/
abbrev Mat := Fin 2048 → Fin 128 → ℝ

/-- The inner product of row `r` of `a` with row `c` of `b`. -/
def dot (a b : Mat) (r c : Fin 2048) : ℝ := ∑ d : Fin 128, a r d * b c d

/-- The softmax's weight of key `c` for query `r`, from the row's logarithm of the sum of exponentials `L r`. -/
def wt (σ : ℝ) (q k : Mat) (L : Fin 2048 → ℝ) (r c : Fin 2048) : ℝ :=
  if c.val ≤ r.val then Real.exp (dot q k r c * σ - L r) else 0

/-- The gradient of the score of key `c` for query `r`: `w` the result's cotangent, `o` the result. -/
def sc (σ : ℝ) (q k v w o : Mat) (L : Fin 2048 → ℝ) (r c : Fin 2048) : ℝ :=
  wt σ q k L r c * (dot w v r c - dot w o r r) * σ

/-- The gradient of the queries. -/
def dq (σ : ℝ) (q k v w o : Mat) (L : Fin 2048 → ℝ) (r : Fin 2048) (d : Fin 128) : ℝ :=
  ∑ c : Fin 2048, sc σ q k v w o L r c * k c d

/-- The gradient of the keys from the queries before row `n`. -/
def dkTo (σ : ℝ) (q k v w o : Mat) (L : Fin 2048 → ℝ) (n : ℕ) (c : Fin 2048) (d : Fin 128) : ℝ :=
  ∑ r : Fin 2048, if r.val < n then sc σ q k v w o L r c * q r d else 0

/-- The gradient of the values from the queries before row `n`. -/
def dvTo (σ : ℝ) (q k w : Mat) (L : Fin 2048 → ℝ) (n : ℕ) (c : Fin 2048) (d : Fin 128) : ℝ :=
  ∑ r : Fin 2048, if r.val < n then wt σ q k L r c * w r d else 0

/-- A sum of products of reals is the real sum. -/
theorem coe_dot {ι : Type} (s : Finset ι) (f g : ι → ℝ) :
    ∑ i ∈ s, (f i : EReal) * (g i : EReal) = ((∑ i ∈ s, f i * g i : ℝ) : EReal) := by
  classical
  induction s using Finset.induction_on with
  | empty => simp
  | insert a s ha ih => rw [Finset.sum_insert ha, Finset.sum_insert ha, ih, EReal.coe_add, EReal.coe_mul]

theorem coe_sum' {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over all positions whose terms vanish from `n` on is the sum over the first `n`. -/
theorem sum_prefix (n : ℕ) (hn : n ≤ 2048) (f : Fin 2048 → ℝ) (hf : ∀ c : Fin 2048, n ≤ c.val → f c = 0) :
    ∑ c : Fin n, f ⟨c.val, by omega⟩ = ∑ c : Fin 2048, f c := by
  have h : (∑ c : Fin n, f ⟨c.val, by omega⟩) = ∑ c ∈ Finset.univ.map (Fin.castLEEmb hn), f c := by
    rw [Finset.sum_map]; rfl
  rw [h]
  refine Finset.sum_subset (Finset.subset_univ _) fun c _ hc => hf c ?_
  by_contra hlt
  refine hc (Finset.mem_map.mpr ⟨⟨c.val, by omega⟩, Finset.mem_univ _, ?_⟩)
  ext; rfl

/-- The sum up to row `n + 256` is the sum up to row `n` and the 256 rows from `n` on. -/
theorem sum_to_step (n : ℕ) (hn : n + 256 ≤ 2048) (f : Fin 2048 → ℝ) :
    (∑ r : Fin 2048, if r.val < n + 256 then f r else 0) =
      (∑ r : Fin 2048, if r.val < n then f r else 0) + ∑ r : Fin 256, f ⟨n + r.val, by omega⟩ := by
  have h : ∑ r : Fin 256, f ⟨n + r.val, by omega⟩ =
      ∑ r : Fin 2048, if n ≤ r.val ∧ r.val < n + 256 then f r else 0 := by
    rw [← Finset.sum_filter]
    refine Finset.sum_bij (fun r _ => ⟨n + r.val, by omega⟩) ?_ ?_ ?_ ?_
    · intro r _; simp
    · intro a _ b _ hab; ext; simpa using hab
    · intro b hb
      simp only [Finset.mem_filter, Finset.mem_univ, true_and] at hb
      exact ⟨⟨b.val - n, by omega⟩, Finset.mem_univ _, by ext; simp; omega⟩
    · intro r _; rfl
  rw [h, ← Finset.sum_add_distrib]
  refine Finset.sum_congr rfl fun r _ => ?_
  by_cases h1 : r.val < n
  · rw [if_pos h1, if_pos (by omega), if_neg (by omega), add_zero]
  · by_cases h2 : r.val < n + 256
    · rw [if_neg h1, if_pos h2, if_pos (by omega), zero_add]
    · rw [if_neg h1, if_neg h2, if_neg (by omega), zero_add]

variable {σ : ℝ} {q k v w o : Mat} {L : Fin 2048 → ℝ}

theorem wt_eq_zero {r c : Fin 2048} (h : r.val < c.val) : wt σ q k L r c = 0 := if_neg (by omega)

theorem sc_eq_zero {r c : Fin 2048} (h : r.val < c.val) : sc σ q k v w o L r c = 0 := by
  rw [sc, wt_eq_zero h, zero_mul, zero_mul]

/-- A tile's queries read only the first `n` keys. -/
theorem dq_prefix (n : ℕ) (hn : n ≤ 2048) (r : Fin 2048) (hr : r.val < n) (d : Fin 128) :
    ∑ c : Fin n, sc σ q k v w o L r ⟨c.val, by omega⟩ * k ⟨c.val, by omega⟩ d = dq σ q k v w o L r d :=
  sum_prefix n hn (fun c => sc σ q k v w o L r c * k c d) fun c hc => by
    rw [sc_eq_zero (by omega), zero_mul]

theorem dkTo_zero (c : Fin 2048) (d : Fin 128) : dkTo σ q k v w o L 0 c d = 0 := by simp [dkTo]

theorem dvTo_zero (c : Fin 2048) (d : Fin 128) : dvTo σ q k w L 0 c d = 0 := by simp [dvTo]

theorem dkTo_step (n : ℕ) (hn : n + 256 ≤ 2048) (c : Fin 2048) (d : Fin 128) :
    dkTo σ q k v w o L (n + 256) c d =
      dkTo σ q k v w o L n c d + ∑ r : Fin 256, sc σ q k v w o L ⟨n + r.val, by omega⟩ c * q ⟨n + r.val, by omega⟩ d :=
  sum_to_step n hn fun r => sc σ q k v w o L r c * q r d

theorem dvTo_step (n : ℕ) (hn : n + 256 ≤ 2048) (c : Fin 2048) (d : Fin 128) :
    dvTo σ q k w L (n + 256) c d =
      dvTo σ q k w L n c d + ∑ r : Fin 256, wt σ q k L ⟨n + r.val, by omega⟩ c * w ⟨n + r.val, by omega⟩ d :=
  sum_to_step n hn fun r => wt σ q k L r c * w r d

/-- No query before row `n` reads a key from row `n` on. -/
theorem dkTo_of_le (n : ℕ) (c : Fin 2048) (h : n ≤ c.val) (d : Fin 128) : dkTo σ q k v w o L n c d = 0 :=
  Finset.sum_eq_zero fun r _ => by
    by_cases hr : r.val < n
    · rw [if_pos hr, sc_eq_zero (by omega), zero_mul]
    · exact if_neg hr

theorem dvTo_of_le (n : ℕ) (c : Fin 2048) (h : n ≤ c.val) (d : Fin 128) : dvTo σ q k w L n c d = 0 :=
  Finset.sum_eq_zero fun r _ => by
    by_cases hr : r.val < n
    · rw [if_pos hr, wt_eq_zero (by omega), zero_mul]
    · exact if_neg hr

end Cert.Proof.Attn

end
-- ==== Proof.Tiles.lean ====
/- The kernel's eight steps, step `i` on query rows 256 i to 256 i + 255 against the first 256 (i + 1) keys: what each
   step computes at an index, when the rows it loads are the real rows of one head. The five facts of a step are the
   softmax's weights, the scores' gradients, the rows of the queries' gradient, and the two accumulators after it. -/
module

public import proofs.«01_k».proof.Proof.Gen.KernelIdeal.Skeleton
public import proofs.«01_k».proof.Proof.Math
public import Idealize.ShloMosaic.Lib.WordCmp

@[expose] public section

set_option maxRecDepth 16384

noncomputable section

namespace Cert.Proof.Attn

open Idealize.ShloMosaic Cert.KernelIdeal Cert.KernelIdeal.Gen Pointwise

variable {σ : ℝ} {q k v w o : Mat} {L : Fin 2048 → ℝ}

theorem mask_bot : (Named.named κ "mask" 0xF149F2CA#32 : Ideal .f32) = (⊥ : EReal) :=
  IdealRules.named_const.ideal_named_scalar _ _ _ _ rfl

/-- A score less the row's logarithm, exponentiated: the weight of a key the query sees. -/
theorem seen (hσ : Ideal.ofBits .f32 0x3DD105EC#32 = (σ : EReal)) {r c : Fin 2048} (h : c.val ≤ r.val) :
    Ideal.exp ((∑ x : Fin 128, (q r x : EReal) * (k c x : EReal)) * Ideal.ofBits .f32 0x3DD105EC#32 - (L r : EReal)) =
      ((wt σ q k L r c : ℝ) : EReal) := by
  rw [hσ, coe_dot, ← EReal.coe_mul, ← EReal.coe_sub, Ideal.exp_coe, wt, if_pos h]
  rfl

/-- The same in the last 256 keys, where the kernel compares the key's place with the query's. -/
theorem diag (hσ : Ideal.ofBits .f32 0x3DD105EC#32 = (σ : EReal)) (n : ℕ) (hn : n + 256 ≤ 2048) (r : Fin 256) (c : ℕ)
    (h₀ : n ≤ c) (h₁ : c < n + 256) (e : ℕ) (he : e = c - n) (f : ℕ) (hf : f < 2048) (hfe : f = c) :
    Ideal.exp (Scalar.select (IntOp.cmpi .sle (BitVec.ofNat 32 e) (BitVec.ofNat 32 r.val))
        ((∑ x : Fin 128, (q ⟨n + r.val, by omega⟩ x : EReal) * (k ⟨f, hf⟩ x : EReal)) *
          Ideal.ofBits .f32 0x3DD105EC#32)
        (Named.named κ "mask" 0xF149F2CA#32 : Ideal .f32) - (L ⟨n + r.val, by omega⟩ : EReal)) =
      ((wt σ q k L ⟨n + r.val, by omega⟩ ⟨c, by omega⟩ : ℝ) : EReal) := by
  subst hfe he
  rw [WordCmp.cmpi_sle_ofNat (by omega) (by omega), WordCmp.select_ofBool]
  by_cases hc : f - n ≤ r.val
  · rw [if_pos (by simpa using hc)]
    exact seen hσ (by show f ≤ n + r.val; omega)
  · rw [if_neg (by simpa using hc), mask_bot, wt_eq_zero (by show n + r.val < f; omega)]
    rw [EReal.bot_sub, Ideal.exp_bot]; rfl

/-- The score's gradient from the weight. -/
theorem grad (hσ : Ideal.ofBits .f32 0x3DD105EC#32 = (σ : EReal)) (r c : Fin 2048) :
    ((wt σ q k L r c : ℝ) : EReal) * ((∑ x : Fin 128, (w r x : EReal) * (v c x : EReal)) -
      ∑ x : Fin 128, (w r x : EReal) * (o r x : EReal)) * Ideal.ofBits .f32 0x3DD105EC#32 =
      ((sc σ q k v w o L r c : ℝ) : EReal) := by
  rw [hσ, coe_dot, coe_dot, ← EReal.coe_sub, ← EReal.coe_mul, ← EReal.coe_mul]
  rfl

/-- Rows of the queries' gradient from the first `n` keys. -/
theorem rowsQ (n : ℕ) (hn : n ≤ 2048) (r : Fin 2048) (hr : r.val < n) (d : Fin 128) :
    ∑ c : Fin n, ((sc σ q k v w o L r ⟨c.val, by omega⟩ : ℝ) : EReal) * (k ⟨c.val, by omega⟩ d : EReal) =
      ((dq σ q k v w o L r d : ℝ) : EReal) := by
  rw [coe_dot, ← dq_prefix n hn r hr d]

/-- The keys' accumulator after the 256 queries from row `n` on. -/
theorem accK (n : ℕ) (hn : n + 256 ≤ 2048) (c : Fin 2048) (d : Fin 128) :
    ((dkTo σ q k v w o L n c d : ℝ) : EReal) + ∑ r : Fin 256, ((sc σ q k v w o L ⟨n + r.val, by omega⟩ c : ℝ) : EReal) *
      (q ⟨n + r.val, by omega⟩ d : EReal) = ((dkTo σ q k v w o L (n + 256) c d : ℝ) : EReal) := by
  rw [coe_dot, ← EReal.coe_add, dkTo_step n hn]

/-- The values' accumulator after the 256 queries from row `n` on. -/
theorem accV (n : ℕ) (hn : n + 256 ≤ 2048) (c : Fin 2048) (d : Fin 128) :
    ((dvTo σ q k w L n c d : ℝ) : EReal) + ∑ r : Fin 256, ((wt σ q k L ⟨n + r.val, by omega⟩ c : ℝ) : EReal) *
      (w ⟨n + r.val, by omega⟩ d : EReal) = ((dvTo σ q k w L (n + 256) c d : ℝ) : EReal) := by
  rw [coe_dot, ← EReal.coe_add, dvTo_step n hn]

theorem wt0 (hσ : Ideal.ofBits .f32 0x3DD105EC#32 = (σ : EReal)) {xq : Vec Ideal S256x128 .bf16} {xk : Vec Ideal S256x128 .bf16} {xl : Vec Ideal S256x128 .f32}
    (hq : ∀ (r : Fin 256) (d : Fin 128), xq (ix2 r d) = ((q ⟨r.val, by omega⟩ d : ℝ) : EReal))
    (hk : ∀ (r : Fin 256) (d : Fin 128), xk (ix2 r d) = ((k ⟨r.val, by omega⟩ d : ℝ) : EReal))
    (hl : ∀ (r : Fin 256) (d : Fin 128), xl (ix2 r d) = ((L ⟨r.val, by omega⟩ : ℝ) : EReal))
    (r : Fin 256) (c : Fin 256) :
    (k0_pay5 xq xk xl : FVec Ideal S256x256 .f32) (ix2 r c) = ((wt σ q k L ⟨r.val, by omega⟩ ⟨c.val, by omega⟩ : ℝ) : EReal) := by
  pointwise [k0_pay5, hq, hk, hl]
  simp only [dite_eq_ite, ite_self]
  have h := diag (q := q) (k := k) (L := L) hσ 0 (by omega) r c.val (by omega) (by omega) c.val (by omega) c.val (by omega) rfl
  simp only [Nat.zero_add] at h
  exact h

theorem sc0 (hσ : Ideal.ofBits .f32 0x3DD105EC#32 = (σ : EReal)) {cs : Ideal .f32} (hcs : cs = Ideal.ofBits .f32 0x3DD105EC#32)
    {xq : Vec Ideal S256x128 .bf16} {xw : Vec Ideal S256x128 .bf16} {xo : Vec Ideal S256x128 .bf16} {xk : Vec Ideal S256x128 .bf16} {xv : Vec Ideal S256x128 .bf16} {xl : Vec Ideal S256x128 .f32}
    (hq : ∀ (r : Fin 256) (d : Fin 128), xq (ix2 r d) = ((q ⟨r.val, by omega⟩ d : ℝ) : EReal))
    (hw : ∀ (r : Fin 256) (d : Fin 128), xw (ix2 r d) = ((w ⟨r.val, by omega⟩ d : ℝ) : EReal))
    (ho : ∀ (r : Fin 256) (d : Fin 128), xo (ix2 r d) = ((o ⟨r.val, by omega⟩ d : ℝ) : EReal))
    (hk : ∀ (r : Fin 256) (d : Fin 128), xk (ix2 r d) = ((k ⟨r.val, by omega⟩ d : ℝ) : EReal))
    (hv : ∀ (r : Fin 256) (d : Fin 128), xv (ix2 r d) = ((v ⟨r.val, by omega⟩ d : ℝ) : EReal))
    (hl : ∀ (r : Fin 256) (d : Fin 128), xl (ix2 r d) = ((L ⟨r.val, by omega⟩ : ℝ) : EReal))
    (r : Fin 256) (c : Fin 256) :
    (k0_pay7 (k0_pay6 xq xw xo xk xl xv) cs : FVec Ideal S256x256 .bf16) (ix2 r c) = ((sc σ q k v w o L ⟨r.val, by omega⟩ ⟨c.val, by omega⟩ : ℝ) : EReal) := by
  pointwise [k0_pay7, k0_pay6, hw, ho, hv, wt0 hσ hq hk hl]
  rw [hcs]
  exact grad hσ _ _

theorem rows0 (hσ : Ideal.ofBits .f32 0x3DD105EC#32 = (σ : EReal)) {cs : Ideal .f32} (hcs : cs = Ideal.ofBits .f32 0x3DD105EC#32)
    {xq : Vec Ideal S256x128 .bf16} {xw : Vec Ideal S256x128 .bf16} {xo : Vec Ideal S256x128 .bf16} {xk : Vec Ideal S256x128 .bf16} {xv : Vec Ideal S256x128 .bf16} {xl : Vec Ideal S256x128 .f32}
    (hq : ∀ (r : Fin 256) (d : Fin 128), xq (ix2 r d) = ((q ⟨r.val, by omega⟩ d : ℝ) : EReal))
    (hw : ∀ (r : Fin 256) (d : Fin 128), xw (ix2 r d) = ((w ⟨r.val, by omega⟩ d : ℝ) : EReal))
    (ho : ∀ (r : Fin 256) (d : Fin 128), xo (ix2 r d) = ((o ⟨r.val, by omega⟩ d : ℝ) : EReal))
    (hk : ∀ (r : Fin 256) (d : Fin 128), xk (ix2 r d) = ((k ⟨r.val, by omega⟩ d : ℝ) : EReal))
    (hv : ∀ (r : Fin 256) (d : Fin 128), xv (ix2 r d) = ((v ⟨r.val, by omega⟩ d : ℝ) : EReal))
    (hl : ∀ (r : Fin 256) (d : Fin 128), xl (ix2 r d) = ((L ⟨r.val, by omega⟩ : ℝ) : EReal))
    (r : Fin 256) (d : Fin 128) :
    (k0_pay8 (k0_pay6 xq xw xo xk xl xv) cs xk : FVec Ideal S256x128 .f32) (ix2 r d) = ((dq σ q k v w o L ⟨r.val, by omega⟩ d : ℝ) : EReal) := by
  pointwise [k0_pay8, hk, sc0 hσ hcs hq hw ho hk hv hl]
  exact rowsQ 256 (by omega) _ (by first | (show r.val < 256; omega) | (show 0 + r.val < 256; omega)) d

theorem accK0 (hσ : Ideal.ofBits .f32 0x3DD105EC#32 = (σ : EReal)) {cs : Ideal .f32} (hcs : cs = Ideal.ofBits .f32 0x3DD105EC#32)
    {xq : Vec Ideal S256x128 .bf16} {xw : Vec Ideal S256x128 .bf16} {xo : Vec Ideal S256x128 .bf16} {xk : Vec Ideal S256x128 .bf16} {xv : Vec Ideal S256x128 .bf16} {xl : Vec Ideal S256x128 .f32} {xa : Vec Ideal S256x128 .f32}
    (hq : ∀ (r : Fin 256) (d : Fin 128), xq (ix2 r d) = ((q ⟨r.val, by omega⟩ d : ℝ) : EReal))
    (hw : ∀ (r : Fin 256) (d : Fin 128), xw (ix2 r d) = ((w ⟨r.val, by omega⟩ d : ℝ) : EReal))
    (ho : ∀ (r : Fin 256) (d : Fin 128), xo (ix2 r d) = ((o ⟨r.val, by omega⟩ d : ℝ) : EReal))
    (hk : ∀ (r : Fin 256) (d : Fin 128), xk (ix2 r d) = ((k ⟨r.val, by omega⟩ d : ℝ) : EReal))
    (hv : ∀ (r : Fin 256) (d : Fin 128), xv (ix2 r d) = ((v ⟨r.val, by omega⟩ d : ℝ) : EReal))
    (hl : ∀ (r : Fin 256) (d : Fin 128), xl (ix2 r d) = ((L ⟨r.val, by omega⟩ : ℝ) : EReal))
    (ha : ∀ (c : Fin 256) (d : Fin 128), xa (ix2 c d) = ((dkTo σ q k v w o L 0 ⟨c.val, by omega⟩ d : ℝ) : EReal))
    (c : Fin 256) (d : Fin 128) :
    (k0_pay9 xq (k0_pay6 xq xw xo xk xl xv) cs xa : FVec Ideal S256x128 .f32) (ix2 c d) = ((dkTo σ q k v w o L 256 ⟨c.val, by omega⟩ d : ℝ) : EReal) := by
  pointwise [k0_pay9, hq, ha, sc0 hσ hcs hq hw ho hk hv hl]
  have h := accK (L := L) (q := q) (k := k) (w := w) (v := v) (o := o) (σ := σ) 0 (by omega) ⟨c.val, by omega⟩ d
  simp only [Nat.zero_add] at h
  exact h

theorem accV0 (hσ : Ideal.ofBits .f32 0x3DD105EC#32 = (σ : EReal)) {xq : Vec Ideal S256x128 .bf16} {xw : Vec Ideal S256x128 .bf16} {xk : Vec Ideal S256x128 .bf16} {xl : Vec Ideal S256x128 .f32} {xa : Vec Ideal S256x128 .f32}
    (hq : ∀ (r : Fin 256) (d : Fin 128), xq (ix2 r d) = ((q ⟨r.val, by omega⟩ d : ℝ) : EReal))
    (hw : ∀ (r : Fin 256) (d : Fin 128), xw (ix2 r d) = ((w ⟨r.val, by omega⟩ d : ℝ) : EReal))
    (hk : ∀ (r : Fin 256) (d : Fin 128), xk (ix2 r d) = ((k ⟨r.val, by omega⟩ d : ℝ) : EReal))
    (hl : ∀ (r : Fin 256) (d : Fin 128), xl (ix2 r d) = ((L ⟨r.val, by omega⟩ : ℝ) : EReal))
    (ha : ∀ (c : Fin 256) (d : Fin 128), xa (ix2 c d) = ((dvTo σ q k w L 0 ⟨c.val, by omega⟩ d : ℝ) : EReal))
    (c : Fin 256) (d : Fin 128) :
    (k0_pay10 xw (k0_pay5 xq xk xl) xa : FVec Ideal S256x128 .f32) (ix2 c d) = ((dvTo σ q k w L 256 ⟨c.val, by omega⟩ d : ℝ) : EReal) := by
  pointwise [k0_pay10, hw, ha, wt0 hσ hq hk hl]
  have h := accV (L := L) (q := q) (k := k) (w := w) (σ := σ) 0 (by omega) ⟨c.val, by omega⟩ d
  simp only [Nat.zero_add] at h
  exact h

theorem wt1 (hσ : Ideal.ofBits .f32 0x3DD105EC#32 = (σ : EReal)) {xq : Vec Ideal S256x128 .bf16} {xk : Vec Ideal S512x128 .bf16} {xl : Vec Ideal S256x128 .f32}
    (hq : ∀ (r : Fin 256) (d : Fin 128), xq (ix2 r d) = ((q ⟨256 + r.val, by omega⟩ d : ℝ) : EReal))
    (hk : ∀ (r : Fin 512) (d : Fin 128), xk (ix2 r d) = ((k ⟨r.val, by omega⟩ d : ℝ) : EReal))
    (hl : ∀ (r : Fin 256) (d : Fin 128), xl (ix2 r d) = ((L ⟨256 + r.val, by omega⟩ : ℝ) : EReal))
    (r : Fin 256) (c : Fin 512) :
    (k0_pay13 (k0_pay12 xq xk) (iota .tc S256x256 32 [0] iota_S256x256_d0_w32) xl : FVec Ideal S256x512 .f32) (ix2 r c) = ((wt σ q k L ⟨256 + r.val, by omega⟩ ⟨c.val, by omega⟩ : ℝ) : EReal) := by
  pointwise [k0_pay13, k0_pay12, hq, hk, hl]
  simp only [dite_eq_ite, ite_self]
  by_cases h : c.val < 256
  · rw [dif_pos h]; exact seen hσ (by show c.val ≤ 256 + r.val; omega)
  · rw [dif_neg h]; exact diag hσ 256 (by omega) r c.val (by omega) (by omega) _ rfl _ (by omega) (by omega)

theorem sc1 (hσ : Ideal.ofBits .f32 0x3DD105EC#32 = (σ : EReal)) {xq : Vec Ideal S256x128 .bf16} {xw : Vec Ideal S256x128 .bf16} {xo : Vec Ideal S256x128 .bf16} {xk : Vec Ideal S512x128 .bf16} {xv : Vec Ideal S512x128 .bf16} {xl : Vec Ideal S256x128 .f32}
    (hq : ∀ (r : Fin 256) (d : Fin 128), xq (ix2 r d) = ((q ⟨256 + r.val, by omega⟩ d : ℝ) : EReal))
    (hw : ∀ (r : Fin 256) (d : Fin 128), xw (ix2 r d) = ((w ⟨256 + r.val, by omega⟩ d : ℝ) : EReal))
    (ho : ∀ (r : Fin 256) (d : Fin 128), xo (ix2 r d) = ((o ⟨256 + r.val, by omega⟩ d : ℝ) : EReal))
    (hk : ∀ (r : Fin 512) (d : Fin 128), xk (ix2 r d) = ((k ⟨r.val, by omega⟩ d : ℝ) : EReal))
    (hv : ∀ (r : Fin 512) (d : Fin 128), xv (ix2 r d) = ((v ⟨r.val, by omega⟩ d : ℝ) : EReal))
    (hl : ∀ (r : Fin 256) (d : Fin 128), xl (ix2 r d) = ((L ⟨256 + r.val, by omega⟩ : ℝ) : EReal))
    (r : Fin 256) (c : Fin 512) :
    (k0_pay14 xw (k0_pay11 xw xo) (k0_pay12 xq xk) (iota .tc S256x256 32 [0] iota_S256x256_d0_w32) xl xv : FVec Ideal S256x512 .bf16) (ix2 r c) = ((sc σ q k v w o L ⟨256 + r.val, by omega⟩ ⟨c.val, by omega⟩ : ℝ) : EReal) := by
  pointwise [k0_pay14, k0_pay11, hw, ho, hv, wt1 hσ hq hk hl]
  exact grad hσ _ _

theorem rows1 (hσ : Ideal.ofBits .f32 0x3DD105EC#32 = (σ : EReal)) {xq : Vec Ideal S256x128 .bf16} {xw : Vec Ideal S256x128 .bf16} {xo : Vec Ideal S256x128 .bf16} {xk : Vec Ideal S512x128 .bf16} {xv : Vec Ideal S512x128 .bf16} {xl : Vec Ideal S256x128 .f32}
    (hq : ∀ (r : Fin 256) (d : Fin 128), xq (ix2 r d) = ((q ⟨256 + r.val, by omega⟩ d : ℝ) : EReal))
    (hw : ∀ (r : Fin 256) (d : Fin 128), xw (ix2 r d) = ((w ⟨256 + r.val, by omega⟩ d : ℝ) : EReal))
    (ho : ∀ (r : Fin 256) (d : Fin 128), xo (ix2 r d) = ((o ⟨256 + r.val, by omega⟩ d : ℝ) : EReal))
    (hk : ∀ (r : Fin 512) (d : Fin 128), xk (ix2 r d) = ((k ⟨r.val, by omega⟩ d : ℝ) : EReal))
    (hv : ∀ (r : Fin 512) (d : Fin 128), xv (ix2 r d) = ((v ⟨r.val, by omega⟩ d : ℝ) : EReal))
    (hl : ∀ (r : Fin 256) (d : Fin 128), xl (ix2 r d) = ((L ⟨256 + r.val, by omega⟩ : ℝ) : EReal))
    (r : Fin 256) (d : Fin 128) :
    (k0_pay15 xw (k0_pay11 xw xo) (k0_pay12 xq xk) (iota .tc S256x256 32 [0] iota_S256x256_d0_w32) xl xv xk : FVec Ideal S256x128 .f32) (ix2 r d) = ((dq σ q k v w o L ⟨256 + r.val, by omega⟩ d : ℝ) : EReal) := by
  pointwise [k0_pay15, hk, sc1 hσ hq hw ho hk hv hl]
  exact rowsQ 512 (by omega) _ (by first | (show r.val < 512; omega) | (show 256 + r.val < 512; omega)) d

theorem accK1 (hσ : Ideal.ofBits .f32 0x3DD105EC#32 = (σ : EReal)) {xq : Vec Ideal S256x128 .bf16} {xw : Vec Ideal S256x128 .bf16} {xo : Vec Ideal S256x128 .bf16} {xk : Vec Ideal S512x128 .bf16} {xv : Vec Ideal S512x128 .bf16} {xl : Vec Ideal S256x128 .f32} {xa : Vec Ideal S512x128 .f32}
    (hq : ∀ (r : Fin 256) (d : Fin 128), xq (ix2 r d) = ((q ⟨256 + r.val, by omega⟩ d : ℝ) : EReal))
    (hw : ∀ (r : Fin 256) (d : Fin 128), xw (ix2 r d) = ((w ⟨256 + r.val, by omega⟩ d : ℝ) : EReal))
    (ho : ∀ (r : Fin 256) (d : Fin 128), xo (ix2 r d) = ((o ⟨256 + r.val, by omega⟩ d : ℝ) : EReal))
    (hk : ∀ (r : Fin 512) (d : Fin 128), xk (ix2 r d) = ((k ⟨r.val, by omega⟩ d : ℝ) : EReal))
    (hv : ∀ (r : Fin 512) (d : Fin 128), xv (ix2 r d) = ((v ⟨r.val, by omega⟩ d : ℝ) : EReal))
    (hl : ∀ (r : Fin 256) (d : Fin 128), xl (ix2 r d) = ((L ⟨256 + r.val, by omega⟩ : ℝ) : EReal))
    (ha : ∀ (c : Fin 512) (d : Fin 128), xa (ix2 c d) = ((dkTo σ q k v w o L 256 ⟨c.val, by omega⟩ d : ℝ) : EReal))
    (c : Fin 512) (d : Fin 128) :
    (k0_pay16 xq xw (k0_pay11 xw xo) (k0_pay12 xq xk) (iota .tc S256x256 32 [0] iota_S256x256_d0_w32) xl xv xa : FVec Ideal S512x128 .f32) (ix2 c d) = ((dkTo σ q k v w o L 512 ⟨c.val, by omega⟩ d : ℝ) : EReal) := by
  pointwise [k0_pay16, hq, ha, sc1 hσ hq hw ho hk hv hl]
  exact accK 256 (by omega) _ d

theorem accV1 (hσ : Ideal.ofBits .f32 0x3DD105EC#32 = (σ : EReal)) {xq : Vec Ideal S256x128 .bf16} {xw : Vec Ideal S256x128 .bf16} {xk : Vec Ideal S512x128 .bf16} {xl : Vec Ideal S256x128 .f32} {xa : Vec Ideal S512x128 .f32}
    (hq : ∀ (r : Fin 256) (d : Fin 128), xq (ix2 r d) = ((q ⟨256 + r.val, by omega⟩ d : ℝ) : EReal))
    (hw : ∀ (r : Fin 256) (d : Fin 128), xw (ix2 r d) = ((w ⟨256 + r.val, by omega⟩ d : ℝ) : EReal))
    (hk : ∀ (r : Fin 512) (d : Fin 128), xk (ix2 r d) = ((k ⟨r.val, by omega⟩ d : ℝ) : EReal))
    (hl : ∀ (r : Fin 256) (d : Fin 128), xl (ix2 r d) = ((L ⟨256 + r.val, by omega⟩ : ℝ) : EReal))
    (ha : ∀ (c : Fin 512) (d : Fin 128), xa (ix2 c d) = ((dvTo σ q k w L 256 ⟨c.val, by omega⟩ d : ℝ) : EReal))
    (c : Fin 512) (d : Fin 128) :
    (k0_pay17 xw (k0_pay12 xq xk) (iota .tc S256x256 32 [0] iota_S256x256_d0_w32) xl xa : FVec Ideal S512x128 .f32) (ix2 c d) = ((dvTo σ q k w L 512 ⟨c.val, by omega⟩ d : ℝ) : EReal) := by
  pointwise [k0_pay17, hw, ha, wt1 hσ hq hk hl]
  exact accV 256 (by omega) _ d

theorem wt2 (hσ : Ideal.ofBits .f32 0x3DD105EC#32 = (σ : EReal)) {xq : Vec Ideal S256x128 .bf16} {xk : Vec Ideal S768x128 .bf16} {xl : Vec Ideal S256x128 .f32}
    (hq : ∀ (r : Fin 256) (d : Fin 128), xq (ix2 r d) = ((q ⟨512 + r.val, by omega⟩ d : ℝ) : EReal))
    (hk : ∀ (r : Fin 768) (d : Fin 128), xk (ix2 r d) = ((k ⟨r.val, by omega⟩ d : ℝ) : EReal))
    (hl : ∀ (r : Fin 256) (d : Fin 128), xl (ix2 r d) = ((L ⟨512 + r.val, by omega⟩ : ℝ) : EReal))
    (r : Fin 256) (c : Fin 768) :
    (k0_pay18 xq xk xl : FVec Ideal S256x768 .f32) (ix2 r c) = ((wt σ q k L ⟨512 + r.val, by omega⟩ ⟨c.val, by omega⟩ : ℝ) : EReal) := by
  pointwise [k0_pay18, hq, hk, hl]
  simp only [dite_eq_ite, ite_self]
  by_cases h : c.val < 512
  · rw [dif_pos h]; exact seen hσ (by show c.val ≤ 512 + r.val; omega)
  · rw [dif_neg h]; exact diag hσ 512 (by omega) r c.val (by omega) (by omega) _ rfl _ (by omega) (by omega)

theorem sc2 (hσ : Ideal.ofBits .f32 0x3DD105EC#32 = (σ : EReal)) {xq : Vec Ideal S256x128 .bf16} {xw : Vec Ideal S256x128 .bf16} {xo : Vec Ideal S256x128 .bf16} {xk : Vec Ideal S768x128 .bf16} {xv : Vec Ideal S768x128 .bf16} {xl : Vec Ideal S256x128 .f32}
    (hq : ∀ (r : Fin 256) (d : Fin 128), xq (ix2 r d) = ((q ⟨512 + r.val, by omega⟩ d : ℝ) : EReal))
    (hw : ∀ (r : Fin 256) (d : Fin 128), xw (ix2 r d) = ((w ⟨512 + r.val, by omega⟩ d : ℝ) : EReal))
    (ho : ∀ (r : Fin 256) (d : Fin 128), xo (ix2 r d) = ((o ⟨512 + r.val, by omega⟩ d : ℝ) : EReal))
    (hk : ∀ (r : Fin 768) (d : Fin 128), xk (ix2 r d) = ((k ⟨r.val, by omega⟩ d : ℝ) : EReal))
    (hv : ∀ (r : Fin 768) (d : Fin 128), xv (ix2 r d) = ((v ⟨r.val, by omega⟩ d : ℝ) : EReal))
    (hl : ∀ (r : Fin 256) (d : Fin 128), xl (ix2 r d) = ((L ⟨512 + r.val, by omega⟩ : ℝ) : EReal))
    (r : Fin 256) (c : Fin 768) :
    (k0_pay19 xq xw xo xk xl xv : FVec Ideal S256x768 .bf16) (ix2 r c) = ((sc σ q k v w o L ⟨512 + r.val, by omega⟩ ⟨c.val, by omega⟩ : ℝ) : EReal) := by
  pointwise [k0_pay19, hw, ho, hv, wt2 hσ hq hk hl]
  exact grad hσ _ _

theorem rows2 (hσ : Ideal.ofBits .f32 0x3DD105EC#32 = (σ : EReal)) {xq : Vec Ideal S256x128 .bf16} {xw : Vec Ideal S256x128 .bf16} {xo : Vec Ideal S256x128 .bf16} {xk : Vec Ideal S768x128 .bf16} {xv : Vec Ideal S768x128 .bf16} {xl : Vec Ideal S256x128 .f32}
    (hq : ∀ (r : Fin 256) (d : Fin 128), xq (ix2 r d) = ((q ⟨512 + r.val, by omega⟩ d : ℝ) : EReal))
    (hw : ∀ (r : Fin 256) (d : Fin 128), xw (ix2 r d) = ((w ⟨512 + r.val, by omega⟩ d : ℝ) : EReal))
    (ho : ∀ (r : Fin 256) (d : Fin 128), xo (ix2 r d) = ((o ⟨512 + r.val, by omega⟩ d : ℝ) : EReal))
    (hk : ∀ (r : Fin 768) (d : Fin 128), xk (ix2 r d) = ((k ⟨r.val, by omega⟩ d : ℝ) : EReal))
    (hv : ∀ (r : Fin 768) (d : Fin 128), xv (ix2 r d) = ((v ⟨r.val, by omega⟩ d : ℝ) : EReal))
    (hl : ∀ (r : Fin 256) (d : Fin 128), xl (ix2 r d) = ((L ⟨512 + r.val, by omega⟩ : ℝ) : EReal))
    (r : Fin 256) (d : Fin 128) :
    (k0_pay20 xq xw xo xk xl xv xk : FVec Ideal S256x128 .f32) (ix2 r d) = ((dq σ q k v w o L ⟨512 + r.val, by omega⟩ d : ℝ) : EReal) := by
  pointwise [k0_pay20, hk, sc2 hσ hq hw ho hk hv hl]
  exact rowsQ 768 (by omega) _ (by first | (show r.val < 768; omega) | (show 512 + r.val < 768; omega)) d

theorem accK2 (hσ : Ideal.ofBits .f32 0x3DD105EC#32 = (σ : EReal)) {xq : Vec Ideal S256x128 .bf16} {xw : Vec Ideal S256x128 .bf16} {xo : Vec Ideal S256x128 .bf16} {xk : Vec Ideal S768x128 .bf16} {xv : Vec Ideal S768x128 .bf16} {xl : Vec Ideal S256x128 .f32} {xa : Vec Ideal S768x128 .f32}
    (hq : ∀ (r : Fin 256) (d : Fin 128), xq (ix2 r d) = ((q ⟨512 + r.val, by omega⟩ d : ℝ) : EReal))
    (hw : ∀ (r : Fin 256) (d : Fin 128), xw (ix2 r d) = ((w ⟨512 + r.val, by omega⟩ d : ℝ) : EReal))
    (ho : ∀ (r : Fin 256) (d : Fin 128), xo (ix2 r d) = ((o ⟨512 + r.val, by omega⟩ d : ℝ) : EReal))
    (hk : ∀ (r : Fin 768) (d : Fin 128), xk (ix2 r d) = ((k ⟨r.val, by omega⟩ d : ℝ) : EReal))
    (hv : ∀ (r : Fin 768) (d : Fin 128), xv (ix2 r d) = ((v ⟨r.val, by omega⟩ d : ℝ) : EReal))
    (hl : ∀ (r : Fin 256) (d : Fin 128), xl (ix2 r d) = ((L ⟨512 + r.val, by omega⟩ : ℝ) : EReal))
    (ha : ∀ (c : Fin 768) (d : Fin 128), xa (ix2 c d) = ((dkTo σ q k v w o L 512 ⟨c.val, by omega⟩ d : ℝ) : EReal))
    (c : Fin 768) (d : Fin 128) :
    (k0_pay21 xq (k0_pay19 xq xw xo xk xl xv) xa : FVec Ideal S768x128 .f32) (ix2 c d) = ((dkTo σ q k v w o L 768 ⟨c.val, by omega⟩ d : ℝ) : EReal) := by
  pointwise [k0_pay21, hq, ha, sc2 hσ hq hw ho hk hv hl]
  exact accK 512 (by omega) _ d

theorem accV2 (hσ : Ideal.ofBits .f32 0x3DD105EC#32 = (σ : EReal)) {xq : Vec Ideal S256x128 .bf16} {xw : Vec Ideal S256x128 .bf16} {xk : Vec Ideal S768x128 .bf16} {xl : Vec Ideal S256x128 .f32} {xa : Vec Ideal S768x128 .f32}
    (hq : ∀ (r : Fin 256) (d : Fin 128), xq (ix2 r d) = ((q ⟨512 + r.val, by omega⟩ d : ℝ) : EReal))
    (hw : ∀ (r : Fin 256) (d : Fin 128), xw (ix2 r d) = ((w ⟨512 + r.val, by omega⟩ d : ℝ) : EReal))
    (hk : ∀ (r : Fin 768) (d : Fin 128), xk (ix2 r d) = ((k ⟨r.val, by omega⟩ d : ℝ) : EReal))
    (hl : ∀ (r : Fin 256) (d : Fin 128), xl (ix2 r d) = ((L ⟨512 + r.val, by omega⟩ : ℝ) : EReal))
    (ha : ∀ (c : Fin 768) (d : Fin 128), xa (ix2 c d) = ((dvTo σ q k w L 512 ⟨c.val, by omega⟩ d : ℝ) : EReal))
    (c : Fin 768) (d : Fin 128) :
    (k0_pay22 xw (k0_pay18 xq xk xl) xa : FVec Ideal S768x128 .f32) (ix2 c d) = ((dvTo σ q k w L 768 ⟨c.val, by omega⟩ d : ℝ) : EReal) := by
  pointwise [k0_pay22, hw, ha, wt2 hσ hq hk hl]
  exact accV 512 (by omega) _ d

theorem wt3 (hσ : Ideal.ofBits .f32 0x3DD105EC#32 = (σ : EReal)) {xq : Vec Ideal S256x128 .bf16} {xk : Vec Ideal S1024x128 .bf16} {xl : Vec Ideal S256x128 .f32}
    (hq : ∀ (r : Fin 256) (d : Fin 128), xq (ix2 r d) = ((q ⟨768 + r.val, by omega⟩ d : ℝ) : EReal))
    (hk : ∀ (r : Fin 1024) (d : Fin 128), xk (ix2 r d) = ((k ⟨r.val, by omega⟩ d : ℝ) : EReal))
    (hl : ∀ (r : Fin 256) (d : Fin 128), xl (ix2 r d) = ((L ⟨768 + r.val, by omega⟩ : ℝ) : EReal))
    (r : Fin 256) (c : Fin 1024) :
    (k0_pay26 (k0_pay24 xq xk) (k0_pay25 xl) : FVec Ideal S256x1024 .f32) (ix2 r c) = ((wt σ q k L ⟨768 + r.val, by omega⟩ ⟨c.val, by omega⟩ : ℝ) : EReal) := by
  pointwise [k0_pay26, k0_pay24, k0_pay25, hq, hk, hl]
  simp only [dite_eq_ite, ite_self]
  by_cases h : c.val < 768
  · rw [dif_pos h]; exact seen hσ (by show c.val ≤ 768 + r.val; omega)
  · rw [dif_neg h]; exact diag hσ 768 (by omega) r c.val (by omega) (by omega) _ rfl _ (by omega) (by omega)

theorem sc3 (hσ : Ideal.ofBits .f32 0x3DD105EC#32 = (σ : EReal)) {xq : Vec Ideal S256x128 .bf16} {xw : Vec Ideal S256x128 .bf16} {xo : Vec Ideal S256x128 .bf16} {xk : Vec Ideal S1024x128 .bf16} {xv : Vec Ideal S1024x128 .bf16} {xl : Vec Ideal S256x128 .f32}
    (hq : ∀ (r : Fin 256) (d : Fin 128), xq (ix2 r d) = ((q ⟨768 + r.val, by omega⟩ d : ℝ) : EReal))
    (hw : ∀ (r : Fin 256) (d : Fin 128), xw (ix2 r d) = ((w ⟨768 + r.val, by omega⟩ d : ℝ) : EReal))
    (ho : ∀ (r : Fin 256) (d : Fin 128), xo (ix2 r d) = ((o ⟨768 + r.val, by omega⟩ d : ℝ) : EReal))
    (hk : ∀ (r : Fin 1024) (d : Fin 128), xk (ix2 r d) = ((k ⟨r.val, by omega⟩ d : ℝ) : EReal))
    (hv : ∀ (r : Fin 1024) (d : Fin 128), xv (ix2 r d) = ((v ⟨r.val, by omega⟩ d : ℝ) : EReal))
    (hl : ∀ (r : Fin 256) (d : Fin 128), xl (ix2 r d) = ((L ⟨768 + r.val, by omega⟩ : ℝ) : EReal))
    (r : Fin 256) (c : Fin 1024) :
    (k0_pay27 xw (k0_pay23 xw xo) (k0_pay24 xq xk) (k0_pay25 xl) xv : FVec Ideal S256x1024 .bf16) (ix2 r c) = ((sc σ q k v w o L ⟨768 + r.val, by omega⟩ ⟨c.val, by omega⟩ : ℝ) : EReal) := by
  pointwise [k0_pay27, k0_pay23, hw, ho, hv, wt3 hσ hq hk hl]
  exact grad hσ _ _

theorem rows3 (hσ : Ideal.ofBits .f32 0x3DD105EC#32 = (σ : EReal)) {xq : Vec Ideal S256x128 .bf16} {xw : Vec Ideal S256x128 .bf16} {xo : Vec Ideal S256x128 .bf16} {xk : Vec Ideal S1024x128 .bf16} {xv : Vec Ideal S1024x128 .bf16} {xl : Vec Ideal S256x128 .f32}
    (hq : ∀ (r : Fin 256) (d : Fin 128), xq (ix2 r d) = ((q ⟨768 + r.val, by omega⟩ d : ℝ) : EReal))
    (hw : ∀ (r : Fin 256) (d : Fin 128), xw (ix2 r d) = ((w ⟨768 + r.val, by omega⟩ d : ℝ) : EReal))
    (ho : ∀ (r : Fin 256) (d : Fin 128), xo (ix2 r d) = ((o ⟨768 + r.val, by omega⟩ d : ℝ) : EReal))
    (hk : ∀ (r : Fin 1024) (d : Fin 128), xk (ix2 r d) = ((k ⟨r.val, by omega⟩ d : ℝ) : EReal))
    (hv : ∀ (r : Fin 1024) (d : Fin 128), xv (ix2 r d) = ((v ⟨r.val, by omega⟩ d : ℝ) : EReal))
    (hl : ∀ (r : Fin 256) (d : Fin 128), xl (ix2 r d) = ((L ⟨768 + r.val, by omega⟩ : ℝ) : EReal))
    (r : Fin 256) (d : Fin 128) :
    (k0_pay28 xw (k0_pay23 xw xo) (k0_pay24 xq xk) (k0_pay25 xl) xv xk : FVec Ideal S256x128 .f32) (ix2 r d) = ((dq σ q k v w o L ⟨768 + r.val, by omega⟩ d : ℝ) : EReal) := by
  pointwise [k0_pay28, hk, sc3 hσ hq hw ho hk hv hl]
  exact rowsQ 1024 (by omega) _ (by first | (show r.val < 1024; omega) | (show 768 + r.val < 1024; omega)) d

theorem accK3 (hσ : Ideal.ofBits .f32 0x3DD105EC#32 = (σ : EReal)) {xq : Vec Ideal S256x128 .bf16} {xw : Vec Ideal S256x128 .bf16} {xo : Vec Ideal S256x128 .bf16} {xk : Vec Ideal S1024x128 .bf16} {xv : Vec Ideal S1024x128 .bf16} {xl : Vec Ideal S256x128 .f32} {xa : Vec Ideal S1024x128 .f32}
    (hq : ∀ (r : Fin 256) (d : Fin 128), xq (ix2 r d) = ((q ⟨768 + r.val, by omega⟩ d : ℝ) : EReal))
    (hw : ∀ (r : Fin 256) (d : Fin 128), xw (ix2 r d) = ((w ⟨768 + r.val, by omega⟩ d : ℝ) : EReal))
    (ho : ∀ (r : Fin 256) (d : Fin 128), xo (ix2 r d) = ((o ⟨768 + r.val, by omega⟩ d : ℝ) : EReal))
    (hk : ∀ (r : Fin 1024) (d : Fin 128), xk (ix2 r d) = ((k ⟨r.val, by omega⟩ d : ℝ) : EReal))
    (hv : ∀ (r : Fin 1024) (d : Fin 128), xv (ix2 r d) = ((v ⟨r.val, by omega⟩ d : ℝ) : EReal))
    (hl : ∀ (r : Fin 256) (d : Fin 128), xl (ix2 r d) = ((L ⟨768 + r.val, by omega⟩ : ℝ) : EReal))
    (ha : ∀ (c : Fin 1024) (d : Fin 128), xa (ix2 c d) = ((dkTo σ q k v w o L 768 ⟨c.val, by omega⟩ d : ℝ) : EReal))
    (c : Fin 1024) (d : Fin 128) :
    (k0_pay29 xq xw (k0_pay23 xw xo) (k0_pay24 xq xk) (k0_pay25 xl) xv xa : FVec Ideal S1024x128 .f32) (ix2 c d) = ((dkTo σ q k v w o L 1024 ⟨c.val, by omega⟩ d : ℝ) : EReal) := by
  pointwise [k0_pay29, hq, ha, sc3 hσ hq hw ho hk hv hl]
  exact accK 768 (by omega) _ d

theorem accV3 (hσ : Ideal.ofBits .f32 0x3DD105EC#32 = (σ : EReal)) {xq : Vec Ideal S256x128 .bf16} {xw : Vec Ideal S256x128 .bf16} {xk : Vec Ideal S1024x128 .bf16} {xl : Vec Ideal S256x128 .f32} {xa : Vec Ideal S1024x128 .f32}
    (hq : ∀ (r : Fin 256) (d : Fin 128), xq (ix2 r d) = ((q ⟨768 + r.val, by omega⟩ d : ℝ) : EReal))
    (hw : ∀ (r : Fin 256) (d : Fin 128), xw (ix2 r d) = ((w ⟨768 + r.val, by omega⟩ d : ℝ) : EReal))
    (hk : ∀ (r : Fin 1024) (d : Fin 128), xk (ix2 r d) = ((k ⟨r.val, by omega⟩ d : ℝ) : EReal))
    (hl : ∀ (r : Fin 256) (d : Fin 128), xl (ix2 r d) = ((L ⟨768 + r.val, by omega⟩ : ℝ) : EReal))
    (ha : ∀ (c : Fin 1024) (d : Fin 128), xa (ix2 c d) = ((dvTo σ q k w L 768 ⟨c.val, by omega⟩ d : ℝ) : EReal))
    (c : Fin 1024) (d : Fin 128) :
    (k0_pay30 xw (k0_pay24 xq xk) (k0_pay25 xl) xa : FVec Ideal S1024x128 .f32) (ix2 c d) = ((dvTo σ q k w L 1024 ⟨c.val, by omega⟩ d : ℝ) : EReal) := by
  pointwise [k0_pay30, hw, ha, wt3 hσ hq hk hl]
  exact accV 768 (by omega) _ d

theorem wt4 (hσ : Ideal.ofBits .f32 0x3DD105EC#32 = (σ : EReal)) {xq : Vec Ideal S256x128 .bf16} {xk : Vec Ideal S1280x128 .bf16} {xl : Vec Ideal S256x128 .f32}
    (hq : ∀ (r : Fin 256) (d : Fin 128), xq (ix2 r d) = ((q ⟨1024 + r.val, by omega⟩ d : ℝ) : EReal))
    (hk : ∀ (r : Fin 1280) (d : Fin 128), xk (ix2 r d) = ((k ⟨r.val, by omega⟩ d : ℝ) : EReal))
    (hl : ∀ (r : Fin 256) (d : Fin 128), xl (ix2 r d) = ((L ⟨1024 + r.val, by omega⟩ : ℝ) : EReal))
    (r : Fin 256) (c : Fin 1280) :
    (k0_pay32 xq xk xl : FVec Ideal S256x1280 .f32) (ix2 r c) = ((wt σ q k L ⟨1024 + r.val, by omega⟩ ⟨c.val, by omega⟩ : ℝ) : EReal) := by
  pointwise [k0_pay32, hq, hk, hl]
  simp only [dite_eq_ite, ite_self]
  by_cases h : c.val < 1024
  · rw [dif_pos h]; exact seen hσ (by show c.val ≤ 1024 + r.val; omega)
  · rw [dif_neg h]; exact diag hσ 1024 (by omega) r c.val (by omega) (by omega) _ rfl _ (by omega) (by omega)

theorem sc4 (hσ : Ideal.ofBits .f32 0x3DD105EC#32 = (σ : EReal)) {xq : Vec Ideal S256x128 .bf16} {xw : Vec Ideal S256x128 .bf16} {xo : Vec Ideal S256x128 .bf16} {xk : Vec Ideal S1280x128 .bf16} {xv : Vec Ideal S1280x128 .bf16} {xl : Vec Ideal S256x128 .f32}
    (hq : ∀ (r : Fin 256) (d : Fin 128), xq (ix2 r d) = ((q ⟨1024 + r.val, by omega⟩ d : ℝ) : EReal))
    (hw : ∀ (r : Fin 256) (d : Fin 128), xw (ix2 r d) = ((w ⟨1024 + r.val, by omega⟩ d : ℝ) : EReal))
    (ho : ∀ (r : Fin 256) (d : Fin 128), xo (ix2 r d) = ((o ⟨1024 + r.val, by omega⟩ d : ℝ) : EReal))
    (hk : ∀ (r : Fin 1280) (d : Fin 128), xk (ix2 r d) = ((k ⟨r.val, by omega⟩ d : ℝ) : EReal))
    (hv : ∀ (r : Fin 1280) (d : Fin 128), xv (ix2 r d) = ((v ⟨r.val, by omega⟩ d : ℝ) : EReal))
    (hl : ∀ (r : Fin 256) (d : Fin 128), xl (ix2 r d) = ((L ⟨1024 + r.val, by omega⟩ : ℝ) : EReal))
    (r : Fin 256) (c : Fin 1280) :
    (k0_pay33 xq xw (k0_pay31 xw xo) xk xl xv : FVec Ideal S256x1280 .bf16) (ix2 r c) = ((sc σ q k v w o L ⟨1024 + r.val, by omega⟩ ⟨c.val, by omega⟩ : ℝ) : EReal) := by
  pointwise [k0_pay33, k0_pay31, hw, ho, hv, wt4 hσ hq hk hl]
  exact grad hσ _ _

theorem rows4 (hσ : Ideal.ofBits .f32 0x3DD105EC#32 = (σ : EReal)) {xq : Vec Ideal S256x128 .bf16} {xw : Vec Ideal S256x128 .bf16} {xo : Vec Ideal S256x128 .bf16} {xk : Vec Ideal S1280x128 .bf16} {xv : Vec Ideal S1280x128 .bf16} {xl : Vec Ideal S256x128 .f32}
    (hq : ∀ (r : Fin 256) (d : Fin 128), xq (ix2 r d) = ((q ⟨1024 + r.val, by omega⟩ d : ℝ) : EReal))
    (hw : ∀ (r : Fin 256) (d : Fin 128), xw (ix2 r d) = ((w ⟨1024 + r.val, by omega⟩ d : ℝ) : EReal))
    (ho : ∀ (r : Fin 256) (d : Fin 128), xo (ix2 r d) = ((o ⟨1024 + r.val, by omega⟩ d : ℝ) : EReal))
    (hk : ∀ (r : Fin 1280) (d : Fin 128), xk (ix2 r d) = ((k ⟨r.val, by omega⟩ d : ℝ) : EReal))
    (hv : ∀ (r : Fin 1280) (d : Fin 128), xv (ix2 r d) = ((v ⟨r.val, by omega⟩ d : ℝ) : EReal))
    (hl : ∀ (r : Fin 256) (d : Fin 128), xl (ix2 r d) = ((L ⟨1024 + r.val, by omega⟩ : ℝ) : EReal))
    (r : Fin 256) (d : Fin 128) :
    (k0_pay34 xq xw (k0_pay31 xw xo) xk xl xv xk : FVec Ideal S256x128 .f32) (ix2 r d) = ((dq σ q k v w o L ⟨1024 + r.val, by omega⟩ d : ℝ) : EReal) := by
  pointwise [k0_pay34, hk, sc4 hσ hq hw ho hk hv hl]
  exact rowsQ 1280 (by omega) _ (by first | (show r.val < 1280; omega) | (show 1024 + r.val < 1280; omega)) d

theorem accK4 (hσ : Ideal.ofBits .f32 0x3DD105EC#32 = (σ : EReal)) {xq : Vec Ideal S256x128 .bf16} {xw : Vec Ideal S256x128 .bf16} {xo : Vec Ideal S256x128 .bf16} {xk : Vec Ideal S1280x128 .bf16} {xv : Vec Ideal S1280x128 .bf16} {xl : Vec Ideal S256x128 .f32} {xa : Vec Ideal S1280x128 .f32}
    (hq : ∀ (r : Fin 256) (d : Fin 128), xq (ix2 r d) = ((q ⟨1024 + r.val, by omega⟩ d : ℝ) : EReal))
    (hw : ∀ (r : Fin 256) (d : Fin 128), xw (ix2 r d) = ((w ⟨1024 + r.val, by omega⟩ d : ℝ) : EReal))
    (ho : ∀ (r : Fin 256) (d : Fin 128), xo (ix2 r d) = ((o ⟨1024 + r.val, by omega⟩ d : ℝ) : EReal))
    (hk : ∀ (r : Fin 1280) (d : Fin 128), xk (ix2 r d) = ((k ⟨r.val, by omega⟩ d : ℝ) : EReal))
    (hv : ∀ (r : Fin 1280) (d : Fin 128), xv (ix2 r d) = ((v ⟨r.val, by omega⟩ d : ℝ) : EReal))
    (hl : ∀ (r : Fin 256) (d : Fin 128), xl (ix2 r d) = ((L ⟨1024 + r.val, by omega⟩ : ℝ) : EReal))
    (ha : ∀ (c : Fin 1280) (d : Fin 128), xa (ix2 c d) = ((dkTo σ q k v w o L 1024 ⟨c.val, by omega⟩ d : ℝ) : EReal))
    (c : Fin 1280) (d : Fin 128) :
    (k0_pay35 xq xw (k0_pay31 xw xo) xk xl xv xa : FVec Ideal S1280x128 .f32) (ix2 c d) = ((dkTo σ q k v w o L 1280 ⟨c.val, by omega⟩ d : ℝ) : EReal) := by
  pointwise [k0_pay35, hq, ha, sc4 hσ hq hw ho hk hv hl]
  exact accK 1024 (by omega) _ d

theorem accV4 (hσ : Ideal.ofBits .f32 0x3DD105EC#32 = (σ : EReal)) {xq : Vec Ideal S256x128 .bf16} {xw : Vec Ideal S256x128 .bf16} {xk : Vec Ideal S1280x128 .bf16} {xl : Vec Ideal S256x128 .f32} {xa : Vec Ideal S1280x128 .f32}
    (hq : ∀ (r : Fin 256) (d : Fin 128), xq (ix2 r d) = ((q ⟨1024 + r.val, by omega⟩ d : ℝ) : EReal))
    (hw : ∀ (r : Fin 256) (d : Fin 128), xw (ix2 r d) = ((w ⟨1024 + r.val, by omega⟩ d : ℝ) : EReal))
    (hk : ∀ (r : Fin 1280) (d : Fin 128), xk (ix2 r d) = ((k ⟨r.val, by omega⟩ d : ℝ) : EReal))
    (hl : ∀ (r : Fin 256) (d : Fin 128), xl (ix2 r d) = ((L ⟨1024 + r.val, by omega⟩ : ℝ) : EReal))
    (ha : ∀ (c : Fin 1280) (d : Fin 128), xa (ix2 c d) = ((dvTo σ q k w L 1024 ⟨c.val, by omega⟩ d : ℝ) : EReal))
    (c : Fin 1280) (d : Fin 128) :
    (k0_pay36 xw (k0_pay32 xq xk xl) xa : FVec Ideal S1280x128 .f32) (ix2 c d) = ((dvTo σ q k w L 1280 ⟨c.val, by omega⟩ d : ℝ) : EReal) := by
  pointwise [k0_pay36, hw, ha, wt4 hσ hq hk hl]
  exact accV 1024 (by omega) _ d

theorem wt5 (hσ : Ideal.ofBits .f32 0x3DD105EC#32 = (σ : EReal)) {xq : Vec Ideal S256x128 .bf16} {xk : Vec Ideal S1536x128 .bf16} {xl : Vec Ideal S256x128 .f32}
    (hq : ∀ (r : Fin 256) (d : Fin 128), xq (ix2 r d) = ((q ⟨1280 + r.val, by omega⟩ d : ℝ) : EReal))
    (hk : ∀ (r : Fin 1536) (d : Fin 128), xk (ix2 r d) = ((k ⟨r.val, by omega⟩ d : ℝ) : EReal))
    (hl : ∀ (r : Fin 256) (d : Fin 128), xl (ix2 r d) = ((L ⟨1280 + r.val, by omega⟩ : ℝ) : EReal))
    (r : Fin 256) (c : Fin 1536) :
    (k0_pay37 xq xk xl : FVec Ideal S256x1536 .f32) (ix2 r c) = ((wt σ q k L ⟨1280 + r.val, by omega⟩ ⟨c.val, by omega⟩ : ℝ) : EReal) := by
  pointwise [k0_pay37, hq, hk, hl]
  simp only [dite_eq_ite, ite_self]
  by_cases h : c.val < 1280
  · rw [dif_pos h]; exact seen hσ (by show c.val ≤ 1280 + r.val; omega)
  · rw [dif_neg h]; exact diag hσ 1280 (by omega) r c.val (by omega) (by omega) _ rfl _ (by omega) (by omega)

theorem sc5 (hσ : Ideal.ofBits .f32 0x3DD105EC#32 = (σ : EReal)) {cs : Ideal .f32} (hcs : cs = Ideal.ofBits .f32 0x3DD105EC#32)
    {xq : Vec Ideal S256x128 .bf16} {xw : Vec Ideal S256x128 .bf16} {xo : Vec Ideal S256x128 .bf16} {xk : Vec Ideal S1536x128 .bf16} {xv : Vec Ideal S1536x128 .bf16} {xl : Vec Ideal S256x128 .f32}
    (hq : ∀ (r : Fin 256) (d : Fin 128), xq (ix2 r d) = ((q ⟨1280 + r.val, by omega⟩ d : ℝ) : EReal))
    (hw : ∀ (r : Fin 256) (d : Fin 128), xw (ix2 r d) = ((w ⟨1280 + r.val, by omega⟩ d : ℝ) : EReal))
    (ho : ∀ (r : Fin 256) (d : Fin 128), xo (ix2 r d) = ((o ⟨1280 + r.val, by omega⟩ d : ℝ) : EReal))
    (hk : ∀ (r : Fin 1536) (d : Fin 128), xk (ix2 r d) = ((k ⟨r.val, by omega⟩ d : ℝ) : EReal))
    (hv : ∀ (r : Fin 1536) (d : Fin 128), xv (ix2 r d) = ((v ⟨r.val, by omega⟩ d : ℝ) : EReal))
    (hl : ∀ (r : Fin 256) (d : Fin 128), xl (ix2 r d) = ((L ⟨1280 + r.val, by omega⟩ : ℝ) : EReal))
    (r : Fin 256) (c : Fin 1536) :
    (k0_pay39 (k0_pay38 xq xw xo xk xl xv) cs : FVec Ideal S256x1536 .bf16) (ix2 r c) = ((sc σ q k v w o L ⟨1280 + r.val, by omega⟩ ⟨c.val, by omega⟩ : ℝ) : EReal) := by
  pointwise [k0_pay39, k0_pay38, hw, ho, hv, wt5 hσ hq hk hl]
  rw [hcs]
  exact grad hσ _ _

theorem rows5 (hσ : Ideal.ofBits .f32 0x3DD105EC#32 = (σ : EReal)) {cs : Ideal .f32} (hcs : cs = Ideal.ofBits .f32 0x3DD105EC#32)
    {xq : Vec Ideal S256x128 .bf16} {xw : Vec Ideal S256x128 .bf16} {xo : Vec Ideal S256x128 .bf16} {xk : Vec Ideal S1536x128 .bf16} {xv : Vec Ideal S1536x128 .bf16} {xl : Vec Ideal S256x128 .f32}
    (hq : ∀ (r : Fin 256) (d : Fin 128), xq (ix2 r d) = ((q ⟨1280 + r.val, by omega⟩ d : ℝ) : EReal))
    (hw : ∀ (r : Fin 256) (d : Fin 128), xw (ix2 r d) = ((w ⟨1280 + r.val, by omega⟩ d : ℝ) : EReal))
    (ho : ∀ (r : Fin 256) (d : Fin 128), xo (ix2 r d) = ((o ⟨1280 + r.val, by omega⟩ d : ℝ) : EReal))
    (hk : ∀ (r : Fin 1536) (d : Fin 128), xk (ix2 r d) = ((k ⟨r.val, by omega⟩ d : ℝ) : EReal))
    (hv : ∀ (r : Fin 1536) (d : Fin 128), xv (ix2 r d) = ((v ⟨r.val, by omega⟩ d : ℝ) : EReal))
    (hl : ∀ (r : Fin 256) (d : Fin 128), xl (ix2 r d) = ((L ⟨1280 + r.val, by omega⟩ : ℝ) : EReal))
    (r : Fin 256) (d : Fin 128) :
    (k0_pay40 (k0_pay38 xq xw xo xk xl xv) cs xk : FVec Ideal S256x128 .f32) (ix2 r d) = ((dq σ q k v w o L ⟨1280 + r.val, by omega⟩ d : ℝ) : EReal) := by
  pointwise [k0_pay40, hk, sc5 hσ hcs hq hw ho hk hv hl]
  exact rowsQ 1536 (by omega) _ (by first | (show r.val < 1536; omega) | (show 1280 + r.val < 1536; omega)) d

theorem accK5 (hσ : Ideal.ofBits .f32 0x3DD105EC#32 = (σ : EReal)) {cs : Ideal .f32} (hcs : cs = Ideal.ofBits .f32 0x3DD105EC#32)
    {xq : Vec Ideal S256x128 .bf16} {xw : Vec Ideal S256x128 .bf16} {xo : Vec Ideal S256x128 .bf16} {xk : Vec Ideal S1536x128 .bf16} {xv : Vec Ideal S1536x128 .bf16} {xl : Vec Ideal S256x128 .f32} {xa : Vec Ideal S1536x128 .f32}
    (hq : ∀ (r : Fin 256) (d : Fin 128), xq (ix2 r d) = ((q ⟨1280 + r.val, by omega⟩ d : ℝ) : EReal))
    (hw : ∀ (r : Fin 256) (d : Fin 128), xw (ix2 r d) = ((w ⟨1280 + r.val, by omega⟩ d : ℝ) : EReal))
    (ho : ∀ (r : Fin 256) (d : Fin 128), xo (ix2 r d) = ((o ⟨1280 + r.val, by omega⟩ d : ℝ) : EReal))
    (hk : ∀ (r : Fin 1536) (d : Fin 128), xk (ix2 r d) = ((k ⟨r.val, by omega⟩ d : ℝ) : EReal))
    (hv : ∀ (r : Fin 1536) (d : Fin 128), xv (ix2 r d) = ((v ⟨r.val, by omega⟩ d : ℝ) : EReal))
    (hl : ∀ (r : Fin 256) (d : Fin 128), xl (ix2 r d) = ((L ⟨1280 + r.val, by omega⟩ : ℝ) : EReal))
    (ha : ∀ (c : Fin 1536) (d : Fin 128), xa (ix2 c d) = ((dkTo σ q k v w o L 1280 ⟨c.val, by omega⟩ d : ℝ) : EReal))
    (c : Fin 1536) (d : Fin 128) :
    (k0_pay41 xq (k0_pay38 xq xw xo xk xl xv) cs xa : FVec Ideal S1536x128 .f32) (ix2 c d) = ((dkTo σ q k v w o L 1536 ⟨c.val, by omega⟩ d : ℝ) : EReal) := by
  pointwise [k0_pay41, hq, ha, sc5 hσ hcs hq hw ho hk hv hl]
  exact accK 1280 (by omega) _ d

theorem accV5 (hσ : Ideal.ofBits .f32 0x3DD105EC#32 = (σ : EReal)) {xq : Vec Ideal S256x128 .bf16} {xw : Vec Ideal S256x128 .bf16} {xk : Vec Ideal S1536x128 .bf16} {xl : Vec Ideal S256x128 .f32} {xa : Vec Ideal S1536x128 .f32}
    (hq : ∀ (r : Fin 256) (d : Fin 128), xq (ix2 r d) = ((q ⟨1280 + r.val, by omega⟩ d : ℝ) : EReal))
    (hw : ∀ (r : Fin 256) (d : Fin 128), xw (ix2 r d) = ((w ⟨1280 + r.val, by omega⟩ d : ℝ) : EReal))
    (hk : ∀ (r : Fin 1536) (d : Fin 128), xk (ix2 r d) = ((k ⟨r.val, by omega⟩ d : ℝ) : EReal))
    (hl : ∀ (r : Fin 256) (d : Fin 128), xl (ix2 r d) = ((L ⟨1280 + r.val, by omega⟩ : ℝ) : EReal))
    (ha : ∀ (c : Fin 1536) (d : Fin 128), xa (ix2 c d) = ((dvTo σ q k w L 1280 ⟨c.val, by omega⟩ d : ℝ) : EReal))
    (c : Fin 1536) (d : Fin 128) :
    (k0_pay42 xw (k0_pay37 xq xk xl) xa : FVec Ideal S1536x128 .f32) (ix2 c d) = ((dvTo σ q k w L 1536 ⟨c.val, by omega⟩ d : ℝ) : EReal) := by
  pointwise [k0_pay42, hw, ha, wt5 hσ hq hk hl]
  exact accV 1280 (by omega) _ d

theorem wt6 (hσ : Ideal.ofBits .f32 0x3DD105EC#32 = (σ : EReal)) {xq : Vec Ideal S256x128 .bf16} {xk : Vec Ideal S1792x128 .bf16} {xl : Vec Ideal S256x128 .f32}
    (hq : ∀ (r : Fin 256) (d : Fin 128), xq (ix2 r d) = ((q ⟨1536 + r.val, by omega⟩ d : ℝ) : EReal))
    (hk : ∀ (r : Fin 1792) (d : Fin 128), xk (ix2 r d) = ((k ⟨r.val, by omega⟩ d : ℝ) : EReal))
    (hl : ∀ (r : Fin 256) (d : Fin 128), xl (ix2 r d) = ((L ⟨1536 + r.val, by omega⟩ : ℝ) : EReal))
    (r : Fin 256) (c : Fin 1792) :
    (k0_pay45 (k0_pay44 xq xk) (iota .tc S256x256 32 [0] iota_S256x256_d0_w32) xl : FVec Ideal S256x1792 .f32) (ix2 r c) = ((wt σ q k L ⟨1536 + r.val, by omega⟩ ⟨c.val, by omega⟩ : ℝ) : EReal) := by
  pointwise [k0_pay45, k0_pay44, hq, hk, hl]
  simp only [dite_eq_ite, ite_self]
  by_cases h : c.val < 1536
  · rw [dif_pos h]; exact seen hσ (by show c.val ≤ 1536 + r.val; omega)
  · rw [dif_neg h]; exact diag hσ 1536 (by omega) r c.val (by omega) (by omega) _ rfl _ (by omega) (by omega)

theorem sc6 (hσ : Ideal.ofBits .f32 0x3DD105EC#32 = (σ : EReal)) {xq : Vec Ideal S256x128 .bf16} {xw : Vec Ideal S256x128 .bf16} {xo : Vec Ideal S256x128 .bf16} {xk : Vec Ideal S1792x128 .bf16} {xv : Vec Ideal S1792x128 .bf16} {xl : Vec Ideal S256x128 .f32}
    (hq : ∀ (r : Fin 256) (d : Fin 128), xq (ix2 r d) = ((q ⟨1536 + r.val, by omega⟩ d : ℝ) : EReal))
    (hw : ∀ (r : Fin 256) (d : Fin 128), xw (ix2 r d) = ((w ⟨1536 + r.val, by omega⟩ d : ℝ) : EReal))
    (ho : ∀ (r : Fin 256) (d : Fin 128), xo (ix2 r d) = ((o ⟨1536 + r.val, by omega⟩ d : ℝ) : EReal))
    (hk : ∀ (r : Fin 1792) (d : Fin 128), xk (ix2 r d) = ((k ⟨r.val, by omega⟩ d : ℝ) : EReal))
    (hv : ∀ (r : Fin 1792) (d : Fin 128), xv (ix2 r d) = ((v ⟨r.val, by omega⟩ d : ℝ) : EReal))
    (hl : ∀ (r : Fin 256) (d : Fin 128), xl (ix2 r d) = ((L ⟨1536 + r.val, by omega⟩ : ℝ) : EReal))
    (r : Fin 256) (c : Fin 1792) :
    (k0_pay46 xw (k0_pay43 xw xo) (k0_pay44 xq xk) (iota .tc S256x256 32 [0] iota_S256x256_d0_w32) xl xv : FVec Ideal S256x1792 .bf16) (ix2 r c) = ((sc σ q k v w o L ⟨1536 + r.val, by omega⟩ ⟨c.val, by omega⟩ : ℝ) : EReal) := by
  pointwise [k0_pay46, k0_pay43, hw, ho, hv, wt6 hσ hq hk hl]
  exact grad hσ _ _

theorem rows6 (hσ : Ideal.ofBits .f32 0x3DD105EC#32 = (σ : EReal)) {xq : Vec Ideal S256x128 .bf16} {xw : Vec Ideal S256x128 .bf16} {xo : Vec Ideal S256x128 .bf16} {xk : Vec Ideal S1792x128 .bf16} {xv : Vec Ideal S1792x128 .bf16} {xl : Vec Ideal S256x128 .f32}
    (hq : ∀ (r : Fin 256) (d : Fin 128), xq (ix2 r d) = ((q ⟨1536 + r.val, by omega⟩ d : ℝ) : EReal))
    (hw : ∀ (r : Fin 256) (d : Fin 128), xw (ix2 r d) = ((w ⟨1536 + r.val, by omega⟩ d : ℝ) : EReal))
    (ho : ∀ (r : Fin 256) (d : Fin 128), xo (ix2 r d) = ((o ⟨1536 + r.val, by omega⟩ d : ℝ) : EReal))
    (hk : ∀ (r : Fin 1792) (d : Fin 128), xk (ix2 r d) = ((k ⟨r.val, by omega⟩ d : ℝ) : EReal))
    (hv : ∀ (r : Fin 1792) (d : Fin 128), xv (ix2 r d) = ((v ⟨r.val, by omega⟩ d : ℝ) : EReal))
    (hl : ∀ (r : Fin 256) (d : Fin 128), xl (ix2 r d) = ((L ⟨1536 + r.val, by omega⟩ : ℝ) : EReal))
    (r : Fin 256) (d : Fin 128) :
    (k0_pay47 xw (k0_pay43 xw xo) (k0_pay44 xq xk) (iota .tc S256x256 32 [0] iota_S256x256_d0_w32) xl xv xk : FVec Ideal S256x128 .f32) (ix2 r d) = ((dq σ q k v w o L ⟨1536 + r.val, by omega⟩ d : ℝ) : EReal) := by
  pointwise [k0_pay47, hk, sc6 hσ hq hw ho hk hv hl]
  exact rowsQ 1792 (by omega) _ (by first | (show r.val < 1792; omega) | (show 1536 + r.val < 1792; omega)) d

theorem accK6 (hσ : Ideal.ofBits .f32 0x3DD105EC#32 = (σ : EReal)) {xq : Vec Ideal S256x128 .bf16} {xw : Vec Ideal S256x128 .bf16} {xo : Vec Ideal S256x128 .bf16} {xk : Vec Ideal S1792x128 .bf16} {xv : Vec Ideal S1792x128 .bf16} {xl : Vec Ideal S256x128 .f32} {xa : Vec Ideal S1792x128 .f32}
    (hq : ∀ (r : Fin 256) (d : Fin 128), xq (ix2 r d) = ((q ⟨1536 + r.val, by omega⟩ d : ℝ) : EReal))
    (hw : ∀ (r : Fin 256) (d : Fin 128), xw (ix2 r d) = ((w ⟨1536 + r.val, by omega⟩ d : ℝ) : EReal))
    (ho : ∀ (r : Fin 256) (d : Fin 128), xo (ix2 r d) = ((o ⟨1536 + r.val, by omega⟩ d : ℝ) : EReal))
    (hk : ∀ (r : Fin 1792) (d : Fin 128), xk (ix2 r d) = ((k ⟨r.val, by omega⟩ d : ℝ) : EReal))
    (hv : ∀ (r : Fin 1792) (d : Fin 128), xv (ix2 r d) = ((v ⟨r.val, by omega⟩ d : ℝ) : EReal))
    (hl : ∀ (r : Fin 256) (d : Fin 128), xl (ix2 r d) = ((L ⟨1536 + r.val, by omega⟩ : ℝ) : EReal))
    (ha : ∀ (c : Fin 1792) (d : Fin 128), xa (ix2 c d) = ((dkTo σ q k v w o L 1536 ⟨c.val, by omega⟩ d : ℝ) : EReal))
    (c : Fin 1792) (d : Fin 128) :
    (k0_pay48 xq xw (k0_pay43 xw xo) (k0_pay44 xq xk) (iota .tc S256x256 32 [0] iota_S256x256_d0_w32) xl xv xa : FVec Ideal S1792x128 .f32) (ix2 c d) = ((dkTo σ q k v w o L 1792 ⟨c.val, by omega⟩ d : ℝ) : EReal) := by
  pointwise [k0_pay48, hq, ha, sc6 hσ hq hw ho hk hv hl]
  exact accK 1536 (by omega) _ d

theorem accV6 (hσ : Ideal.ofBits .f32 0x3DD105EC#32 = (σ : EReal)) {xq : Vec Ideal S256x128 .bf16} {xw : Vec Ideal S256x128 .bf16} {xk : Vec Ideal S1792x128 .bf16} {xl : Vec Ideal S256x128 .f32} {xa : Vec Ideal S1792x128 .f32}
    (hq : ∀ (r : Fin 256) (d : Fin 128), xq (ix2 r d) = ((q ⟨1536 + r.val, by omega⟩ d : ℝ) : EReal))
    (hw : ∀ (r : Fin 256) (d : Fin 128), xw (ix2 r d) = ((w ⟨1536 + r.val, by omega⟩ d : ℝ) : EReal))
    (hk : ∀ (r : Fin 1792) (d : Fin 128), xk (ix2 r d) = ((k ⟨r.val, by omega⟩ d : ℝ) : EReal))
    (hl : ∀ (r : Fin 256) (d : Fin 128), xl (ix2 r d) = ((L ⟨1536 + r.val, by omega⟩ : ℝ) : EReal))
    (ha : ∀ (c : Fin 1792) (d : Fin 128), xa (ix2 c d) = ((dvTo σ q k w L 1536 ⟨c.val, by omega⟩ d : ℝ) : EReal))
    (c : Fin 1792) (d : Fin 128) :
    (k0_pay49 xw (k0_pay44 xq xk) (iota .tc S256x256 32 [0] iota_S256x256_d0_w32) xl xa : FVec Ideal S1792x128 .f32) (ix2 c d) = ((dvTo σ q k w L 1792 ⟨c.val, by omega⟩ d : ℝ) : EReal) := by
  pointwise [k0_pay49, hw, ha, wt6 hσ hq hk hl]
  exact accV 1536 (by omega) _ d

theorem wt7 (hσ : Ideal.ofBits .f32 0x3DD105EC#32 = (σ : EReal)) {xq : Vec Ideal S256x128 .bf16} {xk : Vec Ideal S2048x128 .bf16} {xl : Vec Ideal S256x128 .f32}
    (hq : ∀ (r : Fin 256) (d : Fin 128), xq (ix2 r d) = ((q ⟨1792 + r.val, by omega⟩ d : ℝ) : EReal))
    (hk : ∀ (r : Fin 2048) (d : Fin 128), xk (ix2 r d) = ((k ⟨r.val, by omega⟩ d : ℝ) : EReal))
    (hl : ∀ (r : Fin 256) (d : Fin 128), xl (ix2 r d) = ((L ⟨1792 + r.val, by omega⟩ : ℝ) : EReal))
    (r : Fin 256) (c : Fin 2048) :
    (k0_pay50 xq xk xl : FVec Ideal S256x2048 .f32) (ix2 r c) = ((wt σ q k L ⟨1792 + r.val, by omega⟩ ⟨c.val, by omega⟩ : ℝ) : EReal) := by
  pointwise [k0_pay50, hq, hk, hl]
  simp only [dite_eq_ite, ite_self]
  by_cases h : c.val < 1792
  · rw [dif_pos h]; exact seen hσ (by show c.val ≤ 1792 + r.val; omega)
  · rw [dif_neg h]; exact diag hσ 1792 (by omega) r c.val (by omega) (by omega) _ rfl _ (by omega) (by omega)

theorem sc7 (hσ : Ideal.ofBits .f32 0x3DD105EC#32 = (σ : EReal)) {xq : Vec Ideal S256x128 .bf16} {xw : Vec Ideal S256x128 .bf16} {xo : Vec Ideal S256x128 .bf16} {xk : Vec Ideal S2048x128 .bf16} {xv : Vec Ideal S2048x128 .bf16} {xl : Vec Ideal S256x128 .f32}
    (hq : ∀ (r : Fin 256) (d : Fin 128), xq (ix2 r d) = ((q ⟨1792 + r.val, by omega⟩ d : ℝ) : EReal))
    (hw : ∀ (r : Fin 256) (d : Fin 128), xw (ix2 r d) = ((w ⟨1792 + r.val, by omega⟩ d : ℝ) : EReal))
    (ho : ∀ (r : Fin 256) (d : Fin 128), xo (ix2 r d) = ((o ⟨1792 + r.val, by omega⟩ d : ℝ) : EReal))
    (hk : ∀ (r : Fin 2048) (d : Fin 128), xk (ix2 r d) = ((k ⟨r.val, by omega⟩ d : ℝ) : EReal))
    (hv : ∀ (r : Fin 2048) (d : Fin 128), xv (ix2 r d) = ((v ⟨r.val, by omega⟩ d : ℝ) : EReal))
    (hl : ∀ (r : Fin 256) (d : Fin 128), xl (ix2 r d) = ((L ⟨1792 + r.val, by omega⟩ : ℝ) : EReal))
    (r : Fin 256) (c : Fin 2048) :
    (k0_pay51 xq xw xo xk xl xv : FVec Ideal S256x2048 .bf16) (ix2 r c) = ((sc σ q k v w o L ⟨1792 + r.val, by omega⟩ ⟨c.val, by omega⟩ : ℝ) : EReal) := by
  pointwise [k0_pay51, hw, ho, hv, wt7 hσ hq hk hl]
  exact grad hσ _ _

theorem rows7 (hσ : Ideal.ofBits .f32 0x3DD105EC#32 = (σ : EReal)) {xq : Vec Ideal S256x128 .bf16} {xw : Vec Ideal S256x128 .bf16} {xo : Vec Ideal S256x128 .bf16} {xk : Vec Ideal S2048x128 .bf16} {xv : Vec Ideal S2048x128 .bf16} {xl : Vec Ideal S256x128 .f32}
    (hq : ∀ (r : Fin 256) (d : Fin 128), xq (ix2 r d) = ((q ⟨1792 + r.val, by omega⟩ d : ℝ) : EReal))
    (hw : ∀ (r : Fin 256) (d : Fin 128), xw (ix2 r d) = ((w ⟨1792 + r.val, by omega⟩ d : ℝ) : EReal))
    (ho : ∀ (r : Fin 256) (d : Fin 128), xo (ix2 r d) = ((o ⟨1792 + r.val, by omega⟩ d : ℝ) : EReal))
    (hk : ∀ (r : Fin 2048) (d : Fin 128), xk (ix2 r d) = ((k ⟨r.val, by omega⟩ d : ℝ) : EReal))
    (hv : ∀ (r : Fin 2048) (d : Fin 128), xv (ix2 r d) = ((v ⟨r.val, by omega⟩ d : ℝ) : EReal))
    (hl : ∀ (r : Fin 256) (d : Fin 128), xl (ix2 r d) = ((L ⟨1792 + r.val, by omega⟩ : ℝ) : EReal))
    (r : Fin 256) (d : Fin 128) :
    (k0_pay52 xq xw xo xk xl xv xk : FVec Ideal S256x128 .f32) (ix2 r d) = ((dq σ q k v w o L ⟨1792 + r.val, by omega⟩ d : ℝ) : EReal) := by
  pointwise [k0_pay52, hk, sc7 hσ hq hw ho hk hv hl]
  exact rowsQ 2048 (by omega) _ (by first | (show r.val < 2048; omega) | (show 1792 + r.val < 2048; omega)) d

theorem accK7 (hσ : Ideal.ofBits .f32 0x3DD105EC#32 = (σ : EReal)) {xq : Vec Ideal S256x128 .bf16} {xw : Vec Ideal S256x128 .bf16} {xo : Vec Ideal S256x128 .bf16} {xk : Vec Ideal S2048x128 .bf16} {xv : Vec Ideal S2048x128 .bf16} {xl : Vec Ideal S256x128 .f32} {xa : Vec Ideal S2048x128 .f32}
    (hq : ∀ (r : Fin 256) (d : Fin 128), xq (ix2 r d) = ((q ⟨1792 + r.val, by omega⟩ d : ℝ) : EReal))
    (hw : ∀ (r : Fin 256) (d : Fin 128), xw (ix2 r d) = ((w ⟨1792 + r.val, by omega⟩ d : ℝ) : EReal))
    (ho : ∀ (r : Fin 256) (d : Fin 128), xo (ix2 r d) = ((o ⟨1792 + r.val, by omega⟩ d : ℝ) : EReal))
    (hk : ∀ (r : Fin 2048) (d : Fin 128), xk (ix2 r d) = ((k ⟨r.val, by omega⟩ d : ℝ) : EReal))
    (hv : ∀ (r : Fin 2048) (d : Fin 128), xv (ix2 r d) = ((v ⟨r.val, by omega⟩ d : ℝ) : EReal))
    (hl : ∀ (r : Fin 256) (d : Fin 128), xl (ix2 r d) = ((L ⟨1792 + r.val, by omega⟩ : ℝ) : EReal))
    (ha : ∀ (c : Fin 2048) (d : Fin 128), xa (ix2 c d) = ((dkTo σ q k v w o L 1792 ⟨c.val, by omega⟩ d : ℝ) : EReal))
    (c : Fin 2048) (d : Fin 128) :
    (k0_pay1 xq (k0_pay51 xq xw xo xk xl xv) xa : FVec Ideal S2048x128 .f32) (ix2 c d) = ((dkTo σ q k v w o L 2048 ⟨c.val, by omega⟩ d : ℝ) : EReal) := by
  pointwise [k0_pay1, hq, ha, sc7 hσ hq hw ho hk hv hl]
  exact accK 1792 (by omega) _ d

theorem accV7 (hσ : Ideal.ofBits .f32 0x3DD105EC#32 = (σ : EReal)) {xq : Vec Ideal S256x128 .bf16} {xw : Vec Ideal S256x128 .bf16} {xk : Vec Ideal S2048x128 .bf16} {xl : Vec Ideal S256x128 .f32} {xa : Vec Ideal S2048x128 .f32}
    (hq : ∀ (r : Fin 256) (d : Fin 128), xq (ix2 r d) = ((q ⟨1792 + r.val, by omega⟩ d : ℝ) : EReal))
    (hw : ∀ (r : Fin 256) (d : Fin 128), xw (ix2 r d) = ((w ⟨1792 + r.val, by omega⟩ d : ℝ) : EReal))
    (hk : ∀ (r : Fin 2048) (d : Fin 128), xk (ix2 r d) = ((k ⟨r.val, by omega⟩ d : ℝ) : EReal))
    (hl : ∀ (r : Fin 256) (d : Fin 128), xl (ix2 r d) = ((L ⟨1792 + r.val, by omega⟩ : ℝ) : EReal))
    (ha : ∀ (c : Fin 2048) (d : Fin 128), xa (ix2 c d) = ((dvTo σ q k w L 1792 ⟨c.val, by omega⟩ d : ℝ) : EReal))
    (c : Fin 2048) (d : Fin 128) :
    (k0_pay2 xw (k0_pay50 xq xk xl) xa : FVec Ideal S2048x128 .f32) (ix2 c d) = ((dvTo σ q k w L 2048 ⟨c.val, by omega⟩ d : ℝ) : EReal) := by
  pointwise [k0_pay2, hw, ha, wt7 hσ hq hk hl]
  exact accV 1792 (by omega) _ d

end Cert.Proof.Attn

end
-- ==== Proof.Block.lean ====
/- One grid point of the kernel, one head of one sequence: what its three output blocks hold when its input blocks
   hold the real rows of that head. The queries' gradient is written a step's rows at a time; the keys' and the values'
   are accumulated over the steps, each step adding to the keys it reads. -/
module

public import proofs.«01_k».proof.Proof.Gen.KernelIdeal.Value
public import proofs.«01_k».proof.Proof.Tiles
public import Idealize.ShloMosaic.Lib.WritesUnit

@[expose] public section

set_option maxRecDepth 16384

noncomputable section

namespace Cert.Proof.Attn

open Idealize.ShloMosaic Cert.KernelIdeal Cert.KernelIdeal.Gen Pointwise

/-- A load of rows from row `n` on out of a whole block, at an index. -/
theorem load_rows {e : EltTy} {m : Memref sig .tc .vmem S2048x128 e} (hm : m.IsWhole) (x : Vec Ideal S2048x128 e) (n K : ℕ)
    (hK : n + K ≤ 2048) (inb : ∀ a : Fin 2, (![n, 0] : Fin 2 → ℕ) a + (![K, 128] : Fin 2 → ℕ) a ≤ S2048x128.size a)
    (r : Fin K) (d : Fin 128) :
    View.readAt (Elt Ideal) m.view (Rect.unit (s := S2048x128) ![n, 0] ![K, 128] inb).toLoadRect (hm.unread x)
      (ix2 r d : (⟨2, ![K, 128]⟩ : Shape).Idx) = x (ix2 ⟨n + r.val, by omega⟩ d) := by
  show View.read (Elt Ideal) m.view (hm.unread x) _ = _
  rw [hm.read_unread]
  congr 1
  funext a
  refine Fin.ext ?_
  match a with
  | ⟨0, _⟩ => show n + 1 * r.val = n + r.val; omega
  | ⟨1, _⟩ => show 0 + 1 * d.val = d.val; omega

/-- A store over the first `K` rows of an accumulator: the rows it covers hold what it stores, the others what they held. -/
theorem acc_step {κ : Kind} {sp : Space} (v : View sig κ sp S2048x128 .f32) (f f' : Fin 2048 → Fin 128 → EReal) (K : ℕ) (hK : K ≤ 2048)
    (inb inb' : ∀ a : Fin 2, (![0, 0] : Fin 2 → ℕ) a + (![K, 128] : Fin 2 → ℕ) a ≤ S2048x128.size a)
    (y : (⟨2, ![K, 128]⟩ : Shape).Idx → Elt Ideal .f32) (Ls : List (View.Piece (Elt Ideal) S2048x128 .f32))
    (hL : ∀ (c : Fin 2048) (d : Fin 128), View.canon Ls (ix2 c d) = f c d)
    (hf : ∀ (c : Fin 2048) (d : Fin 128), K ≤ c.val → f' c d = f c d)
    (hy : (∀ (c : Fin K) (d : Fin 128), v.readCov Ls (Rect.unit (s := S2048x128) ![0, 0] ![K, 128] inb').toLoadRect
        (ix2 c d : (⟨2, ![K, 128]⟩ : Shape).Idx) = f ⟨c.val, by omega⟩ d) →
      ∀ (c : Fin K) (d : Fin 128), y (ix2 c d) = f' ⟨c.val, by omega⟩ d)
    (c : Fin 2048) (d : Fin 128) :
    View.canon (⟨Rect.unit (s := S2048x128) ![0, 0] ![K, 128] inb, y⟩ :: Ls) (ix2 c d) = f' c d := by
  have hemb : ∀ (c : Fin K) (d : Fin 128), (Rect.unit (s := S2048x128) ![0, 0] ![K, 128] inb).emb
      (ix2 c d : (⟨2, ![K, 128]⟩ : Shape).Idx) = ix2 ⟨c.val, by omega⟩ d := by
    intro c d
    funext a
    refine Fin.ext ?_
    match a with
    | ⟨0, _⟩ => show 0 + 1 * c.val = c.val; omega
    | ⟨1, _⟩ => show 0 + 1 * d.val = d.val; omega
  by_cases h : c.val < K
  · have e := hemb ⟨c.val, h⟩ d
    have e' : (ix2 c d : S2048x128.Idx) = (Rect.unit (s := S2048x128) ![0, 0] ![K, 128] inb).emb
      (ix2 (⟨c.val, h⟩ : Fin K) d : (⟨2, ![K, 128]⟩ : Shape).Idx) := e.symm
    rw [e', View.canon_cons_emb]
    refine hy (fun c d => ?_) ⟨c.val, h⟩ d
    rw [View.readCov_eq_canon']
    show View.canon Ls _ = _
    have e2 := hemb c d
    rw [← hL, ← e2]
    rfl
  · rw [View.canon_cons_of_not_mem, hL, hf c d (by omega)]
    rw [Rect.mem_set_unit]
    intro hc
    have := (hc 0).2
    exact h (by simpa using this)

/-- A store of 256 rows after the rows already written. -/
theorem rows_step (f : Fin 2048 → Fin 128 → EReal) (n : ℕ) (hn : n + 256 ≤ 2048)
    (inb : ∀ a : Fin 2, (![n, 0] : Fin 2 → ℕ) a + (![256, 128] : Fin 2 → ℕ) a ≤ S2048x128.size a)
    (y : S256x128.Idx → Elt Ideal .f32) (Ls : List (View.Piece (Elt Ideal) S2048x128 .f32))
    (hL : ∀ (r : Fin 2048) (d : Fin 128), r.val < n → View.canon Ls (ix2 r d) = f r d)
    (hy : ∀ (r : Fin 256) (d : Fin 128), y (ix2 r d) = f ⟨n + r.val, by omega⟩ d)
    (r : Fin 2048) (d : Fin 128) (hr : r.val < n + 256) :
    View.canon (⟨Rect.unit (s := S2048x128) ![n, 0] ![256, 128] inb, y⟩ :: Ls) (ix2 r d) = f r d := by
  by_cases h : n ≤ r.val
  · have e : (ix2 r d : S2048x128.Idx) = (Rect.unit (s := S2048x128) ![n, 0] ![256, 128] inb).emb
        (ix2 (⟨r.val - n, by omega⟩ : Fin 256) d : S256x128.Idx) := by
      funext a
      refine Fin.ext ?_
      match a with
      | ⟨0, _⟩ => show r.val = n + 1 * (r.val - n); omega
      | ⟨1, _⟩ => show d.val = 0 + 1 * d.val; omega
    rw [e, View.canon_cons_emb, hy]
    congr 1
    exact Fin.ext (by show n + (r.val - n) = r.val; omega)
  · rw [View.canon_cons_of_not_mem, hL r d (by omega)]
    rw [Rect.mem_set_unit]
    intro hc
    exact h (hc 0).1

variable {σ : ℝ} {q k v w o : Mat} {L : Fin 2048 → ℝ}

set_option maxHeartbeats 2000000 in
/-- The point's block of the queries' gradient. -/
theorem out6 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole)
    (x0 : Vec Ideal S2048x128 .bf16) (x1 : Vec Ideal S2048x128 .bf16) (x2 : Vec Ideal S2048x128 .bf16) (x3 : Vec Ideal S2048x128 .bf16) (x4 : Vec Ideal S2048x128 .f32) (x5 : Vec Ideal S2048x128 .bf16)
    (hσ : Ideal.ofBits .f32 0x3DD105EC#32 = (σ : EReal))
    (h0 : ∀ (r : Fin 2048) (d : Fin 128), x0 (ix2 r d) = ((q r d : ℝ) : EReal))
    (h1 : ∀ (r : Fin 2048) (d : Fin 128), x1 (ix2 r d) = ((k r d : ℝ) : EReal))
    (h2 : ∀ (r : Fin 2048) (d : Fin 128), x2 (ix2 r d) = ((v r d : ℝ) : EReal))
    (h3 : ∀ (r : Fin 2048) (d : Fin 128), x3 (ix2 r d) = ((o r d : ℝ) : EReal))
    (h4 : ∀ (r : Fin 2048) (d : Fin 128), x4 (ix2 r d) = ((L r : ℝ) : EReal))
    (h5 : ∀ (r : Fin 2048) (d : Fin 128), x5 (ix2 r d) = ((w r d : ℝ) : EReal))
    (r : Fin 2048) (d : Fin 128) :
    out0_A_6 (F := Ideal) c i arg2 harg2 arg3 harg3 arg4 harg4 arg5 harg5 arg6 harg6 arg7 harg7 arg8 harg8 arg9 harg9 arg10 harg10 x0 x1 x2 x3 x4 x5 (ix2 r d) = ((dq σ q k v w o L r d : ℝ) : EReal) := by
  unfold out0_A_6
  refine (congrFun (View.read_writes_eq_canon _ _ _ (cover0_A_6 c i arg2 harg2 arg3 harg3 arg4 harg4 arg5 harg5 arg6 harg6 arg7 harg7 arg8 harg8 arg9 harg9 arg10 harg10 x0 x1 x2 x3 x4 x5)) _).trans ?_
  unfold kernelRun0_A
  dsimp only
  sl_unfold_words
  refine rows_step (fun r d => ((dq σ q k v w o L r d : ℝ) : EReal)) 1792 (by omega) _ _ _ ?_ ?_ r d r.isLt
  swap
  · exact rows7 hσ (fun r d => (load_rows harg2 x0 1792 256 (by omega) _ r d).trans (h0 _ d)) (fun r d => (load_rows harg7 x5 1792 256 (by omega) _ r d).trans (h5 _ d)) (fun r d => (load_rows harg5 x3 1792 256 (by omega) _ r d).trans (h3 _ d)) (fun r d => (load_rows harg3 x1 0 2048 (by omega) _ r d).trans (by simp only [Nat.zero_add]; exact h1 _ d)) (fun r d => (load_rows harg4 x2 0 2048 (by omega) _ r d).trans (by simp only [Nat.zero_add]; exact h2 _ d)) (fun r d => (load_rows harg6 x4 1792 256 (by omega) _ r d).trans (h4 _ d))
  refine fun r d hr => rows_step (fun r d => ((dq σ q k v w o L r d : ℝ) : EReal)) 1536 (by omega) _ _ _ ?_ ?_ r d hr
  swap
  · exact rows6 hσ (fun r d => (load_rows harg2 x0 1536 256 (by omega) _ r d).trans (h0 _ d)) (fun r d => (load_rows harg7 x5 1536 256 (by omega) _ r d).trans (h5 _ d)) (fun r d => (load_rows harg5 x3 1536 256 (by omega) _ r d).trans (h3 _ d)) (fun r d => (load_rows harg3 x1 0 1792 (by omega) _ r d).trans (by simp only [Nat.zero_add]; exact h1 _ d)) (fun r d => (load_rows harg4 x2 0 1792 (by omega) _ r d).trans (by simp only [Nat.zero_add]; exact h2 _ d)) (fun r d => (load_rows harg6 x4 1536 256 (by omega) _ r d).trans (h4 _ d))
  refine fun r d hr => rows_step (fun r d => ((dq σ q k v w o L r d : ℝ) : EReal)) 1280 (by omega) _ _ _ ?_ ?_ r d hr
  swap
  · exact rows5 hσ rfl (fun r d => (load_rows harg2 x0 1280 256 (by omega) _ r d).trans (h0 _ d)) (fun r d => (load_rows harg7 x5 1280 256 (by omega) _ r d).trans (h5 _ d)) (fun r d => (load_rows harg5 x3 1280 256 (by omega) _ r d).trans (h3 _ d)) (fun r d => (load_rows harg3 x1 0 1536 (by omega) _ r d).trans (by simp only [Nat.zero_add]; exact h1 _ d)) (fun r d => (load_rows harg4 x2 0 1536 (by omega) _ r d).trans (by simp only [Nat.zero_add]; exact h2 _ d)) (fun r d => (load_rows harg6 x4 1280 256 (by omega) _ r d).trans (h4 _ d))
  refine fun r d hr => rows_step (fun r d => ((dq σ q k v w o L r d : ℝ) : EReal)) 1024 (by omega) _ _ _ ?_ ?_ r d hr
  swap
  · exact rows4 hσ (fun r d => (load_rows harg2 x0 1024 256 (by omega) _ r d).trans (h0 _ d)) (fun r d => (load_rows harg7 x5 1024 256 (by omega) _ r d).trans (h5 _ d)) (fun r d => (load_rows harg5 x3 1024 256 (by omega) _ r d).trans (h3 _ d)) (fun r d => (load_rows harg3 x1 0 1280 (by omega) _ r d).trans (by simp only [Nat.zero_add]; exact h1 _ d)) (fun r d => (load_rows harg4 x2 0 1280 (by omega) _ r d).trans (by simp only [Nat.zero_add]; exact h2 _ d)) (fun r d => (load_rows harg6 x4 1024 256 (by omega) _ r d).trans (h4 _ d))
  refine fun r d hr => rows_step (fun r d => ((dq σ q k v w o L r d : ℝ) : EReal)) 768 (by omega) _ _ _ ?_ ?_ r d hr
  swap
  · exact rows3 hσ (fun r d => (load_rows harg2 x0 768 256 (by omega) _ r d).trans (h0 _ d)) (fun r d => (load_rows harg7 x5 768 256 (by omega) _ r d).trans (h5 _ d)) (fun r d => (load_rows harg5 x3 768 256 (by omega) _ r d).trans (h3 _ d)) (fun r d => (load_rows harg3 x1 0 1024 (by omega) _ r d).trans (by simp only [Nat.zero_add]; exact h1 _ d)) (fun r d => (load_rows harg4 x2 0 1024 (by omega) _ r d).trans (by simp only [Nat.zero_add]; exact h2 _ d)) (fun r d => (load_rows harg6 x4 768 256 (by omega) _ r d).trans (h4 _ d))
  refine fun r d hr => rows_step (fun r d => ((dq σ q k v w o L r d : ℝ) : EReal)) 512 (by omega) _ _ _ ?_ ?_ r d hr
  swap
  · exact rows2 hσ (fun r d => (load_rows harg2 x0 512 256 (by omega) _ r d).trans (h0 _ d)) (fun r d => (load_rows harg7 x5 512 256 (by omega) _ r d).trans (h5 _ d)) (fun r d => (load_rows harg5 x3 512 256 (by omega) _ r d).trans (h3 _ d)) (fun r d => (load_rows harg3 x1 0 768 (by omega) _ r d).trans (by simp only [Nat.zero_add]; exact h1 _ d)) (fun r d => (load_rows harg4 x2 0 768 (by omega) _ r d).trans (by simp only [Nat.zero_add]; exact h2 _ d)) (fun r d => (load_rows harg6 x4 512 256 (by omega) _ r d).trans (h4 _ d))
  refine fun r d hr => rows_step (fun r d => ((dq σ q k v w o L r d : ℝ) : EReal)) 256 (by omega) _ _ _ ?_ ?_ r d hr
  swap
  · exact rows1 hσ (fun r d => (load_rows harg2 x0 256 256 (by omega) _ r d).trans (h0 _ d)) (fun r d => (load_rows harg7 x5 256 256 (by omega) _ r d).trans (h5 _ d)) (fun r d => (load_rows harg5 x3 256 256 (by omega) _ r d).trans (h3 _ d)) (fun r d => (load_rows harg3 x1 0 512 (by omega) _ r d).trans (by simp only [Nat.zero_add]; exact h1 _ d)) (fun r d => (load_rows harg4 x2 0 512 (by omega) _ r d).trans (by simp only [Nat.zero_add]; exact h2 _ d)) (fun r d => (load_rows harg6 x4 256 256 (by omega) _ r d).trans (h4 _ d))
  refine fun r d hr => rows_step (fun r d => ((dq σ q k v w o L r d : ℝ) : EReal)) 0 (by omega) _ _ _ ?_ ?_ r d hr
  · intro r d hr; exact absurd hr (Nat.not_lt_zero _)
  · intro r d
    simp only [Nat.zero_add]
    exact rows0 hσ rfl (fun r d => (load_rows harg2 x0 0 256 (by omega) _ r d).trans (by simp only [Nat.zero_add]; exact h0 _ d)) (fun r d => (load_rows harg7 x5 0 256 (by omega) _ r d).trans (by simp only [Nat.zero_add]; exact h5 _ d)) (fun r d => (load_rows harg5 x3 0 256 (by omega) _ r d).trans (by simp only [Nat.zero_add]; exact h3 _ d)) (fun r d => (load_rows harg3 x1 0 256 (by omega) _ r d).trans (by simp only [Nat.zero_add]; exact h1 _ d)) (fun r d => (load_rows harg4 x2 0 256 (by omega) _ r d).trans (by simp only [Nat.zero_add]; exact h2 _ d)) (fun r d => (load_rows harg6 x4 0 256 (by omega) _ r d).trans (by simp only [Nat.zero_add]; exact h4 _ d)) r d

set_option maxHeartbeats 2000000 in
/-- The point's block of the keys' gradient. -/
theorem out7 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole)
    (x0 : Vec Ideal S2048x128 .bf16) (x1 : Vec Ideal S2048x128 .bf16) (x2 : Vec Ideal S2048x128 .bf16) (x3 : Vec Ideal S2048x128 .bf16) (x4 : Vec Ideal S2048x128 .f32) (x5 : Vec Ideal S2048x128 .bf16)
    (hσ : Ideal.ofBits .f32 0x3DD105EC#32 = (σ : EReal))
    (h0 : ∀ (r : Fin 2048) (d : Fin 128), x0 (ix2 r d) = ((q r d : ℝ) : EReal))
    (h1 : ∀ (r : Fin 2048) (d : Fin 128), x1 (ix2 r d) = ((k r d : ℝ) : EReal))
    (h2 : ∀ (r : Fin 2048) (d : Fin 128), x2 (ix2 r d) = ((v r d : ℝ) : EReal))
    (h3 : ∀ (r : Fin 2048) (d : Fin 128), x3 (ix2 r d) = ((o r d : ℝ) : EReal))
    (h4 : ∀ (r : Fin 2048) (d : Fin 128), x4 (ix2 r d) = ((L r : ℝ) : EReal))
    (h5 : ∀ (r : Fin 2048) (d : Fin 128), x5 (ix2 r d) = ((w r d : ℝ) : EReal))
    (r : Fin 2048) (d : Fin 128) :
    out0_A_7 (F := Ideal) c i arg2 harg2 arg3 harg3 arg4 harg4 arg5 harg5 arg6 harg6 arg7 harg7 arg8 harg8 arg9 harg9 arg10 harg10 x0 x1 x2 x3 x4 x5 (ix2 r d) = ((dkTo σ q k v w o L 2048 r d : ℝ) : EReal) := by
  unfold out0_A_7
  refine (congrFun (View.read_writes_eq_canon _ _ _ (cover0_A_7 c i arg2 harg2 arg3 harg3 arg4 harg4 arg5 harg5 arg6 harg6 arg7 harg7 arg8 harg8 arg9 harg9 arg10 harg10 x0 x1 x2 x3 x4 x5)) _).trans ?_
  unfold kernelRun0_A
  dsimp only
  sl_unfold_words
  refine acc_step arg9.view (fun c d => ((dkTo σ q k v w o L 1792 c d : ℝ) : EReal)) (fun c d => ((dkTo σ q k v w o L 2048 c d : ℝ) : EReal)) 2048 (by omega) _ _ _ _ ?_
    (fun c d h => by rw [dkTo_of_le 2048 c h, dkTo_of_le 1792 c (by omega)])
    (fun ha => accK7 hσ (fun r d => (load_rows harg2 x0 1792 256 (by omega) _ r d).trans (h0 _ d)) (fun r d => (load_rows harg7 x5 1792 256 (by omega) _ r d).trans (h5 _ d)) (fun r d => (load_rows harg5 x3 1792 256 (by omega) _ r d).trans (h3 _ d)) (fun r d => (load_rows harg3 x1 0 2048 (by omega) _ r d).trans (by simp only [Nat.zero_add]; exact h1 _ d)) (fun r d => (load_rows harg4 x2 0 2048 (by omega) _ r d).trans (by simp only [Nat.zero_add]; exact h2 _ d)) (fun r d => (load_rows harg6 x4 1792 256 (by omega) _ r d).trans (h4 _ d)) ha) r d
  refine fun r d => acc_step arg9.view (fun c d => ((dkTo σ q k v w o L 1536 c d : ℝ) : EReal)) (fun c d => ((dkTo σ q k v w o L 1792 c d : ℝ) : EReal)) 1792 (by omega) _ _ _ _ ?_
    (fun c d h => by rw [dkTo_of_le 1792 c h, dkTo_of_le 1536 c (by omega)])
    (fun ha => accK6 hσ (fun r d => (load_rows harg2 x0 1536 256 (by omega) _ r d).trans (h0 _ d)) (fun r d => (load_rows harg7 x5 1536 256 (by omega) _ r d).trans (h5 _ d)) (fun r d => (load_rows harg5 x3 1536 256 (by omega) _ r d).trans (h3 _ d)) (fun r d => (load_rows harg3 x1 0 1792 (by omega) _ r d).trans (by simp only [Nat.zero_add]; exact h1 _ d)) (fun r d => (load_rows harg4 x2 0 1792 (by omega) _ r d).trans (by simp only [Nat.zero_add]; exact h2 _ d)) (fun r d => (load_rows harg6 x4 1536 256 (by omega) _ r d).trans (h4 _ d)) ha) r d
  refine fun r d => acc_step arg9.view (fun c d => ((dkTo σ q k v w o L 1280 c d : ℝ) : EReal)) (fun c d => ((dkTo σ q k v w o L 1536 c d : ℝ) : EReal)) 1536 (by omega) _ _ _ _ ?_
    (fun c d h => by rw [dkTo_of_le 1536 c h, dkTo_of_le 1280 c (by omega)])
    (fun ha => accK5 hσ rfl (fun r d => (load_rows harg2 x0 1280 256 (by omega) _ r d).trans (h0 _ d)) (fun r d => (load_rows harg7 x5 1280 256 (by omega) _ r d).trans (h5 _ d)) (fun r d => (load_rows harg5 x3 1280 256 (by omega) _ r d).trans (h3 _ d)) (fun r d => (load_rows harg3 x1 0 1536 (by omega) _ r d).trans (by simp only [Nat.zero_add]; exact h1 _ d)) (fun r d => (load_rows harg4 x2 0 1536 (by omega) _ r d).trans (by simp only [Nat.zero_add]; exact h2 _ d)) (fun r d => (load_rows harg6 x4 1280 256 (by omega) _ r d).trans (h4 _ d)) ha) r d
  refine fun r d => acc_step arg9.view (fun c d => ((dkTo σ q k v w o L 1024 c d : ℝ) : EReal)) (fun c d => ((dkTo σ q k v w o L 1280 c d : ℝ) : EReal)) 1280 (by omega) _ _ _ _ ?_
    (fun c d h => by rw [dkTo_of_le 1280 c h, dkTo_of_le 1024 c (by omega)])
    (fun ha => accK4 hσ (fun r d => (load_rows harg2 x0 1024 256 (by omega) _ r d).trans (h0 _ d)) (fun r d => (load_rows harg7 x5 1024 256 (by omega) _ r d).trans (h5 _ d)) (fun r d => (load_rows harg5 x3 1024 256 (by omega) _ r d).trans (h3 _ d)) (fun r d => (load_rows harg3 x1 0 1280 (by omega) _ r d).trans (by simp only [Nat.zero_add]; exact h1 _ d)) (fun r d => (load_rows harg4 x2 0 1280 (by omega) _ r d).trans (by simp only [Nat.zero_add]; exact h2 _ d)) (fun r d => (load_rows harg6 x4 1024 256 (by omega) _ r d).trans (h4 _ d)) ha) r d
  refine fun r d => acc_step arg9.view (fun c d => ((dkTo σ q k v w o L 768 c d : ℝ) : EReal)) (fun c d => ((dkTo σ q k v w o L 1024 c d : ℝ) : EReal)) 1024 (by omega) _ _ _ _ ?_
    (fun c d h => by rw [dkTo_of_le 1024 c h, dkTo_of_le 768 c (by omega)])
    (fun ha => accK3 hσ (fun r d => (load_rows harg2 x0 768 256 (by omega) _ r d).trans (h0 _ d)) (fun r d => (load_rows harg7 x5 768 256 (by omega) _ r d).trans (h5 _ d)) (fun r d => (load_rows harg5 x3 768 256 (by omega) _ r d).trans (h3 _ d)) (fun r d => (load_rows harg3 x1 0 1024 (by omega) _ r d).trans (by simp only [Nat.zero_add]; exact h1 _ d)) (fun r d => (load_rows harg4 x2 0 1024 (by omega) _ r d).trans (by simp only [Nat.zero_add]; exact h2 _ d)) (fun r d => (load_rows harg6 x4 768 256 (by omega) _ r d).trans (h4 _ d)) ha) r d
  refine fun r d => acc_step arg9.view (fun c d => ((dkTo σ q k v w o L 512 c d : ℝ) : EReal)) (fun c d => ((dkTo σ q k v w o L 768 c d : ℝ) : EReal)) 768 (by omega) _ _ _ _ ?_
    (fun c d h => by rw [dkTo_of_le 768 c h, dkTo_of_le 512 c (by omega)])
    (fun ha => accK2 hσ (fun r d => (load_rows harg2 x0 512 256 (by omega) _ r d).trans (h0 _ d)) (fun r d => (load_rows harg7 x5 512 256 (by omega) _ r d).trans (h5 _ d)) (fun r d => (load_rows harg5 x3 512 256 (by omega) _ r d).trans (h3 _ d)) (fun r d => (load_rows harg3 x1 0 768 (by omega) _ r d).trans (by simp only [Nat.zero_add]; exact h1 _ d)) (fun r d => (load_rows harg4 x2 0 768 (by omega) _ r d).trans (by simp only [Nat.zero_add]; exact h2 _ d)) (fun r d => (load_rows harg6 x4 512 256 (by omega) _ r d).trans (h4 _ d)) ha) r d
  refine fun r d => acc_step arg9.view (fun c d => ((dkTo σ q k v w o L 256 c d : ℝ) : EReal)) (fun c d => ((dkTo σ q k v w o L 512 c d : ℝ) : EReal)) 512 (by omega) _ _ _ _ ?_
    (fun c d h => by rw [dkTo_of_le 512 c h, dkTo_of_le 256 c (by omega)])
    (fun ha => accK1 hσ (fun r d => (load_rows harg2 x0 256 256 (by omega) _ r d).trans (h0 _ d)) (fun r d => (load_rows harg7 x5 256 256 (by omega) _ r d).trans (h5 _ d)) (fun r d => (load_rows harg5 x3 256 256 (by omega) _ r d).trans (h3 _ d)) (fun r d => (load_rows harg3 x1 0 512 (by omega) _ r d).trans (by simp only [Nat.zero_add]; exact h1 _ d)) (fun r d => (load_rows harg4 x2 0 512 (by omega) _ r d).trans (by simp only [Nat.zero_add]; exact h2 _ d)) (fun r d => (load_rows harg6 x4 256 256 (by omega) _ r d).trans (h4 _ d)) ha) r d
  refine fun r d => acc_step arg9.view (fun c d => ((dkTo σ q k v w o L 0 c d : ℝ) : EReal)) (fun c d => ((dkTo σ q k v w o L 256 c d : ℝ) : EReal)) 256 (by omega) _ _ _ _ ?_
    (fun c d h => by rw [dkTo_of_le 256 c h, dkTo_of_le 0 c (by omega)])
    (fun ha => accK0 hσ rfl (fun r d => (load_rows harg2 x0 0 256 (by omega) _ r d).trans (by simp only [Nat.zero_add]; exact h0 _ d)) (fun r d => (load_rows harg7 x5 0 256 (by omega) _ r d).trans (by simp only [Nat.zero_add]; exact h5 _ d)) (fun r d => (load_rows harg5 x3 0 256 (by omega) _ r d).trans (by simp only [Nat.zero_add]; exact h3 _ d)) (fun r d => (load_rows harg3 x1 0 256 (by omega) _ r d).trans (by simp only [Nat.zero_add]; exact h1 _ d)) (fun r d => (load_rows harg4 x2 0 256 (by omega) _ r d).trans (by simp only [Nat.zero_add]; exact h2 _ d)) (fun r d => (load_rows harg6 x4 0 256 (by omega) _ r d).trans (by simp only [Nat.zero_add]; exact h4 _ d)) ha) r d
  intro c d
  refine (congrArg (View.canon _) (?_ : (ix2 c d : S2048x128.Idx) = (Rect.unit (s := S2048x128) ![0, 0] S2048x128.size inb_S2048x128_S2048x128_0_0).emb (ix2 c d))).trans ?_
  · funext a
    refine Fin.ext ?_
    match a with
    | ⟨0, _⟩ => show c.val = 0 + 1 * c.val; omega
    | ⟨1, _⟩ => show d.val = 0 + 1 * d.val; omega
  rw [View.canon_cons_emb, dkTo_zero]
  exact Ideal.ofBits_zero_f32

set_option maxHeartbeats 2000000 in
/-- The point's block of the values' gradient. -/
theorem out8 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole)
    (x0 : Vec Ideal S2048x128 .bf16) (x1 : Vec Ideal S2048x128 .bf16) (x2 : Vec Ideal S2048x128 .bf16) (x3 : Vec Ideal S2048x128 .bf16) (x4 : Vec Ideal S2048x128 .f32) (x5 : Vec Ideal S2048x128 .bf16)
    (hσ : Ideal.ofBits .f32 0x3DD105EC#32 = (σ : EReal))
    (h0 : ∀ (r : Fin 2048) (d : Fin 128), x0 (ix2 r d) = ((q r d : ℝ) : EReal))
    (h1 : ∀ (r : Fin 2048) (d : Fin 128), x1 (ix2 r d) = ((k r d : ℝ) : EReal))
    (h2 : ∀ (r : Fin 2048) (d : Fin 128), x2 (ix2 r d) = ((v r d : ℝ) : EReal))
    (h3 : ∀ (r : Fin 2048) (d : Fin 128), x3 (ix2 r d) = ((o r d : ℝ) : EReal))
    (h4 : ∀ (r : Fin 2048) (d : Fin 128), x4 (ix2 r d) = ((L r : ℝ) : EReal))
    (h5 : ∀ (r : Fin 2048) (d : Fin 128), x5 (ix2 r d) = ((w r d : ℝ) : EReal))
    (r : Fin 2048) (d : Fin 128) :
    out0_A_8 (F := Ideal) c i arg2 harg2 arg3 harg3 arg4 harg4 arg5 harg5 arg6 harg6 arg7 harg7 arg8 harg8 arg9 harg9 arg10 harg10 x0 x1 x2 x3 x4 x5 (ix2 r d) = ((dvTo σ q k w L 2048 r d : ℝ) : EReal) := by
  unfold out0_A_8
  refine (congrFun (View.read_writes_eq_canon _ _ _ (cover0_A_8 c i arg2 harg2 arg3 harg3 arg4 harg4 arg5 harg5 arg6 harg6 arg7 harg7 arg8 harg8 arg9 harg9 arg10 harg10 x0 x1 x2 x3 x4 x5)) _).trans ?_
  unfold kernelRun0_A
  dsimp only
  sl_unfold_words
  refine acc_step arg10.view (fun c d => ((dvTo σ q k w L 1792 c d : ℝ) : EReal)) (fun c d => ((dvTo σ q k w L 2048 c d : ℝ) : EReal)) 2048 (by omega) _ _ _ _ ?_
    (fun c d h => by rw [dvTo_of_le 2048 c h, dvTo_of_le 1792 c (by omega)])
    (fun ha => accV7 hσ (fun r d => (load_rows harg2 x0 1792 256 (by omega) _ r d).trans (h0 _ d)) (fun r d => (load_rows harg7 x5 1792 256 (by omega) _ r d).trans (h5 _ d)) (fun r d => (load_rows harg3 x1 0 2048 (by omega) _ r d).trans (by simp only [Nat.zero_add]; exact h1 _ d)) (fun r d => (load_rows harg6 x4 1792 256 (by omega) _ r d).trans (h4 _ d)) ha) r d
  refine fun r d => acc_step arg10.view (fun c d => ((dvTo σ q k w L 1536 c d : ℝ) : EReal)) (fun c d => ((dvTo σ q k w L 1792 c d : ℝ) : EReal)) 1792 (by omega) _ _ _ _ ?_
    (fun c d h => by rw [dvTo_of_le 1792 c h, dvTo_of_le 1536 c (by omega)])
    (fun ha => accV6 hσ (fun r d => (load_rows harg2 x0 1536 256 (by omega) _ r d).trans (h0 _ d)) (fun r d => (load_rows harg7 x5 1536 256 (by omega) _ r d).trans (h5 _ d)) (fun r d => (load_rows harg3 x1 0 1792 (by omega) _ r d).trans (by simp only [Nat.zero_add]; exact h1 _ d)) (fun r d => (load_rows harg6 x4 1536 256 (by omega) _ r d).trans (h4 _ d)) ha) r d
  refine fun r d => acc_step arg10.view (fun c d => ((dvTo σ q k w L 1280 c d : ℝ) : EReal)) (fun c d => ((dvTo σ q k w L 1536 c d : ℝ) : EReal)) 1536 (by omega) _ _ _ _ ?_
    (fun c d h => by rw [dvTo_of_le 1536 c h, dvTo_of_le 1280 c (by omega)])
    (fun ha => accV5 hσ (fun r d => (load_rows harg2 x0 1280 256 (by omega) _ r d).trans (h0 _ d)) (fun r d => (load_rows harg7 x5 1280 256 (by omega) _ r d).trans (h5 _ d)) (fun r d => (load_rows harg3 x1 0 1536 (by omega) _ r d).trans (by simp only [Nat.zero_add]; exact h1 _ d)) (fun r d => (load_rows harg6 x4 1280 256 (by omega) _ r d).trans (h4 _ d)) ha) r d
  refine fun r d => acc_step arg10.view (fun c d => ((dvTo σ q k w L 1024 c d : ℝ) : EReal)) (fun c d => ((dvTo σ q k w L 1280 c d : ℝ) : EReal)) 1280 (by omega) _ _ _ _ ?_
    (fun c d h => by rw [dvTo_of_le 1280 c h, dvTo_of_le 1024 c (by omega)])
    (fun ha => accV4 hσ (fun r d => (load_rows harg2 x0 1024 256 (by omega) _ r d).trans (h0 _ d)) (fun r d => (load_rows harg7 x5 1024 256 (by omega) _ r d).trans (h5 _ d)) (fun r d => (load_rows harg3 x1 0 1280 (by omega) _ r d).trans (by simp only [Nat.zero_add]; exact h1 _ d)) (fun r d => (load_rows harg6 x4 1024 256 (by omega) _ r d).trans (h4 _ d)) ha) r d
  refine fun r d => acc_step arg10.view (fun c d => ((dvTo σ q k w L 768 c d : ℝ) : EReal)) (fun c d => ((dvTo σ q k w L 1024 c d : ℝ) : EReal)) 1024 (by omega) _ _ _ _ ?_
    (fun c d h => by rw [dvTo_of_le 1024 c h, dvTo_of_le 768 c (by omega)])
    (fun ha => accV3 hσ (fun r d => (load_rows harg2 x0 768 256 (by omega) _ r d).trans (h0 _ d)) (fun r d => (load_rows harg7 x5 768 256 (by omega) _ r d).trans (h5 _ d)) (fun r d => (load_rows harg3 x1 0 1024 (by omega) _ r d).trans (by simp only [Nat.zero_add]; exact h1 _ d)) (fun r d => (load_rows harg6 x4 768 256 (by omega) _ r d).trans (h4 _ d)) ha) r d
  refine fun r d => acc_step arg10.view (fun c d => ((dvTo σ q k w L 512 c d : ℝ) : EReal)) (fun c d => ((dvTo σ q k w L 768 c d : ℝ) : EReal)) 768 (by omega) _ _ _ _ ?_
    (fun c d h => by rw [dvTo_of_le 768 c h, dvTo_of_le 512 c (by omega)])
    (fun ha => accV2 hσ (fun r d => (load_rows harg2 x0 512 256 (by omega) _ r d).trans (h0 _ d)) (fun r d => (load_rows harg7 x5 512 256 (by omega) _ r d).trans (h5 _ d)) (fun r d => (load_rows harg3 x1 0 768 (by omega) _ r d).trans (by simp only [Nat.zero_add]; exact h1 _ d)) (fun r d => (load_rows harg6 x4 512 256 (by omega) _ r d).trans (h4 _ d)) ha) r d
  refine fun r d => acc_step arg10.view (fun c d => ((dvTo σ q k w L 256 c d : ℝ) : EReal)) (fun c d => ((dvTo σ q k w L 512 c d : ℝ) : EReal)) 512 (by omega) _ _ _ _ ?_
    (fun c d h => by rw [dvTo_of_le 512 c h, dvTo_of_le 256 c (by omega)])
    (fun ha => accV1 hσ (fun r d => (load_rows harg2 x0 256 256 (by omega) _ r d).trans (h0 _ d)) (fun r d => (load_rows harg7 x5 256 256 (by omega) _ r d).trans (h5 _ d)) (fun r d => (load_rows harg3 x1 0 512 (by omega) _ r d).trans (by simp only [Nat.zero_add]; exact h1 _ d)) (fun r d => (load_rows harg6 x4 256 256 (by omega) _ r d).trans (h4 _ d)) ha) r d
  refine fun r d => acc_step arg10.view (fun c d => ((dvTo σ q k w L 0 c d : ℝ) : EReal)) (fun c d => ((dvTo σ q k w L 256 c d : ℝ) : EReal)) 256 (by omega) _ _ _ _ ?_
    (fun c d h => by rw [dvTo_of_le 256 c h, dvTo_of_le 0 c (by omega)])
    (fun ha => accV0 hσ (fun r d => (load_rows harg2 x0 0 256 (by omega) _ r d).trans (by simp only [Nat.zero_add]; exact h0 _ d)) (fun r d => (load_rows harg7 x5 0 256 (by omega) _ r d).trans (by simp only [Nat.zero_add]; exact h5 _ d)) (fun r d => (load_rows harg3 x1 0 256 (by omega) _ r d).trans (by simp only [Nat.zero_add]; exact h1 _ d)) (fun r d => (load_rows harg6 x4 0 256 (by omega) _ r d).trans (by simp only [Nat.zero_add]; exact h4 _ d)) ha) r d
  intro c d
  refine (congrArg (View.canon _) (?_ : (ix2 c d : S2048x128.Idx) = (Rect.unit (s := S2048x128) ![0, 0] S2048x128.size inb_S2048x128_S2048x128_0_0).emb (ix2 c d))).trans ?_
  · funext a
    refine Fin.ext ?_
    match a with
    | ⟨0, _⟩ => show c.val = 0 + 1 * c.val; omega
    | ⟨1, _⟩ => show d.val = 0 + 1 * d.val; omega
  rw [View.canon_cons_emb, dvTo_zero]
  exact Ideal.ofBits_zero_f32

end Cert.Proof.Attn

end
-- ==== Proof.Arrays.lean ====
/- The kernel's three result arrays, at an index: grid point (b, h) reads and writes the block of sequence `b` and head
   `h`, rows 2048 b to 2048 b + 2047 and channels 128 h to 128 h + 127 of every array. -/
module

public import proofs.«01_k».proof.Proof.Block

@[expose] public section

set_option maxRecDepth 16384

noncomputable section

namespace Cert.Proof.Attn

open Idealize.ShloMosaic Cert.KernelIdeal Cert.KernelIdeal.Gen Pointwise

/-- Row `r` of sequence `b`. -/
abbrev rowAt (b : Fin 2) (r : Fin 2048) : Fin 4096 := ⟨b.val * 2048 + r.val, by omega⟩

/-- Channel `d` of head `h`. -/
abbrev chanAt (h : Fin 8) (d : Fin 128) : Fin 1024 := ⟨h.val * 128 + d.val, by omega⟩

/-- The rows of sequence `b` and head `h` of an array. -/
def head (A : Fin 4096 → Fin 1024 → ℝ) (b : Fin 2) (h : Fin 8) : Mat := fun r d => A (rowAt b r) (chanAt h d)

/-- Every index of an array lies in one head of one sequence. -/
theorem split_index (y : S4096x1024.Idx) : ∃ (b : Fin 2) (h : Fin 8) (r : Fin 2048) (d : Fin 128),
    y = ix2 (rowAt b r) (chanAt h d) := by
  have h0 : (y 0).val < 4096 := (y 0).isLt
  have h1 : (y 1).val < 1024 := (y 1).isLt
  refine ⟨⟨(y 0).val / 2048, by omega⟩, ⟨(y 1).val / 128, by omega⟩, ⟨(y 0).val % 2048, by omega⟩,
    ⟨(y 1).val % 128, by omega⟩, ?_⟩
  funext a
  refine Fin.ext ?_
  match a with
  | ⟨0, _⟩ => show (y 0).val = (y 0).val / 2048 * 2048 + (y 0).val % 2048; omega
  | ⟨1, _⟩ => show (y 1).val = (y 1).val / 128 * 128 + (y 1).val % 128; omega

/-- Some grid point works on sequence `b` and head `h`. -/
theorem point_of : ∀ (b : Fin 2) (h : Fin 8), ∃ t : Fin grid0.N, cc0_transform_0 (grid0.coords t) = ![b.val, h.val] := by
  decide +kernel

variable (m : (ℓ : Loc nD τ sig) → Buf (Elt Ideal) ℓ)

theorem emb0 (t : Fin grid0.N) (b : Fin 2) (h : Fin 8) (ht : cc0_transform_0 (grid0.coords t) = ![b.val, h.val])
    (r : Fin 2048) (d : Fin 128) :
    ((cfg0.win 0).blk t).view.emb (ix2 r d : S2048x128.Idx) = (ix2 (rowAt b r) (chanAt h d) : S4096x1024.Idx) := by
  have h0 : win0_0.index t (0 : Fin 2) = b.val := congrFun ht 0
  have h1 : win0_0.index t (1 : Fin 2) = h.val := congrFun ht 1
  funext a
  refine Fin.ext ?_
  match a with
  | ⟨0, _⟩ => show win0_0.index t (0 : Fin 2) * 2048 + 1 * r.val = b.val * 2048 + r.val; omega
  | ⟨1, _⟩ => show win0_0.index t (1 : Fin 2) * 128 + 1 * d.val = h.val * 128 + d.val; omega

theorem emb1 (t : Fin grid0.N) (b : Fin 2) (h : Fin 8) (ht : cc0_transform_0 (grid0.coords t) = ![b.val, h.val])
    (r : Fin 2048) (d : Fin 128) :
    ((cfg0.win 1).blk t).view.emb (ix2 r d : S2048x128.Idx) = (ix2 (rowAt b r) (chanAt h d) : S4096x1024.Idx) := by
  have h0 : win0_1.index t (0 : Fin 2) = b.val := congrFun ht 0
  have h1 : win0_1.index t (1 : Fin 2) = h.val := congrFun ht 1
  funext a
  refine Fin.ext ?_
  match a with
  | ⟨0, _⟩ => show win0_1.index t (0 : Fin 2) * 2048 + 1 * r.val = b.val * 2048 + r.val; omega
  | ⟨1, _⟩ => show win0_1.index t (1 : Fin 2) * 128 + 1 * d.val = h.val * 128 + d.val; omega

theorem emb2 (t : Fin grid0.N) (b : Fin 2) (h : Fin 8) (ht : cc0_transform_0 (grid0.coords t) = ![b.val, h.val])
    (r : Fin 2048) (d : Fin 128) :
    ((cfg0.win 2).blk t).view.emb (ix2 r d : S2048x128.Idx) = (ix2 (rowAt b r) (chanAt h d) : S4096x1024.Idx) := by
  have h0 : win0_2.index t (0 : Fin 2) = b.val := congrFun ht 0
  have h1 : win0_2.index t (1 : Fin 2) = h.val := congrFun ht 1
  funext a
  refine Fin.ext ?_
  match a with
  | ⟨0, _⟩ => show win0_2.index t (0 : Fin 2) * 2048 + 1 * r.val = b.val * 2048 + r.val; omega
  | ⟨1, _⟩ => show win0_2.index t (1 : Fin 2) * 128 + 1 * d.val = h.val * 128 + d.val; omega

theorem emb3 (t : Fin grid0.N) (b : Fin 2) (h : Fin 8) (ht : cc0_transform_0 (grid0.coords t) = ![b.val, h.val])
    (r : Fin 2048) (d : Fin 128) :
    ((cfg0.win 3).blk t).view.emb (ix2 r d : S2048x128.Idx) = (ix2 (rowAt b r) (chanAt h d) : S4096x1024.Idx) := by
  have h0 : win0_3.index t (0 : Fin 2) = b.val := congrFun ht 0
  have h1 : win0_3.index t (1 : Fin 2) = h.val := congrFun ht 1
  funext a
  refine Fin.ext ?_
  match a with
  | ⟨0, _⟩ => show win0_3.index t (0 : Fin 2) * 2048 + 1 * r.val = b.val * 2048 + r.val; omega
  | ⟨1, _⟩ => show win0_3.index t (1 : Fin 2) * 128 + 1 * d.val = h.val * 128 + d.val; omega

theorem emb4 (t : Fin grid0.N) (b : Fin 2) (h : Fin 8) (ht : cc0_transform_0 (grid0.coords t) = ![b.val, h.val])
    (r : Fin 2048) (d : Fin 128) :
    ((cfg0.win 4).blk t).view.emb (ix2 r d : S2048x128.Idx) = (ix2 (rowAt b r) (chanAt h d) : S4096x1024.Idx) := by
  have h0 : win0_4.index t (0 : Fin 2) = b.val := congrFun ht 0
  have h1 : win0_4.index t (1 : Fin 2) = h.val := congrFun ht 1
  funext a
  refine Fin.ext ?_
  match a with
  | ⟨0, _⟩ => show win0_4.index t (0 : Fin 2) * 2048 + 1 * r.val = b.val * 2048 + r.val; omega
  | ⟨1, _⟩ => show win0_4.index t (1 : Fin 2) * 128 + 1 * d.val = h.val * 128 + d.val; omega

theorem emb5 (t : Fin grid0.N) (b : Fin 2) (h : Fin 8) (ht : cc0_transform_0 (grid0.coords t) = ![b.val, h.val])
    (r : Fin 2048) (d : Fin 128) :
    ((cfg0.win 5).blk t).view.emb (ix2 r d : S2048x128.Idx) = (ix2 (rowAt b r) (chanAt h d) : S4096x1024.Idx) := by
  have h0 : win0_5.index t (0 : Fin 2) = b.val := congrFun ht 0
  have h1 : win0_5.index t (1 : Fin 2) = h.val := congrFun ht 1
  funext a
  refine Fin.ext ?_
  match a with
  | ⟨0, _⟩ => show win0_5.index t (0 : Fin 2) * 2048 + 1 * r.val = b.val * 2048 + r.val; omega
  | ⟨1, _⟩ => show win0_5.index t (1 : Fin 2) * 128 + 1 * d.val = h.val * 128 + d.val; omega

theorem emb6 (t : Fin grid0.N) (b : Fin 2) (h : Fin 8) (ht : cc0_transform_0 (grid0.coords t) = ![b.val, h.val])
    (r : Fin 2048) (d : Fin 128) :
    ((cfg0.win 6).blk t).view.emb (ix2 r d : S2048x128.Idx) = (ix2 (rowAt b r) (chanAt h d) : S4096x1024.Idx) := by
  have h0 : win0_6.index t (0 : Fin 2) = b.val := congrFun ht 0
  have h1 : win0_6.index t (1 : Fin 2) = h.val := congrFun ht 1
  funext a
  refine Fin.ext ?_
  match a with
  | ⟨0, _⟩ => show win0_6.index t (0 : Fin 2) * 2048 + 1 * r.val = b.val * 2048 + r.val; omega
  | ⟨1, _⟩ => show win0_6.index t (1 : Fin 2) * 128 + 1 * d.val = h.val * 128 + d.val; omega

theorem emb7 (t : Fin grid0.N) (b : Fin 2) (h : Fin 8) (ht : cc0_transform_0 (grid0.coords t) = ![b.val, h.val])
    (r : Fin 2048) (d : Fin 128) :
    ((cfg0.win 7).blk t).view.emb (ix2 r d : S2048x128.Idx) = (ix2 (rowAt b r) (chanAt h d) : S4096x1024.Idx) := by
  have h0 : win0_7.index t (0 : Fin 2) = b.val := congrFun ht 0
  have h1 : win0_7.index t (1 : Fin 2) = h.val := congrFun ht 1
  funext a
  refine Fin.ext ?_
  match a with
  | ⟨0, _⟩ => show win0_7.index t (0 : Fin 2) * 2048 + 1 * r.val = b.val * 2048 + r.val; omega
  | ⟨1, _⟩ => show win0_7.index t (1 : Fin 2) * 128 + 1 * d.val = h.val * 128 + d.val; omega

theorem emb8 (t : Fin grid0.N) (b : Fin 2) (h : Fin 8) (ht : cc0_transform_0 (grid0.coords t) = ![b.val, h.val])
    (r : Fin 2048) (d : Fin 128) :
    ((cfg0.win 8).blk t).view.emb (ix2 r d : S2048x128.Idx) = (ix2 (rowAt b r) (chanAt h d) : S4096x1024.Idx) := by
  have h0 : win0_8.index t (0 : Fin 2) = b.val := congrFun ht 0
  have h1 : win0_8.index t (1 : Fin 2) = h.val := congrFun ht 1
  funext a
  refine Fin.ext ?_
  match a with
  | ⟨0, _⟩ => show win0_8.index t (0 : Fin 2) * 2048 + 1 * r.val = b.val * 2048 + r.val; omega
  | ⟨1, _⟩ => show win0_8.index t (1 : Fin 2) * 128 + 1 * d.val = h.val * 128 + d.val; omega

theorem read0 (f : (⟨S4096x1024, .bf16⟩ : BufTy).Contents (Elt Ideal)) (t : Fin grid0.N) (b : Fin 2) (h : Fin 8)
    (ht : cc0_transform_0 (grid0.coords t) = ![b.val, h.val]) (r : Fin 2048) (d : Fin 128) :
    ((cfg0.win 0).blk t).view.read (Elt Ideal) f (ix2 r d : S2048x128.Idx) = f (ix2 (rowAt b r) (chanAt h d) : S4096x1024.Idx) := by
  show f (((cfg0.win 0).blk t).view.emb (ix2 r d : S2048x128.Idx)) = _
  rw [emb0 t b h ht]

theorem blk0 (c : Dev nD) (t : Fin grid0.N) (b : Fin 2) (h : Fin 8) (ht : cc0_transform_0 (grid0.coords t) = ![b.val, h.val])
    (r : Fin 2048) (d : Fin 128) :
    iblk m c 0 t (ix2 r d : S2048x128.Idx) = V m c main_arg0 (ix2 (rowAt b r) (chanAt h d) : S4096x1024.Idx) := by
  unfold iblk
  exact read0 _ t b h ht r d

theorem read1 (f : (⟨S4096x1024, .bf16⟩ : BufTy).Contents (Elt Ideal)) (t : Fin grid0.N) (b : Fin 2) (h : Fin 8)
    (ht : cc0_transform_0 (grid0.coords t) = ![b.val, h.val]) (r : Fin 2048) (d : Fin 128) :
    ((cfg0.win 1).blk t).view.read (Elt Ideal) f (ix2 r d : S2048x128.Idx) = f (ix2 (rowAt b r) (chanAt h d) : S4096x1024.Idx) := by
  show f (((cfg0.win 1).blk t).view.emb (ix2 r d : S2048x128.Idx)) = _
  rw [emb1 t b h ht]

theorem blk1 (c : Dev nD) (t : Fin grid0.N) (b : Fin 2) (h : Fin 8) (ht : cc0_transform_0 (grid0.coords t) = ![b.val, h.val])
    (r : Fin 2048) (d : Fin 128) :
    iblk m c 1 t (ix2 r d : S2048x128.Idx) = V m c main_arg1 (ix2 (rowAt b r) (chanAt h d) : S4096x1024.Idx) := by
  unfold iblk
  exact read1 _ t b h ht r d

theorem read2 (f : (⟨S4096x1024, .bf16⟩ : BufTy).Contents (Elt Ideal)) (t : Fin grid0.N) (b : Fin 2) (h : Fin 8)
    (ht : cc0_transform_0 (grid0.coords t) = ![b.val, h.val]) (r : Fin 2048) (d : Fin 128) :
    ((cfg0.win 2).blk t).view.read (Elt Ideal) f (ix2 r d : S2048x128.Idx) = f (ix2 (rowAt b r) (chanAt h d) : S4096x1024.Idx) := by
  show f (((cfg0.win 2).blk t).view.emb (ix2 r d : S2048x128.Idx)) = _
  rw [emb2 t b h ht]

theorem blk2 (c : Dev nD) (t : Fin grid0.N) (b : Fin 2) (h : Fin 8) (ht : cc0_transform_0 (grid0.coords t) = ![b.val, h.val])
    (r : Fin 2048) (d : Fin 128) :
    iblk m c 2 t (ix2 r d : S2048x128.Idx) = V m c main_arg2 (ix2 (rowAt b r) (chanAt h d) : S4096x1024.Idx) := by
  unfold iblk
  exact read2 _ t b h ht r d

theorem read3 (f : (⟨S4096x1024, .bf16⟩ : BufTy).Contents (Elt Ideal)) (t : Fin grid0.N) (b : Fin 2) (h : Fin 8)
    (ht : cc0_transform_0 (grid0.coords t) = ![b.val, h.val]) (r : Fin 2048) (d : Fin 128) :
    ((cfg0.win 3).blk t).view.read (Elt Ideal) f (ix2 r d : S2048x128.Idx) = f (ix2 (rowAt b r) (chanAt h d) : S4096x1024.Idx) := by
  show f (((cfg0.win 3).blk t).view.emb (ix2 r d : S2048x128.Idx)) = _
  rw [emb3 t b h ht]

theorem blk3 (c : Dev nD) (t : Fin grid0.N) (b : Fin 2) (h : Fin 8) (ht : cc0_transform_0 (grid0.coords t) = ![b.val, h.val])
    (r : Fin 2048) (d : Fin 128) :
    iblk m c 3 t (ix2 r d : S2048x128.Idx) = V m c main_v33 (ix2 (rowAt b r) (chanAt h d) : S4096x1024.Idx) := by
  unfold iblk
  exact read3 _ t b h ht r d

theorem read4 (f : (⟨S4096x1024, .f32⟩ : BufTy).Contents (Elt Ideal)) (t : Fin grid0.N) (b : Fin 2) (h : Fin 8)
    (ht : cc0_transform_0 (grid0.coords t) = ![b.val, h.val]) (r : Fin 2048) (d : Fin 128) :
    ((cfg0.win 4).blk t).view.read (Elt Ideal) f (ix2 r d : S2048x128.Idx) = f (ix2 (rowAt b r) (chanAt h d) : S4096x1024.Idx) := by
  show f (((cfg0.win 4).blk t).view.emb (ix2 r d : S2048x128.Idx)) = _
  rw [emb4 t b h ht]

theorem blk4 (c : Dev nD) (t : Fin grid0.N) (b : Fin 2) (h : Fin 8) (ht : cc0_transform_0 (grid0.coords t) = ![b.val, h.val])
    (r : Fin 2048) (d : Fin 128) :
    iblk m c 4 t (ix2 r d : S2048x128.Idx) = V m c main_v34 (ix2 (rowAt b r) (chanAt h d) : S4096x1024.Idx) := by
  unfold iblk
  exact read4 _ t b h ht r d

theorem read5 (f : (⟨S4096x1024, .bf16⟩ : BufTy).Contents (Elt Ideal)) (t : Fin grid0.N) (b : Fin 2) (h : Fin 8)
    (ht : cc0_transform_0 (grid0.coords t) = ![b.val, h.val]) (r : Fin 2048) (d : Fin 128) :
    ((cfg0.win 5).blk t).view.read (Elt Ideal) f (ix2 r d : S2048x128.Idx) = f (ix2 (rowAt b r) (chanAt h d) : S4096x1024.Idx) := by
  show f (((cfg0.win 5).blk t).view.emb (ix2 r d : S2048x128.Idx)) = _
  rw [emb5 t b h ht]

theorem blk5 (c : Dev nD) (t : Fin grid0.N) (b : Fin 2) (h : Fin 8) (ht : cc0_transform_0 (grid0.coords t) = ![b.val, h.val])
    (r : Fin 2048) (d : Fin 128) :
    iblk m c 5 t (ix2 r d : S2048x128.Idx) = V m c main_arg3 (ix2 (rowAt b r) (chanAt h d) : S4096x1024.Idx) := by
  unfold iblk
  exact read5 _ t b h ht r d

variable {σ : ℝ} {Q K X D : Fin 4096 → Fin 1024 → ℝ} {O : Fin 2 → Fin 8 → Mat} {LS : Fin 2 → Fin 8 → Fin 2048 → ℝ}

theorem at6 (f : (⟨S4096x1024, .f32⟩ : BufTy).Contents (Elt Ideal)) (x : Vec Ideal S2048x128 .f32) (t : Fin grid0.N) (b : Fin 2) (h : Fin 8)
    (ht : cc0_transform_0 (grid0.coords t) = ![b.val, h.val])
    (e : ((cfg0.win 6).blk t).view.read (Elt Ideal) f = (cfg0.win 6).cut (grid0.coords t) x) (r : Fin 2048) (d : Fin 128) :
    f (ix2 (rowAt b r) (chanAt h d) : S4096x1024.Idx) = x (ix2 r d : S2048x128.Idx) := by
  rw [← emb6 t b h ht r d]
  exact congrFun e (ix2 r d : S2048x128.Idx)

theorem final6 (c : Dev nD) (hσ : Ideal.ofBits .f32 0x3DD105EC#32 = (σ : EReal))
    (h0 : ∀ r d, V m c main_arg0 (ix2 r d : S4096x1024.Idx) = ((Q r d : ℝ) : EReal))
    (h1 : ∀ r d, V m c main_arg1 (ix2 r d : S4096x1024.Idx) = ((K r d : ℝ) : EReal))
    (h2 : ∀ r d, V m c main_arg2 (ix2 r d : S4096x1024.Idx) = ((X r d : ℝ) : EReal))
    (h3 : ∀ b h r d, V m c main_v33 (ix2 (rowAt b r) (chanAt h d) : S4096x1024.Idx) = ((O b h r d : ℝ) : EReal))
    (h4 : ∀ b h r d, V m c main_v34 (ix2 (rowAt b r) (chanAt h d) : S4096x1024.Idx) = ((LS b h r : ℝ) : EReal))
    (h5 : ∀ r d, V m c main_arg3 (ix2 r d : S4096x1024.Idx) = ((D r d : ℝ) : EReal))
    (b : Fin 2) (h : Fin 8) (r : Fin 2048) (d : Fin 128) :
    (dats m 0 c).arrAt 6 cfg0.N (ix2 (rowAt b r) (chanAt h d) : S4096x1024.Idx) = ((dq σ (head Q b h) (head K b h) (head X b h) (head D b h) (O b h) (LS b h) r d : ℝ) : EReal) := by
  obtain ⟨t, ht⟩ := point_of b h
  refine (at6 _ _ t b h ht ((Cert.KernelIdeal.Value.blocks6 m c t (flush0_6 t)).trans (Cert.KernelIdeal.Value.flushed6_A m c t)) r d).trans ?_
  exact out6 c _ _ _ _ _ _ _ _ _ _ _ _ _ _ _ _ _ _ _ _ _ _ _ _ _ hσ
    (fun r d => (blk0 m c t b h ht r d).trans (h0 _ _)) (fun r d => (blk1 m c t b h ht r d).trans (h1 _ _))
    (fun r d => (blk2 m c t b h ht r d).trans (h2 _ _)) (fun r d => (blk3 m c t b h ht r d).trans (h3 b h r d))
    (fun r d => (blk4 m c t b h ht r d).trans (h4 b h r d)) (fun r d => (blk5 m c t b h ht r d).trans (h5 _ _)) r d

theorem at7 (f : (⟨S4096x1024, .f32⟩ : BufTy).Contents (Elt Ideal)) (x : Vec Ideal S2048x128 .f32) (t : Fin grid0.N) (b : Fin 2) (h : Fin 8)
    (ht : cc0_transform_0 (grid0.coords t) = ![b.val, h.val])
    (e : ((cfg0.win 7).blk t).view.read (Elt Ideal) f = (cfg0.win 7).cut (grid0.coords t) x) (r : Fin 2048) (d : Fin 128) :
    f (ix2 (rowAt b r) (chanAt h d) : S4096x1024.Idx) = x (ix2 r d : S2048x128.Idx) := by
  rw [← emb7 t b h ht r d]
  exact congrFun e (ix2 r d : S2048x128.Idx)

theorem final7 (c : Dev nD) (hσ : Ideal.ofBits .f32 0x3DD105EC#32 = (σ : EReal))
    (h0 : ∀ r d, V m c main_arg0 (ix2 r d : S4096x1024.Idx) = ((Q r d : ℝ) : EReal))
    (h1 : ∀ r d, V m c main_arg1 (ix2 r d : S4096x1024.Idx) = ((K r d : ℝ) : EReal))
    (h2 : ∀ r d, V m c main_arg2 (ix2 r d : S4096x1024.Idx) = ((X r d : ℝ) : EReal))
    (h3 : ∀ b h r d, V m c main_v33 (ix2 (rowAt b r) (chanAt h d) : S4096x1024.Idx) = ((O b h r d : ℝ) : EReal))
    (h4 : ∀ b h r d, V m c main_v34 (ix2 (rowAt b r) (chanAt h d) : S4096x1024.Idx) = ((LS b h r : ℝ) : EReal))
    (h5 : ∀ r d, V m c main_arg3 (ix2 r d : S4096x1024.Idx) = ((D r d : ℝ) : EReal))
    (b : Fin 2) (h : Fin 8) (r : Fin 2048) (d : Fin 128) :
    (dats m 0 c).arrAt 7 cfg0.N (ix2 (rowAt b r) (chanAt h d) : S4096x1024.Idx) = ((dkTo σ (head Q b h) (head K b h) (head X b h) (head D b h) (O b h) (LS b h) 2048 r d : ℝ) : EReal) := by
  obtain ⟨t, ht⟩ := point_of b h
  refine (at7 _ _ t b h ht ((Cert.KernelIdeal.Value.blocks7 m c t (flush0_7 t)).trans (Cert.KernelIdeal.Value.flushed7_A m c t)) r d).trans ?_
  exact out7 c _ _ _ _ _ _ _ _ _ _ _ _ _ _ _ _ _ _ _ _ _ _ _ _ _ hσ
    (fun r d => (blk0 m c t b h ht r d).trans (h0 _ _)) (fun r d => (blk1 m c t b h ht r d).trans (h1 _ _))
    (fun r d => (blk2 m c t b h ht r d).trans (h2 _ _)) (fun r d => (blk3 m c t b h ht r d).trans (h3 b h r d))
    (fun r d => (blk4 m c t b h ht r d).trans (h4 b h r d)) (fun r d => (blk5 m c t b h ht r d).trans (h5 _ _)) r d

theorem at8 (f : (⟨S4096x1024, .f32⟩ : BufTy).Contents (Elt Ideal)) (x : Vec Ideal S2048x128 .f32) (t : Fin grid0.N) (b : Fin 2) (h : Fin 8)
    (ht : cc0_transform_0 (grid0.coords t) = ![b.val, h.val])
    (e : ((cfg0.win 8).blk t).view.read (Elt Ideal) f = (cfg0.win 8).cut (grid0.coords t) x) (r : Fin 2048) (d : Fin 128) :
    f (ix2 (rowAt b r) (chanAt h d) : S4096x1024.Idx) = x (ix2 r d : S2048x128.Idx) := by
  rw [← emb8 t b h ht r d]
  exact congrFun e (ix2 r d : S2048x128.Idx)

theorem final8 (c : Dev nD) (hσ : Ideal.ofBits .f32 0x3DD105EC#32 = (σ : EReal))
    (h0 : ∀ r d, V m c main_arg0 (ix2 r d : S4096x1024.Idx) = ((Q r d : ℝ) : EReal))
    (h1 : ∀ r d, V m c main_arg1 (ix2 r d : S4096x1024.Idx) = ((K r d : ℝ) : EReal))
    (h2 : ∀ r d, V m c main_arg2 (ix2 r d : S4096x1024.Idx) = ((X r d : ℝ) : EReal))
    (h3 : ∀ b h r d, V m c main_v33 (ix2 (rowAt b r) (chanAt h d) : S4096x1024.Idx) = ((O b h r d : ℝ) : EReal))
    (h4 : ∀ b h r d, V m c main_v34 (ix2 (rowAt b r) (chanAt h d) : S4096x1024.Idx) = ((LS b h r : ℝ) : EReal))
    (h5 : ∀ r d, V m c main_arg3 (ix2 r d : S4096x1024.Idx) = ((D r d : ℝ) : EReal))
    (b : Fin 2) (h : Fin 8) (r : Fin 2048) (d : Fin 128) :
    (dats m 0 c).arrAt 8 cfg0.N (ix2 (rowAt b r) (chanAt h d) : S4096x1024.Idx) = ((dvTo σ (head Q b h) (head K b h) (head D b h) (LS b h) 2048 r d : ℝ) : EReal) := by
  obtain ⟨t, ht⟩ := point_of b h
  refine (at8 _ _ t b h ht ((Cert.KernelIdeal.Value.blocks8 m c t (flush0_8 t)).trans (Cert.KernelIdeal.Value.flushed8_A m c t)) r d).trans ?_
  exact out8 c _ _ _ _ _ _ _ _ _ _ _ _ _ _ _ _ _ _ _ _ _ _ _ _ _ hσ
    (fun r d => (blk0 m c t b h ht r d).trans (h0 _ _)) (fun r d => (blk1 m c t b h ht r d).trans (h1 _ _))
    (fun r d => (blk2 m c t b h ht r d).trans (h2 _ _)) (fun r d => (blk3 m c t b h ht r d).trans (h3 b h r d))
    (fun r d => (blk4 m c t b h ht r d).trans (h4 b h r d)) (fun r d => (blk5 m c t b h ht r d).trans (h5 _ _)) r d

end Cert.Proof.Attn

end
-- ==== Proof.Soft.lean ====
/- The softmax of a causal row in real numbers: its greatest score, its sum of exponentials, and the gradient of the
   scores as the division's and the exponential's rules give it, shown to be the shorter form `sc`. -/
module

public import proofs.«01_k».proof.Proof.Math

@[expose] public section

noncomputable section

namespace Cert.Proof.Attn

open Idealize.ShloMosaic

variable (σ : ℝ) (q k v w : Mat)

/-- A row's scores: −∞ at the keys after the query. -/
def score (r c : Fin 2048) : EReal := if c.val ≤ r.val then ((dot q k r c * σ : ℝ) : EReal) else ⊥

/-- A row's greatest score. -/
def rowMax (r : Fin 2048) : ℝ := ((Finset.univ : Finset (Fin 2048)).fold max ⊥ (score σ q k r)).toReal

/-- A row's exponentials. -/
def ex (r c : Fin 2048) : ℝ := if c.val ≤ r.val then Real.exp (dot q k r c * σ - rowMax σ q k r) else 0

/-- A row's sum of exponentials. -/
def den (r : Fin 2048) : ℝ := ∑ c : Fin 2048, ex σ q k r c

/-- The logarithm of a row's sum of exponentials. -/
def lse (r : Fin 2048) : ℝ := rowMax σ q k r + Real.log (den σ q k r)

/-- The attention's result. -/
def att (L : Fin 2048 → ℝ) : Mat := fun r d => ∑ c : Fin 2048, wt σ q k L r c * v c d

theorem score_ne_top (r c : Fin 2048) : score σ q k r c < ⊤ := by
  unfold score
  by_cases h : c.val ≤ r.val
  · rw [if_pos h]; exact EReal.coe_lt_top _
  · rw [if_neg h]; exact bot_lt_top

theorem coe_rowMax (r : Fin 2048) :
    (Finset.univ : Finset (Fin 2048)).fold max ⊥ (score σ q k r) = ((rowMax σ q k r : ℝ) : EReal) := by
  refine (EReal.coe_toReal (ne_of_lt ?_) (ne_of_gt ?_)).symm
  · exact (Finset.fold_max_lt _).mpr ⟨bot_lt_top, fun c _ => score_ne_top σ q k r c⟩
  · refine lt_of_lt_of_le (EReal.bot_lt_coe (dot q k r r * σ)) ((Finset.le_fold_max _).mpr (Or.inr ⟨r, Finset.mem_univ r, ?_⟩))
    rw [score, if_pos (le_refl _)]

theorem exp_score (r c : Fin 2048) : Ideal.exp (score σ q k r c - ((rowMax σ q k r : ℝ) : EReal)) = ((ex σ q k r c : ℝ) : EReal) := by
  unfold score ex
  by_cases h : c.val ≤ r.val
  · rw [if_pos h, if_pos h, ← EReal.coe_sub, Ideal.exp_coe]
  · rw [if_neg h, if_neg h, EReal.bot_sub, Ideal.exp_bot, EReal.coe_zero]

theorem ex_nonneg (r c : Fin 2048) : 0 ≤ ex σ q k r c := by
  unfold ex
  by_cases h : c.val ≤ r.val
  · rw [if_pos h]; exact (Real.exp_pos _).le
  · rw [if_neg h]

theorem den_pos (r : Fin 2048) : 0 < den σ q k r :=
  Finset.sum_pos' (fun c _ => ex_nonneg σ q k r c) ⟨r, Finset.mem_univ r, by
    rw [ex, if_pos (le_refl _)]; exact Real.exp_pos _⟩

theorem log_den (r : Fin 2048) : ((rowMax σ q k r : ℝ) : EReal) + Ideal.log ((den σ q k r : ℝ) : EReal) = ((lse σ q k r : ℝ) : EReal) := by
  rw [Ideal.log_coe, if_neg (not_le.mpr (den_pos σ q k r)), ← EReal.coe_add]
  rfl

/-- An exponential over the row's sum is the weight. -/
theorem ex_mul_inv (r c : Fin 2048) : ex σ q k r c * (1 / den σ q k r) = wt σ q k (lse σ q k) r c := by
  unfold ex wt lse
  by_cases h : c.val ≤ r.val
  · rw [if_pos h, if_pos h, ← sub_sub, Real.exp_sub _ (Real.log _), Real.exp_log (den_pos σ q k r), mul_one_div]
  · rw [if_neg h, if_neg h, zero_mul]

/-- The result's cotangent against the result is the weighted mean of its products with the values. -/
theorem dot_att (L : Fin 2048 → ℝ) (r : Fin 2048) :
    dot w (att σ q k v L) r r = ∑ c : Fin 2048, wt σ q k L r c * dot w v r c := by
  unfold dot att
  simp only [Finset.mul_sum]
  rw [Finset.sum_comm]
  exact Finset.sum_congr rfl fun c _ => Finset.sum_congr rfl fun d _ => by ring

/-- The gradient of a score: through the quotient's numerator, less the share of it that the row's sum carries. -/
theorem sc_eq (r c : Fin 2048) :
    (dot w v r c * (1 / den σ q k r)
        + -∑ c' : Fin 2048, dot w v r c' * (1 * (1 / (den σ q k r * den σ q k r))) * ex σ q k r c') * ex σ q k r c * σ
      = sc σ q k v w (att σ q k v (lse σ q k)) (lse σ q k) r c := by
  have hd : den σ q k r ≠ 0 := (den_pos σ q k r).ne'
  have e : ∑ c' : Fin 2048, dot w v r c' * (1 * (1 / (den σ q k r * den σ q k r))) * ex σ q k r c'
      = (1 / den σ q k r) * ∑ c' : Fin 2048, wt σ q k (lse σ q k) r c' * dot w v r c' := by
    rw [Finset.mul_sum]
    refine Finset.sum_congr rfl fun c' _ => ?_
    rw [← ex_mul_inv]
    field_simp
  rw [e, sc, dot_att, ← ex_mul_inv σ q k r c]
  ring

theorem ex_zero {r c : Fin 2048} (h : ¬c.val ≤ r.val) : ex σ q k r c = 0 := if_neg h

/-- All queries: the gradients of keys and values. -/
theorem dkTo_all (o : Mat) (L : Fin 2048 → ℝ) (c : Fin 2048) (d : Fin 128) :
    dkTo σ q k v w o L 2048 c d = ∑ r : Fin 2048, sc σ q k v w o L r c * q r d :=
  Finset.sum_congr rfl fun r _ => if_pos r.isLt

theorem dvTo_all (L : Fin 2048 → ℝ) (c : Fin 2048) (d : Fin 128) :
    dvTo σ q k w L 2048 c d = ∑ r : Fin 2048, wt σ q k L r c * w r d :=
  Finset.sum_congr rfl fun r _ => if_pos r.isLt

end Cert.Proof.Attn

end
-- ==== Proof.Host.lean ====
/- What the host hands the kernel besides the arguments: the attention's result and the rows' logarithms, step by step
   as functions of the arguments, and read at an index as real numbers. -/
module

public import proofs.«01_k».proof.Proof.Arrays
public import proofs.«01_k».proof.Proof.Soft
public import Idealize.ShloMosaic.Lib.StableHlo.RunRead

@[expose] public section

set_option maxRecDepth 16384

noncomputable section

namespace Cert.Proof.Attn

open Idealize.ShloMosaic Idealize.ShloMosaic.TcCoe Idealize.ShloMosaic.StableHlo Cert.KernelIdeal Cert.KernelIdeal.Gen Pointwise

abbrev Arr := FVec Ideal S4096x1024 .bf16

/-- An argument by heads. -/
def byHead (x : Arr) : FVec Ideal S2x2048x8x128 .f32 :=
  shapeCast S2x2048x8x128 (extf .f32 x bitsLt_bf16_f32) shapeCasts_S4096x1024_S2x2048x8x128

/-- The masked scores. -/
def hostScore (x0 x1 : Arr) : FVec Ideal S2x8x2048x2048 .f32 :=
  select
    (broadcastInDim S2x8x2048x2048 ![2, 3] bcast_S2048x2048_S2x8x2048x2048_2_3
      (cmpi .sle
        (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf (Host.dotGeneral dot_S2x2048x8x128_S2x2048x8x128_S2x8x2048x2048_3_3_1_1_02_02 none (byHead x0) (byHead x1))
      (broadcastInDim S2x8x2048x2048 ![] bcast_S_S2x8x2048x2048 (constant (F := Ideal) S_ .f32 0x3DD105EC#32)))
    (broadcastInDim S2x8x2048x2048 ![] bcast_S_S2x8x2048x2048 (constant (F := Ideal) S_ .f32 0xFF800000#32))

/-- The rows' greatest scores. -/
def hostMax (s : FVec Ideal S2x8x2048x2048 .f32) : FVec Ideal S2x8x2048 .f32 :=
  Host.reduce FloatOps.maximumf s (constant (F := Ideal) S_ .f32 0xFF800000#32) reducesTo_S2x8x2048x2048_S2x8x2048_d3 h_S_

/-- A row's number on an axis of its own. -/
def column (y : FVec Ideal S2x8x2048 .f32) : FVec Ideal S2x8x2048x1 .f32 :=
  broadcastInDim S2x8x2048x1 ![0, 1, 2] bcast_S2x8x2048_S2x8x2048x1_0_1_2 y

/-- A column across its row. -/
def across (y : FVec Ideal S2x8x2048x1 .f32) : FVec Ideal S2x8x2048x2048 .f32 :=
  broadcastInDim S2x8x2048x2048 ![0, 1, 2, 3] bcast_S2x8x2048x1_S2x8x2048x2048_0_1_2_3 y

/-- The exponentials. -/
def hostEx (s : FVec Ideal S2x8x2048x2048 .f32) (y : FVec Ideal S2x8x2048 .f32) : FVec Ideal S2x8x2048x2048 .f32 :=
  Host.exp (subf s (across (column y)))

/-- The rows' sums. -/
def hostDen (e : FVec Ideal S2x8x2048x2048 .f32) : FVec Ideal S2x8x2048 .f32 :=
  Host.reduceAdd e (constant (F := Ideal) S_ .f32 0x00000000#32) reducesTo_S2x8x2048x2048_S2x8x2048_d3 h_S_

/-- The attention's result. -/
def hostOut (x2 : Arr) (e : FVec Ideal S2x8x2048x2048 .f32) (l : FVec Ideal S2x8x2048 .f32) : FVec Ideal S4096x1024 .bf16 :=
  truncf .bf16 (shapeCast S4096x1024 (transpose S2x2048x8x128 [0, 3, 1, 2]
    (Host.dotGeneral dot_S2x2048x8x128_S2x8x2048x2048_S2x8x128x2048_1_3_3_2_02_01 none (byHead x2) (Host.divf e (across (column l))))
    transposes_S2x8x128x2048_S2x2048x8x128_0_3_1_2) shapeCasts_S2x2048x8x128_S4096x1024) bitsLt_bf16_f32

/-- The rows' logarithms of the sums of exponentials, across each head's channels. -/
def hostLse (y l : FVec Ideal S2x8x2048 .f32) : FVec Ideal S4096x1024 .f32 :=
  shapeCast S4096x1024 (broadcastInDim S2x2048x8x128 ![0, 1, 2, 3] bcast_S2x2048x8x1_S2x2048x8x128_0_1_2_3
    (transpose S2x2048x8x1 [0, 2, 1, 3] (addf (column y) (Host.log (column l))) transposes_S2x8x2048x1_S2x2048x8x1_0_2_1_3))
    shapeCasts_S2x2048x8x128_S4096x1024

section Entry

variable (m : (ℓ : Loc nD τ sig) → Buf (Elt Ideal) ℓ)

theorem V_lse (c : Dev nD) : V m c main_v34 =
    (let s := hostScore (m ((c : Thread nD τ).loc main_arg0)) (m ((c : Thread nD τ).loc main_arg1))
     hostLse (hostMax s) (hostDen (hostEx s (hostMax s)))) := by
  unfold_abbrev_sides
  after_reads_simp
  rfl

theorem V_out (c : Dev nD) : V m c main_v33 =
    (let s := hostScore (m ((c : Thread nD τ).loc main_arg0)) (m ((c : Thread nD τ).loc main_arg1))
     hostOut (m ((c : Thread nD τ).loc main_arg2)) (hostEx s (hostMax s)) (hostDen (hostEx s (hostMax s)))) := by
  unfold_abbrev_sides
  after_reads_simp
  rfl

end Entry

theorem ofBits_bot : Ideal.ofBits .f32 0xFF800000#32 = (⊥ : EReal) := by
  simp [Ideal.ofBits, Ideal.ieee]

variable {σ : ℝ} {Q K X : Fin 4096 → Fin 1024 → ℝ} {x0 x1 x2 : Arr}

theorem byHead_apply (h0 : ∀ r d, x0 (ix2 r d : S4096x1024.Idx) = ((Q r d : ℝ) : EReal)) (b : Fin 2) (h : Fin 8) (r : Fin 2048) (d : Fin 128) :
    byHead x0 (ix4 b r h d : S2x2048x8x128.Idx) = ((head Q b h r d : ℝ) : EReal) := by
  pointwise [byHead, h0]
  rfl

section Steps

variable (hσ : Ideal.ofBits .f32 0x3DD105EC#32 = (σ : EReal))
  (h0 : ∀ b h r d, byHead x0 (ix4 b r h d : S2x2048x8x128.Idx) = ((head Q b h r d : ℝ) : EReal))
  (h1 : ∀ b h r d, byHead x1 (ix4 b r h d : S2x2048x8x128.Idx) = ((head K b h r d : ℝ) : EReal))
  (h2 : ∀ b h r d, byHead x2 (ix4 b r h d : S2x2048x8x128.Idx) = ((head X b h r d : ℝ) : EReal))
  {s e : FVec Ideal S2x8x2048x2048 .f32} {y l : FVec Ideal S2x8x2048 .f32}
  (hs : ∀ b h r c, s (ix4 b h r c : S2x8x2048x2048.Idx) = score σ (head Q b h) (head K b h) r c)
  (hy : ∀ b h r, y (ix3 b h r : S2x8x2048.Idx) = ((rowMax σ (head Q b h) (head K b h) r : ℝ) : EReal))
  (he : ∀ b h r c, e (ix4 b h r c : S2x8x2048x2048.Idx) = ((ex σ (head Q b h) (head K b h) r c : ℝ) : EReal))
  (hl : ∀ b h r, l (ix3 b h r : S2x8x2048.Idx) = ((den σ (head Q b h) (head K b h) r : ℝ) : EReal))

include hσ h0 h1 in
theorem hostScore_apply (b : Fin 2) (h : Fin 8) (r c : Fin 2048) :
    hostScore x0 x1 (ix4 b h r c : S2x8x2048x2048.Idx) = score σ (head Q b h) (head K b h) r c := by
  pointwise [hostScore, h0, h1, hσ]
  rw [ofBits_bot, WordCmp.cmpi_sle_ofNat (by omega) (by omega), WordCmp.select_ofBool, coe_dot, ← EReal.coe_mul]
  unfold score
  by_cases hc : c.val ≤ r.val
  · rw [if_pos hc]
    simp only [hc, decide_true, if_true]
    rfl
  · rw [if_neg hc]
    simp only [hc, decide_false]
    rfl

include hs in
theorem hostMax_apply (b : Fin 2) (h : Fin 8) (r : Fin 2048) :
    hostMax s (ix3 b h r : S2x8x2048.Idx) = ((rowMax σ (head Q b h) (head K b h) r : ℝ) : EReal) := by
  pointwise [hostMax, hs]
  rw [ofBits_bot]
  exact coe_rowMax σ (head Q b h) (head K b h) r

include hs hy in
theorem hostEx_apply (b : Fin 2) (h : Fin 8) (r c : Fin 2048) :
    hostEx s y (ix4 b h r c : S2x8x2048x2048.Idx) = ((ex σ (head Q b h) (head K b h) r c : ℝ) : EReal) := by
  pointwise [hostEx, across, column, hs, hy]
  exact exp_score _ _ _ _ _

include he in
theorem hostDen_apply (b : Fin 2) (h : Fin 8) (r : Fin 2048) :
    hostDen e (ix3 b h r : S2x8x2048.Idx) = ((den σ (head Q b h) (head K b h) r : ℝ) : EReal) := by
  pointwise [hostDen, he]
  rw [coe_sum']
  rfl

include h2 he hl in
theorem hostOut_apply (b : Fin 2) (h : Fin 8) (r : Fin 2048) (d : Fin 128) :
    hostOut x2 e l (ix2 (rowAt b r) (chanAt h d) : S4096x1024.Idx)
      = ((att σ (head Q b h) (head K b h) (head X b h) (lse σ (head Q b h) (head K b h)) r d : ℝ) : EReal) := by
  have e0 : (b.val * 2048 + r.val) / 2048 = b.val := by omega
  have e1 : (b.val * 2048 + r.val) % 2048 = r.val := by omega
  have e2 : (h.val * 128 + d.val) / 128 = h.val := by omega
  have e3 : (h.val * 128 + d.val) % 128 = d.val := by omega
  pointwise [hostOut, across, column, e0, e1, e2, e3, h2, he, hl]
  simp only [Ideal.div_coe (den_pos σ (head Q b h) (head K b h) r).ne', ← EReal.coe_mul, coe_sum']
  refine congrArg _ (Finset.sum_congr rfl fun c _ => ?_)
  rw [ex_mul_inv, mul_comm]

include hy hl in
theorem hostLse_apply (b : Fin 2) (h : Fin 8) (r : Fin 2048) (d : Fin 128) :
    hostLse y l (ix2 (rowAt b r) (chanAt h d) : S4096x1024.Idx)
      = ((lse σ (head Q b h) (head K b h) r : ℝ) : EReal) := by
  have e0 : (b.val * 2048 + r.val) / 2048 = b.val := by omega
  have e1 : (b.val * 2048 + r.val) % 2048 = r.val := by omega
  have e2 : (h.val * 128 + d.val) / 128 = h.val := by omega
  pointwise [hostLse, column, e0, e1, e2, hy, hl]
  exact log_den _ _ _ _

end Steps

end Cert.Proof.Attn

end
-- ==== Proof.Ref.lean ====
/- What the reference computes, at an index, as real numbers: one head of one sequence at a time. -/
module

public import proofs.«01_k».proof.Proof.Arrays
public import proofs.«01_k».proof.Proof.Soft
public import proofs.«01_k».proof.Proof.Gen.ReferenceIdeal.Read

@[expose] public section

set_option maxRecDepth 16384

noncomputable section

namespace Cert.Proof.Attn

open Idealize.ShloMosaic Cert.ReferenceIdeal Cert.ReferenceIdeal.Gen Cert.ReferenceIdeal.Read Pointwise

theorem bot : Ideal.ofBits .f32 0xFF800000#32 = (⊥ : EReal) := by
  simp [Ideal.ofBits, Ideal.ieee]

variable {σ : ℝ} {Q K X D : Fin 4096 → Fin 1024 → ℝ}
  {x0 x1 x2 x3 : (⟨S4096x1024, .bf16⟩ : BufTy).Contents (Elt Ideal)}

theorem heads3 (h0 : ∀ r d, x0 (ix2 r d : S4096x1024.Idx) = ((Q r d : ℝ) : EReal)) (b : Fin 2) (h : Fin 8) (r : Fin 2048) (d : Fin 128) :
    val_main_v3 (F := Ideal) x0 (ix4 b r h d : S2x2048x8x128.Idx) = ((head Q b h r d : ℝ) : EReal) := by
  pointwise [val_main_v3, val_main_v0, h0]
  rfl

theorem heads4 (h1 : ∀ r d, x1 (ix2 r d : S4096x1024.Idx) = ((K r d : ℝ) : EReal)) (b : Fin 2) (h : Fin 8) (r : Fin 2048) (d : Fin 128) :
    val_main_v4 (F := Ideal) x1 (ix4 b r h d : S2x2048x8x128.Idx) = ((head K b h r d : ℝ) : EReal) := by
  pointwise [val_main_v4, val_main_v1, h1]
  rfl

theorem heads5 (h2 : ∀ r d, x2 (ix2 r d : S4096x1024.Idx) = ((X r d : ℝ) : EReal)) (b : Fin 2) (h : Fin 8) (r : Fin 2048) (d : Fin 128) :
    val_main_v5 (F := Ideal) x2 (ix4 b r h d : S2x2048x8x128.Idx) = ((head X b h r d : ℝ) : EReal) := by
  pointwise [val_main_v5, val_main_v2, h2]
  rfl

/-- The transposed cotangent. -/
theorem heads58 (h3 : ∀ r d, x3 (ix2 r d : S4096x1024.Idx) = ((D r d : ℝ) : EReal)) (b : Fin 2) (h : Fin 8) (r : Fin 2048) (d : Fin 128) :
    val_main_v58 (F := Ideal) x3 (ix4 b h d r : S2x8x128x2048.Idx) = ((head D b h r d : ℝ) : EReal) := by
  pointwise [val_main_v58, val_main_v57, val_main_v56, val_main_v55, val_main_v54, h3]
  rfl

/-- Heads put back side by side, at an index. -/
theorem unsplit (y : Vec Ideal S2x2048x8x128 .f32) (hs : S2x2048x8x128.ShapeCasts S4096x1024) (b : Fin 2) (h : Fin 8) (r : Fin 2048) (d : Fin 128) :
    shapeCast S4096x1024 y hs (ix2 (rowAt b r) (chanAt h d) : S4096x1024.Idx) = y (ix4 b r h d : S2x2048x8x128.Idx) := by
  pointwise []
  have e0 : (b.val * 2048 + r.val) / 2048 = b.val := by omega
  have e1 : (b.val * 2048 + r.val) % 2048 = r.val := by omega
  have e2 : (h.val * 128 + d.val) / 128 = h.val := by omega
  have e3 : (h.val * 128 + d.val) % 128 = d.val := by omega
  simp only [e0, e1, e2, e3]

section Steps

variable (hσ : Ideal.ofBits .f32 0x3DD105EC#32 = (σ : EReal))
  (h0 : ∀ b h r d, val_main_v3 (F := Ideal) x0 (ix4 b r h d : S2x2048x8x128.Idx) = ((head Q b h r d : ℝ) : EReal))
  (h1 : ∀ b h r d, val_main_v4 (F := Ideal) x1 (ix4 b r h d : S2x2048x8x128.Idx) = ((head K b h r d : ℝ) : EReal))
  (h2 : ∀ b h r d, val_main_v5 (F := Ideal) x2 (ix4 b r h d : S2x2048x8x128.Idx) = ((head X b h r d : ℝ) : EReal))
  (h3 : ∀ b h r d, val_main_v58 (F := Ideal) x3 (ix4 b h d r : S2x8x128x2048.Idx) = ((head D b h r d : ℝ) : EReal))

include hσ h0 h1 in
/-- The masked scores. -/
theorem ref_score (b : Fin 2) (h : Fin 8) (r c : Fin 2048) :
    val_main_v18_0 (F := Ideal) x0 x1 (ix4 b h r c : S2x8x2048x2048.Idx) = score σ (head Q b h) (head K b h) r c := by
  pointwise [val_main_v18_0, val_main_v18_1, val_main_v17, val_main_v16, val_main_v15, val_main_v14, val_main_v13, val_main_v12, val_main_v11, val_main_call0_v2, val_main_call0_v0, val_main_cst_0, id_eq, val_main_v10, val_main_v9, val_main_cst, val_main_v8, val_main_v7, val_main_v6, h0, h1, hσ]
  rw [bot, WordCmp.cmpi_sle_ofNat (by omega) (by omega), WordCmp.select_ofBool, coe_dot, ← EReal.coe_mul]
  unfold score
  by_cases hc : c.val ≤ r.val
  · rw [if_pos hc]
    simp only [hc, decide_true, if_true]
    rfl
  · rw [if_neg hc]
    simp only [hc, decide_false]
    rfl

/-- The rows' greatest scores, from the scores. -/
theorem ref_max (hs : ∀ b h r c, val_main_v18_0 (F := Ideal) x0 x1 (ix4 b h r c : S2x8x2048x2048.Idx) = score σ (head Q b h) (head K b h) r c)
    (b : Fin 2) (h : Fin 8) (r : Fin 2048) :
    val_main_v26 (F := Ideal) x0 x1 (ix3 b h r : S2x8x2048.Idx) = ((rowMax σ (head Q b h) (head K b h) r : ℝ) : EReal) := by
  have e : val_main_v25 (F := Ideal) (ix3 b h r : S2x8x2048.Idx) = ⊥ := by
    pointwise [val_main_v25, val_main_cst_3]
    exact bot
  have f : val_main_v19 (F := Ideal) x0 x1 (ix3 b h r : S2x8x2048.Idx) = ((rowMax σ (head Q b h) (head K b h) r : ℝ) : EReal) := by
    pointwise [val_main_v19, hs]
    rw [show val_main_cst_1 (F := Ideal) (Shape.Idx.first h_S_) = ⊥ from bot]
    exact coe_rowMax σ (head Q b h) (head K b h) r
  rw [val_main_v26_apply, e, f]
  exact max_eq_right bot_le

/-- The exponentials. -/
theorem ref_ex (hs : ∀ b h r c, val_main_v18_0 (F := Ideal) x0 x1 (ix4 b h r c : S2x8x2048x2048.Idx) = score σ (head Q b h) (head K b h) r c)
    (hm : ∀ b h r, val_main_v26 (F := Ideal) x0 x1 (ix3 b h r : S2x8x2048.Idx) = ((rowMax σ (head Q b h) (head K b h) r : ℝ) : EReal))
    (b : Fin 2) (h : Fin 8) (r c : Fin 2048) :
    val_main_v39 (F := Ideal) x0 x1 (ix4 b h r c : S2x8x2048x2048.Idx) = ((ex σ (head Q b h) (head K b h) r c : ℝ) : EReal) := by
  pointwise [val_main_v39, val_main_v38, val_main_v37, val_main_v36, hs, hm]
  exact exp_score _ _ _ _ _

/-- The rows' sums. -/
theorem ref_den (he : ∀ b h r c, val_main_v39 (F := Ideal) x0 x1 (ix4 b h r c : S2x8x2048x2048.Idx) = ((ex σ (head Q b h) (head K b h) r c : ℝ) : EReal))
    (b : Fin 2) (h : Fin 8) (r : Fin 2048) :
    val_main_v41 (F := Ideal) x0 x1 (ix4 b h r 0 : S2x8x2048x1.Idx) = ((den σ (head Q b h) (head K b h) r : ℝ) : EReal) := by
  pointwise [val_main_v41, val_main_v40, val_main_cst_9, he]
  rw [coe_sum']
  rfl

variable (he : ∀ b h r c, val_main_v39 (F := Ideal) x0 x1 (ix4 b h r c : S2x8x2048x2048.Idx) = ((ex σ (head Q b h) (head K b h) r c : ℝ) : EReal))
  (hl : ∀ b h r, val_main_v41 (F := Ideal) x0 x1 (ix4 b h r 0 : S2x8x2048x1.Idx) = ((den σ (head Q b h) (head K b h) r : ℝ) : EReal))

include he hl in
/-- The weights. -/
theorem ref_wt (b : Fin 2) (h : Fin 8) (r c : Fin 2048) :
    val_main_v48 (F := Ideal) x0 x1 (ix4 b h r c : S2x8x2048x2048.Idx)
      = ((wt σ (head Q b h) (head K b h) (lse σ (head Q b h) (head K b h)) r c : ℝ) : EReal) := by
  pointwise [val_main_v48, val_main_v47, val_main_v43, val_main_v42, he, hl]
  rw [Ideal.div_coe (den_pos _ _ _ _).ne', ← EReal.coe_mul, ex_mul_inv]

include h2 h3 in
/-- The weights' cotangents. -/
theorem ref_dp (b : Fin 2) (h : Fin 8) (r c : Fin 2048) :
    val_main_v63 (F := Ideal) x2 x3 (ix4 b h r c : S2x8x2048x2048.Idx) = ((dot (head D b h) (head X b h) r c : ℝ) : EReal) := by
  pointwise [val_main_v63, val_main_v62, val_main_v59, h2, h3]
  rw [coe_dot]
  rfl

variable (hp : ∀ b h r c, val_main_v48 (F := Ideal) x0 x1 (ix4 b h r c : S2x8x2048x2048.Idx)
      = ((wt σ (head Q b h) (head K b h) (lse σ (head Q b h) (head K b h)) r c : ℝ) : EReal))
  (hd : ∀ b h r c, val_main_v63 (F := Ideal) x2 x3 (ix4 b h r c : S2x8x2048x2048.Idx) = ((dot (head D b h) (head X b h) r c : ℝ) : EReal))

include h3 hp in
/-- The gradient of the values. -/
theorem ref_dv (b : Fin 2) (h : Fin 8) (r : Fin 2048) (d : Fin 128) :
    val_main_v85 (F := Ideal) x0 x1 x3 (ix2 (rowAt b r) (chanAt h d) : S4096x1024.Idx)
      = ((dvTo σ (head Q b h) (head K b h) (head D b h) (lse σ (head Q b h) (head K b h)) 2048 r d : ℝ) : EReal) := by
  have e : val_main_v61 (F := Ideal) x0 x1 x3 (ix4 b r h d : S2x2048x8x128.Idx)
      = ((dvTo σ (head Q b h) (head K b h) (head D b h) (lse σ (head Q b h) (head K b h)) 2048 r d : ℝ) : EReal) := by
    pointwise [val_main_v61, val_main_v60, h3, hp]
    rw [coe_dot, dvTo_all]
    exact congrArg _ (Finset.sum_congr rfl fun _ _ => mul_comm _ _)
  unfold val_main_v85
  rw [unsplit, e]

include hσ he hl hd in
/-- The gradient of the scores. -/
theorem ref_ds (b : Fin 2) (h : Fin 8) (r c : Fin 2048) :
    val_main_v80 (F := Ideal) x0 x1 x2 x3 (ix4 b h r c : S2x8x2048x2048.Idx)
      = ((sc σ (head Q b h) (head K b h) (head X b h) (head D b h)
          (att σ (head Q b h) (head K b h) (head X b h) (lse σ (head Q b h) (head K b h))) (lse σ (head Q b h) (head K b h)) r c : ℝ) : EReal) := by
  pointwise [val_main_v80, val_main_v79, val_main_v78, val_main_v77, val_main_cst_13, val_main_v76, val_main_call1_v0, val_main_call1_cst, val_main_v75, val_main_v74, val_main_v73, val_main_v72, val_main_cst_12, val_main_v71, val_main_v70, val_main_v69, val_main_v68, val_main_v67, val_main_cst_11, val_main_v66, val_main_v65, val_main_v64, val_main_v46, val_main_v45, val_main_cst_10, val_main_v44, val_main_v18_1, val_main_v17, val_main_v16, val_main_v15, val_main_v14, val_main_v13, val_main_v12, val_main_v11, he, hl, hd, hσ]
  have hn : den σ (head Q b h) (head K b h) r ≠ 0 := (den_pos _ _ _ _).ne'
  rw [WordCmp.cmpi_sle_ofNat (by omega) (by omega), WordCmp.select_ofBool]
  by_cases hc : c.val ≤ r.val
  · simp only [hc, decide_true, if_true]
    rw [← sc_eq, Fin.sum_univ_one, Ideal.div_coe hn]
    simp only [← EReal.coe_mul]
    rw [Ideal.div_coe (mul_ne_zero hn hn), ← EReal.coe_one]
    simp only [← EReal.coe_mul, coe_sum', ← EReal.coe_neg, ← EReal.coe_add]
  · rw [sc_eq_zero (by omega)]
    simp only [hc, decide_false, Bool.false_eq_true, if_false, zero_mul, EReal.coe_zero]

variable (hS : ∀ b h r c, val_main_v80 (F := Ideal) x0 x1 x2 x3 (ix4 b h r c : S2x8x2048x2048.Idx)
      = ((sc σ (head Q b h) (head K b h) (head X b h) (head D b h)
          (att σ (head Q b h) (head K b h) (head X b h) (lse σ (head Q b h) (head K b h))) (lse σ (head Q b h) (head K b h)) r c : ℝ) : EReal))

include h0 hS in
/-- The gradient of the keys. -/
theorem ref_dk (b : Fin 2) (h : Fin 8) (r : Fin 2048) (d : Fin 128) :
    val_main_v86 (F := Ideal) x0 x1 x2 x3 (ix2 (rowAt b r) (chanAt h d) : S4096x1024.Idx)
      = ((dkTo σ (head Q b h) (head K b h) (head X b h) (head D b h)
          (att σ (head Q b h) (head K b h) (head X b h) (lse σ (head Q b h) (head K b h))) (lse σ (head Q b h) (head K b h)) 2048 r d : ℝ) : EReal) := by
  unfold val_main_v86
  rw [unsplit]
  pointwise [val_main_v82, val_main_v81, h0, hS]
  rw [coe_dot, dkTo_all]

include h1 hS in
/-- The gradient of the queries. -/
theorem ref_dq (b : Fin 2) (h : Fin 8) (r : Fin 2048) (d : Fin 128) :
    val_main_v87 (F := Ideal) x0 x1 x2 x3 (ix2 (rowAt b r) (chanAt h d) : S4096x1024.Idx)
      = ((dq σ (head Q b h) (head K b h) (head X b h) (head D b h)
          (att σ (head Q b h) (head K b h) (head X b h) (lse σ (head Q b h) (head K b h))) (lse σ (head Q b h) (head K b h)) r d : ℝ) : EReal) := by
  unfold val_main_v87
  rw [unsplit]
  pointwise [val_main_v84, val_main_v83, h1, hS]
  rw [coe_dot]
  rfl

end Steps

end Cert.Proof.Attn

end
-- ==== Proof.Values.lean ====
/- The kernel's three gradients are the reference's, at finite arguments. -/
module

public import proofs.«01_k».proof.Defs
public import proofs.«01_k».proof.Proof.Host
public import proofs.«01_k».proof.Proof.Ref

@[expose] public section

set_option maxRecDepth 16384

noncomputable section

namespace Cert.Proof.Attn

open Idealize.ShloMosaic Idealize.ShloMosaic.TcCoe Cert.KernelIdeal Cert.KernelIdeal.Gen Pointwise

/-- The scale is a real number. -/
theorem scale_real : ∃ σ : ℝ, Ideal.ofBits .f32 0x3DD105EC#32 = (σ : EReal) := by
  refine ⟨(Ideal.ofBits .f32 0x3DD105EC#32).toReal, (EReal.coe_toReal ?_ ?_).symm⟩ <;>
  · simp [Ideal.ofBits, Ideal.ieee, -EReal.coe_mul]

theorem inf_word : Ideal.ofBits .f32 0x7F800000#32 = (⊤ : EReal) := by
  simp [Ideal.ofBits, Ideal.ieee]

instance facts_finite : Cert.Pre_finite.Facts where
  bitsLt_bf16_f32 := by decide
  bcast_S_S4096x1024 := by decide

theorem of_flag (p : Prop) [Decidable p] (h : BitVec.ofBool (decide p) = 1#1) : p := by
  by_contra hn
  rw [decide_eq_false hn] at h
  exact absurd h (by decide)

/-- An array whose every magnitude lies below infinity holds real numbers. -/
theorem real_of_finite (x : Arr)
    (h : cmpf .olt (Host.absf (extf .f32 x Cert.Pre_finite.Facts.bitsLt_bf16_f32))
      (broadcastInDim S4096x1024 ![] Cert.Pre_finite.Facts.bcast_S_S4096x1024 (constant (F := Ideal) S_ .f32 0x7F800000#32)) = fun _ => 1#1) :
    ∃ A : Fin 4096 → Fin 1024 → ℝ, ∀ r d, x (ix2 r d : S4096x1024.Idx) = ((A r d : ℝ) : EReal) := by
  refine ⟨fun r d => EReal.toReal (x (ix2 r d : S4096x1024.Idx)), fun r d => ?_⟩
  have e := congrFun h (ix2 r d : S4096x1024.Idx)
  pointwise [inf_word] at e
  have e' : max (x (ix2 r d : S4096x1024.Idx)) (-x (ix2 r d : S4096x1024.Idx)) < (⊤ : EReal) := of_flag _ e
  refine (EReal.coe_toReal (fun ht => ?_) (fun hb => ?_)).symm
  · rw [ht] at e'; simp at e'
  · rw [hb] at e'; simp at e'

section Equal

variable (m : (ℓ : Loc nD τ sig) → Buf (Elt Ideal) ℓ) (c : Dev nD) {σ : ℝ} {Q K X D : Fin 4096 → Fin 1024 → ℝ}
  (hσ : Ideal.ofBits .f32 0x3DD105EC#32 = (σ : EReal))
  (h0 : ∀ r d, m ((c : Thread nD τ).loc main_arg0) (ix2 r d : S4096x1024.Idx) = ((Q r d : ℝ) : EReal))
  (h1 : ∀ r d, m ((c : Thread nD τ).loc main_arg1) (ix2 r d : S4096x1024.Idx) = ((K r d : ℝ) : EReal))
  (h2 : ∀ r d, m ((c : Thread nD τ).loc main_arg2) (ix2 r d : S4096x1024.Idx) = ((X r d : ℝ) : EReal))
  (h3 : ∀ r d, m ((c : Thread nD τ).loc main_arg3) (ix2 r d : S4096x1024.Idx) = ((D r d : ℝ) : EReal))

include hσ h0 h1 h2 in
/-- The attention's result as the kernel is given it. -/
theorem entry_out (b : Fin 2) (h : Fin 8) (r : Fin 2048) (d : Fin 128) :
    V m c main_v33 (ix2 (rowAt b r) (chanAt h d) : S4096x1024.Idx)
      = ((att σ (head Q b h) (head K b h) (head X b h) (lse σ (head Q b h) (head K b h)) r d : ℝ) : EReal) := by
  have hs := hostScore_apply hσ (byHead_apply h0) (byHead_apply h1)
  have he := hostEx_apply hs (hostMax_apply hs)
  rw [V_out]
  exact hostOut_apply (byHead_apply h2) he (hostDen_apply he) b h r d

include hσ h0 h1 in
/-- The rows' logarithms as the kernel is given them. -/
theorem entry_lse (b : Fin 2) (h : Fin 8) (r : Fin 2048) (d : Fin 128) :
    V m c main_v34 (ix2 (rowAt b r) (chanAt h d) : S4096x1024.Idx)
      = ((lse σ (head Q b h) (head K b h) r : ℝ) : EReal) := by
  have hs := hostScore_apply hσ (byHead_apply h0) (byHead_apply h1)
  have hy := hostMax_apply hs
  rw [V_lse]
  exact hostLse_apply hy (hostDen_apply (hostEx_apply hs hy)) b h r d

include hσ h0 h1 h2 h3 in
/-- The gradient of the queries. -/
theorem equal_dq : (dats m 0 c).arrAt 6 cfg0.N = Cert.ReferenceIdeal.Read.val_main_v87 (F := Ideal)
    (m ((c : Thread nD τ).loc main_arg0)) (m ((c : Thread nD τ).loc main_arg1)) (m ((c : Thread nD τ).loc main_arg2)) (m ((c : Thread nD τ).loc main_arg3)) := by
  funext y
  obtain ⟨b, h, r, d, rfl⟩ := split_index y
  have hs := ref_score hσ (heads3 h0) (heads4 h1)
  have he := ref_ex hs (ref_max hs)
  refine (final6 m c (Q := Q) (K := K) (X := X) (D := D)
    (O := fun b h => att σ (head Q b h) (head K b h) (head X b h) (lse σ (head Q b h) (head K b h)))
    (LS := fun b h => lse σ (head Q b h) (head K b h)) hσ
    (fun r d => (congrFun (V_main_arg0 m c) _).trans (h0 r d)) (fun r d => (congrFun (V_main_arg1 m c) _).trans (h1 r d))
    (fun r d => (congrFun (V_main_arg2 m c) _).trans (h2 r d)) (entry_out m c hσ h0 h1 h2) (entry_lse m c hσ h0 h1)
    (fun r d => (congrFun (V_main_arg3 m c) _).trans (h3 r d)) b h r d).trans ?_
  exact (ref_dq (heads4 h1) (ref_ds hσ he (ref_den he) (ref_dp (heads5 h2) (heads58 h3))) b h r d).symm

include hσ h0 h1 h2 h3 in
/-- The gradient of the keys. -/
theorem equal_dk : (dats m 0 c).arrAt 7 cfg0.N = Cert.ReferenceIdeal.Read.val_main_v86 (F := Ideal)
    (m ((c : Thread nD τ).loc main_arg0)) (m ((c : Thread nD τ).loc main_arg1)) (m ((c : Thread nD τ).loc main_arg2)) (m ((c : Thread nD τ).loc main_arg3)) := by
  funext y
  obtain ⟨b, h, r, d, rfl⟩ := split_index y
  have hs := ref_score hσ (heads3 h0) (heads4 h1)
  have he := ref_ex hs (ref_max hs)
  refine (final7 m c (Q := Q) (K := K) (X := X) (D := D)
    (O := fun b h => att σ (head Q b h) (head K b h) (head X b h) (lse σ (head Q b h) (head K b h)))
    (LS := fun b h => lse σ (head Q b h) (head K b h)) hσ
    (fun r d => (congrFun (V_main_arg0 m c) _).trans (h0 r d)) (fun r d => (congrFun (V_main_arg1 m c) _).trans (h1 r d))
    (fun r d => (congrFun (V_main_arg2 m c) _).trans (h2 r d)) (entry_out m c hσ h0 h1 h2) (entry_lse m c hσ h0 h1)
    (fun r d => (congrFun (V_main_arg3 m c) _).trans (h3 r d)) b h r d).trans ?_
  exact (ref_dk (heads3 h0) (ref_ds hσ he (ref_den he) (ref_dp (heads5 h2) (heads58 h3))) b h r d).symm

include hσ h0 h1 h2 h3 in
/-- The gradient of the values. -/
theorem equal_dv : (dats m 0 c).arrAt 8 cfg0.N = Cert.ReferenceIdeal.Read.val_main_v85 (F := Ideal)
    (m ((c : Thread nD τ).loc main_arg0)) (m ((c : Thread nD τ).loc main_arg1)) (m ((c : Thread nD τ).loc main_arg3)) := by
  funext y
  obtain ⟨b, h, r, d, rfl⟩ := split_index y
  have hs := ref_score hσ (heads3 h0) (heads4 h1)
  have he := ref_ex hs (ref_max hs)
  refine (final8 m c (Q := Q) (K := K) (X := X) (D := D)
    (O := fun b h => att σ (head Q b h) (head K b h) (head X b h) (lse σ (head Q b h) (head K b h)))
    (LS := fun b h => lse σ (head Q b h) (head K b h)) hσ
    (fun r d => (congrFun (V_main_arg0 m c) _).trans (h0 r d)) (fun r d => (congrFun (V_main_arg1 m c) _).trans (h1 r d))
    (fun r d => (congrFun (V_main_arg2 m c) _).trans (h2 r d)) (entry_out m c hσ h0 h1 h2) (entry_lse m c hσ h0 h1)
    (fun r d => (congrFun (V_main_arg3 m c) _).trans (h3 r d)) b h r d).trans ?_
  exact (ref_dv (heads58 h3) (ref_wt he (ref_den he)) b h r d).symm

end Equal

end Cert.Proof.Attn

end
-- ==== Proof.Sigmoid.lean ====
/- The two ways the kernels and the reference write the logistic function, and the derivative of x times it. -/
module

public import Idealize.ShloMosaic.PureOps.Ideal

@[expose] public section

noncomputable section

namespace Cert.Proof.Sigmoid

open Idealize.ShloMosaic

/-- The logistic function, by the exponential. -/
def sgm (x : EReal) : EReal := Ideal.div 1 (1 + Ideal.exp (-x))

theorem sgm_coe (x : ℝ) : sgm (x : EReal) = ((1 / (1 + Real.exp (-x)) : ℝ) : EReal) := by
  have h : (1 + Real.exp (-x)) ≠ 0 := by positivity
  unfold sgm
  rw [← EReal.coe_neg, Ideal.exp_coe, ← EReal.coe_one, ← EReal.coe_add, Ideal.div_coe h]
  rw [← EReal.coe_mul, one_mul, one_div]

theorem sgm_bot : sgm ⊥ = 0 := by
  unfold sgm
  have h : (1 : EReal) + ⊤ = ⊤ := by rw [← EReal.coe_one]; exact EReal.coe_add_top 1
  rw [EReal.neg_bot, Ideal.exp_top, h]
  simp [Ideal.div]

theorem sgm_top : sgm ⊤ = 1 := by
  unfold sgm
  rw [EReal.neg_top, Ideal.exp_bot]
  simp [Ideal.div]

theorem half_tanh (x : ℝ) : 1 / 2 * Real.tanh (1 / 2 * x) + 1 / 2 = 1 / (1 + Real.exp (-x)) := by
  have e : Real.exp (-x) = Real.exp (-(1 / 2 * x)) * Real.exp (-(1 / 2 * x)) := by rw [← Real.exp_add]; congr 1; ring
  have p : Real.exp (1 / 2 * x) * Real.exp (-(1 / 2 * x)) = 1 := by rw [← Real.exp_add, add_neg_cancel, Real.exp_zero]
  have ha := Real.exp_pos (1 / 2 * x)
  have hb := Real.exp_pos (-(1 / 2 * x))
  rw [Real.tanh_eq, e]
  generalize Real.exp (1 / 2 * x) = a at *
  generalize Real.exp (-(1 / 2 * x)) = b at *
  have h1 : a + b ≠ 0 := by positivity
  have h2 : 1 + b * b ≠ 0 := by positivity
  field_simp
  linear_combination (2 * b) * p

/-- The logistic function, by the hyperbolic tangent, on every extended real. -/
theorem tanh_eq (x : EReal) : ((1 / 2 : ℝ) : EReal) * Ideal.tanh (((1 / 2 : ℝ) : EReal) * x) + ((1 / 2 : ℝ) : EReal) = sgm x := by
  have h : (0 : ℝ) < 1 / 2 := by norm_num
  induction x with
  | bot =>
    rw [EReal.coe_mul_bot_of_pos h, Ideal.tanh_bot, sgm_bot, ← EReal.coe_one, ← EReal.coe_neg, ← EReal.coe_mul, ← EReal.coe_add]
    norm_num
  | top =>
    rw [EReal.coe_mul_top_of_pos h, Ideal.tanh_top, sgm_top, ← EReal.coe_one, ← EReal.coe_mul, ← EReal.coe_add]
    norm_num
  | coe x =>
    rw [← EReal.coe_mul, Ideal.tanh_coe, ← EReal.coe_mul, ← EReal.coe_add, sgm_coe, half_tanh]

theorem half_word : Ideal.ofBits .f32 0x3F000000#32 = ((1 / 2 : ℝ) : EReal) := by
  simp [Ideal.ofBits, Ideal.ieee]
  rw [← EReal.coe_mul]
  congr 1
  norm_num

/-- The derivative of `x sgm x`, times a real number, as the kernel writes it and as the reference does. -/
theorem silu_grad (g : EReal) (e : ℝ) :
    (e : EReal) * (sgm g * (1 + g * (1 - sgm g))) = (e : EReal) * sgm g + g * (e : EReal) * (sgm g * (1 - sgm g)) := by
  induction g with
  | bot => rw [sgm_bot]; simp
  | top =>
    have h : (1 : EReal) - 1 = 0 := by rw [← EReal.coe_one, ← EReal.coe_sub, sub_self, EReal.coe_zero]
    rw [sgm_top, h]; simp
  | coe x =>
    rw [sgm_coe]
    generalize (1 / (1 + Real.exp (-x)) : ℝ) = s
    rw [← EReal.coe_one]
    norm_cast
    ring

end Cert.Proof.Sigmoid

end
-- ==== Proof.Da.lean ====
/- The gradient of the gated product of a feed-forward block with respect to both halves: each grid point computes 512 rows. -/
module

public import proofs.«01_k».proof.Proof.Gen.Kernel2Ideal.Value
public import proofs.«01_k».proof.Proof.Gen.Reference2Ideal.Read
public import Idealize.ShloMosaic.Lib.Pointwise
public import proofs.«01_k».proof.Proof.Sigmoid
public import proofs.«01_k».proof.Pre_finite2
public import proofs.«01_k».proof.Proof.Values

@[expose] public section

set_option maxRecDepth 16384

noncomputable section

namespace Cert.Proof.Da

open Idealize.ShloMosaic Idealize.ShloMosaic.TcCoe Cert.Kernel2Ideal Cert.Kernel2Ideal.Gen Cert.Proof.Sigmoid Pointwise

/-- Every index of the result lies in one block. -/
theorem split_index (y : S4096x5632.Idx) : ∃ (i : Fin 8) (j : Fin 1) (r : Fin 512) (d : Fin 5632),
    y = ix2 ⟨i.val * 512 + r.val, by omega⟩ ⟨j.val * 5632 + d.val, by omega⟩ := by
  have h0 : (y 0).val < 4096 := (y 0).isLt
  have h1 : (y 1).val < 5632 := (y 1).isLt
  refine ⟨⟨(y 0).val / 512, by omega⟩, ⟨(y 1).val / 5632, by omega⟩, ⟨(y 0).val % 512, by omega⟩,
    ⟨(y 1).val % 5632, by omega⟩, ?_⟩
  funext a
  refine Fin.ext ?_
  match a with
  | ⟨0, _⟩ => show (y 0).val = (y 0).val / 512 * 512 + (y 0).val % 512; omega
  | ⟨1, _⟩ => show (y 1).val = (y 1).val / 5632 * 5632 + (y 1).val % 5632; omega

/-- Some grid point works on rows 512 i to 512 i + 511. -/
theorem point_of : ∀ i : Fin 8, ∃ t : Fin grid0.N, cc0_transform_0 (grid0.coords t) = ![i.val, 0] ∧
    cc0_transform_1 (grid0.coords t) = ![i.val, 0] ∧ cc0_transform_2 (grid0.coords t) = ![i.val, 0] ∧
    cc0_transform_3 (grid0.coords t) = ![0, 0] ∧ cc0_transform_4 (grid0.coords t) = ![i.val, 0] := by
  decide +kernel

/-- Window 0: entry (r, d) of block (p, q) is entry (p 512 + r, q 1024 + d) of the array. -/
theorem emb0 (t : Fin grid0.N) (p q : ℕ) (ht : cc0_transform_0 (grid0.coords t) = ![p, q])
    (r : Fin 512) (d : Fin 1024) (hr : p * 512 + r.val < 4096) (hd : q * 1024 + d.val < 1024) :
    ((cfg0.win 0).blk t).view.emb (ix2 r d : S512x1024.Idx) =
      (ix2 ⟨p * 512 + r.val, hr⟩ ⟨q * 1024 + d.val, hd⟩ : S4096x1024.Idx) := by
  have h0 : win0_0.index t (0 : Fin 2) = p := congrFun ht 0
  have h1 : win0_0.index t (1 : Fin 2) = q := congrFun ht 1
  funext a
  refine Fin.ext ?_
  match a with
  | ⟨0, _⟩ => show win0_0.index t (0 : Fin 2) * 512 + 1 * r.val = p * 512 + r.val; rw [h0, Nat.one_mul]
  | ⟨1, _⟩ => show win0_0.index t (1 : Fin 2) * 1024 + 1 * d.val = q * 1024 + d.val; rw [h1, Nat.one_mul]

theorem read0 (f : (⟨S4096x1024, .bf16⟩ : BufTy).Contents (Elt Ideal)) (t : Fin grid0.N) (p q : ℕ)
    (ht : cc0_transform_0 (grid0.coords t) = ![p, q]) (r : Fin 512) (d : Fin 1024)
    (hr : p * 512 + r.val < 4096) (hd : q * 1024 + d.val < 1024) :
    ((cfg0.win 0).blk t).view.read (Elt Ideal) f (ix2 r d : S512x1024.Idx) =
      f (ix2 ⟨p * 512 + r.val, hr⟩ ⟨q * 1024 + d.val, hd⟩ : S4096x1024.Idx) := by
  show f (((cfg0.win 0).blk t).view.emb (ix2 r d : S512x1024.Idx)) = _
  rw [emb0 t p q ht r d hr hd]

/-- Window 1: entry (r, d) of block (p, q) is entry (p 512 + r, q 2816 + d) of the array. -/
theorem emb1 (t : Fin grid0.N) (p q : ℕ) (ht : cc0_transform_1 (grid0.coords t) = ![p, q])
    (r : Fin 512) (d : Fin 2816) (hr : p * 512 + r.val < 4096) (hd : q * 2816 + d.val < 2816) :
    ((cfg0.win 1).blk t).view.emb (ix2 r d : S512x2816.Idx) =
      (ix2 ⟨p * 512 + r.val, hr⟩ ⟨q * 2816 + d.val, hd⟩ : S4096x2816.Idx) := by
  have h0 : win0_1.index t (0 : Fin 2) = p := congrFun ht 0
  have h1 : win0_1.index t (1 : Fin 2) = q := congrFun ht 1
  funext a
  refine Fin.ext ?_
  match a with
  | ⟨0, _⟩ => show win0_1.index t (0 : Fin 2) * 512 + 1 * r.val = p * 512 + r.val; rw [h0, Nat.one_mul]
  | ⟨1, _⟩ => show win0_1.index t (1 : Fin 2) * 2816 + 1 * d.val = q * 2816 + d.val; rw [h1, Nat.one_mul]

theorem read1 (f : (⟨S4096x2816, .bf16⟩ : BufTy).Contents (Elt Ideal)) (t : Fin grid0.N) (p q : ℕ)
    (ht : cc0_transform_1 (grid0.coords t) = ![p, q]) (r : Fin 512) (d : Fin 2816)
    (hr : p * 512 + r.val < 4096) (hd : q * 2816 + d.val < 2816) :
    ((cfg0.win 1).blk t).view.read (Elt Ideal) f (ix2 r d : S512x2816.Idx) =
      f (ix2 ⟨p * 512 + r.val, hr⟩ ⟨q * 2816 + d.val, hd⟩ : S4096x2816.Idx) := by
  show f (((cfg0.win 1).blk t).view.emb (ix2 r d : S512x2816.Idx)) = _
  rw [emb1 t p q ht r d hr hd]

/-- Window 2: entry (r, d) of block (p, q) is entry (p 512 + r, q 2816 + d) of the array. -/
theorem emb2 (t : Fin grid0.N) (p q : ℕ) (ht : cc0_transform_2 (grid0.coords t) = ![p, q])
    (r : Fin 512) (d : Fin 2816) (hr : p * 512 + r.val < 4096) (hd : q * 2816 + d.val < 2816) :
    ((cfg0.win 2).blk t).view.emb (ix2 r d : S512x2816.Idx) =
      (ix2 ⟨p * 512 + r.val, hr⟩ ⟨q * 2816 + d.val, hd⟩ : S4096x2816.Idx) := by
  have h0 : win0_2.index t (0 : Fin 2) = p := congrFun ht 0
  have h1 : win0_2.index t (1 : Fin 2) = q := congrFun ht 1
  funext a
  refine Fin.ext ?_
  match a with
  | ⟨0, _⟩ => show win0_2.index t (0 : Fin 2) * 512 + 1 * r.val = p * 512 + r.val; rw [h0, Nat.one_mul]
  | ⟨1, _⟩ => show win0_2.index t (1 : Fin 2) * 2816 + 1 * d.val = q * 2816 + d.val; rw [h1, Nat.one_mul]

theorem read2 (f : (⟨S4096x2816, .bf16⟩ : BufTy).Contents (Elt Ideal)) (t : Fin grid0.N) (p q : ℕ)
    (ht : cc0_transform_2 (grid0.coords t) = ![p, q]) (r : Fin 512) (d : Fin 2816)
    (hr : p * 512 + r.val < 4096) (hd : q * 2816 + d.val < 2816) :
    ((cfg0.win 2).blk t).view.read (Elt Ideal) f (ix2 r d : S512x2816.Idx) =
      f (ix2 ⟨p * 512 + r.val, hr⟩ ⟨q * 2816 + d.val, hd⟩ : S4096x2816.Idx) := by
  show f (((cfg0.win 2).blk t).view.emb (ix2 r d : S512x2816.Idx)) = _
  rw [emb2 t p q ht r d hr hd]

/-- Window 3: entry (r, d) of block (p, q) is entry (p 2816 + r, q 1024 + d) of the array. -/
theorem emb3 (t : Fin grid0.N) (p q : ℕ) (ht : cc0_transform_3 (grid0.coords t) = ![p, q])
    (r : Fin 2816) (d : Fin 1024) (hr : p * 2816 + r.val < 2816) (hd : q * 1024 + d.val < 1024) :
    ((cfg0.win 3).blk t).view.emb (ix2 r d : S2816x1024.Idx) =
      (ix2 ⟨p * 2816 + r.val, hr⟩ ⟨q * 1024 + d.val, hd⟩ : S2816x1024.Idx) := by
  have h0 : win0_3.index t (0 : Fin 2) = p := congrFun ht 0
  have h1 : win0_3.index t (1 : Fin 2) = q := congrFun ht 1
  funext a
  refine Fin.ext ?_
  match a with
  | ⟨0, _⟩ => show win0_3.index t (0 : Fin 2) * 2816 + 1 * r.val = p * 2816 + r.val; rw [h0, Nat.one_mul]
  | ⟨1, _⟩ => show win0_3.index t (1 : Fin 2) * 1024 + 1 * d.val = q * 1024 + d.val; rw [h1, Nat.one_mul]

theorem read3 (f : (⟨S2816x1024, .bf16⟩ : BufTy).Contents (Elt Ideal)) (t : Fin grid0.N) (p q : ℕ)
    (ht : cc0_transform_3 (grid0.coords t) = ![p, q]) (r : Fin 2816) (d : Fin 1024)
    (hr : p * 2816 + r.val < 2816) (hd : q * 1024 + d.val < 1024) :
    ((cfg0.win 3).blk t).view.read (Elt Ideal) f (ix2 r d : S2816x1024.Idx) =
      f (ix2 ⟨p * 2816 + r.val, hr⟩ ⟨q * 1024 + d.val, hd⟩ : S2816x1024.Idx) := by
  show f (((cfg0.win 3).blk t).view.emb (ix2 r d : S2816x1024.Idx)) = _
  rw [emb3 t p q ht r d hr hd]

/-- Window 4: entry (r, d) of block (p, q) is entry (p 512 + r, q 5632 + d) of the array. -/
theorem emb4 (t : Fin grid0.N) (p q : ℕ) (ht : cc0_transform_4 (grid0.coords t) = ![p, q])
    (r : Fin 512) (d : Fin 5632) (hr : p * 512 + r.val < 4096) (hd : q * 5632 + d.val < 5632) :
    ((cfg0.win 4).blk t).view.emb (ix2 r d : S512x5632.Idx) =
      (ix2 ⟨p * 512 + r.val, hr⟩ ⟨q * 5632 + d.val, hd⟩ : S4096x5632.Idx) := by
  have h0 : win0_4.index t (0 : Fin 2) = p := congrFun ht 0
  have h1 : win0_4.index t (1 : Fin 2) = q := congrFun ht 1
  funext a
  refine Fin.ext ?_
  match a with
  | ⟨0, _⟩ => show win0_4.index t (0 : Fin 2) * 512 + 1 * r.val = p * 512 + r.val; rw [h0, Nat.one_mul]
  | ⟨1, _⟩ => show win0_4.index t (1 : Fin 2) * 5632 + 1 * d.val = q * 5632 + d.val; rw [h1, Nat.one_mul]

theorem read4 (f : (⟨S4096x5632, .bf16⟩ : BufTy).Contents (Elt Ideal)) (t : Fin grid0.N) (p q : ℕ)
    (ht : cc0_transform_4 (grid0.coords t) = ![p, q]) (r : Fin 512) (d : Fin 5632)
    (hr : p * 512 + r.val < 4096) (hd : q * 5632 + d.val < 5632) :
    ((cfg0.win 4).blk t).view.read (Elt Ideal) f (ix2 r d : S512x5632.Idx) =
      f (ix2 ⟨p * 512 + r.val, hr⟩ ⟨q * 5632 + d.val, hd⟩ : S4096x5632.Idx) := by
  show f (((cfg0.win 4).blk t).view.emb (ix2 r d : S512x5632.Idx)) = _
  rw [emb4 t p q ht r d hr hd]

/-- An array whose block (p, q) is the contents `x`, at that block's entries. -/
theorem at4 (f : (⟨S4096x5632, .bf16⟩ : BufTy).Contents (Elt Ideal)) (x : Vec Ideal S512x5632 .bf16) (t : Fin grid0.N)
    (p q : ℕ) (ht : cc0_transform_4 (grid0.coords t) = ![p, q])
    (e : ((cfg0.win 4).blk t).view.read (Elt Ideal) f = (cfg0.win 4).cut (grid0.coords t) x) (r : Fin 512) (d : Fin 5632)
    (hr : p * 512 + r.val < 4096) (hd : q * 5632 + d.val < 5632) :
    f (ix2 ⟨p * 512 + r.val, hr⟩ ⟨q * 5632 + d.val, hd⟩ : S4096x5632.Idx) = x (ix2 r d : S512x5632.Idx) := by
  rw [← emb4 t p q ht r d hr hd]
  exact congrFun e (ix2 r d : S512x5632.Idx)

theorem zeros : (![0, 0] : Fin 2 → ℕ) = fun _ => 0 := by funext a; fin_cases a <;> rfl

/-- A row's gradient from the incoming gradient `e` of the activation and the row's gate and value, as the kernel writes it. -/
def kern (e g u : Fin 2816 → EReal) (n : Fin 5632) : EReal :=
  if h : n.val < 2816 then
    e ⟨n.val, h⟩ * u ⟨n.val, h⟩ * (sgm (g ⟨n.val, h⟩) * (1 + g ⟨n.val, h⟩ * (1 - sgm (g ⟨n.val, h⟩))))
  else e ⟨n.val - 2816, by omega⟩ * (g ⟨n.val - 2816, by omega⟩ * sgm (g ⟨n.val - 2816, by omega⟩))

/-- The same, as the reference's transpose writes it. -/
def plain (e g u : Fin 2816 → EReal) (n : Fin 5632) : EReal :=
  if h : n.val < 2816 then
    e ⟨n.val, h⟩ * u ⟨n.val, h⟩ * sgm (g ⟨n.val, h⟩) +
      g ⟨n.val, h⟩ * (e ⟨n.val, h⟩ * u ⟨n.val, h⟩) * (sgm (g ⟨n.val, h⟩) * (1 - sgm (g ⟨n.val, h⟩)))
  else g ⟨n.val - 2816, by omega⟩ * sgm (g ⟨n.val - 2816, by omega⟩) * e ⟨n.val - 2816, by omega⟩

/-- The two agree where the gradient and the value are real; the gate may be any extended real. -/
theorem kern_eq (e g u : Fin 2816 → EReal) (he : ∀ n, ∃ x : ℝ, e n = (x : EReal)) (hu : ∀ n, ∃ x : ℝ, u n = (x : EReal))
    (n : Fin 5632) : kern e g u n = plain e g u n := by
  unfold kern plain
  split
  · next h =>
    obtain ⟨x, hx⟩ := he ⟨n.val, h⟩
    obtain ⟨y, hy⟩ := hu ⟨n.val, h⟩
    rw [hx, hy, ← EReal.coe_mul]
    exact silu_grad _ _
  · exact mul_comm _ _

/-- A sum of products of reals is real. -/
theorem real_sum {n : ℕ} (f g : Fin n → EReal) (hf : ∀ k, ∃ x : ℝ, f k = (x : EReal)) (hg : ∀ k, ∃ x : ℝ, g k = (x : EReal)) :
    ∃ x : ℝ, ∑ k, f k * g k = (x : EReal) := by
  choose a ha using hf
  choose b hb using hg
  refine ⟨∑ k, a k * b k, ?_⟩
  simp only [ha, hb, ← EReal.coe_mul]
  exact Attn.coe_sum' _ _

/-- A row of the incoming gradient times a row of the weights. -/
def act {R : ℕ} (x : (⟨2, ![R, 1024]⟩ : Shape).Idx → EReal) (w : S2816x1024.Idx → EReal) (r : Fin R) (n : Fin 2816) : EReal :=
  ∑ k : Fin 1024, x (ix2 r k) * w (ix2 n k)

theorem out (x0 : Vec Ideal S512x1024 .bf16) (x1 x2 : Vec Ideal S512x2816 .bf16) (x3 : Vec Ideal S2816x1024 .bf16)
    (r : Fin 512) (n : Fin 5632) :
    out0_4 x0 x1 x2 x3 (ix2 r n : S512x5632.Idx) =
      kern (act x0 x3 r) (fun n => x1 (ix2 r n : S512x2816.Idx)) (fun n => x2 (ix2 r n : S512x2816.Idx)) n := by
  unfold out0_4
  rw [View.canon_unit_zero zeros, View.ld_unit_zero zeros, View.ld_unit_zero zeros, View.ld_unit_zero zeros, View.ld_unit_zero zeros]
  unfold kern act
  simp only [← tanh_eq]
  pointwise [k0_pay1, half_word]

section

variable (m : (ℓ : Loc nD τ sig) → Buf (Elt Ideal) ℓ)

theorem blk0 (c : Dev nD) (t : Fin grid0.N) (p q : ℕ) (ht : cc0_transform_0 (grid0.coords t) = ![p, q])
    (r : Fin 512) (d : Fin 1024) (hr : p * 512 + r.val < 4096) (hd : q * 1024 + d.val < 1024) :
    iblk m c 0 t (ix2 r d : S512x1024.Idx) =
      V m c main_arg2 (ix2 ⟨p * 512 + r.val, hr⟩ ⟨q * 1024 + d.val, hd⟩ : S4096x1024.Idx) := by
  unfold iblk
  exact read0 _ t p q ht r d hr hd

theorem blk1 (c : Dev nD) (t : Fin grid0.N) (p q : ℕ) (ht : cc0_transform_1 (grid0.coords t) = ![p, q])
    (r : Fin 512) (d : Fin 2816) (hr : p * 512 + r.val < 4096) (hd : q * 2816 + d.val < 2816) :
    iblk m c 1 t (ix2 r d : S512x2816.Idx) =
      V m c main_arg0 (ix2 ⟨p * 512 + r.val, hr⟩ ⟨q * 2816 + d.val, hd⟩ : S4096x2816.Idx) := by
  unfold iblk
  exact read1 _ t p q ht r d hr hd

theorem blk2 (c : Dev nD) (t : Fin grid0.N) (p q : ℕ) (ht : cc0_transform_2 (grid0.coords t) = ![p, q])
    (r : Fin 512) (d : Fin 2816) (hr : p * 512 + r.val < 4096) (hd : q * 2816 + d.val < 2816) :
    iblk m c 2 t (ix2 r d : S512x2816.Idx) =
      V m c main_arg1 (ix2 ⟨p * 512 + r.val, hr⟩ ⟨q * 2816 + d.val, hd⟩ : S4096x2816.Idx) := by
  unfold iblk
  exact read2 _ t p q ht r d hr hd

theorem blk3 (c : Dev nD) (t : Fin grid0.N) (p q : ℕ) (ht : cc0_transform_3 (grid0.coords t) = ![p, q])
    (r : Fin 2816) (d : Fin 1024) (hr : p * 2816 + r.val < 2816) (hd : q * 1024 + d.val < 1024) :
    iblk m c 3 t (ix2 r d : S2816x1024.Idx) =
      V m c main_arg3 (ix2 ⟨p * 2816 + r.val, hr⟩ ⟨q * 1024 + d.val, hd⟩ : S2816x1024.Idx) := by
  unfold iblk
  exact read3 _ t p q ht r d hr hd

/-- The result, row by row. -/
theorem final (c : Dev nD) (i : Fin 8) (j : Fin 1) (r : Fin 512) (n : Fin 5632) :
    (dats m 0 c).arrAt 4 cfg0.N (ix2 ⟨i.val * 512 + r.val, by omega⟩ ⟨j.val * 5632 + n.val, by omega⟩ : S4096x5632.Idx) =
      kern (act (R := 4096) (m ((c : Thread nD τ).loc main_arg2)) (m ((c : Thread nD τ).loc main_arg3)) ⟨i.val * 512 + r.val, by omega⟩)
        (fun n => (m ((c : Thread nD τ).loc main_arg0)) (ix2 ⟨i.val * 512 + r.val, by omega⟩ n : S4096x2816.Idx))
        (fun n => (m ((c : Thread nD τ).loc main_arg1)) (ix2 ⟨i.val * 512 + r.val, by omega⟩ n : S4096x2816.Idx))
        ⟨j.val * 5632 + n.val, by omega⟩ := by
  obtain ⟨t, e0, e1, e2, e3, e4⟩ := point_of i
  have hj : j.val = 0 := by omega
  simp only [hj]
  refine (at4 _ _ t i.val 0 e4 ((Cert.Kernel2Ideal.Value.blocks4 m c t (flush0_4 t)).trans
    (Cert.Kernel2Ideal.Value.flushed4 m c t)) r n (by omega) (by omega)).trans ?_
  rw [out]
  have ha : act (iblk m c 0 t) (iblk m c 3 t) r = act (R := 4096) (m ((c : Thread nD τ).loc main_arg2)) (m ((c : Thread nD τ).loc main_arg3)) ⟨i.val * 512 + r.val, by omega⟩ := by
    funext n
    unfold act
    refine Finset.sum_congr rfl fun k _ => ?_
    rw [blk0 m c t i.val 0 e0 r k (by omega) (by omega), blk3 m c t 0 0 e3 n k (by omega) (by omega)]
    simp only [Nat.zero_mul, Nat.zero_add]
  have hg : (fun n => iblk m c 1 t (ix2 r n : S512x2816.Idx)) =
      (fun n => (m ((c : Thread nD τ).loc main_arg0)) (ix2 ⟨i.val * 512 + r.val, by omega⟩ n : S4096x2816.Idx)) := by
    funext n
    rw [blk1 m c t i.val 0 e1 r n (by omega) (by omega)]
    simp only [Nat.zero_mul, Nat.zero_add]
  have hu : (fun n => iblk m c 2 t (ix2 r n : S512x2816.Idx)) =
      (fun n => (m ((c : Thread nD τ).loc main_arg1)) (ix2 ⟨i.val * 512 + r.val, by omega⟩ n : S4096x2816.Idx)) := by
    funext n
    rw [blk2 m c t i.val 0 e2 r n (by omega) (by omega)]
    simp only [Nat.zero_mul, Nat.zero_add]
  rw [ha, hg, hu]
  simp only [Nat.zero_mul, Nat.zero_add]

end

theorem ref (g u : (⟨S4096x2816, .bf16⟩ : BufTy).Contents (Elt Ideal)) (df : (⟨S4096x1024, .bf16⟩ : BufTy).Contents (Elt Ideal)) (w : (⟨S2816x1024, .bf16⟩ : BufTy).Contents (Elt Ideal))
    (r : Fin 4096) (n : Fin 5632) :
    Cert.Reference2Ideal.Read.val_main_v15 (F := Ideal) g u df w (ix2 r n : S4096x5632.Idx) =
      plain (act (R := 4096) df w r) (fun n => g (ix2 r n : S4096x2816.Idx)) (fun n => u (ix2 r n : S4096x2816.Idx)) n := by
  unfold plain act sgm
  pointwise [Cert.Reference2Ideal.Read.val_main_v15, Cert.Reference2Ideal.Read.val_main_v14, Cert.Reference2Ideal.Read.val_main_v13, Cert.Reference2Ideal.Read.val_main_call1_v2, Cert.Reference2Ideal.Read.val_main_call1_v1, Cert.Reference2Ideal.Read.val_main_call1_v0, Cert.Reference2Ideal.Read.val_main_v12, Cert.Reference2Ideal.Read.val_main_v11, Cert.Reference2Ideal.Read.val_main_v10, Cert.Reference2Ideal.Read.val_main_v7_0, Cert.Reference2Ideal.Read.val_main_v7_1, Cert.Reference2Ideal.Read.val_main_call0_v7, Cert.Reference2Ideal.Read.val_main_call0_v6, Cert.Reference2Ideal.Read.val_main_call0_cst_1, Cert.Reference2Ideal.Read.val_main_v7_2, Cert.Reference2Ideal.Read.val_main_call0_v4, Cert.Reference2Ideal.Read.val_main_call0_cst_0, Cert.Reference2Ideal.Read.val_main_call0_v3, Cert.Reference2Ideal.Read.val_main_call0_v2, Cert.Reference2Ideal.Read.val_main_call0_cst, Cert.Reference2Ideal.Read.val_main_call0_v1, Cert.Reference2Ideal.Read.val_main_call0_v0, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0]
  split
  · next h => simp only [dif_pos h]
  · next h =>
    have h' : n.val - 2816 < 2816 := by omega
    simp only [dif_pos h']

theorem equal (m : (ℓ : Loc nD τ sig) → Buf (Elt Ideal) ℓ) (c : Dev nD)
    (h1 : ∀ i, ∃ x : ℝ, (m ((c : Thread nD τ).loc main_arg1)) i = (x : EReal)) (h2 : ∀ i, ∃ x : ℝ, (m ((c : Thread nD τ).loc main_arg2)) i = (x : EReal))
    (h3 : ∀ i, ∃ x : ℝ, (m ((c : Thread nD τ).loc main_arg3)) i = (x : EReal)) :
    (dats m 0 c).arrAt 4 cfg0.N = Cert.Reference2Ideal.Read.val_main_v15 (F := Ideal) (m ((c : Thread nD τ).loc main_arg0)) (m ((c : Thread nD τ).loc main_arg1)) (m ((c : Thread nD τ).loc main_arg2)) (m ((c : Thread nD τ).loc main_arg3)) := by
  funext y
  obtain ⟨i, j, r, n, rfl⟩ := split_index y
  refine (final m c i j r n).trans ((kern_eq _ _ _ (fun n => ?_) (fun n => h1 _) _).trans (ref _ _ _ _ _ _).symm)
  exact real_sum _ _ (fun k => h2 _) (fun k => h3 _)

end Cert.Proof.Da

end
-- ==== Proof.Rows.lean ====
/- Arrays cut into blocks of rows: where a block lies, and an array whose blocks are all known. -/
module

public import Idealize.ShloMosaic.Lib.Pointwise

@[expose] public section

noncomputable section

namespace Cert.Proof.Rows

open Idealize.ShloMosaic Idealize.ShloMosaic.TcCoe Pointwise

abbrev Sh (M N : ℕ) : Shape := ⟨2, ![M, N]⟩

/-- An index is its two coordinates. -/
theorem of_coords {M N : ℕ} (x : (Sh M N).Idx) (p : Fin M) (q : Fin N) (h0 : (x 0).val = p.val) (h1 : (x 1).val = q.val) :
    x = ix2 p q := by
  funext a
  refine Fin.ext ?_
  match a with
  | ⟨0, _⟩ => exact h0
  | ⟨1, _⟩ => exact h1

/-- A block lies where its two numbers say, counted in blocks. -/
def At {A B C D : ℕ} (e : (Sh A B).Idx → (Sh C D).Idx) (p q : ℕ) : Prop :=
  ∀ y, (e y 0).val = p * A + 1 * (y 0).val ∧ (e y 1).val = q * B + 1 * (y 1).val

/-- A block of whole rows, at its entries. -/
theorem at_row {T N B i : ℕ} {e : (Sh B N).Idx → (Sh T N).Idx} (h : At e i 0) (r : Fin B) (d : Fin N) (hr : i * B + r.val < T) :
    e (ix2 r d) = ix2 ⟨i * B + r.val, hr⟩ d :=
  of_coords _ _ _ ((h _).1.trans (show i * B + 1 * r.val = i * B + r.val by rw [one_mul]))
    ((h _).2.trans (show 0 * N + 1 * d.val = d.val by omega))

/-- The block that is the whole array. -/
theorem at_all {M N : ℕ} {e : (Sh M N).Idx → (Sh M N).Idx} (h : At e 0 0) (y : (Sh M N).Idx) : e y = y :=
  (of_coords _ (y 0) (y 1) ((h y).1.trans (by omega)) ((h y).2.trans (by omega))).trans (of_coords y _ _ rfl rfl).symm

/-- Two arrays that agree on each of the 8 blocks of 512 rows. -/
theorem ext_rows {N : ℕ} (A G : (Sh 4096 N).Idx → EReal) (h : ∀ n : Fin 8, ∃ e : (Sh 512 N).Idx → (Sh 4096 N).Idx, At e n.val 0 ∧
    ∀ (r : Fin 512) (d : Fin N), A (e (ix2 r d)) = G (ix2 ⟨n.val * 512 + r.val, by omega⟩ d)) : A = G := by
  funext y
  have l : (y 0).val < 4096 := (y 0).isLt
  obtain ⟨e, a, g⟩ := h ⟨(y 0).val / 512, by omega⟩
  have g := g ⟨(y 0).val % 512, by omega⟩ (y 1)
  have b := at_row a ⟨(y 0).val % 512, by omega⟩ (y 1) (show (y 0).val / 512 * 512 + (y 0).val % 512 < 4096 by omega)
  have z : (ix2 ⟨(y 0).val / 512 * 512 + (y 0).val % 512, by omega⟩ (y 1) : (Sh 4096 N).Idx) = y :=
    (of_coords y ⟨(y 0).val / 512 * 512 + (y 0).val % 512, by omega⟩ (y 1)
      (show (y 0).val = (y 0).val / 512 * 512 + (y 0).val % 512 by omega) rfl).symm
  exact (congrArg A (b.trans z)).symm.trans (g.trans (congrArg G z))

/-- A load of a whole buffer reads what the buffer holds. -/
theorem load_whole {sig : RefSig} {S : Shape} {e : EltTy} {b : Memref sig .tc .vmem S e} (hb : b.IsWhole) (x : Vec Ideal S e)
    {off : Fin S.rank → ℕ} (h : off = fun _ => 0) (inb : ∀ a, off a + S.size a ≤ S.size a) :
    View.readAt (Elt Ideal) b.view (Rect.unit off S.size inb).toLoadRect (hb.unread x) = x := by
  show View.ld (View.read (Elt Ideal) b.view (hb.unread x)) (Rect.unit off S.size inb) = x
  rw [hb.read_unread]
  exact View.ld_unit_zero h inb x

theorem zeros : (![0, 0] : Fin 2 → ℕ) = fun _ => 0 := by funext a; fin_cases a <;> rfl

end Cert.Proof.Rows

end
-- ==== Proof.Weights.lean ====
/- The gradients of the weights: each grid point computes a block of the rows of the product of one transposed array with
   another. -/
module

public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import Idealize.ShloMosaic.Lib.Pointwise
public import proofs.«01_k».proof.Proof.Rows
public import Idealize.ShloMosaic.Lib.StableHlo.RunRead

@[expose] public section

set_option maxRecDepth 16384

noncomputable section

namespace Cert.Proof.Weights

open Idealize.ShloMosaic Idealize.ShloMosaic.TcCoe Pointwise Rows

/-- The products of the columns of two arrays, of the second array those columns that `f` picks. -/
def prod {T M N P : ℕ} (f : Fin N → Fin P) (x0 : (Sh T M).Idx → EReal) (x1 : (Sh T P).Idx → EReal) : (Sh M N).Idx → EReal :=
  fun y => ∑ k : Fin T, x0 (ix2 k (y 0)) * x1 (ix2 k (f (y 1)))

/-- If every block of rows of an array holds the products of those rows, the array holds all the products. -/
theorem of_blocks {T M N P K B q : ℕ} (hM : M = K * B) (f : Fin N → Fin P) (hf : ∀ d, (f d).val = q * N + 1 * d.val)
    (A : (Sh M N).Idx → EReal) (x0 : (Sh T M).Idx → EReal) (x1 : (Sh T P).Idx → EReal)
    (h : ∀ i : Fin K, ∃ (e0 : (Sh T B).Idx → (Sh T M).Idx) (e1 : (Sh T N).Idx → (Sh T P).Idx) (e2 : (Sh B N).Idx → (Sh M N).Idx),
      At e0 0 i.val ∧ At e1 0 q ∧ At e2 i.val 0 ∧
        ∀ (r : Fin B) (d : Fin N), A (e2 (ix2 r d)) = ∑ k : Fin T, x0 (e0 (ix2 k r)) * x1 (e1 (ix2 k d))) :
    A = prod f x0 x1 := by
  subst hM
  funext y
  have l : (y 0).val < K * B := (y 0).isLt
  have pos : 0 < B := Nat.pos_of_ne_zero fun z => by simp [z] at l
  have dm : (y 0).val / B * B + 1 * ((y 0).val % B) = (y 0).val := by rw [one_mul]; exact Nat.div_add_mod' _ _
  obtain ⟨e0, e1, e2, a0, a1, a2, g⟩ := h ⟨(y 0).val / B, Nat.div_lt_of_lt_mul (l.trans_eq (Nat.mul_comm K B))⟩
  have g := g ⟨(y 0).val % B, Nat.mod_lt _ pos⟩ (y 1)
  have z2 : e2 (ix2 ⟨(y 0).val % B, Nat.mod_lt _ pos⟩ (y 1)) = y :=
    (of_coords _ (y 0) (y 1) ((a2 _).1.trans dm)
      ((a2 _).2.trans (show 0 * N + 1 * (y 1).val = (y 1).val by omega))).trans (of_coords y (y 0) (y 1) rfl rfl).symm
  rw [z2] at g
  refine g.trans (Finset.sum_congr rfl fun k _ => congrArg₂ (· * ·) (congrArg x0 ?_) (congrArg x1 ?_))
  · exact of_coords _ k (y 0) ((a0 _).1.trans (show 0 * T + 1 * k.val = k.val by omega)) ((a0 _).2.trans dm)
  · exact of_coords _ k (f (y 1)) ((a1 _).1.trans (show 0 * T + 1 * k.val = k.val by omega)) ((a1 _).2.trans (hf _).symm)

/-! ### The weights of a feed-forward block, going out -/

section

open Cert.Kernel3Ideal Cert.Kernel3Ideal.Gen Cert.Reference3Ideal.Read Idealize.ShloMosaic.StableHlo

/-- The activation the host hands the kernel: silu of the gate times the other half. -/
def act3 (x0 x1 : (⟨S4096x2816, .bf16⟩ : BufTy).Contents (Elt Ideal)) : (⟨S4096x2816, .bf16⟩ : BufTy).Contents (Elt Ideal) :=
  truncf .bf16 (mulf (mulf (extf .f32 x0 bitsLt_bf16_f32)
    (Host.divf (broadcastInDim S4096x2816 ![] bcast_S_S4096x2816 (constant (F := Ideal) S_ .f32 0x3F800000#32))
      (addf (broadcastInDim S4096x2816 ![] bcast_S_S4096x2816 (constant (F := Ideal) S_ .f32 0x3F800000#32))
        (Host.exp (negf (extf .f32 x0 bitsLt_bf16_f32)))))) (extf .f32 x1 bitsLt_bf16_f32)) bitsLt_bf16_f32

theorem V_act3 (m : (ℓ : Loc nD τ sig) → Buf (Elt Ideal) ℓ) (c : Dev nD) :
    V m c main_v4 = act3 (m ((c : Thread nD τ).loc main_arg0)) (m ((c : Thread nD τ).loc main_arg1)) := by
  unfold_abbrev_sides
  after_reads_simp
  rfl

theorem out3 (x0 : Vec Ideal S4096x256 .bf16) (x1 : Vec Ideal S4096x1024 .bf16) (r : Fin 256) (d : Fin 1024) :
    out0_2 x0 x1 (ix2 r d : S256x1024.Idx) = ∑ k : Fin 4096, x0 (ix2 k r : S4096x256.Idx) * x1 (ix2 k d : S4096x1024.Idx) := by
  unfold out0_2
  rw [View.canon_unit_zero zeros, View.ld_unit_zero zeros, View.ld_unit_zero zeros]
  pointwise [k0_pay1]

theorem point3 : ∀ i : Fin 11, ∃ t : Fin grid0.N, cc0_transform_0 (grid0.coords t) = ![0, i.val] ∧
    cc0_transform_1 (grid0.coords t) = ![0, 0] ∧ cc0_transform_2 (grid0.coords t) = ![i.val, 0] := by
  decide +kernel

variable (m : (ℓ : Loc nD τ sig) → Buf (Elt Ideal) ℓ) (c : Dev nD)

theorem equal3 : (dats m 0 c).arrAt 2 cfg0.N = val_main_v12 (F := Ideal) (m ((c : Thread nD τ).loc main_arg0)) (m ((c : Thread nD τ).loc main_arg1)) (m ((c : Thread nD τ).loc main_arg2)) := by
  refine (of_blocks (K := 11) (B := 256) (q := 0) rfl (fun d : Fin 1024 => d) (fun d => by omega) ((dats m 0 c).arrAt 2 cfg0.N) (V m c main_v4) (V m c main_arg2) fun i => ?_).trans
    (funext fun y => ?_)
  · obtain ⟨t, e0, e1, e2⟩ := point3 i
    exact ⟨((cfg0.win 0).blk t).view.emb, ((cfg0.win 1).blk t).view.emb, ((cfg0.win 2).blk t).view.emb,
      fun y => ⟨congrArg (· * 4096 + 1 * (y 0).val) (congrFun e0 0), congrArg (· * 256 + 1 * (y 1).val) (congrFun e0 1)⟩,
      fun y => ⟨congrArg (· * 4096 + 1 * (y 0).val) (congrFun e1 0), congrArg (· * 1024 + 1 * (y 1).val) (congrFun e1 1)⟩,
      fun y => ⟨congrArg (· * 256 + 1 * (y 0).val) (congrFun e2 0), congrArg (· * 1024 + 1 * (y 1).val) (congrFun e2 1)⟩,
      fun r d => (congrFun ((Cert.Kernel3Ideal.Value.blocks2 m c t (flush0_2 t)).trans
        (Cert.Kernel3Ideal.Value.flushed2 m c t)) (ix2 r d : S256x1024.Idx)).trans (out3 _ _ r d)⟩
  · obtain ⟨r, d, rfl⟩ : ∃ (r : Fin 2816) (d : Fin 1024), y = ix2 r d := ⟨y 0, y 1, of_coords y _ _ rfl rfl⟩
    rw [V_act3]
    unfold prod
    symm
    pointwise [val_main_v12, val_main_v11, val_main_v10, val_main_v7, val_main_v5, val_main_v2, val_main_v1, val_main_v0, val_main_v6, val_main_call0_v5, val_main_call0_v3, val_main_call0_v1, val_main_call0_v0, val_main_v4, val_main_call0_v2, val_main_call0_cst, val_main_call0_v4, val_main_call0_cst_0, val_main_v9, act3]
    exact Finset.sum_congr rfl fun k _ => mul_comm (G := EReal) _ _

end

/-! ### The weights of the second feed-forward block, coming in -/

section

open Cert.Kernel4Ideal Cert.Kernel4Ideal.Gen Cert.Reference4Ideal.Read

theorem out4 (x0 : Vec Ideal S4096x512 .bf16) (x1 : Vec Ideal S4096x1024 .bf16) (r : Fin 512) (d : Fin 1024) :
    out0_2 x0 x1 (ix2 r d : S512x1024.Idx) = ∑ k : Fin 4096, x0 (ix2 k r : S4096x512.Idx) * x1 (ix2 k d : S4096x1024.Idx) := by
  unfold out0_2
  rw [View.canon_unit_zero zeros, View.ld_unit_zero zeros, View.ld_unit_zero zeros]
  pointwise [k0_pay1]

theorem point4 : ∀ i : Fin 11, ∃ t : Fin grid0.N, cc0_transform_0 (grid0.coords t) = ![0, i.val] ∧
    cc0_transform_1 (grid0.coords t) = ![0, 0] ∧ cc0_transform_2 (grid0.coords t) = ![i.val, 0] := by
  decide +kernel

variable (m : (ℓ : Loc nD τ sig) → Buf (Elt Ideal) ℓ) (c : Dev nD)

theorem equal4 : (dats m 0 c).arrAt 2 cfg0.N = val_main_v8 (F := Ideal) (m ((c : Thread nD τ).loc main_arg0)) (m ((c : Thread nD τ).loc main_arg1)) := by
  refine (of_blocks (K := 11) (B := 512) (q := 0) rfl (fun d : Fin 1024 => d) (fun d => by omega) ((dats m 0 c).arrAt 2 cfg0.N) (V m c main_arg0) (V m c main_arg1) fun i => ?_).trans
    (funext fun y => ?_)
  · obtain ⟨t, e0, e1, e2⟩ := point4 i
    exact ⟨((cfg0.win 0).blk t).view.emb, ((cfg0.win 1).blk t).view.emb, ((cfg0.win 2).blk t).view.emb,
      fun y => ⟨congrArg (· * 4096 + 1 * (y 0).val) (congrFun e0 0), congrArg (· * 512 + 1 * (y 1).val) (congrFun e0 1)⟩,
      fun y => ⟨congrArg (· * 4096 + 1 * (y 0).val) (congrFun e1 0), congrArg (· * 1024 + 1 * (y 1).val) (congrFun e1 1)⟩,
      fun y => ⟨congrArg (· * 512 + 1 * (y 0).val) (congrFun e2 0), congrArg (· * 1024 + 1 * (y 1).val) (congrFun e2 1)⟩,
      fun r d => (congrFun ((Cert.Kernel4Ideal.Value.blocks2 m c t (flush0_2 t)).trans
        (Cert.Kernel4Ideal.Value.flushed2 m c t)) (ix2 r d : S512x1024.Idx)).trans (out4 _ _ r d)⟩
  · obtain ⟨r, d, rfl⟩ : ∃ (r : Fin 5632) (d : Fin 1024), y = ix2 r d := ⟨y 0, y 1, of_coords y _ _ rfl rfl⟩
    unfold prod
    symm
    pointwise [val_main_v8, val_main_v7, val_main_v6, val_main_v5, val_main_v1, val_main_v4]

end

/-! ### The weights of the first feed-forward block coming in, the first half of their columns -/

section

open Cert.Kernel5Ideal Cert.Kernel5Ideal.Gen Cert.Reference5Ideal.Read

theorem out5 (x0 : Vec Ideal S4096x512 .bf16) (x1 : Vec Ideal S4096x512 .bf16) (r : Fin 512) (d : Fin 512) :
    out0_2 x0 x1 (ix2 r d : S512x512.Idx) = ∑ k : Fin 4096, x0 (ix2 k r : S4096x512.Idx) * x1 (ix2 k d : S4096x512.Idx) := by
  unfold out0_2
  rw [View.canon_unit_zero zeros, View.ld_unit_zero zeros, View.ld_unit_zero zeros]
  pointwise [k0_pay1]

theorem point5 : ∀ i : Fin 11, ∃ t : Fin grid0.N, cc0_transform_0 (grid0.coords t) = ![0, i.val] ∧
    cc0_transform_1 (grid0.coords t) = ![0, 0] ∧ cc0_transform_2 (grid0.coords t) = ![i.val, 0] := by
  decide +kernel

variable (m : (ℓ : Loc nD τ sig) → Buf (Elt Ideal) ℓ) (c : Dev nD)

theorem equal5 : (dats m 0 c).arrAt 2 cfg0.N = val_main_v9 (F := Ideal) (m ((c : Thread nD τ).loc main_arg0)) (m ((c : Thread nD τ).loc main_arg1)) := by
  refine (of_blocks (K := 11) (B := 512) (q := 0) rfl (fun d : Fin 512 => (⟨d.val, by omega⟩ : Fin 1024)) (fun d => by dsimp only; omega) ((dats m 0 c).arrAt 2 cfg0.N) (V m c main_arg0) (V m c main_arg1) fun i => ?_).trans
    (funext fun y => ?_)
  · obtain ⟨t, e0, e1, e2⟩ := point5 i
    exact ⟨((cfg0.win 0).blk t).view.emb, ((cfg0.win 1).blk t).view.emb, ((cfg0.win 2).blk t).view.emb,
      fun y => ⟨congrArg (· * 4096 + 1 * (y 0).val) (congrFun e0 0), congrArg (· * 512 + 1 * (y 1).val) (congrFun e0 1)⟩,
      fun y => ⟨congrArg (· * 4096 + 1 * (y 0).val) (congrFun e1 0), congrArg (· * 512 + 1 * (y 1).val) (congrFun e1 1)⟩,
      fun y => ⟨congrArg (· * 512 + 1 * (y 0).val) (congrFun e2 0), congrArg (· * 512 + 1 * (y 1).val) (congrFun e2 1)⟩,
      fun r d => (congrFun ((Cert.Kernel5Ideal.Value.blocks2 m c t (flush0_2 t)).trans
        (Cert.Kernel5Ideal.Value.flushed2 m c t)) (ix2 r d : S512x512.Idx)).trans (out5 _ _ r d)⟩
  · obtain ⟨r, d, rfl⟩ : ∃ (r : Fin 5632) (d : Fin 512), y = ix2 r d := ⟨y 0, y 1, of_coords y _ _ rfl rfl⟩
    unfold prod
    symm
    pointwise [val_main_v9, val_main_v8, val_main_v7, val_main_v6, val_main_v5, val_main_v1, val_main_v4]

end

/-! ### The weights of the first feed-forward block coming in, the last half of their columns -/

section

open Cert.Kernel6Ideal Cert.Kernel6Ideal.Gen Cert.Reference6Ideal.Read

theorem out6 (c : Dev nD) (i : grid0.Coords) (arg3 : Memref sig .tc .vmem S4096x512 .bf16) (harg3 : arg3.IsWhole)
    (arg4 : Memref sig .tc .vmem S4096x512 .bf16) (harg4 : arg4.IsWhole) (arg5 : Memref sig .tc .vmem S512x512 .bf16)
    (harg5 : arg5.IsWhole) (x0 : Vec Ideal S4096x512 .bf16) (x1 : Vec Ideal S4096x512 .bf16) (r : Fin 512) (d : Fin 512) :
    out0_A_2 (F := Ideal) c i arg3 harg3 arg4 harg4 arg5 harg5 x0 x1 (ix2 r d : S512x512.Idx) = ∑ k : Fin 4096, x0 (ix2 k r : S4096x512.Idx) * x1 (ix2 k d : S4096x512.Idx) := by
  unfold out0_A_2
  refine (congrFun (View.read_writes_eq_canon _ _ _ (cover0_A_2 c i arg3 harg3 arg4 harg4 arg5 harg5 x0 x1)) _).trans ?_
  unfold kernelRun0_A
  dsimp only
  sl_unfold_words
  rw [View.canon_unit_zero zeros, load_whole harg3 x0 zeros _, load_whole harg4 x1 zeros _]
  pointwise [k0_pay1]

theorem point6 : ∀ i : Fin 11, ∃ t : Fin grid0.N, cc0_transform_1 (grid0.coords t) = ![0, i.val] ∧
    cc0_transform_2 (grid0.coords t) = ![0, 1] ∧ cc0_transform_3 (grid0.coords t) = ![i.val, 0] := by
  decide +kernel

variable (m : (ℓ : Loc nD τ sig) → Buf (Elt Ideal) ℓ) (c : Dev nD)

theorem equal6 : (dats m 0 c).arrAt 2 cfg0.N = val_main_v9 (F := Ideal) (m ((c : Thread nD τ).loc main_arg0)) (m ((c : Thread nD τ).loc main_arg1)) := by
  refine (of_blocks (K := 11) (B := 512) (q := 1) rfl (fun d : Fin 512 => (⟨512 + d.val, by omega⟩ : Fin 1024)) (fun d => by dsimp only; omega) ((dats m 0 c).arrAt 2 cfg0.N) (V m c main_arg0) (V m c main_arg1) fun i => ?_).trans
    (funext fun y => ?_)
  · obtain ⟨t, e0, e1, e2⟩ := point6 i
    exact ⟨((cfg0.win 0).blk t).view.emb, ((cfg0.win 1).blk t).view.emb, ((cfg0.win 2).blk t).view.emb,
      fun y => ⟨congrArg (· * 4096 + 1 * (y 0).val) (congrFun e0 0), congrArg (· * 512 + 1 * (y 1).val) (congrFun e0 1)⟩,
      fun y => ⟨congrArg (· * 4096 + 1 * (y 0).val) (congrFun e1 0), congrArg (· * 512 + 1 * (y 1).val) (congrFun e1 1)⟩,
      fun y => ⟨congrArg (· * 512 + 1 * (y 0).val) (congrFun e2 0), congrArg (· * 512 + 1 * (y 1).val) (congrFun e2 1)⟩,
      fun r d => (congrFun ((Cert.Kernel6Ideal.Value.blocks2 m c t (flush0_2 t)).trans
        (Cert.Kernel6Ideal.Value.flushed2_A m c t)) (ix2 r d : S512x512.Idx)).trans (out6 _ _ _ _ _ _ _ _ _ _ r d)⟩
  · obtain ⟨r, d, rfl⟩ : ∃ (r : Fin 5632) (d : Fin 512), y = ix2 r d := ⟨y 0, y 1, of_coords y _ _ rfl rfl⟩
    unfold prod
    symm
    pointwise [val_main_v9, val_main_v8, val_main_v7, val_main_v6, val_main_v5, val_main_v1, val_main_v4]

end

/-! ### The weights of the mixer's output product -/

section

open Cert.Kernel16Ideal Cert.Kernel16Ideal.Gen Cert.Reference16Ideal.Read

theorem out16 (x0 : Vec Ideal S4096x512 .bf16) (x1 : Vec Ideal S4096x1024 .bf16) (r : Fin 512) (d : Fin 1024) :
    out0_2 x0 x1 (ix2 r d : S512x1024.Idx) = ∑ k : Fin 4096, x0 (ix2 k r : S4096x512.Idx) * x1 (ix2 k d : S4096x1024.Idx) := by
  unfold out0_2
  rw [View.canon_unit_zero zeros, View.ld_unit_zero zeros, View.ld_unit_zero zeros]
  pointwise [k0_pay1]

theorem point16 : ∀ i : Fin 2, ∃ t : Fin grid0.N, cc0_transform_0 (grid0.coords t) = ![0, i.val] ∧
    cc0_transform_1 (grid0.coords t) = ![0, 0] ∧ cc0_transform_2 (grid0.coords t) = ![i.val, 0] := by
  decide +kernel

variable (m : (ℓ : Loc nD τ sig) → Buf (Elt Ideal) ℓ) (c : Dev nD)

theorem equal16 : (dats m 0 c).arrAt 2 cfg0.N = val_main_v6 (F := Ideal) (m ((c : Thread nD τ).loc main_arg0)) (m ((c : Thread nD τ).loc main_arg1)) := by
  refine (of_blocks (K := 2) (B := 512) (q := 0) rfl (fun d : Fin 1024 => d) (fun d => by omega) ((dats m 0 c).arrAt 2 cfg0.N) (V m c main_arg0) (V m c main_arg1) fun i => ?_).trans
    (funext fun y => ?_)
  · obtain ⟨t, e0, e1, e2⟩ := point16 i
    exact ⟨((cfg0.win 0).blk t).view.emb, ((cfg0.win 1).blk t).view.emb, ((cfg0.win 2).blk t).view.emb,
      fun y => ⟨congrArg (· * 4096 + 1 * (y 0).val) (congrFun e0 0), congrArg (· * 512 + 1 * (y 1).val) (congrFun e0 1)⟩,
      fun y => ⟨congrArg (· * 4096 + 1 * (y 0).val) (congrFun e1 0), congrArg (· * 1024 + 1 * (y 1).val) (congrFun e1 1)⟩,
      fun y => ⟨congrArg (· * 512 + 1 * (y 0).val) (congrFun e2 0), congrArg (· * 1024 + 1 * (y 1).val) (congrFun e2 1)⟩,
      fun r d => (congrFun ((Cert.Kernel16Ideal.Value.blocks2 m c t (flush0_2 t)).trans
        (Cert.Kernel16Ideal.Value.flushed2 m c t)) (ix2 r d : S512x1024.Idx)).trans (out16 _ _ r d)⟩
  · obtain ⟨r, d, rfl⟩ : ∃ (r : Fin 1024) (d : Fin 1024), y = ix2 r d := ⟨y 0, y 1, of_coords y _ _ rfl rfl⟩
    unfold prod
    symm
    pointwise [val_main_v6, val_main_v5, val_main_v4, val_main_v1, val_main_v3]
    exact Finset.sum_congr rfl fun k _ => mul_comm (G := EReal) _ _

end

/-! ### The weights of the attention's projection -/

section

open Cert.Kernel17Ideal Cert.Kernel17Ideal.Gen Cert.Reference17Ideal.Read

theorem out17 (x0 : Vec Ideal S4096x512 .bf16) (x1 : Vec Ideal S4096x1024 .bf16) (r : Fin 512) (d : Fin 1024) :
    out0_2 x0 x1 (ix2 r d : S512x1024.Idx) = ∑ k : Fin 4096, x0 (ix2 k r : S4096x512.Idx) * x1 (ix2 k d : S4096x1024.Idx) := by
  unfold out0_2
  rw [View.canon_unit_zero zeros, View.ld_unit_zero zeros, View.ld_unit_zero zeros]
  pointwise [k0_pay1]

theorem point17 : ∀ i : Fin 2, ∃ t : Fin grid0.N, cc0_transform_0 (grid0.coords t) = ![0, i.val] ∧
    cc0_transform_1 (grid0.coords t) = ![0, 0] ∧ cc0_transform_2 (grid0.coords t) = ![i.val, 0] := by
  decide +kernel

variable (m : (ℓ : Loc nD τ sig) → Buf (Elt Ideal) ℓ) (c : Dev nD)

theorem equal17 : (dats m 0 c).arrAt 2 cfg0.N = val_main_v8 (F := Ideal) (m ((c : Thread nD τ).loc main_arg0)) (m ((c : Thread nD τ).loc main_arg1)) := by
  refine (of_blocks (K := 2) (B := 512) (q := 0) rfl (fun d : Fin 1024 => d) (fun d => by omega) ((dats m 0 c).arrAt 2 cfg0.N) (V m c main_arg0) (V m c main_arg1) fun i => ?_).trans
    (funext fun y => ?_)
  · obtain ⟨t, e0, e1, e2⟩ := point17 i
    exact ⟨((cfg0.win 0).blk t).view.emb, ((cfg0.win 1).blk t).view.emb, ((cfg0.win 2).blk t).view.emb,
      fun y => ⟨congrArg (· * 4096 + 1 * (y 0).val) (congrFun e0 0), congrArg (· * 512 + 1 * (y 1).val) (congrFun e0 1)⟩,
      fun y => ⟨congrArg (· * 4096 + 1 * (y 0).val) (congrFun e1 0), congrArg (· * 1024 + 1 * (y 1).val) (congrFun e1 1)⟩,
      fun y => ⟨congrArg (· * 512 + 1 * (y 0).val) (congrFun e2 0), congrArg (· * 1024 + 1 * (y 1).val) (congrFun e2 1)⟩,
      fun r d => (congrFun ((Cert.Kernel17Ideal.Value.blocks2 m c t (flush0_2 t)).trans
        (Cert.Kernel17Ideal.Value.flushed2 m c t)) (ix2 r d : S512x1024.Idx)).trans (out17 _ _ r d)⟩
  · obtain ⟨r, d, rfl⟩ : ∃ (r : Fin 1024) (d : Fin 1024), y = ix2 r d := ⟨y 0, y 1, of_coords y _ _ rfl rfl⟩
    unfold prod
    symm
    pointwise [val_main_v8, val_main_v7, val_main_v6, val_main_v5, val_main_v1, val_main_v4]

end

/-! ### The weights of the pooling's projection -/

section

open Cert.Kernel18Ideal Cert.Kernel18Ideal.Gen Cert.Reference18Ideal.Read

theorem out18 (x0 : Vec Ideal S4096x512 .bf16) (x1 : Vec Ideal S4096x512 .bf16) (r : Fin 512) (d : Fin 512) :
    out0_2 x0 x1 (ix2 r d : S512x512.Idx) = ∑ k : Fin 4096, x0 (ix2 k r : S4096x512.Idx) * x1 (ix2 k d : S4096x512.Idx) := by
  unfold out0_2
  rw [View.canon_unit_zero zeros, View.ld_unit_zero zeros, View.ld_unit_zero zeros]
  pointwise [k0_pay1]

theorem point18 : ∀ i : Fin 2, ∃ t : Fin grid0.N, cc0_transform_0 (grid0.coords t) = ![0, i.val] ∧
    cc0_transform_1 (grid0.coords t) = ![0, 0] ∧ cc0_transform_2 (grid0.coords t) = ![i.val, 0] := by
  decide +kernel

variable (m : (ℓ : Loc nD τ sig) → Buf (Elt Ideal) ℓ) (c : Dev nD)

theorem equal18 : (dats m 0 c).arrAt 2 cfg0.N = val_main_v8 (F := Ideal) (m ((c : Thread nD τ).loc main_arg0)) (m ((c : Thread nD τ).loc main_arg1)) := by
  refine (of_blocks (K := 2) (B := 512) (q := 0) rfl (fun d : Fin 512 => d) (fun d => by omega) ((dats m 0 c).arrAt 2 cfg0.N) (V m c main_arg0) (V m c main_arg1) fun i => ?_).trans
    (funext fun y => ?_)
  · obtain ⟨t, e0, e1, e2⟩ := point18 i
    exact ⟨((cfg0.win 0).blk t).view.emb, ((cfg0.win 1).blk t).view.emb, ((cfg0.win 2).blk t).view.emb,
      fun y => ⟨congrArg (· * 4096 + 1 * (y 0).val) (congrFun e0 0), congrArg (· * 512 + 1 * (y 1).val) (congrFun e0 1)⟩,
      fun y => ⟨congrArg (· * 4096 + 1 * (y 0).val) (congrFun e1 0), congrArg (· * 512 + 1 * (y 1).val) (congrFun e1 1)⟩,
      fun y => ⟨congrArg (· * 512 + 1 * (y 0).val) (congrFun e2 0), congrArg (· * 512 + 1 * (y 1).val) (congrFun e2 1)⟩,
      fun r d => (congrFun ((Cert.Kernel18Ideal.Value.blocks2 m c t (flush0_2 t)).trans
        (Cert.Kernel18Ideal.Value.flushed2 m c t)) (ix2 r d : S512x512.Idx)).trans (out18 _ _ r d)⟩
  · obtain ⟨r, d, rfl⟩ : ∃ (r : Fin 1024) (d : Fin 512), y = ix2 r d := ⟨y 0, y 1, of_coords y _ _ rfl rfl⟩
    unfold prod
    symm
    pointwise [val_main_v8, val_main_v7, val_main_v6, val_main_v5, val_main_v1, val_main_v4]

end

/-! ### The weights of the queries' product -/

section

open Cert.Kernel19Ideal Cert.Kernel19Ideal.Gen Cert.Reference19Ideal.Read

theorem out19 (x0 : Vec Ideal S4096x512 .bf16) (x1 : Vec Ideal S4096x384 .bf16) (r : Fin 512) (d : Fin 384) :
    out0_2 x0 x1 (ix2 r d : S512x384.Idx) = ∑ k : Fin 4096, x0 (ix2 k r : S4096x512.Idx) * x1 (ix2 k d : S4096x384.Idx) := by
  unfold out0_2
  rw [View.canon_unit_zero zeros, View.ld_unit_zero zeros, View.ld_unit_zero zeros]
  pointwise [k0_pay1]

theorem point19 : ∀ i : Fin 2, ∃ t : Fin grid0.N, cc0_transform_0 (grid0.coords t) = ![0, i.val] ∧
    cc0_transform_1 (grid0.coords t) = ![0, 0] ∧ cc0_transform_2 (grid0.coords t) = ![i.val, 0] := by
  decide +kernel

variable (m : (ℓ : Loc nD τ sig) → Buf (Elt Ideal) ℓ) (c : Dev nD)

theorem equal19 : (dats m 0 c).arrAt 2 cfg0.N = val_main_v8 (F := Ideal) (m ((c : Thread nD τ).loc main_arg0)) (m ((c : Thread nD τ).loc main_arg1)) := by
  refine (of_blocks (K := 2) (B := 512) (q := 0) rfl (fun d : Fin 384 => d) (fun d => by omega) ((dats m 0 c).arrAt 2 cfg0.N) (V m c main_arg0) (V m c main_arg1) fun i => ?_).trans
    (funext fun y => ?_)
  · obtain ⟨t, e0, e1, e2⟩ := point19 i
    exact ⟨((cfg0.win 0).blk t).view.emb, ((cfg0.win 1).blk t).view.emb, ((cfg0.win 2).blk t).view.emb,
      fun y => ⟨congrArg (· * 4096 + 1 * (y 0).val) (congrFun e0 0), congrArg (· * 512 + 1 * (y 1).val) (congrFun e0 1)⟩,
      fun y => ⟨congrArg (· * 4096 + 1 * (y 0).val) (congrFun e1 0), congrArg (· * 384 + 1 * (y 1).val) (congrFun e1 1)⟩,
      fun y => ⟨congrArg (· * 512 + 1 * (y 0).val) (congrFun e2 0), congrArg (· * 384 + 1 * (y 1).val) (congrFun e2 1)⟩,
      fun r d => (congrFun ((Cert.Kernel19Ideal.Value.blocks2 m c t (flush0_2 t)).trans
        (Cert.Kernel19Ideal.Value.flushed2 m c t)) (ix2 r d : S512x384.Idx)).trans (out19 _ _ r d)⟩
  · obtain ⟨r, d, rfl⟩ : ∃ (r : Fin 1024) (d : Fin 384), y = ix2 r d := ⟨y 0, y 1, of_coords y _ _ rfl rfl⟩
    unfold prod
    symm
    pointwise [val_main_v8, val_main_v7, val_main_v6, val_main_v5, val_main_v1, val_main_v4]

end

/-! ### The weights of the keys' and values' product -/

section

open Cert.Kernel20Ideal Cert.Kernel20Ideal.Gen Cert.Reference20Ideal.Read

theorem out20 (x0 : Vec Ideal S4096x512 .bf16) (x1 : Vec Ideal S4096x256 .bf16) (r : Fin 512) (d : Fin 256) :
    out0_2 x0 x1 (ix2 r d : S512x256.Idx) = ∑ k : Fin 4096, x0 (ix2 k r : S4096x512.Idx) * x1 (ix2 k d : S4096x256.Idx) := by
  unfold out0_2
  rw [View.canon_unit_zero zeros, View.ld_unit_zero zeros, View.ld_unit_zero zeros]
  pointwise [k0_pay1]

theorem point20 : ∀ i : Fin 2, ∃ t : Fin grid0.N, cc0_transform_0 (grid0.coords t) = ![0, i.val] ∧
    cc0_transform_1 (grid0.coords t) = ![0, 0] ∧ cc0_transform_2 (grid0.coords t) = ![i.val, 0] := by
  decide +kernel

variable (m : (ℓ : Loc nD τ sig) → Buf (Elt Ideal) ℓ) (c : Dev nD)

theorem equal20 : (dats m 0 c).arrAt 2 cfg0.N = val_main_v8 (F := Ideal) (m ((c : Thread nD τ).loc main_arg0)) (m ((c : Thread nD τ).loc main_arg1)) := by
  refine (of_blocks (K := 2) (B := 512) (q := 0) rfl (fun d : Fin 256 => d) (fun d => by omega) ((dats m 0 c).arrAt 2 cfg0.N) (V m c main_arg0) (V m c main_arg1) fun i => ?_).trans
    (funext fun y => ?_)
  · obtain ⟨t, e0, e1, e2⟩ := point20 i
    exact ⟨((cfg0.win 0).blk t).view.emb, ((cfg0.win 1).blk t).view.emb, ((cfg0.win 2).blk t).view.emb,
      fun y => ⟨congrArg (· * 4096 + 1 * (y 0).val) (congrFun e0 0), congrArg (· * 512 + 1 * (y 1).val) (congrFun e0 1)⟩,
      fun y => ⟨congrArg (· * 4096 + 1 * (y 0).val) (congrFun e1 0), congrArg (· * 256 + 1 * (y 1).val) (congrFun e1 1)⟩,
      fun y => ⟨congrArg (· * 512 + 1 * (y 0).val) (congrFun e2 0), congrArg (· * 256 + 1 * (y 1).val) (congrFun e2 1)⟩,
      fun r d => (congrFun ((Cert.Kernel20Ideal.Value.blocks2 m c t (flush0_2 t)).trans
        (Cert.Kernel20Ideal.Value.flushed2 m c t)) (ix2 r d : S512x256.Idx)).trans (out20 _ _ r d)⟩
  · obtain ⟨r, d, rfl⟩ : ∃ (r : Fin 1024) (d : Fin 256), y = ix2 r d := ⟨y 0, y 1, of_coords y _ _ rfl rfl⟩
    unfold prod
    symm
    pointwise [val_main_v8, val_main_v7, val_main_v6, val_main_v5, val_main_v1, val_main_v4]

end

end Cert.Proof.Weights

end
-- ==== Proof.InAct.lean ====
/- The forward pass's product of a feed-forward block's input with its weights, and the activation of its two halves: grid
   point j computes columns 256 j to 256 j + 255 of both halves. -/
module

public import proofs.«01_k».proof.Proof.Gen.Kernel7Ideal.Value
public import proofs.«01_k».proof.Proof.Gen.Reference7Ideal.Read
public import Idealize.ShloMosaic.Lib.Pointwise
public import proofs.«01_k».proof.Proof.Sigmoid

@[expose] public section

set_option maxRecDepth 16384

noncomputable section

namespace Cert.Proof.InAct

open Idealize.ShloMosaic Idealize.ShloMosaic.TcCoe Cert.Kernel7Ideal Cert.Kernel7Ideal.Gen Cert.Proof.Sigmoid Pointwise

/-- Every index of the result lies in one block. -/
theorem split_index (y : S4096x2816.Idx) : ∃ (i : Fin 1) (j : Fin 11) (r : Fin 4096) (d : Fin 256),
    y = ix2 ⟨i.val * 4096 + r.val, by omega⟩ ⟨j.val * 256 + d.val, by omega⟩ := by
  have h0 : (y 0).val < 4096 := (y 0).isLt
  have h1 : (y 1).val < 2816 := (y 1).isLt
  refine ⟨⟨(y 0).val / 4096, by omega⟩, ⟨(y 1).val / 256, by omega⟩, ⟨(y 0).val % 4096, by omega⟩,
    ⟨(y 1).val % 256, by omega⟩, ?_⟩
  funext a
  refine Fin.ext ?_
  match a with
  | ⟨0, _⟩ => show (y 0).val = (y 0).val / 4096 * 4096 + (y 0).val % 4096; omega
  | ⟨1, _⟩ => show (y 1).val = (y 1).val / 256 * 256 + (y 1).val % 256; omega

/-- Some grid point works on columns 256 j to 256 j + 255. -/
theorem point_of : ∀ j : Fin 11, ∃ t : Fin grid0.N, cc0_transform_0 (grid0.coords t) = ![0, 0] ∧
    cc0_transform_1 (grid0.coords t) = ![j.val, 0] ∧ cc0_transform_2 (grid0.coords t) = ![11 + j.val, 0] ∧
    cc0_transform_3 (grid0.coords t) = ![0, j.val] ∧ cc0_transform_4 (grid0.coords t) = ![0, j.val] ∧
    cc0_transform_5 (grid0.coords t) = ![0, j.val] := by
  decide +kernel

/-- Window 0: entry (r, d) of block (p, q) is entry (p 4096 + r, q 1024 + d) of the array. -/
theorem emb0 (t : Fin grid0.N) (p q : ℕ) (ht : cc0_transform_0 (grid0.coords t) = ![p, q])
    (r : Fin 4096) (d : Fin 1024) (hr : p * 4096 + r.val < 4096) (hd : q * 1024 + d.val < 1024) :
    ((cfg0.win 0).blk t).view.emb (ix2 r d : S4096x1024.Idx) =
      (ix2 ⟨p * 4096 + r.val, hr⟩ ⟨q * 1024 + d.val, hd⟩ : S4096x1024.Idx) := by
  have h0 : win0_0.index t (0 : Fin 2) = p := congrFun ht 0
  have h1 : win0_0.index t (1 : Fin 2) = q := congrFun ht 1
  funext a
  refine Fin.ext ?_
  match a with
  | ⟨0, _⟩ => show win0_0.index t (0 : Fin 2) * 4096 + 1 * r.val = p * 4096 + r.val; rw [h0, Nat.one_mul]
  | ⟨1, _⟩ => show win0_0.index t (1 : Fin 2) * 1024 + 1 * d.val = q * 1024 + d.val; rw [h1, Nat.one_mul]

theorem read0 (f : (⟨S4096x1024, .bf16⟩ : BufTy).Contents (Elt Ideal)) (t : Fin grid0.N) (p q : ℕ)
    (ht : cc0_transform_0 (grid0.coords t) = ![p, q]) (r : Fin 4096) (d : Fin 1024)
    (hr : p * 4096 + r.val < 4096) (hd : q * 1024 + d.val < 1024) :
    ((cfg0.win 0).blk t).view.read (Elt Ideal) f (ix2 r d : S4096x1024.Idx) =
      f (ix2 ⟨p * 4096 + r.val, hr⟩ ⟨q * 1024 + d.val, hd⟩ : S4096x1024.Idx) := by
  show f (((cfg0.win 0).blk t).view.emb (ix2 r d : S4096x1024.Idx)) = _
  rw [emb0 t p q ht r d hr hd]

/-- Window 1: entry (r, d) of block (p, q) is entry (p 256 + r, q 1024 + d) of the array. -/
theorem emb1 (t : Fin grid0.N) (p q : ℕ) (ht : cc0_transform_1 (grid0.coords t) = ![p, q])
    (r : Fin 256) (d : Fin 1024) (hr : p * 256 + r.val < 5632) (hd : q * 1024 + d.val < 1024) :
    ((cfg0.win 1).blk t).view.emb (ix2 r d : S256x1024.Idx) =
      (ix2 ⟨p * 256 + r.val, hr⟩ ⟨q * 1024 + d.val, hd⟩ : S5632x1024.Idx) := by
  have h0 : win0_1.index t (0 : Fin 2) = p := congrFun ht 0
  have h1 : win0_1.index t (1 : Fin 2) = q := congrFun ht 1
  funext a
  refine Fin.ext ?_
  match a with
  | ⟨0, _⟩ => show win0_1.index t (0 : Fin 2) * 256 + 1 * r.val = p * 256 + r.val; rw [h0, Nat.one_mul]
  | ⟨1, _⟩ => show win0_1.index t (1 : Fin 2) * 1024 + 1 * d.val = q * 1024 + d.val; rw [h1, Nat.one_mul]

theorem read1 (f : (⟨S5632x1024, .bf16⟩ : BufTy).Contents (Elt Ideal)) (t : Fin grid0.N) (p q : ℕ)
    (ht : cc0_transform_1 (grid0.coords t) = ![p, q]) (r : Fin 256) (d : Fin 1024)
    (hr : p * 256 + r.val < 5632) (hd : q * 1024 + d.val < 1024) :
    ((cfg0.win 1).blk t).view.read (Elt Ideal) f (ix2 r d : S256x1024.Idx) =
      f (ix2 ⟨p * 256 + r.val, hr⟩ ⟨q * 1024 + d.val, hd⟩ : S5632x1024.Idx) := by
  show f (((cfg0.win 1).blk t).view.emb (ix2 r d : S256x1024.Idx)) = _
  rw [emb1 t p q ht r d hr hd]

/-- Window 2: entry (r, d) of block (p, q) is entry (p 256 + r, q 1024 + d) of the array. -/
theorem emb2 (t : Fin grid0.N) (p q : ℕ) (ht : cc0_transform_2 (grid0.coords t) = ![p, q])
    (r : Fin 256) (d : Fin 1024) (hr : p * 256 + r.val < 5632) (hd : q * 1024 + d.val < 1024) :
    ((cfg0.win 2).blk t).view.emb (ix2 r d : S256x1024.Idx) =
      (ix2 ⟨p * 256 + r.val, hr⟩ ⟨q * 1024 + d.val, hd⟩ : S5632x1024.Idx) := by
  have h0 : win0_2.index t (0 : Fin 2) = p := congrFun ht 0
  have h1 : win0_2.index t (1 : Fin 2) = q := congrFun ht 1
  funext a
  refine Fin.ext ?_
  match a with
  | ⟨0, _⟩ => show win0_2.index t (0 : Fin 2) * 256 + 1 * r.val = p * 256 + r.val; rw [h0, Nat.one_mul]
  | ⟨1, _⟩ => show win0_2.index t (1 : Fin 2) * 1024 + 1 * d.val = q * 1024 + d.val; rw [h1, Nat.one_mul]

theorem read2 (f : (⟨S5632x1024, .bf16⟩ : BufTy).Contents (Elt Ideal)) (t : Fin grid0.N) (p q : ℕ)
    (ht : cc0_transform_2 (grid0.coords t) = ![p, q]) (r : Fin 256) (d : Fin 1024)
    (hr : p * 256 + r.val < 5632) (hd : q * 1024 + d.val < 1024) :
    ((cfg0.win 2).blk t).view.read (Elt Ideal) f (ix2 r d : S256x1024.Idx) =
      f (ix2 ⟨p * 256 + r.val, hr⟩ ⟨q * 1024 + d.val, hd⟩ : S5632x1024.Idx) := by
  show f (((cfg0.win 2).blk t).view.emb (ix2 r d : S256x1024.Idx)) = _
  rw [emb2 t p q ht r d hr hd]

/-- Window 3: entry (r, d) of block (p, q) is entry (p 4096 + r, q 256 + d) of the array. -/
theorem emb3 (t : Fin grid0.N) (p q : ℕ) (ht : cc0_transform_3 (grid0.coords t) = ![p, q])
    (r : Fin 4096) (d : Fin 256) (hr : p * 4096 + r.val < 4096) (hd : q * 256 + d.val < 2816) :
    ((cfg0.win 3).blk t).view.emb (ix2 r d : S4096x256.Idx) =
      (ix2 ⟨p * 4096 + r.val, hr⟩ ⟨q * 256 + d.val, hd⟩ : S4096x2816.Idx) := by
  have h0 : win0_3.index t (0 : Fin 2) = p := congrFun ht 0
  have h1 : win0_3.index t (1 : Fin 2) = q := congrFun ht 1
  funext a
  refine Fin.ext ?_
  match a with
  | ⟨0, _⟩ => show win0_3.index t (0 : Fin 2) * 4096 + 1 * r.val = p * 4096 + r.val; rw [h0, Nat.one_mul]
  | ⟨1, _⟩ => show win0_3.index t (1 : Fin 2) * 256 + 1 * d.val = q * 256 + d.val; rw [h1, Nat.one_mul]

theorem read3 (f : (⟨S4096x2816, .bf16⟩ : BufTy).Contents (Elt Ideal)) (t : Fin grid0.N) (p q : ℕ)
    (ht : cc0_transform_3 (grid0.coords t) = ![p, q]) (r : Fin 4096) (d : Fin 256)
    (hr : p * 4096 + r.val < 4096) (hd : q * 256 + d.val < 2816) :
    ((cfg0.win 3).blk t).view.read (Elt Ideal) f (ix2 r d : S4096x256.Idx) =
      f (ix2 ⟨p * 4096 + r.val, hr⟩ ⟨q * 256 + d.val, hd⟩ : S4096x2816.Idx) := by
  show f (((cfg0.win 3).blk t).view.emb (ix2 r d : S4096x256.Idx)) = _
  rw [emb3 t p q ht r d hr hd]

/-- Window 4: entry (r, d) of block (p, q) is entry (p 4096 + r, q 256 + d) of the array. -/
theorem emb4 (t : Fin grid0.N) (p q : ℕ) (ht : cc0_transform_4 (grid0.coords t) = ![p, q])
    (r : Fin 4096) (d : Fin 256) (hr : p * 4096 + r.val < 4096) (hd : q * 256 + d.val < 2816) :
    ((cfg0.win 4).blk t).view.emb (ix2 r d : S4096x256.Idx) =
      (ix2 ⟨p * 4096 + r.val, hr⟩ ⟨q * 256 + d.val, hd⟩ : S4096x2816.Idx) := by
  have h0 : win0_4.index t (0 : Fin 2) = p := congrFun ht 0
  have h1 : win0_4.index t (1 : Fin 2) = q := congrFun ht 1
  funext a
  refine Fin.ext ?_
  match a with
  | ⟨0, _⟩ => show win0_4.index t (0 : Fin 2) * 4096 + 1 * r.val = p * 4096 + r.val; rw [h0, Nat.one_mul]
  | ⟨1, _⟩ => show win0_4.index t (1 : Fin 2) * 256 + 1 * d.val = q * 256 + d.val; rw [h1, Nat.one_mul]

theorem read4 (f : (⟨S4096x2816, .bf16⟩ : BufTy).Contents (Elt Ideal)) (t : Fin grid0.N) (p q : ℕ)
    (ht : cc0_transform_4 (grid0.coords t) = ![p, q]) (r : Fin 4096) (d : Fin 256)
    (hr : p * 4096 + r.val < 4096) (hd : q * 256 + d.val < 2816) :
    ((cfg0.win 4).blk t).view.read (Elt Ideal) f (ix2 r d : S4096x256.Idx) =
      f (ix2 ⟨p * 4096 + r.val, hr⟩ ⟨q * 256 + d.val, hd⟩ : S4096x2816.Idx) := by
  show f (((cfg0.win 4).blk t).view.emb (ix2 r d : S4096x256.Idx)) = _
  rw [emb4 t p q ht r d hr hd]

/-- Window 5: entry (r, d) of block (p, q) is entry (p 4096 + r, q 256 + d) of the array. -/
theorem emb5 (t : Fin grid0.N) (p q : ℕ) (ht : cc0_transform_5 (grid0.coords t) = ![p, q])
    (r : Fin 4096) (d : Fin 256) (hr : p * 4096 + r.val < 4096) (hd : q * 256 + d.val < 2816) :
    ((cfg0.win 5).blk t).view.emb (ix2 r d : S4096x256.Idx) =
      (ix2 ⟨p * 4096 + r.val, hr⟩ ⟨q * 256 + d.val, hd⟩ : S4096x2816.Idx) := by
  have h0 : win0_5.index t (0 : Fin 2) = p := congrFun ht 0
  have h1 : win0_5.index t (1 : Fin 2) = q := congrFun ht 1
  funext a
  refine Fin.ext ?_
  match a with
  | ⟨0, _⟩ => show win0_5.index t (0 : Fin 2) * 4096 + 1 * r.val = p * 4096 + r.val; rw [h0, Nat.one_mul]
  | ⟨1, _⟩ => show win0_5.index t (1 : Fin 2) * 256 + 1 * d.val = q * 256 + d.val; rw [h1, Nat.one_mul]

theorem read5 (f : (⟨S4096x2816, .bf16⟩ : BufTy).Contents (Elt Ideal)) (t : Fin grid0.N) (p q : ℕ)
    (ht : cc0_transform_5 (grid0.coords t) = ![p, q]) (r : Fin 4096) (d : Fin 256)
    (hr : p * 4096 + r.val < 4096) (hd : q * 256 + d.val < 2816) :
    ((cfg0.win 5).blk t).view.read (Elt Ideal) f (ix2 r d : S4096x256.Idx) =
      f (ix2 ⟨p * 4096 + r.val, hr⟩ ⟨q * 256 + d.val, hd⟩ : S4096x2816.Idx) := by
  show f (((cfg0.win 5).blk t).view.emb (ix2 r d : S4096x256.Idx)) = _
  rw [emb5 t p q ht r d hr hd]

/-- An array whose block (p, q) is the contents `x`, at that block's entries. -/
theorem at3 (f : (⟨S4096x2816, .bf16⟩ : BufTy).Contents (Elt Ideal)) (x : Vec Ideal S4096x256 .bf16) (t : Fin grid0.N)
    (p q : ℕ) (ht : cc0_transform_3 (grid0.coords t) = ![p, q])
    (e : ((cfg0.win 3).blk t).view.read (Elt Ideal) f = (cfg0.win 3).cut (grid0.coords t) x) (r : Fin 4096) (d : Fin 256)
    (hr : p * 4096 + r.val < 4096) (hd : q * 256 + d.val < 2816) :
    f (ix2 ⟨p * 4096 + r.val, hr⟩ ⟨q * 256 + d.val, hd⟩ : S4096x2816.Idx) = x (ix2 r d : S4096x256.Idx) := by
  rw [← emb3 t p q ht r d hr hd]
  exact congrFun e (ix2 r d : S4096x256.Idx)

/-- An array whose block (p, q) is the contents `x`, at that block's entries. -/
theorem at4 (f : (⟨S4096x2816, .bf16⟩ : BufTy).Contents (Elt Ideal)) (x : Vec Ideal S4096x256 .bf16) (t : Fin grid0.N)
    (p q : ℕ) (ht : cc0_transform_4 (grid0.coords t) = ![p, q])
    (e : ((cfg0.win 4).blk t).view.read (Elt Ideal) f = (cfg0.win 4).cut (grid0.coords t) x) (r : Fin 4096) (d : Fin 256)
    (hr : p * 4096 + r.val < 4096) (hd : q * 256 + d.val < 2816) :
    f (ix2 ⟨p * 4096 + r.val, hr⟩ ⟨q * 256 + d.val, hd⟩ : S4096x2816.Idx) = x (ix2 r d : S4096x256.Idx) := by
  rw [← emb4 t p q ht r d hr hd]
  exact congrFun e (ix2 r d : S4096x256.Idx)

/-- An array whose block (p, q) is the contents `x`, at that block's entries. -/
theorem at5 (f : (⟨S4096x2816, .bf16⟩ : BufTy).Contents (Elt Ideal)) (x : Vec Ideal S4096x256 .bf16) (t : Fin grid0.N)
    (p q : ℕ) (ht : cc0_transform_5 (grid0.coords t) = ![p, q])
    (e : ((cfg0.win 5).blk t).view.read (Elt Ideal) f = (cfg0.win 5).cut (grid0.coords t) x) (r : Fin 4096) (d : Fin 256)
    (hr : p * 4096 + r.val < 4096) (hd : q * 256 + d.val < 2816) :
    f (ix2 ⟨p * 4096 + r.val, hr⟩ ⟨q * 256 + d.val, hd⟩ : S4096x2816.Idx) = x (ix2 r d : S4096x256.Idx) := by
  rw [← emb5 t p q ht r d hr hd]
  exact congrFun e (ix2 r d : S4096x256.Idx)

theorem zeros : (![0, 0] : Fin 2 → ℕ) = fun _ => 0 := by funext a; fin_cases a <;> rfl

/-- A row of the first array times a row of the second. -/
def row (x : Vec Ideal S4096x1024 .bf16) (y : Vec Ideal S256x1024 .bf16) (r : Fin 4096) (d : Fin 256) : EReal :=
  ∑ k : Fin 1024, x (ix2 r k : S4096x1024.Idx) * y (ix2 d k : S256x1024.Idx)

theorem out3 (x0 : Vec Ideal S4096x1024 .bf16) (x1 x2 : Vec Ideal S256x1024 .bf16) (r : Fin 4096) (d : Fin 256) :
    out0_3 x0 x1 x2 (ix2 r d : S4096x256.Idx) = row x0 x1 r d := by
  unfold out0_3
  rw [View.canon_unit_zero zeros, View.ld_unit_zero zeros, View.ld_unit_zero zeros]
  unfold row
  pointwise [k0_pay3, k0_pay1]

theorem out4 (x0 : Vec Ideal S4096x1024 .bf16) (x1 x2 : Vec Ideal S256x1024 .bf16) (r : Fin 4096) (d : Fin 256) :
    out0_4 x0 x1 x2 (ix2 r d : S4096x256.Idx) = row x0 x2 r d := by
  unfold out0_4
  rw [View.canon_unit_zero zeros, View.ld_unit_zero zeros, View.ld_unit_zero zeros]
  unfold row
  pointwise [k0_pay4, k0_pay2]

theorem out5 (x0 : Vec Ideal S4096x1024 .bf16) (x1 x2 : Vec Ideal S256x1024 .bf16) (r : Fin 4096) (d : Fin 256) :
    out0_5 x0 x1 x2 (ix2 r d : S4096x256.Idx) = row x0 x1 r d * sgm (row x0 x1 r d) * row x0 x2 r d := by
  unfold out0_5
  rw [View.canon_unit_zero zeros, View.ld_unit_zero zeros, View.ld_unit_zero zeros, View.ld_unit_zero zeros, ← tanh_eq]
  unfold row
  pointwise [k0_pay5, k0_pay1, k0_pay2, half_word]

section

variable (m : (ℓ : Loc nD τ sig) → Buf (Elt Ideal) ℓ)

theorem blk0 (c : Dev nD) (t : Fin grid0.N) (p q : ℕ) (ht : cc0_transform_0 (grid0.coords t) = ![p, q])
    (r : Fin 4096) (d : Fin 1024) (hr : p * 4096 + r.val < 4096) (hd : q * 1024 + d.val < 1024) :
    iblk m c 0 t (ix2 r d : S4096x1024.Idx) =
      V m c main_arg0 (ix2 ⟨p * 4096 + r.val, hr⟩ ⟨q * 1024 + d.val, hd⟩ : S4096x1024.Idx) := by
  unfold iblk
  exact read0 _ t p q ht r d hr hd

theorem blk1 (c : Dev nD) (t : Fin grid0.N) (p q : ℕ) (ht : cc0_transform_1 (grid0.coords t) = ![p, q])
    (r : Fin 256) (d : Fin 1024) (hr : p * 256 + r.val < 5632) (hd : q * 1024 + d.val < 1024) :
    iblk m c 1 t (ix2 r d : S256x1024.Idx) =
      V m c main_arg1 (ix2 ⟨p * 256 + r.val, hr⟩ ⟨q * 1024 + d.val, hd⟩ : S5632x1024.Idx) := by
  unfold iblk
  exact read1 _ t p q ht r d hr hd

theorem blk2 (c : Dev nD) (t : Fin grid0.N) (p q : ℕ) (ht : cc0_transform_2 (grid0.coords t) = ![p, q])
    (r : Fin 256) (d : Fin 1024) (hr : p * 256 + r.val < 5632) (hd : q * 1024 + d.val < 1024) :
    iblk m c 2 t (ix2 r d : S256x1024.Idx) =
      V m c main_arg1 (ix2 ⟨p * 256 + r.val, hr⟩ ⟨q * 1024 + d.val, hd⟩ : S5632x1024.Idx) := by
  unfold iblk
  exact read2 _ t p q ht r d hr hd

/-- Row r of the input times row n of the weights. -/
def prod (x : (⟨S4096x1024, .bf16⟩ : BufTy).Contents (Elt Ideal)) (y : (⟨S5632x1024, .bf16⟩ : BufTy).Contents (Elt Ideal)) (r : Fin 4096) (n : Fin 5632) : EReal :=
  ∑ k : Fin 1024, x (ix2 r k : S4096x1024.Idx) * y (ix2 n k : S5632x1024.Idx)

/-- The gate's half. -/
def gate (x : (⟨S4096x1024, .bf16⟩ : BufTy).Contents (Elt Ideal)) (y : (⟨S5632x1024, .bf16⟩ : BufTy).Contents (Elt Ideal)) (r : Fin 4096) (n : Fin 2816) : EReal := prod x y r ⟨n.val, by omega⟩

/-- The other half. -/
def value (x : (⟨S4096x1024, .bf16⟩ : BufTy).Contents (Elt Ideal)) (y : (⟨S5632x1024, .bf16⟩ : BufTy).Contents (Elt Ideal)) (r : Fin 4096) (n : Fin 2816) : EReal := prod x y r ⟨2816 + n.val, by omega⟩

theorem row_gate (c : Dev nD) (t : Fin grid0.N) (j : Fin 11) (e0 : cc0_transform_0 (grid0.coords t) = ![0, 0])
    (e1 : cc0_transform_1 (grid0.coords t) = ![j.val, 0]) (i : Fin 1) (r : Fin 4096) (d : Fin 256) :
    row (iblk m c 0 t) (iblk m c 1 t) r d = gate (m ((c : Thread nD τ).loc main_arg0)) (m ((c : Thread nD τ).loc main_arg1))
      ⟨i.val * 4096 + r.val, by omega⟩ ⟨j.val * 256 + d.val, by omega⟩ := by
  have hi : i.val = 0 := by omega
  simp only [hi]
  unfold row gate prod
  refine Finset.sum_congr rfl fun k _ => ?_
  rw [blk0 m c t 0 0 e0 r k (by omega) (by omega), blk1 m c t j.val 0 e1 d k (by omega) (by omega)]
  simp only [Nat.zero_mul, Nat.zero_add]

theorem row_value (c : Dev nD) (t : Fin grid0.N) (j : Fin 11) (e0 : cc0_transform_0 (grid0.coords t) = ![0, 0])
    (e2 : cc0_transform_2 (grid0.coords t) = ![11 + j.val, 0]) (i : Fin 1) (r : Fin 4096) (d : Fin 256) :
    row (iblk m c 0 t) (iblk m c 2 t) r d = value (m ((c : Thread nD τ).loc main_arg0)) (m ((c : Thread nD τ).loc main_arg1))
      ⟨i.val * 4096 + r.val, by omega⟩ ⟨j.val * 256 + d.val, by omega⟩ := by
  have hi : i.val = 0 := by omega
  have hj : 2816 + (j.val * 256 + d.val) = (11 + j.val) * 256 + d.val := by omega
  simp only [hi, value, hj]
  unfold row prod
  refine Finset.sum_congr rfl fun k _ => ?_
  rw [blk0 m c t 0 0 e0 r k (by omega) (by omega), blk2 m c t (11 + j.val) 0 e2 d k (by omega) (by omega)]
  simp only [Nat.zero_mul, Nat.zero_add]

theorem final_g (c : Dev nD) (i : Fin 1) (j : Fin 11) (r : Fin 4096) (d : Fin 256) :
    (dats m 0 c).arrAt 3 cfg0.N (ix2 ⟨i.val * 4096 + r.val, by omega⟩ ⟨j.val * 256 + d.val, by omega⟩ : S4096x2816.Idx) =
      gate (m ((c : Thread nD τ).loc main_arg0)) (m ((c : Thread nD τ).loc main_arg1)) ⟨i.val * 4096 + r.val, by omega⟩ ⟨j.val * 256 + d.val, by omega⟩ := by
  obtain ⟨t, e0, e1, e2, e3, e4, e5⟩ := point_of j
  have hi : i.val = 0 := by omega
  refine Eq.trans ?_ ((at3 _ _ t 0 j.val e3 ((Cert.Kernel7Ideal.Value.blocks3 m c t (flush0_3 t)).trans
    (Cert.Kernel7Ideal.Value.flushed3 m c t)) r d (by omega) (by omega)).trans ?_)
  · simp only [hi]
  · rw [out3, row_gate m c t j e0 e1 i r d]

theorem final_u (c : Dev nD) (i : Fin 1) (j : Fin 11) (r : Fin 4096) (d : Fin 256) :
    (dats m 0 c).arrAt 4 cfg0.N (ix2 ⟨i.val * 4096 + r.val, by omega⟩ ⟨j.val * 256 + d.val, by omega⟩ : S4096x2816.Idx) =
      value (m ((c : Thread nD τ).loc main_arg0)) (m ((c : Thread nD τ).loc main_arg1)) ⟨i.val * 4096 + r.val, by omega⟩ ⟨j.val * 256 + d.val, by omega⟩ := by
  obtain ⟨t, e0, e1, e2, e3, e4, e5⟩ := point_of j
  have hi : i.val = 0 := by omega
  refine Eq.trans ?_ ((at4 _ _ t 0 j.val e4 ((Cert.Kernel7Ideal.Value.blocks4 m c t (flush0_4 t)).trans
    (Cert.Kernel7Ideal.Value.flushed4 m c t)) r d (by omega) (by omega)).trans ?_)
  · simp only [hi]
  · rw [out4, row_value m c t j e0 e2 i r d]

theorem final_a (c : Dev nD) (i : Fin 1) (j : Fin 11) (r : Fin 4096) (d : Fin 256) :
    (dats m 0 c).arrAt 5 cfg0.N (ix2 ⟨i.val * 4096 + r.val, by omega⟩ ⟨j.val * 256 + d.val, by omega⟩ : S4096x2816.Idx) =
      gate (m ((c : Thread nD τ).loc main_arg0)) (m ((c : Thread nD τ).loc main_arg1)) ⟨i.val * 4096 + r.val, by omega⟩ ⟨j.val * 256 + d.val, by omega⟩ * sgm (gate (m ((c : Thread nD τ).loc main_arg0)) (m ((c : Thread nD τ).loc main_arg1)) ⟨i.val * 4096 + r.val, by omega⟩ ⟨j.val * 256 + d.val, by omega⟩) * value (m ((c : Thread nD τ).loc main_arg0)) (m ((c : Thread nD τ).loc main_arg1)) ⟨i.val * 4096 + r.val, by omega⟩ ⟨j.val * 256 + d.val, by omega⟩ := by
  obtain ⟨t, e0, e1, e2, e3, e4, e5⟩ := point_of j
  have hi : i.val = 0 := by omega
  refine Eq.trans ?_ ((at5 _ _ t 0 j.val e5 ((Cert.Kernel7Ideal.Value.blocks5 m c t (flush0_5 t)).trans
    (Cert.Kernel7Ideal.Value.flushed5 m c t)) r d (by omega) (by omega)).trans ?_)
  · simp only [hi]
  · rw [out5, row_gate m c t j e0 e1 i r d, row_value m c t j e0 e2 i r d]

end

theorem ref_g (x : (⟨S4096x1024, .bf16⟩ : BufTy).Contents (Elt Ideal)) (y : (⟨S5632x1024, .bf16⟩ : BufTy).Contents (Elt Ideal)) (r : Fin 4096) (n : Fin 2816) :
    Cert.Reference7Ideal.Read.val_main_v6 (F := Ideal) x y (ix2 r n : S4096x2816.Idx) = gate x y r n := by
  unfold gate prod
  pointwise [Cert.Reference7Ideal.Read.val_main_v6, Cert.Reference7Ideal.Read.val_main_v4, Cert.Reference7Ideal.Read.val_main_v5, Cert.Reference7Ideal.Read.val_main_v3, Cert.Reference7Ideal.Read.val_main_v2, Cert.Reference7Ideal.Read.val_main_v1, Cert.Reference7Ideal.Read.val_main_v0]

theorem ref_u (x : (⟨S4096x1024, .bf16⟩ : BufTy).Contents (Elt Ideal)) (y : (⟨S5632x1024, .bf16⟩ : BufTy).Contents (Elt Ideal)) (r : Fin 4096) (n : Fin 2816) :
    Cert.Reference7Ideal.Read.val_main_v7 (F := Ideal) x y (ix2 r n : S4096x2816.Idx) = value x y r n := by
  unfold value prod
  pointwise [Cert.Reference7Ideal.Read.val_main_v7, Cert.Reference7Ideal.Read.val_main_v4, Cert.Reference7Ideal.Read.val_main_v5, Cert.Reference7Ideal.Read.val_main_v3, Cert.Reference7Ideal.Read.val_main_v2, Cert.Reference7Ideal.Read.val_main_v1, Cert.Reference7Ideal.Read.val_main_v0]

theorem ref_a (x : (⟨S4096x1024, .bf16⟩ : BufTy).Contents (Elt Ideal)) (y : (⟨S5632x1024, .bf16⟩ : BufTy).Contents (Elt Ideal)) (r : Fin 4096) (n : Fin 2816) :
    Cert.Reference7Ideal.Read.val_main_v10 (F := Ideal) x y (ix2 r n : S4096x2816.Idx) = gate x y r n * sgm (gate x y r n) * value x y r n := by
  unfold sgm gate value prod
  pointwise [Cert.Reference7Ideal.Read.val_main_v10, Cert.Reference7Ideal.Read.val_main_v9, Cert.Reference7Ideal.Read.val_main_v8, Cert.Reference7Ideal.Read.val_main_call0_v5, Cert.Reference7Ideal.Read.val_main_call0_v4, Cert.Reference7Ideal.Read.val_main_call0_v3, Cert.Reference7Ideal.Read.val_main_call0_v2, Cert.Reference7Ideal.Read.val_main_call0_v1, Cert.Reference7Ideal.Read.val_main_call0_v0, Cert.Reference7Ideal.Read.val_main_call0_cst, Cert.Reference7Ideal.Read.val_main_call0_cst_0, Cert.Reference7Ideal.Read.val_main_v4, Cert.Reference7Ideal.Read.val_main_v5, Cert.Reference7Ideal.Read.val_main_v3, Cert.Reference7Ideal.Read.val_main_v2, Cert.Reference7Ideal.Read.val_main_v1, Cert.Reference7Ideal.Read.val_main_v0]

theorem equal_g (m : (ℓ : Loc nD τ sig) → Buf (Elt Ideal) ℓ) (c : Dev nD) :
    (dats m 0 c).arrAt 3 cfg0.N = Cert.Reference7Ideal.Read.val_main_v6 (F := Ideal) (m ((c : Thread nD τ).loc main_arg0)) (m ((c : Thread nD τ).loc main_arg1)) := by
  funext y
  obtain ⟨i, j, r, d, rfl⟩ := split_index y
  exact (final_g m c i j r d).trans (ref_g _ _ _ _).symm

theorem equal_u (m : (ℓ : Loc nD τ sig) → Buf (Elt Ideal) ℓ) (c : Dev nD) :
    (dats m 0 c).arrAt 4 cfg0.N = Cert.Reference7Ideal.Read.val_main_v7 (F := Ideal) (m ((c : Thread nD τ).loc main_arg0)) (m ((c : Thread nD τ).loc main_arg1)) := by
  funext y
  obtain ⟨i, j, r, d, rfl⟩ := split_index y
  exact (final_u m c i j r d).trans (ref_u _ _ _ _).symm

theorem equal_a (m : (ℓ : Loc nD τ sig) → Buf (Elt Ideal) ℓ) (c : Dev nD) :
    (dats m 0 c).arrAt 5 cfg0.N = Cert.Reference7Ideal.Read.val_main_v10 (F := Ideal) (m ((c : Thread nD τ).loc main_arg0)) (m ((c : Thread nD τ).loc main_arg1)) := by
  funext y
  obtain ⟨i, j, r, d, rfl⟩ := split_index y
  exact (final_a m c i j r d).trans (ref_a _ _ _ _).symm

end Cert.Proof.InAct

end
-- ==== Proof.Finite.lean ====
/- An array whose entries are all of finite magnitude holds real numbers. -/
module

public import proofs.«01_k».proof.Proof.Values

@[expose] public section

noncomputable section

namespace Cert.Proof

open Idealize.ShloMosaic Pointwise

theorem real_of_lt_top (x : EReal) (h : max x (-x) < (⊤ : EReal)) : ∃ r : ℝ, x = (r : EReal) := by
  refine ⟨x.toReal, (EReal.coe_toReal (fun ht => ?_) (fun hb => ?_)).symm⟩
  · rw [ht] at h; simp at h
  · rw [hb] at h; simp at h

/-- The preconditions' test, of an array in the short format. -/
theorem real_of_test {S : Shape} (x : FVec Ideal S .bf16) (hb : FTy.bits .bf16 < FTy.bits .f32)
    (hs : (⟨0, ![]⟩ : Shape).BroadcastsInDim S (![] : Fin 0 → Fin S.rank))
    (h : cmpf .olt (Host.absf (extf .f32 x hb)) (broadcastInDim S ![] hs (constant (F := Ideal) ⟨0, ![]⟩ .f32 0x7F800000#32)) =
      fun _ => 1#1) (i : S.Idx) : ∃ r : ℝ, x i = (r : EReal) := by
  have e := congrFun h i
  pointwise [Attn.inf_word] at e
  exact real_of_lt_top _ (Attn.of_flag _ e)

/-- The preconditions' test, of an array in the long format. -/
theorem real_of_test' {S : Shape} (x : FVec Ideal S .f32)
    (hs : (⟨0, ![]⟩ : Shape).BroadcastsInDim S (![] : Fin 0 → Fin S.rank))
    (h : cmpf .olt (Host.absf x) (broadcastInDim S ![] hs (constant (F := Ideal) ⟨0, ![]⟩ .f32 0x7F800000#32)) =
      fun _ => 1#1) (i : S.Idx) : ∃ r : ℝ, x i = (r : EReal) := by
  have e := congrFun h i
  pointwise [Attn.inf_word] at e
  exact real_of_lt_top _ (Attn.of_flag _ e)

end Cert.Proof

end
-- ==== Proof.Norm.lean ====
/- The numbers of the root-mean-square norm, as the two programs write them. -/
module

public import Idealize.ShloMosaic.Lib.Pointwise

@[expose] public section

noncomputable section

namespace Cert.Proof.Norm

open Idealize.ShloMosaic

/-- The small number under the root is a positive real. -/
theorem eps_word : ∃ ε : ℝ, 0 < ε ∧ Ideal.ofBits FTy.f32 897988541#32 = (ε : EReal) := by
  refine ⟨8796093 * (2 ^ 43)⁻¹, by positivity, ?_⟩
  simp [Ideal.ofBits, Ideal.ieee]

/-- 1024. -/
theorem width_word : Ideal.ofBits FTy.f32 1149239296#32 = ((1024 : ℝ) : EReal) := by
  simp [Ideal.ofBits, Ideal.ieee]
  rw [← EReal.coe_mul]
  congr 1
  norm_num

/-- 1 / 1024. -/
theorem inv_word : Ideal.ofBits FTy.f32 981467136#32 = (((1024 : ℝ)⁻¹ : ℝ) : EReal) := by
  simp [Ideal.ofBits, Ideal.ieee]
  rw [← EReal.coe_mul]
  congr 1
  norm_num

/-- The mean of 1024 numbers, their sum times 1 / 1024 or divided by 1024. -/
theorem mean_eq (x : EReal) :
    x * Ideal.ofBits FTy.f32 981467136#32 = Ideal.div x (Ideal.ofBits FTy.f32 1149239296#32) := by
  rw [inv_word, width_word, Ideal.div_coe (by norm_num), one_div]

end Cert.Proof.Norm

end
-- ==== Proof.NormGrad.lean ====
/- The gradients of the norm of a row of 1024 numbers and of its modulation, and sums over rows. -/
module

public import Idealize.ShloMosaic.Lib.Pointwise
public import proofs.«01_k».proof.Proof.Norm
public import proofs.«01_k».proof.Proof.Math

@[expose] public section

set_option maxRecDepth 16384

noncomputable section

namespace Cert.Proof.NormGrad

open Idealize.ShloMosaic Idealize.ShloMosaic.TcCoe  Pointwise

/-- The reciprocal of the root of the mean square of a row. -/
def rs (x : Fin 1024 → EReal) : EReal :=
  Ideal.rsqrt ((∑ k, x k * x k) * Ideal.ofBits FTy.f32 981467136#32 + Ideal.ofBits FTy.f32 897988541#32)

/-- The gradient of a row, next to the gradient `r` that comes past the block; `h` is the gradient of the modulated norm. -/
def dx (r : EReal) (h x s g : Fin 1024 → EReal) (d : Fin 1024) : EReal :=
  r + rs x * (h d * (1 + s d) * g d -
    x d * rs x * ((∑ k, h k * (1 + s k) * g k * (x k * rs x)) * Ideal.ofBits FTy.f32 981467136#32))

/-- What a row adds to the gradient of the scale. -/
def ds (h x g : Fin 1024 → EReal) (d : Fin 1024) : EReal := h d * (x d * rs x * g d)

/-- What a row adds to the gradient of the norm's weight. -/
def dg (h x s : Fin 1024 → EReal) (d : Fin 1024) : EReal := h d * (1 + s d) * (x d * rs x)

theorem rs_eq (x : Fin 1024 → EReal) :
    Ideal.rsqrt (Ideal.div (∑ k, x k * x k) (Ideal.ofBits FTy.f32 1149239296#32) + Ideal.ofBits FTy.f32 897988541#32) = rs x := by
  unfold rs
  rw [Norm.mean_eq]

/-- −1/2. -/
theorem half_word : Ideal.ofBits FTy.f32 3204448256#32 = ((-(1 / 2) : ℝ) : EReal) := by
  simp [Ideal.ofBits, Ideal.ieee]
  rw [← EReal.coe_mul]
  congr 1
  norm_num

/-- The derivative of the reciprocal root, kept apart and passed on through the mean of the squares twice, or in one formula. -/
theorem dx_eq (r : EReal) (h x s g : Fin 1024 → EReal) (d : Fin 1024) (hh : ∀ k, ∃ y : ℝ, h k = (y : EReal))
    (hx : ∀ k, ∃ y : ℝ, x k = (y : EReal)) (hs : ∀ k, ∃ y : ℝ, s k = (y : EReal)) (hg : ∀ k, ∃ y : ℝ, g k = (y : EReal))
    (q : EReal) (hq : q = Ideal.div ((∑ k, x k * (h k * (1 + s k) * g k)) * (Ideal.ofBits FTy.f32 3204448256#32 *
        Ideal.div (rs x) (Ideal.div (∑ k, x k * x k) (Ideal.ofBits FTy.f32 1149239296#32) + Ideal.ofBits FTy.f32 897988541#32)))
      (Ideal.ofBits FTy.f32 1149239296#32)) :
    r + (h d * (1 + s d) * g d * rs x + x d * q + q * x d) = dx r h x s g d := by
  subst hq
  choose H eh using hh
  choose X ex using hx
  choose S es using hs
  choose G eg using hg
  obtain ⟨ε, hε, eε⟩ := Norm.eps_word
  have e1 : (1 : EReal) = ((1 : ℝ) : EReal) := rfl
  have hs2 : ∑ k, x k * x k = ((∑ k, X k * X k : ℝ) : EReal) := by
    rw [← Attn.coe_sum' Finset.univ]
    exact Finset.sum_congr rfl fun k _ => by rw [ex k, EReal.coe_mul]
  have hY : 0 < (∑ k, X k * X k) * (1024 : ℝ)⁻¹ + ε :=
    add_pos_of_nonneg_of_pos (mul_nonneg (Finset.sum_nonneg fun k _ => mul_self_nonneg _) (by norm_num)) hε
  have hR : rs x = (((√((∑ k, X k * X k) * (1024 : ℝ)⁻¹ + ε))⁻¹ : ℝ) : EReal) := by
    unfold rs
    rw [hs2, eε, Norm.inv_word, ← EReal.coe_mul, ← EReal.coe_add, Ideal.rsqrt_coe, if_neg (not_lt.2 hY.le), if_neg hY.ne']
  have hD : Ideal.div (∑ k, x k * x k) (Ideal.ofBits FTy.f32 1149239296#32) + Ideal.ofBits FTy.f32 897988541#32 =
      (((∑ k, X k * X k) * (1024 : ℝ)⁻¹ + ε : ℝ) : EReal) := by
    rw [← Norm.mean_eq, hs2, eε, Norm.inv_word, ← EReal.coe_mul, ← EReal.coe_add]
  unfold dx
  rw [hD, hR]
  generalize (∑ k, X k * X k) * (1024 : ℝ)⁻¹ + ε = Y at hY
  have hRR : (√Y)⁻¹ * (√Y)⁻¹ = Y⁻¹ := by rw [← mul_inv, Real.mul_self_sqrt hY.le]
  generalize (√Y)⁻¹ = R at hRR
  have t1 : ∑ k, x k * (h k * (1 + s k) * g k) = ((∑ k, X k * (H k * (1 + S k) * G k) : ℝ) : EReal) := by
    rw [← Attn.coe_sum' Finset.univ]
    exact Finset.sum_congr rfl fun k _ => by
      rw [ex k, eh k, es k, eg k, e1, ← EReal.coe_add, ← EReal.coe_mul, ← EReal.coe_mul, ← EReal.coe_mul]
  have t2 : ∑ k, h k * (1 + s k) * g k * (x k * (R : EReal)) = ((R * ∑ k, X k * (H k * (1 + S k) * G k) : ℝ) : EReal) := by
    rw [Finset.mul_sum, ← Attn.coe_sum' Finset.univ]
    exact Finset.sum_congr rfl fun k _ => by
      rw [ex k, eh k, es k, eg k, e1, ← EReal.coe_add, ← EReal.coe_mul, ← EReal.coe_mul, ← EReal.coe_mul, ← EReal.coe_mul]
      congr 1
      ring
  rw [t1, t2]
  generalize (∑ k, X k * (H k * (1 + S k) * G k)) = T
  rw [eh d, ex d, es d, eg d, e1, half_word, Norm.width_word, Norm.inv_word, Ideal.div_coe hY.ne', Ideal.div_coe (by norm_num)]
  simp only [← EReal.coe_add, ← EReal.coe_mul, ← EReal.coe_sub]
  congr 2
  have : R * (1 / Y) = R * R * R := by rw [hRR]; ring
  have e2 : T * (-(1 / 2) * (R * (1 / Y))) * (1 / 1024) = -(1 / 2048) * (T * (R * R * R)) := by rw [this]; ring
  rw [e2]
  ring

/-- A load of a whole buffer reads what the buffer holds. -/
theorem load_whole {sig : RefSig} {S : Shape} {e : EltTy} {b : Memref sig .tc .vmem S e} (hb : b.IsWhole) (x : Vec Ideal S e)
    {off : Fin S.rank → ℕ} (h : off = fun _ => 0) (inb : ∀ a, off a + S.size a ≤ S.size a) :
    View.readAt (Elt Ideal) b.view (Rect.unit off S.size inb).toLoadRect (hb.unread x) = x := by
  show View.ld (View.read (Elt Ideal) b.view (hb.unread x)) (Rect.unit off S.size inb) = x
  rw [hb.read_unread]
  exact View.ld_unit_zero h inb x

theorem zeros : (![0, 0] : Fin 2 → ℕ) = fun _ => 0 := by funext a; fin_cases a <;> rfl

theorem zeros3 : (![0, 0, 0] : Fin 3 → ℕ) = fun _ => 0 := by funext a; fin_cases a <;> rfl

/-- A sum over a · b numbers, in a parts of b. -/
theorem sum_split (a b : ℕ) (f : Fin (a * b) → EReal) :
    ∑ k, f k = ∑ i : Fin a, ∑ j : Fin b, f ⟨i.val * b + j.val, by
      have := Nat.mul_le_mul_right b (Nat.succ_le_of_lt i.isLt); rw [Nat.succ_mul] at this; have := j.isLt; omega⟩ := by
  rw [← finProdFinEquiv.sum_comp, Fintype.sum_prod_type]
  refine Finset.sum_congr rfl fun i _ => Finset.sum_congr rfl fun j _ => congrArg f (Fin.ext ?_)
  show j.val + b * i.val = i.val * b + j.val
  rw [Nat.mul_comm, Nat.add_comm]

/-- The sum over 512 of 4096 rows. -/
def part (f : Fin 4096 → EReal) (n : Fin 8) : EReal := ∑ r : Fin 512, f ⟨n.val * 512 + r.val, by omega⟩

/-- The sum over the 2048 rows of a sequence, 512 at a time. -/
theorem sum_sequence (f : Fin 4096 → EReal) (b : Fin 2) :
    ∑ k : Fin 2048, f ⟨b.val * 2048 + k.val, by omega⟩ =
      part f ⟨4 * b.val, by omega⟩ + part f ⟨4 * b.val + 1, by omega⟩ + part f ⟨4 * b.val + 2, by omega⟩ +
        part f ⟨4 * b.val + 3, by omega⟩ := by
  refine (sum_split 4 512 fun k => f ⟨b.val * 2048 + k.val, by omega⟩).trans ?_
  rw [Fin.sum_univ_four]
  unfold part
  congr 1
  · congr 1
    · congr 1
      · exact Finset.sum_congr rfl fun r _ => congrArg f (Fin.ext (by
          show b.val * 2048 + (0 * 512 + r.val) = 4 * b.val * 512 + r.val; omega))
      · exact Finset.sum_congr rfl fun r _ => congrArg f (Fin.ext (by
          show b.val * 2048 + (1 * 512 + r.val) = (4 * b.val + 1) * 512 + r.val; omega))
    · exact Finset.sum_congr rfl fun r _ => congrArg f (Fin.ext (by
        show b.val * 2048 + (2 * 512 + r.val) = (4 * b.val + 2) * 512 + r.val; omega))
  · exact Finset.sum_congr rfl fun r _ => congrArg f (Fin.ext (by
      show b.val * 2048 + (3 * 512 + r.val) = (4 * b.val + 3) * 512 + r.val; omega))

/-- The sum over the rows of both sequences. -/
theorem sum_rows (f : Fin 4096 → EReal) :
    ∑ p : Fin 2 × Fin 2048, f ⟨p.1.val * 2048 + p.2.val, by omega⟩ =
      part f 0 + part f 1 + part f 2 + part f 3 + part f 4 + part f 5 + part f 6 + part f 7 := by
  rw [Fintype.sum_prod_type, Fin.sum_univ_two, sum_sequence f 0, sum_sequence f 1]
  simp only [← add_assoc]
  rfl

theorem real_add {a b : EReal} (ha : ∃ x : ℝ, a = (x : EReal)) (hb : ∃ x : ℝ, b = (x : EReal)) : ∃ x : ℝ, a + b = (x : EReal) := by
  obtain ⟨x, rfl⟩ := ha
  obtain ⟨y, rfl⟩ := hb
  exact ⟨x + y, (EReal.coe_add x y).symm⟩

theorem real_mul {a b : EReal} (ha : ∃ x : ℝ, a = (x : EReal)) (hb : ∃ x : ℝ, b = (x : EReal)) : ∃ x : ℝ, a * b = (x : EReal) := by
  obtain ⟨x, rfl⟩ := ha
  obtain ⟨y, rfl⟩ := hb
  exact ⟨x * y, (EReal.coe_mul x y).symm⟩

theorem two_axes {a b : ℕ} (y : (⟨2, ![a, b]⟩ : Shape).Idx) : ∃ (n : Fin a) (d : Fin b), y = ix2 n d := by
  refine ⟨y 0, y 1, ?_⟩
  funext i
  match i with
  | ⟨0, _⟩ => rfl
  | ⟨1, _⟩ => rfl

theorem three_axes {a b : ℕ} (y : (⟨3, ![a, 1, b]⟩ : Shape).Idx) : ∃ (n : Fin a) (d : Fin b), y = ix3 n 0 d := by
  refine ⟨y 0, y 2, ?_⟩
  funext i
  match i with
  | ⟨0, _⟩ => rfl
  | ⟨1, _⟩ => exact Fin.ext (by have := (y 1).isLt; have e : (y 1).val < 1 := this; show (y 1).val = 0; omega)
  | ⟨2, _⟩ => rfl

/-- Eight values, each the one before and one part more. -/
theorem chain (o : (n : ℕ) → n < 8 → EReal) (p : Fin 8 → EReal) (h0 : o 0 (by omega) = p 0)
    (h : ∀ (n : ℕ) (hn : n + 1 < 8), o (n + 1) hn = o n (by omega) + p ⟨n + 1, hn⟩) :
    o 7 (by omega) = p 0 + p 1 + p 2 + p 3 + p 4 + p 5 + p 6 + p 7 := by
  have e1 : o 1 _ = _ := h 0 (by omega)
  have e2 : o 2 _ = _ := h 1 (by omega)
  have e3 : o 3 _ = _ := h 2 (by omega)
  have e4 : o 4 _ = _ := h 3 (by omega)
  have e5 : o 5 _ = _ := h 4 (by omega)
  have e6 : o 6 _ = _ := h 5 (by omega)
  have e7 : o 7 _ = _ := h 6 (by omega)
  rw [e7, e6, e5, e4, e3, e2, e1, h0]
  rfl

/-- A sum over the first two axes of an array of three. -/
theorem reduce_two {n0 n1 n2 : ℕ} (h : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd h v init (ix1 d : (⟨1, ![n2]⟩ : Shape).Idx) = init + ∑ p : Fin n0 × Fin n1, v (ix3 p.1 p.2 d) := by
  refine congrArg (init + ·) (Finset.sum_filter_eq_sum_of_fiber _ (fun p : Fin n0 × Fin n1 => ix3 p.1 p.2 d) ?_ ?_ v)
  · intro p p' e
    exact Prod.ext (congrFun e 0) (congrFun e 1)
  · intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl

end Cert.Proof.NormGrad

end
-- ==== Proof.BwdNorm.lean ====
/- The gradients of a norm and its modulation: what the kernel leaves in its results. -/
module

public import Idealize.ShloMosaic.Lib.Pointwise
public import Idealize.ShloMosaic.Lib.StableHlo.RunRead
public import proofs.«01_k».proof.Proof.Gen.Kernel8Ideal.Value
public import proofs.«01_k».proof.Proof.Gen.Reference8Ideal.Read
public import proofs.«01_k».proof.Proof.NormGrad

@[expose] public section

set_option maxRecDepth 16384

noncomputable section

namespace Cert.Proof.BwdNorm

open Idealize.ShloMosaic Idealize.ShloMosaic.TcCoe Cert.Kernel8Ideal Cert.Kernel8Ideal.Gen Pointwise

/-! ### What a grid step leaves in each output -/

/-- The gradient of the modulated norm, row by row. -/
def hB (y5632 : Vec Ideal S512x5632 .bf16) (w5632 : Vec Ideal S5632x1024 .bf16) (r : Fin 512) : Fin 1024 → EReal :=
  fun d => ∑ k : Fin 5632, y5632 (ix2 r k : S512x5632.Idx) * w5632 (ix2 k d : S5632x1024.Idx)

def rowB (x : Vec Ideal S512x1024 .f32) (r : Fin 512) : Fin 1024 → EReal := fun d => x (ix2 r d : S512x1024.Idx)

def batB (x : Vec Ideal S1x1x1024 .f32) : Fin 1024 → EReal := fun d => x (ix3 0 0 d : S1x1x1024.Idx)

def vecB (x : Vec Ideal S1x1024 .f32) : Fin 1024 → EReal := fun d => x (ix2 0 d : S1x1024.Idx)

section

variable (c : Dev nD) (i : grid0.Coords) (arg2 : Memref sig .tc .vmem S512x5632 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S5632x1024 .bf16) (harg7 : arg7.IsWhole) (arg8 : Memref sig .tc .vmem S512x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024 .f32) (harg11 : arg11.IsWhole) (x0 : Vec Ideal S512x5632 .bf16) (x1 : Vec Ideal S512x1024 .f32) (x2 : Vec Ideal S512x1024 .f32) (x3 : Vec Ideal S1x1x1024 .f32) (x4 : Vec Ideal S1x1024 .f32) (x5 : Vec Ideal S5632x1024 .bf16)

section

variable (hc0 : cond0_0 i) (hc1 : ¬cond0_1 i) (hc2 : cond0_2 i) (hc3 : ¬cond0_3 i) (hc4 : cond0_4 i) (hc5 : ¬cond0_5 i)

theorem outA_dx (r : Fin 512) (d : Fin 1024) :
    out0_A_6 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 (ix2 r d : S512x1024.Idx) = NormGrad.dx (x2 (ix2 r d : S512x1024.Idx)) (hB x0 x5 r) (rowB x1 r) (batB x3) (vecB x4) d := by
  unfold out0_A_6
  refine (congrFun (View.read_writes_eq_canon _ _ _ (cover0_A_6 _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _, NormGrad.load_whole harg7 x5 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outA_sh (d : Fin 1024) :
    out0_A_7 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 (ix3 0 0 d : S1x1x1024.Idx) = ∑ r : Fin 512, (hB x0 x5 r) d := by
  unfold out0_A_7
  refine (congrFun (View.read_writes_eq_canon _ _ _ (cover0_A_7 _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg7 x5 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outA_sc (d : Fin 1024) :
    out0_A_8 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 (ix3 0 0 d : S1x1x1024.Idx) = ∑ r : Fin 512, NormGrad.ds (hB x0 x5 r) (rowB x1 r) (vecB x4) d := by
  unfold out0_A_8
  refine (congrFun (View.read_writes_eq_canon _ _ _ (cover0_A_8 _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg3 x1 NormGrad.zeros _, NormGrad.load_whole harg6 x4 NormGrad.zeros _, NormGrad.load_whole harg7 x5 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outA_g (d : Fin 1024) :
    out0_A_9 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 (ix2 0 d : S1x1024.Idx) = ∑ r : Fin 512, NormGrad.dg (hB x0 x5 r) (rowB x1 r) (batB x3) d := by
  unfold out0_A_9
  refine (congrFun (View.read_writes_eq_canon _ _ _ (cover0_A_9 _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg5 x3 NormGrad.zeros3 _, NormGrad.load_whole harg7 x5 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

end

section

variable (hc0 : ¬cond0_0 i) (hc1 : cond0_1 i) (hc2 : ¬cond0_2 i) (hc3 : cond0_3 i) (hc4 : ¬cond0_4 i) (hc5 : cond0_5 i) (xo7 : Vec Ideal S1x1x1024 .f32) (xo8 : Vec Ideal S1x1x1024 .f32) (xo9 : Vec Ideal S1x1024 .f32)

theorem outB_dx (r : Fin 512) (d : Fin 1024) :
    out0_B_6 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9 (ix2 r d : S512x1024.Idx) = NormGrad.dx (x2 (ix2 r d : S512x1024.Idx)) (hB x0 x5 r) (rowB x1 r) (batB x3) (vecB x4) d := by
  unfold out0_B_6
  refine (congrFun (View.read_writes_eq_canon _ _ _ (cover0_B_6 _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _, NormGrad.load_whole harg7 x5 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outB_sh (d : Fin 1024) :
    out0_B_7 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9 (ix3 0 0 d : S1x1x1024.Idx) = xo7 (ix3 0 0 d : S1x1x1024.Idx) + ∑ r : Fin 512, (hB x0 x5 r) d := by
  unfold out0_B_7
  refine (congrFun (View.read_writes_eq_canon _ _ _ (cover0_B_7 _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg7 x5 NormGrad.zeros _, NormGrad.load_whole harg9 xo7 NormGrad.zeros3 _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outB_sc (d : Fin 1024) :
    out0_B_8 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9 (ix3 0 0 d : S1x1x1024.Idx) = xo8 (ix3 0 0 d : S1x1x1024.Idx) + ∑ r : Fin 512, NormGrad.ds (hB x0 x5 r) (rowB x1 r) (vecB x4) d := by
  unfold out0_B_8
  refine (congrFun (View.read_writes_eq_canon _ _ _ (cover0_B_8 _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg3 x1 NormGrad.zeros _, NormGrad.load_whole harg6 x4 NormGrad.zeros _, NormGrad.load_whole harg7 x5 NormGrad.zeros _, NormGrad.load_whole harg10 xo8 NormGrad.zeros3 _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outB_g (d : Fin 1024) :
    out0_B_9 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo7 xo8 xo9 (ix2 0 d : S1x1024.Idx) = xo9 (ix2 0 d : S1x1024.Idx) + ∑ r : Fin 512, NormGrad.dg (hB x0 x5 r) (rowB x1 r) (batB x3) d := by
  unfold out0_B_9
  refine (congrFun (View.read_writes_eq_canon _ _ _ (cover0_B_9 _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg5 x3 NormGrad.zeros3 _, NormGrad.load_whole harg7 x5 NormGrad.zeros _, NormGrad.load_whole harg11 xo9 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

end

section

variable (hc0 : cond0_0 i) (hc1 : ¬cond0_1 i) (hc2 : cond0_2 i) (hc3 : ¬cond0_3 i) (hc4 : ¬cond0_4 i) (hc5 : cond0_5 i) (xo9 : Vec Ideal S1x1024 .f32)

theorem outC_dx (r : Fin 512) (d : Fin 1024) :
    out0_C_6 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo9 (ix2 r d : S512x1024.Idx) = NormGrad.dx (x2 (ix2 r d : S512x1024.Idx)) (hB x0 x5 r) (rowB x1 r) (batB x3) (vecB x4) d := by
  unfold out0_C_6
  refine (congrFun (View.read_writes_eq_canon _ _ _ (cover0_C_6 _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _, NormGrad.load_whole harg7 x5 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outC_sh (d : Fin 1024) :
    out0_C_7 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo9 (ix3 0 0 d : S1x1x1024.Idx) = ∑ r : Fin 512, (hB x0 x5 r) d := by
  unfold out0_C_7
  refine (congrFun (View.read_writes_eq_canon _ _ _ (cover0_C_7 _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg7 x5 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outC_sc (d : Fin 1024) :
    out0_C_8 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo9 (ix3 0 0 d : S1x1x1024.Idx) = ∑ r : Fin 512, NormGrad.ds (hB x0 x5 r) (rowB x1 r) (vecB x4) d := by
  unfold out0_C_8
  refine (congrFun (View.read_writes_eq_canon _ _ _ (cover0_C_8 _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg3 x1 NormGrad.zeros _, NormGrad.load_whole harg6 x4 NormGrad.zeros _, NormGrad.load_whole harg7 x5 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

theorem outC_g (d : Fin 1024) :
    out0_C_9 (F := Ideal) c i arg2 harg2 arg3 harg3 arg4 harg4 arg5 harg5 arg6 harg6 arg7 harg7 arg8 harg8 arg9 harg9 arg10 harg10 arg11 harg11 hc0 hc1 hc2 hc3 hc4 hc5 x0 x1 x2 x3 x4 x5 xo9 (ix2 0 d : S1x1024.Idx) = xo9 (ix2 0 d : S1x1024.Idx) + ∑ r : Fin 512, NormGrad.dg (hB x0 x5 r) (rowB x1 r) (batB x3) d := by
  unfold out0_C_9
  refine (congrFun (View.read_writes_eq_canon _ _ _ (cover0_C_9 _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg5 x3 NormGrad.zeros3 _, NormGrad.load_whole harg7 x5 NormGrad.zeros _, NormGrad.load_whole harg11 xo9 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15]

end

end

/-! ### The places of the blocks -/

theorem lt8 (t : Fin grid0.N) : t.val < 8 := lt_of_lt_of_eq t.isLt N_0

/-- The row of the arrays in place r at step t. -/
def at_row (t : Fin grid0.N) (r : Fin 512) : Fin 4096 := ⟨t.val * 512 + r.val, by have := lt8 t; omega⟩

/-- The sequence of step t. -/
def at_seq (t : Fin grid0.N) : Fin 2 := ⟨t.val / 4, by have := lt8 t; omega⟩

/-- Window 0: step t holds rows 512 t to 512 t + 511. -/
theorem emb0 (t : Fin grid0.N) (r : Fin 512) (d : Fin 5632) :
    ((cfg0.win 0).blk t).view.emb (ix2 r d : S512x5632.Idx) = (ix2 (at_row t r) d : S4096x5632.Idx) := by
  have e := (by decide +kernel : ∀ t : Fin grid0.N, cc0_transform_0 (grid0.coords t) = ![t.val, 0]) t
  have h0 : win0_0.index t (0 : Fin 2) = t.val := congrFun e 0
  have h1 : win0_0.index t (1 : Fin 2) = 0 := congrFun e 1
  funext a
  refine Fin.ext ?_
  match a with
  | ⟨0, _⟩ => show win0_0.index t (0 : Fin 2) * 512 + 1 * r.val = t.val * 512 + r.val; rw [h0, Nat.one_mul]
  | ⟨1, _⟩ => show win0_0.index t (1 : Fin 2) * 5632 + 1 * d.val = d.val; rw [h1]; omega

/-- Window 5 is the whole array. -/
theorem emb5 (t : Fin grid0.N) (r : Fin 5632) (d : Fin 1024) :
    ((cfg0.win 5).blk t).view.emb (ix2 r d : S5632x1024.Idx) = (ix2 r d : S5632x1024.Idx) := by
  have e := (by decide +kernel : ∀ t : Fin grid0.N, cc0_transform_5 (grid0.coords t) = ![0, 0]) t
  have h0 : win0_5.index t (0 : Fin 2) = 0 := congrFun e 0
  have h1 : win0_5.index t (1 : Fin 2) = 0 := congrFun e 1
  funext a
  refine Fin.ext ?_
  match a with
  | ⟨0, _⟩ => show win0_5.index t (0 : Fin 2) * 5632 + 1 * r.val = r.val; rw [h0]; omega
  | ⟨1, _⟩ => show win0_5.index t (1 : Fin 2) * 1024 + 1 * d.val = d.val; rw [h1]; omega

/-- Window 1: step t holds rows 512 t to 512 t + 511. -/
theorem emb1 (t : Fin grid0.N) (r : Fin 512) (d : Fin 1024) :
    ((cfg0.win 1).blk t).view.emb (ix2 r d : S512x1024.Idx) = (ix2 (at_row t r) d : S4096x1024.Idx) := by
  have e := (by decide +kernel : ∀ t : Fin grid0.N, cc0_transform_1 (grid0.coords t) = ![t.val, 0]) t
  have h0 : win0_1.index t (0 : Fin 2) = t.val := congrFun e 0
  have h1 : win0_1.index t (1 : Fin 2) = 0 := congrFun e 1
  funext a
  refine Fin.ext ?_
  match a with
  | ⟨0, _⟩ => show win0_1.index t (0 : Fin 2) * 512 + 1 * r.val = t.val * 512 + r.val; rw [h0, Nat.one_mul]
  | ⟨1, _⟩ => show win0_1.index t (1 : Fin 2) * 1024 + 1 * d.val = d.val; rw [h1]; omega

/-- Window 2: step t holds rows 512 t to 512 t + 511. -/
theorem emb2 (t : Fin grid0.N) (r : Fin 512) (d : Fin 1024) :
    ((cfg0.win 2).blk t).view.emb (ix2 r d : S512x1024.Idx) = (ix2 (at_row t r) d : S4096x1024.Idx) := by
  have e := (by decide +kernel : ∀ t : Fin grid0.N, cc0_transform_2 (grid0.coords t) = ![t.val, 0]) t
  have h0 : win0_2.index t (0 : Fin 2) = t.val := congrFun e 0
  have h1 : win0_2.index t (1 : Fin 2) = 0 := congrFun e 1
  funext a
  refine Fin.ext ?_
  match a with
  | ⟨0, _⟩ => show win0_2.index t (0 : Fin 2) * 512 + 1 * r.val = t.val * 512 + r.val; rw [h0, Nat.one_mul]
  | ⟨1, _⟩ => show win0_2.index t (1 : Fin 2) * 1024 + 1 * d.val = d.val; rw [h1]; omega

/-- Window 3: step t holds the row of its sequence. -/
theorem emb3 (t : Fin grid0.N) (d : Fin 1024) :
    ((cfg0.win 3).blk t).view.emb (ix3 0 0 d : S1x1x1024.Idx) = (ix3 (at_seq t) 0 d : S2x1x1024.Idx) := by
  have e := (by decide +kernel : ∀ t : Fin grid0.N, cc0_transform_3 (grid0.coords t) = ![t.val / 4, 0, 0]) t
  have h0 : win0_3.index t (0 : Fin 3) = t.val / 4 := congrFun e 0
  have h1 : win0_3.index t (1 : Fin 3) = 0 := congrFun e 1
  have h2 : win0_3.index t (2 : Fin 3) = 0 := congrFun e 2
  funext a
  refine Fin.ext ?_
  match a with
  | ⟨0, _⟩ => show win0_3.index t (0 : Fin 3) * 1 + 1 * 0 = t.val / 4; rw [h0]; omega
  | ⟨1, _⟩ => show win0_3.index t (1 : Fin 3) * 1 + 1 * 0 = 0; rw [h1]
  | ⟨2, _⟩ => show win0_3.index t (2 : Fin 3) * 1024 + 1 * d.val = d.val; rw [h2]; omega

/-- Window 4 is the whole array. -/
theorem emb4 (t : Fin grid0.N) (r : Fin 1) (d : Fin 1024) :
    ((cfg0.win 4).blk t).view.emb (ix2 r d : S1x1024.Idx) = (ix2 r d : S1x1024.Idx) := by
  have e := (by decide +kernel : ∀ t : Fin grid0.N, cc0_transform_4 (grid0.coords t) = ![0, 0]) t
  have h0 : win0_4.index t (0 : Fin 2) = 0 := congrFun e 0
  have h1 : win0_4.index t (1 : Fin 2) = 0 := congrFun e 1
  funext a
  refine Fin.ext ?_
  match a with
  | ⟨0, _⟩ => show win0_4.index t (0 : Fin 2) * 1 + 1 * r.val = r.val; rw [h0]; omega
  | ⟨1, _⟩ => show win0_4.index t (1 : Fin 2) * 1024 + 1 * d.val = d.val; rw [h1]; omega

/-- Window 6: step t holds rows 512 t to 512 t + 511. -/
theorem emb6 (t : Fin grid0.N) (r : Fin 512) (d : Fin 1024) :
    ((cfg0.win 6).blk t).view.emb (ix2 r d : S512x1024.Idx) = (ix2 (at_row t r) d : S4096x1024.Idx) := by
  have e := (by decide +kernel : ∀ t : Fin grid0.N, cc0_transform_6 (grid0.coords t) = ![t.val, 0]) t
  have h0 : win0_6.index t (0 : Fin 2) = t.val := congrFun e 0
  have h1 : win0_6.index t (1 : Fin 2) = 0 := congrFun e 1
  funext a
  refine Fin.ext ?_
  match a with
  | ⟨0, _⟩ => show win0_6.index t (0 : Fin 2) * 512 + 1 * r.val = t.val * 512 + r.val; rw [h0, Nat.one_mul]
  | ⟨1, _⟩ => show win0_6.index t (1 : Fin 2) * 1024 + 1 * d.val = d.val; rw [h1]; omega

/-- Window 7: step t holds the row of its sequence. -/
theorem emb7 (t : Fin grid0.N) (d : Fin 1024) :
    ((cfg0.win 7).blk t).view.emb (ix3 0 0 d : S1x1x1024.Idx) = (ix3 (at_seq t) 0 d : S2x1x1024.Idx) := by
  have e := (by decide +kernel : ∀ t : Fin grid0.N, cc0_transform_7 (grid0.coords t) = ![t.val / 4, 0, 0]) t
  have h0 : win0_7.index t (0 : Fin 3) = t.val / 4 := congrFun e 0
  have h1 : win0_7.index t (1 : Fin 3) = 0 := congrFun e 1
  have h2 : win0_7.index t (2 : Fin 3) = 0 := congrFun e 2
  funext a
  refine Fin.ext ?_
  match a with
  | ⟨0, _⟩ => show win0_7.index t (0 : Fin 3) * 1 + 1 * 0 = t.val / 4; rw [h0]; omega
  | ⟨1, _⟩ => show win0_7.index t (1 : Fin 3) * 1 + 1 * 0 = 0; rw [h1]
  | ⟨2, _⟩ => show win0_7.index t (2 : Fin 3) * 1024 + 1 * d.val = d.val; rw [h2]; omega

/-- Window 8: step t holds the row of its sequence. -/
theorem emb8 (t : Fin grid0.N) (d : Fin 1024) :
    ((cfg0.win 8).blk t).view.emb (ix3 0 0 d : S1x1x1024.Idx) = (ix3 (at_seq t) 0 d : S2x1x1024.Idx) := by
  have e := (by decide +kernel : ∀ t : Fin grid0.N, cc0_transform_8 (grid0.coords t) = ![t.val / 4, 0, 0]) t
  have h0 : win0_8.index t (0 : Fin 3) = t.val / 4 := congrFun e 0
  have h1 : win0_8.index t (1 : Fin 3) = 0 := congrFun e 1
  have h2 : win0_8.index t (2 : Fin 3) = 0 := congrFun e 2
  funext a
  refine Fin.ext ?_
  match a with
  | ⟨0, _⟩ => show win0_8.index t (0 : Fin 3) * 1 + 1 * 0 = t.val / 4; rw [h0]; omega
  | ⟨1, _⟩ => show win0_8.index t (1 : Fin 3) * 1 + 1 * 0 = 0; rw [h1]
  | ⟨2, _⟩ => show win0_8.index t (2 : Fin 3) * 1024 + 1 * d.val = d.val; rw [h2]; omega

/-- Window 9 is the whole array. -/
theorem emb9 (t : Fin grid0.N) (r : Fin 1) (d : Fin 1024) :
    ((cfg0.win 9).blk t).view.emb (ix2 r d : S1x1024.Idx) = (ix2 r d : S1x1024.Idx) := by
  have e := (by decide +kernel : ∀ t : Fin grid0.N, cc0_transform_9 (grid0.coords t) = ![0, 0]) t
  have h0 : win0_9.index t (0 : Fin 2) = 0 := congrFun e 0
  have h1 : win0_9.index t (1 : Fin 2) = 0 := congrFun e 1
  funext a
  refine Fin.ext ?_
  match a with
  | ⟨0, _⟩ => show win0_9.index t (0 : Fin 2) * 1 + 1 * r.val = r.val; rw [h0]; omega
  | ⟨1, _⟩ => show win0_9.index t (1 : Fin 2) * 1024 + 1 * d.val = d.val; rw [h1]; omega

/-! ### Rows of the arrays -/

/-- The gradient of the modulated norm, row n. -/
def h (y5632 : (⟨S4096x5632, .bf16⟩ : BufTy).Contents (Elt Ideal)) (w5632 : (⟨S5632x1024, .bf16⟩ : BufTy).Contents (Elt Ideal)) (n : Fin 4096) : Fin 1024 → EReal :=
  fun d => ∑ k : Fin 5632, y5632 (ix2 n k : S4096x5632.Idx) * w5632 (ix2 k d : S5632x1024.Idx)

def row (x : (⟨S4096x1024, .f32⟩ : BufTy).Contents (Elt Ideal)) (n : Fin 4096) : Fin 1024 → EReal := fun d => x (ix2 n d : S4096x1024.Idx)

def bat (x : (⟨S2x1x1024, .f32⟩ : BufTy).Contents (Elt Ideal)) (n : Fin 4096) : Fin 1024 → EReal :=
  fun d => x (ix3 ⟨n.val / 2048, by omega⟩ 0 d : S2x1x1024.Idx)

def vec (x : (⟨S1x1024, .f32⟩ : BufTy).Contents (Elt Ideal)) : Fin 1024 → EReal := fun d => x (ix2 0 d : S1x1024.Idx)

section

variable (m : (ℓ : Loc nD τ sig) → Buf (Elt Ideal) ℓ)

def hM (c : Dev nD) : Fin 4096 → Fin 1024 → EReal := h (m ((c : Thread nD τ).loc main_arg0)) (m ((c : Thread nD τ).loc main_arg1))

def xM (c : Dev nD) : Fin 4096 → Fin 1024 → EReal := row (m ((c : Thread nD τ).loc main_arg2))

def drM (c : Dev nD) : Fin 4096 → Fin 1024 → EReal := row (m ((c : Thread nD τ).loc main_arg3))

def scM (c : Dev nD) : Fin 4096 → Fin 1024 → EReal := bat (m ((c : Thread nD τ).loc main_arg4))

def gM (c : Dev nD) : Fin 1024 → EReal := vec (m ((c : Thread nD τ).loc main_arg5))

/-- The gradient of row n. -/
def dxM (c : Dev nD) (n : Fin 4096) (d : Fin 1024) : EReal := NormGrad.dx (drM m c n d) (hM m c n) (xM m c n) (scM m c n) (gM m c) d

def shF (c : Dev nD) (d : Fin 1024) (n : Fin 4096) : EReal := hM m c n d

def scF (c : Dev nD) (d : Fin 1024) (n : Fin 4096) : EReal := NormGrad.ds (hM m c n) (xM m c n) (gM m c) d

def gF (c : Dev nD) (d : Fin 1024) (n : Fin 4096) : EReal := NormGrad.dg (hM m c n) (xM m c n) (scM m c n) d

/-! ### The blocks of the arguments -/

theorem blk0 (c : Dev nD) (t : Fin grid0.N) (r : Fin 512) (d : Fin 5632) :
    iblk m c 0 t (ix2 r d : S512x5632.Idx) = (m ((c : Thread nD τ).loc main_arg0)) (ix2 (at_row t r) d : S4096x5632.Idx) := by
  show (m ((c : Thread nD τ).loc main_arg0)) (((cfg0.win 0).blk t).view.emb (ix2 r d : S512x5632.Idx)) = _
  rw [emb0]

theorem blk5 (c : Dev nD) (t : Fin grid0.N) (r : Fin 5632) (d : Fin 1024) :
    iblk m c 5 t (ix2 r d : S5632x1024.Idx) = (m ((c : Thread nD τ).loc main_arg1)) (ix2 r d : S5632x1024.Idx) := by
  show (m ((c : Thread nD τ).loc main_arg1)) (((cfg0.win 5).blk t).view.emb (ix2 r d : S5632x1024.Idx)) = _
  rw [emb5]

theorem blk1 (c : Dev nD) (t : Fin grid0.N) (r : Fin 512) (d : Fin 1024) :
    iblk m c 1 t (ix2 r d : S512x1024.Idx) = (m ((c : Thread nD τ).loc main_arg2)) (ix2 (at_row t r) d : S4096x1024.Idx) := by
  show (m ((c : Thread nD τ).loc main_arg2)) (((cfg0.win 1).blk t).view.emb (ix2 r d : S512x1024.Idx)) = _
  rw [emb1]

theorem blk2 (c : Dev nD) (t : Fin grid0.N) (r : Fin 512) (d : Fin 1024) :
    iblk m c 2 t (ix2 r d : S512x1024.Idx) = (m ((c : Thread nD τ).loc main_arg3)) (ix2 (at_row t r) d : S4096x1024.Idx) := by
  show (m ((c : Thread nD τ).loc main_arg3)) (((cfg0.win 2).blk t).view.emb (ix2 r d : S512x1024.Idx)) = _
  rw [emb2]

theorem blk3 (c : Dev nD) (t : Fin grid0.N) (d : Fin 1024) :
    iblk m c 3 t (ix3 0 0 d : S1x1x1024.Idx) = (m ((c : Thread nD τ).loc main_arg4)) (ix3 (at_seq t) 0 d : S2x1x1024.Idx) := by
  show (m ((c : Thread nD τ).loc main_arg4)) (((cfg0.win 3).blk t).view.emb (ix3 0 0 d : S1x1x1024.Idx)) = _
  rw [emb3]

theorem blk4 (c : Dev nD) (t : Fin grid0.N) (r : Fin 1) (d : Fin 1024) :
    iblk m c 4 t (ix2 r d : S1x1024.Idx) = (m ((c : Thread nD τ).loc main_arg5)) (ix2 r d : S1x1024.Idx) := by
  show (m ((c : Thread nD τ).loc main_arg5)) (((cfg0.win 4).blk t).view.emb (ix2 r d : S1x1024.Idx)) = _
  rw [emb4]

theorem h_blk (c : Dev nD) (t : Fin grid0.N) (r : Fin 512) : hB (iblk m c 0 t) (iblk m c 5 t) r = hM m c (at_row t r) := by
  funext d
  have e0 := Finset.sum_congr (rfl : (Finset.univ : Finset (Fin 5632)) = Finset.univ) fun k _ => congrArg₂ (fun a b : EReal => a * b) (blk0 m c t r k) (blk5 m c t k d)
  exact e0

theorem x_blk (c : Dev nD) (t : Fin grid0.N) (r : Fin 512) : rowB (iblk m c 1 t) r = xM m c (at_row t r) := funext fun d => blk1 m c t r d

theorem seq_row (t : Fin grid0.N) (r : Fin 512) (h : (at_row t r).val / 2048 < 2) : (⟨(at_row t r).val / 2048, h⟩ : Fin 2) = at_seq t :=
  Fin.ext (by show (t.val * 512 + r.val) / 2048 = t.val / 4; omega)

theorem sc_blk (c : Dev nD) (t : Fin grid0.N) (r : Fin 512) : batB (iblk m c 3 t) = scM m c (at_row t r) := by
  funext d
  refine (blk3 m c t d).trans ?_
  unfold scM bat
  rw [seq_row]

theorem g_blk (c : Dev nD) (t : Fin grid0.N) : vecB (iblk m c 4 t) = gM m c := funext fun d => blk4 m c t 0 d

theorem dx_blk (c : Dev nD) (t : Fin grid0.N) (r : Fin 512) (d : Fin 1024) :
    NormGrad.dx (iblk m c 2 t (ix2 r d : S512x1024.Idx)) (hB (iblk m c 0 t) (iblk m c 5 t) r) (rowB (iblk m c 1 t) r) (batB (iblk m c 3 t)) (vecB (iblk m c 4 t)) d = dxM m c (at_row t r) d := by
  rw [h_blk, x_blk, sc_blk m c t r, g_blk, blk2]
  rfl

theorem sh_blk (c : Dev nD) (t : Fin grid0.N) (d : Fin 1024) :
    ∑ r : Fin 512, (hB (iblk m c 0 t) (iblk m c 5 t) r) d = NormGrad.part (shF m c d) ⟨t.val, lt8 t⟩ := by
  unfold NormGrad.part
  refine Finset.sum_congr rfl fun r _ => ?_
  rw [h_blk]
  rfl

theorem sc_blk' (c : Dev nD) (t : Fin grid0.N) (d : Fin 1024) :
    ∑ r : Fin 512, NormGrad.ds (hB (iblk m c 0 t) (iblk m c 5 t) r) (rowB (iblk m c 1 t) r) (vecB (iblk m c 4 t)) d = NormGrad.part (scF m c d) ⟨t.val, lt8 t⟩ := by
  unfold NormGrad.part
  refine Finset.sum_congr rfl fun r _ => ?_
  rw [h_blk, x_blk, g_blk]
  rfl

theorem g_blk' (c : Dev nD) (t : Fin grid0.N) (d : Fin 1024) :
    ∑ r : Fin 512, NormGrad.dg (hB (iblk m c 0 t) (iblk m c 5 t) r) (rowB (iblk m c 1 t) r) (batB (iblk m c 3 t)) d = NormGrad.part (gF m c d) ⟨t.val, lt8 t⟩ := by
  unfold NormGrad.part
  refine Finset.sum_congr rfl fun r _ => ?_
  rw [h_blk, x_blk, sc_blk m c t r]
  rfl

/-! ### The steps -/

theorem val_dx (c : Dev nD) (t : Fin cfg0.N) (r : Fin 512) (d : Fin 1024) :
    (outsAt0 m c t.val t.isLt).1 (ix2 r d : S512x1024.Idx) = dxM m c (at_row t r) d := by
  have h8 := lt8 t
  by_cases h : t.val % 4 = 0
  · by_cases h' : t.val = 0
    · rw [outsAt0_A m c t h (by omega) h (by omega) (by omega) (by omega)]
      dsimp only
      exact (outA_dx _ _ _ _ _ _ _ _ _ _ _ _ _ _ _ _ _ _ _ _ _ _ _ _ _ _ _ _ _ _ _ _ _ _ r d).trans (dx_blk m c t r d)
    · rw [outsAt0_C m c t h (by omega) h (by omega) (by omega) (by omega)]
      dsimp only
      exact (outC_dx _ _ _ _ _ _ _ _ _ _ _ _ _ _ _ _ _ _ _ _ _ _ _ _ _ _ _ _ _ _ _ _ _ _ _ r d).trans (dx_blk m c t r d)
  · rw [outsAt0_B m c t h (by omega) h (by omega) (by omega) (by omega)]
    dsimp only
    exact (outB_dx _ _ _ _ _ _ _ _ _ _ _ _ _ _ _ _ _ _ _ _ _ _ _ _ _ _ _ _ _ _ _ _ _ _ _ _ _ r d).trans (dx_blk m c t r d)

theorem first_sh (c : Dev nD) (n : ℕ) (hn : n < cfg0.N) (h : n % 4 = 0) (d : Fin 1024) :
    (outsAt0 m c n hn).2.1 (ix3 0 0 d : S1x1x1024.Idx) = NormGrad.part (shF m c d) ⟨n, lt8 ⟨n, hn⟩⟩ := by
  have h8 : n < 8 := lt8 ⟨n, hn⟩
  by_cases h' : n = 0
  · refine (congrArg (fun z => z.2.1 (ix3 0 0 d : S1x1x1024.Idx)) (outsAt0_A m c ⟨n, hn⟩ h (by dsimp only; omega) h (by dsimp only; omega) (by dsimp only; omega) (by dsimp only; omega))).trans ?_
    dsimp only
    exact (outA_sh _ _ _ _ _ _ _ _ _ _ _ _ _ _ _ _ _ _ _ _ _ _ _ _ _ _ _ _ _ _ _ _ _ _ d).trans (sh_blk m c ⟨n, hn⟩ d)
  · refine (congrArg (fun z => z.2.1 (ix3 0 0 d : S1x1x1024.Idx)) (outsAt0_C m c ⟨n, hn⟩ h (by dsimp only; omega) h (by dsimp only; omega) (by dsimp only; omega) (by dsimp only; omega))).trans ?_
    dsimp only
    exact (outC_sh _ _ _ _ _ _ _ _ _ _ _ _ _ _ _ _ _ _ _ _ _ _ _ _ _ _ _ _ _ _ _ _ _ _ _ d).trans (sh_blk m c ⟨n, hn⟩ d)

theorem next_sh (c : Dev nD) (n : ℕ) (hn : n + 1 < cfg0.N) (h : ¬(n + 1) % 4 = 0) (d : Fin 1024) :
    (outsAt0 m c (n + 1) hn).2.1 (ix3 0 0 d : S1x1x1024.Idx) = (outsAt0 m c n (Nat.lt_of_succ_lt hn)).2.1 (ix3 0 0 d : S1x1x1024.Idx) +
      NormGrad.part (shF m c d) ⟨n + 1, lt8 ⟨n + 1, hn⟩⟩ := by
  have h8 : n + 1 < 8 := lt8 ⟨n + 1, hn⟩
  refine (congrArg (fun z => z.2.1 (ix3 0 0 d : S1x1x1024.Idx)) (outsAt0_B m c ⟨n + 1, hn⟩ h (by dsimp only; omega) h (by dsimp only; omega) (by dsimp only; omega) (by dsimp only; omega))).trans ?_
  dsimp only
  exact (outB_sh _ _ _ _ _ _ _ _ _ _ _ _ _ _ _ _ _ _ _ _ _ _ _ _ _ _ _ _ _ _ _ _ _ _ _ _ _ d).trans (congrArg (fun z : EReal => (outsAt0 m c n (Nat.lt_of_succ_lt hn)).2.1 (ix3 0 0 d : S1x1x1024.Idx) + z) (sh_blk m c ⟨n + 1, hn⟩ d))

theorem first_sc (c : Dev nD) (n : ℕ) (hn : n < cfg0.N) (h : n % 4 = 0) (d : Fin 1024) :
    (outsAt0 m c n hn).2.2.1 (ix3 0 0 d : S1x1x1024.Idx) = NormGrad.part (scF m c d) ⟨n, lt8 ⟨n, hn⟩⟩ := by
  have h8 : n < 8 := lt8 ⟨n, hn⟩
  by_cases h' : n = 0
  · refine (congrArg (fun z => z.2.2.1 (ix3 0 0 d : S1x1x1024.Idx)) (outsAt0_A m c ⟨n, hn⟩ h (by dsimp only; omega) h (by dsimp only; omega) (by dsimp only; omega) (by dsimp only; omega))).trans ?_
    dsimp only
    exact (outA_sc _ _ _ _ _ _ _ _ _ _ _ _ _ _ _ _ _ _ _ _ _ _ _ _ _ _ _ _ _ _ _ _ _ _ d).trans (sc_blk' m c ⟨n, hn⟩ d)
  · refine (congrArg (fun z => z.2.2.1 (ix3 0 0 d : S1x1x1024.Idx)) (outsAt0_C m c ⟨n, hn⟩ h (by dsimp only; omega) h (by dsimp only; omega) (by dsimp only; omega) (by dsimp only; omega))).trans ?_
    dsimp only
    exact (outC_sc _ _ _ _ _ _ _ _ _ _ _ _ _ _ _ _ _ _ _ _ _ _ _ _ _ _ _ _ _ _ _ _ _ _ _ d).trans (sc_blk' m c ⟨n, hn⟩ d)

theorem next_sc (c : Dev nD) (n : ℕ) (hn : n + 1 < cfg0.N) (h : ¬(n + 1) % 4 = 0) (d : Fin 1024) :
    (outsAt0 m c (n + 1) hn).2.2.1 (ix3 0 0 d : S1x1x1024.Idx) = (outsAt0 m c n (Nat.lt_of_succ_lt hn)).2.2.1 (ix3 0 0 d : S1x1x1024.Idx) +
      NormGrad.part (scF m c d) ⟨n + 1, lt8 ⟨n + 1, hn⟩⟩ := by
  have h8 : n + 1 < 8 := lt8 ⟨n + 1, hn⟩
  refine (congrArg (fun z => z.2.2.1 (ix3 0 0 d : S1x1x1024.Idx)) (outsAt0_B m c ⟨n + 1, hn⟩ h (by dsimp only; omega) h (by dsimp only; omega) (by dsimp only; omega) (by dsimp only; omega))).trans ?_
  dsimp only
  exact (outB_sc _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.1 (ix3 0 0 d : S1x1x1024.Idx) + z) (sc_blk' m c ⟨n + 1, hn⟩ d))

theorem first_g (c : Dev nD) (hn : 0 < cfg0.N) (d : Fin 1024) :
    (outsAt0 m c 0 hn).2.2.2 (ix2 0 d : S1x1024.Idx) = NormGrad.part (gF m c d) 0 := by
  refine (congrArg (fun z => z.2.2.2 (ix2 0 d : S1x1024.Idx)) (outsAt0_A m c ⟨0, hn⟩ rfl (by dsimp only; omega) rfl (by dsimp only; omega) rfl (by dsimp only; omega))).trans ?_
  dsimp only
  exact (outA_g _ _ _ _ _ _ _ _ _ _ _ _ _ _ _ _ _ _ _ _ _ _ _ _ _ _ _ _ _ _ _ _ _ _ d).trans (g_blk' m c ⟨0, hn⟩ d)

theorem next_g (c : Dev nD) (n : ℕ) (hn : n + 1 < cfg0.N) (d : Fin 1024) :
    (outsAt0 m c (n + 1) hn).2.2.2 (ix2 0 d : S1x1024.Idx) = (outsAt0 m c n (Nat.lt_of_succ_lt hn)).2.2.2 (ix2 0 d : S1x1024.Idx) +
      NormGrad.part (gF m c d) ⟨n + 1, lt8 ⟨n + 1, hn⟩⟩ := by
  have h8 : n + 1 < 8 := lt8 ⟨n + 1, hn⟩
  by_cases h : (n + 1) % 4 = 0
  · refine (congrArg (fun z => z.2.2.2 (ix2 0 d : S1x1024.Idx)) (outsAt0_C m c ⟨n + 1, hn⟩ h (by dsimp only; omega) h (by dsimp only; omega) (by dsimp only; omega) (by dsimp only; omega))).trans ?_
    dsimp only
    exact (outC_g _ _ _ _ _ _ _ _ _ _ _ _ _ _ _ _ _ _ _ _ _ _ _ _ _ _ _ _ _ _ _ _ _ _ _ d).trans (congrArg (fun z : EReal => (outsAt0 m c n (Nat.lt_of_succ_lt hn)).2.2.2 (ix2 0 d : S1x1024.Idx) + z) (g_blk' m c ⟨n + 1, hn⟩ d))
  · refine (congrArg (fun z => z.2.2.2 (ix2 0 d : S1x1024.Idx)) (outsAt0_B m c ⟨n + 1, hn⟩ h (by dsimp only; omega) h (by dsimp only; omega) (by dsimp only; omega) (by dsimp only; omega))).trans ?_
    dsimp only
    exact (outB_g _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2 (ix2 0 d : S1x1024.Idx) + z) (g_blk' m c ⟨n + 1, hn⟩ d))

/-! ### The results -/

theorem lt_N {n : ℕ} (h : n < 8) : n < cfg0.N := lt_of_lt_of_eq h N_0.symm

theorem final_dx (c : Dev nD) (n : Fin 4096) (d : Fin 1024) :
    (dats m 0 c).arrAt 6 cfg0.N (ix2 n d : S4096x1024.Idx) = dxM m c n d := by
  obtain ⟨t, r, rfl⟩ : ∃ (t : Fin grid0.N) (r : Fin 512), n = at_row t r :=
    ⟨⟨n.val / 512, lt_N (by omega)⟩, ⟨n.val % 512, by omega⟩, Fin.ext (by show n.val = n.val / 512 * 512 + n.val % 512; omega)⟩
  rw [← emb6 t r d]
  exact (congrFun ((Cert.Kernel8Ideal.Value.blocks6 m c t (flush0_6 t)).trans (Cert.Kernel8Ideal.Value.flushed6 m c t)) (ix2 r d : S512x1024.Idx)).trans (val_dx m c t r d)

theorem apart7 : ∀ t t' : Fin cfg0.N, (cfg0.win 7).flush t = true → (cfg0.win 7).flush t' = true → t ≠ t' →
    Disjoint ((cfg0.win 7).blk t).view.set ((cfg0.win 7).blk t').view.set :=
  fun t t' f f' hne => (cfg0.win 7).disjoint_blk fun e => hne ((by decide +kernel : ∀ t t' : Fin grid0.N,
    win0_7.flush t = true → win0_7.flush t' = true → win0_7.index t = win0_7.index t' → t = t') t t' f f' e)

theorem final_sh (c : Dev nD) (b : Fin 2) (d : Fin 1024) :
    (dats m 0 c).arrAt 7 cfg0.N (ix3 b 0 d : S2x1x1024.Idx) = ∑ k : Fin 2048, shF m c d ⟨b.val * 2048 + k.val, by omega⟩ := by
  have t3 : 4 * b.val + 3 < cfg0.N := lt_N (by omega)
  have hf : (cfg0.win 7).flush ⟨4 * b.val + 3, t3⟩ = true :=
    (by decide +kernel : ∀ t : Fin grid0.N, t.val % 4 = 3 → win0_7.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 7 cfg0.N (ix3 z 0 d : S2x1x1024.Idx)) hb) ?_
  rw [← emb7 ⟨4 * b.val + 3, t3⟩ d]
  refine (congrFun (((dats m 0 c).read_blk_arrAt_eq_flushed 7 apart7 cfg0.N ⟨4 * b.val + 3, t3⟩ t3 hf).trans (Cert.Kernel8Ideal.Value.flushed7 m c ⟨4 * b.val + 3, t3⟩)) (ix3 0 0 d : S1x1x1024.Idx)).trans ?_
  rw [NormGrad.sum_sequence]
  exact (next_sh m c (4 * b.val + 2) (lt_N (by omega)) (by omega) d).trans (congrArg (fun z : EReal => z + _) ((next_sh m c (4 * b.val + 1) (lt_N (by omega)) (by omega) d).trans (congrArg (fun z : EReal => z + _) ((next_sh m c (4 * b.val) (lt_N (by omega)) (by omega) d).trans (congrArg (fun z : EReal => z + _) (first_sh m c (4 * b.val) (lt_N (by omega)) (by omega) d))))))

theorem apart8 : ∀ t t' : Fin cfg0.N, (cfg0.win 8).flush t = true → (cfg0.win 8).flush t' = true → t ≠ t' →
    Disjoint ((cfg0.win 8).blk t).view.set ((cfg0.win 8).blk t').view.set :=
  fun t t' f f' hne => (cfg0.win 8).disjoint_blk fun e => hne ((by decide +kernel : ∀ t t' : Fin grid0.N,
    win0_8.flush t = true → win0_8.flush t' = true → win0_8.index t = win0_8.index t' → t = t') t t' f f' e)

theorem final_sc (c : Dev nD) (b : Fin 2) (d : Fin 1024) :
    (dats m 0 c).arrAt 8 cfg0.N (ix3 b 0 d : S2x1x1024.Idx) = ∑ k : Fin 2048, scF m c d ⟨b.val * 2048 + k.val, by omega⟩ := by
  have t3 : 4 * b.val + 3 < cfg0.N := lt_N (by omega)
  have hf : (cfg0.win 8).flush ⟨4 * b.val + 3, t3⟩ = true :=
    (by decide +kernel : ∀ t : Fin grid0.N, t.val % 4 = 3 → win0_8.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 8 cfg0.N (ix3 z 0 d : S2x1x1024.Idx)) hb) ?_
  rw [← emb8 ⟨4 * b.val + 3, t3⟩ d]
  refine (congrFun (((dats m 0 c).read_blk_arrAt_eq_flushed 8 apart8 cfg0.N ⟨4 * b.val + 3, t3⟩ t3 hf).trans (Cert.Kernel8Ideal.Value.flushed8 m c ⟨4 * b.val + 3, t3⟩)) (ix3 0 0 d : S1x1x1024.Idx)).trans ?_
  rw [NormGrad.sum_sequence]
  exact (next_sc m c (4 * b.val + 2) (lt_N (by omega)) (by omega) d).trans (congrArg (fun z : EReal => z + _) ((next_sc m c (4 * b.val + 1) (lt_N (by omega)) (by omega) d).trans (congrArg (fun z : EReal => z + _) ((next_sc m c (4 * b.val) (lt_N (by omega)) (by omega) d).trans (congrArg (fun z : EReal => z + _) (first_sc m c (4 * b.val) (lt_N (by omega)) (by omega) d))))))

theorem apart9 : ∀ t t' : Fin cfg0.N, (cfg0.win 9).flush t = true → (cfg0.win 9).flush t' = true → t ≠ t' →
    Disjoint ((cfg0.win 9).blk t).view.set ((cfg0.win 9).blk t').view.set :=
  fun t t' f f' hne => (cfg0.win 9).disjoint_blk fun e => hne ((by decide +kernel : ∀ t t' : Fin grid0.N,
    win0_9.flush t = true → win0_9.flush t' = true → win0_9.index t = win0_9.index t' → t = t') t t' f f' e)

def gAt (c : Dev nD) (d : Fin 1024) (n : ℕ) (hn : n < 8) : EReal := (outsAt0 m c n (lt_N hn)).2.2.2 (ix2 0 d : S1x1024.Idx)

theorem gAt_zero (c : Dev nD) (d : Fin 1024) (hn : 0 < 8) : gAt m c d 0 hn = NormGrad.part (gF m c d) 0 := by
  unfold gAt
  exact first_g m c _ d

theorem gAt_succ (c : Dev nD) (d : Fin 1024) (n : ℕ) (hn : n + 1 < 8) :
    gAt m c d (n + 1) hn = gAt m c d n (by omega) + NormGrad.part (gF m c d) ⟨n + 1, hn⟩ := by
  unfold gAt
  exact next_g m c n (lt_N hn) d

theorem gAt_last (c : Dev nD) (d : Fin 1024) (n : ℕ) (hn : n < 8) (e : n = 7) :
    gAt m c d n hn = ∑ p : Fin 2 × Fin 2048, gF m c d ⟨p.1.val * 2048 + p.2.val, by omega⟩ := by
  subst e
  rw [NormGrad.sum_rows]
  exact NormGrad.chain (gAt m c d) (NormGrad.part (gF m c d)) (gAt_zero m c d _) (gAt_succ m c d)

theorem all_g (c : Dev nD) (n : ℕ) (hn : n < cfg0.N) (e : n = 7) (d : Fin 1024) :
    (outsAt0 m c n hn).2.2.2 (ix2 0 d : S1x1024.Idx) = ∑ p : Fin 2 × Fin 2048, gF m c d ⟨p.1.val * 2048 + p.2.val, by omega⟩ := by
  rw [← gAt_last m c d n (lt_of_lt_of_eq hn N_0) e]
  unfold gAt
  rfl

theorem last_g (c : Dev nD) (t : Fin grid0.N) (e : t.val = 7) (d : Fin 1024) :
    (dats m 0 c).arrAt 9 cfg0.N (ix2 0 d : S1x1024.Idx) = ∑ p : Fin 2 × Fin 2048, gF m c d ⟨p.1.val * 2048 + p.2.val, by omega⟩ := by
  have hf : (cfg0.win 9).flush t = true := (by decide +kernel : ∀ t : Fin grid0.N, t.val = 7 → win0_9.flush t = true) t e
  rw [← emb9 t 0 d]
  refine (congrFun (((dats m 0 c).read_blk_arrAt_eq_flushed 9 apart9 cfg0.N t t.isLt hf).trans (Cert.Kernel8Ideal.Value.flushed9 m c t)) (ix2 0 d : S1x1024.Idx)).trans ?_
  exact all_g m c t.val t.isLt e d

theorem final_g (c : Dev nD) (d : Fin 1024) :
    (dats m 0 c).arrAt 9 cfg0.N (ix2 0 d : S1x1024.Idx) = ∑ p : Fin 2 × Fin 2048, gF m c d ⟨p.1.val * 2048 + p.2.val, by omega⟩ :=
  last_g m c ⟨7, lt_N (by omega)⟩ rfl d

end

end Cert.Proof.BwdNorm

end
-- ==== Proof.BwdNormRef.lean ====
/- The reference of the same gradients, and that the kernel gives what it gives. -/
module

public import proofs.«01_k».proof.Proof.Finite
public import proofs.«01_k».proof.Proof.Da
public import proofs.«01_k».proof.Proof.BwdNorm

@[expose] public section

set_option maxRecDepth 16384

noncomputable section

namespace Cert.Proof.BwdNorm

open Idealize.ShloMosaic Idealize.ShloMosaic.TcCoe Cert.Kernel8Ideal Cert.Kernel8Ideal.Gen Cert.Reference8Ideal.Read Pointwise

theorem bat_at (x : (⟨S2x1x1024, .f32⟩ : BufTy).Contents (Elt Ideal)) (b : Fin 2) (k : Fin 2048) (d : Fin 1024) :
    bat x ⟨b.val * 2048 + k.val, by omega⟩ d = x (ix3 b 0 d : S2x1x1024.Idx) := by
  have e : (⟨(b.val * 2048 + k.val) / 2048, by omega⟩ : Fin 2) = b := Fin.ext (by show (b.val * 2048 + k.val) / 2048 = b.val; omega)
  unfold bat
  rw [e]

theorem ref_dx (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x3 : (⟨S4096x1024, .f32⟩ : BufTy).Contents (Elt Ideal)) (x4 : (⟨S2x1x1024, .f32⟩ : BufTy).Contents (Elt Ideal)) (x5 : (⟨S1x1024, .f32⟩ : BufTy).Contents (Elt Ideal)) (r0 : ∀ i, ∃ r : ℝ, x0 i = (r : EReal)) (r1 : ∀ i, ∃ r : ℝ, x1 i = (r : EReal)) (r2 : ∀ i, ∃ r : ℝ, x2 i = (r : EReal)) (r4 : ∀ i, ∃ r : ℝ, x4 i = (r : EReal)) (r5 : ∀ i, ∃ r : ℝ, x5 i = (r : EReal)) (n : Fin 4096) (d : Fin 1024) :
    val_main_v60 (F := Ideal) x0 x1 x2 x3 x4 x5 (ix2 n d : S4096x1024.Idx) = NormGrad.dx (row x3 n d) (h x0 x1 n) (row x2 n) (bat x4 n) (vec x5) d := by
  refine Eq.trans ?_ (NormGrad.dx_eq (row x3 n d) (h x0 x1 n) (row x2 n) (bat x4 n) (vec x5) d (fun _ => (Da.real_sum _ _ (fun _ => r0 _) (fun _ => r1 _))) (fun _ => r2 _) (fun _ => r4 _) (fun _ => r5 _) _ rfl)
  simp only [← NormGrad.rs_eq, h, row, bat, vec]
  pointwise [val_main_v0, val_main_cst, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_cst_4, val_main_v19, val_main_v20, val_main_v21, val_main_v22, val_main_v23, val_main_v24, val_main_v25, val_main_v26, val_main_v27, val_main_v28, val_main_v29, val_main_v30, val_main_cst_5, val_main_v31, val_main_v32, val_main_v33, val_main_cst_6, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_cst_11, val_main_v53, val_main_v54, val_main_v55, val_main_v56, val_main_v57, val_main_v58, val_main_v59, val_main_v60]
  simp only [Fin.sum_univ_one]

theorem ref_sh (x0 : (⟨S4096x5632, .bf16⟩ : BufTy).Contents (Elt Ideal)) (x1 : (⟨S5632x1024, .bf16⟩ : BufTy).Contents (Elt Ideal)) (b : Fin 2) (d : Fin 1024) :
    val_main_v32 (F := Ideal) x0 x1 (ix3 b 0 d : S2x1x1024.Idx) = ∑ k : Fin 2048, h x0 x1 ⟨b.val * 2048 + k.val, by omega⟩ d := by
  simp only [h]
  pointwise [val_main_v0, val_main_cst, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_cst_4, val_main_v19, val_main_v20, val_main_v21, val_main_v22, val_main_v23, val_main_v24, val_main_v25, val_main_v26, val_main_v27, val_main_v28, val_main_v29, val_main_v30, val_main_cst_5, val_main_v31, val_main_v32, val_main_v33, val_main_cst_6, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_cst_11, val_main_v53, val_main_v54, val_main_v55, val_main_v56, val_main_v57, val_main_v58, val_main_v59, val_main_v60]

theorem ref_sc (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x5 : (⟨S1x1024, .f32⟩ : BufTy).Contents (Elt Ideal)) (b : Fin 2) (d : Fin 1024) :
    val_main_v35 (F := Ideal) x0 x1 x2 x5 (ix3 b 0 d : S2x1x1024.Idx) = ∑ k : Fin 2048, NormGrad.ds (h x0 x1 ⟨b.val * 2048 + k.val, by omega⟩) (row x2 ⟨b.val * 2048 + k.val, by omega⟩) (vec x5) d := by
  refine Eq.trans ?_ (Finset.sum_congr rfl fun k _ => mul_comm _ _)
  simp only [← NormGrad.rs_eq, h, row, vec]
  pointwise [val_main_v0, val_main_cst, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_cst_4, val_main_v19, val_main_v20, val_main_v21, val_main_v22, val_main_v23, val_main_v24, val_main_v25, val_main_v26, val_main_v27, val_main_v28, val_main_v29, val_main_v30, val_main_cst_5, val_main_v31, val_main_v32, val_main_v33, val_main_cst_6, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_cst_11, val_main_v53, val_main_v54, val_main_v55, val_main_v56, val_main_v57, val_main_v58, val_main_v59, val_main_v60]

theorem term_g (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x4 : (⟨S2x1x1024, .f32⟩ : BufTy).Contents (Elt Ideal)) (b : Fin 2) (k : Fin 2048) (d : Fin 1024) :
    val_main_v38 (F := Ideal) x0 x1 x2 x4 (ix3 b k d) = NormGrad.dg (h x0 x1 ⟨b.val * 2048 + k.val, by omega⟩) (row x2 ⟨b.val * 2048 + k.val, by omega⟩) (bat x4 ⟨b.val * 2048 + k.val, by omega⟩) d := by
  refine Eq.trans ?_ (mul_comm _ _)
  simp only [← NormGrad.rs_eq, h, row, bat_at, vec]
  pointwise [val_main_v0, val_main_cst, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_cst_4, val_main_v19, val_main_v20, val_main_v21, val_main_v22, val_main_v23, val_main_v24, val_main_v25, val_main_v26, val_main_v27, val_main_v28, val_main_v29, val_main_v30, val_main_cst_5, val_main_v31, val_main_v32, val_main_v33, val_main_cst_6, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_cst_11, val_main_v53, val_main_v54, val_main_v55, val_main_v56, val_main_v57, val_main_v58, val_main_v59, val_main_v60]

theorem ref_g (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x4 : (⟨S2x1x1024, .f32⟩ : BufTy).Contents (Elt Ideal)) (d : Fin 1024) :
    val_main_v44 (F := Ideal) x0 x1 x2 x4 (ix2 0 d : S1x1024.Idx) = ∑ p : Fin 2 × Fin 2048, NormGrad.dg (h x0 x1 ⟨p.1.val * 2048 + p.2.val, by omega⟩) (row x2 ⟨p.1.val * 2048 + p.2.val, by omega⟩) (bat x4 ⟨p.1.val * 2048 + p.2.val, by omega⟩) d := by
  pointwise [val_main_v44, val_main_v43, val_main_cst_8]
  rw [NormGrad.reduce_two, zero_add, Fintype.sum_prod_type, Fin.sum_univ_one, Fin.sum_univ_one]
  pointwise [val_main_v40, val_main_v39, val_main_cst_7]
  rw [NormGrad.reduce_two, zero_add]
  exact Finset.sum_congr rfl fun p _ => term_g _ _ _ _ p.1 p.2 d

theorem equal_dx (m : (ℓ : Loc nD τ sig) → Buf (Elt Ideal) ℓ) (c : Dev nD) (r0 : ∀ i, ∃ r : ℝ, (m ((c : Thread nD τ).loc main_arg0)) i = (r : EReal)) (r1 : ∀ i, ∃ r : ℝ, (m ((c : Thread nD τ).loc main_arg1)) i = (r : EReal)) (r2 : ∀ i, ∃ r : ℝ, (m ((c : Thread nD τ).loc main_arg2)) i = (r : EReal)) (r4 : ∀ i, ∃ r : ℝ, (m ((c : Thread nD τ).loc main_arg4)) i = (r : EReal)) (r5 : ∀ i, ∃ r : ℝ, (m ((c : Thread nD τ).loc main_arg5)) i = (r : EReal)) :
    (dats m 0 c).arrAt 6 cfg0.N = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext y
  obtain ⟨n, d, rfl⟩ := NormGrad.two_axes y
  exact (final_dx m c n d).trans (ref_dx _ _ _ _ _ _ r0 r1 r2 r4 r5 n d).symm

theorem equal_sh (m : (ℓ : Loc nD τ sig) → Buf (Elt Ideal) ℓ) (c : Dev nD) :
    (dats m 0 c).arrAt 7 cfg0.N = val_main_v32 (F := Ideal) (m ((c : Thread nD τ).loc main_arg0)) (m ((c : Thread nD τ).loc main_arg1)) := by
  funext y
  obtain ⟨b, d, rfl⟩ := NormGrad.three_axes y
  exact (final_sh m c b d).trans (ref_sh _ _ b d).symm

theorem equal_sc (m : (ℓ : Loc nD τ sig) → Buf (Elt Ideal) ℓ) (c : Dev nD) :
    (dats m 0 c).arrAt 8 cfg0.N = val_main_v35 (F := Ideal) (m ((c : Thread nD τ).loc main_arg0)) (m ((c : Thread nD τ).loc main_arg1)) (m ((c : Thread nD τ).loc main_arg2)) (m ((c : Thread nD τ).loc main_arg5)) := by
  funext y
  obtain ⟨b, d, rfl⟩ := NormGrad.three_axes y
  exact (final_sc m c b d).trans (ref_sc _ _ _ _ b d).symm

theorem equal_g (m : (ℓ : Loc nD τ sig) → Buf (Elt Ideal) ℓ) (c : Dev nD) :
    (dats m 0 c).arrAt 9 cfg0.N = val_main_v44 (F := Ideal) (m ((c : Thread nD τ).loc main_arg0)) (m ((c : Thread nD τ).loc main_arg1)) (m ((c : Thread nD τ).loc main_arg2)) (m ((c : Thread nD τ).loc main_arg4)) := by
  funext y
  obtain ⟨z, d, rfl⟩ := NormGrad.two_axes y
  obtain rfl : z = 0 := by omega
  exact (final_g m c d).trans (ref_g _ _ _ _ d).symm

end Cert.Proof.BwdNorm

end
-- ==== Proof.BwdNorm2.lean ====
/- The gradients of a norm and its modulation: what the kernel leaves in its results. -/
module

public import Idealize.ShloMosaic.Lib.Pointwise
public import Idealize.ShloMosaic.Lib.StableHlo.RunRead
public import proofs.«01_k».proof.Proof.Gen.Kernel9Ideal.Value
public import proofs.«01_k».proof.Proof.Gen.Reference9Ideal.Read
public import proofs.«01_k».proof.Proof.NormGrad

@[expose] public section

set_option maxRecDepth 16384

noncomputable section

namespace Cert.Proof.BwdNorm2

open Idealize.ShloMosaic Idealize.ShloMosaic.TcCoe Cert.Kernel9Ideal Cert.Kernel9Ideal.Gen Pointwise

/-! ### What a grid step leaves in each output -/

/-- The gradient of the modulated norm, row by row. -/
def hB (y5632 : Vec Ideal S512x5632 .bf16) (w5632 : Vec Ideal S5632x1024 .bf16) (r : Fin 512) : Fin 1024 → EReal :=
  fun d => ∑ k : Fin 5632, y5632 (ix2 r k : S512x5632.Idx) * w5632 (ix2 k d : S5632x1024.Idx)

def rowB (x : Vec Ideal S512x1024 .f32) (r : Fin 512) : Fin 1024 → EReal := fun d => x (ix2 r d : S512x1024.Idx)

def batB (x : Vec Ideal S1x1x1024 .f32) : Fin 1024 → EReal := fun d => x (ix3 0 0 d : S1x1x1024.Idx)

def vecB (x : Vec Ideal S1x1024 .f32) : Fin 1024 → EReal := fun d => x (ix2 0 d : S1x1024.Idx)

section

variable (c : Dev nD) (i : grid0.Coords) (arg2 : Memref sig .tc .vmem S512x5632 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S5632x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1024 .f32) (harg15 : arg15.IsWhole) (x0 : Vec Ideal S512x5632 .bf16) (x1 : Vec Ideal S512x1024 .f32) (x2 : Vec Ideal S512x1024 .f32) (x3 : Vec Ideal S512x1024 .bf16) (x4 : Vec Ideal S1x1x1024 .f32) (x5 : Vec Ideal S1x1x1024 .f32) (x6 : Vec Ideal S1x1024 .f32) (x7 : Vec Ideal S5632x1024 .bf16)

section

variable (hc0 : cond0_0 i) (hc1 : ¬cond0_1 i) (hc2 : cond0_2 i) (hc3 : ¬cond0_3 i) (hc4 : cond0_4 i) (hc5 : ¬cond0_5 i) (hc6 : cond0_6 i) (hc7 : ¬cond0_7 i)

theorem outA_dx (r : Fin 512) (d : Fin 1024) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 (ix2 r d : S512x1024.Idx) = NormGrad.dx (x2 (ix2 r d : S512x1024.Idx)) (hB x0 x7 r) (rowB x1 r) (batB x4) (vecB x6) d := by
  unfold out0_A_8
  refine (congrFun (View.read_writes_eq_canon _ _ _ (cover0_A_8 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg6 x4 NormGrad.zeros3 _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outA_do (r : Fin 512) (d : Fin 1024) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 (ix2 r d : S512x1024.Idx) = x5 (ix3 0 0 d : S1x1x1024.Idx) * NormGrad.dx (x2 (ix2 r d : S512x1024.Idx)) (hB x0 x7 r) (rowB x1 r) (batB x4) (vecB x6) d := by
  unfold out0_A_9
  refine (congrFun (View.read_writes_eq_canon _ _ _ (cover0_A_9 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg6 x4 NormGrad.zeros3 _, NormGrad.load_whole harg7 x5 NormGrad.zeros3 _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outA_sh (d : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 (ix3 0 0 d : S1x1x1024.Idx) = ∑ r : Fin 512, (hB x0 x7 r) d := by
  unfold out0_A_10
  refine (congrFun (View.read_writes_eq_canon _ _ _ (cover0_A_10 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outA_sc (d : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 (ix3 0 0 d : S1x1x1024.Idx) = ∑ r : Fin 512, NormGrad.ds (hB x0 x7 r) (rowB x1 r) (vecB x6) d := by
  unfold out0_A_11
  refine (congrFun (View.read_writes_eq_canon _ _ _ (cover0_A_11 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg3 x1 NormGrad.zeros _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outA_gate (d : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 (ix3 0 0 d : S1x1x1024.Idx) = ∑ r : Fin 512, NormGrad.dx (x2 (ix2 r d : S512x1024.Idx)) (hB x0 x7 r) (rowB x1 r) (batB x4) (vecB x6) d * x3 (ix2 r d : S512x1024.Idx) := by
  unfold out0_A_12
  refine (congrFun (View.read_writes_eq_canon _ _ _ (cover0_A_12 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros3 _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outA_g (d : Fin 1024) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 (ix2 0 d : S1x1024.Idx) = ∑ r : Fin 512, NormGrad.dg (hB x0 x7 r) (rowB x1 r) (batB x4) d := by
  unfold out0_A_13
  refine (congrFun (View.read_writes_eq_canon _ _ _ (cover0_A_13 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg6 x4 NormGrad.zeros3 _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

end

section

variable (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (xo10 : Vec Ideal S1x1x1024 .f32) (xo11 : Vec Ideal S1x1x1024 .f32) (xo12 : Vec Ideal S1x1x1024 .f32) (xo13 : Vec Ideal S1x1024 .f32)

theorem outB_dx (r : Fin 512) (d : Fin 1024) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo10 xo11 xo12 xo13 (ix2 r d : S512x1024.Idx) = NormGrad.dx (x2 (ix2 r d : S512x1024.Idx)) (hB x0 x7 r) (rowB x1 r) (batB x4) (vecB x6) d := by
  unfold out0_B_8
  refine (congrFun (View.read_writes_eq_canon _ _ _ (cover0_B_8 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg6 x4 NormGrad.zeros3 _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outB_do (r : Fin 512) (d : Fin 1024) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo10 xo11 xo12 xo13 (ix2 r d : S512x1024.Idx) = x5 (ix3 0 0 d : S1x1x1024.Idx) * NormGrad.dx (x2 (ix2 r d : S512x1024.Idx)) (hB x0 x7 r) (rowB x1 r) (batB x4) (vecB x6) d := by
  unfold out0_B_9
  refine (congrFun (View.read_writes_eq_canon _ _ _ (cover0_B_9 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg6 x4 NormGrad.zeros3 _, NormGrad.load_whole harg7 x5 NormGrad.zeros3 _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outB_sh (d : Fin 1024) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo10 xo11 xo12 xo13 (ix3 0 0 d : S1x1x1024.Idx) = xo10 (ix3 0 0 d : S1x1x1024.Idx) + ∑ r : Fin 512, (hB x0 x7 r) d := by
  unfold out0_B_10
  refine (congrFun (View.read_writes_eq_canon _ _ _ (cover0_B_10 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg9 x7 NormGrad.zeros _, NormGrad.load_whole harg12 xo10 NormGrad.zeros3 _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outB_sc (d : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo10 xo11 xo12 xo13 (ix3 0 0 d : S1x1x1024.Idx) = xo11 (ix3 0 0 d : S1x1x1024.Idx) + ∑ r : Fin 512, NormGrad.ds (hB x0 x7 r) (rowB x1 r) (vecB x6) d := by
  unfold out0_B_11
  refine (congrFun (View.read_writes_eq_canon _ _ _ (cover0_B_11 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg3 x1 NormGrad.zeros _, NormGrad.load_whole harg8 x6 NormGrad.zeros _, NormGrad.load_whole harg9 x7 NormGrad.zeros _, NormGrad.load_whole harg13 xo11 NormGrad.zeros3 _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outB_gate (d : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo10 xo11 xo12 xo13 (ix3 0 0 d : S1x1x1024.Idx) = xo12 (ix3 0 0 d : S1x1x1024.Idx) + ∑ r : Fin 512, NormGrad.dx (x2 (ix2 r d : S512x1024.Idx)) (hB x0 x7 r) (rowB x1 r) (batB x4) (vecB x6) d * x3 (ix2 r d : S512x1024.Idx) := by
  unfold out0_B_12
  refine (congrFun (View.read_writes_eq_canon _ _ _ (cover0_B_12 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros3 _, NormGrad.load_whole harg8 x6 NormGrad.zeros _, NormGrad.load_whole harg9 x7 NormGrad.zeros _, NormGrad.load_whole harg14 xo12 NormGrad.zeros3 _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outB_g (d : Fin 1024) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo10 xo11 xo12 xo13 (ix2 0 d : S1x1024.Idx) = xo13 (ix2 0 d : S1x1024.Idx) + ∑ r : Fin 512, NormGrad.dg (hB x0 x7 r) (rowB x1 r) (batB x4) d := by
  unfold out0_B_13
  refine (congrFun (View.read_writes_eq_canon _ _ _ (cover0_B_13 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg6 x4 NormGrad.zeros3 _, NormGrad.load_whole harg9 x7 NormGrad.zeros _, NormGrad.load_whole harg15 xo13 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

end

section

variable (hc0 : cond0_0 i) (hc1 : ¬cond0_1 i) (hc2 : cond0_2 i) (hc3 : ¬cond0_3 i) (hc4 : cond0_4 i) (hc5 : ¬cond0_5 i) (hc6 : ¬cond0_6 i) (hc7 : cond0_7 i) (xo13 : Vec Ideal S1x1024 .f32)

theorem outC_dx (r : Fin 512) (d : Fin 1024) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo13 (ix2 r d : S512x1024.Idx) = NormGrad.dx (x2 (ix2 r d : S512x1024.Idx)) (hB x0 x7 r) (rowB x1 r) (batB x4) (vecB x6) d := by
  unfold out0_C_8
  refine (congrFun (View.read_writes_eq_canon _ _ _ (cover0_C_8 _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg6 x4 NormGrad.zeros3 _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outC_do (r : Fin 512) (d : Fin 1024) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo13 (ix2 r d : S512x1024.Idx) = x5 (ix3 0 0 d : S1x1x1024.Idx) * NormGrad.dx (x2 (ix2 r d : S512x1024.Idx)) (hB x0 x7 r) (rowB x1 r) (batB x4) (vecB x6) d := by
  unfold out0_C_9
  refine (congrFun (View.read_writes_eq_canon _ _ _ (cover0_C_9 _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg6 x4 NormGrad.zeros3 _, NormGrad.load_whole harg7 x5 NormGrad.zeros3 _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outC_sh (d : Fin 1024) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo13 (ix3 0 0 d : S1x1x1024.Idx) = ∑ r : Fin 512, (hB x0 x7 r) d := by
  unfold out0_C_10
  refine (congrFun (View.read_writes_eq_canon _ _ _ (cover0_C_10 _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outC_sc (d : Fin 1024) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo13 (ix3 0 0 d : S1x1x1024.Idx) = ∑ r : Fin 512, NormGrad.ds (hB x0 x7 r) (rowB x1 r) (vecB x6) d := by
  unfold out0_C_11
  refine (congrFun (View.read_writes_eq_canon _ _ _ (cover0_C_11 _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg3 x1 NormGrad.zeros _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outC_gate (d : Fin 1024) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo13 (ix3 0 0 d : S1x1x1024.Idx) = ∑ r : Fin 512, NormGrad.dx (x2 (ix2 r d : S512x1024.Idx)) (hB x0 x7 r) (rowB x1 r) (batB x4) (vecB x6) d * x3 (ix2 r d : S512x1024.Idx) := by
  unfold out0_C_12
  refine (congrFun (View.read_writes_eq_canon _ _ _ (cover0_C_12 _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros3 _, NormGrad.load_whole harg8 x6 NormGrad.zeros _, NormGrad.load_whole harg9 x7 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

theorem outC_g (d : Fin 1024) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 x0 x1 x2 x3 x4 x5 x6 x7 xo13 (ix2 0 d : S1x1024.Idx) = xo13 (ix2 0 d : S1x1024.Idx) + ∑ r : Fin 512, NormGrad.dg (hB x0 x7 r) (rowB x1 r) (batB x4) d := by
  unfold out0_C_13
  refine (congrFun (View.read_writes_eq_canon _ _ _ (cover0_C_13 _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg6 x4 NormGrad.zeros3 _, NormGrad.load_whole harg9 x7 NormGrad.zeros _, NormGrad.load_whole harg15 xo13 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

end

end

/-! ### The places of the blocks -/

theorem lt8 (t : Fin grid0.N) : t.val < 8 := lt_of_lt_of_eq t.isLt N_0

/-- The row of the arrays in place r at step t. -/
def at_row (t : Fin grid0.N) (r : Fin 512) : Fin 4096 := ⟨t.val * 512 + r.val, by have := lt8 t; omega⟩

/-- The sequence of step t. -/
def at_seq (t : Fin grid0.N) : Fin 2 := ⟨t.val / 4, by have := lt8 t; omega⟩

/-- Window 0: step t holds rows 512 t to 512 t + 511. -/
theorem emb0 (t : Fin grid0.N) (r : Fin 512) (d : Fin 5632) :
    ((cfg0.win 0).blk t).view.emb (ix2 r d : S512x5632.Idx) = (ix2 (at_row t r) d : S4096x5632.Idx) := by
  have e := (by decide +kernel : ∀ t : Fin grid0.N, cc0_transform_0 (grid0.coords t) = ![t.val, 0]) t
  have h0 : win0_0.index t (0 : Fin 2) = t.val := congrFun e 0
  have h1 : win0_0.index t (1 : Fin 2) = 0 := congrFun e 1
  funext a
  refine Fin.ext ?_
  match a with
  | ⟨0, _⟩ => show win0_0.index t (0 : Fin 2) * 512 + 1 * r.val = t.val * 512 + r.val; rw [h0, Nat.one_mul]
  | ⟨1, _⟩ => show win0_0.index t (1 : Fin 2) * 5632 + 1 * d.val = d.val; rw [h1]; omega

/-- Window 7 is the whole array. -/
theorem emb7 (t : Fin grid0.N) (r : Fin 5632) (d : Fin 1024) :
    ((cfg0.win 7).blk t).view.emb (ix2 r d : S5632x1024.Idx) = (ix2 r d : S5632x1024.Idx) := by
  have e := (by decide +kernel : ∀ t : Fin grid0.N, cc0_transform_7 (grid0.coords t) = ![0, 0]) t
  have h0 : win0_7.index t (0 : Fin 2) = 0 := congrFun e 0
  have h1 : win0_7.index t (1 : Fin 2) = 0 := congrFun e 1
  funext a
  refine Fin.ext ?_
  match a with
  | ⟨0, _⟩ => show win0_7.index t (0 : Fin 2) * 5632 + 1 * r.val = r.val; rw [h0]; omega
  | ⟨1, _⟩ => show win0_7.index t (1 : Fin 2) * 1024 + 1 * d.val = d.val; rw [h1]; omega

/-- Window 1: step t holds rows 512 t to 512 t + 511. -/
theorem emb1 (t : Fin grid0.N) (r : Fin 512) (d : Fin 1024) :
    ((cfg0.win 1).blk t).view.emb (ix2 r d : S512x1024.Idx) = (ix2 (at_row t r) d : S4096x1024.Idx) := by
  have e := (by decide +kernel : ∀ t : Fin grid0.N, cc0_transform_1 (grid0.coords t) = ![t.val, 0]) t
  have h0 : win0_1.index t (0 : Fin 2) = t.val := congrFun e 0
  have h1 : win0_1.index t (1 : Fin 2) = 0 := congrFun e 1
  funext a
  refine Fin.ext ?_
  match a with
  | ⟨0, _⟩ => show win0_1.index t (0 : Fin 2) * 512 + 1 * r.val = t.val * 512 + r.val; rw [h0, Nat.one_mul]
  | ⟨1, _⟩ => show win0_1.index t (1 : Fin 2) * 1024 + 1 * d.val = d.val; rw [h1]; omega

/-- Window 2: step t holds rows 512 t to 512 t + 511. -/
theorem emb2 (t : Fin grid0.N) (r : Fin 512) (d : Fin 1024) :
    ((cfg0.win 2).blk t).view.emb (ix2 r d : S512x1024.Idx) = (ix2 (at_row t r) d : S4096x1024.Idx) := by
  have e := (by decide +kernel : ∀ t : Fin grid0.N, cc0_transform_2 (grid0.coords t) = ![t.val, 0]) t
  have h0 : win0_2.index t (0 : Fin 2) = t.val := congrFun e 0
  have h1 : win0_2.index t (1 : Fin 2) = 0 := congrFun e 1
  funext a
  refine Fin.ext ?_
  match a with
  | ⟨0, _⟩ => show win0_2.index t (0 : Fin 2) * 512 + 1 * r.val = t.val * 512 + r.val; rw [h0, Nat.one_mul]
  | ⟨1, _⟩ => show win0_2.index t (1 : Fin 2) * 1024 + 1 * d.val = d.val; rw [h1]; omega

/-- Window 3: step t holds rows 512 t to 512 t + 511. -/
theorem emb3 (t : Fin grid0.N) (r : Fin 512) (d : Fin 1024) :
    ((cfg0.win 3).blk t).view.emb (ix2 r d : S512x1024.Idx) = (ix2 (at_row t r) d : S4096x1024.Idx) := by
  have e := (by decide +kernel : ∀ t : Fin grid0.N, cc0_transform_3 (grid0.coords t) = ![t.val, 0]) t
  have h0 : win0_3.index t (0 : Fin 2) = t.val := congrFun e 0
  have h1 : win0_3.index t (1 : Fin 2) = 0 := congrFun e 1
  funext a
  refine Fin.ext ?_
  match a with
  | ⟨0, _⟩ => show win0_3.index t (0 : Fin 2) * 512 + 1 * r.val = t.val * 512 + r.val; rw [h0, Nat.one_mul]
  | ⟨1, _⟩ => show win0_3.index t (1 : Fin 2) * 1024 + 1 * d.val = d.val; rw [h1]; omega

/-- Window 5: step t holds the row of its sequence. -/
theorem emb5 (t : Fin grid0.N) (d : Fin 1024) :
    ((cfg0.win 5).blk t).view.emb (ix3 0 0 d : S1x1x1024.Idx) = (ix3 (at_seq t) 0 d : S2x1x1024.Idx) := by
  have e := (by decide +kernel : ∀ t : Fin grid0.N, cc0_transform_5 (grid0.coords t) = ![t.val / 4, 0, 0]) t
  have h0 : win0_5.index t (0 : Fin 3) = t.val / 4 := congrFun e 0
  have h1 : win0_5.index t (1 : Fin 3) = 0 := congrFun e 1
  have h2 : win0_5.index t (2 : Fin 3) = 0 := congrFun e 2
  funext a
  refine Fin.ext ?_
  match a with
  | ⟨0, _⟩ => show win0_5.index t (0 : Fin 3) * 1 + 1 * 0 = t.val / 4; rw [h0]; omega
  | ⟨1, _⟩ => show win0_5.index t (1 : Fin 3) * 1 + 1 * 0 = 0; rw [h1]
  | ⟨2, _⟩ => show win0_5.index t (2 : Fin 3) * 1024 + 1 * d.val = d.val; rw [h2]; omega

/-- Window 4: step t holds the row of its sequence. -/
theorem emb4 (t : Fin grid0.N) (d : Fin 1024) :
    ((cfg0.win 4).blk t).view.emb (ix3 0 0 d : S1x1x1024.Idx) = (ix3 (at_seq t) 0 d : S2x1x1024.Idx) := by
  have e := (by decide +kernel : ∀ t : Fin grid0.N, cc0_transform_4 (grid0.coords t) = ![t.val / 4, 0, 0]) t
  have h0 : win0_4.index t (0 : Fin 3) = t.val / 4 := congrFun e 0
  have h1 : win0_4.index t (1 : Fin 3) = 0 := congrFun e 1
  have h2 : win0_4.index t (2 : Fin 3) = 0 := congrFun e 2
  funext a
  refine Fin.ext ?_
  match a with
  | ⟨0, _⟩ => show win0_4.index t (0 : Fin 3) * 1 + 1 * 0 = t.val / 4; rw [h0]; omega
  | ⟨1, _⟩ => show win0_4.index t (1 : Fin 3) * 1 + 1 * 0 = 0; rw [h1]
  | ⟨2, _⟩ => show win0_4.index t (2 : Fin 3) * 1024 + 1 * d.val = d.val; rw [h2]; omega

/-- Window 6 is the whole array. -/
theorem emb6 (t : Fin grid0.N) (r : Fin 1) (d : Fin 1024) :
    ((cfg0.win 6).blk t).view.emb (ix2 r d : S1x1024.Idx) = (ix2 r d : S1x1024.Idx) := by
  have e := (by decide +kernel : ∀ t : Fin grid0.N, cc0_transform_6 (grid0.coords t) = ![0, 0]) t
  have h0 : win0_6.index t (0 : Fin 2) = 0 := congrFun e 0
  have h1 : win0_6.index t (1 : Fin 2) = 0 := congrFun e 1
  funext a
  refine Fin.ext ?_
  match a with
  | ⟨0, _⟩ => show win0_6.index t (0 : Fin 2) * 1 + 1 * r.val = r.val; rw [h0]; omega
  | ⟨1, _⟩ => show win0_6.index t (1 : Fin 2) * 1024 + 1 * d.val = d.val; rw [h1]; omega

/-- Window 8: step t holds rows 512 t to 512 t + 511. -/
theorem emb8 (t : Fin grid0.N) (r : Fin 512) (d : Fin 1024) :
    ((cfg0.win 8).blk t).view.emb (ix2 r d : S512x1024.Idx) = (ix2 (at_row t r) d : S4096x1024.Idx) := by
  have e := (by decide +kernel : ∀ t : Fin grid0.N, cc0_transform_8 (grid0.coords t) = ![t.val, 0]) t
  have h0 : win0_8.index t (0 : Fin 2) = t.val := congrFun e 0
  have h1 : win0_8.index t (1 : Fin 2) = 0 := congrFun e 1
  funext a
  refine Fin.ext ?_
  match a with
  | ⟨0, _⟩ => show win0_8.index t (0 : Fin 2) * 512 + 1 * r.val = t.val * 512 + r.val; rw [h0, Nat.one_mul]
  | ⟨1, _⟩ => show win0_8.index t (1 : Fin 2) * 1024 + 1 * d.val = d.val; rw [h1]; omega

/-- Window 9: step t holds rows 512 t to 512 t + 511. -/
theorem emb9 (t : Fin grid0.N) (r : Fin 512) (d : Fin 1024) :
    ((cfg0.win 9).blk t).view.emb (ix2 r d : S512x1024.Idx) = (ix2 (at_row t r) d : S4096x1024.Idx) := by
  have e := (by decide +kernel : ∀ t : Fin grid0.N, cc0_transform_9 (grid0.coords t) = ![t.val, 0]) t
  have h0 : win0_9.index t (0 : Fin 2) = t.val := congrFun e 0
  have h1 : win0_9.index t (1 : Fin 2) = 0 := congrFun e 1
  funext a
  refine Fin.ext ?_
  match a with
  | ⟨0, _⟩ => show win0_9.index t (0 : Fin 2) * 512 + 1 * r.val = t.val * 512 + r.val; rw [h0, Nat.one_mul]
  | ⟨1, _⟩ => show win0_9.index t (1 : Fin 2) * 1024 + 1 * d.val = d.val; rw [h1]; omega

/-- Window 10: step t holds the row of its sequence. -/
theorem emb10 (t : Fin grid0.N) (d : Fin 1024) :
    ((cfg0.win 10).blk t).view.emb (ix3 0 0 d : S1x1x1024.Idx) = (ix3 (at_seq t) 0 d : S2x1x1024.Idx) := by
  have e := (by decide +kernel : ∀ t : Fin grid0.N, cc0_transform_10 (grid0.coords t) = ![t.val / 4, 0, 0]) t
  have h0 : win0_10.index t (0 : Fin 3) = t.val / 4 := congrFun e 0
  have h1 : win0_10.index t (1 : Fin 3) = 0 := congrFun e 1
  have h2 : win0_10.index t (2 : Fin 3) = 0 := congrFun e 2
  funext a
  refine Fin.ext ?_
  match a with
  | ⟨0, _⟩ => show win0_10.index t (0 : Fin 3) * 1 + 1 * 0 = t.val / 4; rw [h0]; omega
  | ⟨1, _⟩ => show win0_10.index t (1 : Fin 3) * 1 + 1 * 0 = 0; rw [h1]
  | ⟨2, _⟩ => show win0_10.index t (2 : Fin 3) * 1024 + 1 * d.val = d.val; rw [h2]; omega

/-- Window 11: step t holds the row of its sequence. -/
theorem emb11 (t : Fin grid0.N) (d : Fin 1024) :
    ((cfg0.win 11).blk t).view.emb (ix3 0 0 d : S1x1x1024.Idx) = (ix3 (at_seq t) 0 d : S2x1x1024.Idx) := by
  have e := (by decide +kernel : ∀ t : Fin grid0.N, cc0_transform_11 (grid0.coords t) = ![t.val / 4, 0, 0]) t
  have h0 : win0_11.index t (0 : Fin 3) = t.val / 4 := congrFun e 0
  have h1 : win0_11.index t (1 : Fin 3) = 0 := congrFun e 1
  have h2 : win0_11.index t (2 : Fin 3) = 0 := congrFun e 2
  funext a
  refine Fin.ext ?_
  match a with
  | ⟨0, _⟩ => show win0_11.index t (0 : Fin 3) * 1 + 1 * 0 = t.val / 4; rw [h0]; omega
  | ⟨1, _⟩ => show win0_11.index t (1 : Fin 3) * 1 + 1 * 0 = 0; rw [h1]
  | ⟨2, _⟩ => show win0_11.index t (2 : Fin 3) * 1024 + 1 * d.val = d.val; rw [h2]; omega

/-- Window 12: step t holds the row of its sequence. -/
theorem emb12 (t : Fin grid0.N) (d : Fin 1024) :
    ((cfg0.win 12).blk t).view.emb (ix3 0 0 d : S1x1x1024.Idx) = (ix3 (at_seq t) 0 d : S2x1x1024.Idx) := by
  have e := (by decide +kernel : ∀ t : Fin grid0.N, cc0_transform_12 (grid0.coords t) = ![t.val / 4, 0, 0]) t
  have h0 : win0_12.index t (0 : Fin 3) = t.val / 4 := congrFun e 0
  have h1 : win0_12.index t (1 : Fin 3) = 0 := congrFun e 1
  have h2 : win0_12.index t (2 : Fin 3) = 0 := congrFun e 2
  funext a
  refine Fin.ext ?_
  match a with
  | ⟨0, _⟩ => show win0_12.index t (0 : Fin 3) * 1 + 1 * 0 = t.val / 4; rw [h0]; omega
  | ⟨1, _⟩ => show win0_12.index t (1 : Fin 3) * 1 + 1 * 0 = 0; rw [h1]
  | ⟨2, _⟩ => show win0_12.index t (2 : Fin 3) * 1024 + 1 * d.val = d.val; rw [h2]; omega

/-- Window 13 is the whole array. -/
theorem emb13 (t : Fin grid0.N) (r : Fin 1) (d : Fin 1024) :
    ((cfg0.win 13).blk t).view.emb (ix2 r d : S1x1024.Idx) = (ix2 r d : S1x1024.Idx) := by
  have e := (by decide +kernel : ∀ t : Fin grid0.N, cc0_transform_13 (grid0.coords t) = ![0, 0]) t
  have h0 : win0_13.index t (0 : Fin 2) = 0 := congrFun e 0
  have h1 : win0_13.index t (1 : Fin 2) = 0 := congrFun e 1
  funext a
  refine Fin.ext ?_
  match a with
  | ⟨0, _⟩ => show win0_13.index t (0 : Fin 2) * 1 + 1 * r.val = r.val; rw [h0]; omega
  | ⟨1, _⟩ => show win0_13.index t (1 : Fin 2) * 1024 + 1 * d.val = d.val; rw [h1]; omega

/-! ### Rows of the arrays -/

/-- The gradient of the modulated norm, row n. -/
def h (y5632 : (⟨S4096x5632, .bf16⟩ : BufTy).Contents (Elt Ideal)) (w5632 : (⟨S5632x1024, .bf16⟩ : BufTy).Contents (Elt Ideal)) (n : Fin 4096) : Fin 1024 → EReal :=
  fun d => ∑ k : Fin 5632, y5632 (ix2 n k : S4096x5632.Idx) * w5632 (ix2 k d : S5632x1024.Idx)

def row (x : (⟨S4096x1024, .f32⟩ : BufTy).Contents (Elt Ideal)) (n : Fin 4096) : Fin 1024 → EReal := fun d => x (ix2 n d : S4096x1024.Idx)

def bat (x : (⟨S2x1x1024, .f32⟩ : BufTy).Contents (Elt Ideal)) (n : Fin 4096) : Fin 1024 → EReal :=
  fun d => x (ix3 ⟨n.val / 2048, by omega⟩ 0 d : S2x1x1024.Idx)

def vec (x : (⟨S1x1024, .f32⟩ : BufTy).Contents (Elt Ideal)) : Fin 1024 → EReal := fun d => x (ix2 0 d : S1x1024.Idx)

def rowo (x : (⟨S4096x1024, .bf16⟩ : BufTy).Contents (Elt Ideal)) (n : Fin 4096) : Fin 1024 → EReal := fun d => x (ix2 n d : S4096x1024.Idx)

/-- The stream before the norm: the outcome of the block before, times its gate, is added. -/
def stream (x : (⟨S4096x1024, .f32⟩ : BufTy).Contents (Elt Ideal)) (o : (⟨S4096x1024, .bf16⟩ : BufTy).Contents (Elt Ideal)) (gt : (⟨S2x1x1024, .f32⟩ : BufTy).Contents (Elt Ideal)) (n : Fin 4096) : Fin 1024 → EReal :=
  fun d => row x n d + bat gt n d * rowo o n d

section

variable (m : (ℓ : Loc nD τ sig) → Buf (Elt Ideal) ℓ)

def hM (c : Dev nD) : Fin 4096 → Fin 1024 → EReal := h (m ((c : Thread nD τ).loc main_arg0)) (m ((c : Thread nD τ).loc main_arg1))

def xM (c : Dev nD) : Fin 4096 → Fin 1024 → EReal := stream (m ((c : Thread nD τ).loc main_arg2)) (m ((c : Thread nD τ).loc main_arg4)) (m ((c : Thread nD τ).loc main_arg6))

def drM (c : Dev nD) : Fin 4096 → Fin 1024 → EReal := row (m ((c : Thread nD τ).loc main_arg3))

def scM (c : Dev nD) : Fin 4096 → Fin 1024 → EReal := bat (m ((c : Thread nD τ).loc main_arg5))

def gM (c : Dev nD) : Fin 1024 → EReal := vec (m ((c : Thread nD τ).loc main_arg7))

def oM (c : Dev nD) : Fin 4096 → Fin 1024 → EReal := rowo (m ((c : Thread nD τ).loc main_arg4))

def gtM (c : Dev nD) : Fin 4096 → Fin 1024 → EReal := bat (m ((c : Thread nD τ).loc main_arg6))

/-- The gradient of row n. -/
def dxM (c : Dev nD) (n : Fin 4096) (d : Fin 1024) : EReal := NormGrad.dx (drM m c n d) (hM m c n) (xM m c n) (scM m c n) (gM m c) d

def shF (c : Dev nD) (d : Fin 1024) (n : Fin 4096) : EReal := hM m c n d

def scF (c : Dev nD) (d : Fin 1024) (n : Fin 4096) : EReal := NormGrad.ds (hM m c n) (xM m c n) (gM m c) d

def gateF (c : Dev nD) (d : Fin 1024) (n : Fin 4096) : EReal := dxM m c n d * oM m c n d

def gF (c : Dev nD) (d : Fin 1024) (n : Fin 4096) : EReal := NormGrad.dg (hM m c n) (xM m c n) (scM m c n) d

/-! ### The blocks of the arguments -/

theorem blk0 (c : Dev nD) (t : Fin grid0.N) (r : Fin 512) (d : Fin 5632) :
    iblk m c 0 t (ix2 r d : S512x5632.Idx) = (m ((c : Thread nD τ).loc main_arg0)) (ix2 (at_row t r) d : S4096x5632.Idx) := by
  show (m ((c : Thread nD τ).loc main_arg0)) (((cfg0.win 0).blk t).view.emb (ix2 r d : S512x5632.Idx)) = _
  rw [emb0]

theorem blk7 (c : Dev nD) (t : Fin grid0.N) (r : Fin 5632) (d : Fin 1024) :
    iblk m c 7 t (ix2 r d : S5632x1024.Idx) = (m ((c : Thread nD τ).loc main_arg1)) (ix2 r d : S5632x1024.Idx) := by
  show (m ((c : Thread nD τ).loc main_arg1)) (((cfg0.win 7).blk t).view.emb (ix2 r d : S5632x1024.Idx)) = _
  rw [emb7]

/-- The stream as the program computes it before the kernel. -/
def streamed (x : (⟨S4096x1024, .f32⟩ : BufTy).Contents (Elt Ideal)) (o : (⟨S4096x1024, .bf16⟩ : BufTy).Contents (Elt Ideal)) (gt : (⟨S2x1x1024, .f32⟩ : BufTy).Contents (Elt Ideal)) : (⟨S4096x1024, .f32⟩ : BufTy).Contents (Elt Ideal) :=
  shapeCast S4096x1024 (addf (F := Ideal) (φ := .f32) (shapeCast S2x2048x1024 x shapeCasts_S4096x1024_S2x2048x1024) (mulf (broadcastInDim S2x2048x1024 ![0, 1, 2] bcast_S2x1x1024_S2x2048x1024_0_1_2 gt)
    (shapeCast S2x2048x1024 (extf .f32 o bitsLt_bf16_f32) shapeCasts_S4096x1024_S2x2048x1024))) shapeCasts_S2x2048x1024_S4096x1024

theorem streamed_at (x : (⟨S4096x1024, .f32⟩ : BufTy).Contents (Elt Ideal)) (o : (⟨S4096x1024, .bf16⟩ : BufTy).Contents (Elt Ideal)) (gt : (⟨S2x1x1024, .f32⟩ : BufTy).Contents (Elt Ideal)) (n : Fin 4096) (d : Fin 1024) :
    streamed x o gt (ix2 n d : S4096x1024.Idx) = stream x o gt n d := by
  unfold streamed stream row bat rowo
  pointwise []

theorem V_stream (c : Dev nD) : V m c main_v6 = streamed (m ((c : Thread nD τ).loc main_arg2)) (m ((c : Thread nD τ).loc main_arg4)) (m ((c : Thread nD τ).loc main_arg6)) := by
  unfold_abbrev_sides
  after_reads_simp
  rfl

theorem blk1 (c : Dev nD) (t : Fin grid0.N) (r : Fin 512) (d : Fin 1024) :
    iblk m c 1 t (ix2 r d : S512x1024.Idx) = stream (m ((c : Thread nD τ).loc main_arg2)) (m ((c : Thread nD τ).loc main_arg4)) (m ((c : Thread nD τ).loc main_arg6)) (at_row t r) d := by
  show V m c main_v6 (((cfg0.win 1).blk t).view.emb (ix2 r d : S512x1024.Idx)) = _
  rw [emb1, V_stream]
  exact streamed_at _ _ _ _ _

theorem blk2 (c : Dev nD) (t : Fin grid0.N) (r : Fin 512) (d : Fin 1024) :
    iblk m c 2 t (ix2 r d : S512x1024.Idx) = (m ((c : Thread nD τ).loc main_arg3)) (ix2 (at_row t r) d : S4096x1024.Idx) := by
  show (m ((c : Thread nD τ).loc main_arg3)) (((cfg0.win 2).blk t).view.emb (ix2 r d : S512x1024.Idx)) = _
  rw [emb2]

theorem blk3 (c : Dev nD) (t : Fin grid0.N) (r : Fin 512) (d : Fin 1024) :
    iblk m c 3 t (ix2 r d : S512x1024.Idx) = (m ((c : Thread nD τ).loc main_arg4)) (ix2 (at_row t r) d : S4096x1024.Idx) := by
  show (m ((c : Thread nD τ).loc main_arg4)) (((cfg0.win 3).blk t).view.emb (ix2 r d : S512x1024.Idx)) = _
  rw [emb3]

theorem blk5 (c : Dev nD) (t : Fin grid0.N) (d : Fin 1024) :
    iblk m c 5 t (ix3 0 0 d : S1x1x1024.Idx) = (m ((c : Thread nD τ).loc main_arg6)) (ix3 (at_seq t) 0 d : S2x1x1024.Idx) := by
  show (m ((c : Thread nD τ).loc main_arg6)) (((cfg0.win 5).blk t).view.emb (ix3 0 0 d : S1x1x1024.Idx)) = _
  rw [emb5]

theorem blk4 (c : Dev nD) (t : Fin grid0.N) (d : Fin 1024) :
    iblk m c 4 t (ix3 0 0 d : S1x1x1024.Idx) = (m ((c : Thread nD τ).loc main_arg5)) (ix3 (at_seq t) 0 d : S2x1x1024.Idx) := by
  show (m ((c : Thread nD τ).loc main_arg5)) (((cfg0.win 4).blk t).view.emb (ix3 0 0 d : S1x1x1024.Idx)) = _
  rw [emb4]

theorem blk6 (c : Dev nD) (t : Fin grid0.N) (r : Fin 1) (d : Fin 1024) :
    iblk m c 6 t (ix2 r d : S1x1024.Idx) = (m ((c : Thread nD τ).loc main_arg7)) (ix2 r d : S1x1024.Idx) := by
  show (m ((c : Thread nD τ).loc main_arg7)) (((cfg0.win 6).blk t).view.emb (ix2 r d : S1x1024.Idx)) = _
  rw [emb6]

theorem h_blk (c : Dev nD) (t : Fin grid0.N) (r : Fin 512) : hB (iblk m c 0 t) (iblk m c 7 t) r = hM m c (at_row t r) := by
  funext d
  have e0 := Finset.sum_congr (rfl : (Finset.univ : Finset (Fin 5632)) = Finset.univ) fun k _ => congrArg₂ (fun a b : EReal => a * b) (blk0 m c t r k) (blk7 m c t k d)
  exact e0

theorem x_blk (c : Dev nD) (t : Fin grid0.N) (r : Fin 512) : rowB (iblk m c 1 t) r = xM m c (at_row t r) := funext fun d => blk1 m c t r d

theorem seq_row (t : Fin grid0.N) (r : Fin 512) (h : (at_row t r).val / 2048 < 2) : (⟨(at_row t r).val / 2048, h⟩ : Fin 2) = at_seq t :=
  Fin.ext (by show (t.val * 512 + r.val) / 2048 = t.val / 4; omega)

theorem sc_blk (c : Dev nD) (t : Fin grid0.N) (r : Fin 512) : batB (iblk m c 4 t) = scM m c (at_row t r) := by
  funext d
  refine (blk4 m c t d).trans ?_
  unfold scM bat
  rw [seq_row]

theorem g_blk (c : Dev nD) (t : Fin grid0.N) : vecB (iblk m c 6 t) = gM m c := funext fun d => blk6 m c t 0 d

theorem dx_blk (c : Dev nD) (t : Fin grid0.N) (r : Fin 512) (d : Fin 1024) :
    NormGrad.dx (iblk m c 2 t (ix2 r d : S512x1024.Idx)) (hB (iblk m c 0 t) (iblk m c 7 t) r) (rowB (iblk m c 1 t) r) (batB (iblk m c 4 t)) (vecB (iblk m c 6 t)) d = dxM m c (at_row t r) d := by
  rw [h_blk, x_blk, sc_blk m c t r, g_blk, blk2]
  rfl

theorem do_blk (c : Dev nD) (t : Fin grid0.N) (r : Fin 512) (d : Fin 1024) :
    @HMul.hMul EReal EReal EReal _ (iblk m c 5 t (ix3 0 0 d : S1x1x1024.Idx)) (NormGrad.dx (iblk m c 2 t (ix2 r d : S512x1024.Idx)) (hB (iblk m c 0 t) (iblk m c 7 t) r) (rowB (iblk m c 1 t) r) (batB (iblk m c 4 t)) (vecB (iblk m c 6 t)) d) = gtM m c (at_row t r) d * dxM m c (at_row t r) d := by
  rw [dx_blk, blk5]
  unfold gtM bat
  rw [seq_row]

theorem sh_blk (c : Dev nD) (t : Fin grid0.N) (d : Fin 1024) :
    ∑ r : Fin 512, (hB (iblk m c 0 t) (iblk m c 7 t) r) d = NormGrad.part (shF m c d) ⟨t.val, lt8 t⟩ := by
  unfold NormGrad.part
  refine Finset.sum_congr rfl fun r _ => ?_
  rw [h_blk]
  rfl

theorem sc_blk' (c : Dev nD) (t : Fin grid0.N) (d : Fin 1024) :
    ∑ r : Fin 512, NormGrad.ds (hB (iblk m c 0 t) (iblk m c 7 t) r) (rowB (iblk m c 1 t) r) (vecB (iblk m c 6 t)) d = NormGrad.part (scF m c d) ⟨t.val, lt8 t⟩ := by
  unfold NormGrad.part
  refine Finset.sum_congr rfl fun r _ => ?_
  rw [h_blk, x_blk, g_blk]
  rfl

theorem gate_blk (c : Dev nD) (t : Fin grid0.N) (d : Fin 1024) :
    ∑ r : Fin 512, NormGrad.dx (iblk m c 2 t (ix2 r d : S512x1024.Idx)) (hB (iblk m c 0 t) (iblk m c 7 t) r) (rowB (iblk m c 1 t) r) (batB (iblk m c 4 t)) (vecB (iblk m c 6 t)) d * (iblk m c 3 t (ix2 r d : S512x1024.Idx) : EReal) = NormGrad.part (gateF m c d) ⟨t.val, lt8 t⟩ := by
  unfold NormGrad.part
  refine Finset.sum_congr rfl fun r _ => ?_
  rw [dx_blk, blk3]
  rfl

theorem g_blk' (c : Dev nD) (t : Fin grid0.N) (d : Fin 1024) :
    ∑ r : Fin 512, NormGrad.dg (hB (iblk m c 0 t) (iblk m c 7 t) r) (rowB (iblk m c 1 t) r) (batB (iblk m c 4 t)) d = NormGrad.part (gF m c d) ⟨t.val, lt8 t⟩ := by
  unfold NormGrad.part
  refine Finset.sum_congr rfl fun r _ => ?_
  rw [h_blk, x_blk, sc_blk m c t r]
  rfl

/-! ### The steps -/

theorem val_dx (c : Dev nD) (t : Fin cfg0.N) (r : Fin 512) (d : Fin 1024) :
    (outsAt0 m c t.val t.isLt).1 (ix2 r d : S512x1024.Idx) = dxM m c (at_row t r) d := by
  have h8 := lt8 t
  by_cases h : t.val % 4 = 0
  · by_cases h' : t.val = 0
    · rw [outsAt0_A m c t h (by omega) h (by omega) h (by omega) (by omega) (by omega)]
      dsimp only
      exact (outA_dx _ _ _ _ _ _ _ _ _ _ _ _ _ _ _ _ _ _ _ _ _ _ _ _ _ _ _ _ _ _ _ _ _ _ _ _ _ _ _ _ _ _ _ _ _ _ r d).trans (dx_blk m c t r d)
    · rw [outsAt0_C m c t h (by omega) h (by omega) h (by omega) (by omega) (by omega)]
      dsimp only
      exact (outC_dx _ _ _ _ _ _ _ _ _ _ _ _ _ _ _ _ _ _ _ _ _ _ _ _ _ _ _ _ _ _ _ _ _ _ _ _ _ _ _ _ _ _ _ _ _ _ _ r d).trans (dx_blk m c t r d)
  · rw [outsAt0_B m c t h (by omega) h (by omega) h (by omega) (by omega) (by omega)]
    dsimp only
    exact (outB_dx _ _ _ _ _ _ _ _ _ _ _ _ _ _ _ _ _ _ _ _ _ _ _ _ _ _ _ _ _ _ _ _ _ _ _ _ _ _ _ _ _ _ _ _ _ _ _ _ _ _ r d).trans (dx_blk m c t r d)

theorem val_do (c : Dev nD) (t : Fin cfg0.N) (r : Fin 512) (d : Fin 1024) :
    (outsAt0 m c t.val t.isLt).2.1 (ix2 r d : S512x1024.Idx) = gtM m c (at_row t r) d * dxM m c (at_row t r) d := by
  have h8 := lt8 t
  by_cases h : t.val % 4 = 0
  · by_cases h' : t.val = 0
    · rw [outsAt0_A m c t h (by omega) h (by omega) h (by omega) (by omega) (by omega)]
      dsimp only
      exact (outA_do _ _ _ _ _ _ _ _ _ _ _ _ _ _ _ _ _ _ _ _ _ _ _ _ _ _ _ _ _ _ _ _ _ _ _ _ _ _ _ _ _ _ _ _ _ _ r d).trans (do_blk m c t r d)
    · rw [outsAt0_C m c t h (by omega) h (by omega) h (by omega) (by omega) (by omega)]
      dsimp only
      exact (outC_do _ _ _ _ _ _ _ _ _ _ _ _ _ _ _ _ _ _ _ _ _ _ _ _ _ _ _ _ _ _ _ _ _ _ _ _ _ _ _ _ _ _ _ _ _ _ _ r d).trans (do_blk m c t r d)
  · rw [outsAt0_B m c t h (by omega) h (by omega) h (by omega) (by omega) (by omega)]
    dsimp only
    exact (outB_do _ _ _ _ _ _ _ _ _ _ _ _ _ _ _ _ _ _ _ _ _ _ _ _ _ _ _ _ _ _ _ _ _ _ _ _ _ _ _ _ _ _ _ _ _ _ _ _ _ _ r d).trans (do_blk m c t r d)

theorem first_sh (c : Dev nD) (n : ℕ) (hn : n < cfg0.N) (h : n % 4 = 0) (d : Fin 1024) :
    (outsAt0 m c n hn).2.2.1 (ix3 0 0 d : S1x1x1024.Idx) = NormGrad.part (shF m c d) ⟨n, lt8 ⟨n, hn⟩⟩ := by
  have h8 : n < 8 := lt8 ⟨n, hn⟩
  by_cases h' : n = 0
  · refine (congrArg (fun z => z.2.2.1 (ix3 0 0 d : S1x1x1024.Idx)) (outsAt0_A m c ⟨n, hn⟩ h (by dsimp only; omega) h (by dsimp only; omega) h (by dsimp only; omega) (by dsimp only; omega) (by dsimp only; omega))).trans ?_
    dsimp only
    exact (outA_sh _ _ _ _ _ _ _ _ _ _ _ _ _ _ _ _ _ _ _ _ _ _ _ _ _ _ _ _ _ _ _ _ _ _ _ _ _ _ _ _ _ _ _ _ _ _ d).trans (sh_blk m c ⟨n, hn⟩ d)
  · refine (congrArg (fun z => z.2.2.1 (ix3 0 0 d : S1x1x1024.Idx)) (outsAt0_C m c ⟨n, hn⟩ h (by dsimp only; omega) h (by dsimp only; omega) h (by dsimp only; omega) (by dsimp only; omega) (by dsimp only; omega))).trans ?_
    dsimp only
    exact (outC_sh _ _ _ _ _ _ _ _ _ _ _ _ _ _ _ _ _ _ _ _ _ _ _ _ _ _ _ _ _ _ _ _ _ _ _ _ _ _ _ _ _ _ _ _ _ _ _ d).trans (sh_blk m c ⟨n, hn⟩ d)

theorem next_sh (c : Dev nD) (n : ℕ) (hn : n + 1 < cfg0.N) (h : ¬(n + 1) % 4 = 0) (d : Fin 1024) :
    (outsAt0 m c (n + 1) hn).2.2.1 (ix3 0 0 d : S1x1x1024.Idx) = (outsAt0 m c n (Nat.lt_of_succ_lt hn)).2.2.1 (ix3 0 0 d : S1x1x1024.Idx) +
      NormGrad.part (shF m c d) ⟨n + 1, lt8 ⟨n + 1, hn⟩⟩ := by
  have h8 : n + 1 < 8 := lt8 ⟨n + 1, hn⟩
  refine (congrArg (fun z => z.2.2.1 (ix3 0 0 d : S1x1x1024.Idx)) (outsAt0_B m c ⟨n + 1, hn⟩ h (by dsimp only; omega) h (by dsimp only; omega) h (by dsimp only; omega) (by dsimp only; omega) (by dsimp only; omega))).trans ?_
  dsimp only
  exact (outB_sh _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.1 (ix3 0 0 d : S1x1x1024.Idx) + z) (sh_blk m c ⟨n + 1, hn⟩ d))

theorem first_sc (c : Dev nD) (n : ℕ) (hn : n < cfg0.N) (h : n % 4 = 0) (d : Fin 1024) :
    (outsAt0 m c n hn).2.2.2.1 (ix3 0 0 d : S1x1x1024.Idx) = NormGrad.part (scF m c d) ⟨n, lt8 ⟨n, hn⟩⟩ := by
  have h8 : n < 8 := lt8 ⟨n, hn⟩
  by_cases h' : n = 0
  · refine (congrArg (fun z => z.2.2.2.1 (ix3 0 0 d : S1x1x1024.Idx)) (outsAt0_A m c ⟨n, hn⟩ h (by dsimp only; omega) h (by dsimp only; omega) h (by dsimp only; omega) (by dsimp only; omega) (by dsimp only; omega))).trans ?_
    dsimp only
    exact (outA_sc _ _ _ _ _ _ _ _ _ _ _ _ _ _ _ _ _ _ _ _ _ _ _ _ _ _ _ _ _ _ _ _ _ _ _ _ _ _ _ _ _ _ _ _ _ _ d).trans (sc_blk' m c ⟨n, hn⟩ d)
  · refine (congrArg (fun z => z.2.2.2.1 (ix3 0 0 d : S1x1x1024.Idx)) (outsAt0_C m c ⟨n, hn⟩ h (by dsimp only; omega) h (by dsimp only; omega) h (by dsimp only; omega) (by dsimp only; omega) (by dsimp only; omega))).trans ?_
    dsimp only
    exact (outC_sc _ _ _ _ _ _ _ _ _ _ _ _ _ _ _ _ _ _ _ _ _ _ _ _ _ _ _ _ _ _ _ _ _ _ _ _ _ _ _ _ _ _ _ _ _ _ _ d).trans (sc_blk' m c ⟨n, hn⟩ d)

theorem next_sc (c : Dev nD) (n : ℕ) (hn : n + 1 < cfg0.N) (h : ¬(n + 1) % 4 = 0) (d : Fin 1024) :
    (outsAt0 m c (n + 1) hn).2.2.2.1 (ix3 0 0 d : S1x1x1024.Idx) = (outsAt0 m c n (Nat.lt_of_succ_lt hn)).2.2.2.1 (ix3 0 0 d : S1x1x1024.Idx) +
      NormGrad.part (scF m c d) ⟨n + 1, lt8 ⟨n + 1, hn⟩⟩ := by
  have h8 : n + 1 < 8 := lt8 ⟨n + 1, hn⟩
  refine (congrArg (fun z => z.2.2.2.1 (ix3 0 0 d : S1x1x1024.Idx)) (outsAt0_B m c ⟨n + 1, hn⟩ h (by dsimp only; omega) h (by dsimp only; omega) h (by dsimp only; omega) (by dsimp only; omega) (by dsimp only; omega))).trans ?_
  dsimp only
  exact (outB_sc _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2.1 (ix3 0 0 d : S1x1x1024.Idx) + z) (sc_blk' m c ⟨n + 1, hn⟩ d))

theorem first_gate (c : Dev nD) (n : ℕ) (hn : n < cfg0.N) (h : n % 4 = 0) (d : Fin 1024) :
    (outsAt0 m c n hn).2.2.2.2.1 (ix3 0 0 d : S1x1x1024.Idx) = NormGrad.part (gateF m c d) ⟨n, lt8 ⟨n, hn⟩⟩ := by
  have h8 : n < 8 := lt8 ⟨n, hn⟩
  by_cases h' : n = 0
  · refine (congrArg (fun z => z.2.2.2.2.1 (ix3 0 0 d : S1x1x1024.Idx)) (outsAt0_A m c ⟨n, hn⟩ h (by dsimp only; omega) h (by dsimp only; omega) h (by dsimp only; omega) (by dsimp only; omega) (by dsimp only; omega))).trans ?_
    dsimp only
    exact (outA_gate _ _ _ _ _ _ _ _ _ _ _ _ _ _ _ _ _ _ _ _ _ _ _ _ _ _ _ _ _ _ _ _ _ _ _ _ _ _ _ _ _ _ _ _ _ _ d).trans (gate_blk m c ⟨n, hn⟩ d)
  · refine (congrArg (fun z => z.2.2.2.2.1 (ix3 0 0 d : S1x1x1024.Idx)) (outsAt0_C m c ⟨n, hn⟩ h (by dsimp only; omega) h (by dsimp only; omega) h (by dsimp only; omega) (by dsimp only; omega) (by dsimp only; omega))).trans ?_
    dsimp only
    exact (outC_gate _ _ _ _ _ _ _ _ _ _ _ _ _ _ _ _ _ _ _ _ _ _ _ _ _ _ _ _ _ _ _ _ _ _ _ _ _ _ _ _ _ _ _ _ _ _ _ d).trans (gate_blk m c ⟨n, hn⟩ d)

theorem next_gate (c : Dev nD) (n : ℕ) (hn : n + 1 < cfg0.N) (h : ¬(n + 1) % 4 = 0) (d : Fin 1024) :
    (outsAt0 m c (n + 1) hn).2.2.2.2.1 (ix3 0 0 d : S1x1x1024.Idx) = (outsAt0 m c n (Nat.lt_of_succ_lt hn)).2.2.2.2.1 (ix3 0 0 d : S1x1x1024.Idx) +
      NormGrad.part (gateF m c d) ⟨n + 1, lt8 ⟨n + 1, hn⟩⟩ := by
  have h8 : n + 1 < 8 := lt8 ⟨n + 1, hn⟩
  refine (congrArg (fun z => z.2.2.2.2.1 (ix3 0 0 d : S1x1x1024.Idx)) (outsAt0_B m c ⟨n + 1, hn⟩ h (by dsimp only; omega) h (by dsimp only; omega) h (by dsimp only; omega) (by dsimp only; omega) (by dsimp only; omega))).trans ?_
  dsimp only
  exact (outB_gate _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2.2.1 (ix3 0 0 d : S1x1x1024.Idx) + z) (gate_blk m c ⟨n + 1, hn⟩ d))

theorem first_g (c : Dev nD) (hn : 0 < cfg0.N) (d : Fin 1024) :
    (outsAt0 m c 0 hn).2.2.2.2.2 (ix2 0 d : S1x1024.Idx) = NormGrad.part (gF m c d) 0 := by
  refine (congrArg (fun z => z.2.2.2.2.2 (ix2 0 d : S1x1024.Idx)) (outsAt0_A m c ⟨0, hn⟩ rfl (by dsimp only; omega) rfl (by dsimp only; omega) rfl (by dsimp only; omega) rfl (by dsimp only; omega))).trans ?_
  dsimp only
  exact (outA_g _ _ _ _ _ _ _ _ _ _ _ _ _ _ _ _ _ _ _ _ _ _ _ _ _ _ _ _ _ _ _ _ _ _ _ _ _ _ _ _ _ _ _ _ _ _ d).trans (g_blk' m c ⟨0, hn⟩ d)

theorem next_g (c : Dev nD) (n : ℕ) (hn : n + 1 < cfg0.N) (d : Fin 1024) :
    (outsAt0 m c (n + 1) hn).2.2.2.2.2 (ix2 0 d : S1x1024.Idx) = (outsAt0 m c n (Nat.lt_of_succ_lt hn)).2.2.2.2.2 (ix2 0 d : S1x1024.Idx) +
      NormGrad.part (gF m c d) ⟨n + 1, lt8 ⟨n + 1, hn⟩⟩ := by
  have h8 : n + 1 < 8 := lt8 ⟨n + 1, hn⟩
  by_cases h : (n + 1) % 4 = 0
  · refine (congrArg (fun z => z.2.2.2.2.2 (ix2 0 d : S1x1024.Idx)) (outsAt0_C m c ⟨n + 1, hn⟩ h (by dsimp only; omega) h (by dsimp only; omega) h (by dsimp only; omega) (by dsimp only; omega) (by dsimp only; omega))).trans ?_
    dsimp only
    exact (outC_g _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2.2.2 (ix2 0 d : S1x1024.Idx) + z) (g_blk' m c ⟨n + 1, hn⟩ d))
  · refine (congrArg (fun z => z.2.2.2.2.2 (ix2 0 d : S1x1024.Idx)) (outsAt0_B m c ⟨n + 1, hn⟩ h (by dsimp only; omega) h (by dsimp only; omega) h (by dsimp only; omega) (by dsimp only; omega) (by dsimp only; omega))).trans ?_
    dsimp only
    exact (outB_g _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2.2.2 (ix2 0 d : S1x1024.Idx) + z) (g_blk' m c ⟨n + 1, hn⟩ d))

/-! ### The results -/

theorem lt_N {n : ℕ} (h : n < 8) : n < cfg0.N := lt_of_lt_of_eq h N_0.symm

theorem final_dx (c : Dev nD) (n : Fin 4096) (d : Fin 1024) :
    (dats m 0 c).arrAt 8 cfg0.N (ix2 n d : S4096x1024.Idx) = dxM m c n d := by
  obtain ⟨t, r, rfl⟩ : ∃ (t : Fin grid0.N) (r : Fin 512), n = at_row t r :=
    ⟨⟨n.val / 512, lt_N (by omega)⟩, ⟨n.val % 512, by omega⟩, Fin.ext (by show n.val = n.val / 512 * 512 + n.val % 512; omega)⟩
  rw [← emb8 t r d]
  exact (congrFun ((Cert.Kernel9Ideal.Value.blocks8 m c t (flush0_8 t)).trans (Cert.Kernel9Ideal.Value.flushed8 m c t)) (ix2 r d : S512x1024.Idx)).trans (val_dx m c t r d)

theorem final_do (c : Dev nD) (n : Fin 4096) (d : Fin 1024) :
    (dats m 0 c).arrAt 9 cfg0.N (ix2 n d : S4096x1024.Idx) = gtM m c n d * dxM m c n d := by
  obtain ⟨t, r, rfl⟩ : ∃ (t : Fin grid0.N) (r : Fin 512), n = at_row t r :=
    ⟨⟨n.val / 512, lt_N (by omega)⟩, ⟨n.val % 512, by omega⟩, Fin.ext (by show n.val = n.val / 512 * 512 + n.val % 512; omega)⟩
  rw [← emb9 t r d]
  exact (congrFun ((Cert.Kernel9Ideal.Value.blocks9 m c t (flush0_9 t)).trans (Cert.Kernel9Ideal.Value.flushed9 m c t)) (ix2 r d : S512x1024.Idx)).trans (val_do m c t r d)

theorem apart10 : ∀ t t' : Fin cfg0.N, (cfg0.win 10).flush t = true → (cfg0.win 10).flush t' = true → t ≠ t' →
    Disjoint ((cfg0.win 10).blk t).view.set ((cfg0.win 10).blk t').view.set :=
  fun t t' f f' hne => (cfg0.win 10).disjoint_blk fun e => hne ((by decide +kernel : ∀ t t' : Fin grid0.N,
    win0_10.flush t = true → win0_10.flush t' = true → win0_10.index t = win0_10.index t' → t = t') t t' f f' e)

theorem final_sh (c : Dev nD) (b : Fin 2) (d : Fin 1024) :
    (dats m 0 c).arrAt 10 cfg0.N (ix3 b 0 d : S2x1x1024.Idx) = ∑ k : Fin 2048, shF m c d ⟨b.val * 2048 + k.val, by omega⟩ := by
  have t3 : 4 * b.val + 3 < cfg0.N := lt_N (by omega)
  have hf : (cfg0.win 10).flush ⟨4 * b.val + 3, t3⟩ = true :=
    (by decide +kernel : ∀ t : Fin grid0.N, t.val % 4 = 3 → win0_10.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 10 cfg0.N (ix3 z 0 d : S2x1x1024.Idx)) hb) ?_
  rw [← emb10 ⟨4 * b.val + 3, t3⟩ d]
  refine (congrFun (((dats m 0 c).read_blk_arrAt_eq_flushed 10 apart10 cfg0.N ⟨4 * b.val + 3, t3⟩ t3 hf).trans (Cert.Kernel9Ideal.Value.flushed10 m c ⟨4 * b.val + 3, t3⟩)) (ix3 0 0 d : S1x1x1024.Idx)).trans ?_
  rw [NormGrad.sum_sequence]
  exact (next_sh m c (4 * b.val + 2) (lt_N (by omega)) (by omega) d).trans (congrArg (fun z : EReal => z + _) ((next_sh m c (4 * b.val + 1) (lt_N (by omega)) (by omega) d).trans (congrArg (fun z : EReal => z + _) ((next_sh m c (4 * b.val) (lt_N (by omega)) (by omega) d).trans (congrArg (fun z : EReal => z + _) (first_sh m c (4 * b.val) (lt_N (by omega)) (by omega) d))))))

theorem apart11 : ∀ t t' : Fin cfg0.N, (cfg0.win 11).flush t = true → (cfg0.win 11).flush t' = true → t ≠ t' →
    Disjoint ((cfg0.win 11).blk t).view.set ((cfg0.win 11).blk t').view.set :=
  fun t t' f f' hne => (cfg0.win 11).disjoint_blk fun e => hne ((by decide +kernel : ∀ t t' : Fin grid0.N,
    win0_11.flush t = true → win0_11.flush t' = true → win0_11.index t = win0_11.index t' → t = t') t t' f f' e)

theorem final_sc (c : Dev nD) (b : Fin 2) (d : Fin 1024) :
    (dats m 0 c).arrAt 11 cfg0.N (ix3 b 0 d : S2x1x1024.Idx) = ∑ k : Fin 2048, scF m c d ⟨b.val * 2048 + k.val, by omega⟩ := by
  have t3 : 4 * b.val + 3 < cfg0.N := lt_N (by omega)
  have hf : (cfg0.win 11).flush ⟨4 * b.val + 3, t3⟩ = true :=
    (by decide +kernel : ∀ t : Fin grid0.N, t.val % 4 = 3 → win0_11.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 11 cfg0.N (ix3 z 0 d : S2x1x1024.Idx)) hb) ?_
  rw [← emb11 ⟨4 * b.val + 3, t3⟩ d]
  refine (congrFun (((dats m 0 c).read_blk_arrAt_eq_flushed 11 apart11 cfg0.N ⟨4 * b.val + 3, t3⟩ t3 hf).trans (Cert.Kernel9Ideal.Value.flushed11 m c ⟨4 * b.val + 3, t3⟩)) (ix3 0 0 d : S1x1x1024.Idx)).trans ?_
  rw [NormGrad.sum_sequence]
  exact (next_sc m c (4 * b.val + 2) (lt_N (by omega)) (by omega) d).trans (congrArg (fun z : EReal => z + _) ((next_sc m c (4 * b.val + 1) (lt_N (by omega)) (by omega) d).trans (congrArg (fun z : EReal => z + _) ((next_sc m c (4 * b.val) (lt_N (by omega)) (by omega) d).trans (congrArg (fun z : EReal => z + _) (first_sc m c (4 * b.val) (lt_N (by omega)) (by omega) d))))))

theorem apart12 : ∀ t t' : Fin cfg0.N, (cfg0.win 12).flush t = true → (cfg0.win 12).flush t' = true → t ≠ t' →
    Disjoint ((cfg0.win 12).blk t).view.set ((cfg0.win 12).blk t').view.set :=
  fun t t' f f' hne => (cfg0.win 12).disjoint_blk fun e => hne ((by decide +kernel : ∀ t t' : Fin grid0.N,
    win0_12.flush t = true → win0_12.flush t' = true → win0_12.index t = win0_12.index t' → t = t') t t' f f' e)

theorem final_gate (c : Dev nD) (b : Fin 2) (d : Fin 1024) :
    (dats m 0 c).arrAt 12 cfg0.N (ix3 b 0 d : S2x1x1024.Idx) = ∑ k : Fin 2048, gateF m c d ⟨b.val * 2048 + k.val, by omega⟩ := by
  have t3 : 4 * b.val + 3 < cfg0.N := lt_N (by omega)
  have hf : (cfg0.win 12).flush ⟨4 * b.val + 3, t3⟩ = true :=
    (by decide +kernel : ∀ t : Fin grid0.N, t.val % 4 = 3 → win0_12.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 12 cfg0.N (ix3 z 0 d : S2x1x1024.Idx)) hb) ?_
  rw [← emb12 ⟨4 * b.val + 3, t3⟩ d]
  refine (congrFun (((dats m 0 c).read_blk_arrAt_eq_flushed 12 apart12 cfg0.N ⟨4 * b.val + 3, t3⟩ t3 hf).trans (Cert.Kernel9Ideal.Value.flushed12 m c ⟨4 * b.val + 3, t3⟩)) (ix3 0 0 d : S1x1x1024.Idx)).trans ?_
  rw [NormGrad.sum_sequence]
  exact (next_gate m c (4 * b.val + 2) (lt_N (by omega)) (by omega) d).trans (congrArg (fun z : EReal => z + _) ((next_gate m c (4 * b.val + 1) (lt_N (by omega)) (by omega) d).trans (congrArg (fun z : EReal => z + _) ((next_gate m c (4 * b.val) (lt_N (by omega)) (by omega) d).trans (congrArg (fun z : EReal => z + _) (first_gate m c (4 * b.val) (lt_N (by omega)) (by omega) d))))))

theorem apart13 : ∀ t t' : Fin cfg0.N, (cfg0.win 13).flush t = true → (cfg0.win 13).flush t' = true → t ≠ t' →
    Disjoint ((cfg0.win 13).blk t).view.set ((cfg0.win 13).blk t').view.set :=
  fun t t' f f' hne => (cfg0.win 13).disjoint_blk fun e => hne ((by decide +kernel : ∀ t t' : Fin grid0.N,
    win0_13.flush t = true → win0_13.flush t' = true → win0_13.index t = win0_13.index t' → t = t') t t' f f' e)

def gAt (c : Dev nD) (d : Fin 1024) (n : ℕ) (hn : n < 8) : EReal := (outsAt0 m c n (lt_N hn)).2.2.2.2.2 (ix2 0 d : S1x1024.Idx)

theorem gAt_zero (c : Dev nD) (d : Fin 1024) (hn : 0 < 8) : gAt m c d 0 hn = NormGrad.part (gF m c d) 0 := by
  unfold gAt
  exact first_g m c _ d

theorem gAt_succ (c : Dev nD) (d : Fin 1024) (n : ℕ) (hn : n + 1 < 8) :
    gAt m c d (n + 1) hn = gAt m c d n (by omega) + NormGrad.part (gF m c d) ⟨n + 1, hn⟩ := by
  unfold gAt
  exact next_g m c n (lt_N hn) d

theorem gAt_last (c : Dev nD) (d : Fin 1024) (n : ℕ) (hn : n < 8) (e : n = 7) :
    gAt m c d n hn = ∑ p : Fin 2 × Fin 2048, gF m c d ⟨p.1.val * 2048 + p.2.val, by omega⟩ := by
  subst e
  rw [NormGrad.sum_rows]
  exact NormGrad.chain (gAt m c d) (NormGrad.part (gF m c d)) (gAt_zero m c d _) (gAt_succ m c d)

theorem all_g (c : Dev nD) (n : ℕ) (hn : n < cfg0.N) (e : n = 7) (d : Fin 1024) :
    (outsAt0 m c n hn).2.2.2.2.2 (ix2 0 d : S1x1024.Idx) = ∑ p : Fin 2 × Fin 2048, gF m c d ⟨p.1.val * 2048 + p.2.val, by omega⟩ := by
  rw [← gAt_last m c d n (lt_of_lt_of_eq hn N_0) e]
  unfold gAt
  rfl

theorem last_g (c : Dev nD) (t : Fin grid0.N) (e : t.val = 7) (d : Fin 1024) :
    (dats m 0 c).arrAt 13 cfg0.N (ix2 0 d : S1x1024.Idx) = ∑ p : Fin 2 × Fin 2048, gF m c d ⟨p.1.val * 2048 + p.2.val, by omega⟩ := by
  have hf : (cfg0.win 13).flush t = true := (by decide +kernel : ∀ t : Fin grid0.N, t.val = 7 → win0_13.flush t = true) t e
  rw [← emb13 t 0 d]
  refine (congrFun (((dats m 0 c).read_blk_arrAt_eq_flushed 13 apart13 cfg0.N t t.isLt hf).trans (Cert.Kernel9Ideal.Value.flushed13 m c t)) (ix2 0 d : S1x1024.Idx)).trans ?_
  exact all_g m c t.val t.isLt e d

theorem final_g (c : Dev nD) (d : Fin 1024) :
    (dats m 0 c).arrAt 13 cfg0.N (ix2 0 d : S1x1024.Idx) = ∑ p : Fin 2 × Fin 2048, gF m c d ⟨p.1.val * 2048 + p.2.val, by omega⟩ :=
  last_g m c ⟨7, lt_N (by omega)⟩ rfl d

end

end Cert.Proof.BwdNorm2

end
-- ==== Proof.BwdNorm2Ref.lean ====
/- The reference of the same gradients, and that the kernel gives what it gives. -/
module

public import proofs.«01_k».proof.Proof.Finite
public import proofs.«01_k».proof.Proof.Da
public import proofs.«01_k».proof.Proof.BwdNorm2

@[expose] public section

set_option maxRecDepth 16384

noncomputable section

namespace Cert.Proof.BwdNorm2

open Idealize.ShloMosaic Idealize.ShloMosaic.TcCoe Cert.Kernel9Ideal Cert.Kernel9Ideal.Gen Cert.Reference9Ideal.Read Pointwise

theorem bat_at (x : (⟨S2x1x1024, .f32⟩ : BufTy).Contents (Elt Ideal)) (b : Fin 2) (k : Fin 2048) (d : Fin 1024) :
    bat x ⟨b.val * 2048 + k.val, by omega⟩ d = x (ix3 b 0 d : S2x1x1024.Idx) := by
  have e : (⟨(b.val * 2048 + k.val) / 2048, by omega⟩ : Fin 2) = b := Fin.ext (by show (b.val * 2048 + k.val) / 2048 = b.val; omega)
  unfold bat
  rw [e]

theorem ref_dx (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x3 : (⟨S4096x1024, .f32⟩ : BufTy).Contents (Elt Ideal)) (x4 : (⟨S4096x1024, .bf16⟩ : BufTy).Contents (Elt Ideal)) (x5 : (⟨S2x1x1024, .f32⟩ : BufTy).Contents (Elt Ideal)) (x6 : (⟨S2x1x1024, .f32⟩ : BufTy).Contents (Elt Ideal)) (x7 : (⟨S1x1024, .f32⟩ : BufTy).Contents (Elt Ideal)) (r0 : ∀ i, ∃ r : ℝ, x0 i = (r : EReal)) (r1 : ∀ i, ∃ r : ℝ, x1 i = (r : EReal)) (r2 : ∀ i, ∃ r : ℝ, x2 i = (r : EReal)) (r4 : ∀ i, ∃ r : ℝ, x4 i = (r : EReal)) (r5 : ∀ i, ∃ r : ℝ, x5 i = (r : EReal)) (r6 : ∀ i, ∃ r : ℝ, x6 i = (r : EReal)) (r7 : ∀ i, ∃ r : ℝ, x7 i = (r : EReal)) (n : Fin 4096) (d : Fin 1024) :
    val_main_v75 (F := Ideal) x0 x1 x2 x3 x4 x5 x6 x7 (ix2 n d : S4096x1024.Idx) = NormGrad.dx (row x3 n d) (h x0 x1 n) (stream x2 x4 x6 n) (bat x5 n) (vec x7) d := by
  refine Eq.trans ?_ (NormGrad.dx_eq (row x3 n d) (h x0 x1 n) (stream x2 x4 x6 n) (bat x5 n) (vec x7) d (fun _ => (Da.real_sum _ _ (fun _ => r0 _) (fun _ => r1 _))) (fun _ => NormGrad.real_add (r2 _) (NormGrad.real_mul (r6 _) (r4 _))) (fun _ => r5 _) (fun _ => r7 _) _ rfl)
  simp only [← NormGrad.rs_eq, h, row, bat, vec, stream, rowo]
  pointwise [val_main_v0, val_main_v1, val_main_cst, val_main_v2, val_main_v3, val_main_v4, val_main_v5, val_main_v6, val_main_v7, val_main_v8, val_main_v9, val_main_v10, val_main_cst_0, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_cst_4, val_main_v26, val_main_v27, val_main_v28, val_main_v29, val_main_v30, val_main_v31, val_main_v32, val_main_v33, val_main_v34, val_main_v35, val_main_v36, val_main_v37, val_main_cst_5, val_main_v38, val_main_v39, val_main_v40, val_main_cst_6, val_main_v41, val_main_v42, val_main_v43, val_main_v44, val_main_v45, val_main_cst_7, val_main_v46, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_v63, val_main_v64, val_main_v65, val_main_v66, val_main_v67, val_main_v68, val_main_v69, val_main_v70, val_main_v71, val_main_cst_12, val_main_v72, val_main_v73, val_main_v74, val_main_v75, val_main_v76]
  simp only [Fin.sum_univ_one]

theorem ref_do (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x3 : (⟨S4096x1024, .f32⟩ : BufTy).Contents (Elt Ideal)) (x4 : (⟨S4096x1024, .bf16⟩ : BufTy).Contents (Elt Ideal)) (x5 : (⟨S2x1x1024, .f32⟩ : BufTy).Contents (Elt Ideal)) (x6 : (⟨S2x1x1024, .f32⟩ : BufTy).Contents (Elt Ideal)) (x7 : (⟨S1x1024, .f32⟩ : BufTy).Contents (Elt Ideal)) (r0 : ∀ i, ∃ r : ℝ, x0 i = (r : EReal)) (r1 : ∀ i, ∃ r : ℝ, x1 i = (r : EReal)) (r2 : ∀ i, ∃ r : ℝ, x2 i = (r : EReal)) (r4 : ∀ i, ∃ r : ℝ, x4 i = (r : EReal)) (r5 : ∀ i, ∃ r : ℝ, x5 i = (r : EReal)) (r6 : ∀ i, ∃ r : ℝ, x6 i = (r : EReal)) (r7 : ∀ i, ∃ r : ℝ, x7 i = (r : EReal)) (n : Fin 4096) (d : Fin 1024) :
    val_main_v76 (F := Ideal) x0 x1 x2 x3 x4 x5 x6 x7 (ix2 n d : S4096x1024.Idx) = bat x6 n d * NormGrad.dx (row x3 n d) (h x0 x1 n) (stream x2 x4 x6 n) (bat x5 n) (vec x7) d := by
  refine Eq.trans ?_ (congrArg (fun z : EReal => bat x6 n d * z) (NormGrad.dx_eq (row x3 n d) (h x0 x1 n) (stream x2 x4 x6 n) (bat x5 n) (vec x7) d (fun _ => (Da.real_sum _ _ (fun _ => r0 _) (fun _ => r1 _))) (fun _ => NormGrad.real_add (r2 _) (NormGrad.real_mul (r6 _) (r4 _))) (fun _ => r5 _) (fun _ => r7 _) _ rfl))
  simp only [← NormGrad.rs_eq, h, row, bat, vec, stream, rowo]
  pointwise [val_main_v0, val_main_v1, val_main_cst, val_main_v2, val_main_v3, val_main_v4, val_main_v5, val_main_v6, val_main_v7, val_main_v8, val_main_v9, val_main_v10, val_main_cst_0, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_cst_4, val_main_v26, val_main_v27, val_main_v28, val_main_v29, val_main_v30, val_main_v31, val_main_v32, val_main_v33, val_main_v34, val_main_v35, val_main_v36, val_main_v37, val_main_cst_5, val_main_v38, val_main_v39, val_main_v40, val_main_cst_6, val_main_v41, val_main_v42, val_main_v43, val_main_v44, val_main_v45, val_main_cst_7, val_main_v46, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_v63, val_main_v64, val_main_v65, val_main_v66, val_main_v67, val_main_v68, val_main_v69, val_main_v70, val_main_v71, val_main_cst_12, val_main_v72, val_main_v73, val_main_v74, val_main_v75, val_main_v76]
  simp only [Fin.sum_univ_one]

theorem ref_sh (x0 : (⟨S4096x5632, .bf16⟩ : BufTy).Contents (Elt Ideal)) (x1 : (⟨S5632x1024, .bf16⟩ : BufTy).Contents (Elt Ideal)) (b : Fin 2) (d : Fin 1024) :
    val_main_v39 (F := Ideal) x0 x1 (ix3 b 0 d : S2x1x1024.Idx) = ∑ k : Fin 2048, h x0 x1 ⟨b.val * 2048 + k.val, by omega⟩ d := by
  simp only [h]
  pointwise [val_main_v0, val_main_v1, val_main_cst, val_main_v2, val_main_v3, val_main_v4, val_main_v5, val_main_v6, val_main_v7, val_main_v8, val_main_v9, val_main_v10, val_main_cst_0, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_cst_4, val_main_v26, val_main_v27, val_main_v28, val_main_v29, val_main_v30, val_main_v31, val_main_v32, val_main_v33, val_main_v34, val_main_v35, val_main_v36, val_main_v37, val_main_cst_5, val_main_v38, val_main_v39, val_main_v40, val_main_cst_6, val_main_v41, val_main_v42, val_main_v43, val_main_v44, val_main_v45, val_main_cst_7, val_main_v46, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_v63, val_main_v64, val_main_v65, val_main_v66, val_main_v67, val_main_v68, val_main_v69, val_main_v70, val_main_v71, val_main_cst_12, val_main_v72, val_main_v73, val_main_v74, val_main_v75, val_main_v76]

theorem ref_sc (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x4 : (⟨S4096x1024, .bf16⟩ : BufTy).Contents (Elt Ideal)) (x6 : (⟨S2x1x1024, .f32⟩ : BufTy).Contents (Elt Ideal)) (x7 : (⟨S1x1024, .f32⟩ : BufTy).Contents (Elt Ideal)) (b : Fin 2) (d : Fin 1024) :
    val_main_v42 (F := Ideal) x0 x1 x2 x4 x6 x7 (ix3 b 0 d : S2x1x1024.Idx) = ∑ k : Fin 2048, NormGrad.ds (h x0 x1 ⟨b.val * 2048 + k.val, by omega⟩) (stream x2 x4 x6 ⟨b.val * 2048 + k.val, by omega⟩) (vec x7) d := by
  refine Eq.trans ?_ (Finset.sum_congr rfl fun k _ => mul_comm _ _)
  simp only [← NormGrad.rs_eq, h, row, vec, stream, rowo, bat_at]
  pointwise [val_main_v0, val_main_v1, val_main_cst, val_main_v2, val_main_v3, val_main_v4, val_main_v5, val_main_v6, val_main_v7, val_main_v8, val_main_v9, val_main_v10, val_main_cst_0, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_cst_4, val_main_v26, val_main_v27, val_main_v28, val_main_v29, val_main_v30, val_main_v31, val_main_v32, val_main_v33, val_main_v34, val_main_v35, val_main_v36, val_main_v37, val_main_cst_5, val_main_v38, val_main_v39, val_main_v40, val_main_cst_6, val_main_v41, val_main_v42, val_main_v43, val_main_v44, val_main_v45, val_main_cst_7, val_main_v46, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_v63, val_main_v64, val_main_v65, val_main_v66, val_main_v67, val_main_v68, val_main_v69, val_main_v70, val_main_v71, val_main_cst_12, val_main_v72, val_main_v73, val_main_v74, val_main_v75, val_main_v76]

theorem ref_gate (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x3 : (⟨S4096x1024, .f32⟩ : BufTy).Contents (Elt Ideal)) (x4 : (⟨S4096x1024, .bf16⟩ : BufTy).Contents (Elt Ideal)) (x5 : (⟨S2x1x1024, .f32⟩ : BufTy).Contents (Elt Ideal)) (x6 : (⟨S2x1x1024, .f32⟩ : BufTy).Contents (Elt Ideal)) (x7 : (⟨S1x1024, .f32⟩ : BufTy).Contents (Elt Ideal)) (r0 : ∀ i, ∃ r : ℝ, x0 i = (r : EReal)) (r1 : ∀ i, ∃ r : ℝ, x1 i = (r : EReal)) (r2 : ∀ i, ∃ r : ℝ, x2 i = (r : EReal)) (r4 : ∀ i, ∃ r : ℝ, x4 i = (r : EReal)) (r5 : ∀ i, ∃ r : ℝ, x5 i = (r : EReal)) (r6 : ∀ i, ∃ r : ℝ, x6 i = (r : EReal)) (r7 : ∀ i, ∃ r : ℝ, x7 i = (r : EReal)) (b : Fin 2) (d : Fin 1024) :
    val_main_v73 (F := Ideal) x0 x1 x2 x3 x4 x5 x6 x7 (ix3 b 0 d : S2x1x1024.Idx) = ∑ k : Fin 2048, NormGrad.dx (row x3 ⟨b.val * 2048 + k.val, by omega⟩ d) (h x0 x1 ⟨b.val * 2048 + k.val, by omega⟩) (stream x2 x4 x6 ⟨b.val * 2048 + k.val, by omega⟩) (bat x5 ⟨b.val * 2048 + k.val, by omega⟩) (vec x7) d * rowo x4 ⟨b.val * 2048 + k.val, by omega⟩ d := by
  refine Eq.trans ?_ (Finset.sum_congr rfl fun k _ => congrArg (fun z : EReal => z * rowo x4 ⟨b.val * 2048 + k.val, by omega⟩ d) (NormGrad.dx_eq (row x3 ⟨b.val * 2048 + k.val, by omega⟩ d) (h x0 x1 ⟨b.val * 2048 + k.val, by omega⟩) (stream x2 x4 x6 ⟨b.val * 2048 + k.val, by omega⟩) (bat x5 ⟨b.val * 2048 + k.val, by omega⟩) (vec x7) d (fun _ => (Da.real_sum _ _ (fun _ => r0 _) (fun _ => r1 _))) (fun _ => NormGrad.real_add (r2 _) (NormGrad.real_mul (r6 _) (r4 _))) (fun _ => r5 _) (fun _ => r7 _) _ rfl))
  simp only [← NormGrad.rs_eq, h, row, bat_at, vec, stream, rowo]
  pointwise [val_main_v0, val_main_v1, val_main_cst, val_main_v2, val_main_v3, val_main_v4, val_main_v5, val_main_v6, val_main_v7, val_main_v8, val_main_v9, val_main_v10, val_main_cst_0, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_cst_4, val_main_v26, val_main_v27, val_main_v28, val_main_v29, val_main_v30, val_main_v31, val_main_v32, val_main_v33, val_main_v34, val_main_v35, val_main_v36, val_main_v37, val_main_cst_5, val_main_v38, val_main_v39, val_main_v40, val_main_cst_6, val_main_v41, val_main_v42, val_main_v43, val_main_v44, val_main_v45, val_main_cst_7, val_main_v46, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_v63, val_main_v64, val_main_v65, val_main_v66, val_main_v67, val_main_v68, val_main_v69, val_main_v70, val_main_v71, val_main_cst_12, val_main_v72, val_main_v73, val_main_v74, val_main_v75, val_main_v76]
  simp only [Fin.sum_univ_one]

theorem term_g (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x4 : (⟨S4096x1024, .bf16⟩ : BufTy).Contents (Elt Ideal)) (x5 : (⟨S2x1x1024, .f32⟩ : BufTy).Contents (Elt Ideal)) (x6 : (⟨S2x1x1024, .f32⟩ : BufTy).Contents (Elt Ideal)) (b : Fin 2) (k : Fin 2048) (d : Fin 1024) :
    val_main_v45 (F := Ideal) x0 x1 x2 x4 x5 x6 (ix3 b k d) = NormGrad.dg (h x0 x1 ⟨b.val * 2048 + k.val, by omega⟩) (stream x2 x4 x6 ⟨b.val * 2048 + k.val, by omega⟩) (bat x5 ⟨b.val * 2048 + k.val, by omega⟩) d := by
  refine Eq.trans ?_ (mul_comm _ _)
  simp only [← NormGrad.rs_eq, h, row, bat_at, vec, stream, rowo]
  pointwise [val_main_v0, val_main_v1, val_main_cst, val_main_v2, val_main_v3, val_main_v4, val_main_v5, val_main_v6, val_main_v7, val_main_v8, val_main_v9, val_main_v10, val_main_cst_0, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_cst_4, val_main_v26, val_main_v27, val_main_v28, val_main_v29, val_main_v30, val_main_v31, val_main_v32, val_main_v33, val_main_v34, val_main_v35, val_main_v36, val_main_v37, val_main_cst_5, val_main_v38, val_main_v39, val_main_v40, val_main_cst_6, val_main_v41, val_main_v42, val_main_v43, val_main_v44, val_main_v45, val_main_cst_7, val_main_v46, val_main_v47, val_main_v48, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_v61, val_main_v62, val_main_v63, val_main_v64, val_main_v65, val_main_v66, val_main_v67, val_main_v68, val_main_v69, val_main_v70, val_main_v71, val_main_cst_12, val_main_v72, val_main_v73, val_main_v74, val_main_v75, val_main_v76]

theorem ref_g (x0 : (⟨S4096x5632, .bf16⟩ : BufTy).Contents (Elt Ideal)) (x1 : (⟨S5632x1024, .bf16⟩ : BufTy).Contents (Elt Ideal)) (x2 : (⟨S4096x1024, .f32⟩ : BufTy).Contents (Elt Ideal)) (x4 : (⟨S4096x1024, .bf16⟩ : BufTy).Contents (Elt Ideal)) (x5 : (⟨S2x1x1024, .f32⟩ : BufTy).Contents (Elt Ideal)) (x6 : (⟨S2x1x1024, .f32⟩ : BufTy).Contents (Elt Ideal)) (d : Fin 1024) :
    val_main_v51 (F := Ideal) x0 x1 x2 x4 x5 x6 (ix2 0 d : S1x1024.Idx) = ∑ p : Fin 2 × Fin 2048, NormGrad.dg (h x0 x1 ⟨p.1.val * 2048 + p.2.val, by omega⟩) (stream x2 x4 x6 ⟨p.1.val * 2048 + p.2.val, by omega⟩) (bat x5 ⟨p.1.val * 2048 + p.2.val, by omega⟩) d := by
  pointwise [val_main_v51, val_main_v50, val_main_cst_8]
  rw [NormGrad.reduce_two, zero_add, Fintype.sum_prod_type, Fin.sum_univ_one, Fin.sum_univ_one]
  pointwise [val_main_v47, val_main_v46, val_main_cst_7]
  rw [NormGrad.reduce_two, zero_add]
  exact Finset.sum_congr rfl fun p _ => term_g _ _ _ _ _ _ p.1 p.2 d

theorem equal_dx (m : (ℓ : Loc nD τ sig) → Buf (Elt Ideal) ℓ) (c : Dev nD) (r0 : ∀ i, ∃ r : ℝ, (m ((c : Thread nD τ).loc main_arg0)) i = (r : EReal)) (r1 : ∀ i, ∃ r : ℝ, (m ((c : Thread nD τ).loc main_arg1)) i = (r : EReal)) (r2 : ∀ i, ∃ r : ℝ, (m ((c : Thread nD τ).loc main_arg2)) i = (r : EReal)) (r4 : ∀ i, ∃ r : ℝ, (m ((c : Thread nD τ).loc main_arg4)) i = (r : EReal)) (r5 : ∀ i, ∃ r : ℝ, (m ((c : Thread nD τ).loc main_arg5)) i = (r : EReal)) (r6 : ∀ i, ∃ r : ℝ, (m ((c : Thread nD τ).loc main_arg6)) i = (r : EReal)) (r7 : ∀ i, ∃ r : ℝ, (m ((c : Thread nD τ).loc main_arg7)) i = (r : EReal)) :
    (dats m 0 c).arrAt 8 cfg0.N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext y
  obtain ⟨n, d, rfl⟩ := NormGrad.two_axes y
  exact (final_dx m c n d).trans (ref_dx _ _ _ _ _ _ _ _ r0 r1 r2 r4 r5 r6 r7 n d).symm

theorem equal_do (m : (ℓ : Loc nD τ sig) → Buf (Elt Ideal) ℓ) (c : Dev nD) (r0 : ∀ i, ∃ r : ℝ, (m ((c : Thread nD τ).loc main_arg0)) i = (r : EReal)) (r1 : ∀ i, ∃ r : ℝ, (m ((c : Thread nD τ).loc main_arg1)) i = (r : EReal)) (r2 : ∀ i, ∃ r : ℝ, (m ((c : Thread nD τ).loc main_arg2)) i = (r : EReal)) (r4 : ∀ i, ∃ r : ℝ, (m ((c : Thread nD τ).loc main_arg4)) i = (r : EReal)) (r5 : ∀ i, ∃ r : ℝ, (m ((c : Thread nD τ).loc main_arg5)) i = (r : EReal)) (r6 : ∀ i, ∃ r : ℝ, (m ((c : Thread nD τ).loc main_arg6)) i = (r : EReal)) (r7 : ∀ i, ∃ r : ℝ, (m ((c : Thread nD τ).loc main_arg7)) i = (r : EReal)) :
    (dats m 0 c).arrAt 9 cfg0.N = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext y
  obtain ⟨n, d, rfl⟩ := NormGrad.two_axes y
  exact (final_do m c n d).trans (ref_do _ _ _ _ _ _ _ _ r0 r1 r2 r4 r5 r6 r7 n d).symm

theorem equal_sh (m : (ℓ : Loc nD τ sig) → Buf (Elt Ideal) ℓ) (c : Dev nD) :
    (dats m 0 c).arrAt 10 cfg0.N = val_main_v39 (F := Ideal) (m ((c : Thread nD τ).loc main_arg0)) (m ((c : Thread nD τ).loc main_arg1)) := by
  funext y
  obtain ⟨b, d, rfl⟩ := NormGrad.three_axes y
  exact (final_sh m c b d).trans (ref_sh _ _ b d).symm

theorem equal_sc (m : (ℓ : Loc nD τ sig) → Buf (Elt Ideal) ℓ) (c : Dev nD) :
    (dats m 0 c).arrAt 11 cfg0.N = val_main_v42 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) := by
  funext y
  obtain ⟨b, d, rfl⟩ := NormGrad.three_axes y
  exact (final_sc m c b d).trans (ref_sc _ _ _ _ _ _ b d).symm

theorem equal_gate (m : (ℓ : Loc nD τ sig) → Buf (Elt Ideal) ℓ) (c : Dev nD) (r0 : ∀ i, ∃ r : ℝ, (m ((c : Thread nD τ).loc main_arg0)) i = (r : EReal)) (r1 : ∀ i, ∃ r : ℝ, (m ((c : Thread nD τ).loc main_arg1)) i = (r : EReal)) (r2 : ∀ i, ∃ r : ℝ, (m ((c : Thread nD τ).loc main_arg2)) i = (r : EReal)) (r4 : ∀ i, ∃ r : ℝ, (m ((c : Thread nD τ).loc main_arg4)) i = (r : EReal)) (r5 : ∀ i, ∃ r : ℝ, (m ((c : Thread nD τ).loc main_arg5)) i = (r : EReal)) (r6 : ∀ i, ∃ r : ℝ, (m ((c : Thread nD τ).loc main_arg6)) i = (r : EReal)) (r7 : ∀ i, ∃ r : ℝ, (m ((c : Thread nD τ).loc main_arg7)) i = (r : EReal)) :
    (dats m 0 c).arrAt 12 cfg0.N = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext y
  obtain ⟨b, d, rfl⟩ := NormGrad.three_axes y
  exact (final_gate m c b d).trans (ref_gate _ _ _ _ _ _ _ _ r0 r1 r2 r4 r5 r6 r7 b d).symm

theorem equal_g (m : (ℓ : Loc nD τ sig) → Buf (Elt Ideal) ℓ) (c : Dev nD) :
    (dats m 0 c).arrAt 13 cfg0.N = val_main_v51 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  funext y
  obtain ⟨z, d, rfl⟩ := NormGrad.two_axes y
  obtain rfl : z = 0 := by omega
  exact (final_g m c d).trans (ref_g _ _ _ _ _ _ d).symm

end Cert.Proof.BwdNorm2

end
-- ==== Proof.Out.lean ====
/- The end of a feed-forward block of the forward pass: the product with the outgoing weights, the gated step of the
   stream, and the next block's normed and modulated input. Grid point n of 8 computes rows 512 n to 512 n + 511; the first
   four points are the first sequence's, the last four the second's. -/
module

public import proofs.«01_k».proof.Proof.Gen.Kernel10Ideal.Value
public import proofs.«01_k».proof.Proof.Gen.Reference10Ideal.Read
public import Idealize.ShloMosaic.Lib.Pointwise
public import proofs.«01_k».proof.Proof.Norm

@[expose] public section

set_option maxRecDepth 16384

noncomputable section

namespace Cert.Proof.Out

open Idealize.ShloMosaic Idealize.ShloMosaic.TcCoe Cert.Kernel10Ideal Cert.Kernel10Ideal.Gen Pointwise

/-- Every index of the result lies in one block. -/
theorem split_index (y : S4096x1024.Idx) : ∃ (i : Fin 8) (j : Fin 1) (r : Fin 512) (d : Fin 1024),
    y = ix2 ⟨i.val * 512 + r.val, by omega⟩ ⟨j.val * 1024 + d.val, by omega⟩ := by
  have h0 : (y 0).val < 4096 := (y 0).isLt
  have h1 : (y 1).val < 1024 := (y 1).isLt
  refine ⟨⟨(y 0).val / 512, by omega⟩, ⟨(y 1).val / 1024, by omega⟩, ⟨(y 0).val % 512, by omega⟩,
    ⟨(y 1).val % 1024, by omega⟩, ?_⟩
  funext a
  refine Fin.ext ?_
  match a with
  | ⟨0, _⟩ => show (y 0).val = (y 0).val / 512 * 512 + (y 0).val % 512; omega
  | ⟨1, _⟩ => show (y 1).val = (y 1).val / 1024 * 1024 + (y 1).val % 1024; omega

/-- Some grid point works on rows 512 n to 512 n + 511. -/
theorem point_of : ∀ n : Fin 8, ∃ t : Fin grid0.N, cc0_transform_0 (grid0.coords t) = ![n.val, 0] ∧
    cc0_transform_1 (grid0.coords t) = ![n.val, 0] ∧ cc0_transform_2 (grid0.coords t) = ![n.val / 4, 0, 0] ∧
    cc0_transform_3 (grid0.coords t) = ![n.val / 4, 0, 0] ∧ cc0_transform_4 (grid0.coords t) = ![n.val / 4, 0, 0] ∧
    cc0_transform_5 (grid0.coords t) = ![0, 0] ∧ cc0_transform_6 (grid0.coords t) = ![0, 0] ∧
    cc0_transform_7 (grid0.coords t) = ![n.val, 0] ∧ cc0_transform_8 (grid0.coords t) = ![n.val, 0] ∧
    cc0_transform_9 (grid0.coords t) = ![n.val, 0] := by
  decide +kernel

/-- Window 0: entry (r, d) of block (p, q) is entry (p 512 + r, q 2816 + d) of the array. -/
theorem emb0 (t : Fin grid0.N) (p q : ℕ) (ht : cc0_transform_0 (grid0.coords t) = ![p, q])
    (r : Fin 512) (d : Fin 2816) (hr : p * 512 + r.val < 4096) (hd : q * 2816 + d.val < 2816) :
    ((cfg0.win 0).blk t).view.emb (ix2 r d : S512x2816.Idx) =
      (ix2 ⟨p * 512 + r.val, hr⟩ ⟨q * 2816 + d.val, hd⟩ : S4096x2816.Idx) := by
  have h0 : win0_0.index t (0 : Fin 2) = p := congrFun ht 0
  have h1 : win0_0.index t (1 : Fin 2) = q := congrFun ht 1
  funext a
  refine Fin.ext ?_
  match a with
  | ⟨0, _⟩ => show win0_0.index t (0 : Fin 2) * 512 + 1 * r.val = p * 512 + r.val; rw [h0, Nat.one_mul]
  | ⟨1, _⟩ => show win0_0.index t (1 : Fin 2) * 2816 + 1 * d.val = q * 2816 + d.val; rw [h1, Nat.one_mul]

theorem read0 (f : (⟨S4096x2816, .bf16⟩ : BufTy).Contents (Elt Ideal)) (t : Fin grid0.N) (p q : ℕ)
    (ht : cc0_transform_0 (grid0.coords t) = ![p, q]) (r : Fin 512) (d : Fin 2816)
    (hr : p * 512 + r.val < 4096) (hd : q * 2816 + d.val < 2816) :
    ((cfg0.win 0).blk t).view.read (Elt Ideal) f (ix2 r d : S512x2816.Idx) =
      f (ix2 ⟨p * 512 + r.val, hr⟩ ⟨q * 2816 + d.val, hd⟩ : S4096x2816.Idx) := by
  show f (((cfg0.win 0).blk t).view.emb (ix2 r d : S512x2816.Idx)) = _
  rw [emb0 t p q ht r d hr hd]

/-- Window 1: entry (r, d) of block (p, q) is entry (p 512 + r, q 1024 + d) of the array. -/
theorem emb1 (t : Fin grid0.N) (p q : ℕ) (ht : cc0_transform_1 (grid0.coords t) = ![p, q])
    (r : Fin 512) (d : Fin 1024) (hr : p * 512 + r.val < 4096) (hd : q * 1024 + d.val < 1024) :
    ((cfg0.win 1).blk t).view.emb (ix2 r d : S512x1024.Idx) =
      (ix2 ⟨p * 512 + r.val, hr⟩ ⟨q * 1024 + d.val, hd⟩ : S4096x1024.Idx) := by
  have h0 : win0_1.index t (0 : Fin 2) = p := congrFun ht 0
  have h1 : win0_1.index t (1 : Fin 2) = q := congrFun ht 1
  funext a
  refine Fin.ext ?_
  match a with
  | ⟨0, _⟩ => show win0_1.index t (0 : Fin 2) * 512 + 1 * r.val = p * 512 + r.val; rw [h0, Nat.one_mul]
  | ⟨1, _⟩ => show win0_1.index t (1 : Fin 2) * 1024 + 1 * d.val = q * 1024 + d.val; rw [h1, Nat.one_mul]

theorem read1 (f : (⟨S4096x1024, .f32⟩ : BufTy).Contents (Elt Ideal)) (t : Fin grid0.N) (p q : ℕ)
    (ht : cc0_transform_1 (grid0.coords t) = ![p, q]) (r : Fin 512) (d : Fin 1024)
    (hr : p * 512 + r.val < 4096) (hd : q * 1024 + d.val < 1024) :
    ((cfg0.win 1).blk t).view.read (Elt Ideal) f (ix2 r d : S512x1024.Idx) =
      f (ix2 ⟨p * 512 + r.val, hr⟩ ⟨q * 1024 + d.val, hd⟩ : S4096x1024.Idx) := by
  show f (((cfg0.win 1).blk t).view.emb (ix2 r d : S512x1024.Idx)) = _
  rw [emb1 t p q ht r d hr hd]

/-- Window 2: block p is row p of the array. -/
theorem emb2 (t : Fin grid0.N) (p : ℕ) (ht : cc0_transform_2 (grid0.coords t) = ![p, 0, 0]) (d : Fin 1024) (hp : p < 2) :
    ((cfg0.win 2).blk t).view.emb (ix3 0 0 d : S1x1x1024.Idx) = (ix3 ⟨p, hp⟩ 0 d : S2x1x1024.Idx) := by
  have h0 : win0_2.index t (0 : Fin 3) = p := congrFun ht 0
  have h1 : win0_2.index t (1 : Fin 3) = 0 := congrFun ht 1
  have h2 : win0_2.index t (2 : Fin 3) = 0 := congrFun ht 2
  funext a
  refine Fin.ext ?_
  match a with
  | ⟨0, _⟩ => show win0_2.index t (0 : Fin 3) * 1 + 1 * 0 = p; rw [h0]; omega
  | ⟨1, _⟩ => show win0_2.index t (1 : Fin 3) * 1 + 1 * 0 = 0; rw [h1]
  | ⟨2, _⟩ => show win0_2.index t (2 : Fin 3) * 1024 + 1 * d.val = d.val; rw [h2]; omega

theorem read2 (f : (⟨S2x1x1024, .f32⟩ : BufTy).Contents (Elt Ideal)) (t : Fin grid0.N) (p : ℕ)
    (ht : cc0_transform_2 (grid0.coords t) = ![p, 0, 0]) (d : Fin 1024) (hp : p < 2) :
    ((cfg0.win 2).blk t).view.read (Elt Ideal) f (ix3 0 0 d : S1x1x1024.Idx) = f (ix3 ⟨p, hp⟩ 0 d : S2x1x1024.Idx) := by
  show f (((cfg0.win 2).blk t).view.emb (ix3 0 0 d : S1x1x1024.Idx)) = _
  rw [emb2 t p ht d hp]

/-- Window 3: block p is row p of the array. -/
theorem emb3 (t : Fin grid0.N) (p : ℕ) (ht : cc0_transform_3 (grid0.coords t) = ![p, 0, 0]) (d : Fin 1024) (hp : p < 2) :
    ((cfg0.win 3).blk t).view.emb (ix3 0 0 d : S1x1x1024.Idx) = (ix3 ⟨p, hp⟩ 0 d : S2x1x1024.Idx) := by
  have h0 : win0_3.index t (0 : Fin 3) = p := congrFun ht 0
  have h1 : win0_3.index t (1 : Fin 3) = 0 := congrFun ht 1
  have h2 : win0_3.index t (2 : Fin 3) = 0 := congrFun ht 2
  funext a
  refine Fin.ext ?_
  match a with
  | ⟨0, _⟩ => show win0_3.index t (0 : Fin 3) * 1 + 1 * 0 = p; rw [h0]; omega
  | ⟨1, _⟩ => show win0_3.index t (1 : Fin 3) * 1 + 1 * 0 = 0; rw [h1]
  | ⟨2, _⟩ => show win0_3.index t (2 : Fin 3) * 1024 + 1 * d.val = d.val; rw [h2]; omega

theorem read3 (f : (⟨S2x1x1024, .f32⟩ : BufTy).Contents (Elt Ideal)) (t : Fin grid0.N) (p : ℕ)
    (ht : cc0_transform_3 (grid0.coords t) = ![p, 0, 0]) (d : Fin 1024) (hp : p < 2) :
    ((cfg0.win 3).blk t).view.read (Elt Ideal) f (ix3 0 0 d : S1x1x1024.Idx) = f (ix3 ⟨p, hp⟩ 0 d : S2x1x1024.Idx) := by
  show f (((cfg0.win 3).blk t).view.emb (ix3 0 0 d : S1x1x1024.Idx)) = _
  rw [emb3 t p ht d hp]

/-- Window 4: block p is row p of the array. -/
theorem emb4 (t : Fin grid0.N) (p : ℕ) (ht : cc0_transform_4 (grid0.coords t) = ![p, 0, 0]) (d : Fin 1024) (hp : p < 2) :
    ((cfg0.win 4).blk t).view.emb (ix3 0 0 d : S1x1x1024.Idx) = (ix3 ⟨p, hp⟩ 0 d : S2x1x1024.Idx) := by
  have h0 : win0_4.index t (0 : Fin 3) = p := congrFun ht 0
  have h1 : win0_4.index t (1 : Fin 3) = 0 := congrFun ht 1
  have h2 : win0_4.index t (2 : Fin 3) = 0 := congrFun ht 2
  funext a
  refine Fin.ext ?_
  match a with
  | ⟨0, _⟩ => show win0_4.index t (0 : Fin 3) * 1 + 1 * 0 = p; rw [h0]; omega
  | ⟨1, _⟩ => show win0_4.index t (1 : Fin 3) * 1 + 1 * 0 = 0; rw [h1]
  | ⟨2, _⟩ => show win0_4.index t (2 : Fin 3) * 1024 + 1 * d.val = d.val; rw [h2]; omega

theorem read4 (f : (⟨S2x1x1024, .f32⟩ : BufTy).Contents (Elt Ideal)) (t : Fin grid0.N) (p : ℕ)
    (ht : cc0_transform_4 (grid0.coords t) = ![p, 0, 0]) (d : Fin 1024) (hp : p < 2) :
    ((cfg0.win 4).blk t).view.read (Elt Ideal) f (ix3 0 0 d : S1x1x1024.Idx) = f (ix3 ⟨p, hp⟩ 0 d : S2x1x1024.Idx) := by
  show f (((cfg0.win 4).blk t).view.emb (ix3 0 0 d : S1x1x1024.Idx)) = _
  rw [emb4 t p ht d hp]

/-- Window 5: entry (r, d) of block (p, q) is entry (p 1 + r, q 1024 + d) of the array. -/
theorem emb5 (t : Fin grid0.N) (p q : ℕ) (ht : cc0_transform_5 (grid0.coords t) = ![p, q])
    (r : Fin 1) (d : Fin 1024) (hr : p * 1 + r.val < 1) (hd : q * 1024 + d.val < 1024) :
    ((cfg0.win 5).blk t).view.emb (ix2 r d : S1x1024.Idx) =
      (ix2 ⟨p * 1 + r.val, hr⟩ ⟨q * 1024 + d.val, hd⟩ : S1x1024.Idx) := by
  have h0 : win0_5.index t (0 : Fin 2) = p := congrFun ht 0
  have h1 : win0_5.index t (1 : Fin 2) = q := congrFun ht 1
  funext a
  refine Fin.ext ?_
  match a with
  | ⟨0, _⟩ => show win0_5.index t (0 : Fin 2) * 1 + 1 * r.val = p * 1 + r.val; rw [h0, Nat.one_mul]
  | ⟨1, _⟩ => show win0_5.index t (1 : Fin 2) * 1024 + 1 * d.val = q * 1024 + d.val; rw [h1, Nat.one_mul]

theorem read5 (f : (⟨S1x1024, .f32⟩ : BufTy).Contents (Elt Ideal)) (t : Fin grid0.N) (p q : ℕ)
    (ht : cc0_transform_5 (grid0.coords t) = ![p, q]) (r : Fin 1) (d : Fin 1024)
    (hr : p * 1 + r.val < 1) (hd : q * 1024 + d.val < 1024) :
    ((cfg0.win 5).blk t).view.read (Elt Ideal) f (ix2 r d : S1x1024.Idx) =
      f (ix2 ⟨p * 1 + r.val, hr⟩ ⟨q * 1024 + d.val, hd⟩ : S1x1024.Idx) := by
  show f (((cfg0.win 5).blk t).view.emb (ix2 r d : S1x1024.Idx)) = _
  rw [emb5 t p q ht r d hr hd]

/-- Window 6: entry (r, d) of block (p, q) is entry (p 2816 + r, q 1024 + d) of the array. -/
theorem emb6 (t : Fin grid0.N) (p q : ℕ) (ht : cc0_transform_6 (grid0.coords t) = ![p, q])
    (r : Fin 2816) (d : Fin 1024) (hr : p * 2816 + r.val < 2816) (hd : q * 1024 + d.val < 1024) :
    ((cfg0.win 6).blk t).view.emb (ix2 r d : S2816x1024.Idx) =
      (ix2 ⟨p * 2816 + r.val, hr⟩ ⟨q * 1024 + d.val, hd⟩ : S2816x1024.Idx) := by
  have h0 : win0_6.index t (0 : Fin 2) = p := congrFun ht 0
  have h1 : win0_6.index t (1 : Fin 2) = q := congrFun ht 1
  funext a
  refine Fin.ext ?_
  match a with
  | ⟨0, _⟩ => show win0_6.index t (0 : Fin 2) * 2816 + 1 * r.val = p * 2816 + r.val; rw [h0, Nat.one_mul]
  | ⟨1, _⟩ => show win0_6.index t (1 : Fin 2) * 1024 + 1 * d.val = q * 1024 + d.val; rw [h1, Nat.one_mul]

theorem read6 (f : (⟨S2816x1024, .bf16⟩ : BufTy).Contents (Elt Ideal)) (t : Fin grid0.N) (p q : ℕ)
    (ht : cc0_transform_6 (grid0.coords t) = ![p, q]) (r : Fin 2816) (d : Fin 1024)
    (hr : p * 2816 + r.val < 2816) (hd : q * 1024 + d.val < 1024) :
    ((cfg0.win 6).blk t).view.read (Elt Ideal) f (ix2 r d : S2816x1024.Idx) =
      f (ix2 ⟨p * 2816 + r.val, hr⟩ ⟨q * 1024 + d.val, hd⟩ : S2816x1024.Idx) := by
  show f (((cfg0.win 6).blk t).view.emb (ix2 r d : S2816x1024.Idx)) = _
  rw [emb6 t p q ht r d hr hd]

/-- Window 7: entry (r, d) of block (p, q) is entry (p 512 + r, q 1024 + d) of the array. -/
theorem emb7 (t : Fin grid0.N) (p q : ℕ) (ht : cc0_transform_7 (grid0.coords t) = ![p, q])
    (r : Fin 512) (d : Fin 1024) (hr : p * 512 + r.val < 4096) (hd : q * 1024 + d.val < 1024) :
    ((cfg0.win 7).blk t).view.emb (ix2 r d : S512x1024.Idx) =
      (ix2 ⟨p * 512 + r.val, hr⟩ ⟨q * 1024 + d.val, hd⟩ : S4096x1024.Idx) := by
  have h0 : win0_7.index t (0 : Fin 2) = p := congrFun ht 0
  have h1 : win0_7.index t (1 : Fin 2) = q := congrFun ht 1
  funext a
  refine Fin.ext ?_
  match a with
  | ⟨0, _⟩ => show win0_7.index t (0 : Fin 2) * 512 + 1 * r.val = p * 512 + r.val; rw [h0, Nat.one_mul]
  | ⟨1, _⟩ => show win0_7.index t (1 : Fin 2) * 1024 + 1 * d.val = q * 1024 + d.val; rw [h1, Nat.one_mul]

theorem read7 (f : (⟨S4096x1024, .f32⟩ : BufTy).Contents (Elt Ideal)) (t : Fin grid0.N) (p q : ℕ)
    (ht : cc0_transform_7 (grid0.coords t) = ![p, q]) (r : Fin 512) (d : Fin 1024)
    (hr : p * 512 + r.val < 4096) (hd : q * 1024 + d.val < 1024) :
    ((cfg0.win 7).blk t).view.read (Elt Ideal) f (ix2 r d : S512x1024.Idx) =
      f (ix2 ⟨p * 512 + r.val, hr⟩ ⟨q * 1024 + d.val, hd⟩ : S4096x1024.Idx) := by
  show f (((cfg0.win 7).blk t).view.emb (ix2 r d : S512x1024.Idx)) = _
  rw [emb7 t p q ht r d hr hd]

/-- Window 8: entry (r, d) of block (p, q) is entry (p 512 + r, q 1024 + d) of the array. -/
theorem emb8 (t : Fin grid0.N) (p q : ℕ) (ht : cc0_transform_8 (grid0.coords t) = ![p, q])
    (r : Fin 512) (d : Fin 1024) (hr : p * 512 + r.val < 4096) (hd : q * 1024 + d.val < 1024) :
    ((cfg0.win 8).blk t).view.emb (ix2 r d : S512x1024.Idx) =
      (ix2 ⟨p * 512 + r.val, hr⟩ ⟨q * 1024 + d.val, hd⟩ : S4096x1024.Idx) := by
  have h0 : win0_8.index t (0 : Fin 2) = p := congrFun ht 0
  have h1 : win0_8.index t (1 : Fin 2) = q := congrFun ht 1
  funext a
  refine Fin.ext ?_
  match a with
  | ⟨0, _⟩ => show win0_8.index t (0 : Fin 2) * 512 + 1 * r.val = p * 512 + r.val; rw [h0, Nat.one_mul]
  | ⟨1, _⟩ => show win0_8.index t (1 : Fin 2) * 1024 + 1 * d.val = q * 1024 + d.val; rw [h1, Nat.one_mul]

theorem read8 (f : (⟨S4096x1024, .bf16⟩ : BufTy).Contents (Elt Ideal)) (t : Fin grid0.N) (p q : ℕ)
    (ht : cc0_transform_8 (grid0.coords t) = ![p, q]) (r : Fin 512) (d : Fin 1024)
    (hr : p * 512 + r.val < 4096) (hd : q * 1024 + d.val < 1024) :
    ((cfg0.win 8).blk t).view.read (Elt Ideal) f (ix2 r d : S512x1024.Idx) =
      f (ix2 ⟨p * 512 + r.val, hr⟩ ⟨q * 1024 + d.val, hd⟩ : S4096x1024.Idx) := by
  show f (((cfg0.win 8).blk t).view.emb (ix2 r d : S512x1024.Idx)) = _
  rw [emb8 t p q ht r d hr hd]

/-- Window 9: entry (r, d) of block (p, q) is entry (p 512 + r, q 1024 + d) of the array. -/
theorem emb9 (t : Fin grid0.N) (p q : ℕ) (ht : cc0_transform_9 (grid0.coords t) = ![p, q])
    (r : Fin 512) (d : Fin 1024) (hr : p * 512 + r.val < 4096) (hd : q * 1024 + d.val < 1024) :
    ((cfg0.win 9).blk t).view.emb (ix2 r d : S512x1024.Idx) =
      (ix2 ⟨p * 512 + r.val, hr⟩ ⟨q * 1024 + d.val, hd⟩ : S4096x1024.Idx) := by
  have h0 : win0_9.index t (0 : Fin 2) = p := congrFun ht 0
  have h1 : win0_9.index t (1 : Fin 2) = q := congrFun ht 1
  funext a
  refine Fin.ext ?_
  match a with
  | ⟨0, _⟩ => show win0_9.index t (0 : Fin 2) * 512 + 1 * r.val = p * 512 + r.val; rw [h0, Nat.one_mul]
  | ⟨1, _⟩ => show win0_9.index t (1 : Fin 2) * 1024 + 1 * d.val = q * 1024 + d.val; rw [h1, Nat.one_mul]

theorem read9 (f : (⟨S4096x1024, .bf16⟩ : BufTy).Contents (Elt Ideal)) (t : Fin grid0.N) (p q : ℕ)
    (ht : cc0_transform_9 (grid0.coords t) = ![p, q]) (r : Fin 512) (d : Fin 1024)
    (hr : p * 512 + r.val < 4096) (hd : q * 1024 + d.val < 1024) :
    ((cfg0.win 9).blk t).view.read (Elt Ideal) f (ix2 r d : S512x1024.Idx) =
      f (ix2 ⟨p * 512 + r.val, hr⟩ ⟨q * 1024 + d.val, hd⟩ : S4096x1024.Idx) := by
  show f (((cfg0.win 9).blk t).view.emb (ix2 r d : S512x1024.Idx)) = _
  rw [emb9 t p q ht r d hr hd]

/-- An array whose block (p, q) is the contents `x`, at that block's entries. -/
theorem at7 (f : (⟨S4096x1024, .f32⟩ : BufTy).Contents (Elt Ideal)) (x : Vec Ideal S512x1024 .f32) (t : Fin grid0.N)
    (p q : ℕ) (ht : cc0_transform_7 (grid0.coords t) = ![p, q])
    (e : ((cfg0.win 7).blk t).view.read (Elt Ideal) f = (cfg0.win 7).cut (grid0.coords t) x) (r : Fin 512) (d : Fin 1024)
    (hr : p * 512 + r.val < 4096) (hd : q * 1024 + d.val < 1024) :
    f (ix2 ⟨p * 512 + r.val, hr⟩ ⟨q * 1024 + d.val, hd⟩ : S4096x1024.Idx) = x (ix2 r d : S512x1024.Idx) := by
  rw [← emb7 t p q ht r d hr hd]
  exact congrFun e (ix2 r d : S512x1024.Idx)

/-- An array whose block (p, q) is the contents `x`, at that block's entries. -/
theorem at8 (f : (⟨S4096x1024, .bf16⟩ : BufTy).Contents (Elt Ideal)) (x : Vec Ideal S512x1024 .bf16) (t : Fin grid0.N)
    (p q : ℕ) (ht : cc0_transform_8 (grid0.coords t) = ![p, q])
    (e : ((cfg0.win 8).blk t).view.read (Elt Ideal) f = (cfg0.win 8).cut (grid0.coords t) x) (r : Fin 512) (d : Fin 1024)
    (hr : p * 512 + r.val < 4096) (hd : q * 1024 + d.val < 1024) :
    f (ix2 ⟨p * 512 + r.val, hr⟩ ⟨q * 1024 + d.val, hd⟩ : S4096x1024.Idx) = x (ix2 r d : S512x1024.Idx) := by
  rw [← emb8 t p q ht r d hr hd]
  exact congrFun e (ix2 r d : S512x1024.Idx)

/-- An array whose block (p, q) is the contents `x`, at that block's entries. -/
theorem at9 (f : (⟨S4096x1024, .bf16⟩ : BufTy).Contents (Elt Ideal)) (x : Vec Ideal S512x1024 .bf16) (t : Fin grid0.N)
    (p q : ℕ) (ht : cc0_transform_9 (grid0.coords t) = ![p, q])
    (e : ((cfg0.win 9).blk t).view.read (Elt Ideal) f = (cfg0.win 9).cut (grid0.coords t) x) (r : Fin 512) (d : Fin 1024)
    (hr : p * 512 + r.val < 4096) (hd : q * 1024 + d.val < 1024) :
    f (ix2 ⟨p * 512 + r.val, hr⟩ ⟨q * 1024 + d.val, hd⟩ : S4096x1024.Idx) = x (ix2 r d : S512x1024.Idx) := by
  rw [← emb9 t p q ht r d hr hd]
  exact congrFun e (ix2 r d : S512x1024.Idx)

theorem zeros : (![0, 0] : Fin 2 → ℕ) = fun _ => 0 := by funext a; fin_cases a <;> rfl
theorem zeros3 : (![0, 0, 0] : Fin 3 → ℕ) = fun _ => 0 := by funext a; fin_cases a <;> rfl

/-- A row of a block times a column of the weights. -/
def row (x : Vec Ideal S512x2816 .bf16) (w : Vec Ideal S2816x1024 .bf16) (r : Fin 512) (d : Fin 1024) : EReal :=
  ∑ k : Fin 2816, x (ix2 r k : S512x2816.Idx) * w (ix2 k d : S2816x1024.Idx)

/-- The next entry of the stream. -/
def next (x0 : Vec Ideal S512x2816 .bf16) (x1 : Vec Ideal S512x1024 .f32) (x2 : Vec Ideal S1x1x1024 .f32)
    (x6 : Vec Ideal S2816x1024 .bf16) (r : Fin 512) (d : Fin 1024) : EReal :=
  x1 (ix2 r d : S512x1024.Idx) + x2 (ix3 0 0 d : S1x1x1024.Idx) * row x0 x6 r d

/-- The norm of a row, with its weights and its modulation, from the row and its sum of squares. -/
def normed (x q g sc sh : EReal) : EReal :=
  x * Ideal.rsqrt (Ideal.div q (Ideal.ofBits FTy.f32 1149239296#32) + Ideal.ofBits FTy.f32 897988541#32) * g * (1 + sc) + sh

theorem out7 (x0 : Vec Ideal S512x2816 .bf16) (x1 : Vec Ideal S512x1024 .f32) (x2 x3 x4 : Vec Ideal S1x1x1024 .f32)
    (x5 : Vec Ideal S1x1024 .f32) (x6 : Vec Ideal S2816x1024 .bf16) (r : Fin 512) (d : Fin 1024) :
    out0_7 x0 x1 x2 x3 x4 x5 x6 (ix2 r d : S512x1024.Idx) = next x0 x1 x2 x6 r d := by
  unfold out0_7
  rw [View.canon_unit_zero zeros]
  repeat rw [View.ld_unit_zero zeros]
  repeat rw [View.ld_unit_zero zeros3]
  unfold next row
  pointwise [k0_pay4, k0_pay3]

theorem out8 (x0 : Vec Ideal S512x2816 .bf16) (x1 : Vec Ideal S512x1024 .f32) (x2 x3 x4 : Vec Ideal S1x1x1024 .f32)
    (x5 : Vec Ideal S1x1024 .f32) (x6 : Vec Ideal S2816x1024 .bf16) (r : Fin 512) (d : Fin 1024) :
    out0_8 x0 x1 x2 x3 x4 x5 x6 (ix2 r d : S512x1024.Idx) = row x0 x6 r d := by
  unfold out0_8
  rw [View.canon_unit_zero zeros]
  repeat rw [View.ld_unit_zero zeros]
  unfold row
  pointwise [k0_pay1, k0_pay3]

theorem out9 (x0 : Vec Ideal S512x2816 .bf16) (x1 : Vec Ideal S512x1024 .f32) (x2 x3 x4 : Vec Ideal S1x1x1024 .f32)
    (x5 : Vec Ideal S1x1024 .f32) (x6 : Vec Ideal S2816x1024 .bf16) (r : Fin 512) (d : Fin 1024) :
    out0_9 x0 x1 x2 x3 x4 x5 x6 (ix2 r d : S512x1024.Idx) =
      normed (next x0 x1 x2 x6 r d) (∑ k : Fin 1024, next x0 x1 x2 x6 r k * next x0 x1 x2 x6 r k) (x5 (ix2 0 d : S1x1024.Idx))
        (x4 (ix3 0 0 d : S1x1x1024.Idx)) (x3 (ix3 0 0 d : S1x1x1024.Idx)) := by
  unfold out0_9
  rw [View.canon_unit_zero zeros]
  repeat rw [View.ld_unit_zero zeros]
  repeat rw [View.ld_unit_zero zeros3]
  unfold normed
  rw [← Norm.mean_eq]
  unfold next row
  pointwise [k0_pay2, k0_pay5, k0_pay4, k0_pay3]

section

variable (m : (ℓ : Loc nD τ sig) → Buf (Elt Ideal) ℓ)

theorem blk0 (c : Dev nD) (t : Fin grid0.N) (p q : ℕ) (ht : cc0_transform_0 (grid0.coords t) = ![p, q])
    (r : Fin 512) (d : Fin 2816) (hr : p * 512 + r.val < 4096) (hd : q * 2816 + d.val < 2816) :
    iblk m c 0 t (ix2 r d : S512x2816.Idx) =
      V m c main_arg0 (ix2 ⟨p * 512 + r.val, hr⟩ ⟨q * 2816 + d.val, hd⟩ : S4096x2816.Idx) := by
  unfold iblk
  exact read0 _ t p q ht r d hr hd

theorem blk1 (c : Dev nD) (t : Fin grid0.N) (p q : ℕ) (ht : cc0_transform_1 (grid0.coords t) = ![p, q])
    (r : Fin 512) (d : Fin 1024) (hr : p * 512 + r.val < 4096) (hd : q * 1024 + d.val < 1024) :
    iblk m c 1 t (ix2 r d : S512x1024.Idx) =
      V m c main_arg2 (ix2 ⟨p * 512 + r.val, hr⟩ ⟨q * 1024 + d.val, hd⟩ : S4096x1024.Idx) := by
  unfold iblk
  exact read1 _ t p q ht r d hr hd

theorem blk2 (c : Dev nD) (t : Fin grid0.N) (p : ℕ) (ht : cc0_transform_2 (grid0.coords t) = ![p, 0, 0]) (d : Fin 1024) (hp : p < 2) :
    iblk m c 2 t (ix3 0 0 d : S1x1x1024.Idx) = V m c main_arg3 (ix3 ⟨p, hp⟩ 0 d : S2x1x1024.Idx) := by
  unfold iblk
  exact read2 _ t p ht d hp

theorem blk3 (c : Dev nD) (t : Fin grid0.N) (p : ℕ) (ht : cc0_transform_3 (grid0.coords t) = ![p, 0, 0]) (d : Fin 1024) (hp : p < 2) :
    iblk m c 3 t (ix3 0 0 d : S1x1x1024.Idx) = V m c main_arg4 (ix3 ⟨p, hp⟩ 0 d : S2x1x1024.Idx) := by
  unfold iblk
  exact read3 _ t p ht d hp

theorem blk4 (c : Dev nD) (t : Fin grid0.N) (p : ℕ) (ht : cc0_transform_4 (grid0.coords t) = ![p, 0, 0]) (d : Fin 1024) (hp : p < 2) :
    iblk m c 4 t (ix3 0 0 d : S1x1x1024.Idx) = V m c main_arg5 (ix3 ⟨p, hp⟩ 0 d : S2x1x1024.Idx) := by
  unfold iblk
  exact read4 _ t p ht d hp

theorem blk5 (c : Dev nD) (t : Fin grid0.N) (p q : ℕ) (ht : cc0_transform_5 (grid0.coords t) = ![p, q])
    (r : Fin 1) (d : Fin 1024) (hr : p * 1 + r.val < 1) (hd : q * 1024 + d.val < 1024) :
    iblk m c 5 t (ix2 r d : S1x1024.Idx) =
      V m c main_arg6 (ix2 ⟨p * 1 + r.val, hr⟩ ⟨q * 1024 + d.val, hd⟩ : S1x1024.Idx) := by
  unfold iblk
  exact read5 _ t p q ht r d hr hd

theorem blk6 (c : Dev nD) (t : Fin grid0.N) (p q : ℕ) (ht : cc0_transform_6 (grid0.coords t) = ![p, q])
    (r : Fin 2816) (d : Fin 1024) (hr : p * 2816 + r.val < 2816) (hd : q * 1024 + d.val < 1024) :
    iblk m c 6 t (ix2 r d : S2816x1024.Idx) =
      V m c main_arg1 (ix2 ⟨p * 2816 + r.val, hr⟩ ⟨q * 1024 + d.val, hd⟩ : S2816x1024.Idx) := by
  unfold iblk
  exact read6 _ t p q ht r d hr hd

/-- Row n of the activations times column d of the weights. -/
def prod (a : (⟨S4096x2816, .bf16⟩ : BufTy).Contents (Elt Ideal)) (w : (⟨S2816x1024, .bf16⟩ : BufTy).Contents (Elt Ideal)) (n : Fin 4096) (d : Fin 1024) : EReal :=
  ∑ k : Fin 2816, a (ix2 n k : S4096x2816.Idx) * w (ix2 k d : S2816x1024.Idx)

/-- The stream after the block. -/
def stream (a : (⟨S4096x2816, .bf16⟩ : BufTy).Contents (Elt Ideal)) (w : (⟨S2816x1024, .bf16⟩ : BufTy).Contents (Elt Ideal)) (x : (⟨S4096x1024, .f32⟩ : BufTy).Contents (Elt Ideal)) (g : (⟨S2x1x1024, .f32⟩ : BufTy).Contents (Elt Ideal))
    (n : Fin 4096) (d : Fin 1024) : EReal :=
  x (ix2 n d : S4096x1024.Idx) + g (ix3 ⟨n.val / 2048, by omega⟩ 0 d : S2x1x1024.Idx) * prod a w n d

/-- The next block's input. -/
def input (a : (⟨S4096x2816, .bf16⟩ : BufTy).Contents (Elt Ideal)) (w : (⟨S2816x1024, .bf16⟩ : BufTy).Contents (Elt Ideal)) (x : (⟨S4096x1024, .f32⟩ : BufTy).Contents (Elt Ideal)) (g sh sc : (⟨S2x1x1024, .f32⟩ : BufTy).Contents (Elt Ideal)) (ga : (⟨S1x1024, .f32⟩ : BufTy).Contents (Elt Ideal))
    (n : Fin 4096) (d : Fin 1024) : EReal :=
  normed (stream a w x g n d) (∑ k : Fin 1024, stream a w x g n k * stream a w x g n k) (ga (ix2 0 d : S1x1024.Idx))
    (sc (ix3 ⟨n.val / 2048, by omega⟩ 0 d : S2x1x1024.Idx)) (sh (ix3 ⟨n.val / 2048, by omega⟩ 0 d : S2x1x1024.Idx))

theorem row_prod (c : Dev nD) (t : Fin grid0.N) (n : Fin 8) (e0 : cc0_transform_0 (grid0.coords t) = ![n.val, 0])
    (e6 : cc0_transform_6 (grid0.coords t) = ![0, 0]) (r : Fin 512) (d : Fin 1024) :
    row (iblk m c 0 t) (iblk m c 6 t) r d = prod (m ((c : Thread nD τ).loc main_arg0)) (m ((c : Thread nD τ).loc main_arg1)) ⟨n.val * 512 + r.val, by omega⟩ d := by
  unfold row prod
  refine Finset.sum_congr rfl fun k _ => ?_
  rw [blk0 m c t n.val 0 e0 r k (by omega) (by omega), blk6 m c t 0 0 e6 k d (by omega) (by omega)]
  simp only [Nat.zero_mul, Nat.zero_add]

theorem bat_eq (n : Fin 8) (r : Fin 512) : (n.val * 512 + r.val) / 2048 = n.val / 4 := by omega

theorem next_stream (c : Dev nD) (t : Fin grid0.N) (n : Fin 8) (e0 : cc0_transform_0 (grid0.coords t) = ![n.val, 0])
    (e1 : cc0_transform_1 (grid0.coords t) = ![n.val, 0]) (e2 : cc0_transform_2 (grid0.coords t) = ![n.val / 4, 0, 0])
    (e6 : cc0_transform_6 (grid0.coords t) = ![0, 0]) (r : Fin 512) (d : Fin 1024) :
    next (iblk m c 0 t) (iblk m c 1 t) (iblk m c 2 t) (iblk m c 6 t) r d =
      stream (m ((c : Thread nD τ).loc main_arg0)) (m ((c : Thread nD τ).loc main_arg1)) (m ((c : Thread nD τ).loc main_arg2)) (m ((c : Thread nD τ).loc main_arg3))
        ⟨n.val * 512 + r.val, by omega⟩ d := by
  unfold next stream
  rw [row_prod m c t n e0 e6 r d, blk1 m c t n.val 0 e1 r d (by omega) (by omega), blk2 m c t (n.val / 4) e2 d (by omega)]
  simp only [Nat.zero_mul, Nat.zero_add, bat_eq]

theorem normed_input (c : Dev nD) (t : Fin grid0.N) (n : Fin 8) (e0 : cc0_transform_0 (grid0.coords t) = ![n.val, 0])
    (e1 : cc0_transform_1 (grid0.coords t) = ![n.val, 0]) (e2 : cc0_transform_2 (grid0.coords t) = ![n.val / 4, 0, 0])
    (e3 : cc0_transform_3 (grid0.coords t) = ![n.val / 4, 0, 0]) (e4 : cc0_transform_4 (grid0.coords t) = ![n.val / 4, 0, 0])
    (e5 : cc0_transform_5 (grid0.coords t) = ![0, 0])
    (e6 : cc0_transform_6 (grid0.coords t) = ![0, 0]) (r : Fin 512) (d : Fin 1024) :
    out0_9 (iblk m c 0 t) (iblk m c 1 t) (iblk m c 2 t) (iblk m c 3 t) (iblk m c 4 t) (iblk m c 5 t) (iblk m c 6 t)
        (ix2 r d : S512x1024.Idx) =
      input (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) ⟨n.val * 512 + r.val, by omega⟩ d := by
  rw [out9]
  unfold input
  simp only [next_stream m c t n e0 e1 e2 e6 r]
  rw [blk3 m c t (n.val / 4) e3 d (by omega), blk4 m c t (n.val / 4) e4 d (by omega), blk5 m c t 0 0 e5 0 d (by omega) (by omega)]
  simp only [Nat.zero_mul, Nat.zero_add, bat_eq]

theorem final_x (c : Dev nD) (i : Fin 8) (j : Fin 1) (r : Fin 512) (d : Fin 1024) :
    (dats m 0 c).arrAt 7 cfg0.N (ix2 ⟨i.val * 512 + r.val, by omega⟩ ⟨j.val * 1024 + d.val, by omega⟩ : S4096x1024.Idx) =
      stream (m ((c : Thread nD τ).loc main_arg0)) (m ((c : Thread nD τ).loc main_arg1)) (m ((c : Thread nD τ).loc main_arg2)) (m ((c : Thread nD τ).loc main_arg3))
        ⟨i.val * 512 + r.val, by omega⟩ ⟨j.val * 1024 + d.val, by omega⟩ := by
  obtain ⟨t, e0, e1, e2, e3, e4, e5, e6, e7, e8, e9⟩ := point_of i
  have hj : j.val = 0 := by omega
  simp only [hj, Nat.zero_mul, Nat.zero_add]
  refine Eq.trans ?_ ((at7 _ _ t i.val 0 e7 ((Cert.Kernel10Ideal.Value.blocks7 m c t (flush0_7 t)).trans
    (Cert.Kernel10Ideal.Value.flushed7 m c t)) r d (by omega) (by omega)).trans ?_)
  · simp only [Nat.zero_mul, Nat.zero_add]
  · rw [out7, next_stream m c t i e0 e1 e2 e6 r d]

theorem final_o (c : Dev nD) (i : Fin 8) (j : Fin 1) (r : Fin 512) (d : Fin 1024) :
    (dats m 0 c).arrAt 8 cfg0.N (ix2 ⟨i.val * 512 + r.val, by omega⟩ ⟨j.val * 1024 + d.val, by omega⟩ : S4096x1024.Idx) =
      prod (m ((c : Thread nD τ).loc main_arg0)) (m ((c : Thread nD τ).loc main_arg1))
        ⟨i.val * 512 + r.val, by omega⟩ ⟨j.val * 1024 + d.val, by omega⟩ := by
  obtain ⟨t, e0, e1, e2, e3, e4, e5, e6, e7, e8, e9⟩ := point_of i
  have hj : j.val = 0 := by omega
  simp only [hj, Nat.zero_mul, Nat.zero_add]
  refine Eq.trans ?_ ((at8 _ _ t i.val 0 e8 ((Cert.Kernel10Ideal.Value.blocks8 m c t (flush0_8 t)).trans
    (Cert.Kernel10Ideal.Value.flushed8 m c t)) r d (by omega) (by omega)).trans ?_)
  · simp only [Nat.zero_mul, Nat.zero_add]
  · rw [out8, row_prod m c t i e0 e6 r d]

theorem final_h (c : Dev nD) (i : Fin 8) (j : Fin 1) (r : Fin 512) (d : Fin 1024) :
    (dats m 0 c).arrAt 9 cfg0.N (ix2 ⟨i.val * 512 + r.val, by omega⟩ ⟨j.val * 1024 + d.val, by omega⟩ : S4096x1024.Idx) =
      input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ⟨i.val * 512 + r.val, by omega⟩ ⟨j.val * 1024 + d.val, by omega⟩ := by
  obtain ⟨t, e0, e1, e2, e3, e4, e5, e6, e7, e8, e9⟩ := point_of i
  have hj : j.val = 0 := by omega
  simp only [hj, Nat.zero_mul, Nat.zero_add]
  refine Eq.trans ?_ ((at9 _ _ t i.val 0 e9 ((Cert.Kernel10Ideal.Value.blocks9 m c t (flush0_9 t)).trans
    (Cert.Kernel10Ideal.Value.flushed9 m c t)) r d (by omega) (by omega)).trans ?_)
  · simp only [Nat.zero_mul, Nat.zero_add]
  · rw [normed_input m c t i e0 e1 e2 e3 e4 e5 e6 r d]

end

theorem ref_x (a : (⟨S4096x2816, .bf16⟩ : BufTy).Contents (Elt Ideal)) (w : (⟨S2816x1024, .bf16⟩ : BufTy).Contents (Elt Ideal)) (x : (⟨S4096x1024, .f32⟩ : BufTy).Contents (Elt Ideal)) (g : (⟨S2x1x1024, .f32⟩ : BufTy).Contents (Elt Ideal)) (n : Fin 4096) (d : Fin 1024) :
    Cert.Reference10Ideal.Read.val_main_v8 (F := Ideal) a w x g (ix2 n d : S4096x1024.Idx) =
      stream a w x g n d := by
  unfold stream prod
  pointwise [Cert.Reference10Ideal.Read.val_main_v0, Cert.Reference10Ideal.Read.val_main_v1, Cert.Reference10Ideal.Read.val_main_v2, Cert.Reference10Ideal.Read.val_main_v3, Cert.Reference10Ideal.Read.val_main_v4, Cert.Reference10Ideal.Read.val_main_v5, Cert.Reference10Ideal.Read.val_main_v6, Cert.Reference10Ideal.Read.val_main_v7, Cert.Reference10Ideal.Read.val_main_v8]

theorem ref_o (a : (⟨S4096x2816, .bf16⟩ : BufTy).Contents (Elt Ideal)) (w : (⟨S2816x1024, .bf16⟩ : BufTy).Contents (Elt Ideal)) (n : Fin 4096) (d : Fin 1024) :
    Cert.Reference10Ideal.Read.val_main_v29 (F := Ideal) a w (ix2 n d : S4096x1024.Idx) =
      prod a w n d := by
  unfold prod
  pointwise [Cert.Reference10Ideal.Read.val_main_v29, Cert.Reference10Ideal.Read.val_main_v2, Cert.Reference10Ideal.Read.val_main_v1, Cert.Reference10Ideal.Read.val_main_v0]

theorem ref_h (a : (⟨S4096x2816, .bf16⟩ : BufTy).Contents (Elt Ideal)) (w : (⟨S2816x1024, .bf16⟩ : BufTy).Contents (Elt Ideal)) (x : (⟨S4096x1024, .f32⟩ : BufTy).Contents (Elt Ideal)) (g : (⟨S2x1x1024, .f32⟩ : BufTy).Contents (Elt Ideal)) (sh : (⟨S2x1x1024, .f32⟩ : BufTy).Contents (Elt Ideal)) (sc : (⟨S2x1x1024, .f32⟩ : BufTy).Contents (Elt Ideal)) (ga : (⟨S1x1024, .f32⟩ : BufTy).Contents (Elt Ideal)) (n : Fin 4096) (d : Fin 1024) :
    Cert.Reference10Ideal.Read.val_main_v31 (F := Ideal) a w x g sh sc ga (ix2 n d : S4096x1024.Idx) =
      input a w x g sh sc ga n d := by
  unfold input normed stream prod
  pointwise [Cert.Reference10Ideal.Read.val_main_v0, Cert.Reference10Ideal.Read.val_main_v1, Cert.Reference10Ideal.Read.val_main_v2, Cert.Reference10Ideal.Read.val_main_v3, Cert.Reference10Ideal.Read.val_main_v4, Cert.Reference10Ideal.Read.val_main_v5, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_v13, Cert.Reference10Ideal.Read.val_main_v14, Cert.Reference10Ideal.Read.val_main_v15, Cert.Reference10Ideal.Read.val_main_v16, Cert.Reference10Ideal.Read.val_main_v17, Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_v27, Cert.Reference10Ideal.Read.val_main_v28, Cert.Reference10Ideal.Read.val_main_v29, Cert.Reference10Ideal.Read.val_main_v30, Cert.Reference10Ideal.Read.val_main_v31, Cert.Reference10Ideal.Read.val_main_cst, Cert.Reference10Ideal.Read.val_main_cst_0, Cert.Reference10Ideal.Read.val_main_cst_1, Cert.Reference10Ideal.Read.val_main_cst_2]

theorem equal_x (m : (ℓ : Loc nD τ sig) → Buf (Elt Ideal) ℓ) (c : Dev nD) :
    (dats m 0 c).arrAt 7 cfg0.N = Cert.Reference10Ideal.Read.val_main_v8 (F := Ideal) (m ((c : Thread nD τ).loc main_arg0)) (m ((c : Thread nD τ).loc main_arg1)) (m ((c : Thread nD τ).loc main_arg2)) (m ((c : Thread nD τ).loc main_arg3)) := by
  funext y
  obtain ⟨i, j, r, d, rfl⟩ := split_index y
  exact (final_x m c i j r d).trans (ref_x _ _ _ _ _ _).symm

theorem equal_o (m : (ℓ : Loc nD τ sig) → Buf (Elt Ideal) ℓ) (c : Dev nD) :
    (dats m 0 c).arrAt 8 cfg0.N = Cert.Reference10Ideal.Read.val_main_v29 (F := Ideal) (m ((c : Thread nD τ).loc main_arg0)) (m ((c : Thread nD τ).loc main_arg1)) := by
  funext y
  obtain ⟨i, j, r, d, rfl⟩ := split_index y
  exact (final_o m c i j r d).trans (ref_o _ _ _ _).symm

theorem equal_h (m : (ℓ : Loc nD τ sig) → Buf (Elt Ideal) ℓ) (c : Dev nD) :
    (dats m 0 c).arrAt 9 cfg0.N = Cert.Reference10Ideal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨i, j, r, d, rfl⟩ := split_index y
  exact (final_h m c i j r d).trans (ref_h _ _ _ _ _ _ _ _ _).symm

end Cert.Proof.Out

end
-- ==== Proof.OutLoss.lean ====
/- The end of the second feed-forward block and the loss: what the kernel leaves in its results. -/
module

public import Idealize.ShloMosaic.Lib.Pointwise
public import proofs.«01_k».proof.Proof.Gen.Kernel11Ideal.Value
public import proofs.«01_k».proof.Proof.NormGrad

@[expose] public section

set_option maxRecDepth 16384

noncomputable section

namespace Cert.Proof.OutLoss

open Idealize.ShloMosaic Idealize.ShloMosaic.TcCoe Cert.Kernel11Ideal Cert.Kernel11Ideal.Gen Pointwise

/-! ### What a grid step leaves in each output -/

/-- The product with the outgoing weights, row by row. -/
def pB (a : Vec Ideal S512x2816 .bf16) (w : Vec Ideal S2816x1024 .bf16) (r : Fin 512) (d : Fin 1024) : EReal :=
  ∑ k : Fin 2816, a (ix2 r k : S512x2816.Idx) * w (ix2 k d : S2816x1024.Idx)

/-- The error: the stream after the block less the target. -/
def errB (a : Vec Ideal S512x2816 .bf16) (w : Vec Ideal S2816x1024 .bf16) (x : Vec Ideal S512x1024 .f32) (gt : Vec Ideal S1x1x1024 .f32)
    (tg : Vec Ideal S512x1024 .f32) (r : Fin 512) (d : Fin 1024) : EReal :=
  x (ix2 r d : S512x1024.Idx) + gt (ix3 0 0 d : S1x1x1024.Idx) * pB a w r d - tg (ix2 r d : S512x1024.Idx)

section

variable (c : Dev nD) (i : grid0.Coords) (arg2 : Memref sig .tc .vmem S512x2816 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1x1024 .f32) (harg9 : arg9.IsWhole) (arg10 : Memref sig .tc .vmem S1x1024 .f32) (harg10 : arg10.IsWhole) (x0 : Vec Ideal S512x2816 .bf16) (x1 : Vec Ideal S512x1024 .f32) (x2 : Vec Ideal S512x1024 .f32) (x3 : Vec Ideal S1x1x1024 .f32) (x4 : Vec Ideal S2816x1024 .bf16)

section

variable (hc0 : cond0_0 i) (hc1 : ¬cond0_1 i) (hc2 : cond0_2 i) (hc3 : ¬cond0_3 i)

theorem outA_dy (r : Fin 512) (d : Fin 1024) :
    out0_A_5 (F := Ideal) c i arg2 harg2 arg3 harg3 arg4 harg4 arg5 harg5 arg6 harg6 arg7 harg7 arg8 harg8 arg9 harg9 arg10 harg10 hc0 hc1 hc2 hc3 x0 x1 x2 x3 x4 (ix2 r d : S512x1024.Idx) = errB x0 x4 x1 x3 x2 r d * Ideal.ofBits FTy.f32 981467136#32 := by
  unfold out0_A_5
  refine (congrFun (View.read_writes_eq_canon _ _ _ (cover0_A_5 _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

theorem outA_do (r : Fin 512) (d : Fin 1024) :
    out0_A_6 (F := Ideal) c i arg2 harg2 arg3 harg3 arg4 harg4 arg5 harg5 arg6 harg6 arg7 harg7 arg8 harg8 arg9 harg9 arg10 harg10 hc0 hc1 hc2 hc3 x0 x1 x2 x3 x4 (ix2 r d : S512x1024.Idx) = x3 (ix3 0 0 d : S1x1x1024.Idx) * (errB x0 x4 x1 x3 x2 r d * Ideal.ofBits FTy.f32 981467136#32) := by
  unfold out0_A_6
  refine (congrFun (View.read_writes_eq_canon _ _ _ (cover0_A_6 _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

theorem outA_gate (d : Fin 1024) :
    out0_A_7 (F := Ideal) c i arg2 harg2 arg3 harg3 arg4 harg4 arg5 harg5 arg6 harg6 arg7 harg7 arg8 harg8 arg9 harg9 arg10 harg10 hc0 hc1 hc2 hc3 x0 x1 x2 x3 x4 (ix3 0 0 d : S1x1x1024.Idx) = ∑ r : Fin 512, errB x0 x4 x1 x3 x2 r d * Ideal.ofBits FTy.f32 981467136#32 * pB x0 x4 r d := by
  unfold out0_A_7
  refine (congrFun (View.read_writes_eq_canon _ _ _ (cover0_A_7 _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

theorem outA_sq (d : Fin 1024) :
    out0_A_8 (F := Ideal) c i arg2 harg2 arg3 harg3 arg4 harg4 arg5 harg5 arg6 harg6 arg7 harg7 arg8 harg8 arg9 harg9 arg10 harg10 hc0 hc1 hc2 hc3 x0 x1 x2 x3 x4 (ix2 0 d : S1x1024.Idx) = ∑ r : Fin 512, errB x0 x4 x1 x3 x2 r d * errB x0 x4 x1 x3 x2 r d := by
  unfold out0_A_8
  refine (congrFun (View.read_writes_eq_canon _ _ _ (cover0_A_8 _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

end

section

variable (hc0 : ¬cond0_0 i) (hc1 : cond0_1 i) (hc2 : ¬cond0_2 i) (hc3 : cond0_3 i) (xo7 : Vec Ideal S1x1x1024 .f32) (xo8 : Vec Ideal S1x1024 .f32)

theorem outB_dy (r : Fin 512) (d : Fin 1024) :
    out0_B_5 (F := Ideal) c i arg2 harg2 arg3 harg3 arg4 harg4 arg5 harg5 arg6 harg6 arg7 harg7 arg8 harg8 arg9 harg9 arg10 harg10 hc0 hc1 hc2 hc3 x0 x1 x2 x3 x4 xo7 xo8 (ix2 r d : S512x1024.Idx) = errB x0 x4 x1 x3 x2 r d * Ideal.ofBits FTy.f32 981467136#32 := by
  unfold out0_B_5
  refine (congrFun (View.read_writes_eq_canon _ _ _ (cover0_B_5 _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

theorem outB_do (r : Fin 512) (d : Fin 1024) :
    out0_B_6 (F := Ideal) c i arg2 harg2 arg3 harg3 arg4 harg4 arg5 harg5 arg6 harg6 arg7 harg7 arg8 harg8 arg9 harg9 arg10 harg10 hc0 hc1 hc2 hc3 x0 x1 x2 x3 x4 xo7 xo8 (ix2 r d : S512x1024.Idx) = x3 (ix3 0 0 d : S1x1x1024.Idx) * (errB x0 x4 x1 x3 x2 r d * Ideal.ofBits FTy.f32 981467136#32) := by
  unfold out0_B_6
  refine (congrFun (View.read_writes_eq_canon _ _ _ (cover0_B_6 _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

theorem outB_gate (d : Fin 1024) :
    out0_B_7 (F := Ideal) c i arg2 harg2 arg3 harg3 arg4 harg4 arg5 harg5 arg6 harg6 arg7 harg7 arg8 harg8 arg9 harg9 arg10 harg10 hc0 hc1 hc2 hc3 x0 x1 x2 x3 x4 xo7 xo8 (ix3 0 0 d : S1x1x1024.Idx) = xo7 (ix3 0 0 d : S1x1x1024.Idx) + ∑ r : Fin 512, errB x0 x4 x1 x3 x2 r d * Ideal.ofBits FTy.f32 981467136#32 * pB x0 x4 r d := by
  unfold out0_B_7
  refine (congrFun (View.read_writes_eq_canon _ _ _ (cover0_B_7 _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _, NormGrad.load_whole harg9 xo7 NormGrad.zeros3 _]
  simp only [pB, errB]
  pointwise [k0_pay1, k0_pay2, k0_pay3, k0_pay4, k0_pay5, k0_pay6, k0_pay7, k0_pay8, k0_pay9, k0_pay10]

theorem outB_sq (d : Fin 1024) :
    out0_B_8 (F := Ideal) c i arg2 harg2 arg3 harg3 arg4 harg4 arg5 harg5 arg6 harg6 arg7 harg7 arg8 harg8 arg9 harg9 arg10 harg10 hc0 hc1 hc2 hc3 x0 x1 x2 x3 x4 xo7 xo8 (ix2 0 d : S1x1024.Idx) = xo8 (ix2 0 d : S1x1024.Idx) + ∑ r : Fin 512, errB x0 x4 x1 x3 x2 r d * errB x0 x4 x1 x3 x2 r d := by
  unfold out0_B_8
  refine (congrFun (View.read_writes_eq_canon _ _ _ (cover0_B_8 _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _, NormGrad.load_whole harg10 xo8 NormGrad.zeros _]
  simp only [pB, errB]
  pointwise [k0_pay1, k0_pay2, k0_pay3, k0_pay4, k0_pay5, k0_pay6, k0_pay7, k0_pay8, k0_pay9, k0_pay10]

end

section

variable (hc0 : cond0_0 i) (hc1 : ¬cond0_1 i) (hc2 : ¬cond0_2 i) (hc3 : cond0_3 i) (xo8 : Vec Ideal S1x1024 .f32)

theorem outC_dy (r : Fin 512) (d : Fin 1024) :
    out0_C_5 (F := Ideal) c i arg2 harg2 arg3 harg3 arg4 harg4 arg5 harg5 arg6 harg6 arg7 harg7 arg8 harg8 arg9 harg9 arg10 harg10 hc0 hc1 hc2 hc3 x0 x1 x2 x3 x4 xo8 (ix2 r d : S512x1024.Idx) = errB x0 x4 x1 x3 x2 r d * Ideal.ofBits FTy.f32 981467136#32 := by
  unfold out0_C_5
  refine (congrFun (View.read_writes_eq_canon _ _ _ (cover0_C_5 _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

theorem outC_do (r : Fin 512) (d : Fin 1024) :
    out0_C_6 (F := Ideal) c i arg2 harg2 arg3 harg3 arg4 harg4 arg5 harg5 arg6 harg6 arg7 harg7 arg8 harg8 arg9 harg9 arg10 harg10 hc0 hc1 hc2 hc3 x0 x1 x2 x3 x4 xo8 (ix2 r d : S512x1024.Idx) = x3 (ix3 0 0 d : S1x1x1024.Idx) * (errB x0 x4 x1 x3 x2 r d * Ideal.ofBits FTy.f32 981467136#32) := by
  unfold out0_C_6
  refine (congrFun (View.read_writes_eq_canon _ _ _ (cover0_C_6 _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

theorem outC_gate (d : Fin 1024) :
    out0_C_7 (F := Ideal) c i arg2 harg2 arg3 harg3 arg4 harg4 arg5 harg5 arg6 harg6 arg7 harg7 arg8 harg8 arg9 harg9 arg10 harg10 hc0 hc1 hc2 hc3 x0 x1 x2 x3 x4 xo8 (ix3 0 0 d : S1x1x1024.Idx) = ∑ r : Fin 512, errB x0 x4 x1 x3 x2 r d * Ideal.ofBits FTy.f32 981467136#32 * pB x0 x4 r d := by
  unfold out0_C_7
  refine (congrFun (View.read_writes_eq_canon _ _ _ (cover0_C_7 _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _]
  simp only [pB, errB]
  pointwise [k0_pay1, k0_pay2, k0_pay3, k0_pay4, k0_pay5, k0_pay6, k0_pay7, k0_pay8, k0_pay9, k0_pay10]

theorem outC_sq (d : Fin 1024) :
    out0_C_8 (F := Ideal) c i arg2 harg2 arg3 harg3 arg4 harg4 arg5 harg5 arg6 harg6 arg7 harg7 arg8 harg8 arg9 harg9 arg10 harg10 hc0 hc1 hc2 hc3 x0 x1 x2 x3 x4 xo8 (ix2 0 d : S1x1024.Idx) = xo8 (ix2 0 d : S1x1024.Idx) + ∑ r : Fin 512, errB x0 x4 x1 x3 x2 r d * errB x0 x4 x1 x3 x2 r d := by
  unfold out0_C_8
  refine (congrFun (View.read_writes_eq_canon _ _ _ (cover0_C_8 _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros3 _, NormGrad.load_whole harg6 x4 NormGrad.zeros _, NormGrad.load_whole harg10 xo8 NormGrad.zeros _]
  simp only [pB, errB]
  pointwise [k0_pay1, k0_pay2, k0_pay3, k0_pay4, k0_pay5, k0_pay6, k0_pay7, k0_pay8, k0_pay9, k0_pay10]

end

end

/-! ### The places of the blocks -/

theorem lt8 (t : Fin grid0.N) : t.val < 8 := lt_of_lt_of_eq t.isLt N_0

/-- The row of the arrays in place r at step t. -/
def at_row (t : Fin grid0.N) (r : Fin 512) : Fin 4096 := ⟨t.val * 512 + r.val, by have := lt8 t; omega⟩

/-- The sequence of step t. -/
def at_seq (t : Fin grid0.N) : Fin 2 := ⟨t.val / 4, by have := lt8 t; omega⟩

/-- Window 0: step t holds rows 512 t to 512 t + 511. -/
theorem emb0 (t : Fin grid0.N) (r : Fin 512) (d : Fin 2816) :
    ((cfg0.win 0).blk t).view.emb (ix2 r d : S512x2816.Idx) = (ix2 (at_row t r) d : S4096x2816.Idx) := by
  have e := (by decide +kernel : ∀ t : Fin grid0.N, cc0_transform_0 (grid0.coords t) = ![t.val, 0]) t
  have h0 : win0_0.index t (0 : Fin 2) = t.val := congrFun e 0
  have h1 : win0_0.index t (1 : Fin 2) = 0 := congrFun e 1
  funext a
  refine Fin.ext ?_
  match a with
  | ⟨0, _⟩ => show win0_0.index t (0 : Fin 2) * 512 + 1 * r.val = t.val * 512 + r.val; rw [h0, Nat.one_mul]
  | ⟨1, _⟩ => show win0_0.index t (1 : Fin 2) * 2816 + 1 * d.val = d.val; rw [h1]; omega

/-- Window 1: step t holds rows 512 t to 512 t + 511. -/
theorem emb1 (t : Fin grid0.N) (r : Fin 512) (d : Fin 1024) :
    ((cfg0.win 1).blk t).view.emb (ix2 r d : S512x1024.Idx) = (ix2 (at_row t r) d : S4096x1024.Idx) := by
  have e := (by decide +kernel : ∀ t : Fin grid0.N, cc0_transform_1 (grid0.coords t) = ![t.val, 0]) t
  have h0 : win0_1.index t (0 : Fin 2) = t.val := congrFun e 0
  have h1 : win0_1.index t (1 : Fin 2) = 0 := congrFun e 1
  funext a
  refine Fin.ext ?_
  match a with
  | ⟨0, _⟩ => show win0_1.index t (0 : Fin 2) * 512 + 1 * r.val = t.val * 512 + r.val; rw [h0, Nat.one_mul]
  | ⟨1, _⟩ => show win0_1.index t (1 : Fin 2) * 1024 + 1 * d.val = d.val; rw [h1]; omega

/-- Window 2: step t holds rows 512 t to 512 t + 511. -/
theorem emb2 (t : Fin grid0.N) (r : Fin 512) (d : Fin 1024) :
    ((cfg0.win 2).blk t).view.emb (ix2 r d : S512x1024.Idx) = (ix2 (at_row t r) d : S4096x1024.Idx) := by
  have e := (by decide +kernel : ∀ t : Fin grid0.N, cc0_transform_2 (grid0.coords t) = ![t.val, 0]) t
  have h0 : win0_2.index t (0 : Fin 2) = t.val := congrFun e 0
  have h1 : win0_2.index t (1 : Fin 2) = 0 := congrFun e 1
  funext a
  refine Fin.ext ?_
  match a with
  | ⟨0, _⟩ => show win0_2.index t (0 : Fin 2) * 512 + 1 * r.val = t.val * 512 + r.val; rw [h0, Nat.one_mul]
  | ⟨1, _⟩ => show win0_2.index t (1 : Fin 2) * 1024 + 1 * d.val = d.val; rw [h1]; omega

/-- Window 3: step t holds the row of its sequence. -/
theorem emb3 (t : Fin grid0.N) (d : Fin 1024) :
    ((cfg0.win 3).blk t).view.emb (ix3 0 0 d : S1x1x1024.Idx) = (ix3 (at_seq t) 0 d : S2x1x1024.Idx) := by
  have e := (by decide +kernel : ∀ t : Fin grid0.N, cc0_transform_3 (grid0.coords t) = ![t.val / 4, 0, 0]) t
  have h0 : win0_3.index t (0 : Fin 3) = t.val / 4 := congrFun e 0
  have h1 : win0_3.index t (1 : Fin 3) = 0 := congrFun e 1
  have h2 : win0_3.index t (2 : Fin 3) = 0 := congrFun e 2
  funext a
  refine Fin.ext ?_
  match a with
  | ⟨0, _⟩ => show win0_3.index t (0 : Fin 3) * 1 + 1 * 0 = t.val / 4; rw [h0]; omega
  | ⟨1, _⟩ => show win0_3.index t (1 : Fin 3) * 1 + 1 * 0 = 0; rw [h1]
  | ⟨2, _⟩ => show win0_3.index t (2 : Fin 3) * 1024 + 1 * d.val = d.val; rw [h2]; omega

/-- Window 4 is the whole array. -/
theorem emb4 (t : Fin grid0.N) (r : Fin 2816) (d : Fin 1024) :
    ((cfg0.win 4).blk t).view.emb (ix2 r d : S2816x1024.Idx) = (ix2 r d : S2816x1024.Idx) := by
  have e := (by decide +kernel : ∀ t : Fin grid0.N, cc0_transform_4 (grid0.coords t) = ![0, 0]) t
  have h0 : win0_4.index t (0 : Fin 2) = 0 := congrFun e 0
  have h1 : win0_4.index t (1 : Fin 2) = 0 := congrFun e 1
  funext a
  refine Fin.ext ?_
  match a with
  | ⟨0, _⟩ => show win0_4.index t (0 : Fin 2) * 2816 + 1 * r.val = r.val; rw [h0]; omega
  | ⟨1, _⟩ => show win0_4.index t (1 : Fin 2) * 1024 + 1 * d.val = d.val; rw [h1]; omega

/-- Window 5: step t holds rows 512 t to 512 t + 511. -/
theorem emb5 (t : Fin grid0.N) (r : Fin 512) (d : Fin 1024) :
    ((cfg0.win 5).blk t).view.emb (ix2 r d : S512x1024.Idx) = (ix2 (at_row t r) d : S4096x1024.Idx) := by
  have e := (by decide +kernel : ∀ t : Fin grid0.N, cc0_transform_5 (grid0.coords t) = ![t.val, 0]) t
  have h0 : win0_5.index t (0 : Fin 2) = t.val := congrFun e 0
  have h1 : win0_5.index t (1 : Fin 2) = 0 := congrFun e 1
  funext a
  refine Fin.ext ?_
  match a with
  | ⟨0, _⟩ => show win0_5.index t (0 : Fin 2) * 512 + 1 * r.val = t.val * 512 + r.val; rw [h0, Nat.one_mul]
  | ⟨1, _⟩ => show win0_5.index t (1 : Fin 2) * 1024 + 1 * d.val = d.val; rw [h1]; omega

/-- Window 6: step t holds rows 512 t to 512 t + 511. -/
theorem emb6 (t : Fin grid0.N) (r : Fin 512) (d : Fin 1024) :
    ((cfg0.win 6).blk t).view.emb (ix2 r d : S512x1024.Idx) = (ix2 (at_row t r) d : S4096x1024.Idx) := by
  have e := (by decide +kernel : ∀ t : Fin grid0.N, cc0_transform_6 (grid0.coords t) = ![t.val, 0]) t
  have h0 : win0_6.index t (0 : Fin 2) = t.val := congrFun e 0
  have h1 : win0_6.index t (1 : Fin 2) = 0 := congrFun e 1
  funext a
  refine Fin.ext ?_
  match a with
  | ⟨0, _⟩ => show win0_6.index t (0 : Fin 2) * 512 + 1 * r.val = t.val * 512 + r.val; rw [h0, Nat.one_mul]
  | ⟨1, _⟩ => show win0_6.index t (1 : Fin 2) * 1024 + 1 * d.val = d.val; rw [h1]; omega

/-- Window 7: step t holds the row of its sequence. -/
theorem emb7 (t : Fin grid0.N) (d : Fin 1024) :
    ((cfg0.win 7).blk t).view.emb (ix3 0 0 d : S1x1x1024.Idx) = (ix3 (at_seq t) 0 d : S2x1x1024.Idx) := by
  have e := (by decide +kernel : ∀ t : Fin grid0.N, cc0_transform_7 (grid0.coords t) = ![t.val / 4, 0, 0]) t
  have h0 : win0_7.index t (0 : Fin 3) = t.val / 4 := congrFun e 0
  have h1 : win0_7.index t (1 : Fin 3) = 0 := congrFun e 1
  have h2 : win0_7.index t (2 : Fin 3) = 0 := congrFun e 2
  funext a
  refine Fin.ext ?_
  match a with
  | ⟨0, _⟩ => show win0_7.index t (0 : Fin 3) * 1 + 1 * 0 = t.val / 4; rw [h0]; omega
  | ⟨1, _⟩ => show win0_7.index t (1 : Fin 3) * 1 + 1 * 0 = 0; rw [h1]
  | ⟨2, _⟩ => show win0_7.index t (2 : Fin 3) * 1024 + 1 * d.val = d.val; rw [h2]; omega

/-- Window 8 is the whole array. -/
theorem emb8 (t : Fin grid0.N) (r : Fin 1) (d : Fin 1024) :
    ((cfg0.win 8).blk t).view.emb (ix2 r d : S1x1024.Idx) = (ix2 r d : S1x1024.Idx) := by
  have e := (by decide +kernel : ∀ t : Fin grid0.N, cc0_transform_8 (grid0.coords t) = ![0, 0]) t
  have h0 : win0_8.index t (0 : Fin 2) = 0 := congrFun e 0
  have h1 : win0_8.index t (1 : Fin 2) = 0 := congrFun e 1
  funext a
  refine Fin.ext ?_
  match a with
  | ⟨0, _⟩ => show win0_8.index t (0 : Fin 2) * 1 + 1 * r.val = r.val; rw [h0]; omega
  | ⟨1, _⟩ => show win0_8.index t (1 : Fin 2) * 1024 + 1 * d.val = d.val; rw [h1]; omega

/-! ### Rows of the arrays -/

/-- The product with the outgoing weights. -/
def prod (a : (⟨S4096x2816, .bf16⟩ : BufTy).Contents (Elt Ideal)) (w : (⟨S2816x1024, .bf16⟩ : BufTy).Contents (Elt Ideal)) (n : Fin 4096) (d : Fin 1024) : EReal :=
  ∑ k : Fin 2816, a (ix2 n k : S4096x2816.Idx) * w (ix2 k d : S2816x1024.Idx)

def bat (gt : (⟨S2x1x1024, .f32⟩ : BufTy).Contents (Elt Ideal)) (n : Fin 4096) (d : Fin 1024) : EReal := gt (ix3 ⟨n.val / 2048, by omega⟩ 0 d : S2x1x1024.Idx)

/-- The error: the stream after the block less the target. -/
def err (a : (⟨S4096x2816, .bf16⟩ : BufTy).Contents (Elt Ideal)) (w : (⟨S2816x1024, .bf16⟩ : BufTy).Contents (Elt Ideal)) (x : (⟨S4096x1024, .f32⟩ : BufTy).Contents (Elt Ideal)) (gt : (⟨S2x1x1024, .f32⟩ : BufTy).Contents (Elt Ideal)) (tg : (⟨S4096x1024, .f32⟩ : BufTy).Contents (Elt Ideal)) (n : Fin 4096) (d : Fin 1024) : EReal :=
  x (ix2 n d : S4096x1024.Idx) + bat gt n d * prod a w n d - tg (ix2 n d : S4096x1024.Idx)

section

variable (m : (ℓ : Loc nD τ sig) → Buf (Elt Ideal) ℓ)

def prodM (c : Dev nD) : Fin 4096 → Fin 1024 → EReal := prod (m ((c : Thread nD τ).loc main_arg0)) (m ((c : Thread nD τ).loc main_arg1))

def batM (c : Dev nD) : Fin 4096 → Fin 1024 → EReal := bat (m ((c : Thread nD τ).loc main_arg3))

def errM (c : Dev nD) : Fin 4096 → Fin 1024 → EReal := err (m ((c : Thread nD τ).loc main_arg0)) (m ((c : Thread nD τ).loc main_arg1)) (m ((c : Thread nD τ).loc main_arg2)) (m ((c : Thread nD τ).loc main_arg3)) (m ((c : Thread nD τ).loc main_arg4))

def gateF (c : Dev nD) (d : Fin 1024) (n : Fin 4096) : EReal := errM m c n d * Ideal.ofBits FTy.f32 981467136#32 * prodM m c n d

def sqF (c : Dev nD) (d : Fin 1024) (n : Fin 4096) : EReal := errM m c n d * errM m c n d

/-! ### The blocks of the arguments -/

theorem blk0 (c : Dev nD) (t : Fin grid0.N) (r : Fin 512) (d : Fin 2816) :
    iblk m c 0 t (ix2 r d : S512x2816.Idx) = (m ((c : Thread nD τ).loc main_arg0)) (ix2 (at_row t r) d : S4096x2816.Idx) := by
  show (m ((c : Thread nD τ).loc main_arg0)) (((cfg0.win 0).blk t).view.emb (ix2 r d : S512x2816.Idx)) = _
  rw [emb0]

theorem blk1 (c : Dev nD) (t : Fin grid0.N) (r : Fin 512) (d : Fin 1024) :
    iblk m c 1 t (ix2 r d : S512x1024.Idx) = (m ((c : Thread nD τ).loc main_arg2)) (ix2 (at_row t r) d : S4096x1024.Idx) := by
  show (m ((c : Thread nD τ).loc main_arg2)) (((cfg0.win 1).blk t).view.emb (ix2 r d : S512x1024.Idx)) = _
  rw [emb1]

theorem blk2 (c : Dev nD) (t : Fin grid0.N) (r : Fin 512) (d : Fin 1024) :
    iblk m c 2 t (ix2 r d : S512x1024.Idx) = (m ((c : Thread nD τ).loc main_arg4)) (ix2 (at_row t r) d : S4096x1024.Idx) := by
  show (m ((c : Thread nD τ).loc main_arg4)) (((cfg0.win 2).blk t).view.emb (ix2 r d : S512x1024.Idx)) = _
  rw [emb2]

theorem blk3 (c : Dev nD) (t : Fin grid0.N) (d : Fin 1024) :
    iblk m c 3 t (ix3 0 0 d : S1x1x1024.Idx) = (m ((c : Thread nD τ).loc main_arg3)) (ix3 (at_seq t) 0 d : S2x1x1024.Idx) := by
  show (m ((c : Thread nD τ).loc main_arg3)) (((cfg0.win 3).blk t).view.emb (ix3 0 0 d : S1x1x1024.Idx)) = _
  rw [emb3]

theorem blk4 (c : Dev nD) (t : Fin grid0.N) (r : Fin 2816) (d : Fin 1024) :
    iblk m c 4 t (ix2 r d : S2816x1024.Idx) = (m ((c : Thread nD τ).loc main_arg1)) (ix2 r d : S2816x1024.Idx) := by
  show (m ((c : Thread nD τ).loc main_arg1)) (((cfg0.win 4).blk t).view.emb (ix2 r d : S2816x1024.Idx)) = _
  rw [emb4]

theorem p_blk (c : Dev nD) (t : Fin grid0.N) (r : Fin 512) (d : Fin 1024) : pB (iblk m c 0 t) (iblk m c 4 t) r d = prodM m c (at_row t r) d :=
  Finset.sum_congr (rfl : (Finset.univ : Finset (Fin 2816)) = Finset.univ) fun k _ => congrArg₂ (fun a b : EReal => a * b) (blk0 m c t r k) (blk4 m c t k d)

theorem seq_row (t : Fin grid0.N) (r : Fin 512) (h : (at_row t r).val / 2048 < 2) : (⟨(at_row t r).val / 2048, h⟩ : Fin 2) = at_seq t :=
  Fin.ext (by show (t.val * 512 + r.val) / 2048 = t.val / 4; omega)

theorem bat_blk (c : Dev nD) (t : Fin grid0.N) (r : Fin 512) (d : Fin 1024) : iblk m c 3 t (ix3 0 0 d : S1x1x1024.Idx) = batM m c (at_row t r) d := by
  refine (blk3 m c t d).trans ?_
  unfold batM bat
  rw [seq_row]

theorem err_blk (c : Dev nD) (t : Fin grid0.N) (r : Fin 512) (d : Fin 1024) : errB (iblk m c 0 t) (iblk m c 4 t) (iblk m c 1 t) (iblk m c 3 t) (iblk m c 2 t) r d = errM m c (at_row t r) d := by
  unfold errB
  rw [p_blk, bat_blk m c t r, blk1, blk2]
  rfl

theorem dy_blk (c : Dev nD) (t : Fin grid0.N) (r : Fin 512) (d : Fin 1024) : errB (iblk m c 0 t) (iblk m c 4 t) (iblk m c 1 t) (iblk m c 3 t) (iblk m c 2 t) r d * Ideal.ofBits FTy.f32 981467136#32 = errM m c (at_row t r) d * Ideal.ofBits FTy.f32 981467136#32 := by
  rw [err_blk]

theorem do_blk (c : Dev nD) (t : Fin grid0.N) (r : Fin 512) (d : Fin 1024) :
    @HMul.hMul EReal EReal EReal _ (iblk m c 3 t (ix3 0 0 d : S1x1x1024.Idx)) (errB (iblk m c 0 t) (iblk m c 4 t) (iblk m c 1 t) (iblk m c 3 t) (iblk m c 2 t) r d * Ideal.ofBits FTy.f32 981467136#32) = batM m c (at_row t r) d * (errM m c (at_row t r) d * Ideal.ofBits FTy.f32 981467136#32) := by
  rw [err_blk, bat_blk m c t r]

theorem gate_blk (c : Dev nD) (t : Fin grid0.N) (d : Fin 1024) :
    ∑ r : Fin 512, errB (iblk m c 0 t) (iblk m c 4 t) (iblk m c 1 t) (iblk m c 3 t) (iblk m c 2 t) r d * Ideal.ofBits FTy.f32 981467136#32 * pB (iblk m c 0 t) (iblk m c 4 t) r d = NormGrad.part (gateF m c d) ⟨t.val, lt8 t⟩ := by
  unfold NormGrad.part
  refine Finset.sum_congr rfl fun r _ => ?_
  rw [err_blk, p_blk]
  rfl

theorem sq_blk (c : Dev nD) (t : Fin grid0.N) (d : Fin 1024) :
    ∑ r : Fin 512, errB (iblk m c 0 t) (iblk m c 4 t) (iblk m c 1 t) (iblk m c 3 t) (iblk m c 2 t) r d * errB (iblk m c 0 t) (iblk m c 4 t) (iblk m c 1 t) (iblk m c 3 t) (iblk m c 2 t) r d = NormGrad.part (sqF m c d) ⟨t.val, lt8 t⟩ := by
  unfold NormGrad.part
  refine Finset.sum_congr rfl fun r _ => ?_
  rw [err_blk]
  rfl

/-! ### The steps -/

theorem val_dy (c : Dev nD) (t : Fin cfg0.N) (r : Fin 512) (d : Fin 1024) :
    (outsAt0 m c t.val t.isLt).1 (ix2 r d : S512x1024.Idx) = errM m c (at_row t r) d * Ideal.ofBits FTy.f32 981467136#32 := by
  have h8 := lt8 t
  by_cases h : t.val % 4 = 0
  · by_cases h' : t.val = 0
    · rw [outsAt0_A m c t h (by omega) (by omega) (by omega)]
      dsimp only
      exact (outA_dy _ _ _ _ _ _ _ _ _ _ _ _ _ _ _ _ _ _ _ _ _ _ _ _ _ _ _ _ _ r d).trans (dy_blk m c t r d)
    · rw [outsAt0_C m c t h (by omega) (by omega) (by omega)]
      dsimp only
      exact (outC_dy _ _ _ _ _ _ _ _ _ _ _ _ _ _ _ _ _ _ _ _ _ _ _ _ _ _ _ _ _ _ r d).trans (dy_blk m c t r d)
  · rw [outsAt0_B m c t h (by omega) (by omega) (by omega)]
    dsimp only
    exact (outB_dy _ _ _ _ _ _ _ _ _ _ _ _ _ _ _ _ _ _ _ _ _ _ _ _ _ _ _ _ _ _ _ r d).trans (dy_blk m c t r d)

theorem val_do (c : Dev nD) (t : Fin cfg0.N) (r : Fin 512) (d : Fin 1024) :
    (outsAt0 m c t.val t.isLt).2.1 (ix2 r d : S512x1024.Idx) = batM m c (at_row t r) d * (errM m c (at_row t r) d * Ideal.ofBits FTy.f32 981467136#32) := by
  have h8 := lt8 t
  by_cases h : t.val % 4 = 0
  · by_cases h' : t.val = 0
    · rw [outsAt0_A m c t h (by omega) (by omega) (by omega)]
      dsimp only
      exact (outA_do _ _ _ _ _ _ _ _ _ _ _ _ _ _ _ _ _ _ _ _ _ _ _ _ _ _ _ _ _ r d).trans (do_blk m c t r d)
    · rw [outsAt0_C m c t h (by omega) (by omega) (by omega)]
      dsimp only
      exact (outC_do _ _ _ _ _ _ _ _ _ _ _ _ _ _ _ _ _ _ _ _ _ _ _ _ _ _ _ _ _ _ r d).trans (do_blk m c t r d)
  · rw [outsAt0_B m c t h (by omega) (by omega) (by omega)]
    dsimp only
    exact (outB_do _ _ _ _ _ _ _ _ _ _ _ _ _ _ _ _ _ _ _ _ _ _ _ _ _ _ _ _ _ _ _ r d).trans (do_blk m c t r d)

theorem first_gate (c : Dev nD) (n : ℕ) (hn : n < cfg0.N) (h : n % 4 = 0) (d : Fin 1024) :
    (outsAt0 m c n hn).2.2.1 (ix3 0 0 d : S1x1x1024.Idx) = NormGrad.part (gateF m c d) ⟨n, lt8 ⟨n, hn⟩⟩ := by
  have h8 : n < 8 := lt8 ⟨n, hn⟩
  by_cases h' : n = 0
  · refine (congrArg (fun z => z.2.2.1 (ix3 0 0 d : S1x1x1024.Idx)) (outsAt0_A m c ⟨n, hn⟩ h (by dsimp only; omega) (by dsimp only; omega) (by dsimp only; omega))).trans ?_
    dsimp only
    exact (outA_gate _ _ _ _ _ _ _ _ _ _ _ _ _ _ _ _ _ _ _ _ _ _ _ _ _ _ _ _ _ d).trans (gate_blk m c ⟨n, hn⟩ d)
  · refine (congrArg (fun z => z.2.2.1 (ix3 0 0 d : S1x1x1024.Idx)) (outsAt0_C m c ⟨n, hn⟩ h (by dsimp only; omega) (by dsimp only; omega) (by dsimp only; omega))).trans ?_
    dsimp only
    exact (outC_gate _ _ _ _ _ _ _ _ _ _ _ _ _ _ _ _ _ _ _ _ _ _ _ _ _ _ _ _ _ _ d).trans (gate_blk m c ⟨n, hn⟩ d)

theorem next_gate (c : Dev nD) (n : ℕ) (hn : n + 1 < cfg0.N) (h : ¬(n + 1) % 4 = 0) (d : Fin 1024) :
    (outsAt0 m c (n + 1) hn).2.2.1 (ix3 0 0 d : S1x1x1024.Idx) = (outsAt0 m c n (Nat.lt_of_succ_lt hn)).2.2.1 (ix3 0 0 d : S1x1x1024.Idx) +
      NormGrad.part (gateF m c d) ⟨n + 1, lt8 ⟨n + 1, hn⟩⟩ := by
  have h8 : n + 1 < 8 := lt8 ⟨n + 1, hn⟩
  refine (congrArg (fun z => z.2.2.1 (ix3 0 0 d : S1x1x1024.Idx)) (outsAt0_B m c ⟨n + 1, hn⟩ h (by dsimp only; omega) (by dsimp only; omega) (by dsimp only; omega))).trans ?_
  dsimp only
  exact (outB_gate _ _ _ _ _ _ _ _ _ _ _ _ _ _ _ _ _ _ _ _ _ _ _ _ _ _ _ _ _ _ _ d).trans (congrArg (fun z : EReal => (outsAt0 m c n (Nat.lt_of_succ_lt hn)).2.2.1 (ix3 0 0 d : S1x1x1024.Idx) + z) (gate_blk m c ⟨n + 1, hn⟩ d))

theorem first_sq (c : Dev nD) (hn : 0 < cfg0.N) (d : Fin 1024) :
    (outsAt0 m c 0 hn).2.2.2 (ix2 0 d : S1x1024.Idx) = NormGrad.part (sqF m c d) 0 := by
  refine (congrArg (fun z => z.2.2.2 (ix2 0 d : S1x1024.Idx)) (outsAt0_A m c ⟨0, hn⟩ rfl (by dsimp only; omega) rfl (by dsimp only; omega))).trans ?_
  dsimp only
  exact (outA_sq _ _ _ _ _ _ _ _ _ _ _ _ _ _ _ _ _ _ _ _ _ _ _ _ _ _ _ _ _ d).trans (sq_blk m c ⟨0, hn⟩ d)

theorem next_sq (c : Dev nD) (n : ℕ) (hn : n + 1 < cfg0.N) (d : Fin 1024) :
    (outsAt0 m c (n + 1) hn).2.2.2 (ix2 0 d : S1x1024.Idx) = (outsAt0 m c n (Nat.lt_of_succ_lt hn)).2.2.2 (ix2 0 d : S1x1024.Idx) +
      NormGrad.part (sqF m c d) ⟨n + 1, lt8 ⟨n + 1, hn⟩⟩ := by
  have h8 : n + 1 < 8 := lt8 ⟨n + 1, hn⟩
  by_cases h : (n + 1) % 4 = 0
  · refine (congrArg (fun z => z.2.2.2 (ix2 0 d : S1x1024.Idx)) (outsAt0_C m c ⟨n + 1, hn⟩ h (by dsimp only; omega) (by dsimp only; omega) (by dsimp only; omega))).trans ?_
    dsimp only
    exact (outC_sq _ _ _ _ _ _ _ _ _ _ _ _ _ _ _ _ _ _ _ _ _ _ _ _ _ _ _ _ _ _ d).trans (congrArg (fun z : EReal => (outsAt0 m c n (Nat.lt_of_succ_lt hn)).2.2.2 (ix2 0 d : S1x1024.Idx) + z) (sq_blk m c ⟨n + 1, hn⟩ d))
  · refine (congrArg (fun z => z.2.2.2 (ix2 0 d : S1x1024.Idx)) (outsAt0_B m c ⟨n + 1, hn⟩ h (by dsimp only; omega) (by dsimp only; omega) (by dsimp only; omega))).trans ?_
    dsimp only
    exact (outB_sq _ _ _ _ _ _ _ _ _ _ _ _ _ _ _ _ _ _ _ _ _ _ _ _ _ _ _ _ _ _ _ d).trans (congrArg (fun z : EReal => (outsAt0 m c n (Nat.lt_of_succ_lt hn)).2.2.2 (ix2 0 d : S1x1024.Idx) + z) (sq_blk m c ⟨n + 1, hn⟩ d))

/-! ### The results -/

theorem lt_N {n : ℕ} (h : n < 8) : n < cfg0.N := lt_of_lt_of_eq h N_0.symm

theorem final_dy (c : Dev nD) (n : Fin 4096) (d : Fin 1024) :
    (dats m 0 c).arrAt 5 cfg0.N (ix2 n d : S4096x1024.Idx) = errM m c n d * Ideal.ofBits FTy.f32 981467136#32 := by
  obtain ⟨t, r, rfl⟩ : ∃ (t : Fin grid0.N) (r : Fin 512), n = at_row t r :=
    ⟨⟨n.val / 512, lt_N (by omega)⟩, ⟨n.val % 512, by omega⟩, Fin.ext (by show n.val = n.val / 512 * 512 + n.val % 512; omega)⟩
  rw [← emb5 t r d]
  exact (congrFun ((Cert.Kernel11Ideal.Value.blocks5 m c t (flush0_5 t)).trans (Cert.Kernel11Ideal.Value.flushed5 m c t)) (ix2 r d : S512x1024.Idx)).trans (val_dy m c t r d)

theorem final_do (c : Dev nD) (n : Fin 4096) (d : Fin 1024) :
    (dats m 0 c).arrAt 6 cfg0.N (ix2 n d : S4096x1024.Idx) = batM m c n d * (errM m c n d * Ideal.ofBits FTy.f32 981467136#32) := by
  obtain ⟨t, r, rfl⟩ : ∃ (t : Fin grid0.N) (r : Fin 512), n = at_row t r :=
    ⟨⟨n.val / 512, lt_N (by omega)⟩, ⟨n.val % 512, by omega⟩, Fin.ext (by show n.val = n.val / 512 * 512 + n.val % 512; omega)⟩
  rw [← emb6 t r d]
  exact (congrFun ((Cert.Kernel11Ideal.Value.blocks6 m c t (flush0_6 t)).trans (Cert.Kernel11Ideal.Value.flushed6 m c t)) (ix2 r d : S512x1024.Idx)).trans (val_do m c t r d)

theorem apart7 : ∀ t t' : Fin cfg0.N, (cfg0.win 7).flush t = true → (cfg0.win 7).flush t' = true → t ≠ t' →
    Disjoint ((cfg0.win 7).blk t).view.set ((cfg0.win 7).blk t').view.set :=
  fun t t' f f' hne => (cfg0.win 7).disjoint_blk fun e => hne ((by decide +kernel : ∀ t t' : Fin grid0.N,
    win0_7.flush t = true → win0_7.flush t' = true → win0_7.index t = win0_7.index t' → t = t') t t' f f' e)

theorem final_gate (c : Dev nD) (b : Fin 2) (d : Fin 1024) :
    (dats m 0 c).arrAt 7 cfg0.N (ix3 b 0 d : S2x1x1024.Idx) = ∑ k : Fin 2048, gateF m c d ⟨b.val * 2048 + k.val, by omega⟩ := by
  have t3 : 4 * b.val + 3 < cfg0.N := lt_N (by omega)
  have hf : (cfg0.win 7).flush ⟨4 * b.val + 3, t3⟩ = true :=
    (by decide +kernel : ∀ t : Fin grid0.N, t.val % 4 = 3 → win0_7.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 7 cfg0.N (ix3 z 0 d : S2x1x1024.Idx)) hb) ?_
  rw [← emb7 ⟨4 * b.val + 3, t3⟩ d]
  refine (congrFun (((dats m 0 c).read_blk_arrAt_eq_flushed 7 apart7 cfg0.N ⟨4 * b.val + 3, t3⟩ t3 hf).trans (Cert.Kernel11Ideal.Value.flushed7 m c ⟨4 * b.val + 3, t3⟩)) (ix3 0 0 d : S1x1x1024.Idx)).trans ?_
  rw [NormGrad.sum_sequence]
  exact (next_gate m c (4 * b.val + 2) (lt_N (by omega)) (by omega) d).trans (congrArg (fun z : EReal => z + _) ((next_gate m c (4 * b.val + 1) (lt_N (by omega)) (by omega) d).trans (congrArg (fun z : EReal => z + _) ((next_gate m c (4 * b.val) (lt_N (by omega)) (by omega) d).trans (congrArg (fun z : EReal => z + _) (first_gate m c (4 * b.val) (lt_N (by omega)) (by omega) d))))))

theorem apart8 : ∀ t t' : Fin cfg0.N, (cfg0.win 8).flush t = true → (cfg0.win 8).flush t' = true → t ≠ t' →
    Disjoint ((cfg0.win 8).blk t).view.set ((cfg0.win 8).blk t').view.set :=
  fun t t' f f' hne => (cfg0.win 8).disjoint_blk fun e => hne ((by decide +kernel : ∀ t t' : Fin grid0.N,
    win0_8.flush t = true → win0_8.flush t' = true → win0_8.index t = win0_8.index t' → t = t') t t' f f' e)

def sqAt (c : Dev nD) (d : Fin 1024) (n : ℕ) (hn : n < 8) : EReal := (outsAt0 m c n (lt_N hn)).2.2.2 (ix2 0 d : S1x1024.Idx)

theorem sqAt_zero (c : Dev nD) (d : Fin 1024) (hn : 0 < 8) : sqAt m c d 0 hn = NormGrad.part (sqF m c d) 0 := by
  unfold sqAt
  exact first_sq m c _ d

theorem sqAt_succ (c : Dev nD) (d : Fin 1024) (n : ℕ) (hn : n + 1 < 8) :
    sqAt m c d (n + 1) hn = sqAt m c d n (by omega) + NormGrad.part (sqF m c d) ⟨n + 1, hn⟩ := by
  unfold sqAt
  exact next_sq m c n (lt_N hn) d

theorem sqAt_last (c : Dev nD) (d : Fin 1024) (n : ℕ) (hn : n < 8) (e : n = 7) :
    sqAt m c d n hn = ∑ k : Fin 4096, sqF m c d k := by
  subst e
  refine Eq.trans ?_ (((NormGrad.sum_rows (sqF m c d)).symm.trans (Fintype.sum_prod_type _)).trans (NormGrad.sum_split 2 2048 (sqF m c d)).symm)
  exact NormGrad.chain (sqAt m c d) (NormGrad.part (sqF m c d)) (sqAt_zero m c d _) (sqAt_succ m c d)

theorem all_sq (c : Dev nD) (n : ℕ) (hn : n < cfg0.N) (e : n = 7) (d : Fin 1024) :
    (outsAt0 m c n hn).2.2.2 (ix2 0 d : S1x1024.Idx) = ∑ k : Fin 4096, sqF m c d k := by
  rw [← sqAt_last m c d n (lt_of_lt_of_eq hn N_0) e]
  unfold sqAt
  rfl

theorem last_sq (c : Dev nD) (t : Fin grid0.N) (e : t.val = 7) (d : Fin 1024) :
    (dats m 0 c).arrAt 8 cfg0.N (ix2 0 d : S1x1024.Idx) = ∑ k : Fin 4096, sqF m c d k := by
  have hf : (cfg0.win 8).flush t = true := (by decide +kernel : ∀ t : Fin grid0.N, t.val = 7 → win0_8.flush t = true) t e
  rw [← emb8 t 0 d]
  refine (congrFun (((dats m 0 c).read_blk_arrAt_eq_flushed 8 apart8 cfg0.N t t.isLt hf).trans (Cert.Kernel11Ideal.Value.flushed8 m c t)) (ix2 0 d : S1x1024.Idx)).trans ?_
  exact all_sq m c t.val t.isLt e d

theorem final_sq (c : Dev nD) (d : Fin 1024) :
    (dats m 0 c).arrAt 8 cfg0.N (ix2 0 d : S1x1024.Idx) = ∑ k : Fin 4096, sqF m c d k :=
  last_sq m c ⟨7, lt_N (by omega)⟩ rfl d

end

end Cert.Proof.OutLoss

end
-- ==== Proof.OutLossRef.lean ====
/- The reference of the loss and its gradients, and that the kernel gives what it gives. -/
module

public import Idealize.ShloMosaic.Lib.Pointwise
public import proofs.«01_k».proof.Proof.Gen.Reference11Ideal.Read
public import proofs.«01_k».proof.Proof.OutLoss

@[expose] public section

set_option maxRecDepth 16384

noncomputable section

namespace Cert.Proof.OutLoss

open Idealize.ShloMosaic Idealize.ShloMosaic.TcCoe Cert.Kernel11Ideal Cert.Kernel11Ideal.Gen Cert.Reference11Ideal.Read Pointwise

/-- Half of a 1024th, times twice the error. -/
theorem half_twice (e : EReal) :
    Ideal.div (Ideal.ofBits FTy.f32 1056964608#32 * 1) (Ideal.ofBits FTy.f32 1149239296#32) * (Ideal.ofBits FTy.f32 1073741824#32 * e) =
      e * Ideal.ofBits FTy.f32 981467136#32 := by
  have h1 : Ideal.ofBits FTy.f32 1056964608#32 = ((1 / 2 : ℝ) : EReal) := by
    simp [Ideal.ofBits, Ideal.ieee]
    rw [← EReal.coe_mul]
    congr 1
    norm_num
  have h2 : Ideal.ofBits FTy.f32 1073741824#32 = ((2 : ℝ) : EReal) := by
    simp [Ideal.ofBits, Ideal.ieee]
    rw [← EReal.coe_mul]
    congr 1
    norm_num
  rw [h1, h2, mul_one, Norm.width_word, Norm.inv_word, Ideal.div_coe (by norm_num), ← EReal.coe_mul, ← mul_assoc, ← EReal.coe_mul, mul_comm]
  congr 2
  norm_num

theorem bat_at (x : (⟨S2x1x1024, .f32⟩ : BufTy).Contents (Elt Ideal)) (b : Fin 2) (k : Fin 2048) (d : Fin 1024) :
    bat x ⟨b.val * 2048 + k.val, by omega⟩ d = x (ix3 b 0 d : S2x1x1024.Idx) := by
  have e : (⟨(b.val * 2048 + k.val) / 2048, by omega⟩ : Fin 2) = b := Fin.ext (by show (b.val * 2048 + k.val) / 2048 = b.val; omega)
  unfold bat
  rw [e]

section

variable (x0 : (⟨S4096x2816, .bf16⟩ : BufTy).Contents (Elt Ideal)) (x1 : (⟨S2816x1024, .bf16⟩ : BufTy).Contents (Elt Ideal)) (x2 : (⟨S4096x1024, .f32⟩ : BufTy).Contents (Elt Ideal)) (x3 : (⟨S2x1x1024, .f32⟩ : BufTy).Contents (Elt Ideal)) (x4 : (⟨S4096x1024, .f32⟩ : BufTy).Contents (Elt Ideal))

theorem ref_dy (n : Fin 4096) (d : Fin 1024) :
    val_main_v31 (F := Ideal) x0 x1 x2 x3 x4 (ix2 n d : S4096x1024.Idx) = err x0 x1 x2 x3 x4 n d * Ideal.ofBits FTy.f32 981467136#32 := by
  simp only [← half_twice, err, prod, bat]
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_cst_1, val_main_v14, val_main_v15, val_main_cst_2, val_main_v16, val_main_cst_3, val_main_v17, val_main_cst_4, val_main_cst_5, val_main_v18, val_main_v19, val_main_cst_6, val_main_v20, val_main_v21, val_main_v22, val_main_v23, val_main_v24, val_main_v25, val_main_v26, val_main_v27, val_main_cst_7, val_main_v28, val_main_v29, val_main_v30, val_main_v31, val_main_v32, val_main_v33, val_main_v34, val_main_v35, val_main_v36, val_main_v37, val_main_v38, val_main_v39, val_main_v40, val_main_cst_8, val_main_v41, val_main_v42]

theorem ref_do (n : Fin 4096) (d : Fin 1024) :
    val_main_v32 (F := Ideal) x0 x1 x2 x3 x4 (ix2 n d : S4096x1024.Idx) = bat x3 n d * (err x0 x1 x2 x3 x4 n d * Ideal.ofBits FTy.f32 981467136#32) := by
  simp only [← half_twice, err, prod, bat]
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_cst_1, val_main_v14, val_main_v15, val_main_cst_2, val_main_v16, val_main_cst_3, val_main_v17, val_main_cst_4, val_main_cst_5, val_main_v18, val_main_v19, val_main_cst_6, val_main_v20, val_main_v21, val_main_v22, val_main_v23, val_main_v24, val_main_v25, val_main_v26, val_main_v27, val_main_cst_7, val_main_v28, val_main_v29, val_main_v30, val_main_v31, val_main_v32, val_main_v33, val_main_v34, val_main_v35, val_main_v36, val_main_v37, val_main_v38, val_main_v39, val_main_v40, val_main_cst_8, val_main_v41, val_main_v42]

theorem ref_gate (b : Fin 2) (d : Fin 1024) :
    val_main_v29 (F := Ideal) x0 x1 x2 x3 x4 (ix3 b 0 d : S2x1x1024.Idx) = ∑ k : Fin 2048, err x0 x1 x2 x3 x4 ⟨b.val * 2048 + k.val, by omega⟩ d * Ideal.ofBits FTy.f32 981467136#32 * prod x0 x1 ⟨b.val * 2048 + k.val, by omega⟩ d := by
  simp only [← half_twice, err, prod, bat_at]
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_cst_1, val_main_v14, val_main_v15, val_main_cst_2, val_main_v16, val_main_cst_3, val_main_v17, val_main_cst_4, val_main_cst_5, val_main_v18, val_main_v19, val_main_cst_6, val_main_v20, val_main_v21, val_main_v22, val_main_v23, val_main_v24, val_main_v25, val_main_v26, val_main_v27, val_main_cst_7, val_main_v28, val_main_v29, val_main_v30, val_main_v31, val_main_v32, val_main_v33, val_main_v34, val_main_v35, val_main_v36, val_main_v37, val_main_v38, val_main_v39, val_main_v40, val_main_cst_8, val_main_v41, val_main_v42]

theorem ref_sq (d : Fin 1024) :
    val_main_v42 (F := Ideal) x0 x1 x2 x3 x4 (ix2 0 d : S1x1024.Idx) = ∑ k : Fin 4096, err x0 x1 x2 x3 x4 k d * err x0 x1 x2 x3 x4 k d := by
  simp only [err, prod, bat]
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_cst_1, val_main_v14, val_main_v15, val_main_cst_2, val_main_v16, val_main_cst_3, val_main_v17, val_main_cst_4, val_main_cst_5, val_main_v18, val_main_v19, val_main_cst_6, val_main_v20, val_main_v21, val_main_v22, val_main_v23, val_main_v24, val_main_v25, val_main_v26, val_main_v27, val_main_cst_7, val_main_v28, val_main_v29, val_main_v30, val_main_v31, val_main_v32, val_main_v33, val_main_v34, val_main_v35, val_main_v36, val_main_v37, val_main_v38, val_main_v39, val_main_v40, val_main_cst_8, val_main_v41, val_main_v42]

end

theorem equal_dy (m : (ℓ : Loc nD τ sig) → Buf (Elt Ideal) ℓ) (c : Dev nD) :
    (dats m 0 c).arrAt 5 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨n, d, rfl⟩ := NormGrad.two_axes y
  exact (final_dy m c n d).trans (ref_dy _ _ _ _ _ n d).symm

theorem equal_do (m : (ℓ : Loc nD τ sig) → Buf (Elt Ideal) ℓ) (c : Dev nD) :
    (dats m 0 c).arrAt 6 cfg0.N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨n, d, rfl⟩ := NormGrad.two_axes y
  exact (final_do m c n d).trans (ref_do _ _ _ _ _ n d).symm

theorem equal_gate (m : (ℓ : Loc nD τ sig) → Buf (Elt Ideal) ℓ) (c : Dev nD) :
    (dats m 0 c).arrAt 7 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨b, d, rfl⟩ := NormGrad.three_axes y
  exact (final_gate m c b d).trans (ref_gate _ _ _ _ _ b d).symm

theorem equal_sq (m : (ℓ : Loc nD τ sig) → Buf (Elt Ideal) ℓ) (c : Dev nD) :
    (dats m 0 c).arrAt 8 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨z, d, rfl⟩ := NormGrad.two_axes y
  obtain rfl : z = 0 := by omega
  exact (final_sq m c d).trans (ref_sq _ _ _ _ _ d).symm

end Cert.Proof.OutLoss

end
-- ==== Proof.BwdNorm3.lean ====
/- The gradients of a norm and its modulation: what the kernel leaves in its results. -/
module

public import Idealize.ShloMosaic.Lib.Pointwise
public import Idealize.ShloMosaic.Lib.StableHlo.RunRead
public import proofs.«01_k».proof.Proof.Gen.Kernel12Ideal.Value
public import proofs.«01_k».proof.Proof.Gen.Reference12Ideal.Read
public import proofs.«01_k».proof.Proof.NormGrad

@[expose] public section

set_option maxRecDepth 16384

noncomputable section

namespace Cert.Proof.BwdNorm3

open Idealize.ShloMosaic Idealize.ShloMosaic.TcCoe Cert.Kernel12Ideal Cert.Kernel12Ideal.Gen Pointwise

/-! ### What a grid step leaves in each output -/

/-- The gradient of the modulated norm, row by row. -/
def hB (y768 : Vec Ideal S512x768 .bf16) (w768 : Vec Ideal S768x1024 .bf16) (y512 : Vec Ideal S512x512 .bf16) (w512 : Vec Ideal S512x1024 .bf16) (y2048 : Vec Ideal S512x2048 .bf16) (w2048 : Vec Ideal S2048x1024 .bf16) (r : Fin 512) : Fin 1024 → EReal :=
  fun d => (∑ k : Fin 768, y768 (ix2 r k : S512x768.Idx) * w768 (ix2 k d : S768x1024.Idx)) + (∑ k : Fin 512, y512 (ix2 r k : S512x512.Idx) * w512 (ix2 k d : S512x1024.Idx)) + (∑ k : Fin 2048, y2048 (ix2 r k : S512x2048.Idx) * w2048 (ix2 k d : S2048x1024.Idx))

def rowB (x : Vec Ideal S512x1024 .f32) (r : Fin 512) : Fin 1024 → EReal := fun d => x (ix2 r d : S512x1024.Idx)

def batB (x : Vec Ideal S1x1x1024 .f32) : Fin 1024 → EReal := fun d => x (ix3 0 0 d : S1x1x1024.Idx)

def vecB (x : Vec Ideal S1x1024 .f32) : Fin 1024 → EReal := fun d => x (ix2 0 d : S1x1024.Idx)

section

variable (c : Dev nD) (i : grid0.Coords) (arg2 : Memref sig .tc .vmem S512x768 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S768x1024 .bf16) (harg11 : arg11.IsWhole) (arg12 : Memref sig .tc .vmem S512x1024 .bf16) (harg12 : arg12.IsWhole) (arg13 : Memref sig .tc .vmem S2048x1024 .bf16) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1024 .f32) (harg19 : arg19.IsWhole) (x0 : Vec Ideal S512x768 .bf16) (x1 : Vec Ideal S512x512 .bf16) (x2 : Vec Ideal S512x2048 .bf16) (x3 : Vec Ideal S512x1024 .f32) (x4 : Vec Ideal S512x1024 .f32) (x5 : Vec Ideal S512x1024 .bf16) (x6 : Vec Ideal S1x1x1024 .f32) (x7 : Vec Ideal S1x1x1024 .f32) (x8 : Vec Ideal S1x1024 .f32) (x9 : Vec Ideal S768x1024 .bf16) (x10 : Vec Ideal S512x1024 .bf16) (x11 : Vec Ideal S2048x1024 .bf16)

section

variable (hc0 : cond0_0 i) (hc1 : ¬cond0_1 i) (hc2 : cond0_2 i) (hc3 : ¬cond0_3 i) (hc4 : cond0_4 i) (hc5 : ¬cond0_5 i) (hc6 : cond0_6 i) (hc7 : ¬cond0_7 i)

theorem outA_dx (r : Fin 512) (d : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 (ix2 r d : S512x1024.Idx) = NormGrad.dx (x4 (ix2 r d : S512x1024.Idx)) (hB x0 x9 x1 x10 x2 x11 r) (rowB x3 r) (batB x6) (vecB x8) d := by
  unfold out0_A_12
  refine (congrFun (View.read_writes_eq_canon _ _ _ (cover0_A_12 _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg8 x6 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outA_do (r : Fin 512) (d : Fin 1024) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 (ix2 r d : S512x1024.Idx) = x7 (ix3 0 0 d : S1x1x1024.Idx) * NormGrad.dx (x4 (ix2 r d : S512x1024.Idx)) (hB x0 x9 x1 x10 x2 x11 r) (rowB x3 r) (batB x6) (vecB x8) d := by
  unfold out0_A_13
  refine (congrFun (View.read_writes_eq_canon _ _ _ (cover0_A_13 _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg8 x6 NormGrad.zeros3 _, NormGrad.load_whole harg9 x7 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outA_sh (d : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 (ix3 0 0 d : S1x1x1024.Idx) = ∑ r : Fin 512, (hB x0 x9 x1 x10 x2 x11 r) d := by
  unfold out0_A_14
  refine (congrFun (View.read_writes_eq_canon _ _ _ (cover0_A_14 _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outA_sc (d : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 (ix3 0 0 d : S1x1x1024.Idx) = ∑ r : Fin 512, NormGrad.ds (hB x0 x9 x1 x10 x2 x11 r) (rowB x3 r) (vecB x8) d := by
  unfold out0_A_15
  refine (congrFun (View.read_writes_eq_canon _ _ _ (cover0_A_15 _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outA_gate (d : Fin 1024) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 (ix3 0 0 d : S1x1x1024.Idx) = ∑ r : Fin 512, NormGrad.dx (x4 (ix2 r d : S512x1024.Idx)) (hB x0 x9 x1 x10 x2 x11 r) (rowB x3 r) (batB x6) (vecB x8) d * x5 (ix2 r d : S512x1024.Idx) := by
  unfold out0_A_16
  refine (congrFun (View.read_writes_eq_canon _ _ _ (cover0_A_16 _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg7 x5 NormGrad.zeros _, NormGrad.load_whole harg8 x6 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outA_g (d : Fin 1024) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 (ix2 0 d : S1x1024.Idx) = ∑ r : Fin 512, NormGrad.dg (hB x0 x9 x1 x10 x2 x11 r) (rowB x3 r) (batB x6) d := by
  unfold out0_A_17
  refine (congrFun (View.read_writes_eq_canon _ _ _ (cover0_A_17 _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg8 x6 NormGrad.zeros3 _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

end

section

variable (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (xo14 : Vec Ideal S1x1x1024 .f32) (xo15 : Vec Ideal S1x1x1024 .f32) (xo16 : Vec Ideal S1x1x1024 .f32) (xo17 : Vec Ideal S1x1024 .f32)

theorem outB_dx (r : Fin 512) (d : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo14 xo15 xo16 xo17 (ix2 r d : S512x1024.Idx) = NormGrad.dx (x4 (ix2 r d : S512x1024.Idx)) (hB x0 x9 x1 x10 x2 x11 r) (rowB x3 r) (batB x6) (vecB x8) d := by
  unfold out0_B_12
  refine (congrFun (View.read_writes_eq_canon _ _ _ (cover0_B_12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg8 x6 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outB_do (r : Fin 512) (d : Fin 1024) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo14 xo15 xo16 xo17 (ix2 r d : S512x1024.Idx) = x7 (ix3 0 0 d : S1x1x1024.Idx) * NormGrad.dx (x4 (ix2 r d : S512x1024.Idx)) (hB x0 x9 x1 x10 x2 x11 r) (rowB x3 r) (batB x6) (vecB x8) d := by
  unfold out0_B_13
  refine (congrFun (View.read_writes_eq_canon _ _ _ (cover0_B_13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg8 x6 NormGrad.zeros3 _, NormGrad.load_whole harg9 x7 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outB_sh (d : Fin 1024) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo14 xo15 xo16 xo17 (ix3 0 0 d : S1x1x1024.Idx) = xo14 (ix3 0 0 d : S1x1x1024.Idx) + ∑ r : Fin 512, (hB x0 x9 x1 x10 x2 x11 r) d := by
  unfold out0_B_14
  refine (congrFun (View.read_writes_eq_canon _ _ _ (cover0_B_14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg11 x9 NormGrad.zeros _, NormGrad.load_whole harg12 x10 NormGrad.zeros _, NormGrad.load_whole harg13 x11 NormGrad.zeros _, NormGrad.load_whole harg16 xo14 NormGrad.zeros3 _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outB_sc (d : Fin 1024) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo14 xo15 xo16 xo17 (ix3 0 0 d : S1x1x1024.Idx) = xo15 (ix3 0 0 d : S1x1x1024.Idx) + ∑ r : Fin 512, NormGrad.ds (hB x0 x9 x1 x10 x2 x11 r) (rowB x3 r) (vecB x8) d := by
  unfold out0_B_15
  refine (congrFun (View.read_writes_eq_canon _ _ _ (cover0_B_15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg10 x8 NormGrad.zeros _, NormGrad.load_whole harg11 x9 NormGrad.zeros _, NormGrad.load_whole harg12 x10 NormGrad.zeros _, NormGrad.load_whole harg13 x11 NormGrad.zeros _, NormGrad.load_whole harg17 xo15 NormGrad.zeros3 _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outB_gate (d : Fin 1024) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo14 xo15 xo16 xo17 (ix3 0 0 d : S1x1x1024.Idx) = xo16 (ix3 0 0 d : S1x1x1024.Idx) + ∑ r : Fin 512, NormGrad.dx (x4 (ix2 r d : S512x1024.Idx)) (hB x0 x9 x1 x10 x2 x11 r) (rowB x3 r) (batB x6) (vecB x8) d * x5 (ix2 r d : S512x1024.Idx) := by
  unfold out0_B_16
  refine (congrFun (View.read_writes_eq_canon _ _ _ (cover0_B_16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg7 x5 NormGrad.zeros _, NormGrad.load_whole harg8 x6 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _, NormGrad.load_whole harg18 xo16 NormGrad.zeros3 _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outB_g (d : Fin 1024) :
    out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo14 xo15 xo16 xo17 (ix2 0 d : S1x1024.Idx) = xo17 (ix2 0 d : S1x1024.Idx) + ∑ r : Fin 512, NormGrad.dg (hB x0 x9 x1 x10 x2 x11 r) (rowB x3 r) (batB x6) d := by
  unfold out0_B_17
  refine (congrFun (View.read_writes_eq_canon _ _ _ (cover0_B_17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg8 x6 NormGrad.zeros3 _, NormGrad.load_whole harg11 x9 NormGrad.zeros _, NormGrad.load_whole harg12 x10 NormGrad.zeros _, NormGrad.load_whole harg13 x11 NormGrad.zeros _, NormGrad.load_whole harg19 xo17 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

end

section

variable (hc0 : cond0_0 i) (hc1 : ¬cond0_1 i) (hc2 : cond0_2 i) (hc3 : ¬cond0_3 i) (hc4 : cond0_4 i) (hc5 : ¬cond0_5 i) (hc6 : ¬cond0_6 i) (hc7 : cond0_7 i) (xo17 : Vec Ideal S1x1024 .f32)

theorem outC_dx (r : Fin 512) (d : Fin 1024) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo17 (ix2 r d : S512x1024.Idx) = NormGrad.dx (x4 (ix2 r d : S512x1024.Idx)) (hB x0 x9 x1 x10 x2 x11 r) (rowB x3 r) (batB x6) (vecB x8) d := by
  unfold out0_C_12
  refine (congrFun (View.read_writes_eq_canon _ _ _ (cover0_C_12 _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg8 x6 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outC_do (r : Fin 512) (d : Fin 1024) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo17 (ix2 r d : S512x1024.Idx) = x7 (ix3 0 0 d : S1x1x1024.Idx) * NormGrad.dx (x4 (ix2 r d : S512x1024.Idx)) (hB x0 x9 x1 x10 x2 x11 r) (rowB x3 r) (batB x6) (vecB x8) d := by
  unfold out0_C_13
  refine (congrFun (View.read_writes_eq_canon _ _ _ (cover0_C_13 _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg8 x6 NormGrad.zeros3 _, NormGrad.load_whole harg9 x7 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outC_sh (d : Fin 1024) :
    out0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo17 (ix3 0 0 d : S1x1x1024.Idx) = ∑ r : Fin 512, (hB x0 x9 x1 x10 x2 x11 r) d := by
  unfold out0_C_14
  refine (congrFun (View.read_writes_eq_canon _ _ _ (cover0_C_14 _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outC_sc (d : Fin 1024) :
    out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo17 (ix3 0 0 d : S1x1x1024.Idx) = ∑ r : Fin 512, NormGrad.ds (hB x0 x9 x1 x10 x2 x11 r) (rowB x3 r) (vecB x8) d := by
  unfold out0_C_15
  refine (congrFun (View.read_writes_eq_canon _ _ _ (cover0_C_15 _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outC_gate (d : Fin 1024) :
    out0_C_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo17 (ix3 0 0 d : S1x1x1024.Idx) = ∑ r : Fin 512, NormGrad.dx (x4 (ix2 r d : S512x1024.Idx)) (hB x0 x9 x1 x10 x2 x11 r) (rowB x3 r) (batB x6) (vecB x8) d * x5 (ix2 r d : S512x1024.Idx) := by
  unfold out0_C_16
  refine (congrFun (View.read_writes_eq_canon _ _ _ (cover0_C_16 _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros3]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg6 x4 NormGrad.zeros _, NormGrad.load_whole harg7 x5 NormGrad.zeros _, NormGrad.load_whole harg8 x6 NormGrad.zeros3 _, NormGrad.load_whole harg10 x8 NormGrad.zeros _, NormGrad.load_whole harg11 x9 NormGrad.zeros _, NormGrad.load_whole harg12 x10 NormGrad.zeros _, NormGrad.load_whole harg13 x11 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

theorem outC_g (d : Fin 1024) :
    out0_C_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 hc7 x0 x1 x2 x3 x4 x5 x6 x7 x8 x9 x10 x11 xo17 (ix2 0 d : S1x1024.Idx) = xo17 (ix2 0 d : S1x1024.Idx) + ∑ r : Fin 512, NormGrad.dg (hB x0 x9 x1 x10 x2 x11 r) (rowB x3 r) (batB x6) d := by
  unfold out0_C_17
  refine (congrFun (View.read_writes_eq_canon _ _ _ (cover0_C_17 _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero NormGrad.zeros]
  rw [NormGrad.load_whole harg2 x0 NormGrad.zeros _, NormGrad.load_whole harg3 x1 NormGrad.zeros _, NormGrad.load_whole harg4 x2 NormGrad.zeros _, NormGrad.load_whole harg5 x3 NormGrad.zeros _, NormGrad.load_whole harg8 x6 NormGrad.zeros3 _, NormGrad.load_whole harg11 x9 NormGrad.zeros _, NormGrad.load_whole harg12 x10 NormGrad.zeros _, NormGrad.load_whole harg13 x11 NormGrad.zeros _, NormGrad.load_whole harg19 xo17 NormGrad.zeros _]
  simp only [hB, rowB, batB, vecB, NormGrad.dx, NormGrad.ds, NormGrad.dg, NormGrad.rs]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

end

end

/-! ### The places of the blocks -/

theorem lt8 (t : Fin grid0.N) : t.val < 8 := lt_of_lt_of_eq t.isLt N_0

/-- The row of the arrays in place r at step t. -/
def at_row (t : Fin grid0.N) (r : Fin 512) : Fin 4096 := ⟨t.val * 512 + r.val, by have := lt8 t; omega⟩

/-- The sequence of step t. -/
def at_seq (t : Fin grid0.N) : Fin 2 := ⟨t.val / 4, by have := lt8 t; omega⟩

/-- Window 0: step t holds rows 512 t to 512 t + 511. -/
theorem emb0 (t : Fin grid0.N) (r : Fin 512) (d : Fin 768) :
    ((cfg0.win 0).blk t).view.emb (ix2 r d : S512x768.Idx) = (ix2 (at_row t r) d : S4096x768.Idx) := by
  have e := (by decide +kernel : ∀ t : Fin grid0.N, cc0_transform_0 (grid0.coords t) = ![t.val, 0]) t
  have h0 : win0_0.index t (0 : Fin 2) = t.val := congrFun e 0
  have h1 : win0_0.index t (1 : Fin 2) = 0 := congrFun e 1
  funext a
  refine Fin.ext ?_
  match a with
  | ⟨0, _⟩ => show win0_0.index t (0 : Fin 2) * 512 + 1 * r.val = t.val * 512 + r.val; rw [h0, Nat.one_mul]
  | ⟨1, _⟩ => show win0_0.index t (1 : Fin 2) * 768 + 1 * d.val = d.val; rw [h1]; omega

/-- Window 9 is the whole array. -/
theorem emb9 (t : Fin grid0.N) (r : Fin 768) (d : Fin 1024) :
    ((cfg0.win 9).blk t).view.emb (ix2 r d : S768x1024.Idx) = (ix2 r d : S768x1024.Idx) := by
  have e := (by decide +kernel : ∀ t : Fin grid0.N, cc0_transform_9 (grid0.coords t) = ![0, 0]) t
  have h0 : win0_9.index t (0 : Fin 2) = 0 := congrFun e 0
  have h1 : win0_9.index t (1 : Fin 2) = 0 := congrFun e 1
  funext a
  refine Fin.ext ?_
  match a with
  | ⟨0, _⟩ => show win0_9.index t (0 : Fin 2) * 768 + 1 * r.val = r.val; rw [h0]; omega
  | ⟨1, _⟩ => show win0_9.index t (1 : Fin 2) * 1024 + 1 * d.val = d.val; rw [h1]; omega

/-- Window 1: step t holds rows 512 t to 512 t + 511. -/
theorem emb1 (t : Fin grid0.N) (r : Fin 512) (d : Fin 512) :
    ((cfg0.win 1).blk t).view.emb (ix2 r d : S512x512.Idx) = (ix2 (at_row t r) d : S4096x512.Idx) := by
  have e := (by decide +kernel : ∀ t : Fin grid0.N, cc0_transform_1 (grid0.coords t) = ![t.val, 0]) t
  have h0 : win0_1.index t (0 : Fin 2) = t.val := congrFun e 0
  have h1 : win0_1.index t (1 : Fin 2) = 0 := congrFun e 1
  funext a
  refine Fin.ext ?_
  match a with
  | ⟨0, _⟩ => show win0_1.index t (0 : Fin 2) * 512 + 1 * r.val = t.val * 512 + r.val; rw [h0, Nat.one_mul]
  | ⟨1, _⟩ => show win0_1.index t (1 : Fin 2) * 512 + 1 * d.val = d.val; rw [h1]; omega

/-- Window 10 is the whole array. -/
theorem emb10 (t : Fin grid0.N) (r : Fin 512) (d : Fin 1024) :
    ((cfg0.win 10).blk t).view.emb (ix2 r d : S512x1024.Idx) = (ix2 r d : S512x1024.Idx) := by
  have e := (by decide +kernel : ∀ t : Fin grid0.N, cc0_transform_10 (grid0.coords t) = ![0, 0]) t
  have h0 : win0_10.index t (0 : Fin 2) = 0 := congrFun e 0
  have h1 : win0_10.index t (1 : Fin 2) = 0 := congrFun e 1
  funext a
  refine Fin.ext ?_
  match a with
  | ⟨0, _⟩ => show win0_10.index t (0 : Fin 2) * 512 + 1 * r.val = r.val; rw [h0]; omega
  | ⟨1, _⟩ => show win0_10.index t (1 : Fin 2) * 1024 + 1 * d.val = d.val; rw [h1]; omega

/-- Window 2: step t holds rows 512 t to 512 t + 511. -/
theorem emb2 (t : Fin grid0.N) (r : Fin 512) (d : Fin 2048) :
    ((cfg0.win 2).blk t).view.emb (ix2 r d : S512x2048.Idx) = (ix2 (at_row t r) d : S4096x2048.Idx) := by
  have e := (by decide +kernel : ∀ t : Fin grid0.N, cc0_transform_2 (grid0.coords t) = ![t.val, 0]) t
  have h0 : win0_2.index t (0 : Fin 2) = t.val := congrFun e 0
  have h1 : win0_2.index t (1 : Fin 2) = 0 := congrFun e 1
  funext a
  refine Fin.ext ?_
  match a with
  | ⟨0, _⟩ => show win0_2.index t (0 : Fin 2) * 512 + 1 * r.val = t.val * 512 + r.val; rw [h0, Nat.one_mul]
  | ⟨1, _⟩ => show win0_2.index t (1 : Fin 2) * 2048 + 1 * d.val = d.val; rw [h1]; omega

/-- Window 11 is the whole array. -/
theorem emb11 (t : Fin grid0.N) (r : Fin 2048) (d : Fin 1024) :
    ((cfg0.win 11).blk t).view.emb (ix2 r d : S2048x1024.Idx) = (ix2 r d : S2048x1024.Idx) := by
  have e := (by decide +kernel : ∀ t : Fin grid0.N, cc0_transform_11 (grid0.coords t) = ![0, 0]) t
  have h0 : win0_11.index t (0 : Fin 2) = 0 := congrFun e 0
  have h1 : win0_11.index t (1 : Fin 2) = 0 := congrFun e 1
  funext a
  refine Fin.ext ?_
  match a with
  | ⟨0, _⟩ => show win0_11.index t (0 : Fin 2) * 2048 + 1 * r.val = r.val; rw [h0]; omega
  | ⟨1, _⟩ => show win0_11.index t (1 : Fin 2) * 1024 + 1 * d.val = d.val; rw [h1]; omega

/-- Window 3: step t holds rows 512 t to 512 t + 511. -/
theorem emb3 (t : Fin grid0.N) (r : Fin 512) (d : Fin 1024) :
    ((cfg0.win 3).blk t).view.emb (ix2 r d : S512x1024.Idx) = (ix2 (at_row t r) d : S4096x1024.Idx) := by
  have e := (by decide +kernel : ∀ t : Fin grid0.N, cc0_transform_3 (grid0.coords t) = ![t.val, 0]) t
  have h0 : win0_3.index t (0 : Fin 2) = t.val := congrFun e 0
  have h1 : win0_3.index t (1 : Fin 2) = 0 := congrFun e 1
  funext a
  refine Fin.ext ?_
  match a with
  | ⟨0, _⟩ => show win0_3.index t (0 : Fin 2) * 512 + 1 * r.val = t.val * 512 + r.val; rw [h0, Nat.one_mul]
  | ⟨1, _⟩ => show win0_3.index t (1 : Fin 2) * 1024 + 1 * d.val = d.val; rw [h1]; omega

/-- Window 4: step t holds rows 512 t to 512 t + 511. -/
theorem emb4 (t : Fin grid0.N) (r : Fin 512) (d : Fin 1024) :
    ((cfg0.win 4).blk t).view.emb (ix2 r d : S512x1024.Idx) = (ix2 (at_row t r) d : S4096x1024.Idx) := by
  have e := (by decide +kernel : ∀ t : Fin grid0.N, cc0_transform_4 (grid0.coords t) = ![t.val, 0]) t
  have h0 : win0_4.index t (0 : Fin 2) = t.val := congrFun e 0
  have h1 : win0_4.index t (1 : Fin 2) = 0 := congrFun e 1
  funext a
  refine Fin.ext ?_
  match a with
  | ⟨0, _⟩ => show win0_4.index t (0 : Fin 2) * 512 + 1 * r.val = t.val * 512 + r.val; rw [h0, Nat.one_mul]
  | ⟨1, _⟩ => show win0_4.index t (1 : Fin 2) * 1024 + 1 * d.val = d.val; rw [h1]; omega

/-- Window 5: step t holds rows 512 t to 512 t + 511. -/
theorem emb5 (t : Fin grid0.N) (r : Fin 512) (d : Fin 1024) :
    ((cfg0.win 5).blk t).view.emb (ix2 r d : S512x1024.Idx) = (ix2 (at_row t r) d : S4096x1024.Idx) := by
  have e := (by decide +kernel : ∀ t : Fin grid0.N, cc0_transform_5 (grid0.coords t) = ![t.val, 0]) t
  have h0 : win0_5.index t (0 : Fin 2) = t.val := congrFun e 0
  have h1 : win0_5.index t (1 : Fin 2) = 0 := congrFun e 1
  funext a
  refine Fin.ext ?_
  match a with
  | ⟨0, _⟩ => show win0_5.index t (0 : Fin 2) * 512 + 1 * r.val = t.val * 512 + r.val; rw [h0, Nat.one_mul]
  | ⟨1, _⟩ => show win0_5.index t (1 : Fin 2) * 1024 + 1 * d.val = d.val; rw [h1]; omega

/-- Window 7: step t holds the row of its sequence. -/
theorem emb7 (t : Fin grid0.N) (d : Fin 1024) :
    ((cfg0.win 7).blk t).view.emb (ix3 0 0 d : S1x1x1024.Idx) = (ix3 (at_seq t) 0 d : S2x1x1024.Idx) := by
  have e := (by decide +kernel : ∀ t : Fin grid0.N, cc0_transform_7 (grid0.coords t) = ![t.val / 4, 0, 0]) t
  have h0 : win0_7.index t (0 : Fin 3) = t.val / 4 := congrFun e 0
  have h1 : win0_7.index t (1 : Fin 3) = 0 := congrFun e 1
  have h2 : win0_7.index t (2 : Fin 3) = 0 := congrFun e 2
  funext a
  refine Fin.ext ?_
  match a with
  | ⟨0, _⟩ => show win0_7.index t (0 : Fin 3) * 1 + 1 * 0 = t.val / 4; rw [h0]; omega
  | ⟨1, _⟩ => show win0_7.index t (1 : Fin 3) * 1 + 1 * 0 = 0; rw [h1]
  | ⟨2, _⟩ => show win0_7.index t (2 : Fin 3) * 1024 + 1 * d.val = d.val; rw [h2]; omega

/-- Window 6: step t holds the row of its sequence. -/
theorem emb6 (t : Fin grid0.N) (d : Fin 1024) :
    ((cfg0.win 6).blk t).view.emb (ix3 0 0 d : S1x1x1024.Idx) = (ix3 (at_seq t) 0 d : S2x1x1024.Idx) := by
  have e := (by decide +kernel : ∀ t : Fin grid0.N, cc0_transform_6 (grid0.coords t) = ![t.val / 4, 0, 0]) t
  have h0 : win0_6.index t (0 : Fin 3) = t.val / 4 := congrFun e 0
  have h1 : win0_6.index t (1 : Fin 3) = 0 := congrFun e 1
  have h2 : win0_6.index t (2 : Fin 3) = 0 := congrFun e 2
  funext a
  refine Fin.ext ?_
  match a with
  | ⟨0, _⟩ => show win0_6.index t (0 : Fin 3) * 1 + 1 * 0 = t.val / 4; rw [h0]; omega
  | ⟨1, _⟩ => show win0_6.index t (1 : Fin 3) * 1 + 1 * 0 = 0; rw [h1]
  | ⟨2, _⟩ => show win0_6.index t (2 : Fin 3) * 1024 + 1 * d.val = d.val; rw [h2]; omega

/-- Window 8 is the whole array. -/
theorem emb8 (t : Fin grid0.N) (r : Fin 1) (d : Fin 1024) :
    ((cfg0.win 8).blk t).view.emb (ix2 r d : S1x1024.Idx) = (ix2 r d : S1x1024.Idx) := by
  have e := (by decide +kernel : ∀ t : Fin grid0.N, cc0_transform_8 (grid0.coords t) = ![0, 0]) t
  have h0 : win0_8.index t (0 : Fin 2) = 0 := congrFun e 0
  have h1 : win0_8.index t (1 : Fin 2) = 0 := congrFun e 1
  funext a
  refine Fin.ext ?_
  match a with
  | ⟨0, _⟩ => show win0_8.index t (0 : Fin 2) * 1 + 1 * r.val = r.val; rw [h0]; omega
  | ⟨1, _⟩ => show win0_8.index t (1 : Fin 2) * 1024 + 1 * d.val = d.val; rw [h1]; omega

/-- Window 12: step t holds rows 512 t to 512 t + 511. -/
theorem emb12 (t : Fin grid0.N) (r : Fin 512) (d : Fin 1024) :
    ((cfg0.win 12).blk t).view.emb (ix2 r d : S512x1024.Idx) = (ix2 (at_row t r) d : S4096x1024.Idx) := by
  have e := (by decide +kernel : ∀ t : Fin grid0.N, cc0_transform_12 (grid0.coords t) = ![t.val, 0]) t
  have h0 : win0_12.index t (0 : Fin 2) = t.val := congrFun e 0
  have h1 : win0_12.index t (1 : Fin 2) = 0 := congrFun e 1
  funext a
  refine Fin.ext ?_
  match a with
  | ⟨0, _⟩ => show win0_12.index t (0 : Fin 2) * 512 + 1 * r.val = t.val * 512 + r.val; rw [h0, Nat.one_mul]
  | ⟨1, _⟩ => show win0_12.index t (1 : Fin 2) * 1024 + 1 * d.val = d.val; rw [h1]; omega

/-- Window 13: step t holds rows 512 t to 512 t + 511. -/
theorem emb13 (t : Fin grid0.N) (r : Fin 512) (d : Fin 1024) :
    ((cfg0.win 13).blk t).view.emb (ix2 r d : S512x1024.Idx) = (ix2 (at_row t r) d : S4096x1024.Idx) := by
  have e := (by decide +kernel : ∀ t : Fin grid0.N, cc0_transform_13 (grid0.coords t) = ![t.val, 0]) t
  have h0 : win0_13.index t (0 : Fin 2) = t.val := congrFun e 0
  have h1 : win0_13.index t (1 : Fin 2) = 0 := congrFun e 1
  funext a
  refine Fin.ext ?_
  match a with
  | ⟨0, _⟩ => show win0_13.index t (0 : Fin 2) * 512 + 1 * r.val = t.val * 512 + r.val; rw [h0, Nat.one_mul]
  | ⟨1, _⟩ => show win0_13.index t (1 : Fin 2) * 1024 + 1 * d.val = d.val; rw [h1]; omega

/-- Window 14: step t holds the row of its sequence. -/
theorem emb14 (t : Fin grid0.N) (d : Fin 1024) :
    ((cfg0.win 14).blk t).view.emb (ix3 0 0 d : S1x1x1024.Idx) = (ix3 (at_seq t) 0 d : S2x1x1024.Idx) := by
  have e := (by decide +kernel : ∀ t : Fin grid0.N, cc0_transform_14 (grid0.coords t) = ![t.val / 4, 0, 0]) t
  have h0 : win0_14.index t (0 : Fin 3) = t.val / 4 := congrFun e 0
  have h1 : win0_14.index t (1 : Fin 3) = 0 := congrFun e 1
  have h2 : win0_14.index t (2 : Fin 3) = 0 := congrFun e 2
  funext a
  refine Fin.ext ?_
  match a with
  | ⟨0, _⟩ => show win0_14.index t (0 : Fin 3) * 1 + 1 * 0 = t.val / 4; rw [h0]; omega
  | ⟨1, _⟩ => show win0_14.index t (1 : Fin 3) * 1 + 1 * 0 = 0; rw [h1]
  | ⟨2, _⟩ => show win0_14.index t (2 : Fin 3) * 1024 + 1 * d.val = d.val; rw [h2]; omega

/-- Window 15: step t holds the row of its sequence. -/
theorem emb15 (t : Fin grid0.N) (d : Fin 1024) :
    ((cfg0.win 15).blk t).view.emb (ix3 0 0 d : S1x1x1024.Idx) = (ix3 (at_seq t) 0 d : S2x1x1024.Idx) := by
  have e := (by decide +kernel : ∀ t : Fin grid0.N, cc0_transform_15 (grid0.coords t) = ![t.val / 4, 0, 0]) t
  have h0 : win0_15.index t (0 : Fin 3) = t.val / 4 := congrFun e 0
  have h1 : win0_15.index t (1 : Fin 3) = 0 := congrFun e 1
  have h2 : win0_15.index t (2 : Fin 3) = 0 := congrFun e 2
  funext a
  refine Fin.ext ?_
  match a with
  | ⟨0, _⟩ => show win0_15.index t (0 : Fin 3) * 1 + 1 * 0 = t.val / 4; rw [h0]; omega
  | ⟨1, _⟩ => show win0_15.index t (1 : Fin 3) * 1 + 1 * 0 = 0; rw [h1]
  | ⟨2, _⟩ => show win0_15.index t (2 : Fin 3) * 1024 + 1 * d.val = d.val; rw [h2]; omega

/-- Window 16: step t holds the row of its sequence. -/
theorem emb16 (t : Fin grid0.N) (d : Fin 1024) :
    ((cfg0.win 16).blk t).view.emb (ix3 0 0 d : S1x1x1024.Idx) = (ix3 (at_seq t) 0 d : S2x1x1024.Idx) := by
  have e := (by decide +kernel : ∀ t : Fin grid0.N, cc0_transform_16 (grid0.coords t) = ![t.val / 4, 0, 0]) t
  have h0 : win0_16.index t (0 : Fin 3) = t.val / 4 := congrFun e 0
  have h1 : win0_16.index t (1 : Fin 3) = 0 := congrFun e 1
  have h2 : win0_16.index t (2 : Fin 3) = 0 := congrFun e 2
  funext a
  refine Fin.ext ?_
  match a with
  | ⟨0, _⟩ => show win0_16.index t (0 : Fin 3) * 1 + 1 * 0 = t.val / 4; rw [h0]; omega
  | ⟨1, _⟩ => show win0_16.index t (1 : Fin 3) * 1 + 1 * 0 = 0; rw [h1]
  | ⟨2, _⟩ => show win0_16.index t (2 : Fin 3) * 1024 + 1 * d.val = d.val; rw [h2]; omega

/-- Window 17 is the whole array. -/
theorem emb17 (t : Fin grid0.N) (r : Fin 1) (d : Fin 1024) :
    ((cfg0.win 17).blk t).view.emb (ix2 r d : S1x1024.Idx) = (ix2 r d : S1x1024.Idx) := by
  have e := (by decide +kernel : ∀ t : Fin grid0.N, cc0_transform_17 (grid0.coords t) = ![0, 0]) t
  have h0 : win0_17.index t (0 : Fin 2) = 0 := congrFun e 0
  have h1 : win0_17.index t (1 : Fin 2) = 0 := congrFun e 1
  funext a
  refine Fin.ext ?_
  match a with
  | ⟨0, _⟩ => show win0_17.index t (0 : Fin 2) * 1 + 1 * r.val = r.val; rw [h0]; omega
  | ⟨1, _⟩ => show win0_17.index t (1 : Fin 2) * 1024 + 1 * d.val = d.val; rw [h1]; omega

/-! ### Rows of the arrays -/

/-- The gradient of the modulated norm, row n. -/
def h (y768 : (⟨S4096x768, .bf16⟩ : BufTy).Contents (Elt Ideal)) (w768 : (⟨S768x1024, .bf16⟩ : BufTy).Contents (Elt Ideal)) (y512 : (⟨S4096x512, .bf16⟩ : BufTy).Contents (Elt Ideal)) (w512 : (⟨S512x1024, .bf16⟩ : BufTy).Contents (Elt Ideal)) (y2048 : (⟨S4096x2048, .bf16⟩ : BufTy).Contents (Elt Ideal)) (w2048 : (⟨S2048x1024, .bf16⟩ : BufTy).Contents (Elt Ideal)) (n : Fin 4096) : Fin 1024 → EReal :=
  fun d => (∑ k : Fin 768, y768 (ix2 n k : S4096x768.Idx) * w768 (ix2 k d : S768x1024.Idx)) + (∑ k : Fin 512, y512 (ix2 n k : S4096x512.Idx) * w512 (ix2 k d : S512x1024.Idx)) + (∑ k : Fin 2048, y2048 (ix2 n k : S4096x2048.Idx) * w2048 (ix2 k d : S2048x1024.Idx))

def row (x : (⟨S4096x1024, .f32⟩ : BufTy).Contents (Elt Ideal)) (n : Fin 4096) : Fin 1024 → EReal := fun d => x (ix2 n d : S4096x1024.Idx)

def bat (x : (⟨S2x1x1024, .f32⟩ : BufTy).Contents (Elt Ideal)) (n : Fin 4096) : Fin 1024 → EReal :=
  fun d => x (ix3 ⟨n.val / 2048, by omega⟩ 0 d : S2x1x1024.Idx)

def vec (x : (⟨S1x1024, .f32⟩ : BufTy).Contents (Elt Ideal)) : Fin 1024 → EReal := fun d => x (ix2 0 d : S1x1024.Idx)

def rowo (x : (⟨S4096x1024, .bf16⟩ : BufTy).Contents (Elt Ideal)) (n : Fin 4096) : Fin 1024 → EReal := fun d => x (ix2 n d : S4096x1024.Idx)

/-- The stream before the norm: the outcome of the block before, times its gate, is added. -/
def stream (x : (⟨S4096x1024, .f32⟩ : BufTy).Contents (Elt Ideal)) (o : (⟨S4096x1024, .bf16⟩ : BufTy).Contents (Elt Ideal)) (gt : (⟨S2x1x1024, .f32⟩ : BufTy).Contents (Elt Ideal)) (n : Fin 4096) : Fin 1024 → EReal :=
  fun d => row x n d + bat gt n d * rowo o n d

section

variable (m : (ℓ : Loc nD τ sig) → Buf (Elt Ideal) ℓ)

def hM (c : Dev nD) : Fin 4096 → Fin 1024 → EReal := h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

def xM (c : Dev nD) : Fin 4096 → Fin 1024 → EReal := stream (m ((c : Thread nD τ).loc main_arg6)) (m ((c : Thread nD τ).loc main_arg8)) (m ((c : Thread nD τ).loc main_arg10))

def drM (c : Dev nD) : Fin 4096 → Fin 1024 → EReal := row (m ((c : Thread nD τ).loc main_arg7))

def scM (c : Dev nD) : Fin 4096 → Fin 1024 → EReal := bat (m ((c : Thread nD τ).loc main_arg9))

def gM (c : Dev nD) : Fin 1024 → EReal := vec (m ((c : Thread nD τ).loc main_arg11))

def oM (c : Dev nD) : Fin 4096 → Fin 1024 → EReal := rowo (m ((c : Thread nD τ).loc main_arg8))

def gtM (c : Dev nD) : Fin 4096 → Fin 1024 → EReal := bat (m ((c : Thread nD τ).loc main_arg10))

/-- The gradient of row n. -/
def dxM (c : Dev nD) (n : Fin 4096) (d : Fin 1024) : EReal := NormGrad.dx (drM m c n d) (hM m c n) (xM m c n) (scM m c n) (gM m c) d

def shF (c : Dev nD) (d : Fin 1024) (n : Fin 4096) : EReal := hM m c n d

def scF (c : Dev nD) (d : Fin 1024) (n : Fin 4096) : EReal := NormGrad.ds (hM m c n) (xM m c n) (gM m c) d

def gateF (c : Dev nD) (d : Fin 1024) (n : Fin 4096) : EReal := dxM m c n d * oM m c n d

def gF (c : Dev nD) (d : Fin 1024) (n : Fin 4096) : EReal := NormGrad.dg (hM m c n) (xM m c n) (scM m c n) d

/-! ### The blocks of the arguments -/

theorem blk0 (c : Dev nD) (t : Fin grid0.N) (r : Fin 512) (d : Fin 768) :
    iblk m c 0 t (ix2 r d : S512x768.Idx) = (m ((c : Thread nD τ).loc main_arg0)) (ix2 (at_row t r) d : S4096x768.Idx) := by
  show (m ((c : Thread nD τ).loc main_arg0)) (((cfg0.win 0).blk t).view.emb (ix2 r d : S512x768.Idx)) = _
  rw [emb0]

theorem blk9 (c : Dev nD) (t : Fin grid0.N) (r : Fin 768) (d : Fin 1024) :
    iblk m c 9 t (ix2 r d : S768x1024.Idx) = (m ((c : Thread nD τ).loc main_arg1)) (ix2 r d : S768x1024.Idx) := by
  show (m ((c : Thread nD τ).loc main_arg1)) (((cfg0.win 9).blk t).view.emb (ix2 r d : S768x1024.Idx)) = _
  rw [emb9]

theorem blk1 (c : Dev nD) (t : Fin grid0.N) (r : Fin 512) (d : Fin 512) :
    iblk m c 1 t (ix2 r d : S512x512.Idx) = (m ((c : Thread nD τ).loc main_arg2)) (ix2 (at_row t r) d : S4096x512.Idx) := by
  show (m ((c : Thread nD τ).loc main_arg2)) (((cfg0.win 1).blk t).view.emb (ix2 r d : S512x512.Idx)) = _
  rw [emb1]

theorem blk10 (c : Dev nD) (t : Fin grid0.N) (r : Fin 512) (d : Fin 1024) :
    iblk m c 10 t (ix2 r d : S512x1024.Idx) = (m ((c : Thread nD τ).loc main_arg3)) (ix2 r d : S512x1024.Idx) := by
  show (m ((c : Thread nD τ).loc main_arg3)) (((cfg0.win 10).blk t).view.emb (ix2 r d : S512x1024.Idx)) = _
  rw [emb10]

theorem blk2 (c : Dev nD) (t : Fin grid0.N) (r : Fin 512) (d : Fin 2048) :
    iblk m c 2 t (ix2 r d : S512x2048.Idx) = (m ((c : Thread nD τ).loc main_arg4)) (ix2 (at_row t r) d : S4096x2048.Idx) := by
  show (m ((c : Thread nD τ).loc main_arg4)) (((cfg0.win 2).blk t).view.emb (ix2 r d : S512x2048.Idx)) = _
  rw [emb2]

theorem blk11 (c : Dev nD) (t : Fin grid0.N) (r : Fin 2048) (d : Fin 1024) :
    iblk m c 11 t (ix2 r d : S2048x1024.Idx) = (m ((c : Thread nD τ).loc main_arg5)) (ix2 r d : S2048x1024.Idx) := by
  show (m ((c : Thread nD τ).loc main_arg5)) (((cfg0.win 11).blk t).view.emb (ix2 r d : S2048x1024.Idx)) = _
  rw [emb11]

/-- The stream as the program computes it before the kernel. -/
def streamed (x : (⟨S4096x1024, .f32⟩ : BufTy).Contents (Elt Ideal)) (o : (⟨S4096x1024, .bf16⟩ : BufTy).Contents (Elt Ideal)) (gt : (⟨S2x1x1024, .f32⟩ : BufTy).Contents (Elt Ideal)) : (⟨S4096x1024, .f32⟩ : BufTy).Contents (Elt Ideal) :=
  shapeCast S4096x1024 (addf (F := Ideal) (φ := .f32) (shapeCast S2x2048x1024 x shapeCasts_S4096x1024_S2x2048x1024) (mulf (broadcastInDim S2x2048x1024 ![0, 1, 2] bcast_S2x1x1024_S2x2048x1024_0_1_2 gt)
    (shapeCast S2x2048x1024 (extf .f32 o bitsLt_bf16_f32) shapeCasts_S4096x1024_S2x2048x1024))) shapeCasts_S2x2048x1024_S4096x1024

theorem streamed_at (x : (⟨S4096x1024, .f32⟩ : BufTy).Contents (Elt Ideal)) (o : (⟨S4096x1024, .bf16⟩ : BufTy).Contents (Elt Ideal)) (gt : (⟨S2x1x1024, .f32⟩ : BufTy).Contents (Elt Ideal)) (n : Fin 4096) (d : Fin 1024) :
    streamed x o gt (ix2 n d : S4096x1024.Idx) = stream x o gt n d := by
  unfold streamed stream row bat rowo
  pointwise []

theorem V_stream (c : Dev nD) : V m c main_v6 = streamed (m ((c : Thread nD τ).loc main_arg6)) (m ((c : Thread nD τ).loc main_arg8)) (m ((c : Thread nD τ).loc main_arg10)) := by
  unfold_abbrev_sides
  after_reads_simp
  rfl

theorem blk3 (c : Dev nD) (t : Fin grid0.N) (r : Fin 512) (d : Fin 1024) :
    iblk m c 3 t (ix2 r d : S512x1024.Idx) = stream (m ((c : Thread nD τ).loc main_arg6)) (m ((c : Thread nD τ).loc main_arg8)) (m ((c : Thread nD τ).loc main_arg10)) (at_row t r) d := by
  show V m c main_v6 (((cfg0.win 3).blk t).view.emb (ix2 r d : S512x1024.Idx)) = _
  rw [emb3, V_stream]
  exact streamed_at _ _ _ _ _

theorem blk4 (c : Dev nD) (t : Fin grid0.N) (r : Fin 512) (d : Fin 1024) :
    iblk m c 4 t (ix2 r d : S512x1024.Idx) = (m ((c : Thread nD τ).loc main_arg7)) (ix2 (at_row t r) d : S4096x1024.Idx) := by
  show (m ((c : Thread nD τ).loc main_arg7)) (((cfg0.win 4).blk t).view.emb (ix2 r d : S512x1024.Idx)) = _
  rw [emb4]

theorem blk5 (c : Dev nD) (t : Fin grid0.N) (r : Fin 512) (d : Fin 1024) :
    iblk m c 5 t (ix2 r d : S512x1024.Idx) = (m ((c : Thread nD τ).loc main_arg8)) (ix2 (at_row t r) d : S4096x1024.Idx) := by
  show (m ((c : Thread nD τ).loc main_arg8)) (((cfg0.win 5).blk t).view.emb (ix2 r d : S512x1024.Idx)) = _
  rw [emb5]

theorem blk7 (c : Dev nD) (t : Fin grid0.N) (d : Fin 1024) :
    iblk m c 7 t (ix3 0 0 d : S1x1x1024.Idx) = (m ((c : Thread nD τ).loc main_arg10)) (ix3 (at_seq t) 0 d : S2x1x1024.Idx) := by
  show (m ((c : Thread nD τ).loc main_arg10)) (((cfg0.win 7).blk t).view.emb (ix3 0 0 d : S1x1x1024.Idx)) = _
  rw [emb7]

theorem blk6 (c : Dev nD) (t : Fin grid0.N) (d : Fin 1024) :
    iblk m c 6 t (ix3 0 0 d : S1x1x1024.Idx) = (m ((c : Thread nD τ).loc main_arg9)) (ix3 (at_seq t) 0 d : S2x1x1024.Idx) := by
  show (m ((c : Thread nD τ).loc main_arg9)) (((cfg0.win 6).blk t).view.emb (ix3 0 0 d : S1x1x1024.Idx)) = _
  rw [emb6]

theorem blk8 (c : Dev nD) (t : Fin grid0.N) (r : Fin 1) (d : Fin 1024) :
    iblk m c 8 t (ix2 r d : S1x1024.Idx) = (m ((c : Thread nD τ).loc main_arg11)) (ix2 r d : S1x1024.Idx) := by
  show (m ((c : Thread nD τ).loc main_arg11)) (((cfg0.win 8).blk t).view.emb (ix2 r d : S1x1024.Idx)) = _
  rw [emb8]

theorem h_blk (c : Dev nD) (t : Fin grid0.N) (r : Fin 512) : hB (iblk m c 0 t) (iblk m c 9 t) (iblk m c 1 t) (iblk m c 10 t) (iblk m c 2 t) (iblk m c 11 t) r = hM m c (at_row t r) := by
  funext d
  have e0 := Finset.sum_congr (rfl : (Finset.univ : Finset (Fin 768)) = Finset.univ) fun k _ => congrArg₂ (fun a b : EReal => a * b) (blk0 m c t r k) (blk9 m c t k d)
  have e1 := Finset.sum_congr (rfl : (Finset.univ : Finset (Fin 512)) = Finset.univ) fun k _ => congrArg₂ (fun a b : EReal => a * b) (blk1 m c t r k) (blk10 m c t k d)
  have e2 := Finset.sum_congr (rfl : (Finset.univ : Finset (Fin 2048)) = Finset.univ) fun k _ => congrArg₂ (fun a b : EReal => a * b) (blk2 m c t r k) (blk11 m c t k d)
  exact congrArg₂ (fun a b : EReal => a + b) (congrArg₂ (fun a b : EReal => a + b) e0 e1) e2

theorem x_blk (c : Dev nD) (t : Fin grid0.N) (r : Fin 512) : rowB (iblk m c 3 t) r = xM m c (at_row t r) := funext fun d => blk3 m c t r d

theorem seq_row (t : Fin grid0.N) (r : Fin 512) (h : (at_row t r).val / 2048 < 2) : (⟨(at_row t r).val / 2048, h⟩ : Fin 2) = at_seq t :=
  Fin.ext (by show (t.val * 512 + r.val) / 2048 = t.val / 4; omega)

theorem sc_blk (c : Dev nD) (t : Fin grid0.N) (r : Fin 512) : batB (iblk m c 6 t) = scM m c (at_row t r) := by
  funext d
  refine (blk6 m c t d).trans ?_
  unfold scM bat
  rw [seq_row]

theorem g_blk (c : Dev nD) (t : Fin grid0.N) : vecB (iblk m c 8 t) = gM m c := funext fun d => blk8 m c t 0 d

theorem dx_blk (c : Dev nD) (t : Fin grid0.N) (r : Fin 512) (d : Fin 1024) :
    NormGrad.dx (iblk m c 4 t (ix2 r d : S512x1024.Idx)) (hB (iblk m c 0 t) (iblk m c 9 t) (iblk m c 1 t) (iblk m c 10 t) (iblk m c 2 t) (iblk m c 11 t) r) (rowB (iblk m c 3 t) r) (batB (iblk m c 6 t)) (vecB (iblk m c 8 t)) d = dxM m c (at_row t r) d := by
  rw [h_blk, x_blk, sc_blk m c t r, g_blk, blk4]
  rfl

theorem do_blk (c : Dev nD) (t : Fin grid0.N) (r : Fin 512) (d : Fin 1024) :
    @HMul.hMul EReal EReal EReal _ (iblk m c 7 t (ix3 0 0 d : S1x1x1024.Idx)) (NormGrad.dx (iblk m c 4 t (ix2 r d : S512x1024.Idx)) (hB (iblk m c 0 t) (iblk m c 9 t) (iblk m c 1 t) (iblk m c 10 t) (iblk m c 2 t) (iblk m c 11 t) r) (rowB (iblk m c 3 t) r) (batB (iblk m c 6 t)) (vecB (iblk m c 8 t)) d) = gtM m c (at_row t r) d * dxM m c (at_row t r) d := by
  rw [dx_blk, blk7]
  unfold gtM bat
  rw [seq_row]

theorem sh_blk (c : Dev nD) (t : Fin grid0.N) (d : Fin 1024) :
    ∑ r : Fin 512, (hB (iblk m c 0 t) (iblk m c 9 t) (iblk m c 1 t) (iblk m c 10 t) (iblk m c 2 t) (iblk m c 11 t) r) d = NormGrad.part (shF m c d) ⟨t.val, lt8 t⟩ := by
  unfold NormGrad.part
  refine Finset.sum_congr rfl fun r _ => ?_
  rw [h_blk]
  rfl

theorem sc_blk' (c : Dev nD) (t : Fin grid0.N) (d : Fin 1024) :
    ∑ r : Fin 512, NormGrad.ds (hB (iblk m c 0 t) (iblk m c 9 t) (iblk m c 1 t) (iblk m c 10 t) (iblk m c 2 t) (iblk m c 11 t) r) (rowB (iblk m c 3 t) r) (vecB (iblk m c 8 t)) d = NormGrad.part (scF m c d) ⟨t.val, lt8 t⟩ := by
  unfold NormGrad.part
  refine Finset.sum_congr rfl fun r _ => ?_
  rw [h_blk, x_blk, g_blk]
  rfl

theorem gate_blk (c : Dev nD) (t : Fin grid0.N) (d : Fin 1024) :
    ∑ r : Fin 512, NormGrad.dx (iblk m c 4 t (ix2 r d : S512x1024.Idx)) (hB (iblk m c 0 t) (iblk m c 9 t) (iblk m c 1 t) (iblk m c 10 t) (iblk m c 2 t) (iblk m c 11 t) r) (rowB (iblk m c 3 t) r) (batB (iblk m c 6 t)) (vecB (iblk m c 8 t)) d * (iblk m c 5 t (ix2 r d : S512x1024.Idx) : EReal) = NormGrad.part (gateF m c d) ⟨t.val, lt8 t⟩ := by
  unfold NormGrad.part
  refine Finset.sum_congr rfl fun r _ => ?_
  rw [dx_blk, blk5]
  rfl

theorem g_blk' (c : Dev nD) (t : Fin grid0.N) (d : Fin 1024) :
    ∑ r : Fin 512, NormGrad.dg (hB (iblk m c 0 t) (iblk m c 9 t) (iblk m c 1 t) (iblk m c 10 t) (iblk m c 2 t) (iblk m c 11 t) r) (rowB (iblk m c 3 t) r) (batB (iblk m c 6 t)) d = NormGrad.part (gF m c d) ⟨t.val, lt8 t⟩ := by
  unfold NormGrad.part
  refine Finset.sum_congr rfl fun r _ => ?_
  rw [h_blk, x_blk, sc_blk m c t r]
  rfl

/-! ### The steps -/

theorem val_dx (c : Dev nD) (t : Fin cfg0.N) (r : Fin 512) (d : Fin 1024) :
    (outsAt0 m c t.val t.isLt).1 (ix2 r d : S512x1024.Idx) = dxM m c (at_row t r) d := by
  have h8 := lt8 t
  by_cases h : t.val % 4 = 0
  · by_cases h' : t.val = 0
    · rw [outsAt0_A m c t h (by omega) h (by omega) h (by omega) (by omega) (by omega)]
      dsimp only
      exact (outA_dx _ _ _ _ _ _ _ _ _ _ _ _ _ _ _ _ _ _ _ _ _ _ _ _ _ _ _ _ _ _ _ _ _ _ _ _ _ _ _ _ _ _ _ _ _ _ _ _ _ _ _ _ _ _ _ _ _ _ r d).trans (dx_blk m c t r d)
    · rw [outsAt0_C m c t h (by omega) h (by omega) h (by omega) (by omega) (by omega)]
      dsimp only
      exact (outC_dx _ _ _ _ _ _ _ _ _ _ _ _ _ _ _ _ _ _ _ _ _ _ _ _ _ _ _ _ _ _ _ _ _ _ _ _ _ _ _ _ _ _ _ _ _ _ _ _ _ _ _ _ _ _ _ _ _ _ _ r d).trans (dx_blk m c t r d)
  · rw [outsAt0_B m c t h (by omega) h (by omega) h (by omega) (by omega) (by omega)]
    dsimp only
    exact (outB_dx _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r d).trans (dx_blk m c t r d)

theorem val_do (c : Dev nD) (t : Fin cfg0.N) (r : Fin 512) (d : Fin 1024) :
    (outsAt0 m c t.val t.isLt).2.1 (ix2 r d : S512x1024.Idx) = gtM m c (at_row t r) d * dxM m c (at_row t r) d := by
  have h8 := lt8 t
  by_cases h : t.val % 4 = 0
  · by_cases h' : t.val = 0
    · rw [outsAt0_A m c t h (by omega) h (by omega) h (by omega) (by omega) (by omega)]
      dsimp only
      exact (outA_do _ _ _ _ _ _ _ _ _ _ _ _ _ _ _ _ _ _ _ _ _ _ _ _ _ _ _ _ _ _ _ _ _ _ _ _ _ _ _ _ _ _ _ _ _ _ _ _ _ _ _ _ _ _ _ _ _ _ r d).trans (do_blk m c t r d)
    · rw [outsAt0_C m c t h (by omega) h (by omega) h (by omega) (by omega) (by omega)]
      dsimp only
      exact (outC_do _ _ _ _ _ _ _ _ _ _ _ _ _ _ _ _ _ _ _ _ _ _ _ _ _ _ _ _ _ _ _ _ _ _ _ _ _ _ _ _ _ _ _ _ _ _ _ _ _ _ _ _ _ _ _ _ _ _ _ r d).trans (do_blk m c t r d)
  · rw [outsAt0_B m c t h (by omega) h (by omega) h (by omega) (by omega) (by omega)]
    dsimp only
    exact (outB_do _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r d).trans (do_blk m c t r d)

theorem first_sh (c : Dev nD) (n : ℕ) (hn : n < cfg0.N) (h : n % 4 = 0) (d : Fin 1024) :
    (outsAt0 m c n hn).2.2.1 (ix3 0 0 d : S1x1x1024.Idx) = NormGrad.part (shF m c d) ⟨n, lt8 ⟨n, hn⟩⟩ := by
  have h8 : n < 8 := lt8 ⟨n, hn⟩
  by_cases h' : n = 0
  · refine (congrArg (fun z => z.2.2.1 (ix3 0 0 d : S1x1x1024.Idx)) (outsAt0_A m c ⟨n, hn⟩ h (by dsimp only; omega) h (by dsimp only; omega) h (by dsimp only; omega) (by dsimp only; omega) (by dsimp only; omega))).trans ?_
    dsimp only
    exact (outA_sh _ _ _ _ _ _ _ _ _ _ _ _ _ _ _ _ _ _ _ _ _ _ _ _ _ _ _ _ _ _ _ _ _ _ _ _ _ _ _ _ _ _ _ _ _ _ _ _ _ _ _ _ _ _ _ _ _ _ d).trans (sh_blk m c ⟨n, hn⟩ d)
  · refine (congrArg (fun z => z.2.2.1 (ix3 0 0 d : S1x1x1024.Idx)) (outsAt0_C m c ⟨n, hn⟩ h (by dsimp only; omega) h (by dsimp only; omega) h (by dsimp only; omega) (by dsimp only; omega) (by dsimp only; omega))).trans ?_
    dsimp only
    exact (outC_sh _ _ _ _ _ _ _ _ _ _ _ _ _ _ _ _ _ _ _ _ _ _ _ _ _ _ _ _ _ _ _ _ _ _ _ _ _ _ _ _ _ _ _ _ _ _ _ _ _ _ _ _ _ _ _ _ _ _ _ d).trans (sh_blk m c ⟨n, hn⟩ d)

theorem next_sh (c : Dev nD) (n : ℕ) (hn : n + 1 < cfg0.N) (h : ¬(n + 1) % 4 = 0) (d : Fin 1024) :
    (outsAt0 m c (n + 1) hn).2.2.1 (ix3 0 0 d : S1x1x1024.Idx) = (outsAt0 m c n (Nat.lt_of_succ_lt hn)).2.2.1 (ix3 0 0 d : S1x1x1024.Idx) +
      NormGrad.part (shF m c d) ⟨n + 1, lt8 ⟨n + 1, hn⟩⟩ := by
  have h8 : n + 1 < 8 := lt8 ⟨n + 1, hn⟩
  refine (congrArg (fun z => z.2.2.1 (ix3 0 0 d : S1x1x1024.Idx)) (outsAt0_B m c ⟨n + 1, hn⟩ h (by dsimp only; omega) h (by dsimp only; omega) h (by dsimp only; omega) (by dsimp only; omega) (by dsimp only; omega))).trans ?_
  dsimp only
  exact (outB_sh _ _ _ _ _ _ _ _ _ _ _ _ _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.1 (ix3 0 0 d : S1x1x1024.Idx) + z) (sh_blk m c ⟨n + 1, hn⟩ d))

theorem first_sc (c : Dev nD) (n : ℕ) (hn : n < cfg0.N) (h : n % 4 = 0) (d : Fin 1024) :
    (outsAt0 m c n hn).2.2.2.1 (ix3 0 0 d : S1x1x1024.Idx) = NormGrad.part (scF m c d) ⟨n, lt8 ⟨n, hn⟩⟩ := by
  have h8 : n < 8 := lt8 ⟨n, hn⟩
  by_cases h' : n = 0
  · refine (congrArg (fun z => z.2.2.2.1 (ix3 0 0 d : S1x1x1024.Idx)) (outsAt0_A m c ⟨n, hn⟩ h (by dsimp only; omega) h (by dsimp only; omega) h (by dsimp only; omega) (by dsimp only; omega) (by dsimp only; omega))).trans ?_
    dsimp only
    exact (outA_sc _ _ _ _ _ _ _ _ _ _ _ _ _ _ _ _ _ _ _ _ _ _ _ _ _ _ _ _ _ _ _ _ _ _ _ _ _ _ _ _ _ _ _ _ _ _ _ _ _ _ _ _ _ _ _ _ _ _ d).trans (sc_blk' m c ⟨n, hn⟩ d)
  · refine (congrArg (fun z => z.2.2.2.1 (ix3 0 0 d : S1x1x1024.Idx)) (outsAt0_C m c ⟨n, hn⟩ h (by dsimp only; omega) h (by dsimp only; omega) h (by dsimp only; omega) (by dsimp only; omega) (by dsimp only; omega))).trans ?_
    dsimp only
    exact (outC_sc _ _ _ _ _ _ _ _ _ _ _ _ _ _ _ _ _ _ _ _ _ _ _ _ _ _ _ _ _ _ _ _ _ _ _ _ _ _ _ _ _ _ _ _ _ _ _ _ _ _ _ _ _ _ _ _ _ _ _ d).trans (sc_blk' m c ⟨n, hn⟩ d)

theorem next_sc (c : Dev nD) (n : ℕ) (hn : n + 1 < cfg0.N) (h : ¬(n + 1) % 4 = 0) (d : Fin 1024) :
    (outsAt0 m c (n + 1) hn).2.2.2.1 (ix3 0 0 d : S1x1x1024.Idx) = (outsAt0 m c n (Nat.lt_of_succ_lt hn)).2.2.2.1 (ix3 0 0 d : S1x1x1024.Idx) +
      NormGrad.part (scF m c d) ⟨n + 1, lt8 ⟨n + 1, hn⟩⟩ := by
  have h8 : n + 1 < 8 := lt8 ⟨n + 1, hn⟩
  refine (congrArg (fun z => z.2.2.2.1 (ix3 0 0 d : S1x1x1024.Idx)) (outsAt0_B m c ⟨n + 1, hn⟩ h (by dsimp only; omega) h (by dsimp only; omega) h (by dsimp only; omega) (by dsimp only; omega) (by dsimp only; omega))).trans ?_
  dsimp only
  exact (outB_sc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2.1 (ix3 0 0 d : S1x1x1024.Idx) + z) (sc_blk' m c ⟨n + 1, hn⟩ d))

theorem first_gate (c : Dev nD) (n : ℕ) (hn : n < cfg0.N) (h : n % 4 = 0) (d : Fin 1024) :
    (outsAt0 m c n hn).2.2.2.2.1 (ix3 0 0 d : S1x1x1024.Idx) = NormGrad.part (gateF m c d) ⟨n, lt8 ⟨n, hn⟩⟩ := by
  have h8 : n < 8 := lt8 ⟨n, hn⟩
  by_cases h' : n = 0
  · refine (congrArg (fun z => z.2.2.2.2.1 (ix3 0 0 d : S1x1x1024.Idx)) (outsAt0_A m c ⟨n, hn⟩ h (by dsimp only; omega) h (by dsimp only; omega) h (by dsimp only; omega) (by dsimp only; omega) (by dsimp only; omega))).trans ?_
    dsimp only
    exact (outA_gate _ _ _ _ _ _ _ _ _ _ _ _ _ _ _ _ _ _ _ _ _ _ _ _ _ _ _ _ _ _ _ _ _ _ _ _ _ _ _ _ _ _ _ _ _ _ _ _ _ _ _ _ _ _ _ _ _ _ d).trans (gate_blk m c ⟨n, hn⟩ d)
  · refine (congrArg (fun z => z.2.2.2.2.1 (ix3 0 0 d : S1x1x1024.Idx)) (outsAt0_C m c ⟨n, hn⟩ h (by dsimp only; omega) h (by dsimp only; omega) h (by dsimp only; omega) (by dsimp only; omega) (by dsimp only; omega))).trans ?_
    dsimp only
    exact (outC_gate _ _ _ _ _ _ _ _ _ _ _ _ _ _ _ _ _ _ _ _ _ _ _ _ _ _ _ _ _ _ _ _ _ _ _ _ _ _ _ _ _ _ _ _ _ _ _ _ _ _ _ _ _ _ _ _ _ _ _ d).trans (gate_blk m c ⟨n, hn⟩ d)

theorem next_gate (c : Dev nD) (n : ℕ) (hn : n + 1 < cfg0.N) (h : ¬(n + 1) % 4 = 0) (d : Fin 1024) :
    (outsAt0 m c (n + 1) hn).2.2.2.2.1 (ix3 0 0 d : S1x1x1024.Idx) = (outsAt0 m c n (Nat.lt_of_succ_lt hn)).2.2.2.2.1 (ix3 0 0 d : S1x1x1024.Idx) +
      NormGrad.part (gateF m c d) ⟨n + 1, lt8 ⟨n + 1, hn⟩⟩ := by
  have h8 : n + 1 < 8 := lt8 ⟨n + 1, hn⟩
  refine (congrArg (fun z => z.2.2.2.2.1 (ix3 0 0 d : S1x1x1024.Idx)) (outsAt0_B m c ⟨n + 1, hn⟩ h (by dsimp only; omega) h (by dsimp only; omega) h (by dsimp only; omega) (by dsimp only; omega) (by dsimp only; omega))).trans ?_
  dsimp only
  exact (outB_gate _ _ _ _ _ _ _ _ _ _ _ _ _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2.2.1 (ix3 0 0 d : S1x1x1024.Idx) + z) (gate_blk m c ⟨n + 1, hn⟩ d))

theorem first_g (c : Dev nD) (hn : 0 < cfg0.N) (d : Fin 1024) :
    (outsAt0 m c 0 hn).2.2.2.2.2 (ix2 0 d : S1x1024.Idx) = NormGrad.part (gF m c d) 0 := by
  refine (congrArg (fun z => z.2.2.2.2.2 (ix2 0 d : S1x1024.Idx)) (outsAt0_A m c ⟨0, hn⟩ rfl (by dsimp only; omega) rfl (by dsimp only; omega) rfl (by dsimp only; omega) rfl (by dsimp only; omega))).trans ?_
  dsimp only
  exact (outA_g _ _ _ _ _ _ _ _ _ _ _ _ _ _ _ _ _ _ _ _ _ _ _ _ _ _ _ _ _ _ _ _ _ _ _ _ _ _ _ _ _ _ _ _ _ _ _ _ _ _ _ _ _ _ _ _ _ _ d).trans (g_blk' m c ⟨0, hn⟩ d)

theorem next_g (c : Dev nD) (n : ℕ) (hn : n + 1 < cfg0.N) (d : Fin 1024) :
    (outsAt0 m c (n + 1) hn).2.2.2.2.2 (ix2 0 d : S1x1024.Idx) = (outsAt0 m c n (Nat.lt_of_succ_lt hn)).2.2.2.2.2 (ix2 0 d : S1x1024.Idx) +
      NormGrad.part (gF m c d) ⟨n + 1, lt8 ⟨n + 1, hn⟩⟩ := by
  have h8 : n + 1 < 8 := lt8 ⟨n + 1, hn⟩
  by_cases h : (n + 1) % 4 = 0
  · refine (congrArg (fun z => z.2.2.2.2.2 (ix2 0 d : S1x1024.Idx)) (outsAt0_C m c ⟨n + 1, hn⟩ h (by dsimp only; omega) h (by dsimp only; omega) h (by dsimp only; omega) (by dsimp only; omega) (by dsimp only; omega))).trans ?_
    dsimp only
    exact (outC_g _ _ _ _ _ _ _ _ _ _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2.2.2 (ix2 0 d : S1x1024.Idx) + z) (g_blk' m c ⟨n + 1, hn⟩ d))
  · refine (congrArg (fun z => z.2.2.2.2.2 (ix2 0 d : S1x1024.Idx)) (outsAt0_B m c ⟨n + 1, hn⟩ h (by dsimp only; omega) h (by dsimp only; omega) h (by dsimp only; omega) (by dsimp only; omega) (by dsimp only; omega))).trans ?_
    dsimp only
    exact (outB_g _ _ _ _ _ _ _ _ _ _ _ _ _ _ _ _ _ _ _ _ _ _ _ _ _ _ _ _ _ _ _ _ _ _ _ _ _ _ _ _ _ _ _ _ _ _ _ _ _ _ _ _ _ _ _ _ _ _ _ _ _ _ d).trans (congrArg (fun z : EReal => (outsAt0 m c n (Nat.lt_of_succ_lt hn)).2.2.2.2.2 (ix2 0 d : S1x1024.Idx) + z) (g_blk' m c ⟨n + 1, hn⟩ d))

/-! ### The results -/

theorem lt_N {n : ℕ} (h : n < 8) : n < cfg0.N := lt_of_lt_of_eq h N_0.symm

theorem final_dx (c : Dev nD) (n : Fin 4096) (d : Fin 1024) :
    (dats m 0 c).arrAt 12 cfg0.N (ix2 n d : S4096x1024.Idx) = dxM m c n d := by
  obtain ⟨t, r, rfl⟩ : ∃ (t : Fin grid0.N) (r : Fin 512), n = at_row t r :=
    ⟨⟨n.val / 512, lt_N (by omega)⟩, ⟨n.val % 512, by omega⟩, Fin.ext (by show n.val = n.val / 512 * 512 + n.val % 512; omega)⟩
  rw [← emb12 t r d]
  exact (congrFun ((Cert.Kernel12Ideal.Value.blocks12 m c t (flush0_12 t)).trans (Cert.Kernel12Ideal.Value.flushed12 m c t)) (ix2 r d : S512x1024.Idx)).trans (val_dx m c t r d)

theorem final_do (c : Dev nD) (n : Fin 4096) (d : Fin 1024) :
    (dats m 0 c).arrAt 13 cfg0.N (ix2 n d : S4096x1024.Idx) = gtM m c n d * dxM m c n d := by
  obtain ⟨t, r, rfl⟩ : ∃ (t : Fin grid0.N) (r : Fin 512), n = at_row t r :=
    ⟨⟨n.val / 512, lt_N (by omega)⟩, ⟨n.val % 512, by omega⟩, Fin.ext (by show n.val = n.val / 512 * 512 + n.val % 512; omega)⟩
  rw [← emb13 t r d]
  exact (congrFun ((Cert.Kernel12Ideal.Value.blocks13 m c t (flush0_13 t)).trans (Cert.Kernel12Ideal.Value.flushed13 m c t)) (ix2 r d : S512x1024.Idx)).trans (val_do m c t r d)

theorem apart14 : ∀ t t' : Fin cfg0.N, (cfg0.win 14).flush t = true → (cfg0.win 14).flush t' = true → t ≠ t' →
    Disjoint ((cfg0.win 14).blk t).view.set ((cfg0.win 14).blk t').view.set :=
  fun t t' f f' hne => (cfg0.win 14).disjoint_blk fun e => hne ((by decide +kernel : ∀ t t' : Fin grid0.N,
    win0_14.flush t = true → win0_14.flush t' = true → win0_14.index t = win0_14.index t' → t = t') t t' f f' e)

theorem final_sh (c : Dev nD) (b : Fin 2) (d : Fin 1024) :
    (dats m 0 c).arrAt 14 cfg0.N (ix3 b 0 d : S2x1x1024.Idx) = ∑ k : Fin 2048, shF m c d ⟨b.val * 2048 + k.val, by omega⟩ := by
  have t3 : 4 * b.val + 3 < cfg0.N := lt_N (by omega)
  have hf : (cfg0.win 14).flush ⟨4 * b.val + 3, t3⟩ = true :=
    (by decide +kernel : ∀ t : Fin grid0.N, t.val % 4 = 3 → win0_14.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 14 cfg0.N (ix3 z 0 d : S2x1x1024.Idx)) hb) ?_
  rw [← emb14 ⟨4 * b.val + 3, t3⟩ d]
  refine (congrFun (((dats m 0 c).read_blk_arrAt_eq_flushed 14 apart14 cfg0.N ⟨4 * b.val + 3, t3⟩ t3 hf).trans (Cert.Kernel12Ideal.Value.flushed14 m c ⟨4 * b.val + 3, t3⟩)) (ix3 0 0 d : S1x1x1024.Idx)).trans ?_
  rw [NormGrad.sum_sequence]
  exact (next_sh m c (4 * b.val + 2) (lt_N (by omega)) (by omega) d).trans (congrArg (fun z : EReal => z + _) ((next_sh m c (4 * b.val + 1) (lt_N (by omega)) (by omega) d).trans (congrArg (fun z : EReal => z + _) ((next_sh m c (4 * b.val) (lt_N (by omega)) (by omega) d).trans (congrArg (fun z : EReal => z + _) (first_sh m c (4 * b.val) (lt_N (by omega)) (by omega) d))))))

theorem apart15 : ∀ t t' : Fin cfg0.N, (cfg0.win 15).flush t = true → (cfg0.win 15).flush t' = true → t ≠ t' →
    Disjoint ((cfg0.win 15).blk t).view.set ((cfg0.win 15).blk t').view.set :=
  fun t t' f f' hne => (cfg0.win 15).disjoint_blk fun e => hne ((by decide +kernel : ∀ t t' : Fin grid0.N,
    win0_15.flush t = true → win0_15.flush t' = true → win0_15.index t = win0_15.index t' → t = t') t t' f f' e)

theorem final_sc (c : Dev nD) (b : Fin 2) (d : Fin 1024) :
    (dats m 0 c).arrAt 15 cfg0.N (ix3 b 0 d : S2x1x1024.Idx) = ∑ k : Fin 2048, scF m c d ⟨b.val * 2048 + k.val, by omega⟩ := by
  have t3 : 4 * b.val + 3 < cfg0.N := lt_N (by omega)
  have hf : (cfg0.win 15).flush ⟨4 * b.val + 3, t3⟩ = true :=
    (by decide +kernel : ∀ t : Fin grid0.N, t.val % 4 = 3 → win0_15.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 15 cfg0.N (ix3 z 0 d : S2x1x1024.Idx)) hb) ?_
  rw [← emb15 ⟨4 * b.val + 3, t3⟩ d]
  refine (congrFun (((dats m 0 c).read_blk_arrAt_eq_flushed 15 apart15 cfg0.N ⟨4 * b.val + 3, t3⟩ t3 hf).trans (Cert.Kernel12Ideal.Value.flushed15 m c ⟨4 * b.val + 3, t3⟩)) (ix3 0 0 d : S1x1x1024.Idx)).trans ?_
  rw [NormGrad.sum_sequence]
  exact (next_sc m c (4 * b.val + 2) (lt_N (by omega)) (by omega) d).trans (congrArg (fun z : EReal => z + _) ((next_sc m c (4 * b.val + 1) (lt_N (by omega)) (by omega) d).trans (congrArg (fun z : EReal => z + _) ((next_sc m c (4 * b.val) (lt_N (by omega)) (by omega) d).trans (congrArg (fun z : EReal => z + _) (first_sc m c (4 * b.val) (lt_N (by omega)) (by omega) d))))))

theorem apart16 : ∀ t t' : Fin cfg0.N, (cfg0.win 16).flush t = true → (cfg0.win 16).flush t' = true → t ≠ t' →
    Disjoint ((cfg0.win 16).blk t).view.set ((cfg0.win 16).blk t').view.set :=
  fun t t' f f' hne => (cfg0.win 16).disjoint_blk fun e => hne ((by decide +kernel : ∀ t t' : Fin grid0.N,
    win0_16.flush t = true → win0_16.flush t' = true → win0_16.index t = win0_16.index t' → t = t') t t' f f' e)

theorem final_gate (c : Dev nD) (b : Fin 2) (d : Fin 1024) :
    (dats m 0 c).arrAt 16 cfg0.N (ix3 b 0 d : S2x1x1024.Idx) = ∑ k : Fin 2048, gateF m c d ⟨b.val * 2048 + k.val, by omega⟩ := by
  have t3 : 4 * b.val + 3 < cfg0.N := lt_N (by omega)
  have hf : (cfg0.win 16).flush ⟨4 * b.val + 3, t3⟩ = true :=
    (by decide +kernel : ∀ t : Fin grid0.N, t.val % 4 = 3 → win0_16.flush t = true) ⟨4 * b.val + 3, t3⟩ (by dsimp only; omega)
  have hb : b = at_seq ⟨4 * b.val + 3, t3⟩ := Fin.ext (by show b.val = (4 * b.val + 3) / 4; omega)
  refine Eq.trans (congrArg (fun z : Fin 2 => (dats m 0 c).arrAt 16 cfg0.N (ix3 z 0 d : S2x1x1024.Idx)) hb) ?_
  rw [← emb16 ⟨4 * b.val + 3, t3⟩ d]
  refine (congrFun (((dats m 0 c).read_blk_arrAt_eq_flushed 16 apart16 cfg0.N ⟨4 * b.val + 3, t3⟩ t3 hf).trans (Cert.Kernel12Ideal.Value.flushed16 m c ⟨4 * b.val + 3, t3⟩)) (ix3 0 0 d : S1x1x1024.Idx)).trans ?_
  rw [NormGrad.sum_sequence]
  exact (next_gate m c (4 * b.val + 2) (lt_N (by omega)) (by omega) d).trans (congrArg (fun z : EReal => z + _) ((next_gate m c (4 * b.val + 1) (lt_N (by omega)) (by omega) d).trans (congrArg (fun z : EReal => z + _) ((next_gate m c (4 * b.val) (lt_N (by omega)) (by omega) d).trans (congrArg (fun z : EReal => z + _) (first_gate m c (4 * b.val) (lt_N (by omega)) (by omega) d))))))

theorem apart17 : ∀ t t' : Fin cfg0.N, (cfg0.win 17).flush t = true → (cfg0.win 17).flush t' = true → t ≠ t' →
    Disjoint ((cfg0.win 17).blk t).view.set ((cfg0.win 17).blk t').view.set :=
  fun t t' f f' hne => (cfg0.win 17).disjoint_blk fun e => hne ((by decide +kernel : ∀ t t' : Fin grid0.N,
    win0_17.flush t = true → win0_17.flush t' = true → win0_17.index t = win0_17.index t' → t = t') t t' f f' e)

def gAt (c : Dev nD) (d : Fin 1024) (n : ℕ) (hn : n < 8) : EReal := (outsAt0 m c n (lt_N hn)).2.2.2.2.2 (ix2 0 d : S1x1024.Idx)

theorem gAt_zero (c : Dev nD) (d : Fin 1024) (hn : 0 < 8) : gAt m c d 0 hn = NormGrad.part (gF m c d) 0 := by
  unfold gAt
  exact first_g m c _ d

theorem gAt_succ (c : Dev nD) (d : Fin 1024) (n : ℕ) (hn : n + 1 < 8) :
    gAt m c d (n + 1) hn = gAt m c d n (by omega) + NormGrad.part (gF m c d) ⟨n + 1, hn⟩ := by
  unfold gAt
  exact next_g m c n (lt_N hn) d

theorem gAt_last (c : Dev nD) (d : Fin 1024) (n : ℕ) (hn : n < 8) (e : n = 7) :
    gAt m c d n hn = ∑ p : Fin 2 × Fin 2048, gF m c d ⟨p.1.val * 2048 + p.2.val, by omega⟩ := by
  subst e
  rw [NormGrad.sum_rows]
  exact NormGrad.chain (gAt m c d) (NormGrad.part (gF m c d)) (gAt_zero m c d _) (gAt_succ m c d)

theorem all_g (c : Dev nD) (n : ℕ) (hn : n < cfg0.N) (e : n = 7) (d : Fin 1024) :
    (outsAt0 m c n hn).2.2.2.2.2 (ix2 0 d : S1x1024.Idx) = ∑ p : Fin 2 × Fin 2048, gF m c d ⟨p.1.val * 2048 + p.2.val, by omega⟩ := by
  rw [← gAt_last m c d n (lt_of_lt_of_eq hn N_0) e]
  unfold gAt
  rfl

theorem last_g (c : Dev nD) (t : Fin grid0.N) (e : t.val = 7) (d : Fin 1024) :
    (dats m 0 c).arrAt 17 cfg0.N (ix2 0 d : S1x1024.Idx) = ∑ p : Fin 2 × Fin 2048, gF m c d ⟨p.1.val * 2048 + p.2.val, by omega⟩ := by
  have hf : (cfg0.win 17).flush t = true := (by decide +kernel : ∀ t : Fin grid0.N, t.val = 7 → win0_17.flush t = true) t e
  rw [← emb17 t 0 d]
  refine (congrFun (((dats m 0 c).read_blk_arrAt_eq_flushed 17 apart17 cfg0.N t t.isLt hf).trans (Cert.Kernel12Ideal.Value.flushed17 m c t)) (ix2 0 d : S1x1024.Idx)).trans ?_
  exact all_g m c t.val t.isLt e d

theorem final_g (c : Dev nD) (d : Fin 1024) :
    (dats m 0 c).arrAt 17 cfg0.N (ix2 0 d : S1x1024.Idx) = ∑ p : Fin 2 × Fin 2048, gF m c d ⟨p.1.val * 2048 + p.2.val, by omega⟩ :=
  last_g m c ⟨7, lt_N (by omega)⟩ rfl d

end

end Cert.Proof.BwdNorm3

end
-- ==== Proof.BwdNorm3Ref.lean ====
/- The reference of the same gradients, and that the kernel gives what it gives. -/
module

public import proofs.«01_k».proof.Proof.Finite
public import proofs.«01_k».proof.Proof.Da
public import proofs.«01_k».proof.Proof.BwdNorm3

@[expose] public section

set_option maxRecDepth 16384

noncomputable section

namespace Cert.Proof.BwdNorm3

open Idealize.ShloMosaic Idealize.ShloMosaic.TcCoe Cert.Kernel12Ideal Cert.Kernel12Ideal.Gen Cert.Reference12Ideal.Read Pointwise

/-- The three products in the other order. -/
theorem h_turned (y768 : (⟨S4096x768, .bf16⟩ : BufTy).Contents (Elt Ideal)) (w768 : (⟨S768x1024, .bf16⟩ : BufTy).Contents (Elt Ideal)) (y512 : (⟨S4096x512, .bf16⟩ : BufTy).Contents (Elt Ideal)) (w512 : (⟨S512x1024, .bf16⟩ : BufTy).Contents (Elt Ideal)) (y2048 : (⟨S4096x2048, .bf16⟩ : BufTy).Contents (Elt Ideal)) (w2048 : (⟨S2048x1024, .bf16⟩ : BufTy).Contents (Elt Ideal)) (n : Fin 4096) (d : Fin 1024) : h y768 w768 y512 w512 y2048 w2048 n d = (∑ k : Fin 2048, y2048 (ix2 n k : S4096x2048.Idx) * w2048 (ix2 k d : S2048x1024.Idx)) + (∑ k : Fin 512, y512 (ix2 n k : S4096x512.Idx) * w512 (ix2 k d : S512x1024.Idx)) + (∑ k : Fin 768, y768 (ix2 n k : S4096x768.Idx) * w768 (ix2 k d : S768x1024.Idx)) := by
  unfold h
  rw [add_comm, add_comm (∑ k : Fin 768, _), ← add_assoc]

theorem bat_at (x : (⟨S2x1x1024, .f32⟩ : BufTy).Contents (Elt Ideal)) (b : Fin 2) (k : Fin 2048) (d : Fin 1024) :
    bat x ⟨b.val * 2048 + k.val, by omega⟩ d = x (ix3 b 0 d : S2x1x1024.Idx) := by
  have e : (⟨(b.val * 2048 + k.val) / 2048, by omega⟩ : Fin 2) = b := Fin.ext (by show (b.val * 2048 + k.val) / 2048 = b.val; omega)
  unfold bat
  rw [e]

theorem ref_dx (x0 : (⟨S4096x768, .bf16⟩ : BufTy).Contents (Elt Ideal)) (x1 : (⟨S768x1024, .bf16⟩ : BufTy).Contents (Elt Ideal)) (x2 : (⟨S4096x512, .bf16⟩ : BufTy).Contents (Elt Ideal)) (x3 : (⟨S512x1024, .bf16⟩ : BufTy).Contents (Elt Ideal)) (x4 : (⟨S4096x2048, .bf16⟩ : BufTy).Contents (Elt Ideal)) (x5 : (⟨S2048x1024, .bf16⟩ : BufTy).Contents (Elt Ideal)) (x6 : (⟨S4096x1024, .f32⟩ : BufTy).Contents (Elt Ideal)) (x7 : (⟨S4096x1024, .f32⟩ : BufTy).Contents (Elt Ideal)) (x8 : (⟨S4096x1024, .bf16⟩ : BufTy).Contents (Elt Ideal)) (x9 : (⟨S2x1x1024, .f32⟩ : BufTy).Contents (Elt Ideal)) (x10 : (⟨S2x1x1024, .f32⟩ : BufTy).Contents (Elt Ideal)) (x11 : (⟨S1x1024, .f32⟩ : BufTy).Contents (Elt Ideal)) (r0 : ∀ i, ∃ r : ℝ, x0 i = (r : EReal)) (r1 : ∀ i, ∃ r : ℝ, x1 i = (r : EReal)) (r2 : ∀ i, ∃ r : ℝ, x2 i = (r : EReal)) (r3 : ∀ i, ∃ r : ℝ, x3 i = (r : EReal)) (r4 : ∀ i, ∃ r : ℝ, x4 i = (r : EReal)) (r5 : ∀ i, ∃ r : ℝ, x5 i = (r : EReal)) (r6 : ∀ i, ∃ r : ℝ, x6 i = (r : EReal)) (r8 : ∀ i, ∃ r : ℝ, x8 i = (r : EReal)) (r9 : ∀ i, ∃ r : ℝ, x9 i = (r : EReal)) (r10 : ∀ i, ∃ r : ℝ, x10 i = (r : EReal)) (r11 : ∀ i, ∃ r : ℝ, x11 i = (r : EReal)) (n : Fin 4096) (d : Fin 1024) :
    val_main_v87 (F := Ideal) x0 x1 x2 x3 x4 x5 x6 x7 x8 x9 x10 x11 (ix2 n d : S4096x1024.Idx) = NormGrad.dx (row x7 n d) (h x0 x1 x2 x3 x4 x5 n) (stream x6 x8 x10 n) (bat x9 n) (vec x11) d := by
  refine Eq.trans ?_ (NormGrad.dx_eq (row x7 n d) (h x0 x1 x2 x3 x4 x5 n) (stream x6 x8 x10 n) (bat x9 n) (vec x11) d (fun _ => (NormGrad.real_add (NormGrad.real_add (Da.real_sum _ _ (fun _ => r0 _) (fun _ => r1 _)) (Da.real_sum _ _ (fun _ => r2 _) (fun _ => r3 _))) (Da.real_sum _ _ (fun _ => r4 _) (fun _ => r5 _)))) (fun _ => NormGrad.real_add (r6 _) (NormGrad.real_mul (r10 _) (r8 _))) (fun _ => r9 _) (fun _ => r11 _) _ rfl)
  simp only [← NormGrad.rs_eq, h_turned, row, bat, vec, stream, rowo]
  pointwise [val_main_v0, val_main_cst, val_main_v1, val_main_v2, val_main_v3, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst_5, val_main_v50, val_main_v51, val_main_v52, val_main_cst_6, val_main_v53, val_main_v54, val_main_v55, val_main_v56, val_main_v57, val_main_cst_7, val_main_v58, val_main_v59, val_main_v60, val_main_v61, val_main_cst_8, val_main_v62, val_main_v63, val_main_v64, val_main_cst_9, val_main_v65, val_main_v66, val_main_v67, val_main_v68, val_main_v69, val_main_cst_10, val_main_v70, val_main_v71, val_main_cst_11, val_main_v72, val_main_v73, val_main_v74, val_main_v75, val_main_v76, val_main_v77, val_main_v78, val_main_v79, val_main_v80, val_main_v81, val_main_v82, val_main_v83, val_main_cst_12, val_main_v84, val_main_v85, val_main_v86, val_main_v87, val_main_v88]
  simp only [Fin.sum_univ_one]

theorem ref_do (x0 : (⟨S4096x768, .bf16⟩ : BufTy).Contents (Elt Ideal)) (x1 : (⟨S768x1024, .bf16⟩ : BufTy).Contents (Elt Ideal)) (x2 : (⟨S4096x512, .bf16⟩ : BufTy).Contents (Elt Ideal)) (x3 : (⟨S512x1024, .bf16⟩ : BufTy).Contents (Elt Ideal)) (x4 : (⟨S4096x2048, .bf16⟩ : BufTy).Contents (Elt Ideal)) (x5 : (⟨S2048x1024, .bf16⟩ : BufTy).Contents (Elt Ideal)) (x6 : (⟨S4096x1024, .f32⟩ : BufTy).Contents (Elt Ideal)) (x7 : (⟨S4096x1024, .f32⟩ : BufTy).Contents (Elt Ideal)) (x8 : (⟨S4096x1024, .bf16⟩ : BufTy).Contents (Elt Ideal)) (x9 : (⟨S2x1x1024, .f32⟩ : BufTy).Contents (Elt Ideal)) (x10 : (⟨S2x1x1024, .f32⟩ : BufTy).Contents (Elt Ideal)) (x11 : (⟨S1x1024, .f32⟩ : BufTy).Contents (Elt Ideal)) (r0 : ∀ i, ∃ r : ℝ, x0 i = (r : EReal)) (r1 : ∀ i, ∃ r : ℝ, x1 i = (r : EReal)) (r2 : ∀ i, ∃ r : ℝ, x2 i = (r : EReal)) (r3 : ∀ i, ∃ r : ℝ, x3 i = (r : EReal)) (r4 : ∀ i, ∃ r : ℝ, x4 i = (r : EReal)) (r5 : ∀ i, ∃ r : ℝ, x5 i = (r : EReal)) (r6 : ∀ i, ∃ r : ℝ, x6 i = (r : EReal)) (r8 : ∀ i, ∃ r : ℝ, x8 i = (r : EReal)) (r9 : ∀ i, ∃ r : ℝ, x9 i = (r : EReal)) (r10 : ∀ i, ∃ r : ℝ, x10 i = (r : EReal)) (r11 : ∀ i, ∃ r : ℝ, x11 i = (r : EReal)) (n : Fin 4096) (d : Fin 1024) :
    val_main_v88 (F := Ideal) x0 x1 x2 x3 x4 x5 x6 x7 x8 x9 x10 x11 (ix2 n d : S4096x1024.Idx) = bat x10 n d * NormGrad.dx (row x7 n d) (h x0 x1 x2 x3 x4 x5 n) (stream x6 x8 x10 n) (bat x9 n) (vec x11) d := by
  refine Eq.trans ?_ (congrArg (fun z : EReal => bat x10 n d * z) (NormGrad.dx_eq (row x7 n d) (h x0 x1 x2 x3 x4 x5 n) (stream x6 x8 x10 n) (bat x9 n) (vec x11) d (fun _ => (NormGrad.real_add (NormGrad.real_add (Da.real_sum _ _ (fun _ => r0 _) (fun _ => r1 _)) (Da.real_sum _ _ (fun _ => r2 _) (fun _ => r3 _))) (Da.real_sum _ _ (fun _ => r4 _) (fun _ => r5 _)))) (fun _ => NormGrad.real_add (r6 _) (NormGrad.real_mul (r10 _) (r8 _))) (fun _ => r9 _) (fun _ => r11 _) _ rfl))
  simp only [← NormGrad.rs_eq, h_turned, row, bat, vec, stream, rowo]
  pointwise [val_main_v0, val_main_cst, val_main_v1, val_main_v2, val_main_v3, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst_5, val_main_v50, val_main_v51, val_main_v52, val_main_cst_6, val_main_v53, val_main_v54, val_main_v55, val_main_v56, val_main_v57, val_main_cst_7, val_main_v58, val_main_v59, val_main_v60, val_main_v61, val_main_cst_8, val_main_v62, val_main_v63, val_main_v64, val_main_cst_9, val_main_v65, val_main_v66, val_main_v67, val_main_v68, val_main_v69, val_main_cst_10, val_main_v70, val_main_v71, val_main_cst_11, val_main_v72, val_main_v73, val_main_v74, val_main_v75, val_main_v76, val_main_v77, val_main_v78, val_main_v79, val_main_v80, val_main_v81, val_main_v82, val_main_v83, val_main_cst_12, val_main_v84, val_main_v85, val_main_v86, val_main_v87, val_main_v88]
  simp only [Fin.sum_univ_one]

theorem ref_sh (x0 : (⟨S4096x768, .bf16⟩ : BufTy).Contents (Elt Ideal)) (x1 : (⟨S768x1024, .bf16⟩ : BufTy).Contents (Elt Ideal)) (x2 : (⟨S4096x512, .bf16⟩ : BufTy).Contents (Elt Ideal)) (x3 : (⟨S512x1024, .bf16⟩ : BufTy).Contents (Elt Ideal)) (x4 : (⟨S4096x2048, .bf16⟩ : BufTy).Contents (Elt Ideal)) (x5 : (⟨S2048x1024, .bf16⟩ : BufTy).Contents (Elt Ideal)) (b : Fin 2) (d : Fin 1024) :
    val_main_v51 (F := Ideal) x0 x1 x2 x3 x4 x5 (ix3 b 0 d : S2x1x1024.Idx) = ∑ k : Fin 2048, h x0 x1 x2 x3 x4 x5 ⟨b.val * 2048 + k.val, by omega⟩ d := by
  simp only [h_turned]
  pointwise [val_main_v0, val_main_cst, val_main_v1, val_main_v2, val_main_v3, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst_5, val_main_v50, val_main_v51, val_main_v52, val_main_cst_6, val_main_v53, val_main_v54, val_main_v55, val_main_v56, val_main_v57, val_main_cst_7, val_main_v58, val_main_v59, val_main_v60, val_main_v61, val_main_cst_8, val_main_v62, val_main_v63, val_main_v64, val_main_cst_9, val_main_v65, val_main_v66, val_main_v67, val_main_v68, val_main_v69, val_main_cst_10, val_main_v70, val_main_v71, val_main_cst_11, val_main_v72, val_main_v73, val_main_v74, val_main_v75, val_main_v76, val_main_v77, val_main_v78, val_main_v79, val_main_v80, val_main_v81, val_main_v82, val_main_v83, val_main_cst_12, val_main_v84, val_main_v85, val_main_v86, val_main_v87, val_main_v88]

theorem ref_sc (x0 : (⟨S4096x768, .bf16⟩ : BufTy).Contents (Elt Ideal)) (x1 : (⟨S768x1024, .bf16⟩ : BufTy).Contents (Elt Ideal)) (x2 : (⟨S4096x512, .bf16⟩ : BufTy).Contents (Elt Ideal)) (x3 : (⟨S512x1024, .bf16⟩ : BufTy).Contents (Elt Ideal)) (x4 : (⟨S4096x2048, .bf16⟩ : BufTy).Contents (Elt Ideal)) (x5 : (⟨S2048x1024, .bf16⟩ : BufTy).Contents (Elt Ideal)) (x6 : (⟨S4096x1024, .f32⟩ : BufTy).Contents (Elt Ideal)) (x8 : (⟨S4096x1024, .bf16⟩ : BufTy).Contents (Elt Ideal)) (x10 : (⟨S2x1x1024, .f32⟩ : BufTy).Contents (Elt Ideal)) (x11 : (⟨S1x1024, .f32⟩ : BufTy).Contents (Elt Ideal)) (b : Fin 2) (d : Fin 1024) :
    val_main_v54 (F := Ideal) x0 x1 x2 x3 x4 x5 x6 x8 x10 x11 (ix3 b 0 d : S2x1x1024.Idx) = ∑ k : Fin 2048, NormGrad.ds (h x0 x1 x2 x3 x4 x5 ⟨b.val * 2048 + k.val, by omega⟩) (stream x6 x8 x10 ⟨b.val * 2048 + k.val, by omega⟩) (vec x11) d := by
  refine Eq.trans ?_ (Finset.sum_congr rfl fun k _ => mul_comm _ _)
  simp only [← NormGrad.rs_eq, h_turned, row, vec, stream, rowo, bat_at]
  pointwise [val_main_v0, val_main_cst, val_main_v1, val_main_v2, val_main_v3, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst_5, val_main_v50, val_main_v51, val_main_v52, val_main_cst_6, val_main_v53, val_main_v54, val_main_v55, val_main_v56, val_main_v57, val_main_cst_7, val_main_v58, val_main_v59, val_main_v60, val_main_v61, val_main_cst_8, val_main_v62, val_main_v63, val_main_v64, val_main_cst_9, val_main_v65, val_main_v66, val_main_v67, val_main_v68, val_main_v69, val_main_cst_10, val_main_v70, val_main_v71, val_main_cst_11, val_main_v72, val_main_v73, val_main_v74, val_main_v75, val_main_v76, val_main_v77, val_main_v78, val_main_v79, val_main_v80, val_main_v81, val_main_v82, val_main_v83, val_main_cst_12, val_main_v84, val_main_v85, val_main_v86, val_main_v87, val_main_v88]

theorem ref_gate (x0 : (⟨S4096x768, .bf16⟩ : BufTy).Contents (Elt Ideal)) (x1 : (⟨S768x1024, .bf16⟩ : BufTy).Contents (Elt Ideal)) (x2 : (⟨S4096x512, .bf16⟩ : BufTy).Contents (Elt Ideal)) (x3 : (⟨S512x1024, .bf16⟩ : BufTy).Contents (Elt Ideal)) (x4 : (⟨S4096x2048, .bf16⟩ : BufTy).Contents (Elt Ideal)) (x5 : (⟨S2048x1024, .bf16⟩ : BufTy).Contents (Elt Ideal)) (x6 : (⟨S4096x1024, .f32⟩ : BufTy).Contents (Elt Ideal)) (x7 : (⟨S4096x1024, .f32⟩ : BufTy).Contents (Elt Ideal)) (x8 : (⟨S4096x1024, .bf16⟩ : BufTy).Contents (Elt Ideal)) (x9 : (⟨S2x1x1024, .f32⟩ : BufTy).Contents (Elt Ideal)) (x10 : (⟨S2x1x1024, .f32⟩ : BufTy).Contents (Elt Ideal)) (x11 : (⟨S1x1024, .f32⟩ : BufTy).Contents (Elt Ideal)) (r0 : ∀ i, ∃ r : ℝ, x0 i = (r : EReal)) (r1 : ∀ i, ∃ r : ℝ, x1 i = (r : EReal)) (r2 : ∀ i, ∃ r : ℝ, x2 i = (r : EReal)) (r3 : ∀ i, ∃ r : ℝ, x3 i = (r : EReal)) (r4 : ∀ i, ∃ r : ℝ, x4 i = (r : EReal)) (r5 : ∀ i, ∃ r : ℝ, x5 i = (r : EReal)) (r6 : ∀ i, ∃ r : ℝ, x6 i = (r : EReal)) (r8 : ∀ i, ∃ r : ℝ, x8 i = (r : EReal)) (r9 : ∀ i, ∃ r : ℝ, x9 i = (r : EReal)) (r10 : ∀ i, ∃ r : ℝ, x10 i = (r : EReal)) (r11 : ∀ i, ∃ r : ℝ, x11 i = (r : EReal)) (b : Fin 2) (d : Fin 1024) :
    val_main_v85 (F := Ideal) x0 x1 x2 x3 x4 x5 x6 x7 x8 x9 x10 x11 (ix3 b 0 d : S2x1x1024.Idx) = ∑ k : Fin 2048, NormGrad.dx (row x7 ⟨b.val * 2048 + k.val, by omega⟩ d) (h x0 x1 x2 x3 x4 x5 ⟨b.val * 2048 + k.val, by omega⟩) (stream x6 x8 x10 ⟨b.val * 2048 + k.val, by omega⟩) (bat x9 ⟨b.val * 2048 + k.val, by omega⟩) (vec x11) d * rowo x8 ⟨b.val * 2048 + k.val, by omega⟩ d := by
  refine Eq.trans ?_ (Finset.sum_congr rfl fun k _ => congrArg (fun z : EReal => z * rowo x8 ⟨b.val * 2048 + k.val, by omega⟩ d) (NormGrad.dx_eq (row x7 ⟨b.val * 2048 + k.val, by omega⟩ d) (h x0 x1 x2 x3 x4 x5 ⟨b.val * 2048 + k.val, by omega⟩) (stream x6 x8 x10 ⟨b.val * 2048 + k.val, by omega⟩) (bat x9 ⟨b.val * 2048 + k.val, by omega⟩) (vec x11) d (fun _ => (NormGrad.real_add (NormGrad.real_add (Da.real_sum _ _ (fun _ => r0 _) (fun _ => r1 _)) (Da.real_sum _ _ (fun _ => r2 _) (fun _ => r3 _))) (Da.real_sum _ _ (fun _ => r4 _) (fun _ => r5 _)))) (fun _ => NormGrad.real_add (r6 _) (NormGrad.real_mul (r10 _) (r8 _))) (fun _ => r9 _) (fun _ => r11 _) _ rfl))
  simp only [← NormGrad.rs_eq, h_turned, row, bat_at, vec, stream, rowo]
  pointwise [val_main_v0, val_main_cst, val_main_v1, val_main_v2, val_main_v3, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst_5, val_main_v50, val_main_v51, val_main_v52, val_main_cst_6, val_main_v53, val_main_v54, val_main_v55, val_main_v56, val_main_v57, val_main_cst_7, val_main_v58, val_main_v59, val_main_v60, val_main_v61, val_main_cst_8, val_main_v62, val_main_v63, val_main_v64, val_main_cst_9, val_main_v65, val_main_v66, val_main_v67, val_main_v68, val_main_v69, val_main_cst_10, val_main_v70, val_main_v71, val_main_cst_11, val_main_v72, val_main_v73, val_main_v74, val_main_v75, val_main_v76, val_main_v77, val_main_v78, val_main_v79, val_main_v80, val_main_v81, val_main_v82, val_main_v83, val_main_cst_12, val_main_v84, val_main_v85, val_main_v86, val_main_v87, val_main_v88]
  simp only [Fin.sum_univ_one]

theorem term_g (x0 : (⟨S4096x768, .bf16⟩ : BufTy).Contents (Elt Ideal)) (x1 : (⟨S768x1024, .bf16⟩ : BufTy).Contents (Elt Ideal)) (x2 : (⟨S4096x512, .bf16⟩ : BufTy).Contents (Elt Ideal)) (x3 : (⟨S512x1024, .bf16⟩ : BufTy).Contents (Elt Ideal)) (x4 : (⟨S4096x2048, .bf16⟩ : BufTy).Contents (Elt Ideal)) (x5 : (⟨S2048x1024, .bf16⟩ : BufTy).Contents (Elt Ideal)) (x6 : (⟨S4096x1024, .f32⟩ : BufTy).Contents (Elt Ideal)) (x8 : (⟨S4096x1024, .bf16⟩ : BufTy).Contents (Elt Ideal)) (x9 : (⟨S2x1x1024, .f32⟩ : BufTy).Contents (Elt Ideal)) (x10 : (⟨S2x1x1024, .f32⟩ : BufTy).Contents (Elt Ideal)) (b : Fin 2) (k : Fin 2048) (d : Fin 1024) :
    val_main_v57 (F := Ideal) x0 x1 x2 x3 x4 x5 x6 x8 x9 x10 (ix3 b k d) = NormGrad.dg (h x0 x1 x2 x3 x4 x5 ⟨b.val * 2048 + k.val, by omega⟩) (stream x6 x8 x10 ⟨b.val * 2048 + k.val, by omega⟩) (bat x9 ⟨b.val * 2048 + k.val, by omega⟩) d := by
  refine Eq.trans ?_ (mul_comm _ _)
  simp only [← NormGrad.rs_eq, h_turned, row, bat_at, vec, stream, rowo]
  pointwise [val_main_v0, val_main_cst, val_main_v1, val_main_v2, val_main_v3, val_main_v4, val_main_v5, val_main_v6, val_main_v7, val_main_v8, val_main_v9, val_main_cst_0, val_main_v10, val_main_v11, val_main_cst_1, val_main_v12, val_main_v13, val_main_cst_2, val_main_v14, val_main_v15, val_main_v16, val_main_v17, val_main_cst_3, val_main_v18, val_main_v19, val_main_v20, val_main_v21, val_main_v22, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst_5, val_main_v50, val_main_v51, val_main_v52, val_main_cst_6, val_main_v53, val_main_v54, val_main_v55, val_main_v56, val_main_v57, val_main_cst_7, val_main_v58, val_main_v59, val_main_v60, val_main_v61, val_main_cst_8, val_main_v62, val_main_v63, val_main_v64, val_main_cst_9, val_main_v65, val_main_v66, val_main_v67, val_main_v68, val_main_v69, val_main_cst_10, val_main_v70, val_main_v71, val_main_cst_11, val_main_v72, val_main_v73, val_main_v74, val_main_v75, val_main_v76, val_main_v77, val_main_v78, val_main_v79, val_main_v80, val_main_v81, val_main_v82, val_main_v83, val_main_cst_12, val_main_v84, val_main_v85, val_main_v86, val_main_v87, val_main_v88]

theorem ref_g (x0 : (⟨S4096x768, .bf16⟩ : BufTy).Contents (Elt Ideal)) (x1 : (⟨S768x1024, .bf16⟩ : BufTy).Contents (Elt Ideal)) (x2 : (⟨S4096x512, .bf16⟩ : BufTy).Contents (Elt Ideal)) (x3 : (⟨S512x1024, .bf16⟩ : BufTy).Contents (Elt Ideal)) (x4 : (⟨S4096x2048, .bf16⟩ : BufTy).Contents (Elt Ideal)) (x5 : (⟨S2048x1024, .bf16⟩ : BufTy).Contents (Elt Ideal)) (x6 : (⟨S4096x1024, .f32⟩ : BufTy).Contents (Elt Ideal)) (x8 : (⟨S4096x1024, .bf16⟩ : BufTy).Contents (Elt Ideal)) (x9 : (⟨S2x1x1024, .f32⟩ : BufTy).Contents (Elt Ideal)) (x10 : (⟨S2x1x1024, .f32⟩ : BufTy).Contents (Elt Ideal)) (d : Fin 1024) :
    val_main_v63 (F := Ideal) x0 x1 x2 x3 x4 x5 x6 x8 x9 x10 (ix2 0 d : S1x1024.Idx) = ∑ p : Fin 2 × Fin 2048, NormGrad.dg (h x0 x1 x2 x3 x4 x5 ⟨p.1.val * 2048 + p.2.val, by omega⟩) (stream x6 x8 x10 ⟨p.1.val * 2048 + p.2.val, by omega⟩) (bat x9 ⟨p.1.val * 2048 + p.2.val, by omega⟩) d := by
  pointwise [val_main_v63, val_main_v62, val_main_cst_8]
  rw [NormGrad.reduce_two, zero_add, Fintype.sum_prod_type, Fin.sum_univ_one, Fin.sum_univ_one]
  pointwise [val_main_v59, val_main_v58, val_main_cst_7]
  rw [NormGrad.reduce_two, zero_add]
  exact Finset.sum_congr rfl fun p _ => term_g _ _ _ _ _ _ _ _ _ _ p.1 p.2 d

theorem equal_dx (m : (ℓ : Loc nD τ sig) → Buf (Elt Ideal) ℓ) (c : Dev nD) (r0 : ∀ i, ∃ r : ℝ, (m ((c : Thread nD τ).loc main_arg0)) i = (r : EReal)) (r1 : ∀ i, ∃ r : ℝ, (m ((c : Thread nD τ).loc main_arg1)) i = (r : EReal)) (r2 : ∀ i, ∃ r : ℝ, (m ((c : Thread nD τ).loc main_arg2)) i = (r : EReal)) (r3 : ∀ i, ∃ r : ℝ, (m ((c : Thread nD τ).loc main_arg3)) i = (r : EReal)) (r4 : ∀ i, ∃ r : ℝ, (m ((c : Thread nD τ).loc main_arg4)) i = (r : EReal)) (r5 : ∀ i, ∃ r : ℝ, (m ((c : Thread nD τ).loc main_arg5)) i = (r : EReal)) (r6 : ∀ i, ∃ r : ℝ, (m ((c : Thread nD τ).loc main_arg6)) i = (r : EReal)) (r8 : ∀ i, ∃ r : ℝ, (m ((c : Thread nD τ).loc main_arg8)) i = (r : EReal)) (r9 : ∀ i, ∃ r : ℝ, (m ((c : Thread nD τ).loc main_arg9)) i = (r : EReal)) (r10 : ∀ i, ∃ r : ℝ, (m ((c : Thread nD τ).loc main_arg10)) i = (r : EReal)) (r11 : ∀ i, ∃ r : ℝ, (m ((c : Thread nD τ).loc main_arg11)) i = (r : EReal)) :
    (dats m 0 c).arrAt 12 cfg0.N = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext y
  obtain ⟨n, d, rfl⟩ := NormGrad.two_axes y
  exact (final_dx m c n d).trans (ref_dx _ _ _ _ _ _ _ _ _ _ _ _ r0 r1 r2 r3 r4 r5 r6 r8 r9 r10 r11 n d).symm

theorem equal_do (m : (ℓ : Loc nD τ sig) → Buf (Elt Ideal) ℓ) (c : Dev nD) (r0 : ∀ i, ∃ r : ℝ, (m ((c : Thread nD τ).loc main_arg0)) i = (r : EReal)) (r1 : ∀ i, ∃ r : ℝ, (m ((c : Thread nD τ).loc main_arg1)) i = (r : EReal)) (r2 : ∀ i, ∃ r : ℝ, (m ((c : Thread nD τ).loc main_arg2)) i = (r : EReal)) (r3 : ∀ i, ∃ r : ℝ, (m ((c : Thread nD τ).loc main_arg3)) i = (r : EReal)) (r4 : ∀ i, ∃ r : ℝ, (m ((c : Thread nD τ).loc main_arg4)) i = (r : EReal)) (r5 : ∀ i, ∃ r : ℝ, (m ((c : Thread nD τ).loc main_arg5)) i = (r : EReal)) (r6 : ∀ i, ∃ r : ℝ, (m ((c : Thread nD τ).loc main_arg6)) i = (r : EReal)) (r8 : ∀ i, ∃ r : ℝ, (m ((c : Thread nD τ).loc main_arg8)) i = (r : EReal)) (r9 : ∀ i, ∃ r : ℝ, (m ((c : Thread nD τ).loc main_arg9)) i = (r : EReal)) (r10 : ∀ i, ∃ r : ℝ, (m ((c : Thread nD τ).loc main_arg10)) i = (r : EReal)) (r11 : ∀ i, ∃ r : ℝ, (m ((c : Thread nD τ).loc main_arg11)) i = (r : EReal)) :
    (dats m 0 c).arrAt 13 cfg0.N = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext y
  obtain ⟨n, d, rfl⟩ := NormGrad.two_axes y
  exact (final_do m c n d).trans (ref_do _ _ _ _ _ _ _ _ _ _ _ _ r0 r1 r2 r3 r4 r5 r6 r8 r9 r10 r11 n d).symm

theorem equal_sh (m : (ℓ : Loc nD τ sig) → Buf (Elt Ideal) ℓ) (c : Dev nD) :
    (dats m 0 c).arrAt 14 cfg0.N = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext y
  obtain ⟨b, d, rfl⟩ := NormGrad.three_axes y
  exact (final_sh m c b d).trans (ref_sh _ _ _ _ _ _ b d).symm

theorem equal_sc (m : (ℓ : Loc nD τ sig) → Buf (Elt Ideal) ℓ) (c : Dev nD) :
    (dats m 0 c).arrAt 15 cfg0.N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg10)) (m ((c : Thread nD τ).loc main_arg11)) := by
  funext y
  obtain ⟨b, d, rfl⟩ := NormGrad.three_axes y
  exact (final_sc m c b d).trans (ref_sc _ _ _ _ _ _ _ _ _ _ b d).symm

theorem equal_gate (m : (ℓ : Loc nD τ sig) → Buf (Elt Ideal) ℓ) (c : Dev nD) (r0 : ∀ i, ∃ r : ℝ, (m ((c : Thread nD τ).loc main_arg0)) i = (r : EReal)) (r1 : ∀ i, ∃ r : ℝ, (m ((c : Thread nD τ).loc main_arg1)) i = (r : EReal)) (r2 : ∀ i, ∃ r : ℝ, (m ((c : Thread nD τ).loc main_arg2)) i = (r : EReal)) (r3 : ∀ i, ∃ r : ℝ, (m ((c : Thread nD τ).loc main_arg3)) i = (r : EReal)) (r4 : ∀ i, ∃ r : ℝ, (m ((c : Thread nD τ).loc main_arg4)) i = (r : EReal)) (r5 : ∀ i, ∃ r : ℝ, (m ((c : Thread nD τ).loc main_arg5)) i = (r : EReal)) (r6 : ∀ i, ∃ r : ℝ, (m ((c : Thread nD τ).loc main_arg6)) i = (r : EReal)) (r8 : ∀ i, ∃ r : ℝ, (m ((c : Thread nD τ).loc main_arg8)) i = (r : EReal)) (r9 : ∀ i, ∃ r : ℝ, (m ((c : Thread nD τ).loc main_arg9)) i = (r : EReal)) (r10 : ∀ i, ∃ r : ℝ, (m ((c : Thread nD τ).loc main_arg10)) i = (r : EReal)) (r11 : ∀ i, ∃ r : ℝ, (m ((c : Thread nD τ).loc main_arg11)) i = (r : EReal)) :
    (dats m 0 c).arrAt 16 cfg0.N = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext y
  obtain ⟨b, d, rfl⟩ := NormGrad.three_axes y
  exact (final_gate m c b d).trans (ref_gate _ _ _ _ _ _ _ _ _ _ _ _ r0 r1 r2 r3 r4 r5 r6 r8 r9 r10 r11 b d).symm

theorem equal_g (m : (ℓ : Loc nD τ sig) → Buf (Elt Ideal) ℓ) (c : Dev nD) :
    (dats m 0 c).arrAt 17 cfg0.N = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) := by
  funext y
  obtain ⟨z, d, rfl⟩ := NormGrad.two_axes y
  obtain rfl : z = 0 := by omega
  exact (final_g m c d).trans (ref_g _ _ _ _ _ _ _ _ _ _ d).symm

end Cert.Proof.BwdNorm3

end
-- ==== Proof.MixIn.lean ====
/- Program 21: the products that enter the mixer, and the latents of its queries and of its keys and values. Grid point n of 8
   computes rows 512 n to 512 n + 511 of all five results, from the same rows of the input and the whole of each weight. -/
module

public import proofs.«01_k».proof.Kernel21Ideal
public import proofs.«01_k».proof.Reference21Ideal
public import proofs.«01_k».proof.Proof.Gen.Kernel21Ideal.Value
public import proofs.«01_k».proof.Proof.Gen.Reference21Ideal.Read
public import Idealize.ShloMosaic.Lib.Pointwise
public import proofs.«01_k».proof.Proof.Rows

@[expose] public section

noncomputable section

namespace Cert.Proof.MixIn

open Idealize.ShloMosaic Idealize.ShloMosaic.TcCoe Pointwise Rows
open Cert.Kernel21Ideal Cert.Kernel21Ideal.Gen Cert.Reference21Ideal.Read

/-- An entry of the product of row `r` of `x` with a weight kept by its output rows. -/
abbrev lin {R P : ℕ} (x : (Sh R 1024).Idx → EReal) (w : (Sh P 1024).Idx → EReal) (r : Fin R) (d : Fin P) : EReal :=
  ∑ k : Fin 1024, x (ix2 r k) * w (ix2 d k)

/-- The columns of the queries' latent within the first product. -/
abbrev colq (d : Fin 384) : Fin 768 := ⟨d.val, by omega⟩

/-- The columns of the latent of the keys and values. -/
abbrev colkv (d : Fin 256) : Fin 768 := ⟨384 + d.val, by omega⟩

/-- An entry of a normed latent that lies in the columns `f`: `c` is what the sum of squares is scaled by, `g` the gain. -/
abbrev latent {R L : ℕ} (f : Fin L → Fin 768) (c : BitVec 32) (x : (Sh R 1024).Idx → EReal) (w : (Sh 768 1024).Idx → EReal)
    (g : (Sh 1 L).Idx → EReal) (r : Fin R) (d : Fin L) : EReal :=
  lin x w r (f d) * Ideal.rsqrt ((∑ k : Fin L, lin x w r (f k) * lin x w r (f k)) *
    Ideal.ofBits FTy.f32 c + Ideal.ofBits FTy.f32 897988541#32) * g (ix2 0 d)

variable (x0 : Vec Ideal S512x1024 .bf16) (x1 : Vec Ideal S1x384 .f32) (x2 : Vec Ideal S1x256 .f32)
  (x3 : Vec Ideal S768x1024 .bf16) (x4 : Vec Ideal S512x1024 .bf16) (x5 : Vec Ideal S2048x1024 .bf16)

theorem out6 (r : Fin 512) (d : Fin 768) :
    out0_6 x0 x1 x2 x3 x4 x5 (ix2 r d : S512x768.Idx) = lin x0 x3 r d := by
  unfold out0_6
  rw [View.canon_unit_zero zeros, View.ld_unit_zero zeros, View.ld_unit_zero zeros]
  pointwise [k0_pay4]

theorem out7 (r : Fin 512) (d : Fin 512) :
    out0_7 x0 x1 x2 x3 x4 x5 (ix2 r d : S512x512.Idx) = lin x0 x4 r d := by
  unfold out0_7
  rw [View.canon_unit_zero zeros, View.ld_unit_zero zeros, View.ld_unit_zero zeros]
  pointwise [k0_pay5]

theorem out8 (r : Fin 512) (d : Fin 2048) :
    out0_8 x0 x1 x2 x3 x4 x5 (ix2 r d : S512x2048.Idx) = lin x0 x5 r d := by
  unfold out0_8
  rw [View.canon_unit_zero zeros, View.ld_unit_zero zeros, View.ld_unit_zero zeros]
  pointwise [k0_pay1, k0_pay6]

theorem out9 (r : Fin 512) (d : Fin 384) :
    out0_9 x0 x1 x2 x3 x4 x5 (ix2 r d : S512x384.Idx) = latent colq 0x3B2AAAAB#32 x0 x3 x1 r d := by
  unfold out0_9
  rw [View.canon_unit_zero zeros, View.ld_unit_zero zeros, View.ld_unit_zero zeros, View.ld_unit_zero zeros]
  pointwise [k0_pay2, k0_pay7, k0_pay4]

theorem out10 (r : Fin 512) (d : Fin 256) :
    out0_10 x0 x1 x2 x3 x4 x5 (ix2 r d : S512x256.Idx) = latent colkv 0x3B800000#32 x0 x3 x2 r d := by
  unfold out0_10
  rw [View.canon_unit_zero zeros, View.ld_unit_zero zeros, View.ld_unit_zero zeros, View.ld_unit_zero zeros]
  pointwise [k0_pay3, k0_pay8, k0_pay4]

theorem point : ∀ n : Fin 8, ∃ t : Fin grid0.N, cc0_transform_0 (grid0.coords t) = ![n.val, 0] ∧
    cc0_transform_6 (grid0.coords t) = ![n.val, 0] ∧ cc0_transform_7 (grid0.coords t) = ![n.val, 0] ∧
    cc0_transform_8 (grid0.coords t) = ![n.val, 0] ∧ cc0_transform_9 (grid0.coords t) = ![n.val, 0] ∧
    cc0_transform_10 (grid0.coords t) = ![n.val, 0] := by
  decide +kernel

variable (m : (ℓ : Loc nD τ sig) → Buf (Elt Ideal) ℓ) (c : Dev nD)

theorem rows (t : Fin grid0.N) (n : Fin 8) (e : cc0_transform_0 (grid0.coords t) = ![n.val, 0]) (r : Fin 512) (k : Fin 1024) :
    iblk m c 0 t (ix2 r k : S512x1024.Idx) =
      m ((c : Thread nD τ).loc main_arg0) (ix2 ⟨n.val * 512 + r.val, by omega⟩ k : S4096x1024.Idx) :=
  congrArg (V m c main_arg0) (at_row (e := ((cfg0.win 0).blk t).view.emb)
    (fun y => ⟨congrArg (· * 512 + 1 * (y 0).val) (congrFun e 0), congrArg (· * 1024 + 1 * (y 1).val) (congrFun e 1)⟩) r k _)

theorem whole1 (t : Fin grid0.N) : iblk m c 1 t = m ((c : Thread nD τ).loc main_arg4) :=
  funext fun y => congrArg (V m c main_arg4) (at_all (M := 1) (N := 384) (e := ((cfg0.win 1).blk t).view.emb) (fun _ => ⟨rfl, rfl⟩) y)

theorem whole2 (t : Fin grid0.N) : iblk m c 2 t = m ((c : Thread nD τ).loc main_arg5) :=
  funext fun y => congrArg (V m c main_arg5) (at_all (M := 1) (N := 256) (e := ((cfg0.win 2).blk t).view.emb) (fun _ => ⟨rfl, rfl⟩) y)

theorem whole3 (t : Fin grid0.N) : iblk m c 3 t = m ((c : Thread nD τ).loc main_arg1) :=
  funext fun y => congrArg (V m c main_arg1) (at_all (M := 768) (N := 1024) (e := ((cfg0.win 3).blk t).view.emb) (fun _ => ⟨rfl, rfl⟩) y)

theorem whole4 (t : Fin grid0.N) : iblk m c 4 t = m ((c : Thread nD τ).loc main_arg2) :=
  funext fun y => congrArg (V m c main_arg2) (at_all (M := 512) (N := 1024) (e := ((cfg0.win 4).blk t).view.emb) (fun _ => ⟨rfl, rfl⟩) y)

theorem whole5 (t : Fin grid0.N) : iblk m c 5 t = m ((c : Thread nD τ).loc main_arg3) :=
  funext fun y => congrArg (V m c main_arg3) (at_all (M := 2048) (N := 1024) (e := ((cfg0.win 5).blk t).view.emb) (fun _ => ⟨rfl, rfl⟩) y)

theorem equal6 : (dats m 0 c).arrAt 6 cfg0.N = val_main_v3 (F := Ideal) (m ((c : Thread nD τ).loc main_arg0)) (m ((c : Thread nD τ).loc main_arg1)) := by
  refine ext_rows _ _ fun n => ?_
  obtain ⟨t, e0, e, -⟩ := point n
  refine ⟨((cfg0.win 6).blk t).view.emb, fun y => ⟨congrArg (· * 512 + 1 * (y 0).val) (congrFun e 0), congrArg (· * 768 + 1 * (y 1).val) (congrFun e 1)⟩,
    fun r d => (congrFun ((Cert.Kernel21Ideal.Value.blocks6 m c t (flush0_6 t)).trans
      (Cert.Kernel21Ideal.Value.flushed6 m c t)) (ix2 r d : S512x768.Idx)).trans ((out6 _ _ _ _ _ _ r d).trans ?_)⟩
  simp only [lin, whole3 m c t, rows m c t n e0]
  symm
  pointwise [val_main_v3, val_main_v0, val_main_v2, val_main_v1]

theorem equal7 : (dats m 0 c).arrAt 7 cfg0.N = val_main_v7 (F := Ideal) (m ((c : Thread nD τ).loc main_arg0)) (m ((c : Thread nD τ).loc main_arg2)) := by
  refine ext_rows _ _ fun n => ?_
  obtain ⟨t, e0, -, e, -⟩ := point n
  refine ⟨((cfg0.win 7).blk t).view.emb, fun y => ⟨congrArg (· * 512 + 1 * (y 0).val) (congrFun e 0), congrArg (· * 512 + 1 * (y 1).val) (congrFun e 1)⟩,
    fun r d => (congrFun ((Cert.Kernel21Ideal.Value.blocks7 m c t (flush0_7 t)).trans
      (Cert.Kernel21Ideal.Value.flushed7 m c t)) (ix2 r d : S512x512.Idx)).trans ((out7 _ _ _ _ _ _ r d).trans ?_)⟩
  simp only [lin, whole4 m c t, rows m c t n e0]
  symm
  pointwise [val_main_v7, val_main_v4, val_main_v6, val_main_v5]

theorem equal8 : (dats m 0 c).arrAt 8 cfg0.N = val_main_v14 (F := Ideal) (m ((c : Thread nD τ).loc main_arg0)) (m ((c : Thread nD τ).loc main_arg3)) := by
  refine ext_rows _ _ fun n => ?_
  obtain ⟨t, e0, -, -, e, -⟩ := point n
  refine ⟨((cfg0.win 8).blk t).view.emb, fun y => ⟨congrArg (· * 512 + 1 * (y 0).val) (congrFun e 0), congrArg (· * 2048 + 1 * (y 1).val) (congrFun e 1)⟩,
    fun r d => (congrFun ((Cert.Kernel21Ideal.Value.blocks8 m c t (flush0_8 t)).trans
      (Cert.Kernel21Ideal.Value.flushed8 m c t)) (ix2 r d : S512x2048.Idx)).trans ((out8 _ _ _ _ _ _ r d).trans ?_)⟩
  simp only [lin, whole5 m c t, rows m c t n e0]
  symm
  pointwise [val_main_v14, val_main_v11, val_main_v8, val_main_v10, val_main_v9]

theorem equal9 : (dats m 0 c).arrAt 9 cfg0.N = val_main_v27 (F := Ideal) (m ((c : Thread nD τ).loc main_arg0)) (m ((c : Thread nD τ).loc main_arg1)) (m ((c : Thread nD τ).loc main_arg4)) := by
  refine ext_rows _ _ fun n => ?_
  obtain ⟨t, e0, -, -, -, e, -⟩ := point n
  refine ⟨((cfg0.win 9).blk t).view.emb, fun y => ⟨congrArg (· * 512 + 1 * (y 0).val) (congrFun e 0), congrArg (· * 384 + 1 * (y 1).val) (congrFun e 1)⟩,
    fun r d => (congrFun ((Cert.Kernel21Ideal.Value.blocks9 m c t (flush0_9 t)).trans
      (Cert.Kernel21Ideal.Value.flushed9 m c t)) (ix2 r d : S512x384.Idx)).trans ((out9 _ _ _ _ _ _ r d).trans ?_)⟩
  simp only [latent, lin, whole3 m c t, whole1 m c t, rows m c t n e0]
  symm
  pointwise [val_main_v27, val_main_v26, val_main_v24, val_main_v25, val_main_v12, val_main_v23, val_main_v3, val_main_v22, val_main_v0, val_main_v2, val_main_v21, val_main_v1, val_main_v19, val_main_v20, val_main_v17, val_main_v18, val_main_cst_1, val_main_v16, val_main_cst_0, val_main_v15, val_main_cst]

theorem equal10 : (dats m 0 c).arrAt 10 cfg0.N = val_main_v40 (F := Ideal) (m ((c : Thread nD τ).loc main_arg0)) (m ((c : Thread nD τ).loc main_arg1)) (m ((c : Thread nD τ).loc main_arg5)) := by
  refine ext_rows _ _ fun n => ?_
  obtain ⟨t, e0, -, -, -, -, e⟩ := point n
  refine ⟨((cfg0.win 10).blk t).view.emb, fun y => ⟨congrArg (· * 512 + 1 * (y 0).val) (congrFun e 0), congrArg (· * 256 + 1 * (y 1).val) (congrFun e 1)⟩,
    fun r d => (congrFun ((Cert.Kernel21Ideal.Value.blocks10 m c t (flush0_10 t)).trans
      (Cert.Kernel21Ideal.Value.flushed10 m c t)) (ix2 r d : S512x256.Idx)).trans ((out10 _ _ _ _ _ _ r d).trans ?_)⟩
  simp only [latent, lin, whole3 m c t, whole2 m c t, rows m c t n e0]
  symm
  pointwise [val_main_v40, val_main_v39, val_main_v37, val_main_v38, val_main_v13, val_main_v36, val_main_v3, val_main_v35, val_main_v0, val_main_v2, val_main_v34, val_main_v1, val_main_v32, val_main_v33, val_main_v30, val_main_v31, val_main_cst_4, val_main_v29, val_main_cst_3, val_main_v28, val_main_cst_2]

end Cert.Proof.MixIn

end
-- ==== Proof.MixBwd.lean ====
/- Program 22: the gradients behind the product that leaves the mixer. Grid point n of 8 computes rows 512 n to 512 n + 511 of
   all five results, from the same rows of the gradient, the gates and the two branches and the whole of each weight. -/
module

public import proofs.«01_k».proof.Kernel22Ideal
public import proofs.«01_k».proof.Reference22Ideal
public import proofs.«01_k».proof.Proof.Gen.Kernel22Ideal.Value
public import proofs.«01_k».proof.Proof.Gen.Reference22Ideal.Read
public import Idealize.ShloMosaic.Lib.Pointwise
public import proofs.«01_k».proof.Proof.Rows
public import proofs.«01_k».proof.Proof.Sigmoid

@[expose] public section

noncomputable section

namespace Cert.Proof.MixBwd

open Idealize.ShloMosaic Idealize.ShloMosaic.TcCoe Pointwise Rows Sigmoid
open Cert.Kernel22Ideal Cert.Kernel22Ideal.Gen Cert.Reference22Ideal.Read

/-- The gradient of the merged branches, row `r` and column `d`. -/
abbrev back {R : ℕ} (x : (Sh R 1024).Idx → EReal) (w : (Sh 1024 1024).Idx → EReal) (r : Fin R) (d : Fin 1024) : EReal :=
  ∑ k : Fin 1024, x (ix2 r k) * w (ix2 d k)

/-- The gate of the pooled branch. -/
abbrev gateP {R : ℕ} (z : (Sh R 2048).Idx → EReal) (r : Fin R) (d : Fin 1024) : EReal := sgm (z (ix2 r ⟨d.val, by omega⟩))

/-- The gate of the attention branch. -/
abbrev gateM {R : ℕ} (z : (Sh R 2048).Idx → EReal) (r : Fin R) (d : Fin 1024) : EReal := sgm (z (ix2 r ⟨1024 + d.val, by omega⟩))

variable (x0 : Vec Ideal S512x1024 .bf16) (x1 : Vec Ideal S512x2048 .bf16) (x2 : Vec Ideal S512x1024 .bf16)
  (x3 : Vec Ideal S512x1024 .bf16) (x4 : Vec Ideal S1024x512 .bf16) (x5 : Vec Ideal S1024x1024 .bf16) (x6 : Vec Ideal S1024x1024 .bf16)

theorem out7 (r : Fin 512) (d : Fin 1024) : out0_7 x0 x1 x2 x3 x4 x5 x6 (ix2 r d : S512x1024.Idx) =
      back x0 x6 r d * gateP x1 r d := by
  unfold out0_7 k0_pay14 k0_pay13
  rw [View.canon_unit_zero zeros]
  repeat rw [View.ld_unit_zero zeros]
  simp only [← tanh_eq]
  pointwise [k0_pay1, k0_pay6, k0_pay8, k0_pay7, half_word]

theorem out8 (r : Fin 512) (d : Fin 1024) : out0_8 x0 x1 x2 x3 x4 x5 x6 (ix2 r d : S512x1024.Idx) =
      back x0 x6 r d * gateM x1 r d := by
  unfold out0_8 k0_pay15 k0_pay13
  rw [View.canon_unit_zero zeros]
  repeat rw [View.ld_unit_zero zeros]
  simp only [← tanh_eq]
  pointwise [k0_pay2, k0_pay6, k0_pay9, k0_pay7, half_word]

theorem out9 (r : Fin 512) (d : Fin 2048) : out0_9 x0 x1 x2 x3 x4 x5 x6 (ix2 r d : S512x2048.Idx) =
      if h : d.val < 1024 then
        back x0 x6 r ⟨d.val, h⟩ * x2 (ix2 r ⟨d.val, h⟩) * gateP x1 r ⟨d.val, h⟩ * (1 - gateP x1 r ⟨d.val, h⟩)
      else back x0 x6 r ⟨d.val - 1024, by omega⟩ * x3 (ix2 r ⟨d.val - 1024, by omega⟩) * gateM x1 r ⟨d.val - 1024, by omega⟩ *
        (1 - gateM x1 r ⟨d.val - 1024, by omega⟩) := by
  unfold out0_9 k0_pay15
  rw [View.canon_unit_zero zeros]
  repeat rw [View.ld_unit_zero zeros]
  simp only [← tanh_eq]
  pointwise [k0_pay4, k0_pay6, k0_pay8, k0_pay9, k0_pay7, k0_pay10, k0_pay11, k0_pay12, half_word]

theorem out10 (r : Fin 512) (d : Fin 512) : out0_10 x0 x1 x2 x3 x4 x5 x6 (ix2 r d : S512x512.Idx) =
      ∑ k : Fin 1024, back x0 x6 r k * gateP x1 r k * x4 (ix2 k d) := by
  unfold out0_10 k0_pay14 k0_pay13
  rw [View.canon_unit_zero zeros]
  repeat rw [View.ld_unit_zero zeros]
  simp only [← tanh_eq]
  pointwise [k0_pay3, k0_pay1, k0_pay6, k0_pay8, k0_pay7, half_word]

theorem out11 (r : Fin 512) (d : Fin 1024) : out0_11 x0 x1 x2 x3 x4 x5 x6 (ix2 r d : S512x1024.Idx) =
      ∑ k : Fin 1024, back x0 x6 r k * gateM x1 r k * x5 (ix2 k d) := by
  unfold out0_11 k0_pay15 k0_pay13
  rw [View.canon_unit_zero zeros]
  repeat rw [View.ld_unit_zero zeros]
  simp only [← tanh_eq]
  pointwise [k0_pay5, k0_pay2, k0_pay6, k0_pay9, k0_pay7, half_word]

theorem point : ∀ n : Fin 8, ∃ t : Fin grid0.N, cc0_transform_0 (grid0.coords t) = ![n.val, 0] ∧
    cc0_transform_1 (grid0.coords t) = ![n.val, 0] ∧ cc0_transform_2 (grid0.coords t) = ![n.val, 0] ∧
    cc0_transform_3 (grid0.coords t) = ![n.val, 0] ∧ cc0_transform_7 (grid0.coords t) = ![n.val, 0] ∧
    cc0_transform_8 (grid0.coords t) = ![n.val, 0] ∧ cc0_transform_9 (grid0.coords t) = ![n.val, 0] ∧
    cc0_transform_10 (grid0.coords t) = ![n.val, 0] ∧ cc0_transform_11 (grid0.coords t) = ![n.val, 0] := by
  decide +kernel

variable (m : (ℓ : Loc nD τ sig) → Buf (Elt Ideal) ℓ) (c : Dev nD)

theorem rows0 (t : Fin grid0.N) (n : Fin 8) (e : cc0_transform_0 (grid0.coords t) = ![n.val, 0]) (r : Fin 512) (k : Fin 1024) :
    iblk m c 0 t (ix2 r k : S512x1024.Idx) =
      m ((c : Thread nD τ).loc main_arg0) (ix2 ⟨n.val * 512 + r.val, by omega⟩ k : S4096x1024.Idx) :=
  congrArg (V m c main_arg0) (at_row (e := ((cfg0.win 0).blk t).view.emb)
    (fun y => ⟨congrArg (· * 512 + 1 * (y 0).val) (congrFun e 0), congrArg (· * 1024 + 1 * (y 1).val) (congrFun e 1)⟩) r k _)

theorem rows1 (t : Fin grid0.N) (n : Fin 8) (e : cc0_transform_1 (grid0.coords t) = ![n.val, 0]) (r : Fin 512) (k : Fin 2048) :
    iblk m c 1 t (ix2 r k : S512x2048.Idx) =
      m ((c : Thread nD τ).loc main_arg1) (ix2 ⟨n.val * 512 + r.val, by omega⟩ k : S4096x2048.Idx) :=
  congrArg (V m c main_arg1) (at_row (e := ((cfg0.win 1).blk t).view.emb)
    (fun y => ⟨congrArg (· * 512 + 1 * (y 0).val) (congrFun e 0), congrArg (· * 2048 + 1 * (y 1).val) (congrFun e 1)⟩) r k _)

theorem rows2 (t : Fin grid0.N) (n : Fin 8) (e : cc0_transform_2 (grid0.coords t) = ![n.val, 0]) (r : Fin 512) (k : Fin 1024) :
    iblk m c 2 t (ix2 r k : S512x1024.Idx) =
      m ((c : Thread nD τ).loc main_arg2) (ix2 ⟨n.val * 512 + r.val, by omega⟩ k : S4096x1024.Idx) :=
  congrArg (V m c main_arg2) (at_row (e := ((cfg0.win 2).blk t).view.emb)
    (fun y => ⟨congrArg (· * 512 + 1 * (y 0).val) (congrFun e 0), congrArg (· * 1024 + 1 * (y 1).val) (congrFun e 1)⟩) r k _)

theorem rows3 (t : Fin grid0.N) (n : Fin 8) (e : cc0_transform_3 (grid0.coords t) = ![n.val, 0]) (r : Fin 512) (k : Fin 1024) :
    iblk m c 3 t (ix2 r k : S512x1024.Idx) =
      m ((c : Thread nD τ).loc main_arg3) (ix2 ⟨n.val * 512 + r.val, by omega⟩ k : S4096x1024.Idx) :=
  congrArg (V m c main_arg3) (at_row (e := ((cfg0.win 3).blk t).view.emb)
    (fun y => ⟨congrArg (· * 512 + 1 * (y 0).val) (congrFun e 0), congrArg (· * 1024 + 1 * (y 1).val) (congrFun e 1)⟩) r k _)

theorem whole4 (t : Fin grid0.N) : iblk m c 4 t = m ((c : Thread nD τ).loc main_arg4) :=
  funext fun y => congrArg (V m c main_arg4) (at_all (M := 1024) (N := 512) (e := ((cfg0.win 4).blk t).view.emb) (fun _ => ⟨rfl, rfl⟩) y)

theorem whole5 (t : Fin grid0.N) : iblk m c 5 t = m ((c : Thread nD τ).loc main_arg5) :=
  funext fun y => congrArg (V m c main_arg5) (at_all (M := 1024) (N := 1024) (e := ((cfg0.win 5).blk t).view.emb) (fun _ => ⟨rfl, rfl⟩) y)

theorem whole6 (t : Fin grid0.N) : iblk m c 6 t = m ((c : Thread nD τ).loc main_arg6) :=
  funext fun y => congrArg (V m c main_arg6) (at_all (M := 1024) (N := 1024) (e := ((cfg0.win 6).blk t).view.emb) (fun _ => ⟨rfl, rfl⟩) y)

theorem equal7 : (dats m 0 c).arrAt 7 cfg0.N = val_main_v37 (F := Ideal) (m ((c : Thread nD τ).loc main_arg0)) (m ((c : Thread nD τ).loc main_arg1)) (m ((c : Thread nD τ).loc main_arg6)) := by
  refine ext_rows _ _ fun n => ?_
  obtain ⟨t, e0, e1, e2, e3, e, -⟩ := point n
  refine ⟨((cfg0.win 7).blk t).view.emb, fun y => ⟨congrArg (· * 512 + 1 * (y 0).val) (congrFun e 0), congrArg (· * 1024 + 1 * (y 1).val) (congrFun e 1)⟩,
    fun r d => (congrFun ((Cert.Kernel22Ideal.Value.blocks7 m c t (flush0_7 t)).trans
      (Cert.Kernel22Ideal.Value.flushed7 m c t)) (ix2 r d : S512x1024.Idx)).trans ((out7 _ _ _ _ _ _ _ r d).trans ?_)⟩
  simp only [back, gateP, sgm, whole6 m c t, rows0 m c t n e0, rows1 m c t n e1]
  symm
  pointwise [val_main_v37, val_main_v25, val_main_v16, val_main_v22, val_main_v12, val_main_v0, val_main_v6, val_main_v11, val_main_v10, val_main_cst_0, val_main_v9, val_main_v8, val_main_cst, val_main_v7, val_main_v1]
  exact mul_comm (G := EReal) _ _

theorem equal8 : (dats m 0 c).arrAt 8 cfg0.N = val_main_v38 (F := Ideal) (m ((c : Thread nD τ).loc main_arg0)) (m ((c : Thread nD τ).loc main_arg1)) (m ((c : Thread nD τ).loc main_arg6)) := by
  refine ext_rows _ _ fun n => ?_
  obtain ⟨t, e0, e1, e2, e3, -, e, -⟩ := point n
  refine ⟨((cfg0.win 8).blk t).view.emb, fun y => ⟨congrArg (· * 512 + 1 * (y 0).val) (congrFun e 0), congrArg (· * 1024 + 1 * (y 1).val) (congrFun e 1)⟩,
    fun r d => (congrFun ((Cert.Kernel22Ideal.Value.blocks8 m c t (flush0_8 t)).trans
      (Cert.Kernel22Ideal.Value.flushed8 m c t)) (ix2 r d : S512x1024.Idx)).trans ((out8 _ _ _ _ _ _ _ r d).trans ?_)⟩
  simp only [back, gateM, sgm, whole6 m c t, rows0 m c t n e0, rows1 m c t n e1]
  symm
  pointwise [val_main_v38, val_main_v23, val_main_v17, val_main_v22, val_main_v12, val_main_v0, val_main_v6, val_main_v11, val_main_v10, val_main_cst_0, val_main_v9, val_main_v8, val_main_cst, val_main_v7, val_main_v1]
  exact mul_comm (G := EReal) _ _

theorem equal9 : (dats m 0 c).arrAt 9 cfg0.N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine ext_rows _ _ fun n => ?_
  obtain ⟨t, e0, e1, e2, e3, -, -, e, -⟩ := point n
  refine ⟨((cfg0.win 9).blk t).view.emb, fun y => ⟨congrArg (· * 512 + 1 * (y 0).val) (congrFun e 0), congrArg (· * 2048 + 1 * (y 1).val) (congrFun e 1)⟩,
    fun r d => (congrFun ((Cert.Kernel22Ideal.Value.blocks9 m c t (flush0_9 t)).trans
      (Cert.Kernel22Ideal.Value.flushed9 m c t)) (ix2 r d : S512x2048.Idx)).trans ((out9 _ _ _ _ _ _ _ r d).trans ?_)⟩
  simp only [back, gateP, gateM, sgm, whole6 m c t, rows0 m c t n e0, rows1 m c t n e1, rows2 m c t n e2, rows3 m c t n e3]
  symm
  pointwise [val_main_v39, val_main_v28, val_main_v27, val_main_v15, val_main_v26, val_main_v24, val_main_v12, val_main_v14, val_main_v22, val_main_v2, val_main_v3, val_main_v11, val_main_v10, val_main_v13, val_main_v0, val_main_v6, val_main_cst_0, val_main_v9, val_main_v8, val_main_cst_1, val_main_cst, val_main_v7, val_main_v1]
  split_ifs with h z
  · exact (mul_assoc (G := EReal) _ _ _).symm
  · exact absurd z (by decide)
  · have e : (⟨1024 + (d.val - 1024), by omega⟩ : Fin 2048) = d := Fin.ext (by show 1024 + (d.val - 1024) = d.val; omega)
    rw [e]
    exact (mul_assoc (G := EReal) _ _ _).symm

theorem equal10 : (dats m 0 c).arrAt 10 cfg0.N = val_main_v32 (F := Ideal) (m ((c : Thread nD τ).loc main_arg0)) (m ((c : Thread nD τ).loc main_arg1)) (m ((c : Thread nD τ).loc main_arg4)) (m ((c : Thread nD τ).loc main_arg6)) := by
  refine ext_rows _ _ fun n => ?_
  obtain ⟨t, e0, e1, e2, e3, -, -, -, e, -⟩ := point n
  refine ⟨((cfg0.win 10).blk t).view.emb, fun y => ⟨congrArg (· * 512 + 1 * (y 0).val) (congrFun e 0), congrArg (· * 512 + 1 * (y 1).val) (congrFun e 1)⟩,
    fun r d => (congrFun ((Cert.Kernel22Ideal.Value.blocks10 m c t (flush0_10 t)).trans
      (Cert.Kernel22Ideal.Value.flushed10 m c t)) (ix2 r d : S512x512.Idx)).trans ((out10 _ _ _ _ _ _ _ r d).trans ?_)⟩
  simp only [back, gateP, sgm, whole4 m c t, whole6 m c t, rows0 m c t n e0, rows1 m c t n e1]
  symm
  pointwise [val_main_v32, val_main_v25, val_main_v30, val_main_v16, val_main_v22, val_main_v4, val_main_v12, val_main_v0, val_main_v6, val_main_v11, val_main_v10, val_main_cst_0, val_main_v9, val_main_v8, val_main_cst, val_main_v7, val_main_v1]
  exact Finset.sum_congr rfl fun k _ => congrArg (· * _) (mul_comm (G := EReal) _ _)

theorem equal11 : (dats m 0 c).arrAt 11 cfg0.N = val_main_v40 (F := Ideal) (m ((c : Thread nD τ).loc main_arg0)) (m ((c : Thread nD τ).loc main_arg1)) (m ((c : Thread nD τ).loc main_arg5)) (m ((c : Thread nD τ).loc main_arg6)) := by
  refine ext_rows _ _ fun n => ?_
  obtain ⟨t, e0, e1, e2, e3, -, -, -, -, e⟩ := point n
  refine ⟨((cfg0.win 11).blk t).view.emb, fun y => ⟨congrArg (· * 512 + 1 * (y 0).val) (congrFun e 0), congrArg (· * 1024 + 1 * (y 1).val) (congrFun e 1)⟩,
    fun r d => (congrFun ((Cert.Kernel22Ideal.Value.blocks11 m c t (flush0_11 t)).trans
      (Cert.Kernel22Ideal.Value.flushed11 m c t)) (ix2 r d : S512x1024.Idx)).trans ((out11 _ _ _ _ _ _ _ r d).trans ?_)⟩
  simp only [back, gateM, sgm, whole5 m c t, whole6 m c t, rows0 m c t n e0, rows1 m c t n e1]
  symm
  pointwise [val_main_v40, val_main_v36, val_main_v23, val_main_v34, val_main_v17, val_main_v22, val_main_v5, val_main_v12, val_main_v0, val_main_v6, val_main_v11, val_main_v10, val_main_cst_0, val_main_v9, val_main_v8, val_main_cst, val_main_v7, val_main_v1]
  exact Finset.sum_congr rfl fun k _ => congrArg (· * _) (mul_comm (G := EReal) _ _)

end Cert.Proof.MixBwd

end
-- ==== Proof.MixOut.lean ====
/- Program 23: the mixer going out: the two branches, what they merge to, the product that leaves, the stream after it and the
   next block's normed and modulated input. Grid point n of 8 computes rows 512 n to 512 n + 511 of all six results; they
   belong to sequence n / 4. -/
module

public import proofs.«01_k».proof.Kernel23Ideal
public import proofs.«01_k».proof.Reference23Ideal
public import proofs.«01_k».proof.Proof.Gen.Kernel23Ideal.Value
public import proofs.«01_k».proof.Proof.Gen.Reference23Ideal.Read
public import Idealize.ShloMosaic.Lib.Pointwise
public import proofs.«01_k».proof.Proof.Rows
public import proofs.«01_k».proof.Proof.Sigmoid
public import proofs.«01_k».proof.Proof.Norm

@[expose] public section

noncomputable section

namespace Cert.Proof.MixOut

open Idealize.ShloMosaic Idealize.ShloMosaic.TcCoe Pointwise Rows Sigmoid
open Cert.Kernel23Ideal Cert.Kernel23Ideal.Gen Cert.Reference23Ideal.Read

/-- A branch, row `r` and column `d`: a row of `x` times a weight kept by its output rows. -/
abbrev branch {R K : ℕ} (x : (Sh R K).Idx → EReal) (w : (Sh 1024 K).Idx → EReal) (r : Fin R) (d : Fin 1024) : EReal :=
  ∑ k : Fin K, x (ix2 r k) * w (ix2 d k)

/-- The two branches, each through its gate. -/
abbrev merged {R : ℕ} (z : (Sh R 2048).Idx → EReal) (p : (Sh R 512).Idx → EReal) (a : (Sh R 1024).Idx → EReal)
    (wp : (Sh 1024 512).Idx → EReal) (wa : (Sh 1024 1024).Idx → EReal) (r : Fin R) (d : Fin 1024) : EReal :=
  sgm (z (ix2 r ⟨d.val, by omega⟩)) * branch p wp r d + sgm (z (ix2 r ⟨1024 + d.val, by omega⟩)) * branch a wa r d

/-- What leaves the mixer. -/
abbrev leaves {R : ℕ} (z : (Sh R 2048).Idx → EReal) (p : (Sh R 512).Idx → EReal) (a : (Sh R 1024).Idx → EReal)
    (wp : (Sh 1024 512).Idx → EReal) (wa wo : (Sh 1024 1024).Idx → EReal) (r : Fin R) (d : Fin 1024) : EReal :=
  ∑ k : Fin 1024, merged z p a wp wa r k * wo (ix2 k d)

/-- The norm of a row's entry `x` with its gain and its modulation, from the sum of squares of the row. -/
abbrev normed (x q g sc sh : EReal) : EReal :=
  x * Ideal.rsqrt (Ideal.div q (Ideal.ofBits FTy.f32 1149239296#32) + Ideal.ofBits FTy.f32 897988541#32) * g * (1 + sc) + sh

theorem zeros3 : (![0, 0, 0] : Fin 3 → ℕ) = fun _ => 0 := by decide

variable (x0 : Vec Ideal S512x2048 .bf16) (x1 : Vec Ideal S512x512 .bf16) (x2 : Vec Ideal S512x1024 .bf16)
  (x3 : Vec Ideal S512x1024 .f32) (x4 x5 x6 : Vec Ideal S1x1x1024 .f32) (x7 : Vec Ideal S1x1024 .f32)
  (x8 : Vec Ideal S1024x512 .bf16) (x9 x10 : Vec Ideal S1024x1024 .bf16)

/-- The next entry of the stream. -/
abbrev next (r : Fin 512) (d : Fin 1024) : EReal :=
  x3 (ix2 r d : S512x1024.Idx) + x4 (ix3 0 0 d : S1x1x1024.Idx) * leaves x0 x1 x2 x8 x9 x10 r d

theorem out11 (r : Fin 512) (d : Fin 1024) : out0_11 x0 x1 x2 x3 x4 x5 x6 x7 x8 x9 x10 (ix2 r d : S512x1024.Idx) =
      next x0 x1 x2 x3 x4 x8 x9 x10 r d := by
  unfold out0_11 k0_pay16 k0_pay17 k0_pay18 k0_pay19
  rw [View.canon_unit_zero zeros]
  repeat rw [View.ld_unit_zero zeros]
  repeat rw [View.ld_unit_zero zeros3]
  simp only [next, leaves, merged, branch, ← tanh_eq]
  pointwise [k0_pay12, k0_pay11, k0_pay10, k0_pay2, k0_pay7, k0_pay8, k0_pay6, k0_pay5, k0_pay9, half_word]

theorem out12 (r : Fin 512) (d : Fin 1024) : out0_12 x0 x1 x2 x3 x4 x5 x6 x7 x8 x9 x10 (ix2 r d : S512x1024.Idx) =
      leaves x0 x1 x2 x8 x9 x10 r d := by
  unfold out0_12 k0_pay17 k0_pay18 k0_pay19
  rw [View.canon_unit_zero zeros]
  repeat rw [View.ld_unit_zero zeros]
  simp only [leaves, merged, branch, ← tanh_eq]
  pointwise [k0_pay13, k0_pay11, k0_pay10, k0_pay7, k0_pay8, k0_pay6, k0_pay5, k0_pay9, half_word]

theorem out13 (r : Fin 512) (d : Fin 1024) : out0_13 x0 x1 x2 x3 x4 x5 x6 x7 x8 x9 x10 (ix2 r d : S512x1024.Idx) =
      normed (next x0 x1 x2 x3 x4 x8 x9 x10 r d) (∑ k : Fin 1024, next x0 x1 x2 x3 x4 x8 x9 x10 r k * next x0 x1 x2 x3 x4 x8 x9 x10 r k) (x7 (ix2 0 d))
        (x6 (ix3 0 0 d)) (x5 (ix3 0 0 d)) := by
  unfold out0_13 k0_pay16 k0_pay17 k0_pay18 k0_pay19
  rw [View.canon_unit_zero zeros]
  repeat rw [View.ld_unit_zero zeros]
  repeat rw [View.ld_unit_zero zeros3]
  unfold normed
  rw [← Norm.mean_eq]
  simp only [next, leaves, merged, branch, ← tanh_eq]
  pointwise [k0_pay14, k0_pay12, k0_pay11, k0_pay10, k0_pay2, k0_pay3, k0_pay4, k0_pay7, k0_pay8, k0_pay6, k0_pay5, k0_pay9, half_word]

theorem out14 (r : Fin 512) (d : Fin 1024) : out0_14 x0 x1 x2 x3 x4 x5 x6 x7 x8 x9 x10 (ix2 r d : S512x1024.Idx) =
      merged x0 x1 x2 x8 x9 r d := by
  unfold out0_14 k0_pay17 k0_pay18 k0_pay19
  rw [View.canon_unit_zero zeros]
  repeat rw [View.ld_unit_zero zeros]
  simp only [merged, branch, ← tanh_eq]
  pointwise [k0_pay10, k0_pay7, k0_pay8, k0_pay6, k0_pay5, k0_pay9, half_word]

theorem out15 (r : Fin 512) (d : Fin 1024) : out0_15 x0 x1 x2 x3 x4 x5 x6 x7 x8 x9 x10 (ix2 r d : S512x1024.Idx) =
      branch x1 x8 r d := by
  unfold out0_15
  rw [View.canon_unit_zero zeros]
  repeat rw [View.ld_unit_zero zeros]
  pointwise [k0_pay15, k0_pay6]

theorem out16 (r : Fin 512) (d : Fin 1024) : out0_16 x0 x1 x2 x3 x4 x5 x6 x7 x8 x9 x10 (ix2 r d : S512x1024.Idx) =
      branch x2 x9 r d := by
  unfold out0_16 k0_pay17
  rw [View.canon_unit_zero zeros]
  repeat rw [View.ld_unit_zero zeros]
  pointwise [k0_pay1, k0_pay7]

theorem point : ∀ n : Fin 8, ∃ t : Fin grid0.N, cc0_transform_0 (grid0.coords t) = ![n.val, 0] ∧
    cc0_transform_1 (grid0.coords t) = ![n.val, 0] ∧
    cc0_transform_2 (grid0.coords t) = ![n.val, 0] ∧
    cc0_transform_3 (grid0.coords t) = ![n.val, 0] ∧
    cc0_transform_4 (grid0.coords t) = ![n.val / 4, 0, 0] ∧
    cc0_transform_5 (grid0.coords t) = ![n.val / 4, 0, 0] ∧
    cc0_transform_6 (grid0.coords t) = ![n.val / 4, 0, 0] ∧
    cc0_transform_11 (grid0.coords t) = ![n.val, 0] ∧
    cc0_transform_12 (grid0.coords t) = ![n.val, 0] ∧
    cc0_transform_13 (grid0.coords t) = ![n.val, 0] ∧
    cc0_transform_14 (grid0.coords t) = ![n.val, 0] ∧
    cc0_transform_15 (grid0.coords t) = ![n.val, 0] ∧
    cc0_transform_16 (grid0.coords t) = ![n.val, 0] := by
  decide +kernel

/-- The block of an array kept per sequence. -/
theorem vec_at {n : Fin 8} {e : S1x1x1024.Idx → S2x1x1024.Idx} (h : ∀ y, (e y 0).val = n.val / 4 * 1 + 1 * (y 0).val ∧
    (e y 1).val = 0 * 1 + 1 * (y 1).val ∧ (e y 2).val = 0 * 1024 + 1 * (y 2).val) (r : Fin 512) (d : Fin 1024) :
    e (ix3 0 0 d) = ix3 ⟨(n.val * 512 + r.val) / 2048, by omega⟩ 0 d := by
  funext a
  apply Fin.ext
  match a with
  | 0 => exact (h _).1.trans (show n.val / 4 * 1 + 1 * 0 = (n.val * 512 + r.val) / 2048 by omega)
  | 1 => exact (h _).2.1.trans (show 0 * 1 + 1 * 0 = 0 by omega)
  | 2 => exact (h _).2.2.trans (show 0 * 1024 + 1 * d.val = d.val by omega)

variable (m : (ℓ : Loc nD τ sig) → Buf (Elt Ideal) ℓ) (c : Dev nD)

theorem rows0 (t : Fin grid0.N) (n : Fin 8) (e : cc0_transform_0 (grid0.coords t) = ![n.val, 0]) (r : Fin 512) (k : Fin 2048) :
    iblk m c 0 t (ix2 r k : S512x2048.Idx) =
      m ((c : Thread nD τ).loc main_arg0) (ix2 ⟨n.val * 512 + r.val, by omega⟩ k : S4096x2048.Idx) :=
  congrArg (V m c main_arg0) (at_row (e := ((cfg0.win 0).blk t).view.emb)
    (fun y => ⟨congrArg (· * 512 + 1 * (y 0).val) (congrFun e 0), congrArg (· * 2048 + 1 * (y 1).val) (congrFun e 1)⟩) r k _)

theorem rows1 (t : Fin grid0.N) (n : Fin 8) (e : cc0_transform_1 (grid0.coords t) = ![n.val, 0]) (r : Fin 512) (k : Fin 512) :
    iblk m c 1 t (ix2 r k : S512x512.Idx) =
      m ((c : Thread nD τ).loc main_arg1) (ix2 ⟨n.val * 512 + r.val, by omega⟩ k : S4096x512.Idx) :=
  congrArg (V m c main_arg1) (at_row (e := ((cfg0.win 1).blk t).view.emb)
    (fun y => ⟨congrArg (· * 512 + 1 * (y 0).val) (congrFun e 0), congrArg (· * 512 + 1 * (y 1).val) (congrFun e 1)⟩) r k _)

theorem rows2 (t : Fin grid0.N) (n : Fin 8) (e : cc0_transform_2 (grid0.coords t) = ![n.val, 0]) (r : Fin 512) (k : Fin 1024) :
    iblk m c 2 t (ix2 r k : S512x1024.Idx) =
      m ((c : Thread nD τ).loc main_arg2) (ix2 ⟨n.val * 512 + r.val, by omega⟩ k : S4096x1024.Idx) :=
  congrArg (V m c main_arg2) (at_row (e := ((cfg0.win 2).blk t).view.emb)
    (fun y => ⟨congrArg (· * 512 + 1 * (y 0).val) (congrFun e 0), congrArg (· * 1024 + 1 * (y 1).val) (congrFun e 1)⟩) r k _)

theorem rows3 (t : Fin grid0.N) (n : Fin 8) (e : cc0_transform_3 (grid0.coords t) = ![n.val, 0]) (r : Fin 512) (k : Fin 1024) :
    iblk m c 3 t (ix2 r k : S512x1024.Idx) =
      m ((c : Thread nD τ).loc main_arg3) (ix2 ⟨n.val * 512 + r.val, by omega⟩ k : S4096x1024.Idx) :=
  congrArg (V m c main_arg3) (at_row (e := ((cfg0.win 3).blk t).view.emb)
    (fun y => ⟨congrArg (· * 512 + 1 * (y 0).val) (congrFun e 0), congrArg (· * 1024 + 1 * (y 1).val) (congrFun e 1)⟩) r k _)

theorem seq4 (t : Fin grid0.N) (n : Fin 8) (e : cc0_transform_4 (grid0.coords t) = ![n.val / 4, 0, 0]) (r : Fin 512) (d : Fin 1024) :
    iblk m c 4 t (ix3 0 0 d : S1x1x1024.Idx) =
      m ((c : Thread nD τ).loc main_arg7) (ix3 ⟨(n.val * 512 + r.val) / 2048, by omega⟩ 0 d : S2x1x1024.Idx) :=
  congrArg (V m c main_arg7) (vec_at (e := ((cfg0.win 4).blk t).view.emb) (fun y => ⟨congrArg (· * 1 + 1 * (y 0).val) (congrFun e 0),
    congrArg (· * 1 + 1 * (y 1).val) (congrFun e 1), congrArg (· * 1024 + 1 * (y 2).val) (congrFun e 2)⟩) r d)

theorem seq5 (t : Fin grid0.N) (n : Fin 8) (e : cc0_transform_5 (grid0.coords t) = ![n.val / 4, 0, 0]) (r : Fin 512) (d : Fin 1024) :
    iblk m c 5 t (ix3 0 0 d : S1x1x1024.Idx) =
      m ((c : Thread nD τ).loc main_arg8) (ix3 ⟨(n.val * 512 + r.val) / 2048, by omega⟩ 0 d : S2x1x1024.Idx) :=
  congrArg (V m c main_arg8) (vec_at (e := ((cfg0.win 5).blk t).view.emb) (fun y => ⟨congrArg (· * 1 + 1 * (y 0).val) (congrFun e 0),
    congrArg (· * 1 + 1 * (y 1).val) (congrFun e 1), congrArg (· * 1024 + 1 * (y 2).val) (congrFun e 2)⟩) r d)

theorem seq6 (t : Fin grid0.N) (n : Fin 8) (e : cc0_transform_6 (grid0.coords t) = ![n.val / 4, 0, 0]) (r : Fin 512) (d : Fin 1024) :
    iblk m c 6 t (ix3 0 0 d : S1x1x1024.Idx) =
      m ((c : Thread nD τ).loc main_arg9) (ix3 ⟨(n.val * 512 + r.val) / 2048, by omega⟩ 0 d : S2x1x1024.Idx) :=
  congrArg (V m c main_arg9) (vec_at (e := ((cfg0.win 6).blk t).view.emb) (fun y => ⟨congrArg (· * 1 + 1 * (y 0).val) (congrFun e 0),
    congrArg (· * 1 + 1 * (y 1).val) (congrFun e 1), congrArg (· * 1024 + 1 * (y 2).val) (congrFun e 2)⟩) r d)

theorem whole7 (t : Fin grid0.N) : iblk m c 7 t = m ((c : Thread nD τ).loc main_arg10) :=
  funext fun y => congrArg (V m c main_arg10) (at_all (M := 1) (N := 1024) (e := ((cfg0.win 7).blk t).view.emb) (fun _ => ⟨rfl, rfl⟩) y)

theorem whole8 (t : Fin grid0.N) : iblk m c 8 t = m ((c : Thread nD τ).loc main_arg4) :=
  funext fun y => congrArg (V m c main_arg4) (at_all (M := 1024) (N := 512) (e := ((cfg0.win 8).blk t).view.emb) (fun _ => ⟨rfl, rfl⟩) y)

theorem whole9 (t : Fin grid0.N) : iblk m c 9 t = m ((c : Thread nD τ).loc main_arg5) :=
  funext fun y => congrArg (V m c main_arg5) (at_all (M := 1024) (N := 1024) (e := ((cfg0.win 9).blk t).view.emb) (fun _ => ⟨rfl, rfl⟩) y)

theorem whole10 (t : Fin grid0.N) : iblk m c 10 t = m ((c : Thread nD τ).loc main_arg6) :=
  funext fun y => congrArg (V m c main_arg6) (at_all (M := 1024) (N := 1024) (e := ((cfg0.win 10).blk t).view.emb) (fun _ => ⟨rfl, rfl⟩) y)

theorem equal11 : (dats m 0 c).arrAt 11 cfg0.N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ext_rows _ _ fun n => ?_
  obtain ⟨t, e0, e1, e2, e3, e4, e5, e6, e, -⟩ := point n
  refine ⟨((cfg0.win 11).blk t).view.emb, fun y => ⟨congrArg (· * 512 + 1 * (y 0).val) (congrFun e 0), congrArg (· * 1024 + 1 * (y 1).val) (congrFun e 1)⟩,
    fun r d => (congrFun ((Cert.Kernel23Ideal.Value.blocks11 m c t (flush0_11 t)).trans
      (Cert.Kernel23Ideal.Value.flushed11 m c t)) (ix2 r d : S512x1024.Idx)).trans ((out11 _ _ _ _ _ _ _ _ _ _ _ r d).trans ?_)⟩
  simp only [next, leaves, merged, branch, sgm, rows0 m c t n e0, rows1 m c t n e1, rows2 m c t n e2, whole8 m c t, whole9 m c t, rows3 m c t n e3, whole10 m c t, seq4 m c t n e4 r]
  symm
  pointwise [val_main_v27, val_main_v26, val_main_v22, val_main_v25, val_main_v24, val_main_v23, val_main_v21, val_main_v20, val_main_v5, val_main_v18, val_main_v19, val_main_v16, val_main_v7, val_main_v17, val_main_v9, val_main_v15, val_main_v1, val_main_v6, val_main_v2, val_main_v8, val_main_v14, val_main_v13, val_main_v3, val_main_v4, val_main_cst_0, val_main_v12, val_main_v11, val_main_cst, val_main_v10, val_main_v0]
  simp only [Nat.div_add_mod']

theorem equal12 : (dats m 0 c).arrAt 12 cfg0.N = val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine ext_rows _ _ fun n => ?_
  obtain ⟨t, e0, e1, e2, e3, e4, e5, e6, -, e, -⟩ := point n
  refine ⟨((cfg0.win 12).blk t).view.emb, fun y => ⟨congrArg (· * 512 + 1 * (y 0).val) (congrFun e 0), congrArg (· * 1024 + 1 * (y 1).val) (congrFun e 1)⟩,
    fun r d => (congrFun ((Cert.Kernel23Ideal.Value.blocks12 m c t (flush0_12 t)).trans
      (Cert.Kernel23Ideal.Value.flushed12 m c t)) (ix2 r d : S512x1024.Idx)).trans ((out12 _ _ _ _ _ _ _ _ _ _ _ r d).trans ?_)⟩
  simp only [leaves, merged, branch, sgm, rows0 m c t n e0, rows1 m c t n e1, rows2 m c t n e2, whole8 m c t, whole9 m c t, whole10 m c t]
  symm
  pointwise [val_main_v48, val_main_v21, val_main_v20, val_main_v5, val_main_v18, val_main_v19, val_main_v16, val_main_v7, val_main_v17, val_main_v9, val_main_v15, val_main_v1, val_main_v6, val_main_v2, val_main_v8, val_main_v14, val_main_v13, val_main_v3, val_main_v4, val_main_cst_0, val_main_v12, val_main_v11, val_main_cst, val_main_v10, val_main_v0]

theorem equal13 : (dats m 0 c).arrAt 13 cfg0.N = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ext_rows _ _ fun n => ?_
  obtain ⟨t, e0, e1, e2, e3, e4, e5, e6, -, -, e, -⟩ := point n
  refine ⟨((cfg0.win 13).blk t).view.emb, fun y => ⟨congrArg (· * 512 + 1 * (y 0).val) (congrFun e 0), congrArg (· * 1024 + 1 * (y 1).val) (congrFun e 1)⟩,
    fun r d => (congrFun ((Cert.Kernel23Ideal.Value.blocks13 m c t (flush0_13 t)).trans
      (Cert.Kernel23Ideal.Value.flushed13 m c t)) (ix2 r d : S512x1024.Idx)).trans ((out13 _ _ _ _ _ _ _ _ _ _ _ r d).trans ?_)⟩
  simp only [normed, next, leaves, merged, branch, sgm, rows0 m c t n e0, rows1 m c t n e1, rows2 m c t n e2, whole8 m c t, whole9 m c t, rows3 m c t n e3, whole10 m c t, whole7 m c t, seq4 m c t n e4 r, seq5 m c t n e5 r, seq6 m c t n e6 r]
  symm
  pointwise [val_main_v50, val_main_v49, val_main_v47, val_main_v45, val_main_v46, val_main_v41, val_main_v44, val_main_v38, val_main_v40, val_main_v43, val_main_v28, val_main_v37, val_main_v39, val_main_v42, val_main_v27, val_main_v36, val_main_cst_4, val_main_v26, val_main_v35, val_main_v22, val_main_v25, val_main_v33, val_main_v34, val_main_v24, val_main_v23, val_main_v31, val_main_v32, val_main_cst_3, val_main_v21, val_main_v30, val_main_cst_2, val_main_v20, val_main_v5, val_main_v29, val_main_cst_1, val_main_v18, val_main_v19, val_main_v16, val_main_v7, val_main_v17, val_main_v9, val_main_v15, val_main_v1, val_main_v6, val_main_v2, val_main_v8, val_main_v14, val_main_v13, val_main_v3, val_main_v4, val_main_cst_0, val_main_v12, val_main_v11, val_main_cst, val_main_v10, val_main_v0]
  simp only [Nat.div_add_mod']

theorem equal14 : (dats m 0 c).arrAt 14 cfg0.N = val_main_v51 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine ext_rows _ _ fun n => ?_
  obtain ⟨t, e0, e1, e2, e3, e4, e5, e6, -, -, -, e, -⟩ := point n
  refine ⟨((cfg0.win 14).blk t).view.emb, fun y => ⟨congrArg (· * 512 + 1 * (y 0).val) (congrFun e 0), congrArg (· * 1024 + 1 * (y 1).val) (congrFun e 1)⟩,
    fun r d => (congrFun ((Cert.Kernel23Ideal.Value.blocks14 m c t (flush0_14 t)).trans
      (Cert.Kernel23Ideal.Value.flushed14 m c t)) (ix2 r d : S512x1024.Idx)).trans ((out14 _ _ _ _ _ _ _ _ _ _ _ r d).trans ?_)⟩
  simp only [merged, branch, sgm, rows0 m c t n e0, rows1 m c t n e1, rows2 m c t n e2, whole8 m c t, whole9 m c t]
  symm
  pointwise [val_main_v51, val_main_v20, val_main_v18, val_main_v19, val_main_v16, val_main_v7, val_main_v17, val_main_v9, val_main_v15, val_main_v1, val_main_v6, val_main_v2, val_main_v8, val_main_v14, val_main_v13, val_main_v3, val_main_v4, val_main_cst_0, val_main_v12, val_main_v11, val_main_cst, val_main_v10, val_main_v0]

theorem equal15 : (dats m 0 c).arrAt 15 cfg0.N = val_main_v52 (F := Ideal) (m ((c : Thread nD τ).loc main_arg1)) (m ((c : Thread nD τ).loc main_arg4)) := by
  refine ext_rows _ _ fun n => ?_
  obtain ⟨t, e0, e1, e2, e3, e4, e5, e6, -, -, -, -, e, -⟩ := point n
  refine ⟨((cfg0.win 15).blk t).view.emb, fun y => ⟨congrArg (· * 512 + 1 * (y 0).val) (congrFun e 0), congrArg (· * 1024 + 1 * (y 1).val) (congrFun e 1)⟩,
    fun r d => (congrFun ((Cert.Kernel23Ideal.Value.blocks15 m c t (flush0_15 t)).trans
      (Cert.Kernel23Ideal.Value.flushed15 m c t)) (ix2 r d : S512x1024.Idx)).trans ((out15 _ _ _ _ _ _ _ _ _ _ _ r d).trans ?_)⟩
  simp only [branch, rows1 m c t n e1, whole8 m c t]
  symm
  pointwise [val_main_v52, val_main_v7, val_main_v1, val_main_v6, val_main_v3]

theorem equal16 : (dats m 0 c).arrAt 16 cfg0.N = val_main_v53 (F := Ideal) (m ((c : Thread nD τ).loc main_arg2)) (m ((c : Thread nD τ).loc main_arg5)) := by
  refine ext_rows _ _ fun n => ?_
  obtain ⟨t, e0, e1, e2, e3, e4, e5, e6, -, -, -, -, -, e⟩ := point n
  refine ⟨((cfg0.win 16).blk t).view.emb, fun y => ⟨congrArg (· * 512 + 1 * (y 0).val) (congrFun e 0), congrArg (· * 1024 + 1 * (y 1).val) (congrFun e 1)⟩,
    fun r d => (congrFun ((Cert.Kernel23Ideal.Value.blocks16 m c t (flush0_16 t)).trans
      (Cert.Kernel23Ideal.Value.flushed16 m c t)) (ix2 r d : S512x1024.Idx)).trans ((out16 _ _ _ _ _ _ _ _ _ _ _ r d).trans ?_)⟩
  simp only [branch, rows2 m c t n e2, whole9 m c t]
  symm
  pointwise [val_main_v53, val_main_v9, val_main_v2, val_main_v8, val_main_v4]

end Cert.Proof.MixOut

end
-- ==== Proof.Same.lean ====
/- The first feed-forward block's calls that are the second's but for their names: the bodies agree label by label, so what
   is proved of the one holds of the other. -/
module

public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Kernel13
public import proofs.«01_k».proof.Proof.Gen.Kernel13Ideal
public import proofs.«01_k».proof.Proof.Gen.Reference13Ideal
public import proofs.«01_k».proof.Proof.Gen.Kernel3
public import proofs.«01_k».proof.Proof.Gen.Kernel3Ideal
public import proofs.«01_k».proof.Proof.Gen.Reference3Ideal
public import proofs.«01_k».proof.Proof.Gen.Kernel14
public import proofs.«01_k».proof.Proof.Gen.Kernel14Ideal
public import proofs.«01_k».proof.Proof.Gen.Reference14Ideal
public import proofs.«01_k».proof.Proof.Gen.Kernel2
public import proofs.«01_k».proof.Proof.Gen.Kernel2Ideal
public import proofs.«01_k».proof.Proof.Gen.Reference2Ideal
public import proofs.«01_k».proof.Proof.Gen.Kernel15
public import proofs.«01_k».proof.Proof.Gen.Kernel15Ideal
public import proofs.«01_k».proof.Proof.Gen.Reference15Ideal

@[expose] public section

namespace Cert.Proof.Same

open Idealize.ShloMosaic Idealize.SL.Sem

attribute [local instance] Kernel7.Gen.facts Kernel7Ideal.Gen.facts Reference7Ideal.Gen.facts
attribute [local instance] Kernel13.Gen.facts Kernel13Ideal.Gen.facts Reference13Ideal.Gen.facts
attribute [local instance] Kernel3.Gen.facts Kernel3Ideal.Gen.facts Reference3Ideal.Gen.facts
attribute [local instance] Kernel14.Gen.facts Kernel14Ideal.Gen.facts Reference14Ideal.Gen.facts
attribute [local instance] Kernel2.Gen.facts Kernel2Ideal.Gen.facts Reference2Ideal.Gen.facts
attribute [local instance] Kernel15.Gen.facts Kernel15Ideal.Gen.facts Reference15Ideal.Gen.facts

variable {F : FTy → Type} [FloatOps F]

theorem body13 : Kernel7.defs (F := F) = Kernel13.defs (F := F) :=
  congrArg (Pipeline.defs _) (congrArg Defs.onTc (funext fun l => by
    match l with
    | 0 => rfl))

theorem body13Ideal : Kernel7Ideal.defs (F := F) = Kernel13Ideal.defs (F := F) :=
  congrArg (Pipeline.defs _) (congrArg Defs.onTc (funext fun l => by
    match l with
    | 0 => rfl))

theorem body14 : Kernel3.defs (F := F) = Kernel14.defs (F := F) :=
  congrArg (Pipeline.defs _) (congrArg Defs.onTc (funext fun l => by
    match l with
    | 0 => rfl))

theorem body14Ideal : Kernel3Ideal.defs (F := F) = Kernel14Ideal.defs (F := F) :=
  congrArg (Pipeline.defs _) (congrArg Defs.onTc (funext fun l => by
    match l with
    | 0 => rfl))

theorem body15 : Kernel2.defs (F := F) = Kernel15.defs (F := F) :=
  congrArg (Pipeline.defs _) (congrArg Defs.onTc (funext fun l => by
    match l with
    | 0 => rfl))

theorem body15Ideal : Kernel2Ideal.defs (F := F) = Kernel15Ideal.defs (F := F) :=
  congrArg (Pipeline.defs _) (congrArg Defs.onTc (funext fun l => by
    match l with
    | 0 => rfl))

theorem frame13 (h : quiescent_Kernel7) : quiescent_Kernel13 := fun m g hm => by
  have e := h m g hm
  rw [body13] at e
  exact e

theorem frame13Ideal (h : quiescent_Kernel7Ideal) : quiescent_Kernel13Ideal := fun m g hm => by
  have e := h m g hm
  rw [body13Ideal] at e
  exact e

theorem algebraic13 (h : algebraic_Kernel7Ideal_Reference7Ideal) :
    algebraic_Kernel13Ideal_Reference13Ideal := fun m g m' g' hm hargs => by
  have e := h m g m' g' hm hargs
  rw [body13Ideal] at e
  exact e

theorem frame14 (h : quiescent_Kernel3) : quiescent_Kernel14 := fun m g hm => by
  have e := h m g hm
  rw [body14] at e
  exact e

theorem frame14Ideal (h : quiescent_Kernel3Ideal) : quiescent_Kernel14Ideal := fun m g hm => by
  have e := h m g hm
  rw [body14Ideal] at e
  exact e

theorem algebraic14 (h : algebraic_Kernel3Ideal_Reference3Ideal) :
    algebraic_Kernel14Ideal_Reference14Ideal := fun m g m' g' hm hargs => by
  have e := h m g m' g' hm hargs
  rw [body14Ideal] at e
  exact e

theorem frame15 (h : quiescent_Kernel2) : quiescent_Kernel15 := fun m g hm => by
  have e := h m g hm
  rw [body15] at e
  exact e

theorem frame15Ideal (h : quiescent_Kernel2Ideal) : quiescent_Kernel15Ideal := fun m g hm => by
  have e := h m g hm
  rw [body15Ideal] at e
  exact e

variable [Pre_finite2.Facts]

theorem algebraic15 (h : algebraic_Kernel2Ideal_Reference2Ideal_pre_finite2) :
    algebraic_Kernel15Ideal_Reference15Ideal_pre_finite2 := fun m g m' g' hm hargs => by
  have e := h m g m' g' hm hargs
  rw [body15Ideal] at e
  exact e

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Values
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Da
public import proofs.«01_k».proof.Proof.Weights
public import proofs.«01_k».proof.Proof.InAct
public import proofs.«01_k».proof.Proof.BwdNormRef
public import proofs.«01_k».proof.Proof.BwdNorm2Ref
public import proofs.«01_k».proof.Proof.Out
public import proofs.«01_k».proof.Proof.OutLossRef
public import proofs.«01_k».proof.Proof.BwdNorm3Ref
public import proofs.«01_k».proof.Proof.MixIn
public import proofs.«01_k».proof.Proof.MixBwd
public import proofs.«01_k».proof.Proof.MixOut
public import proofs.«01_k».proof.Proof.Finite
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

theorem frame_reference : Cert.quiescent_ReferenceIdeal := fun m ρ _ => (θ_run (ReferenceIdeal.defs (F := Ideal)) _ _).mono
  (fun r h => And.intro (fun c => (h c).2.2.2) (Idealize.ShloMosaic.sem_eq_zero_of_no_sems (by decide) r.2))
  (ReferenceIdeal.Value.run (F := Ideal) m ρ)

theorem algebraic : Cert.algebraic_KernelIdeal_ReferenceIdeal_pre_finite := by
  intro m ρ m' ρ' hpre hargs
  refine ⟨_, _, _, KernelIdeal.Value.run_blocks (F := Ideal) m ρ, ?_⟩
  refine (θ_run (ReferenceIdeal.defs (F := Ideal)) _ _).mono (fun r h c => ?_) (ReferenceIdeal.Value.run (F := Ideal) m' ρ')
  obtain ⟨r0, r1, r2, k⟩ := h c
  obtain ⟨a0, a1, a2, a3⟩ := hargs c
  obtain ⟨p0, p1, p2, p3⟩ := hpre c
  obtain ⟨σ, hσ⟩ := Attn.scale_real
  obtain ⟨Q, h0⟩ := Attn.real_of_finite _ p0
  obtain ⟨K, h1⟩ := Attn.real_of_finite _ p1
  obtain ⟨X, h2⟩ := Attn.real_of_finite _ p2
  obtain ⟨D, h3⟩ := Attn.real_of_finite _ p3
  refine ⟨r0.trans ?_, r1.trans ?_, r2.trans ?_, k⟩
  · rw [ReferenceIdeal.Read.val_main_v87_eq, a0, a1, a2, a3]
    exact (Attn.equal_dq m c hσ h0 h1 h2 h3).symm
  · rw [ReferenceIdeal.Read.val_main_v86_eq, a0, a1, a2, a3]
    exact (Attn.equal_dk m c hσ h0 h1 h2 h3).symm
  · rw [ReferenceIdeal.Read.val_main_v85_eq, a0, a1, a3]
    exact (Attn.equal_dv m c hσ h0 h1 h2 h3).symm

instance facts_finite2 : Cert.Pre_finite2.Facts where
  bitsLt_bf16_f32 := by decide
  bcast_S_S4096x2816 := by decide
  bcast_S_S4096x1024 := by decide
  bcast_S_S2816x1024 := by decide

instance facts_finite8 : Cert.Pre_finite8.Facts where
  bitsLt_bf16_f32 := by decide
  bcast_S_S4096x5632 := by decide
  bcast_S_S5632x1024 := by decide
  bcast_S_S4096x1024 := by decide
  bcast_S_S2x1x1024 := by decide
  bcast_S_S1x1024 := by decide

instance facts_finite9 : Cert.Pre_finite9.Facts where
  bitsLt_bf16_f32 := by decide
  bcast_S_S4096x5632 := by decide
  bcast_S_S5632x1024 := by decide
  bcast_S_S4096x1024 := by decide
  bcast_S_S2x1x1024 := by decide
  bcast_S_S1x1024 := by decide

instance facts_finite12 : Cert.Pre_finite12.Facts where
  bitsLt_bf16_f32 := by decide
  bcast_S_S4096x768 := by decide
  bcast_S_S768x1024 := by decide
  bcast_S_S4096x512 := by decide
  bcast_S_S512x1024 := by decide
  bcast_S_S4096x2048 := by decide
  bcast_S_S2048x1024 := by decide
  bcast_S_S4096x1024 := by decide
  bcast_S_S2x1x1024 := by decide
  bcast_S_S1x1024 := by decide

theorem frame_reference2 : Cert.quiescent_Reference2Ideal := fun m ρ _ => (θ_run (Reference2Ideal.defs (F := Ideal)) _ _).mono
  (fun r h => And.intro (fun c => (h c).2) (Idealize.ShloMosaic.sem_eq_zero_of_no_sems (by decide) r.2))
  (Reference2Ideal.Value.run (F := Ideal) m ρ)

theorem algebraic2 : Cert.algebraic_Kernel2Ideal_Reference2Ideal_pre_finite2 := by
  intro m ρ m' ρ' hpre hargs
  refine ⟨_, Kernel2Ideal.Value.run_blocks (F := Ideal) m ρ, ?_⟩
  refine (θ_run (Reference2Ideal.defs (F := Ideal)) _ _).mono (fun r h c => ?_) (Reference2Ideal.Value.run (F := Ideal) m' ρ')
  obtain ⟨r0, k⟩ := h c
  obtain ⟨a0, a1, a2, a3⟩ := hargs c
  obtain ⟨p0, p1, p2⟩ := hpre c
  refine ⟨r0.trans ?_, k⟩
  · refine (Reference2Ideal.Read.val_main_v15_eq m' c).trans ?_
    rw [a0, a1, a2, a3]
    exact (Da.equal m c (real_of_test _ _ _ p0) (real_of_test _ _ _ p1) (real_of_test _ _ _ p2)).symm

theorem frame_reference3 : Cert.quiescent_Reference3Ideal := fun m ρ _ => (θ_run (Reference3Ideal.defs (F := Ideal)) _ _).mono
  (fun r h => And.intro (fun c => (h c).2) (Idealize.ShloMosaic.sem_eq_zero_of_no_sems (by decide) r.2))
  (Reference3Ideal.Value.run (F := Ideal) m ρ)

theorem algebraic3 : Cert.algebraic_Kernel3Ideal_Reference3Ideal := by
  intro m ρ m' ρ' _ hargs
  refine ⟨_, Kernel3Ideal.Value.run_blocks (F := Ideal) m ρ, ?_⟩
  refine (θ_run (Reference3Ideal.defs (F := Ideal)) _ _).mono (fun r h c => ?_) (Reference3Ideal.Value.run (F := Ideal) m' ρ')
  obtain ⟨r0, k⟩ := h c
  obtain ⟨a0, a1, a2⟩ := hargs c
  refine ⟨r0.trans ?_, k⟩
  · refine (Reference3Ideal.Read.val_main_v12_eq _ _ _).trans ?_
    rw [a0, a1, a2]
    exact (Weights.equal3 m c).symm

theorem frame_reference4 : Cert.quiescent_Reference4Ideal := fun m ρ _ => (θ_run (Reference4Ideal.defs (F := Ideal)) _ _).mono
  (fun r h => And.intro (fun c => (h c).2) (Idealize.ShloMosaic.sem_eq_zero_of_no_sems (by decide) r.2))
  (Reference4Ideal.Value.run (F := Ideal) m ρ)

theorem algebraic4 : Cert.algebraic_Kernel4Ideal_Reference4Ideal := by
  intro m ρ m' ρ' _ hargs
  refine ⟨_, Kernel4Ideal.Value.run_blocks (F := Ideal) m ρ, ?_⟩
  refine (θ_run (Reference4Ideal.defs (F := Ideal)) _ _).mono (fun r h c => ?_) (Reference4Ideal.Value.run (F := Ideal) m' ρ')
  obtain ⟨r0, k⟩ := h c
  obtain ⟨a0, a1⟩ := hargs c
  refine ⟨r0.trans ?_, k⟩
  · refine (Reference4Ideal.Read.val_main_v8_eq _ _).trans ?_
    rw [a0, a1]
    exact (Weights.equal4 m c).symm

theorem frame_reference5 : Cert.quiescent_Reference5Ideal := fun m ρ _ => (θ_run (Reference5Ideal.defs (F := Ideal)) _ _).mono
  (fun r h => And.intro (fun c => (h c).2) (Idealize.ShloMosaic.sem_eq_zero_of_no_sems (by decide) r.2))
  (Reference5Ideal.Value.run (F := Ideal) m ρ)

theorem algebraic5 : Cert.algebraic_Kernel5Ideal_Reference5Ideal := by
  intro m ρ m' ρ' _ hargs
  refine ⟨_, Kernel5Ideal.Value.run_blocks (F := Ideal) m ρ, ?_⟩
  refine (θ_run (Reference5Ideal.defs (F := Ideal)) _ _).mono (fun r h c => ?_) (Reference5Ideal.Value.run (F := Ideal) m' ρ')
  obtain ⟨r0, k⟩ := h c
  obtain ⟨a0, a1⟩ := hargs c
  refine ⟨r0.trans ?_, k⟩
  · refine (Reference5Ideal.Read.val_main_v9_eq _ _).trans ?_
    rw [a0, a1]
    exact (Weights.equal5 m c).symm

theorem frame_reference6 : Cert.quiescent_Reference6Ideal := fun m ρ _ => (θ_run (Reference6Ideal.defs (F := Ideal)) _ _).mono
  (fun r h => And.intro (fun c => (h c).2) (Idealize.ShloMosaic.sem_eq_zero_of_no_sems (by decide) r.2))
  (Reference6Ideal.Value.run (F := Ideal) m ρ)

theorem algebraic6 : Cert.algebraic_Kernel6Ideal_Reference6Ideal := by
  intro m ρ m' ρ' _ hargs
  refine ⟨_, Kernel6Ideal.Value.run_blocks (F := Ideal) m ρ, ?_⟩
  refine (θ_run (Reference6Ideal.defs (F := Ideal)) _ _).mono (fun r h c => ?_) (Reference6Ideal.Value.run (F := Ideal) m' ρ')
  obtain ⟨r0, k⟩ := h c
  obtain ⟨a0, a1, a2⟩ := hargs c
  refine ⟨r0.trans ?_, k⟩
  · refine (Reference6Ideal.Read.val_main_v9_eq _ _).trans ?_
    rw [a0, a1]
    exact (Weights.equal6 m c).symm

theorem frame_reference7 : Cert.quiescent_Reference7Ideal := fun m ρ _ => (θ_run (Reference7Ideal.defs (F := Ideal)) _ _).mono
  (fun r h => And.intro (fun c => (h c).2.2.2) (Idealize.ShloMosaic.sem_eq_zero_of_no_sems (by decide) r.2))
  (Reference7Ideal.Value.run (F := Ideal) m ρ)

theorem algebraic7 : Cert.algebraic_Kernel7Ideal_Reference7Ideal := by
  intro m ρ m' ρ' _ hargs
  refine ⟨_, _, _, Kernel7Ideal.Value.run_blocks (F := Ideal) m ρ, ?_⟩
  refine (θ_run (Reference7Ideal.defs (F := Ideal)) _ _).mono (fun r h c => ?_) (Reference7Ideal.Value.run (F := Ideal) m' ρ')
  obtain ⟨r0, r1, r2, k⟩ := h c
  obtain ⟨a0, a1⟩ := hargs c
  refine ⟨r0.trans ?_, r1.trans ?_, r2.trans ?_, k⟩
  · refine (Reference7Ideal.Read.val_main_v6_eq _ _).trans ?_
    rw [a0, a1]
    exact (InAct.equal_g m c).symm
  · refine (Reference7Ideal.Read.val_main_v7_eq _ _).trans ?_
    rw [a0, a1]
    exact (InAct.equal_u m c).symm
  · refine (Reference7Ideal.Read.val_main_v10_eq _ _).trans ?_
    rw [a0, a1]
    exact (InAct.equal_a m c).symm

theorem frame_reference8 : Cert.quiescent_Reference8Ideal := fun m ρ _ => (θ_run (Reference8Ideal.defs (F := Ideal)) _ _).mono
  (fun r h => And.intro (fun c => (h c).2.2.2.2) (Idealize.ShloMosaic.sem_eq_zero_of_no_sems (by decide) r.2))
  (Reference8Ideal.Value.run (F := Ideal) m ρ)

set_option maxHeartbeats 1000000 in
theorem algebraic8 : Cert.algebraic_Kernel8Ideal_Reference8Ideal_pre_finite8 := by
  intro m ρ m' ρ' hpre hargs
  refine ⟨_, _, _, _, Kernel8Ideal.Value.run_blocks (F := Ideal) m ρ, ?_⟩
  refine (θ_run (Reference8Ideal.defs (F := Ideal)) _ _).mono (fun r h c => ?_) (Reference8Ideal.Value.run (F := Ideal) m' ρ')
  obtain ⟨r0, r1, r2, r3, k⟩ := h c
  obtain ⟨a0, a1, a2, a3, a4, a5⟩ := hargs c
  obtain ⟨p0, p1, p2, p3, p4⟩ := hpre c
  refine ⟨r0.trans ?_, r1.trans ?_, r2.trans ?_, r3.trans ?_, k⟩
  · refine (Reference8Ideal.Read.val_main_v60_eq m' c).trans ?_
    rw [a0, a1, a2, a3, a4, a5]
    exact (BwdNorm.equal_dx m c (real_of_test _ _ _ p0) (real_of_test _ _ _ p1) (real_of_test' _ _ p2) (real_of_test' _ _ p3) (real_of_test' _ _ p4)).symm
  · refine (Reference8Ideal.Read.val_main_v32_eq _ _).trans ?_
    rw [a0, a1]
    exact (BwdNorm.equal_sh m c).symm
  · refine (Reference8Ideal.Read.val_main_v35_eq _ _ _ _).trans ?_
    rw [a0, a1, a2, a5]
    exact (BwdNorm.equal_sc m c).symm
  · refine (Reference8Ideal.Read.val_main_v44_eq _ _ _ _).trans ?_
    rw [a0, a1, a2, a4]
    exact (BwdNorm.equal_g m c).symm

theorem frame_reference9 : Cert.quiescent_Reference9Ideal := fun m ρ _ => (θ_run (Reference9Ideal.defs (F := Ideal)) _ _).mono
  (fun r h => And.intro (fun c => (h c).2.2.2.2.2.2) (Idealize.ShloMosaic.sem_eq_zero_of_no_sems (by decide) r.2))
  (Reference9Ideal.Value.run (F := Ideal) m ρ)

set_option maxHeartbeats 1000000 in
theorem algebraic9 : Cert.algebraic_Kernel9Ideal_Reference9Ideal_pre_finite9 := by
  intro m ρ m' ρ' hpre hargs
  refine ⟨_, _, _, _, _, _, Kernel9Ideal.Value.run_blocks (F := Ideal) m ρ, ?_⟩
  refine (θ_run (Reference9Ideal.defs (F := Ideal)) _ _).mono (fun r h c => ?_) (Reference9Ideal.Value.run (F := Ideal) m' ρ')
  obtain ⟨r0, r1, r2, r3, r4, r5, k⟩ := h c
  obtain ⟨a0, a1, a2, a3, a4, a5, a6, a7⟩ := hargs c
  obtain ⟨p0, p1, p2, p3, p4, p5, p6⟩ := hpre c
  refine ⟨r0.trans ?_, r1.trans ?_, r2.trans ?_, r3.trans ?_, r4.trans ?_, r5.trans ?_, k⟩
  · refine (Reference9Ideal.Read.val_main_v75_eq m' c).trans ?_
    rw [a0, a1, a2, a3, a4, a5, a6, a7]
    exact (BwdNorm2.equal_dx m c (real_of_test _ _ _ p0) (real_of_test _ _ _ p1) (real_of_test' _ _ p2) (real_of_test _ _ _ p3) (real_of_test' _ _ p4) (real_of_test' _ _ p5) (real_of_test' _ _ p6)).symm
  · refine (Reference9Ideal.Read.val_main_v76_eq m' c).trans ?_
    rw [a0, a1, a2, a3, a4, a5, a6, a7]
    exact (BwdNorm2.equal_do m c (real_of_test _ _ _ p0) (real_of_test _ _ _ p1) (real_of_test' _ _ p2) (real_of_test _ _ _ p3) (real_of_test' _ _ p4) (real_of_test' _ _ p5) (real_of_test' _ _ p6)).symm
  · refine (Reference9Ideal.Read.val_main_v39_eq _ _).trans ?_
    rw [a0, a1]
    exact (BwdNorm2.equal_sh m c).symm
  · refine (Reference9Ideal.Read.val_main_v42_eq _ _ _ _ _ _).trans ?_
    rw [a0, a1, a2, a4, a6, a7]
    exact (BwdNorm2.equal_sc m c).symm
  · refine (Reference9Ideal.Read.val_main_v73_eq m' c).trans ?_
    rw [a0, a1, a2, a3, a4, a5, a6, a7]
    exact (BwdNorm2.equal_gate m c (real_of_test _ _ _ p0) (real_of_test _ _ _ p1) (real_of_test' _ _ p2) (real_of_test _ _ _ p3) (real_of_test' _ _ p4) (real_of_test' _ _ p5) (real_of_test' _ _ p6)).symm
  · refine (Reference9Ideal.Read.val_main_v51_eq _ _ _ _ _ _).trans ?_
    rw [a0, a1, a2, a4, a5, a6]
    exact (BwdNorm2.equal_g m c).symm

theorem frame_reference10 : Cert.quiescent_Reference10Ideal := fun m ρ _ => (θ_run (Reference10Ideal.defs (F := Ideal)) _ _).mono
  (fun r h => And.intro (fun c => (h c).2.2.2) (Idealize.ShloMosaic.sem_eq_zero_of_no_sems (by decide) r.2))
  (Reference10Ideal.Value.run (F := Ideal) m ρ)

theorem algebraic10 : Cert.algebraic_Kernel10Ideal_Reference10Ideal := by
  intro m ρ m' ρ' _ hargs
  refine ⟨_, _, _, Kernel10Ideal.Value.run_blocks (F := Ideal) m ρ, ?_⟩
  refine (θ_run (Reference10Ideal.defs (F := Ideal)) _ _).mono (fun r h c => ?_) (Reference10Ideal.Value.run (F := Ideal) m' ρ')
  obtain ⟨r0, r1, r2, k⟩ := h c
  obtain ⟨a0, a1, a2, a3, a4, a5, a6⟩ := hargs c
  refine ⟨r0.trans ?_, r1.trans ?_, r2.trans ?_, k⟩
  · refine (Reference10Ideal.Read.val_main_v8_eq _ _ _ _).trans ?_
    rw [a0, a1, a2, a3]
    exact (Out.equal_x m c).symm
  · refine (Reference10Ideal.Read.val_main_v29_eq _ _).trans ?_
    rw [a0, a1]
    exact (Out.equal_o m c).symm
  · refine (Reference10Ideal.Read.val_main_v31_eq _ _ _ _ _ _ _).trans ?_
    rw [a0, a1, a2, a3, a4, a5, a6]
    exact (Out.equal_h m c).symm

theorem frame_reference11 : Cert.quiescent_Reference11Ideal := fun m ρ _ => (θ_run (Reference11Ideal.defs (F := Ideal)) _ _).mono
  (fun r h => And.intro (fun c => (h c).2.2.2.2) (Idealize.ShloMosaic.sem_eq_zero_of_no_sems (by decide) r.2))
  (Reference11Ideal.Value.run (F := Ideal) m ρ)

theorem algebraic11 : Cert.algebraic_Kernel11Ideal_Reference11Ideal := by
  intro m ρ m' ρ' _ hargs
  refine ⟨_, _, _, _, Kernel11Ideal.Value.run_blocks (F := Ideal) m ρ, ?_⟩
  refine (θ_run (Reference11Ideal.defs (F := Ideal)) _ _).mono (fun r h c => ?_) (Reference11Ideal.Value.run (F := Ideal) m' ρ')
  obtain ⟨r0, r1, r2, r3, k⟩ := h c
  obtain ⟨a0, a1, a2, a3, a4⟩ := hargs c
  refine ⟨r0.trans ?_, r1.trans ?_, r2.trans ?_, r3.trans ?_, k⟩
  · refine (Reference11Ideal.Read.val_main_v31_eq _ _ _ _ _).trans ?_
    rw [a0, a1, a2, a3, a4]
    exact (OutLoss.equal_dy m c).symm
  · refine (Reference11Ideal.Read.val_main_v32_eq _ _ _ _ _).trans ?_
    rw [a0, a1, a2, a3, a4]
    exact (OutLoss.equal_do m c).symm
  · refine (Reference11Ideal.Read.val_main_v29_eq _ _ _ _ _).trans ?_
    rw [a0, a1, a2, a3, a4]
    exact (OutLoss.equal_gate m c).symm
  · refine (Reference11Ideal.Read.val_main_v42_eq _ _ _ _ _).trans ?_
    rw [a0, a1, a2, a3, a4]
    exact (OutLoss.equal_sq m c).symm

theorem frame_reference12 : Cert.quiescent_Reference12Ideal := fun m ρ _ => (θ_run (Reference12Ideal.defs (F := Ideal)) _ _).mono
  (fun r h => And.intro (fun c => (h c).2.2.2.2.2.2) (Idealize.ShloMosaic.sem_eq_zero_of_no_sems (by decide) r.2))
  (Reference12Ideal.Value.run (F := Ideal) m ρ)

set_option maxHeartbeats 1000000 in
theorem algebraic12 : Cert.algebraic_Kernel12Ideal_Reference12Ideal_pre_finite12 := by
  intro m ρ m' ρ' hpre hargs
  refine ⟨_, _, _, _, _, _, Kernel12Ideal.Value.run_blocks (F := Ideal) m ρ, ?_⟩
  refine (θ_run (Reference12Ideal.defs (F := Ideal)) _ _).mono (fun r h c => ?_) (Reference12Ideal.Value.run (F := Ideal) m' ρ')
  obtain ⟨r0, r1, r2, r3, r4, r5, k⟩ := h c
  obtain ⟨a0, a1, a2, a3, a4, a5, a6, a7, a8, a9, a10, a11⟩ := hargs c
  obtain ⟨p0, p1, p2, p3, p4, p5, p6, p7, p8, p9, p10⟩ := hpre c
  refine ⟨r0.trans ?_, r1.trans ?_, r2.trans ?_, r3.trans ?_, r4.trans ?_, r5.trans ?_, k⟩
  · refine (Reference12Ideal.Read.val_main_v87_eq m' c).trans ?_
    rw [a0, a1, a2, a3, a4, a5, a6, a7, a8, a9, a10, a11]
    exact (BwdNorm3.equal_dx m c (real_of_test _ _ _ p0) (real_of_test _ _ _ p1) (real_of_test _ _ _ p2) (real_of_test _ _ _ p3) (real_of_test _ _ _ p4) (real_of_test _ _ _ p5) (real_of_test' _ _ p6) (real_of_test _ _ _ p7) (real_of_test' _ _ p8) (real_of_test' _ _ p9) (real_of_test' _ _ p10)).symm
  · refine (Reference12Ideal.Read.val_main_v88_eq m' c).trans ?_
    rw [a0, a1, a2, a3, a4, a5, a6, a7, a8, a9, a10, a11]
    exact (BwdNorm3.equal_do m c (real_of_test _ _ _ p0) (real_of_test _ _ _ p1) (real_of_test _ _ _ p2) (real_of_test _ _ _ p3) (real_of_test _ _ _ p4) (real_of_test _ _ _ p5) (real_of_test' _ _ p6) (real_of_test _ _ _ p7) (real_of_test' _ _ p8) (real_of_test' _ _ p9) (real_of_test' _ _ p10)).symm
  · refine (Reference12Ideal.Read.val_main_v51_eq _ _ _ _ _ _).trans ?_
    rw [a0, a1, a2, a3, a4, a5]
    exact (BwdNorm3.equal_sh m c).symm
  · refine (Reference12Ideal.Read.val_main_v54_eq _ _ _ _ _ _ _ _ _ _).trans ?_
    rw [a0, a1, a2, a3, a4, a5, a6, a8, a10, a11]
    exact (BwdNorm3.equal_sc m c).symm
  · refine (Reference12Ideal.Read.val_main_v85_eq m' c).trans ?_
    rw [a0, a1, a2, a3, a4, a5, a6, a7, a8, a9, a10, a11]
    exact (BwdNorm3.equal_gate m c (real_of_test _ _ _ p0) (real_of_test _ _ _ p1) (real_of_test _ _ _ p2) (real_of_test _ _ _ p3) (real_of_test _ _ _ p4) (real_of_test _ _ _ p5) (real_of_test' _ _ p6) (real_of_test _ _ _ p7) (real_of_test' _ _ p8) (real_of_test' _ _ p9) (real_of_test' _ _ p10)).symm
  · refine (Reference12Ideal.Read.val_main_v63_eq _ _ _ _ _ _ _ _ _ _).trans ?_
    rw [a0, a1, a2, a3, a4, a5, a6, a8, a9, a10]
    exact (BwdNorm3.equal_g m c).symm

theorem frame_reference16 : Cert.quiescent_Reference16Ideal := fun m ρ _ => (θ_run (Reference16Ideal.defs (F := Ideal)) _ _).mono
  (fun r h => And.intro (fun c => (h c).2) (Idealize.ShloMosaic.sem_eq_zero_of_no_sems (by decide) r.2))
  (Reference16Ideal.Value.run (F := Ideal) m ρ)

theorem algebraic16 : Cert.algebraic_Kernel16Ideal_Reference16Ideal := by
  intro m ρ m' ρ' _ hargs
  refine ⟨_, Kernel16Ideal.Value.run_blocks (F := Ideal) m ρ, ?_⟩
  refine (θ_run (Reference16Ideal.defs (F := Ideal)) _ _).mono (fun r h c => ?_) (Reference16Ideal.Value.run (F := Ideal) m' ρ')
  obtain ⟨r0, k⟩ := h c
  obtain ⟨a0, a1⟩ := hargs c
  refine ⟨r0.trans ?_, k⟩
  · refine (Reference16Ideal.Read.val_main_v6_eq _ _).trans ?_
    rw [a0, a1]
    exact (Weights.equal16 m c).symm

theorem frame_reference17 : Cert.quiescent_Reference17Ideal := fun m ρ _ => (θ_run (Reference17Ideal.defs (F := Ideal)) _ _).mono
  (fun r h => And.intro (fun c => (h c).2) (Idealize.ShloMosaic.sem_eq_zero_of_no_sems (by decide) r.2))
  (Reference17Ideal.Value.run (F := Ideal) m ρ)

theorem algebraic17 : Cert.algebraic_Kernel17Ideal_Reference17Ideal := by
  intro m ρ m' ρ' _ hargs
  refine ⟨_, Kernel17Ideal.Value.run_blocks (F := Ideal) m ρ, ?_⟩
  refine (θ_run (Reference17Ideal.defs (F := Ideal)) _ _).mono (fun r h c => ?_) (Reference17Ideal.Value.run (F := Ideal) m' ρ')
  obtain ⟨r0, k⟩ := h c
  obtain ⟨a0, a1⟩ := hargs c
  refine ⟨r0.trans ?_, k⟩
  · refine (Reference17Ideal.Read.val_main_v8_eq _ _).trans ?_
    rw [a0, a1]
    exact (Weights.equal17 m c).symm

theorem frame_reference18 : Cert.quiescent_Reference18Ideal := fun m ρ _ => (θ_run (Reference18Ideal.defs (F := Ideal)) _ _).mono
  (fun r h => And.intro (fun c => (h c).2) (Idealize.ShloMosaic.sem_eq_zero_of_no_sems (by decide) r.2))
  (Reference18Ideal.Value.run (F := Ideal) m ρ)

theorem algebraic18 : Cert.algebraic_Kernel18Ideal_Reference18Ideal := by
  intro m ρ m' ρ' _ hargs
  refine ⟨_, Kernel18Ideal.Value.run_blocks (F := Ideal) m ρ, ?_⟩
  refine (θ_run (Reference18Ideal.defs (F := Ideal)) _ _).mono (fun r h c => ?_) (Reference18Ideal.Value.run (F := Ideal) m' ρ')
  obtain ⟨r0, k⟩ := h c
  obtain ⟨a0, a1⟩ := hargs c
  refine ⟨r0.trans ?_, k⟩
  · refine (Reference18Ideal.Read.val_main_v8_eq _ _).trans ?_
    rw [a0, a1]
    exact (Weights.equal18 m c).symm

theorem frame_reference19 : Cert.quiescent_Reference19Ideal := fun m ρ _ => (θ_run (Reference19Ideal.defs (F := Ideal)) _ _).mono
  (fun r h => And.intro (fun c => (h c).2) (Idealize.ShloMosaic.sem_eq_zero_of_no_sems (by decide) r.2))
  (Reference19Ideal.Value.run (F := Ideal) m ρ)

theorem algebraic19 : Cert.algebraic_Kernel19Ideal_Reference19Ideal := by
  intro m ρ m' ρ' _ hargs
  refine ⟨_, Kernel19Ideal.Value.run_blocks (F := Ideal) m ρ, ?_⟩
  refine (θ_run (Reference19Ideal.defs (F := Ideal)) _ _).mono (fun r h c => ?_) (Reference19Ideal.Value.run (F := Ideal) m' ρ')
  obtain ⟨r0, k⟩ := h c
  obtain ⟨a0, a1⟩ := hargs c
  refine ⟨r0.trans ?_, k⟩
  · refine (Reference19Ideal.Read.val_main_v8_eq _ _).trans ?_
    rw [a0, a1]
    exact (Weights.equal19 m c).symm

theorem frame_reference20 : Cert.quiescent_Reference20Ideal := fun m ρ _ => (θ_run (Reference20Ideal.defs (F := Ideal)) _ _).mono
  (fun r h => And.intro (fun c => (h c).2) (Idealize.ShloMosaic.sem_eq_zero_of_no_sems (by decide) r.2))
  (Reference20Ideal.Value.run (F := Ideal) m ρ)

theorem algebraic20 : Cert.algebraic_Kernel20Ideal_Reference20Ideal := by
  intro m ρ m' ρ' _ hargs
  refine ⟨_, Kernel20Ideal.Value.run_blocks (F := Ideal) m ρ, ?_⟩
  refine (θ_run (Reference20Ideal.defs (F := Ideal)) _ _).mono (fun r h c => ?_) (Reference20Ideal.Value.run (F := Ideal) m' ρ')
  obtain ⟨r0, k⟩ := h c
  obtain ⟨a0, a1⟩ := hargs c
  refine ⟨r0.trans ?_, k⟩
  · refine (Reference20Ideal.Read.val_main_v8_eq _ _).trans ?_
    rw [a0, a1]
    exact (Weights.equal20 m c).symm

theorem frame_reference21 : Cert.quiescent_Reference21Ideal := fun m ρ _ => (θ_run (Reference21Ideal.defs (F := Ideal)) _ _).mono
  (fun r h => And.intro (fun c => (h c).2.2.2.2.2) (Idealize.ShloMosaic.sem_eq_zero_of_no_sems (by decide) r.2))
  (Reference21Ideal.Value.run (F := Ideal) m ρ)

theorem algebraic21 : Cert.algebraic_Kernel21Ideal_Reference21Ideal := by
  intro m ρ m' ρ' _ hargs
  refine ⟨_, _, _, _, _, Kernel21Ideal.Value.run_blocks (F := Ideal) m ρ, ?_⟩
  refine (θ_run (Reference21Ideal.defs (F := Ideal)) _ _).mono (fun r h c => ?_) (Reference21Ideal.Value.run (F := Ideal) m' ρ')
  obtain ⟨r0, r1, r2, r3, r4, k⟩ := h c
  obtain ⟨a0, a1, a2, a3, a4, a5⟩ := hargs c
  refine ⟨r0.trans ?_, r1.trans ?_, r2.trans ?_, r3.trans ?_, r4.trans ?_, k⟩
  · refine (Reference21Ideal.Read.val_main_v3_eq _ _).trans ?_
    rw [a0, a1]
    exact (MixIn.equal6 m c).symm
  · refine (Reference21Ideal.Read.val_main_v7_eq _ _).trans ?_
    rw [a0, a2]
    exact (MixIn.equal7 m c).symm
  · refine (Reference21Ideal.Read.val_main_v14_eq _ _).trans ?_
    rw [a0, a3]
    exact (MixIn.equal8 m c).symm
  · refine (Reference21Ideal.Read.val_main_v27_eq _ _ _).trans ?_
    rw [a0, a1, a4]
    exact (MixIn.equal9 m c).symm
  · refine (Reference21Ideal.Read.val_main_v40_eq _ _ _).trans ?_
    rw [a0, a1, a5]
    exact (MixIn.equal10 m c).symm

theorem frame_reference22 : Cert.quiescent_Reference22Ideal := fun m ρ _ => (θ_run (Reference22Ideal.defs (F := Ideal)) _ _).mono
  (fun r h => And.intro (fun c => (h c).2.2.2.2.2) (Idealize.ShloMosaic.sem_eq_zero_of_no_sems (by decide) r.2))
  (Reference22Ideal.Value.run (F := Ideal) m ρ)

theorem algebraic22 : Cert.algebraic_Kernel22Ideal_Reference22Ideal := by
  intro m ρ m' ρ' _ hargs
  refine ⟨_, _, _, _, _, Kernel22Ideal.Value.run_blocks (F := Ideal) m ρ, ?_⟩
  refine (θ_run (Reference22Ideal.defs (F := Ideal)) _ _).mono (fun r h c => ?_) (Reference22Ideal.Value.run (F := Ideal) m' ρ')
  obtain ⟨r0, r1, r2, r3, r4, k⟩ := h c
  obtain ⟨a0, a1, a2, a3, a4, a5, a6⟩ := hargs c
  refine ⟨r0.trans ?_, r1.trans ?_, r2.trans ?_, r3.trans ?_, r4.trans ?_, k⟩
  · refine (Reference22Ideal.Read.val_main_v37_eq _ _ _).trans ?_
    rw [a0, a1, a6]
    exact (MixBwd.equal7 m c).symm
  · refine (Reference22Ideal.Read.val_main_v38_eq _ _ _).trans ?_
    rw [a0, a1, a6]
    exact (MixBwd.equal8 m c).symm
  · refine (Reference22Ideal.Read.val_main_v39_eq _ _ _ _ _).trans ?_
    rw [a0, a1, a2, a3, a6]
    exact (MixBwd.equal9 m c).symm
  · refine (Reference22Ideal.Read.val_main_v32_eq _ _ _ _).trans ?_
    rw [a0, a1, a4, a6]
    exact (MixBwd.equal10 m c).symm
  · refine (Reference22Ideal.Read.val_main_v40_eq _ _ _ _).trans ?_
    rw [a0, a1, a5, a6]
    exact (MixBwd.equal11 m c).symm

theorem frame_reference23 : Cert.quiescent_Reference23Ideal := fun m ρ _ => (θ_run (Reference23Ideal.defs (F := Ideal)) _ _).mono
  (fun r h => And.intro (fun c => (h c).2.2.2.2.2.2) (Idealize.ShloMosaic.sem_eq_zero_of_no_sems (by decide) r.2))
  (Reference23Ideal.Value.run (F := Ideal) m ρ)

theorem algebraic23 : Cert.algebraic_Kernel23Ideal_Reference23Ideal := by
  intro m ρ m' ρ' _ hargs
  refine ⟨_, _, _, _, _, _, Kernel23Ideal.Value.run_blocks (F := Ideal) m ρ, ?_⟩
  refine (θ_run (Reference23Ideal.defs (F := Ideal)) _ _).mono (fun r h c => ?_) (Reference23Ideal.Value.run (F := Ideal) m' ρ')
  obtain ⟨r0, r1, r2, r3, r4, r5, k⟩ := h c
  obtain ⟨a0, a1, a2, a3, a4, a5, a6, a7, a8, a9, a10⟩ := hargs c
  refine ⟨r0.trans ?_, r1.trans ?_, r2.trans ?_, r3.trans ?_, r4.trans ?_, r5.trans ?_, k⟩
  · refine (Reference23Ideal.Read.val_main_v27_eq _ _ _ _ _ _ _ _).trans ?_
    rw [a0, a1, a2, a3, a4, a5, a6, a7]
    exact (MixOut.equal11 m c).symm
  · refine (Reference23Ideal.Read.val_main_v48_eq _ _ _ _ _ _).trans ?_
    rw [a0, a1, a2, a4, a5, a6]
    exact (MixOut.equal12 m c).symm
  · refine (Reference23Ideal.Read.val_main_v50_eq m' c).trans ?_
    rw [a0, a1, a2, a3, a4, a5, a6, a7, a8, a9, a10]
    exact (MixOut.equal13 m c).symm
  · refine (Reference23Ideal.Read.val_main_v51_eq _ _ _ _ _).trans ?_
    rw [a0, a1, a2, a4, a5]
    exact (MixOut.equal14 m c).symm
  · refine (Reference23Ideal.Read.val_main_v52_eq _ _).trans ?_
    rw [a1, a4]
    exact (MixOut.equal15 m c).symm
  · refine (Reference23Ideal.Read.val_main_v53_eq _ _).trans ?_
    rw [a2, a5]
    exact (MixOut.equal16 m c).symm

theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Attn.facts_finite, facts_finite2, facts_finite8, facts_finite9, facts_finite12,
  fun m ρ _ => Kernel.Gen.frame m ρ, fun m ρ _ => KernelIdeal.Gen.frame m ρ, fun m ρ _ => KernelIdeal.Gen.frame m ρ,
  frame_reference, fun m ρ _ => frame_reference m ρ trivial,
  fun m ρ _ => Kernel2.Gen.frame m ρ, fun m ρ _ => Kernel2Ideal.Gen.frame m ρ, fun m ρ _ => Kernel2Ideal.Gen.frame m ρ, frame_reference2, fun m ρ _ => frame_reference2 m ρ trivial,
  fun m ρ _ => Kernel3.Gen.frame m ρ, fun m ρ _ => Kernel3Ideal.Gen.frame m ρ, frame_reference3,
  fun m ρ _ => Kernel4.Gen.frame m ρ, fun m ρ _ => Kernel4Ideal.Gen.frame m ρ, frame_reference4,
  fun m ρ _ => Kernel5.Gen.frame m ρ, fun m ρ _ => Kernel5Ideal.Gen.frame m ρ, frame_reference5,
  fun m ρ _ => Kernel6.Gen.frame m ρ, fun m ρ _ => Kernel6Ideal.Gen.frame m ρ, frame_reference6,
  fun m ρ _ => Kernel7.Gen.frame m ρ, fun m ρ _ => Kernel7Ideal.Gen.frame m ρ, frame_reference7,
  fun m ρ _ => Kernel8.Gen.frame m ρ, fun m ρ _ => Kernel8Ideal.Gen.frame m ρ, fun m ρ _ => Kernel8Ideal.Gen.frame m ρ, frame_reference8, fun m ρ _ => frame_reference8 m ρ trivial,
  fun m ρ _ => Kernel9.Gen.frame m ρ, fun m ρ _ => Kernel9Ideal.Gen.frame m ρ, fun m ρ _ => Kernel9Ideal.Gen.frame m ρ, frame_reference9, fun m ρ _ => frame_reference9 m ρ trivial,
  fun m ρ _ => Kernel10.Gen.frame m ρ, fun m ρ _ => Kernel10Ideal.Gen.frame m ρ, frame_reference10,
  fun m ρ _ => Kernel11.Gen.frame m ρ, fun m ρ _ => Kernel11Ideal.Gen.frame m ρ, frame_reference11,
  fun m ρ _ => Kernel12.Gen.frame m ρ, fun m ρ _ => Kernel12Ideal.Gen.frame m ρ, fun m ρ _ => Kernel12Ideal.Gen.frame m ρ, frame_reference12, fun m ρ _ => frame_reference12 m ρ trivial,
  Same.frame13 fun m ρ _ => Kernel7.Gen.frame m ρ, Same.frame13Ideal fun m ρ _ => Kernel7Ideal.Gen.frame m ρ, frame_reference7,
  Same.frame14 fun m ρ _ => Kernel3.Gen.frame m ρ, Same.frame14Ideal fun m ρ _ => Kernel3Ideal.Gen.frame m ρ, frame_reference3,
  Same.frame15 fun m ρ _ => Kernel2.Gen.frame m ρ, Same.frame15Ideal fun m ρ _ => Kernel2Ideal.Gen.frame m ρ,
  fun m ρ _ => Same.frame15Ideal (fun m ρ _ => Kernel2Ideal.Gen.frame m ρ) m ρ trivial, frame_reference2, fun m ρ _ => frame_reference2 m ρ trivial,
  fun m ρ _ => Kernel16.Gen.frame m ρ, fun m ρ _ => Kernel16Ideal.Gen.frame m ρ, frame_reference16,
  fun m ρ _ => Kernel17.Gen.frame m ρ, fun m ρ _ => Kernel17Ideal.Gen.frame m ρ, frame_reference17,
  fun m ρ _ => Kernel18.Gen.frame m ρ, fun m ρ _ => Kernel18Ideal.Gen.frame m ρ, frame_reference18,
  fun m ρ _ => Kernel19.Gen.frame m ρ, fun m ρ _ => Kernel19Ideal.Gen.frame m ρ, frame_reference19,
  fun m ρ _ => Kernel20.Gen.frame m ρ, fun m ρ _ => Kernel20Ideal.Gen.frame m ρ, frame_reference20,
  fun m ρ _ => Kernel21.Gen.frame m ρ, fun m ρ _ => Kernel21Ideal.Gen.frame m ρ, frame_reference21,
  fun m ρ _ => Kernel22.Gen.frame m ρ, fun m ρ _ => Kernel22Ideal.Gen.frame m ρ, frame_reference22,
  fun m ρ _ => Kernel23.Gen.frame m ρ, fun m ρ _ => Kernel23Ideal.Gen.frame m ρ, frame_reference23,
  IdealRules.named_const.statement _ _ _ _ _ rfl, algebraic, trivial, algebraic2, trivial, algebraic3, trivial, algebraic4, trivial, algebraic5, trivial, algebraic6, trivial, algebraic7, trivial, algebraic8, trivial, algebraic9, trivial, algebraic10, trivial, algebraic11, trivial, algebraic12, trivial, Same.algebraic13 algebraic7, trivial, Same.algebraic14 algebraic3, trivial, Same.algebraic15 algebraic2, trivial, algebraic16, trivial, algebraic17, trivial, algebraic18, trivial, algebraic19, trivial, algebraic20, trivial, algebraic21, trivial, algebraic22, trivial, algebraic23⟩

end Cert.Proof

end
